-- ==== Defs.lean ====
def Pre_Kernel [hPre_pairs_in_range : Cert.Pre_pairs_in_range.Facts] (m : (ℓ : Loc Cert.Kernel.nD Cert.Kernel.τ Cert.Kernel.sig) → Buf (Elt Bits) ℓ) : Prop :=
  ∀ c : Dev Cert.Kernel.nD,
    (Cert.Pre_pairs_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_pairs_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_pairs_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2 = (fun _ => 1#1)

def Pre_KernelIdeal [hPre_pairs_in_range : Cert.Pre_pairs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_pairs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_pairs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_pairs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pairs_in_range [hPre_pairs_in_range : Cert.Pre_pairs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pairs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_pairs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_pairs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] [hPre_pairs_in_range : Cert.Pre_pairs_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_pairs_in_range : Cert.Pre_pairs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pairs_in_range [hReferenceIdeal : Cert.ReferenceIdeal.Facts] [hPre_pairs_in_range : Cert.Pre_pairs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pairs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S1152x2x128 Cert.KernelIdeal.S1152x1x128
  ∧ IdealRules.bf16_pair.PackStatement Cert.KernelIdeal.S8x128
  ∧ IdealRules.bf16_pair.Statement Cert.KernelIdeal.S8x2x128 Cert.KernelIdeal.S8x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] [hPre_pairs_in_range : Cert.Pre_pairs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_pairs_in_range : Cert.Pre_pairs_in_range.Facts),
    quiescent_Kernel (hKernel := hKernel) (hPre_pairs_in_range := hPre_pairs_in_range)
    ∧ quiescent_KernelIdeal (hKernelIdeal := hKernelIdeal) (hPre_pairs_in_range := hPre_pairs_in_range)
    ∧ quiescent_ReferenceIdeal (hReferenceIdeal := hReferenceIdeal)
    ∧ quiescent_ReferenceIdeal_pre_pairs_in_range (hReferenceIdeal := hReferenceIdeal) (hPre_pairs_in_range := hPre_pairs_in_range)
    ∧ preserves_Kernel_KernelIdeal
    ∧ algebraic_KernelIdeal_ReferenceIdeal (hKernelIdeal := hKernelIdeal) (hReferenceIdeal := hReferenceIdeal) (hPre_pairs_in_range := hPre_pairs_in_range)
-- ==== Pre_pairs_in_range.lean ====
abbrev S1280x1024 : Shape := ⟨2, ![1280, 1024]⟩
abbrev S1280 : Shape := ⟨1, ![1280]⟩
abbrev S1280x896 : Shape := ⟨2, ![1280, 896]⟩
abbrev S34560 : Shape := ⟨1, ![34560]⟩
abbrev S28 : Shape := ⟨1, ![28]⟩
abbrev S_ : Shape := ⟨0, ![]⟩
abbrev S27 : Shape := ⟨1, ![27]⟩

class Facts : Prop where
  bcast_S_S34560 : S_.BroadcastsInDim S34560 (![] : Fin 0 → Fin S34560.rank)
  bcast_S_S28 : S_.BroadcastsInDim S28 (![] : Fin 0 → Fin S28.rank)
  slices_S28_S27_1 : S28.Slices ![1] S27
  slices_S28_S27_0 : S28.Slices ![0] S27
  bcast_S_S27 : S_.BroadcastsInDim S27 (![] : Fin 0 → Fin S27.rank)

variable [Facts]

def fn_part1 {F : FTy → Type} [FloatOps F] (main_v10 : IVec S34560 1) (main_v15 : IVec S28 1) (main_v16 : IVec S27 32) (main_v17 : IVec S27 32) : IVec S34560 1 × IVec S28 1 × IVec S27 1 :=
  let main_v18 : IVec S27 32 := subi main_v16 main_v17
  let main_c_5 : IVec S_ 32 := constantI S_ 32 1280#32
  let main_v19 : IVec S27 32 := broadcastInDim S27 ![] bcast_S_S27 main_c_5
  let main_v20 : IVec S27 1 := cmpi .sle main_v18 main_v19
  (main_v10, main_v15, main_v20)

def fn {F : FTy → Type} [FloatOps F] (main_arg0 : FVec F S1280x1024 .fp8e4m3) (main_arg1 : FVec F S1280 .f32) (main_arg2 : FVec F S1280x896 .fp8e5m2) (main_arg3 : FVec F S1280 .f32) (main_arg4 : IVec S34560 32) (main_arg5 : IVec S34560 32) (main_arg6 : IVec S28 32) : IVec S34560 1 × IVec S28 1 × IVec S27 1 :=
  let main_c : IVec S_ 32 := constantI S_ 32 0#32
  let main_v0 : IVec S34560 32 := broadcastInDim S34560 ![] bcast_S_S34560 main_c
  let main_v1 : IVec S34560 1 := cmpi .sge main_arg4 main_v0
  let main_c_0 : IVec S_ 32 := constantI S_ 32 1280#32
  let main_v2 : IVec S34560 32 := broadcastInDim S34560 ![] bcast_S_S34560 main_c_0
  let main_v3 : IVec S34560 1 := cmpi .slt main_arg4 main_v2
  let main_v4 : IVec S34560 1 := andi main_v1 main_v3
  let main_c_1 : IVec S_ 32 := constantI S_ 32 0#32
  let main_v5 : IVec S34560 32 := broadcastInDim S34560 ![] bcast_S_S34560 main_c_1
  let main_v6 : IVec S34560 1 := cmpi .sge main_arg5 main_v5
  let main_v7 : IVec S34560 1 := andi main_v4 main_v6
  let main_c_2 : IVec S_ 32 := constantI S_ 32 1280#32
  let main_v8 : IVec S34560 32 := broadcastInDim S34560 ![] bcast_S_S34560 main_c_2
  let main_v9 : IVec S34560 1 := cmpi .slt main_arg5 main_v8
  let main_v10 : IVec S34560 1 := andi main_v7 main_v9
  let main_c_3 : IVec S_ 32 := constantI S_ 32 0#32
  let main_v11 : IVec S28 32 := broadcastInDim S28 ![] bcast_S_S28 main_c_3
  let main_v12 : IVec S28 1 := cmpi .sge main_arg6 main_v11
  let main_c_4 : IVec S_ 32 := constantI S_ 32 34560#32
  let main_v13 : IVec S28 32 := broadcastInDim S28 ![] bcast_S_S28 main_c_4
  let main_v14 : IVec S28 1 := cmpi .sle main_arg6 main_v13
  let main_v15 : IVec S28 1 := andi main_v12 main_v14
  let main_v16 : IVec S27 32 := (extractStridedSlice S27 ![1] · slices_S28_S27_1) main_arg6
  let main_v17 : IVec S27 32 := (extractStridedSlice S27 ![0] · slices_S28_S27_0) main_arg6
  fn_part1 (F := F) main_v10 main_v15 main_v16 main_v17
-- ==== Kernel.lean ====
abbrev S1280x1024 : Shape := ⟨2, ![1280, 1024]⟩
abbrev S1280 : Shape := ⟨1, ![1280]⟩
abbrev S1280x896 : Shape := ⟨2, ![1280, 896]⟩
abbrev S34560 : Shape := ⟨1, ![34560]⟩
abbrev S28 : Shape := ⟨1, ![28]⟩
abbrev S10x128 : Shape := ⟨2, ![10, 128]⟩
abbrev S27x1024x896 : Shape := ⟨3, ![27, 1024, 896]⟩
abbrev S1x1024x896 : Shape := ⟨3, ![1, 1024, 896]⟩
abbrev S11520x128 : Shape := ⟨2, ![11520, 128]⟩
abbrev S8968x128 : Shape := ⟨2, ![8968, 128]⟩
abbrev S1280x128 : Shape := ⟨2, ![1280, 128]⟩
abbrev S1152x128 : Shape := ⟨2, ![1152, 128]⟩
abbrev S1x128 : Shape := ⟨2, ![1, 128]⟩
abbrev S128x128 : Shape := ⟨2, ![128, 128]⟩
abbrev S32x1024 : Shape := ⟨2, ![32, 1024]⟩
abbrev S32x128 : Shape := ⟨2, ![32, 128]⟩
abbrev S8x1 : Shape := ⟨2, ![8, 1]⟩
abbrev S8x128 : Shape := ⟨2, ![8, 128]⟩
abbrev S32x896 : Shape := ⟨2, ![32, 896]⟩
abbrev S1 : Shape := ⟨1, ![1]⟩
abbrev S16x128 : Shape := ⟨2, ![16, 128]⟩
abbrev S16x1024 : Shape := ⟨2, ![16, 1024]⟩
abbrev S256x1024 : Shape := ⟨2, ![256, 1024]⟩
abbrev S16x896 : Shape := ⟨2, ![16, 896]⟩
abbrev S256x896 : Shape := ⟨2, ![256, 896]⟩
abbrev S1024x896 : Shape := ⟨2, ![1024, 896]⟩

abbrev nBuf : Space → Nat
  | .hbm => 10
  | .vmem => 11
  | .smem => 3
  | _ => 0

abbrev bufTy : (tb : Table) → Fin (tcTables nBuf tb) → BufTy
  | .hbm, ⟨0, _⟩ => ⟨S1280x1024, .fp8e4m3⟩
  | .hbm, ⟨1, _⟩ => ⟨S1280, .f32⟩
  | .hbm, ⟨2, _⟩ => ⟨S1280x896, .fp8e5m2⟩
  | .hbm, ⟨3, _⟩ => ⟨S1280, .f32⟩
  | .hbm, ⟨4, _⟩ => ⟨S34560, .i32⟩
  | .hbm, ⟨5, _⟩ => ⟨S34560, .i32⟩
  | .hbm, ⟨6, _⟩ => ⟨S28, .i32⟩
  | .hbm, ⟨7, _⟩ => ⟨S10x128, .f32⟩
  | .hbm, ⟨8, _⟩ => ⟨S10x128, .f32⟩
  | .hbm, ⟨9, _⟩ => ⟨S27x1024x896, .f32⟩
  | .local _ .vmem, ⟨0, _⟩ => ⟨S1280x1024, .fp8e4m3⟩
  | .local _ .vmem, ⟨1, _⟩ => ⟨S10x128, .f32⟩
  | .local _ .vmem, ⟨2, _⟩ => ⟨S1280x896, .fp8e5m2⟩
  | .local _ .vmem, ⟨3, _⟩ => ⟨S10x128, .f32⟩
  | .local _ .vmem, ⟨4, _⟩ => ⟨S1x1024x896, .f32⟩
  | .local _ .vmem, ⟨5, _⟩ => ⟨S1x1024x896, .f32⟩
  | .local _ .vmem, ⟨6, _⟩ => ⟨S11520x128, .f32⟩
  | .local _ .vmem, ⟨7, _⟩ => ⟨S8968x128, .f32⟩
  | .local _ .vmem, ⟨8, _⟩ => ⟨S1280x128, .f32⟩
  | .local _ .vmem, ⟨9, _⟩ => ⟨S1152x128, .i32⟩
  | .local _ .vmem, ⟨10, _⟩ => ⟨S1152x128, .i32⟩
  | .local _ .smem, ⟨0, _⟩ => ⟨S28, .i32⟩
  | .local _ .smem, ⟨1, _⟩ => ⟨S34560, .i32⟩
  | .local _ .smem, ⟨2, _⟩ => ⟨S34560, .i32⟩
  | _, _ => ⟨S1280x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg7_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8

abbrev nD : Nat := 1
abbrev τ : Topo := Topo.v7x

variable {F : FTy → Type} [BitOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_28 : BitVec 32 := 0#32
  let c40_i32 : BitVec 32 := 40#32
  let v97 : BitVec 32 := Scalar.addi c0_i32_28 c40_i32
  let c1_i32_29 : BitVec 32 := 1#32
  ⟨c0_i32_28, v97, c1_i32_29⟩
def k0_off1 (k0_t1 : Fin k0_t1_loop.trips) : Fin 2 → Nat :=
  let c0_i32_28 : BitVec 32 := 0#32
  let c1_i32_29 : BitVec 32 := 1#32
  let arg14 : BitVec 32 := Scf.iv c0_i32_28 c1_i32_29 k0_t1
  let c32_i32 : BitVec 32 := 32#32
  let v179 : BitVec 32 := Scalar.muli arg14 c32_i32
  let v180 : Index := Scalar.indexCast v179
  let c0_75 : Index := 0#32
  ![v180.toNat, 0]
def k0_off2 (k0_t1 : Fin k0_t1_loop.trips) : Fin 2 → Nat :=
  let c0_i32_28 : BitVec 32 := 0#32
  let c1_i32_29 : BitVec 32 := 1#32
  let arg14 : BitVec 32 := Scf.iv c0_i32_28 c1_i32_29 k0_t1
  let c32_i32_76 : BitVec 32 := 32#32
  let v183 : BitVec 32 := Scalar.muli arg14 c32_i32_76
  let v184 : Index := Scalar.indexCast v183
  let c0_77 : Index := 0#32
  ![v184.toNat, 0]
def k0_off3 (k0_t1 : Fin k0_t1_loop.trips) (c0_i32_79 : BitVec 32) (c0_i32_80 : BitVec 32) : Fin 2 → Nat :=
  let c0_i32_28 : BitVec 32 := 0#32
  let c1_i32_29 : BitVec 32 := 1#32
  let arg14 : BitVec 32 := Scf.iv c0_i32_28 c1_i32_29 k0_t1
  let c32_i32_78 : BitVec 32 := 32#32
  let v191 : BitVec 32 := Scalar.muli arg14 c32_i32_78
  let v192 : BitVec 32 := Scalar.addi v191 c0_i32_79
  let c9_i32 : BitVec 32 := 9#32
  let v193 : BitVec 32 := Scalar.muli v192 c9_i32
  let v194 : BitVec 32 := Scalar.addi v193 c0_i32_80
  let v195 : Index := Scalar.indexCast v194
  let c0_81 : Index := 0#32
  ![v195.toNat, 0]
@[reducible] def k0_t2_loop : Scf.Loop 32 :=
  let c0_i32_71 : BitVec 32 := 0#32
  let c40_i32_72 : BitVec 32 := 40#32
  let v178 : BitVec 32 := Scalar.addi c0_i32_71 c40_i32_72
  let c1_i32_73 : BitVec 32 := 1#32
  ⟨c0_i32_71, v178, c1_i32_73⟩
def k0_off4 (k0_t2 : Fin k0_t2_loop.trips) : Fin 2 → Nat :=
  let c0_i32_71 : BitVec 32 := 0#32
  let c1_i32_73 : BitVec 32 := 1#32
  let arg14 : BitVec 32 := Scf.iv c0_i32_71 c1_i32_73 k0_t2
  let c32_i32 : BitVec 32 := 32#32
  let v179 : BitVec 32 := Scalar.muli arg14 c32_i32
  let v180 : Index := Scalar.indexCast v179
  let c0_75 : Index := 0#32
  ![v180.toNat, 0]
def k0_off5 (k0_t2 : Fin k0_t2_loop.trips) : Fin 2 → Nat :=
  let c0_i32_71 : BitVec 32 := 0#32
  let c1_i32_73 : BitVec 32 := 1#32
  let arg14 : BitVec 32 := Scf.iv c0_i32_71 c1_i32_73 k0_t2
  let c32_i32_76 : BitVec 32 := 32#32
  let v183 : BitVec 32 := Scalar.muli arg14 c32_i32_76
  let v184 : Index := Scalar.indexCast v183
  let c0_77 : Index := 0#32
  ![v184.toNat, 0]
def k0_off6 (k0_t2 : Fin k0_t2_loop.trips) (c0_i32_79 : BitVec 32) (c0_i32_80 : BitVec 32) : Fin 2 → Nat :=
  let c0_i32_71 : BitVec 32 := 0#32
  let c1_i32_73 : BitVec 32 := 1#32
  let arg14 : BitVec 32 := Scf.iv c0_i32_71 c1_i32_73 k0_t2
  let c32_i32_78 : BitVec 32 := 32#32
  let v191 : BitVec 32 := Scalar.muli arg14 c32_i32_78
  let v192 : BitVec 32 := Scalar.addi v191 c0_i32_79
  let c7_i32 : BitVec 32 := 7#32
  let v193 : BitVec 32 := Scalar.muli v192 c7_i32
  let v194 : BitVec 32 := Scalar.addi v193 c0_i32_80
  let v195 : Index := Scalar.indexCast v194
  let c0_81 : Index := 0#32
  ![v195.toNat, 0]
def k0_off7 (i : grid0.Coords) : Fin 1 → Nat :=
  let arg0 : BitVec 32 := BitVec.ofNat 32 (i 0).val
  let v3 : Index := Scalar.indexCast arg0
  ![v3.toNat]
def k0_off8 (i : grid0.Coords) : Fin 1 → Nat :=
  let arg0 : BitVec 32 := BitVec.ofNat 32 (i 0).val
  let c1_i32 : BitVec 32 := 1#32
  let v5 : BitVec 32 := Scalar.addi arg0 c1_i32
  let v6 : Index := Scalar.indexCast v5
  ![v6.toNat]
@[reducible] def k0_t3_loop (v4 : BitVec 32) (v7 : BitVec 32) : Scf.Loop 32 :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_5 : BitVec 32 := 1#32
  ⟨c0_i32_3, v16, c1_i32_5⟩

@[reducible] def k0_t4_loop : Scf.Loop 32 :=
  let c0_i32_9 : BitVec 32 := 0#32
  let c16_i32 : BitVec 32 := 16#32
  let v19 : BitVec 32 := Scalar.addi c0_i32_9 c16_i32
  let c1_i32_10 : BitVec 32 := 1#32
  ⟨c0_i32_9, v19, c1_i32_10⟩
def k0_off9 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32 : BitVec 32 := 2#32
  let c0_i32_9 : BitVec 32 := 0#32
  let c1_i32_10 : BitVec 32 := 1#32
  let arg15 : BitVec 32 := Scf.iv c0_i32_9 c1_i32_10 k0_t4
  let c8_i32 : BitVec 32 := 8#32
  let v550 : BitVec 32 := Scalar.muli arg15 c8_i32
  let c0_i32_370 : BitVec 32 := 0#32
  let v551 : BitVec 32 := Scalar.addi v550 c0_i32_370
  let v552 : BitVec 32 := Scalar.muli c2_i32 v551
  let v553 : BitVec 32 := Scalar.addi v18 v552
  let c34559_i32 : BitVec 32 := 34559#32
  let v554 : BitVec 32 := Scalar.minsi v553 c34559_i32
  let v559 : Index := Scalar.indexCast v554
  ![v559.toNat]
def k0_off10 (v560 : BitVec 32) : Fin 2 → Nat :=
  let c9_i32 : BitVec 32 := 9#32
  let v561 : BitVec 32 := Scalar.muli v560 c9_i32
  let v562 : Index := Scalar.indexCast v561
  let c0_374 : Index := 0#32
  ![v562.toNat, 0]

def k0_chk2 (v560 : BitVec 32) : Prop :=
  (∀ a, (k0_off10 v560) a + S8x128.size a ≤ S11520x128.size a)
theorem k0_off10_inb : ∀ (v560 : BitVec 32) (k0_hw2 : k0_chk2 v560), ∀ a, (k0_off10 v560) a + S8x128.size a ≤ S11520x128.size a := fun v560 k0_hw2 => k0_hw2

def k0_off11 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_371 : BitVec 32 := 2#32
  let c0_i32_9 : BitVec 32 := 0#32
  let c1_i32_10 : BitVec 32 := 1#32
  let arg15 : BitVec 32 := Scf.iv c0_i32_9 c1_i32_10 k0_t4
  let c8_i32 : BitVec 32 := 8#32
  let v550 : BitVec 32 := Scalar.muli arg15 c8_i32
  let c0_i32_370 : BitVec 32 := 0#32
  let v551 : BitVec 32 := Scalar.addi v550 c0_i32_370
  let v555 : BitVec 32 := Scalar.muli c2_i32_371 v551
  let v556 : BitVec 32 := Scalar.addi v18 v555
  let c1_i32_372 : BitVec 32 := 1#32
  let v557 : BitVec 32 := Scalar.addi v556 c1_i32_372
  let c34559_i32_373 : BitVec 32 := 34559#32
  let v558 : BitVec 32 := Scalar.minsi v557 c34559_i32_373
  let v564 : Index := Scalar.indexCast v558
  ![v564.toNat]
def k0_off12 (v565 : BitVec 32) : Fin 2 → Nat :=
  let c9_i32_375 : BitVec 32 := 9#32
  let v566 : BitVec 32 := Scalar.muli v565 c9_i32_375
  let v567 : Index := Scalar.indexCast v566
  let c0_376 : Index := 0#32
  ![v567.toNat, 0]

def k0_chk3 (v565 : BitVec 32) : Prop :=
  (∀ a, (k0_off12 v565) a + S8x128.size a ≤ S11520x128.size a)
theorem k0_off12_inb : ∀ (v565 : BitVec 32) (k0_hw3 : k0_chk3 v565), ∀ a, (k0_off12 v565) a + S8x128.size a ≤ S11520x128.size a := fun v565 k0_hw3 => k0_hw3

def k0_off13 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32 : BitVec 32 := 8#32
  let v550 : BitVec 32 := Scalar.muli arg15 c8_i32
  let c0_i32_370 : BitVec 32 := 0#32
  let v551 : BitVec 32 := Scalar.addi v550 c0_i32_370
  let c9_i32_377 : BitVec 32 := 9#32
  let v570 : BitVec 32 := Scalar.muli v551 c9_i32_377
  let v571 : Index := Scalar.indexCast v570
  let c0_378 : Index := 0#32
  ![v571.toNat, 0]
def k0_off14 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32 : BitVec 32 := 2#32
  let c0_i32_9 : BitVec 32 := 0#32
  let c1_i32_10 : BitVec 32 := 1#32
  let arg15 : BitVec 32 := Scf.iv c0_i32_9 c1_i32_10 k0_t4
  let c8_i32 : BitVec 32 := 8#32
  let v550 : BitVec 32 := Scalar.muli arg15 c8_i32
  let c0_i32_370 : BitVec 32 := 0#32
  let v551 : BitVec 32 := Scalar.addi v550 c0_i32_370
  let v552 : BitVec 32 := Scalar.muli c2_i32 v551
  let v553 : BitVec 32 := Scalar.addi v18 v552
  let c34559_i32 : BitVec 32 := 34559#32
  let v554 : BitVec 32 := Scalar.minsi v553 c34559_i32
  let v575 : Index := Scalar.indexCast v554
  ![v575.toNat]
def k0_off15 (v576 : BitVec 32) : Fin 2 → Nat :=
  let c7_i32 : BitVec 32 := 7#32
  let v577 : BitVec 32 := Scalar.muli v576 c7_i32
  let v578 : Index := Scalar.indexCast v577
  let c0_379 : Index := 0#32
  ![v578.toNat, 0]

def k0_chk4 (v576 : BitVec 32) : Prop :=
  (∀ a, (k0_off15 v576) a + S8x128.size a ≤ S8968x128.size a)
theorem k0_off15_inb : ∀ (v576 : BitVec 32) (k0_hw4 : k0_chk4 v576), ∀ a, (k0_off15 v576) a + S8x128.size a ≤ S8968x128.size a := fun v576 k0_hw4 => k0_hw4

def k0_off16 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_371 : BitVec 32 := 2#32
  let c0_i32_9 : BitVec 32 := 0#32
  let c1_i32_10 : BitVec 32 := 1#32
  let arg15 : BitVec 32 := Scf.iv c0_i32_9 c1_i32_10 k0_t4
  let c8_i32 : BitVec 32 := 8#32
  let v550 : BitVec 32 := Scalar.muli arg15 c8_i32
  let c0_i32_370 : BitVec 32 := 0#32
  let v551 : BitVec 32 := Scalar.addi v550 c0_i32_370
  let v555 : BitVec 32 := Scalar.muli c2_i32_371 v551
  let v556 : BitVec 32 := Scalar.addi v18 v555
  let c1_i32_372 : BitVec 32 := 1#32
  let v557 : BitVec 32 := Scalar.addi v556 c1_i32_372
  let c34559_i32_373 : BitVec 32 := 34559#32
  let v558 : BitVec 32 := Scalar.minsi v557 c34559_i32_373
  let v580 : Index := Scalar.indexCast v558
  ![v580.toNat]
def k0_off17 (v581 : BitVec 32) : Fin 2 → Nat :=
  let c7_i32_380 : BitVec 32 := 7#32
  let v582 : BitVec 32 := Scalar.muli v581 c7_i32_380
  let v583 : Index := Scalar.indexCast v582
  let c0_381 : Index := 0#32
  ![v583.toNat, 0]

def k0_chk5 (v581 : BitVec 32) : Prop :=
  (∀ a, (k0_off17 v581) a + S8x128.size a ≤ S8968x128.size a)
theorem k0_off17_inb : ∀ (v581 : BitVec 32) (k0_hw5 : k0_chk5 v581), ∀ a, (k0_off17 v581) a + S8x128.size a ≤ S8968x128.size a := fun v581 k0_hw5 => k0_hw5

def k0_off18 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32 : BitVec 32 := 8#32
  let v550 : BitVec 32 := Scalar.muli arg15 c8_i32
  let c0_i32_370 : BitVec 32 := 0#32
  let v551 : BitVec 32 := Scalar.addi v550 c0_i32_370
  let c9_i32_382 : BitVec 32 := 9#32
  let v586 : BitVec 32 := Scalar.muli v551 c9_i32_382
  let v587 : Index := Scalar.indexCast v586
  let c0_383 : Index := 0#32
  ![v587.toNat, 0]
def k0_off19 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_386 : BitVec 32 := 2#32
  let c0_i32_9 : BitVec 32 := 0#32
  let c1_i32_10 : BitVec 32 := 1#32
  let arg15 : BitVec 32 := Scf.iv c0_i32_9 c1_i32_10 k0_t4
  let c8_i32_384 : BitVec 32 := 8#32
  let v591 : BitVec 32 := Scalar.muli arg15 c8_i32_384
  let c1_i32_385 : BitVec 32 := 1#32
  let v592 : BitVec 32 := Scalar.addi v591 c1_i32_385
  let v593 : BitVec 32 := Scalar.muli c2_i32_386 v592
  let v594 : BitVec 32 := Scalar.addi v18 v593
  let c34559_i32_387 : BitVec 32 := 34559#32
  let v595 : BitVec 32 := Scalar.minsi v594 c34559_i32_387
  let v600 : Index := Scalar.indexCast v595
  ![v600.toNat]
def k0_off20 (v601 : BitVec 32) : Fin 2 → Nat :=
  let c9_i32_391 : BitVec 32 := 9#32
  let v602 : BitVec 32 := Scalar.muli v601 c9_i32_391
  let v603 : Index := Scalar.indexCast v602
  let c0_392 : Index := 0#32
  ![v603.toNat, 0]

def k0_chk6 (v601 : BitVec 32) : Prop :=
  (∀ a, (k0_off20 v601) a + S8x128.size a ≤ S11520x128.size a)
theorem k0_off20_inb : ∀ (v601 : BitVec 32) (k0_hw6 : k0_chk6 v601), ∀ a, (k0_off20 v601) a + S8x128.size a ≤ S11520x128.size a := fun v601 k0_hw6 => k0_hw6

def k0_off21 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_388 : BitVec 32 := 2#32
  let c0_i32_9 : BitVec 32 := 0#32
  let c1_i32_10 : BitVec 32 := 1#32
  let arg15 : BitVec 32 := Scf.iv c0_i32_9 c1_i32_10 k0_t4
  let c8_i32_384 : BitVec 32 := 8#32
  let v591 : BitVec 32 := Scalar.muli arg15 c8_i32_384
  let c1_i32_385 : BitVec 32 := 1#32
  let v592 : BitVec 32 := Scalar.addi v591 c1_i32_385
  let v596 : BitVec 32 := Scalar.muli c2_i32_388 v592
  let v597 : BitVec 32 := Scalar.addi v18 v596
  let c1_i32_389 : BitVec 32 := 1#32
  let v598 : BitVec 32 := Scalar.addi v597 c1_i32_389
  let c34559_i32_390 : BitVec 32 := 34559#32
  let v599 : BitVec 32 := Scalar.minsi v598 c34559_i32_390
  let v605 : Index := Scalar.indexCast v599
  ![v605.toNat]
def k0_off22 (v606 : BitVec 32) : Fin 2 → Nat :=
  let c9_i32_393 : BitVec 32 := 9#32
  let v607 : BitVec 32 := Scalar.muli v606 c9_i32_393
  let v608 : Index := Scalar.indexCast v607
  let c0_394 : Index := 0#32
  ![v608.toNat, 0]

def k0_chk7 (v606 : BitVec 32) : Prop :=
  (∀ a, (k0_off22 v606) a + S8x128.size a ≤ S11520x128.size a)
theorem k0_off22_inb : ∀ (v606 : BitVec 32) (k0_hw7 : k0_chk7 v606), ∀ a, (k0_off22 v606) a + S8x128.size a ≤ S11520x128.size a := fun v606 k0_hw7 => k0_hw7

def k0_off23 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32_384 : BitVec 32 := 8#32
  let v591 : BitVec 32 := Scalar.muli arg15 c8_i32_384
  let c1_i32_385 : BitVec 32 := 1#32
  let v592 : BitVec 32 := Scalar.addi v591 c1_i32_385
  let c9_i32_395 : BitVec 32 := 9#32
  let v611 : BitVec 32 := Scalar.muli v592 c9_i32_395
  let v612 : Index := Scalar.indexCast v611
  let c0_396 : Index := 0#32
  ![v612.toNat, 0]
def k0_off24 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_386 : BitVec 32 := 2#32
  let c0_i32_9 : BitVec 32 := 0#32
  let c1_i32_10 : BitVec 32 := 1#32
  let arg15 : BitVec 32 := Scf.iv c0_i32_9 c1_i32_10 k0_t4
  let c8_i32_384 : BitVec 32 := 8#32
  let v591 : BitVec 32 := Scalar.muli arg15 c8_i32_384
  let c1_i32_385 : BitVec 32 := 1#32
  let v592 : BitVec 32 := Scalar.addi v591 c1_i32_385
  let v593 : BitVec 32 := Scalar.muli c2_i32_386 v592
  let v594 : BitVec 32 := Scalar.addi v18 v593
  let c34559_i32_387 : BitVec 32 := 34559#32
  let v595 : BitVec 32 := Scalar.minsi v594 c34559_i32_387
  let v616 : Index := Scalar.indexCast v595
  ![v616.toNat]
def k0_off25 (v617 : BitVec 32) : Fin 2 → Nat :=
  let c7_i32_397 : BitVec 32 := 7#32
  let v618 : BitVec 32 := Scalar.muli v617 c7_i32_397
  let v619 : Index := Scalar.indexCast v618
  let c0_398 : Index := 0#32
  ![v619.toNat, 0]

def k0_chk8 (v617 : BitVec 32) : Prop :=
  (∀ a, (k0_off25 v617) a + S8x128.size a ≤ S8968x128.size a)
theorem k0_off25_inb : ∀ (v617 : BitVec 32) (k0_hw8 : k0_chk8 v617), ∀ a, (k0_off25 v617) a + S8x128.size a ≤ S8968x128.size a := fun v617 k0_hw8 => k0_hw8

def k0_off26 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_388 : BitVec 32 := 2#32
  let c0_i32_9 : BitVec 32 := 0#32
  let c1_i32_10 : BitVec 32 := 1#32
  let arg15 : BitVec 32 := Scf.iv c0_i32_9 c1_i32_10 k0_t4
  let c8_i32_384 : BitVec 32 := 8#32
  let v591 : BitVec 32 := Scalar.muli arg15 c8_i32_384
  let c1_i32_385 : BitVec 32 := 1#32
  let v592 : BitVec 32 := Scalar.addi v591 c1_i32_385
  let v596 : BitVec 32 := Scalar.muli c2_i32_388 v592
  let v597 : BitVec 32 := Scalar.addi v18 v596
  let c1_i32_389 : BitVec 32 := 1#32
  let v598 : BitVec 32 := Scalar.addi v597 c1_i32_389
  let c34559_i32_390 : BitVec 32 := 34559#32
  let v599 : BitVec 32 := Scalar.minsi v598 c34559_i32_390
  let v621 : Index := Scalar.indexCast v599
  ![v621.toNat]
def k0_off27 (v622 : BitVec 32) : Fin 2 → Nat :=
  let c7_i32_399 : BitVec 32 := 7#32
  let v623 : BitVec 32 := Scalar.muli v622 c7_i32_399
  let v624 : Index := Scalar.indexCast v623
  let c0_400 : Index := 0#32
  ![v624.toNat, 0]

def k0_chk9 (v622 : BitVec 32) : Prop :=
  (∀ a, (k0_off27 v622) a + S8x128.size a ≤ S8968x128.size a)
theorem k0_off27_inb : ∀ (v622 : BitVec 32) (k0_hw9 : k0_chk9 v622), ∀ a, (k0_off27 v622) a + S8x128.size a ≤ S8968x128.size a := fun v622 k0_hw9 => k0_hw9

def k0_off28 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32_384 : BitVec 32 := 8#32
  let v591 : BitVec 32 := Scalar.muli arg15 c8_i32_384
  let c1_i32_385 : BitVec 32 := 1#32
  let v592 : BitVec 32 := Scalar.addi v591 c1_i32_385
  let c9_i32_401 : BitVec 32 := 9#32
  let v627 : BitVec 32 := Scalar.muli v592 c9_i32_401
  let v628 : Index := Scalar.indexCast v627
  let c0_402 : Index := 0#32
  ![v628.toNat, 0]
def k0_off29 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_405 : BitVec 32 := 2#32
  let c0_i32_9 : BitVec 32 := 0#32
  let c1_i32_10 : BitVec 32 := 1#32
  let arg15 : BitVec 32 := Scf.iv c0_i32_9 c1_i32_10 k0_t4
  let c8_i32_403 : BitVec 32 := 8#32
  let v632 : BitVec 32 := Scalar.muli arg15 c8_i32_403
  let c2_i32_404 : BitVec 32 := 2#32
  let v633 : BitVec 32 := Scalar.addi v632 c2_i32_404
  let v634 : BitVec 32 := Scalar.muli c2_i32_405 v633
  let v635 : BitVec 32 := Scalar.addi v18 v634
  let c34559_i32_406 : BitVec 32 := 34559#32
  let v636 : BitVec 32 := Scalar.minsi v635 c34559_i32_406
  let v641 : Index := Scalar.indexCast v636
  ![v641.toNat]
def k0_off30 (v642 : BitVec 32) : Fin 2 → Nat :=
  let c9_i32_410 : BitVec 32 := 9#32
  let v643 : BitVec 32 := Scalar.muli v642 c9_i32_410
  let v644 : Index := Scalar.indexCast v643
  let c0_411 : Index := 0#32
  ![v644.toNat, 0]

def k0_chk10 (v642 : BitVec 32) : Prop :=
  (∀ a, (k0_off30 v642) a + S8x128.size a ≤ S11520x128.size a)
theorem k0_off30_inb : ∀ (v642 : BitVec 32) (k0_hw10 : k0_chk10 v642), ∀ a, (k0_off30 v642) a + S8x128.size a ≤ S11520x128.size a := fun v642 k0_hw10 => k0_hw10

def k0_off31 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_407 : BitVec 32 := 2#32
  let c0_i32_9 : BitVec 32 := 0#32
  let c1_i32_10 : BitVec 32 := 1#32
  let arg15 : BitVec 32 := Scf.iv c0_i32_9 c1_i32_10 k0_t4
  let c8_i32_403 : BitVec 32 := 8#32
  let v632 : BitVec 32 := Scalar.muli arg15 c8_i32_403
  let c2_i32_404 : BitVec 32 := 2#32
  let v633 : BitVec 32 := Scalar.addi v632 c2_i32_404
  let v637 : BitVec 32 := Scalar.muli c2_i32_407 v633
  let v638 : BitVec 32 := Scalar.addi v18 v637
  let c1_i32_408 : BitVec 32 := 1#32
  let v639 : BitVec 32 := Scalar.addi v638 c1_i32_408
  let c34559_i32_409 : BitVec 32 := 34559#32
  let v640 : BitVec 32 := Scalar.minsi v639 c34559_i32_409
  let v646 : Index := Scalar.indexCast v640
  ![v646.toNat]
def k0_off32 (v647 : BitVec 32) : Fin 2 → Nat :=
  let c9_i32_412 : BitVec 32 := 9#32
  let v648 : BitVec 32 := Scalar.muli v647 c9_i32_412
  let v649 : Index := Scalar.indexCast v648
  let c0_413 : Index := 0#32
  ![v649.toNat, 0]

def k0_chk11 (v647 : BitVec 32) : Prop :=
  (∀ a, (k0_off32 v647) a + S8x128.size a ≤ S11520x128.size a)
theorem k0_off32_inb : ∀ (v647 : BitVec 32) (k0_hw11 : k0_chk11 v647), ∀ a, (k0_off32 v647) a + S8x128.size a ≤ S11520x128.size a := fun v647 k0_hw11 => k0_hw11

def k0_off33 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32_403 : BitVec 32 := 8#32
  let v632 : BitVec 32 := Scalar.muli arg15 c8_i32_403
  let c2_i32_404 : BitVec 32 := 2#32
  let v633 : BitVec 32 := Scalar.addi v632 c2_i32_404
  let c9_i32_414 : BitVec 32 := 9#32
  let v652 : BitVec 32 := Scalar.muli v633 c9_i32_414
  let v653 : Index := Scalar.indexCast v652
  let c0_415 : Index := 0#32
  ![v653.toNat, 0]
def k0_off34 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_405 : BitVec 32 := 2#32
  let c0_i32_9 : BitVec 32 := 0#32
  let c1_i32_10 : BitVec 32 := 1#32
  let arg15 : BitVec 32 := Scf.iv c0_i32_9 c1_i32_10 k0_t4
  let c8_i32_403 : BitVec 32 := 8#32
  let v632 : BitVec 32 := Scalar.muli arg15 c8_i32_403
  let c2_i32_404 : BitVec 32 := 2#32
  let v633 : BitVec 32 := Scalar.addi v632 c2_i32_404
  let v634 : BitVec 32 := Scalar.muli c2_i32_405 v633
  let v635 : BitVec 32 := Scalar.addi v18 v634
  let c34559_i32_406 : BitVec 32 := 34559#32
  let v636 : BitVec 32 := Scalar.minsi v635 c34559_i32_406
  let v657 : Index := Scalar.indexCast v636
  ![v657.toNat]
def k0_off35 (v658 : BitVec 32) : Fin 2 → Nat :=
  let c7_i32_416 : BitVec 32 := 7#32
  let v659 : BitVec 32 := Scalar.muli v658 c7_i32_416
  let v660 : Index := Scalar.indexCast v659
  let c0_417 : Index := 0#32
  ![v660.toNat, 0]

def k0_chk12 (v658 : BitVec 32) : Prop :=
  (∀ a, (k0_off35 v658) a + S8x128.size a ≤ S8968x128.size a)
theorem k0_off35_inb : ∀ (v658 : BitVec 32) (k0_hw12 : k0_chk12 v658), ∀ a, (k0_off35 v658) a + S8x128.size a ≤ S8968x128.size a := fun v658 k0_hw12 => k0_hw12

def k0_off36 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_407 : BitVec 32 := 2#32
  let c0_i32_9 : BitVec 32 := 0#32
  let c1_i32_10 : BitVec 32 := 1#32
  let arg15 : BitVec 32 := Scf.iv c0_i32_9 c1_i32_10 k0_t4
  let c8_i32_403 : BitVec 32 := 8#32
  let v632 : BitVec 32 := Scalar.muli arg15 c8_i32_403
  let c2_i32_404 : BitVec 32 := 2#32
  let v633 : BitVec 32 := Scalar.addi v632 c2_i32_404
  let v637 : BitVec 32 := Scalar.muli c2_i32_407 v633
  let v638 : BitVec 32 := Scalar.addi v18 v637
  let c1_i32_408 : BitVec 32 := 1#32
  let v639 : BitVec 32 := Scalar.addi v638 c1_i32_408
  let c34559_i32_409 : BitVec 32 := 34559#32
  let v640 : BitVec 32 := Scalar.minsi v639 c34559_i32_409
  let v662 : Index := Scalar.indexCast v640
  ![v662.toNat]
def k0_off37 (v663 : BitVec 32) : Fin 2 → Nat :=
  let c7_i32_418 : BitVec 32 := 7#32
  let v664 : BitVec 32 := Scalar.muli v663 c7_i32_418
  let v665 : Index := Scalar.indexCast v664
  let c0_419 : Index := 0#32
  ![v665.toNat, 0]

def k0_chk13 (v663 : BitVec 32) : Prop :=
  (∀ a, (k0_off37 v663) a + S8x128.size a ≤ S8968x128.size a)
theorem k0_off37_inb : ∀ (v663 : BitVec 32) (k0_hw13 : k0_chk13 v663), ∀ a, (k0_off37 v663) a + S8x128.size a ≤ S8968x128.size a := fun v663 k0_hw13 => k0_hw13

def k0_off38 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32_403 : BitVec 32 := 8#32
  let v632 : BitVec 32 := Scalar.muli arg15 c8_i32_403
  let c2_i32_404 : BitVec 32 := 2#32
  let v633 : BitVec 32 := Scalar.addi v632 c2_i32_404
  let c9_i32_420 : BitVec 32 := 9#32
  let v668 : BitVec 32 := Scalar.muli v633 c9_i32_420
  let v669 : Index := Scalar.indexCast v668
  let c0_421 : Index := 0#32
  ![v669.toNat, 0]
def k0_off39 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_423 : BitVec 32 := 2#32
  let c0_i32_9 : BitVec 32 := 0#32
  let c1_i32_10 : BitVec 32 := 1#32
  let arg15 : BitVec 32 := Scf.iv c0_i32_9 c1_i32_10 k0_t4
  let c8_i32_422 : BitVec 32 := 8#32
  let v673 : BitVec 32 := Scalar.muli arg15 c8_i32_422
  let c3_i32 : BitVec 32 := 3#32
  let v674 : BitVec 32 := Scalar.addi v673 c3_i32
  let v675 : BitVec 32 := Scalar.muli c2_i32_423 v674
  let v676 : BitVec 32 := Scalar.addi v18 v675
  let c34559_i32_424 : BitVec 32 := 34559#32
  let v677 : BitVec 32 := Scalar.minsi v676 c34559_i32_424
  let v682 : Index := Scalar.indexCast v677
  ![v682.toNat]
def k0_off40 (v683 : BitVec 32) : Fin 2 → Nat :=
  let c9_i32_428 : BitVec 32 := 9#32
  let v684 : BitVec 32 := Scalar.muli v683 c9_i32_428
  let v685 : Index := Scalar.indexCast v684
  let c0_429 : Index := 0#32
  ![v685.toNat, 0]

def k0_chk14 (v683 : BitVec 32) : Prop :=
  (∀ a, (k0_off40 v683) a + S8x128.size a ≤ S11520x128.size a)
theorem k0_off40_inb : ∀ (v683 : BitVec 32) (k0_hw14 : k0_chk14 v683), ∀ a, (k0_off40 v683) a + S8x128.size a ≤ S11520x128.size a := fun v683 k0_hw14 => k0_hw14

def k0_off41 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_425 : BitVec 32 := 2#32
  let c0_i32_9 : BitVec 32 := 0#32
  let c1_i32_10 : BitVec 32 := 1#32
  let arg15 : BitVec 32 := Scf.iv c0_i32_9 c1_i32_10 k0_t4
  let c8_i32_422 : BitVec 32 := 8#32
  let v673 : BitVec 32 := Scalar.muli arg15 c8_i32_422
  let c3_i32 : BitVec 32 := 3#32
  let v674 : BitVec 32 := Scalar.addi v673 c3_i32
  let v678 : BitVec 32 := Scalar.muli c2_i32_425 v674
  let v679 : BitVec 32 := Scalar.addi v18 v678
  let c1_i32_426 : BitVec 32 := 1#32
  let v680 : BitVec 32 := Scalar.addi v679 c1_i32_426
  let c34559_i32_427 : BitVec 32 := 34559#32
  let v681 : BitVec 32 := Scalar.minsi v680 c34559_i32_427
  let v687 : Index := Scalar.indexCast v681
  ![v687.toNat]
def k0_off42 (v688 : BitVec 32) : Fin 2 → Nat :=
  let c9_i32_430 : BitVec 32 := 9#32
  let v689 : BitVec 32 := Scalar.muli v688 c9_i32_430
  let v690 : Index := Scalar.indexCast v689
  let c0_431 : Index := 0#32
  ![v690.toNat, 0]

def k0_chk15 (v688 : BitVec 32) : Prop :=
  (∀ a, (k0_off42 v688) a + S8x128.size a ≤ S11520x128.size a)
theorem k0_off42_inb : ∀ (v688 : BitVec 32) (k0_hw15 : k0_chk15 v688), ∀ a, (k0_off42 v688) a + S8x128.size a ≤ S11520x128.size a := fun v688 k0_hw15 => k0_hw15

def k0_off43 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32_422 : BitVec 32 := 8#32
  let v673 : BitVec 32 := Scalar.muli arg15 c8_i32_422
  let c3_i32 : BitVec 32 := 3#32
  let v674 : BitVec 32 := Scalar.addi v673 c3_i32
  let c9_i32_432 : BitVec 32 := 9#32
  let v693 : BitVec 32 := Scalar.muli v674 c9_i32_432
  let v694 : Index := Scalar.indexCast v693
  let c0_433 : Index := 0#32
  ![v694.toNat, 0]
def k0_off44 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_423 : BitVec 32 := 2#32
  let c0_i32_9 : BitVec 32 := 0#32
  let c1_i32_10 : BitVec 32 := 1#32
  let arg15 : BitVec 32 := Scf.iv c0_i32_9 c1_i32_10 k0_t4
  let c8_i32_422 : BitVec 32 := 8#32
  let v673 : BitVec 32 := Scalar.muli arg15 c8_i32_422
  let c3_i32 : BitVec 32 := 3#32
  let v674 : BitVec 32 := Scalar.addi v673 c3_i32
  let v675 : BitVec 32 := Scalar.muli c2_i32_423 v674
  let v676 : BitVec 32 := Scalar.addi v18 v675
  let c34559_i32_424 : BitVec 32 := 34559#32
  let v677 : BitVec 32 := Scalar.minsi v676 c34559_i32_424
  let v698 : Index := Scalar.indexCast v677
  ![v698.toNat]
def k0_off45 (v699 : BitVec 32) : Fin 2 → Nat :=
  let c7_i32_434 : BitVec 32 := 7#32
  let v700 : BitVec 32 := Scalar.muli v699 c7_i32_434
  let v701 : Index := Scalar.indexCast v700
  let c0_435 : Index := 0#32
  ![v701.toNat, 0]

def k0_chk16 (v699 : BitVec 32) : Prop :=
  (∀ a, (k0_off45 v699) a + S8x128.size a ≤ S8968x128.size a)
theorem k0_off45_inb : ∀ (v699 : BitVec 32) (k0_hw16 : k0_chk16 v699), ∀ a, (k0_off45 v699) a + S8x128.size a ≤ S8968x128.size a := fun v699 k0_hw16 => k0_hw16

def k0_off46 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_425 : BitVec 32 := 2#32
  let c0_i32_9 : BitVec 32 := 0#32
  let c1_i32_10 : BitVec 32 := 1#32
  let arg15 : BitVec 32 := Scf.iv c0_i32_9 c1_i32_10 k0_t4
  let c8_i32_422 : BitVec 32 := 8#32
  let v673 : BitVec 32 := Scalar.muli arg15 c8_i32_422
  let c3_i32 : BitVec 32 := 3#32
  let v674 : BitVec 32 := Scalar.addi v673 c3_i32
  let v678 : BitVec 32 := Scalar.muli c2_i32_425 v674
  let v679 : BitVec 32 := Scalar.addi v18 v678
  let c1_i32_426 : BitVec 32 := 1#32
  let v680 : BitVec 32 := Scalar.addi v679 c1_i32_426
  let c34559_i32_427 : BitVec 32 := 34559#32
  let v681 : BitVec 32 := Scalar.minsi v680 c34559_i32_427
  let v703 : Index := Scalar.indexCast v681
  ![v703.toNat]
def k0_off47 (v704 : BitVec 32) : Fin 2 → Nat :=
  let c7_i32_436 : BitVec 32 := 7#32
  let v705 : BitVec 32 := Scalar.muli v704 c7_i32_436
  let v706 : Index := Scalar.indexCast v705
  let c0_437 : Index := 0#32
  ![v706.toNat, 0]

def k0_chk17 (v704 : BitVec 32) : Prop :=
  (∀ a, (k0_off47 v704) a + S8x128.size a ≤ S8968x128.size a)
theorem k0_off47_inb : ∀ (v704 : BitVec 32) (k0_hw17 : k0_chk17 v704), ∀ a, (k0_off47 v704) a + S8x128.size a ≤ S8968x128.size a := fun v704 k0_hw17 => k0_hw17

def k0_off48 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32_422 : BitVec 32 := 8#32
  let v673 : BitVec 32 := Scalar.muli arg15 c8_i32_422
  let c3_i32 : BitVec 32 := 3#32
  let v674 : BitVec 32 := Scalar.addi v673 c3_i32
  let c9_i32_438 : BitVec 32 := 9#32
  let v709 : BitVec 32 := Scalar.muli v674 c9_i32_438
  let v710 : Index := Scalar.indexCast v709
  let c0_439 : Index := 0#32
  ![v710.toNat, 0]
def k0_off49 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_441 : BitVec 32 := 2#32
  let c0_i32_9 : BitVec 32 := 0#32
  let c1_i32_10 : BitVec 32 := 1#32
  let arg15 : BitVec 32 := Scf.iv c0_i32_9 c1_i32_10 k0_t4
  let c8_i32_440 : BitVec 32 := 8#32
  let v714 : BitVec 32 := Scalar.muli arg15 c8_i32_440
  let c4_i32 : BitVec 32 := 4#32
  let v715 : BitVec 32 := Scalar.addi v714 c4_i32
  let v716 : BitVec 32 := Scalar.muli c2_i32_441 v715
  let v717 : BitVec 32 := Scalar.addi v18 v716
  let c34559_i32_442 : BitVec 32 := 34559#32
  let v718 : BitVec 32 := Scalar.minsi v717 c34559_i32_442
  let v723 : Index := Scalar.indexCast v718
  ![v723.toNat]
def k0_off50 (v724 : BitVec 32) : Fin 2 → Nat :=
  let c9_i32_446 : BitVec 32 := 9#32
  let v725 : BitVec 32 := Scalar.muli v724 c9_i32_446
  let v726 : Index := Scalar.indexCast v725
  let c0_447 : Index := 0#32
  ![v726.toNat, 0]

def k0_chk18 (v724 : BitVec 32) : Prop :=
  (∀ a, (k0_off50 v724) a + S8x128.size a ≤ S11520x128.size a)
theorem k0_off50_inb : ∀ (v724 : BitVec 32) (k0_hw18 : k0_chk18 v724), ∀ a, (k0_off50 v724) a + S8x128.size a ≤ S11520x128.size a := fun v724 k0_hw18 => k0_hw18

def k0_off51 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_443 : BitVec 32 := 2#32
  let c0_i32_9 : BitVec 32 := 0#32
  let c1_i32_10 : BitVec 32 := 1#32
  let arg15 : BitVec 32 := Scf.iv c0_i32_9 c1_i32_10 k0_t4
  let c8_i32_440 : BitVec 32 := 8#32
  let v714 : BitVec 32 := Scalar.muli arg15 c8_i32_440
  let c4_i32 : BitVec 32 := 4#32
  let v715 : BitVec 32 := Scalar.addi v714 c4_i32
  let v719 : BitVec 32 := Scalar.muli c2_i32_443 v715
  let v720 : BitVec 32 := Scalar.addi v18 v719
  let c1_i32_444 : BitVec 32 := 1#32
  let v721 : BitVec 32 := Scalar.addi v720 c1_i32_444
  let c34559_i32_445 : BitVec 32 := 34559#32
  let v722 : BitVec 32 := Scalar.minsi v721 c34559_i32_445
  let v728 : Index := Scalar.indexCast v722
  ![v728.toNat]
def k0_off52 (v729 : BitVec 32) : Fin 2 → Nat :=
  let c9_i32_448 : BitVec 32 := 9#32
  let v730 : BitVec 32 := Scalar.muli v729 c9_i32_448
  let v731 : Index := Scalar.indexCast v730
  let c0_449 : Index := 0#32
  ![v731.toNat, 0]

def k0_chk19 (v729 : BitVec 32) : Prop :=
  (∀ a, (k0_off52 v729) a + S8x128.size a ≤ S11520x128.size a)
theorem k0_off52_inb : ∀ (v729 : BitVec 32) (k0_hw19 : k0_chk19 v729), ∀ a, (k0_off52 v729) a + S8x128.size a ≤ S11520x128.size a := fun v729 k0_hw19 => k0_hw19

def k0_off53 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32_440 : BitVec 32 := 8#32
  let v714 : BitVec 32 := Scalar.muli arg15 c8_i32_440
  let c4_i32 : BitVec 32 := 4#32
  let v715 : BitVec 32 := Scalar.addi v714 c4_i32
  let c9_i32_450 : BitVec 32 := 9#32
  let v734 : BitVec 32 := Scalar.muli v715 c9_i32_450
  let v735 : Index := Scalar.indexCast v734
  let c0_451 : Index := 0#32
  ![v735.toNat, 0]
def k0_off54 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_441 : BitVec 32 := 2#32
  let c0_i32_9 : BitVec 32 := 0#32
  let c1_i32_10 : BitVec 32 := 1#32
  let arg15 : BitVec 32 := Scf.iv c0_i32_9 c1_i32_10 k0_t4
  let c8_i32_440 : BitVec 32 := 8#32
  let v714 : BitVec 32 := Scalar.muli arg15 c8_i32_440
  let c4_i32 : BitVec 32 := 4#32
  let v715 : BitVec 32 := Scalar.addi v714 c4_i32
  let v716 : BitVec 32 := Scalar.muli c2_i32_441 v715
  let v717 : BitVec 32 := Scalar.addi v18 v716
  let c34559_i32_442 : BitVec 32 := 34559#32
  let v718 : BitVec 32 := Scalar.minsi v717 c34559_i32_442
  let v739 : Index := Scalar.indexCast v718
  ![v739.toNat]
def k0_off55 (v740 : BitVec 32) : Fin 2 → Nat :=
  let c7_i32_452 : BitVec 32 := 7#32
  let v741 : BitVec 32 := Scalar.muli v740 c7_i32_452
  let v742 : Index := Scalar.indexCast v741
  let c0_453 : Index := 0#32
  ![v742.toNat, 0]

def k0_chk20 (v740 : BitVec 32) : Prop :=
  (∀ a, (k0_off55 v740) a + S8x128.size a ≤ S8968x128.size a)
theorem k0_off55_inb : ∀ (v740 : BitVec 32) (k0_hw20 : k0_chk20 v740), ∀ a, (k0_off55 v740) a + S8x128.size a ≤ S8968x128.size a := fun v740 k0_hw20 => k0_hw20

def k0_off56 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_443 : BitVec 32 := 2#32
  let c0_i32_9 : BitVec 32 := 0#32
  let c1_i32_10 : BitVec 32 := 1#32
  let arg15 : BitVec 32 := Scf.iv c0_i32_9 c1_i32_10 k0_t4
  let c8_i32_440 : BitVec 32 := 8#32
  let v714 : BitVec 32 := Scalar.muli arg15 c8_i32_440
  let c4_i32 : BitVec 32 := 4#32
  let v715 : BitVec 32 := Scalar.addi v714 c4_i32
  let v719 : BitVec 32 := Scalar.muli c2_i32_443 v715
  let v720 : BitVec 32 := Scalar.addi v18 v719
  let c1_i32_444 : BitVec 32 := 1#32
  let v721 : BitVec 32 := Scalar.addi v720 c1_i32_444
  let c34559_i32_445 : BitVec 32 := 34559#32
  let v722 : BitVec 32 := Scalar.minsi v721 c34559_i32_445
  let v744 : Index := Scalar.indexCast v722
  ![v744.toNat]
def k0_off57 (v745 : BitVec 32) : Fin 2 → Nat :=
  let c7_i32_454 : BitVec 32 := 7#32
  let v746 : BitVec 32 := Scalar.muli v745 c7_i32_454
  let v747 : Index := Scalar.indexCast v746
  let c0_455 : Index := 0#32
  ![v747.toNat, 0]

def k0_chk21 (v745 : BitVec 32) : Prop :=
  (∀ a, (k0_off57 v745) a + S8x128.size a ≤ S8968x128.size a)
theorem k0_off57_inb : ∀ (v745 : BitVec 32) (k0_hw21 : k0_chk21 v745), ∀ a, (k0_off57 v745) a + S8x128.size a ≤ S8968x128.size a := fun v745 k0_hw21 => k0_hw21

def k0_off58 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32_440 : BitVec 32 := 8#32
  let v714 : BitVec 32 := Scalar.muli arg15 c8_i32_440
  let c4_i32 : BitVec 32 := 4#32
  let v715 : BitVec 32 := Scalar.addi v714 c4_i32
  let c9_i32_456 : BitVec 32 := 9#32
  let v750 : BitVec 32 := Scalar.muli v715 c9_i32_456
  let v751 : Index := Scalar.indexCast v750
  let c0_457 : Index := 0#32
  ![v751.toNat, 0]
def k0_off59 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_459 : BitVec 32 := 2#32
  let c0_i32_9 : BitVec 32 := 0#32
  let c1_i32_10 : BitVec 32 := 1#32
  let arg15 : BitVec 32 := Scf.iv c0_i32_9 c1_i32_10 k0_t4
  let c8_i32_458 : BitVec 32 := 8#32
  let v755 : BitVec 32 := Scalar.muli arg15 c8_i32_458
  let c5_i32 : BitVec 32 := 5#32
  let v756 : BitVec 32 := Scalar.addi v755 c5_i32
  let v757 : BitVec 32 := Scalar.muli c2_i32_459 v756
  let v758 : BitVec 32 := Scalar.addi v18 v757
  let c34559_i32_460 : BitVec 32 := 34559#32
  let v759 : BitVec 32 := Scalar.minsi v758 c34559_i32_460
  let v764 : Index := Scalar.indexCast v759
  ![v764.toNat]
def k0_off60 (v765 : BitVec 32) : Fin 2 → Nat :=
  let c9_i32_464 : BitVec 32 := 9#32
  let v766 : BitVec 32 := Scalar.muli v765 c9_i32_464
  let v767 : Index := Scalar.indexCast v766
  let c0_465 : Index := 0#32
  ![v767.toNat, 0]

def k0_chk22 (v765 : BitVec 32) : Prop :=
  (∀ a, (k0_off60 v765) a + S8x128.size a ≤ S11520x128.size a)
theorem k0_off60_inb : ∀ (v765 : BitVec 32) (k0_hw22 : k0_chk22 v765), ∀ a, (k0_off60 v765) a + S8x128.size a ≤ S11520x128.size a := fun v765 k0_hw22 => k0_hw22

def k0_off61 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_461 : BitVec 32 := 2#32
  let c0_i32_9 : BitVec 32 := 0#32
  let c1_i32_10 : BitVec 32 := 1#32
  let arg15 : BitVec 32 := Scf.iv c0_i32_9 c1_i32_10 k0_t4
  let c8_i32_458 : BitVec 32 := 8#32
  let v755 : BitVec 32 := Scalar.muli arg15 c8_i32_458
  let c5_i32 : BitVec 32 := 5#32
  let v756 : BitVec 32 := Scalar.addi v755 c5_i32
  let v760 : BitVec 32 := Scalar.muli c2_i32_461 v756
  let v761 : BitVec 32 := Scalar.addi v18 v760
  let c1_i32_462 : BitVec 32 := 1#32
  let v762 : BitVec 32 := Scalar.addi v761 c1_i32_462
  let c34559_i32_463 : BitVec 32 := 34559#32
  let v763 : BitVec 32 := Scalar.minsi v762 c34559_i32_463
  let v769 : Index := Scalar.indexCast v763
  ![v769.toNat]
def k0_off62 (v770 : BitVec 32) : Fin 2 → Nat :=
  let c9_i32_466 : BitVec 32 := 9#32
  let v771 : BitVec 32 := Scalar.muli v770 c9_i32_466
  let v772 : Index := Scalar.indexCast v771
  let c0_467 : Index := 0#32
  ![v772.toNat, 0]

def k0_chk23 (v770 : BitVec 32) : Prop :=
  (∀ a, (k0_off62 v770) a + S8x128.size a ≤ S11520x128.size a)
theorem k0_off62_inb : ∀ (v770 : BitVec 32) (k0_hw23 : k0_chk23 v770), ∀ a, (k0_off62 v770) a + S8x128.size a ≤ S11520x128.size a := fun v770 k0_hw23 => k0_hw23

def k0_off63 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32_458 : BitVec 32 := 8#32
  let v755 : BitVec 32 := Scalar.muli arg15 c8_i32_458
  let c5_i32 : BitVec 32 := 5#32
  let v756 : BitVec 32 := Scalar.addi v755 c5_i32
  let c9_i32_468 : BitVec 32 := 9#32
  let v775 : BitVec 32 := Scalar.muli v756 c9_i32_468
  let v776 : Index := Scalar.indexCast v775
  let c0_469 : Index := 0#32
  ![v776.toNat, 0]
def k0_off64 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_459 : BitVec 32 := 2#32
  let c0_i32_9 : BitVec 32 := 0#32
  let c1_i32_10 : BitVec 32 := 1#32
  let arg15 : BitVec 32 := Scf.iv c0_i32_9 c1_i32_10 k0_t4
  let c8_i32_458 : BitVec 32 := 8#32
  let v755 : BitVec 32 := Scalar.muli arg15 c8_i32_458
  let c5_i32 : BitVec 32 := 5#32
  let v756 : BitVec 32 := Scalar.addi v755 c5_i32
  let v757 : BitVec 32 := Scalar.muli c2_i32_459 v756
  let v758 : BitVec 32 := Scalar.addi v18 v757
  let c34559_i32_460 : BitVec 32 := 34559#32
  let v759 : BitVec 32 := Scalar.minsi v758 c34559_i32_460
  let v780 : Index := Scalar.indexCast v759
  ![v780.toNat]
def k0_off65 (v781 : BitVec 32) : Fin 2 → Nat :=
  let c7_i32_470 : BitVec 32 := 7#32
  let v782 : BitVec 32 := Scalar.muli v781 c7_i32_470
  let v783 : Index := Scalar.indexCast v782
  let c0_471 : Index := 0#32
  ![v783.toNat, 0]

def k0_chk24 (v781 : BitVec 32) : Prop :=
  (∀ a, (k0_off65 v781) a + S8x128.size a ≤ S8968x128.size a)
theorem k0_off65_inb : ∀ (v781 : BitVec 32) (k0_hw24 : k0_chk24 v781), ∀ a, (k0_off65 v781) a + S8x128.size a ≤ S8968x128.size a := fun v781 k0_hw24 => k0_hw24

def k0_off66 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_461 : BitVec 32 := 2#32
  let c0_i32_9 : BitVec 32 := 0#32
  let c1_i32_10 : BitVec 32 := 1#32
  let arg15 : BitVec 32 := Scf.iv c0_i32_9 c1_i32_10 k0_t4
  let c8_i32_458 : BitVec 32 := 8#32
  let v755 : BitVec 32 := Scalar.muli arg15 c8_i32_458
  let c5_i32 : BitVec 32 := 5#32
  let v756 : BitVec 32 := Scalar.addi v755 c5_i32
  let v760 : BitVec 32 := Scalar.muli c2_i32_461 v756
  let v761 : BitVec 32 := Scalar.addi v18 v760
  let c1_i32_462 : BitVec 32 := 1#32
  let v762 : BitVec 32 := Scalar.addi v761 c1_i32_462
  let c34559_i32_463 : BitVec 32 := 34559#32
  let v763 : BitVec 32 := Scalar.minsi v762 c34559_i32_463
  let v785 : Index := Scalar.indexCast v763
  ![v785.toNat]
def k0_off67 (v786 : BitVec 32) : Fin 2 → Nat :=
  let c7_i32_472 : BitVec 32 := 7#32
  let v787 : BitVec 32 := Scalar.muli v786 c7_i32_472
  let v788 : Index := Scalar.indexCast v787
  let c0_473 : Index := 0#32
  ![v788.toNat, 0]

def k0_chk25 (v786 : BitVec 32) : Prop :=
  (∀ a, (k0_off67 v786) a + S8x128.size a ≤ S8968x128.size a)
theorem k0_off67_inb : ∀ (v786 : BitVec 32) (k0_hw25 : k0_chk25 v786), ∀ a, (k0_off67 v786) a + S8x128.size a ≤ S8968x128.size a := fun v786 k0_hw25 => k0_hw25

def k0_off68 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32_458 : BitVec 32 := 8#32
  let v755 : BitVec 32 := Scalar.muli arg15 c8_i32_458
  let c5_i32 : BitVec 32 := 5#32
  let v756 : BitVec 32 := Scalar.addi v755 c5_i32
  let c9_i32_474 : BitVec 32 := 9#32
  let v791 : BitVec 32 := Scalar.muli v756 c9_i32_474
  let v792 : Index := Scalar.indexCast v791
  let c0_475 : Index := 0#32
  ![v792.toNat, 0]
def k0_off69 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_477 : BitVec 32 := 2#32
  let c0_i32_9 : BitVec 32 := 0#32
  let c1_i32_10 : BitVec 32 := 1#32
  let arg15 : BitVec 32 := Scf.iv c0_i32_9 c1_i32_10 k0_t4
  let c8_i32_476 : BitVec 32 := 8#32
  let v796 : BitVec 32 := Scalar.muli arg15 c8_i32_476
  let c6_i32 : BitVec 32 := 6#32
  let v797 : BitVec 32 := Scalar.addi v796 c6_i32
  let v798 : BitVec 32 := Scalar.muli c2_i32_477 v797
  let v799 : BitVec 32 := Scalar.addi v18 v798
  let c34559_i32_478 : BitVec 32 := 34559#32
  let v800 : BitVec 32 := Scalar.minsi v799 c34559_i32_478
  let v805 : Index := Scalar.indexCast v800
  ![v805.toNat]
def k0_off70 (v806 : BitVec 32) : Fin 2 → Nat :=
  let c9_i32_482 : BitVec 32 := 9#32
  let v807 : BitVec 32 := Scalar.muli v806 c9_i32_482
  let v808 : Index := Scalar.indexCast v807
  let c0_483 : Index := 0#32
  ![v808.toNat, 0]

def k0_chk26 (v806 : BitVec 32) : Prop :=
  (∀ a, (k0_off70 v806) a + S8x128.size a ≤ S11520x128.size a)
theorem k0_off70_inb : ∀ (v806 : BitVec 32) (k0_hw26 : k0_chk26 v806), ∀ a, (k0_off70 v806) a + S8x128.size a ≤ S11520x128.size a := fun v806 k0_hw26 => k0_hw26

def k0_off71 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_479 : BitVec 32 := 2#32
  let c0_i32_9 : BitVec 32 := 0#32
  let c1_i32_10 : BitVec 32 := 1#32
  let arg15 : BitVec 32 := Scf.iv c0_i32_9 c1_i32_10 k0_t4
  let c8_i32_476 : BitVec 32 := 8#32
  let v796 : BitVec 32 := Scalar.muli arg15 c8_i32_476
  let c6_i32 : BitVec 32 := 6#32
  let v797 : BitVec 32 := Scalar.addi v796 c6_i32
  let v801 : BitVec 32 := Scalar.muli c2_i32_479 v797
  let v802 : BitVec 32 := Scalar.addi v18 v801
  let c1_i32_480 : BitVec 32 := 1#32
  let v803 : BitVec 32 := Scalar.addi v802 c1_i32_480
  let c34559_i32_481 : BitVec 32 := 34559#32
  let v804 : BitVec 32 := Scalar.minsi v803 c34559_i32_481
  let v810 : Index := Scalar.indexCast v804
  ![v810.toNat]
def k0_off72 (v811 : BitVec 32) : Fin 2 → Nat :=
  let c9_i32_484 : BitVec 32 := 9#32
  let v812 : BitVec 32 := Scalar.muli v811 c9_i32_484
  let v813 : Index := Scalar.indexCast v812
  let c0_485 : Index := 0#32
  ![v813.toNat, 0]

def k0_chk27 (v811 : BitVec 32) : Prop :=
  (∀ a, (k0_off72 v811) a + S8x128.size a ≤ S11520x128.size a)
theorem k0_off72_inb : ∀ (v811 : BitVec 32) (k0_hw27 : k0_chk27 v811), ∀ a, (k0_off72 v811) a + S8x128.size a ≤ S11520x128.size a := fun v811 k0_hw27 => k0_hw27

def k0_off73 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32_476 : BitVec 32 := 8#32
  let v796 : BitVec 32 := Scalar.muli arg15 c8_i32_476
  let c6_i32 : BitVec 32 := 6#32
  let v797 : BitVec 32 := Scalar.addi v796 c6_i32
  let c9_i32_486 : BitVec 32 := 9#32
  let v816 : BitVec 32 := Scalar.muli v797 c9_i32_486
  let v817 : Index := Scalar.indexCast v816
  let c0_487 : Index := 0#32
  ![v817.toNat, 0]
def k0_off74 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_477 : BitVec 32 := 2#32
  let c0_i32_9 : BitVec 32 := 0#32
  let c1_i32_10 : BitVec 32 := 1#32
  let arg15 : BitVec 32 := Scf.iv c0_i32_9 c1_i32_10 k0_t4
  let c8_i32_476 : BitVec 32 := 8#32
  let v796 : BitVec 32 := Scalar.muli arg15 c8_i32_476
  let c6_i32 : BitVec 32 := 6#32
  let v797 : BitVec 32 := Scalar.addi v796 c6_i32
  let v798 : BitVec 32 := Scalar.muli c2_i32_477 v797
  let v799 : BitVec 32 := Scalar.addi v18 v798
  let c34559_i32_478 : BitVec 32 := 34559#32
  let v800 : BitVec 32 := Scalar.minsi v799 c34559_i32_478
  let v821 : Index := Scalar.indexCast v800
  ![v821.toNat]
def k0_off75 (v822 : BitVec 32) : Fin 2 → Nat :=
  let c7_i32_488 : BitVec 32 := 7#32
  let v823 : BitVec 32 := Scalar.muli v822 c7_i32_488
  let v824 : Index := Scalar.indexCast v823
  let c0_489 : Index := 0#32
  ![v824.toNat, 0]

def k0_chk28 (v822 : BitVec 32) : Prop :=
  (∀ a, (k0_off75 v822) a + S8x128.size a ≤ S8968x128.size a)
theorem k0_off75_inb : ∀ (v822 : BitVec 32) (k0_hw28 : k0_chk28 v822), ∀ a, (k0_off75 v822) a + S8x128.size a ≤ S8968x128.size a := fun v822 k0_hw28 => k0_hw28

def k0_off76 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_479 : BitVec 32 := 2#32
  let c0_i32_9 : BitVec 32 := 0#32
  let c1_i32_10 : BitVec 32 := 1#32
  let arg15 : BitVec 32 := Scf.iv c0_i32_9 c1_i32_10 k0_t4
  let c8_i32_476 : BitVec 32 := 8#32
  let v796 : BitVec 32 := Scalar.muli arg15 c8_i32_476
  let c6_i32 : BitVec 32 := 6#32
  let v797 : BitVec 32 := Scalar.addi v796 c6_i32
  let v801 : BitVec 32 := Scalar.muli c2_i32_479 v797
  let v802 : BitVec 32 := Scalar.addi v18 v801
  let c1_i32_480 : BitVec 32 := 1#32
  let v803 : BitVec 32 := Scalar.addi v802 c1_i32_480
  let c34559_i32_481 : BitVec 32 := 34559#32
  let v804 : BitVec 32 := Scalar.minsi v803 c34559_i32_481
  let v826 : Index := Scalar.indexCast v804
  ![v826.toNat]
def k0_off77 (v827 : BitVec 32) : Fin 2 → Nat :=
  let c7_i32_490 : BitVec 32 := 7#32
  let v828 : BitVec 32 := Scalar.muli v827 c7_i32_490
  let v829 : Index := Scalar.indexCast v828
  let c0_491 : Index := 0#32
  ![v829.toNat, 0]

def k0_chk29 (v827 : BitVec 32) : Prop :=
  (∀ a, (k0_off77 v827) a + S8x128.size a ≤ S8968x128.size a)
theorem k0_off77_inb : ∀ (v827 : BitVec 32) (k0_hw29 : k0_chk29 v827), ∀ a, (k0_off77 v827) a + S8x128.size a ≤ S8968x128.size a := fun v827 k0_hw29 => k0_hw29

def k0_off78 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32_476 : BitVec 32 := 8#32
  let v796 : BitVec 32 := Scalar.muli arg15 c8_i32_476
  let c6_i32 : BitVec 32 := 6#32
  let v797 : BitVec 32 := Scalar.addi v796 c6_i32
  let c9_i32_492 : BitVec 32 := 9#32
  let v832 : BitVec 32 := Scalar.muli v797 c9_i32_492
  let v833 : Index := Scalar.indexCast v832
  let c0_493 : Index := 0#32
  ![v833.toNat, 0]
def k0_off79 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_496 : BitVec 32 := 2#32
  let c0_i32_9 : BitVec 32 := 0#32
  let c1_i32_10 : BitVec 32 := 1#32
  let arg15 : BitVec 32 := Scf.iv c0_i32_9 c1_i32_10 k0_t4
  let c8_i32_494 : BitVec 32 := 8#32
  let v837 : BitVec 32 := Scalar.muli arg15 c8_i32_494
  let c7_i32_495 : BitVec 32 := 7#32
  let v838 : BitVec 32 := Scalar.addi v837 c7_i32_495
  let v839 : BitVec 32 := Scalar.muli c2_i32_496 v838
  let v840 : BitVec 32 := Scalar.addi v18 v839
  let c34559_i32_497 : BitVec 32 := 34559#32
  let v841 : BitVec 32 := Scalar.minsi v840 c34559_i32_497
  let v846 : Index := Scalar.indexCast v841
  ![v846.toNat]
def k0_off80 (v847 : BitVec 32) : Fin 2 → Nat :=
  let c9_i32_501 : BitVec 32 := 9#32
  let v848 : BitVec 32 := Scalar.muli v847 c9_i32_501
  let v849 : Index := Scalar.indexCast v848
  let c0_502 : Index := 0#32
  ![v849.toNat, 0]

def k0_chk30 (v847 : BitVec 32) : Prop :=
  (∀ a, (k0_off80 v847) a + S8x128.size a ≤ S11520x128.size a)
theorem k0_off80_inb : ∀ (v847 : BitVec 32) (k0_hw30 : k0_chk30 v847), ∀ a, (k0_off80 v847) a + S8x128.size a ≤ S11520x128.size a := fun v847 k0_hw30 => k0_hw30

def k0_off81 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_498 : BitVec 32 := 2#32
  let c0_i32_9 : BitVec 32 := 0#32
  let c1_i32_10 : BitVec 32 := 1#32
  let arg15 : BitVec 32 := Scf.iv c0_i32_9 c1_i32_10 k0_t4
  let c8_i32_494 : BitVec 32 := 8#32
  let v837 : BitVec 32 := Scalar.muli arg15 c8_i32_494
  let c7_i32_495 : BitVec 32 := 7#32
  let v838 : BitVec 32 := Scalar.addi v837 c7_i32_495
  let v842 : BitVec 32 := Scalar.muli c2_i32_498 v838
  let v843 : BitVec 32 := Scalar.addi v18 v842
  let c1_i32_499 : BitVec 32 := 1#32
  let v844 : BitVec 32 := Scalar.addi v843 c1_i32_499
  let c34559_i32_500 : BitVec 32 := 34559#32
  let v845 : BitVec 32 := Scalar.minsi v844 c34559_i32_500
  let v851 : Index := Scalar.indexCast v845
  ![v851.toNat]
def k0_off82 (v852 : BitVec 32) : Fin 2 → Nat :=
  let c9_i32_503 : BitVec 32 := 9#32
  let v853 : BitVec 32 := Scalar.muli v852 c9_i32_503
  let v854 : Index := Scalar.indexCast v853
  let c0_504 : Index := 0#32
  ![v854.toNat, 0]

def k0_chk31 (v852 : BitVec 32) : Prop :=
  (∀ a, (k0_off82 v852) a + S8x128.size a ≤ S11520x128.size a)
theorem k0_off82_inb : ∀ (v852 : BitVec 32) (k0_hw31 : k0_chk31 v852), ∀ a, (k0_off82 v852) a + S8x128.size a ≤ S11520x128.size a := fun v852 k0_hw31 => k0_hw31

def k0_off83 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32_494 : BitVec 32 := 8#32
  let v837 : BitVec 32 := Scalar.muli arg15 c8_i32_494
  let c7_i32_495 : BitVec 32 := 7#32
  let v838 : BitVec 32 := Scalar.addi v837 c7_i32_495
  let c9_i32_505 : BitVec 32 := 9#32
  let v857 : BitVec 32 := Scalar.muli v838 c9_i32_505
  let v858 : Index := Scalar.indexCast v857
  let c0_506 : Index := 0#32
  ![v858.toNat, 0]
def k0_off84 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_496 : BitVec 32 := 2#32
  let c0_i32_9 : BitVec 32 := 0#32
  let c1_i32_10 : BitVec 32 := 1#32
  let arg15 : BitVec 32 := Scf.iv c0_i32_9 c1_i32_10 k0_t4
  let c8_i32_494 : BitVec 32 := 8#32
  let v837 : BitVec 32 := Scalar.muli arg15 c8_i32_494
  let c7_i32_495 : BitVec 32 := 7#32
  let v838 : BitVec 32 := Scalar.addi v837 c7_i32_495
  let v839 : BitVec 32 := Scalar.muli c2_i32_496 v838
  let v840 : BitVec 32 := Scalar.addi v18 v839
  let c34559_i32_497 : BitVec 32 := 34559#32
  let v841 : BitVec 32 := Scalar.minsi v840 c34559_i32_497
  let v862 : Index := Scalar.indexCast v841
  ![v862.toNat]
def k0_off85 (v863 : BitVec 32) : Fin 2 → Nat :=
  let c7_i32_507 : BitVec 32 := 7#32
  let v864 : BitVec 32 := Scalar.muli v863 c7_i32_507
  let v865 : Index := Scalar.indexCast v864
  let c0_508 : Index := 0#32
  ![v865.toNat, 0]

def k0_chk32 (v863 : BitVec 32) : Prop :=
  (∀ a, (k0_off85 v863) a + S8x128.size a ≤ S8968x128.size a)
theorem k0_off85_inb : ∀ (v863 : BitVec 32) (k0_hw32 : k0_chk32 v863), ∀ a, (k0_off85 v863) a + S8x128.size a ≤ S8968x128.size a := fun v863 k0_hw32 => k0_hw32

def k0_off86 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_498 : BitVec 32 := 2#32
  let c0_i32_9 : BitVec 32 := 0#32
  let c1_i32_10 : BitVec 32 := 1#32
  let arg15 : BitVec 32 := Scf.iv c0_i32_9 c1_i32_10 k0_t4
  let c8_i32_494 : BitVec 32 := 8#32
  let v837 : BitVec 32 := Scalar.muli arg15 c8_i32_494
  let c7_i32_495 : BitVec 32 := 7#32
  let v838 : BitVec 32 := Scalar.addi v837 c7_i32_495
  let v842 : BitVec 32 := Scalar.muli c2_i32_498 v838
  let v843 : BitVec 32 := Scalar.addi v18 v842
  let c1_i32_499 : BitVec 32 := 1#32
  let v844 : BitVec 32 := Scalar.addi v843 c1_i32_499
  let c34559_i32_500 : BitVec 32 := 34559#32
  let v845 : BitVec 32 := Scalar.minsi v844 c34559_i32_500
  let v867 : Index := Scalar.indexCast v845
  ![v867.toNat]
def k0_off87 (v868 : BitVec 32) : Fin 2 → Nat :=
  let c7_i32_509 : BitVec 32 := 7#32
  let v869 : BitVec 32 := Scalar.muli v868 c7_i32_509
  let v870 : Index := Scalar.indexCast v869
  let c0_510 : Index := 0#32
  ![v870.toNat, 0]

def k0_chk33 (v868 : BitVec 32) : Prop :=
  (∀ a, (k0_off87 v868) a + S8x128.size a ≤ S8968x128.size a)
theorem k0_off87_inb : ∀ (v868 : BitVec 32) (k0_hw33 : k0_chk33 v868), ∀ a, (k0_off87 v868) a + S8x128.size a ≤ S8968x128.size a := fun v868 k0_hw33 => k0_hw33

def k0_off88 (k0_t4 : Fin k0_t4_loop.trips) : Fin 2 → Nat :=
  let c0_i32_9 : BitVec 32 := 0#32
  let c1_i32_10 : BitVec 32 := 1#32
  let arg15 : BitVec 32 := Scf.iv c0_i32_9 c1_i32_10 k0_t4
  let c8_i32_494 : BitVec 32 := 8#32
  let v837 : BitVec 32 := Scalar.muli arg15 c8_i32_494
  let c7_i32_495 : BitVec 32 := 7#32
  let v838 : BitVec 32 := Scalar.addi v837 c7_i32_495
  let c9_i32_511 : BitVec 32 := 9#32
  let v873 : BitVec 32 := Scalar.muli v838 c9_i32_511
  let v874 : Index := Scalar.indexCast v873
  let c0_512 : Index := 0#32
  ![v874.toNat, 0]
@[reducible] def k0_t5_loop (v4 : BitVec 32) (v7 : BitVec 32) : Scf.Loop 32 :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let v13 : BitVec 32 := Scalar.addi c0_i32_3 v12
  let c1_i32_6 : BitVec 32 := 1#32
  ⟨v16, v13, c1_i32_6⟩
@[reducible] def k0_t6_loop : Scf.Loop 32 :=
  let c0_i32_9 : BitVec 32 := 0#32
  let c16_i32 : BitVec 32 := 16#32
  let v19 : BitVec 32 := Scalar.addi c0_i32_9 c16_i32
  let c1_i32_10 : BitVec 32 := 1#32
  ⟨c0_i32_9, v19, c1_i32_10⟩
def k0_off89 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32 : BitVec 32 := 2#32
  let c0_i32_9 : BitVec 32 := 0#32
  let c1_i32_10 : BitVec 32 := 1#32
  let arg15 : BitVec 32 := Scf.iv c0_i32_9 c1_i32_10 k0_t6
  let c8_i32 : BitVec 32 := 8#32
  let v550 : BitVec 32 := Scalar.muli arg15 c8_i32
  let c0_i32_370 : BitVec 32 := 0#32
  let v551 : BitVec 32 := Scalar.addi v550 c0_i32_370
  let v552 : BitVec 32 := Scalar.muli c2_i32 v551
  let v553 : BitVec 32 := Scalar.addi v18 v552
  let c34559_i32 : BitVec 32 := 34559#32
  let v554 : BitVec 32 := Scalar.minsi v553 c34559_i32
  let v559 : Index := Scalar.indexCast v554
  ![v559.toNat]
def k0_off90 (v560 : BitVec 32) : Fin 2 → Nat :=
  let c9_i32 : BitVec 32 := 9#32
  let v561 : BitVec 32 := Scalar.muli v560 c9_i32
  let v562 : Index := Scalar.indexCast v561
  let c0_374 : Index := 0#32
  ![v562.toNat, 0]

def k0_chk34 (v560 : BitVec 32) : Prop :=
  (∀ a, (k0_off90 v560) a + S8x128.size a ≤ S11520x128.size a)
theorem k0_off90_inb : ∀ (v560 : BitVec 32) (k0_hw34 : k0_chk34 v560), ∀ a, (k0_off90 v560) a + S8x128.size a ≤ S11520x128.size a := fun v560 k0_hw34 => k0_hw34

def k0_off91 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_371 : BitVec 32 := 2#32
  let c0_i32_9 : BitVec 32 := 0#32
  let c1_i32_10 : BitVec 32 := 1#32
  let arg15 : BitVec 32 := Scf.iv c0_i32_9 c1_i32_10 k0_t6
  let c8_i32 : BitVec 32 := 8#32
  let v550 : BitVec 32 := Scalar.muli arg15 c8_i32
  let c0_i32_370 : BitVec 32 := 0#32
  let v551 : BitVec 32 := Scalar.addi v550 c0_i32_370
  let v555 : BitVec 32 := Scalar.muli c2_i32_371 v551
  let v556 : BitVec 32 := Scalar.addi v18 v555
  let c1_i32_372 : BitVec 32 := 1#32
  let v557 : BitVec 32 := Scalar.addi v556 c1_i32_372
  let c34559_i32_373 : BitVec 32 := 34559#32
  let v558 : BitVec 32 := Scalar.minsi v557 c34559_i32_373
  let v564 : Index := Scalar.indexCast v558
  ![v564.toNat]
def k0_off92 (v565 : BitVec 32) : Fin 2 → Nat :=
  let c9_i32_375 : BitVec 32 := 9#32
  let v566 : BitVec 32 := Scalar.muli v565 c9_i32_375
  let v567 : Index := Scalar.indexCast v566
  let c0_376 : Index := 0#32
  ![v567.toNat, 0]

def k0_chk35 (v565 : BitVec 32) : Prop :=
  (∀ a, (k0_off92 v565) a + S8x128.size a ≤ S11520x128.size a)
theorem k0_off92_inb : ∀ (v565 : BitVec 32) (k0_hw35 : k0_chk35 v565), ∀ a, (k0_off92 v565) a + S8x128.size a ≤ S11520x128.size a := fun v565 k0_hw35 => k0_hw35

def k0_off93 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32 : BitVec 32 := 8#32
  let v550 : BitVec 32 := Scalar.muli arg15 c8_i32
  let c0_i32_370 : BitVec 32 := 0#32
  let v551 : BitVec 32 := Scalar.addi v550 c0_i32_370
  let c9_i32_377 : BitVec 32 := 9#32
  let v570 : BitVec 32 := Scalar.muli v551 c9_i32_377
  let v571 : Index := Scalar.indexCast v570
  let c0_378 : Index := 0#32
  ![v571.toNat, 0]
def k0_off94 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32 : BitVec 32 := 2#32
  let c0_i32_9 : BitVec 32 := 0#32
  let c1_i32_10 : BitVec 32 := 1#32
  let arg15 : BitVec 32 := Scf.iv c0_i32_9 c1_i32_10 k0_t6
  let c8_i32 : BitVec 32 := 8#32
  let v550 : BitVec 32 := Scalar.muli arg15 c8_i32
  let c0_i32_370 : BitVec 32 := 0#32
  let v551 : BitVec 32 := Scalar.addi v550 c0_i32_370
  let v552 : BitVec 32 := Scalar.muli c2_i32 v551
  let v553 : BitVec 32 := Scalar.addi v18 v552
  let c34559_i32 : BitVec 32 := 34559#32
  let v554 : BitVec 32 := Scalar.minsi v553 c34559_i32
  let v575 : Index := Scalar.indexCast v554
  ![v575.toNat]
def k0_off95 (v576 : BitVec 32) : Fin 2 → Nat :=
  let c7_i32 : BitVec 32 := 7#32
  let v577 : BitVec 32 := Scalar.muli v576 c7_i32
  let v578 : Index := Scalar.indexCast v577
  let c0_379 : Index := 0#32
  ![v578.toNat, 0]

def k0_chk36 (v576 : BitVec 32) : Prop :=
  (∀ a, (k0_off95 v576) a + S8x128.size a ≤ S8968x128.size a)
theorem k0_off95_inb : ∀ (v576 : BitVec 32) (k0_hw36 : k0_chk36 v576), ∀ a, (k0_off95 v576) a + S8x128.size a ≤ S8968x128.size a := fun v576 k0_hw36 => k0_hw36

def k0_off96 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_371 : BitVec 32 := 2#32
  let c0_i32_9 : BitVec 32 := 0#32
  let c1_i32_10 : BitVec 32 := 1#32
  let arg15 : BitVec 32 := Scf.iv c0_i32_9 c1_i32_10 k0_t6
  let c8_i32 : BitVec 32 := 8#32
  let v550 : BitVec 32 := Scalar.muli arg15 c8_i32
  let c0_i32_370 : BitVec 32 := 0#32
  let v551 : BitVec 32 := Scalar.addi v550 c0_i32_370
  let v555 : BitVec 32 := Scalar.muli c2_i32_371 v551
  let v556 : BitVec 32 := Scalar.addi v18 v555
  let c1_i32_372 : BitVec 32 := 1#32
  let v557 : BitVec 32 := Scalar.addi v556 c1_i32_372
  let c34559_i32_373 : BitVec 32 := 34559#32
  let v558 : BitVec 32 := Scalar.minsi v557 c34559_i32_373
  let v580 : Index := Scalar.indexCast v558
  ![v580.toNat]
def k0_off97 (v581 : BitVec 32) : Fin 2 → Nat :=
  let c7_i32_380 : BitVec 32 := 7#32
  let v582 : BitVec 32 := Scalar.muli v581 c7_i32_380
  let v583 : Index := Scalar.indexCast v582
  let c0_381 : Index := 0#32
  ![v583.toNat, 0]

def k0_chk37 (v581 : BitVec 32) : Prop :=
  (∀ a, (k0_off97 v581) a + S8x128.size a ≤ S8968x128.size a)
theorem k0_off97_inb : ∀ (v581 : BitVec 32) (k0_hw37 : k0_chk37 v581), ∀ a, (k0_off97 v581) a + S8x128.size a ≤ S8968x128.size a := fun v581 k0_hw37 => k0_hw37

def k0_off98 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32 : BitVec 32 := 8#32
  let v550 : BitVec 32 := Scalar.muli arg15 c8_i32
  let c0_i32_370 : BitVec 32 := 0#32
  let v551 : BitVec 32 := Scalar.addi v550 c0_i32_370
  let c9_i32_382 : BitVec 32 := 9#32
  let v586 : BitVec 32 := Scalar.muli v551 c9_i32_382
  let v587 : Index := Scalar.indexCast v586
  let c0_383 : Index := 0#32
  ![v587.toNat, 0]
def k0_off99 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_386 : BitVec 32 := 2#32
  let c0_i32_9 : BitVec 32 := 0#32
  let c1_i32_10 : BitVec 32 := 1#32
  let arg15 : BitVec 32 := Scf.iv c0_i32_9 c1_i32_10 k0_t6
  let c8_i32_384 : BitVec 32 := 8#32
  let v591 : BitVec 32 := Scalar.muli arg15 c8_i32_384
  let c1_i32_385 : BitVec 32 := 1#32
  let v592 : BitVec 32 := Scalar.addi v591 c1_i32_385
  let v593 : BitVec 32 := Scalar.muli c2_i32_386 v592
  let v594 : BitVec 32 := Scalar.addi v18 v593
  let c34559_i32_387 : BitVec 32 := 34559#32
  let v595 : BitVec 32 := Scalar.minsi v594 c34559_i32_387
  let v600 : Index := Scalar.indexCast v595
  ![v600.toNat]
def k0_off100 (v601 : BitVec 32) : Fin 2 → Nat :=
  let c9_i32_391 : BitVec 32 := 9#32
  let v602 : BitVec 32 := Scalar.muli v601 c9_i32_391
  let v603 : Index := Scalar.indexCast v602
  let c0_392 : Index := 0#32
  ![v603.toNat, 0]

def k0_chk38 (v601 : BitVec 32) : Prop :=
  (∀ a, (k0_off100 v601) a + S8x128.size a ≤ S11520x128.size a)
theorem k0_off100_inb : ∀ (v601 : BitVec 32) (k0_hw38 : k0_chk38 v601), ∀ a, (k0_off100 v601) a + S8x128.size a ≤ S11520x128.size a := fun v601 k0_hw38 => k0_hw38

def k0_off101 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_388 : BitVec 32 := 2#32
  let c0_i32_9 : BitVec 32 := 0#32
  let c1_i32_10 : BitVec 32 := 1#32
  let arg15 : BitVec 32 := Scf.iv c0_i32_9 c1_i32_10 k0_t6
  let c8_i32_384 : BitVec 32 := 8#32
  let v591 : BitVec 32 := Scalar.muli arg15 c8_i32_384
  let c1_i32_385 : BitVec 32 := 1#32
  let v592 : BitVec 32 := Scalar.addi v591 c1_i32_385
  let v596 : BitVec 32 := Scalar.muli c2_i32_388 v592
  let v597 : BitVec 32 := Scalar.addi v18 v596
  let c1_i32_389 : BitVec 32 := 1#32
  let v598 : BitVec 32 := Scalar.addi v597 c1_i32_389
  let c34559_i32_390 : BitVec 32 := 34559#32
  let v599 : BitVec 32 := Scalar.minsi v598 c34559_i32_390
  let v605 : Index := Scalar.indexCast v599
  ![v605.toNat]
def k0_off102 (v606 : BitVec 32) : Fin 2 → Nat :=
  let c9_i32_393 : BitVec 32 := 9#32
  let v607 : BitVec 32 := Scalar.muli v606 c9_i32_393
  let v608 : Index := Scalar.indexCast v607
  let c0_394 : Index := 0#32
  ![v608.toNat, 0]

def k0_chk39 (v606 : BitVec 32) : Prop :=
  (∀ a, (k0_off102 v606) a + S8x128.size a ≤ S11520x128.size a)
theorem k0_off102_inb : ∀ (v606 : BitVec 32) (k0_hw39 : k0_chk39 v606), ∀ a, (k0_off102 v606) a + S8x128.size a ≤ S11520x128.size a := fun v606 k0_hw39 => k0_hw39

def k0_off103 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32_384 : BitVec 32 := 8#32
  let v591 : BitVec 32 := Scalar.muli arg15 c8_i32_384
  let c1_i32_385 : BitVec 32 := 1#32
  let v592 : BitVec 32 := Scalar.addi v591 c1_i32_385
  let c9_i32_395 : BitVec 32 := 9#32
  let v611 : BitVec 32 := Scalar.muli v592 c9_i32_395
  let v612 : Index := Scalar.indexCast v611
  let c0_396 : Index := 0#32
  ![v612.toNat, 0]
def k0_off104 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_386 : BitVec 32 := 2#32
  let c0_i32_9 : BitVec 32 := 0#32
  let c1_i32_10 : BitVec 32 := 1#32
  let arg15 : BitVec 32 := Scf.iv c0_i32_9 c1_i32_10 k0_t6
  let c8_i32_384 : BitVec 32 := 8#32
  let v591 : BitVec 32 := Scalar.muli arg15 c8_i32_384
  let c1_i32_385 : BitVec 32 := 1#32
  let v592 : BitVec 32 := Scalar.addi v591 c1_i32_385
  let v593 : BitVec 32 := Scalar.muli c2_i32_386 v592
  let v594 : BitVec 32 := Scalar.addi v18 v593
  let c34559_i32_387 : BitVec 32 := 34559#32
  let v595 : BitVec 32 := Scalar.minsi v594 c34559_i32_387
  let v616 : Index := Scalar.indexCast v595
  ![v616.toNat]
def k0_off105 (v617 : BitVec 32) : Fin 2 → Nat :=
  let c7_i32_397 : BitVec 32 := 7#32
  let v618 : BitVec 32 := Scalar.muli v617 c7_i32_397
  let v619 : Index := Scalar.indexCast v618
  let c0_398 : Index := 0#32
  ![v619.toNat, 0]

def k0_chk40 (v617 : BitVec 32) : Prop :=
  (∀ a, (k0_off105 v617) a + S8x128.size a ≤ S8968x128.size a)
theorem k0_off105_inb : ∀ (v617 : BitVec 32) (k0_hw40 : k0_chk40 v617), ∀ a, (k0_off105 v617) a + S8x128.size a ≤ S8968x128.size a := fun v617 k0_hw40 => k0_hw40

def k0_off106 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_388 : BitVec 32 := 2#32
  let c0_i32_9 : BitVec 32 := 0#32
  let c1_i32_10 : BitVec 32 := 1#32
  let arg15 : BitVec 32 := Scf.iv c0_i32_9 c1_i32_10 k0_t6
  let c8_i32_384 : BitVec 32 := 8#32
  let v591 : BitVec 32 := Scalar.muli arg15 c8_i32_384
  let c1_i32_385 : BitVec 32 := 1#32
  let v592 : BitVec 32 := Scalar.addi v591 c1_i32_385
  let v596 : BitVec 32 := Scalar.muli c2_i32_388 v592
  let v597 : BitVec 32 := Scalar.addi v18 v596
  let c1_i32_389 : BitVec 32 := 1#32
  let v598 : BitVec 32 := Scalar.addi v597 c1_i32_389
  let c34559_i32_390 : BitVec 32 := 34559#32
  let v599 : BitVec 32 := Scalar.minsi v598 c34559_i32_390
  let v621 : Index := Scalar.indexCast v599
  ![v621.toNat]
def k0_off107 (v622 : BitVec 32) : Fin 2 → Nat :=
  let c7_i32_399 : BitVec 32 := 7#32
  let v623 : BitVec 32 := Scalar.muli v622 c7_i32_399
  let v624 : Index := Scalar.indexCast v623
  let c0_400 : Index := 0#32
  ![v624.toNat, 0]

def k0_chk41 (v622 : BitVec 32) : Prop :=
  (∀ a, (k0_off107 v622) a + S8x128.size a ≤ S8968x128.size a)
theorem k0_off107_inb : ∀ (v622 : BitVec 32) (k0_hw41 : k0_chk41 v622), ∀ a, (k0_off107 v622) a + S8x128.size a ≤ S8968x128.size a := fun v622 k0_hw41 => k0_hw41

def k0_off108 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32_384 : BitVec 32 := 8#32
  let v591 : BitVec 32 := Scalar.muli arg15 c8_i32_384
  let c1_i32_385 : BitVec 32 := 1#32
  let v592 : BitVec 32 := Scalar.addi v591 c1_i32_385
  let c9_i32_401 : BitVec 32 := 9#32
  let v627 : BitVec 32 := Scalar.muli v592 c9_i32_401
  let v628 : Index := Scalar.indexCast v627
  let c0_402 : Index := 0#32
  ![v628.toNat, 0]
def k0_off109 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_405 : BitVec 32 := 2#32
  let c0_i32_9 : BitVec 32 := 0#32
  let c1_i32_10 : BitVec 32 := 1#32
  let arg15 : BitVec 32 := Scf.iv c0_i32_9 c1_i32_10 k0_t6
  let c8_i32_403 : BitVec 32 := 8#32
  let v632 : BitVec 32 := Scalar.muli arg15 c8_i32_403
  let c2_i32_404 : BitVec 32 := 2#32
  let v633 : BitVec 32 := Scalar.addi v632 c2_i32_404
  let v634 : BitVec 32 := Scalar.muli c2_i32_405 v633
  let v635 : BitVec 32 := Scalar.addi v18 v634
  let c34559_i32_406 : BitVec 32 := 34559#32
  let v636 : BitVec 32 := Scalar.minsi v635 c34559_i32_406
  let v641 : Index := Scalar.indexCast v636
  ![v641.toNat]
def k0_off110 (v642 : BitVec 32) : Fin 2 → Nat :=
  let c9_i32_410 : BitVec 32 := 9#32
  let v643 : BitVec 32 := Scalar.muli v642 c9_i32_410
  let v644 : Index := Scalar.indexCast v643
  let c0_411 : Index := 0#32
  ![v644.toNat, 0]

def k0_chk42 (v642 : BitVec 32) : Prop :=
  (∀ a, (k0_off110 v642) a + S8x128.size a ≤ S11520x128.size a)
theorem k0_off110_inb : ∀ (v642 : BitVec 32) (k0_hw42 : k0_chk42 v642), ∀ a, (k0_off110 v642) a + S8x128.size a ≤ S11520x128.size a := fun v642 k0_hw42 => k0_hw42

def k0_off111 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_407 : BitVec 32 := 2#32
  let c0_i32_9 : BitVec 32 := 0#32
  let c1_i32_10 : BitVec 32 := 1#32
  let arg15 : BitVec 32 := Scf.iv c0_i32_9 c1_i32_10 k0_t6
  let c8_i32_403 : BitVec 32 := 8#32
  let v632 : BitVec 32 := Scalar.muli arg15 c8_i32_403
  let c2_i32_404 : BitVec 32 := 2#32
  let v633 : BitVec 32 := Scalar.addi v632 c2_i32_404
  let v637 : BitVec 32 := Scalar.muli c2_i32_407 v633
  let v638 : BitVec 32 := Scalar.addi v18 v637
  let c1_i32_408 : BitVec 32 := 1#32
  let v639 : BitVec 32 := Scalar.addi v638 c1_i32_408
  let c34559_i32_409 : BitVec 32 := 34559#32
  let v640 : BitVec 32 := Scalar.minsi v639 c34559_i32_409
  let v646 : Index := Scalar.indexCast v640
  ![v646.toNat]
def k0_off112 (v647 : BitVec 32) : Fin 2 → Nat :=
  let c9_i32_412 : BitVec 32 := 9#32
  let v648 : BitVec 32 := Scalar.muli v647 c9_i32_412
  let v649 : Index := Scalar.indexCast v648
  let c0_413 : Index := 0#32
  ![v649.toNat, 0]

def k0_chk43 (v647 : BitVec 32) : Prop :=
  (∀ a, (k0_off112 v647) a + S8x128.size a ≤ S11520x128.size a)
theorem k0_off112_inb : ∀ (v647 : BitVec 32) (k0_hw43 : k0_chk43 v647), ∀ a, (k0_off112 v647) a + S8x128.size a ≤ S11520x128.size a := fun v647 k0_hw43 => k0_hw43

def k0_off113 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32_403 : BitVec 32 := 8#32
  let v632 : BitVec 32 := Scalar.muli arg15 c8_i32_403
  let c2_i32_404 : BitVec 32 := 2#32
  let v633 : BitVec 32 := Scalar.addi v632 c2_i32_404
  let c9_i32_414 : BitVec 32 := 9#32
  let v652 : BitVec 32 := Scalar.muli v633 c9_i32_414
  let v653 : Index := Scalar.indexCast v652
  let c0_415 : Index := 0#32
  ![v653.toNat, 0]
def k0_off114 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_405 : BitVec 32 := 2#32
  let c0_i32_9 : BitVec 32 := 0#32
  let c1_i32_10 : BitVec 32 := 1#32
  let arg15 : BitVec 32 := Scf.iv c0_i32_9 c1_i32_10 k0_t6
  let c8_i32_403 : BitVec 32 := 8#32
  let v632 : BitVec 32 := Scalar.muli arg15 c8_i32_403
  let c2_i32_404 : BitVec 32 := 2#32
  let v633 : BitVec 32 := Scalar.addi v632 c2_i32_404
  let v634 : BitVec 32 := Scalar.muli c2_i32_405 v633
  let v635 : BitVec 32 := Scalar.addi v18 v634
  let c34559_i32_406 : BitVec 32 := 34559#32
  let v636 : BitVec 32 := Scalar.minsi v635 c34559_i32_406
  let v657 : Index := Scalar.indexCast v636
  ![v657.toNat]
def k0_off115 (v658 : BitVec 32) : Fin 2 → Nat :=
  let c7_i32_416 : BitVec 32 := 7#32
  let v659 : BitVec 32 := Scalar.muli v658 c7_i32_416
  let v660 : Index := Scalar.indexCast v659
  let c0_417 : Index := 0#32
  ![v660.toNat, 0]

def k0_chk44 (v658 : BitVec 32) : Prop :=
  (∀ a, (k0_off115 v658) a + S8x128.size a ≤ S8968x128.size a)
theorem k0_off115_inb : ∀ (v658 : BitVec 32) (k0_hw44 : k0_chk44 v658), ∀ a, (k0_off115 v658) a + S8x128.size a ≤ S8968x128.size a := fun v658 k0_hw44 => k0_hw44

def k0_off116 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_407 : BitVec 32 := 2#32
  let c0_i32_9 : BitVec 32 := 0#32
  let c1_i32_10 : BitVec 32 := 1#32
  let arg15 : BitVec 32 := Scf.iv c0_i32_9 c1_i32_10 k0_t6
  let c8_i32_403 : BitVec 32 := 8#32
  let v632 : BitVec 32 := Scalar.muli arg15 c8_i32_403
  let c2_i32_404 : BitVec 32 := 2#32
  let v633 : BitVec 32 := Scalar.addi v632 c2_i32_404
  let v637 : BitVec 32 := Scalar.muli c2_i32_407 v633
  let v638 : BitVec 32 := Scalar.addi v18 v637
  let c1_i32_408 : BitVec 32 := 1#32
  let v639 : BitVec 32 := Scalar.addi v638 c1_i32_408
  let c34559_i32_409 : BitVec 32 := 34559#32
  let v640 : BitVec 32 := Scalar.minsi v639 c34559_i32_409
  let v662 : Index := Scalar.indexCast v640
  ![v662.toNat]
def k0_off117 (v663 : BitVec 32) : Fin 2 → Nat :=
  let c7_i32_418 : BitVec 32 := 7#32
  let v664 : BitVec 32 := Scalar.muli v663 c7_i32_418
  let v665 : Index := Scalar.indexCast v664
  let c0_419 : Index := 0#32
  ![v665.toNat, 0]

def k0_chk45 (v663 : BitVec 32) : Prop :=
  (∀ a, (k0_off117 v663) a + S8x128.size a ≤ S8968x128.size a)
theorem k0_off117_inb : ∀ (v663 : BitVec 32) (k0_hw45 : k0_chk45 v663), ∀ a, (k0_off117 v663) a + S8x128.size a ≤ S8968x128.size a := fun v663 k0_hw45 => k0_hw45

def k0_off118 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32_403 : BitVec 32 := 8#32
  let v632 : BitVec 32 := Scalar.muli arg15 c8_i32_403
  let c2_i32_404 : BitVec 32 := 2#32
  let v633 : BitVec 32 := Scalar.addi v632 c2_i32_404
  let c9_i32_420 : BitVec 32 := 9#32
  let v668 : BitVec 32 := Scalar.muli v633 c9_i32_420
  let v669 : Index := Scalar.indexCast v668
  let c0_421 : Index := 0#32
  ![v669.toNat, 0]
def k0_off119 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_423 : BitVec 32 := 2#32
  let c0_i32_9 : BitVec 32 := 0#32
  let c1_i32_10 : BitVec 32 := 1#32
  let arg15 : BitVec 32 := Scf.iv c0_i32_9 c1_i32_10 k0_t6
  let c8_i32_422 : BitVec 32 := 8#32
  let v673 : BitVec 32 := Scalar.muli arg15 c8_i32_422
  let c3_i32 : BitVec 32 := 3#32
  let v674 : BitVec 32 := Scalar.addi v673 c3_i32
  let v675 : BitVec 32 := Scalar.muli c2_i32_423 v674
  let v676 : BitVec 32 := Scalar.addi v18 v675
  let c34559_i32_424 : BitVec 32 := 34559#32
  let v677 : BitVec 32 := Scalar.minsi v676 c34559_i32_424
  let v682 : Index := Scalar.indexCast v677
  ![v682.toNat]
def k0_off120 (v683 : BitVec 32) : Fin 2 → Nat :=
  let c9_i32_428 : BitVec 32 := 9#32
  let v684 : BitVec 32 := Scalar.muli v683 c9_i32_428
  let v685 : Index := Scalar.indexCast v684
  let c0_429 : Index := 0#32
  ![v685.toNat, 0]

def k0_chk46 (v683 : BitVec 32) : Prop :=
  (∀ a, (k0_off120 v683) a + S8x128.size a ≤ S11520x128.size a)
theorem k0_off120_inb : ∀ (v683 : BitVec 32) (k0_hw46 : k0_chk46 v683), ∀ a, (k0_off120 v683) a + S8x128.size a ≤ S11520x128.size a := fun v683 k0_hw46 => k0_hw46

def k0_off121 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_425 : BitVec 32 := 2#32
  let c0_i32_9 : BitVec 32 := 0#32
  let c1_i32_10 : BitVec 32 := 1#32
  let arg15 : BitVec 32 := Scf.iv c0_i32_9 c1_i32_10 k0_t6
  let c8_i32_422 : BitVec 32 := 8#32
  let v673 : BitVec 32 := Scalar.muli arg15 c8_i32_422
  let c3_i32 : BitVec 32 := 3#32
  let v674 : BitVec 32 := Scalar.addi v673 c3_i32
  let v678 : BitVec 32 := Scalar.muli c2_i32_425 v674
  let v679 : BitVec 32 := Scalar.addi v18 v678
  let c1_i32_426 : BitVec 32 := 1#32
  let v680 : BitVec 32 := Scalar.addi v679 c1_i32_426
  let c34559_i32_427 : BitVec 32 := 34559#32
  let v681 : BitVec 32 := Scalar.minsi v680 c34559_i32_427
  let v687 : Index := Scalar.indexCast v681
  ![v687.toNat]
def k0_off122 (v688 : BitVec 32) : Fin 2 → Nat :=
  let c9_i32_430 : BitVec 32 := 9#32
  let v689 : BitVec 32 := Scalar.muli v688 c9_i32_430
  let v690 : Index := Scalar.indexCast v689
  let c0_431 : Index := 0#32
  ![v690.toNat, 0]

def k0_chk47 (v688 : BitVec 32) : Prop :=
  (∀ a, (k0_off122 v688) a + S8x128.size a ≤ S11520x128.size a)
theorem k0_off122_inb : ∀ (v688 : BitVec 32) (k0_hw47 : k0_chk47 v688), ∀ a, (k0_off122 v688) a + S8x128.size a ≤ S11520x128.size a := fun v688 k0_hw47 => k0_hw47

def k0_off123 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32_422 : BitVec 32 := 8#32
  let v673 : BitVec 32 := Scalar.muli arg15 c8_i32_422
  let c3_i32 : BitVec 32 := 3#32
  let v674 : BitVec 32 := Scalar.addi v673 c3_i32
  let c9_i32_432 : BitVec 32 := 9#32
  let v693 : BitVec 32 := Scalar.muli v674 c9_i32_432
  let v694 : Index := Scalar.indexCast v693
  let c0_433 : Index := 0#32
  ![v694.toNat, 0]
def k0_off124 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_423 : BitVec 32 := 2#32
  let c0_i32_9 : BitVec 32 := 0#32
  let c1_i32_10 : BitVec 32 := 1#32
  let arg15 : BitVec 32 := Scf.iv c0_i32_9 c1_i32_10 k0_t6
  let c8_i32_422 : BitVec 32 := 8#32
  let v673 : BitVec 32 := Scalar.muli arg15 c8_i32_422
  let c3_i32 : BitVec 32 := 3#32
  let v674 : BitVec 32 := Scalar.addi v673 c3_i32
  let v675 : BitVec 32 := Scalar.muli c2_i32_423 v674
  let v676 : BitVec 32 := Scalar.addi v18 v675
  let c34559_i32_424 : BitVec 32 := 34559#32
  let v677 : BitVec 32 := Scalar.minsi v676 c34559_i32_424
  let v698 : Index := Scalar.indexCast v677
  ![v698.toNat]
def k0_off125 (v699 : BitVec 32) : Fin 2 → Nat :=
  let c7_i32_434 : BitVec 32 := 7#32
  let v700 : BitVec 32 := Scalar.muli v699 c7_i32_434
  let v701 : Index := Scalar.indexCast v700
  let c0_435 : Index := 0#32
  ![v701.toNat, 0]

def k0_chk48 (v699 : BitVec 32) : Prop :=
  (∀ a, (k0_off125 v699) a + S8x128.size a ≤ S8968x128.size a)
theorem k0_off125_inb : ∀ (v699 : BitVec 32) (k0_hw48 : k0_chk48 v699), ∀ a, (k0_off125 v699) a + S8x128.size a ≤ S8968x128.size a := fun v699 k0_hw48 => k0_hw48

def k0_off126 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_425 : BitVec 32 := 2#32
  let c0_i32_9 : BitVec 32 := 0#32
  let c1_i32_10 : BitVec 32 := 1#32
  let arg15 : BitVec 32 := Scf.iv c0_i32_9 c1_i32_10 k0_t6
  let c8_i32_422 : BitVec 32 := 8#32
  let v673 : BitVec 32 := Scalar.muli arg15 c8_i32_422
  let c3_i32 : BitVec 32 := 3#32
  let v674 : BitVec 32 := Scalar.addi v673 c3_i32
  let v678 : BitVec 32 := Scalar.muli c2_i32_425 v674
  let v679 : BitVec 32 := Scalar.addi v18 v678
  let c1_i32_426 : BitVec 32 := 1#32
  let v680 : BitVec 32 := Scalar.addi v679 c1_i32_426
  let c34559_i32_427 : BitVec 32 := 34559#32
  let v681 : BitVec 32 := Scalar.minsi v680 c34559_i32_427
  let v703 : Index := Scalar.indexCast v681
  ![v703.toNat]
def k0_off127 (v704 : BitVec 32) : Fin 2 → Nat :=
  let c7_i32_436 : BitVec 32 := 7#32
  let v705 : BitVec 32 := Scalar.muli v704 c7_i32_436
  let v706 : Index := Scalar.indexCast v705
  let c0_437 : Index := 0#32
  ![v706.toNat, 0]

def k0_chk49 (v704 : BitVec 32) : Prop :=
  (∀ a, (k0_off127 v704) a + S8x128.size a ≤ S8968x128.size a)
theorem k0_off127_inb : ∀ (v704 : BitVec 32) (k0_hw49 : k0_chk49 v704), ∀ a, (k0_off127 v704) a + S8x128.size a ≤ S8968x128.size a := fun v704 k0_hw49 => k0_hw49

def k0_off128 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32_422 : BitVec 32 := 8#32
  let v673 : BitVec 32 := Scalar.muli arg15 c8_i32_422
  let c3_i32 : BitVec 32 := 3#32
  let v674 : BitVec 32 := Scalar.addi v673 c3_i32
  let c9_i32_438 : BitVec 32 := 9#32
  let v709 : BitVec 32 := Scalar.muli v674 c9_i32_438
  let v710 : Index := Scalar.indexCast v709
  let c0_439 : Index := 0#32
  ![v710.toNat, 0]
def k0_off129 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_441 : BitVec 32 := 2#32
  let c0_i32_9 : BitVec 32 := 0#32
  let c1_i32_10 : BitVec 32 := 1#32
  let arg15 : BitVec 32 := Scf.iv c0_i32_9 c1_i32_10 k0_t6
  let c8_i32_440 : BitVec 32 := 8#32
  let v714 : BitVec 32 := Scalar.muli arg15 c8_i32_440
  let c4_i32 : BitVec 32 := 4#32
  let v715 : BitVec 32 := Scalar.addi v714 c4_i32
  let v716 : BitVec 32 := Scalar.muli c2_i32_441 v715
  let v717 : BitVec 32 := Scalar.addi v18 v716
  let c34559_i32_442 : BitVec 32 := 34559#32
  let v718 : BitVec 32 := Scalar.minsi v717 c34559_i32_442
  let v723 : Index := Scalar.indexCast v718
  ![v723.toNat]
def k0_off130 (v724 : BitVec 32) : Fin 2 → Nat :=
  let c9_i32_446 : BitVec 32 := 9#32
  let v725 : BitVec 32 := Scalar.muli v724 c9_i32_446
  let v726 : Index := Scalar.indexCast v725
  let c0_447 : Index := 0#32
  ![v726.toNat, 0]

def k0_chk50 (v724 : BitVec 32) : Prop :=
  (∀ a, (k0_off130 v724) a + S8x128.size a ≤ S11520x128.size a)
theorem k0_off130_inb : ∀ (v724 : BitVec 32) (k0_hw50 : k0_chk50 v724), ∀ a, (k0_off130 v724) a + S8x128.size a ≤ S11520x128.size a := fun v724 k0_hw50 => k0_hw50

def k0_off131 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_443 : BitVec 32 := 2#32
  let c0_i32_9 : BitVec 32 := 0#32
  let c1_i32_10 : BitVec 32 := 1#32
  let arg15 : BitVec 32 := Scf.iv c0_i32_9 c1_i32_10 k0_t6
  let c8_i32_440 : BitVec 32 := 8#32
  let v714 : BitVec 32 := Scalar.muli arg15 c8_i32_440
  let c4_i32 : BitVec 32 := 4#32
  let v715 : BitVec 32 := Scalar.addi v714 c4_i32
  let v719 : BitVec 32 := Scalar.muli c2_i32_443 v715
  let v720 : BitVec 32 := Scalar.addi v18 v719
  let c1_i32_444 : BitVec 32 := 1#32
  let v721 : BitVec 32 := Scalar.addi v720 c1_i32_444
  let c34559_i32_445 : BitVec 32 := 34559#32
  let v722 : BitVec 32 := Scalar.minsi v721 c34559_i32_445
  let v728 : Index := Scalar.indexCast v722
  ![v728.toNat]
def k0_off132 (v729 : BitVec 32) : Fin 2 → Nat :=
  let c9_i32_448 : BitVec 32 := 9#32
  let v730 : BitVec 32 := Scalar.muli v729 c9_i32_448
  let v731 : Index := Scalar.indexCast v730
  let c0_449 : Index := 0#32
  ![v731.toNat, 0]

def k0_chk51 (v729 : BitVec 32) : Prop :=
  (∀ a, (k0_off132 v729) a + S8x128.size a ≤ S11520x128.size a)
theorem k0_off132_inb : ∀ (v729 : BitVec 32) (k0_hw51 : k0_chk51 v729), ∀ a, (k0_off132 v729) a + S8x128.size a ≤ S11520x128.size a := fun v729 k0_hw51 => k0_hw51

def k0_off133 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32_440 : BitVec 32 := 8#32
  let v714 : BitVec 32 := Scalar.muli arg15 c8_i32_440
  let c4_i32 : BitVec 32 := 4#32
  let v715 : BitVec 32 := Scalar.addi v714 c4_i32
  let c9_i32_450 : BitVec 32 := 9#32
  let v734 : BitVec 32 := Scalar.muli v715 c9_i32_450
  let v735 : Index := Scalar.indexCast v734
  let c0_451 : Index := 0#32
  ![v735.toNat, 0]
def k0_off134 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_441 : BitVec 32 := 2#32
  let c0_i32_9 : BitVec 32 := 0#32
  let c1_i32_10 : BitVec 32 := 1#32
  let arg15 : BitVec 32 := Scf.iv c0_i32_9 c1_i32_10 k0_t6
  let c8_i32_440 : BitVec 32 := 8#32
  let v714 : BitVec 32 := Scalar.muli arg15 c8_i32_440
  let c4_i32 : BitVec 32 := 4#32
  let v715 : BitVec 32 := Scalar.addi v714 c4_i32
  let v716 : BitVec 32 := Scalar.muli c2_i32_441 v715
  let v717 : BitVec 32 := Scalar.addi v18 v716
  let c34559_i32_442 : BitVec 32 := 34559#32
  let v718 : BitVec 32 := Scalar.minsi v717 c34559_i32_442
  let v739 : Index := Scalar.indexCast v718
  ![v739.toNat]
def k0_off135 (v740 : BitVec 32) : Fin 2 → Nat :=
  let c7_i32_452 : BitVec 32 := 7#32
  let v741 : BitVec 32 := Scalar.muli v740 c7_i32_452
  let v742 : Index := Scalar.indexCast v741
  let c0_453 : Index := 0#32
  ![v742.toNat, 0]

def k0_chk52 (v740 : BitVec 32) : Prop :=
  (∀ a, (k0_off135 v740) a + S8x128.size a ≤ S8968x128.size a)
theorem k0_off135_inb : ∀ (v740 : BitVec 32) (k0_hw52 : k0_chk52 v740), ∀ a, (k0_off135 v740) a + S8x128.size a ≤ S8968x128.size a := fun v740 k0_hw52 => k0_hw52

def k0_off136 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_443 : BitVec 32 := 2#32
  let c0_i32_9 : BitVec 32 := 0#32
  let c1_i32_10 : BitVec 32 := 1#32
  let arg15 : BitVec 32 := Scf.iv c0_i32_9 c1_i32_10 k0_t6
  let c8_i32_440 : BitVec 32 := 8#32
  let v714 : BitVec 32 := Scalar.muli arg15 c8_i32_440
  let c4_i32 : BitVec 32 := 4#32
  let v715 : BitVec 32 := Scalar.addi v714 c4_i32
  let v719 : BitVec 32 := Scalar.muli c2_i32_443 v715
  let v720 : BitVec 32 := Scalar.addi v18 v719
  let c1_i32_444 : BitVec 32 := 1#32
  let v721 : BitVec 32 := Scalar.addi v720 c1_i32_444
  let c34559_i32_445 : BitVec 32 := 34559#32
  let v722 : BitVec 32 := Scalar.minsi v721 c34559_i32_445
  let v744 : Index := Scalar.indexCast v722
  ![v744.toNat]
def k0_off137 (v745 : BitVec 32) : Fin 2 → Nat :=
  let c7_i32_454 : BitVec 32 := 7#32
  let v746 : BitVec 32 := Scalar.muli v745 c7_i32_454
  let v747 : Index := Scalar.indexCast v746
  let c0_455 : Index := 0#32
  ![v747.toNat, 0]

def k0_chk53 (v745 : BitVec 32) : Prop :=
  (∀ a, (k0_off137 v745) a + S8x128.size a ≤ S8968x128.size a)
theorem k0_off137_inb : ∀ (v745 : BitVec 32) (k0_hw53 : k0_chk53 v745), ∀ a, (k0_off137 v745) a + S8x128.size a ≤ S8968x128.size a := fun v745 k0_hw53 => k0_hw53

def k0_off138 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32_440 : BitVec 32 := 8#32
  let v714 : BitVec 32 := Scalar.muli arg15 c8_i32_440
  let c4_i32 : BitVec 32 := 4#32
  let v715 : BitVec 32 := Scalar.addi v714 c4_i32
  let c9_i32_456 : BitVec 32 := 9#32
  let v750 : BitVec 32 := Scalar.muli v715 c9_i32_456
  let v751 : Index := Scalar.indexCast v750
  let c0_457 : Index := 0#32
  ![v751.toNat, 0]
def k0_off139 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_459 : BitVec 32 := 2#32
  let c0_i32_9 : BitVec 32 := 0#32
  let c1_i32_10 : BitVec 32 := 1#32
  let arg15 : BitVec 32 := Scf.iv c0_i32_9 c1_i32_10 k0_t6
  let c8_i32_458 : BitVec 32 := 8#32
  let v755 : BitVec 32 := Scalar.muli arg15 c8_i32_458
  let c5_i32 : BitVec 32 := 5#32
  let v756 : BitVec 32 := Scalar.addi v755 c5_i32
  let v757 : BitVec 32 := Scalar.muli c2_i32_459 v756
  let v758 : BitVec 32 := Scalar.addi v18 v757
  let c34559_i32_460 : BitVec 32 := 34559#32
  let v759 : BitVec 32 := Scalar.minsi v758 c34559_i32_460
  let v764 : Index := Scalar.indexCast v759
  ![v764.toNat]
def k0_off140 (v765 : BitVec 32) : Fin 2 → Nat :=
  let c9_i32_464 : BitVec 32 := 9#32
  let v766 : BitVec 32 := Scalar.muli v765 c9_i32_464
  let v767 : Index := Scalar.indexCast v766
  let c0_465 : Index := 0#32
  ![v767.toNat, 0]

def k0_chk54 (v765 : BitVec 32) : Prop :=
  (∀ a, (k0_off140 v765) a + S8x128.size a ≤ S11520x128.size a)
theorem k0_off140_inb : ∀ (v765 : BitVec 32) (k0_hw54 : k0_chk54 v765), ∀ a, (k0_off140 v765) a + S8x128.size a ≤ S11520x128.size a := fun v765 k0_hw54 => k0_hw54

def k0_off141 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_461 : BitVec 32 := 2#32
  let c0_i32_9 : BitVec 32 := 0#32
  let c1_i32_10 : BitVec 32 := 1#32
  let arg15 : BitVec 32 := Scf.iv c0_i32_9 c1_i32_10 k0_t6
  let c8_i32_458 : BitVec 32 := 8#32
  let v755 : BitVec 32 := Scalar.muli arg15 c8_i32_458
  let c5_i32 : BitVec 32 := 5#32
  let v756 : BitVec 32 := Scalar.addi v755 c5_i32
  let v760 : BitVec 32 := Scalar.muli c2_i32_461 v756
  let v761 : BitVec 32 := Scalar.addi v18 v760
  let c1_i32_462 : BitVec 32 := 1#32
  let v762 : BitVec 32 := Scalar.addi v761 c1_i32_462
  let c34559_i32_463 : BitVec 32 := 34559#32
  let v763 : BitVec 32 := Scalar.minsi v762 c34559_i32_463
  let v769 : Index := Scalar.indexCast v763
  ![v769.toNat]
def k0_off142 (v770 : BitVec 32) : Fin 2 → Nat :=
  let c9_i32_466 : BitVec 32 := 9#32
  let v771 : BitVec 32 := Scalar.muli v770 c9_i32_466
  let v772 : Index := Scalar.indexCast v771
  let c0_467 : Index := 0#32
  ![v772.toNat, 0]

def k0_chk55 (v770 : BitVec 32) : Prop :=
  (∀ a, (k0_off142 v770) a + S8x128.size a ≤ S11520x128.size a)
theorem k0_off142_inb : ∀ (v770 : BitVec 32) (k0_hw55 : k0_chk55 v770), ∀ a, (k0_off142 v770) a + S8x128.size a ≤ S11520x128.size a := fun v770 k0_hw55 => k0_hw55

def k0_off143 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32_458 : BitVec 32 := 8#32
  let v755 : BitVec 32 := Scalar.muli arg15 c8_i32_458
  let c5_i32 : BitVec 32 := 5#32
  let v756 : BitVec 32 := Scalar.addi v755 c5_i32
  let c9_i32_468 : BitVec 32 := 9#32
  let v775 : BitVec 32 := Scalar.muli v756 c9_i32_468
  let v776 : Index := Scalar.indexCast v775
  let c0_469 : Index := 0#32
  ![v776.toNat, 0]
def k0_off144 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_459 : BitVec 32 := 2#32
  let c0_i32_9 : BitVec 32 := 0#32
  let c1_i32_10 : BitVec 32 := 1#32
  let arg15 : BitVec 32 := Scf.iv c0_i32_9 c1_i32_10 k0_t6
  let c8_i32_458 : BitVec 32 := 8#32
  let v755 : BitVec 32 := Scalar.muli arg15 c8_i32_458
  let c5_i32 : BitVec 32 := 5#32
  let v756 : BitVec 32 := Scalar.addi v755 c5_i32
  let v757 : BitVec 32 := Scalar.muli c2_i32_459 v756
  let v758 : BitVec 32 := Scalar.addi v18 v757
  let c34559_i32_460 : BitVec 32 := 34559#32
  let v759 : BitVec 32 := Scalar.minsi v758 c34559_i32_460
  let v780 : Index := Scalar.indexCast v759
  ![v780.toNat]
def k0_off145 (v781 : BitVec 32) : Fin 2 → Nat :=
  let c7_i32_470 : BitVec 32 := 7#32
  let v782 : BitVec 32 := Scalar.muli v781 c7_i32_470
  let v783 : Index := Scalar.indexCast v782
  let c0_471 : Index := 0#32
  ![v783.toNat, 0]

def k0_chk56 (v781 : BitVec 32) : Prop :=
  (∀ a, (k0_off145 v781) a + S8x128.size a ≤ S8968x128.size a)
theorem k0_off145_inb : ∀ (v781 : BitVec 32) (k0_hw56 : k0_chk56 v781), ∀ a, (k0_off145 v781) a + S8x128.size a ≤ S8968x128.size a := fun v781 k0_hw56 => k0_hw56

def k0_off146 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_461 : BitVec 32 := 2#32
  let c0_i32_9 : BitVec 32 := 0#32
  let c1_i32_10 : BitVec 32 := 1#32
  let arg15 : BitVec 32 := Scf.iv c0_i32_9 c1_i32_10 k0_t6
  let c8_i32_458 : BitVec 32 := 8#32
  let v755 : BitVec 32 := Scalar.muli arg15 c8_i32_458
  let c5_i32 : BitVec 32 := 5#32
  let v756 : BitVec 32 := Scalar.addi v755 c5_i32
  let v760 : BitVec 32 := Scalar.muli c2_i32_461 v756
  let v761 : BitVec 32 := Scalar.addi v18 v760
  let c1_i32_462 : BitVec 32 := 1#32
  let v762 : BitVec 32 := Scalar.addi v761 c1_i32_462
  let c34559_i32_463 : BitVec 32 := 34559#32
  let v763 : BitVec 32 := Scalar.minsi v762 c34559_i32_463
  let v785 : Index := Scalar.indexCast v763
  ![v785.toNat]
def k0_off147 (v786 : BitVec 32) : Fin 2 → Nat :=
  let c7_i32_472 : BitVec 32 := 7#32
  let v787 : BitVec 32 := Scalar.muli v786 c7_i32_472
  let v788 : Index := Scalar.indexCast v787
  let c0_473 : Index := 0#32
  ![v788.toNat, 0]

def k0_chk57 (v786 : BitVec 32) : Prop :=
  (∀ a, (k0_off147 v786) a + S8x128.size a ≤ S8968x128.size a)
theorem k0_off147_inb : ∀ (v786 : BitVec 32) (k0_hw57 : k0_chk57 v786), ∀ a, (k0_off147 v786) a + S8x128.size a ≤ S8968x128.size a := fun v786 k0_hw57 => k0_hw57

def k0_off148 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32_458 : BitVec 32 := 8#32
  let v755 : BitVec 32 := Scalar.muli arg15 c8_i32_458
  let c5_i32 : BitVec 32 := 5#32
  let v756 : BitVec 32 := Scalar.addi v755 c5_i32
  let c9_i32_474 : BitVec 32 := 9#32
  let v791 : BitVec 32 := Scalar.muli v756 c9_i32_474
  let v792 : Index := Scalar.indexCast v791
  let c0_475 : Index := 0#32
  ![v792.toNat, 0]
def k0_off149 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_477 : BitVec 32 := 2#32
  let c0_i32_9 : BitVec 32 := 0#32
  let c1_i32_10 : BitVec 32 := 1#32
  let arg15 : BitVec 32 := Scf.iv c0_i32_9 c1_i32_10 k0_t6
  let c8_i32_476 : BitVec 32 := 8#32
  let v796 : BitVec 32 := Scalar.muli arg15 c8_i32_476
  let c6_i32 : BitVec 32 := 6#32
  let v797 : BitVec 32 := Scalar.addi v796 c6_i32
  let v798 : BitVec 32 := Scalar.muli c2_i32_477 v797
  let v799 : BitVec 32 := Scalar.addi v18 v798
  let c34559_i32_478 : BitVec 32 := 34559#32
  let v800 : BitVec 32 := Scalar.minsi v799 c34559_i32_478
  let v805 : Index := Scalar.indexCast v800
  ![v805.toNat]
def k0_off150 (v806 : BitVec 32) : Fin 2 → Nat :=
  let c9_i32_482 : BitVec 32 := 9#32
  let v807 : BitVec 32 := Scalar.muli v806 c9_i32_482
  let v808 : Index := Scalar.indexCast v807
  let c0_483 : Index := 0#32
  ![v808.toNat, 0]

def k0_chk58 (v806 : BitVec 32) : Prop :=
  (∀ a, (k0_off150 v806) a + S8x128.size a ≤ S11520x128.size a)
theorem k0_off150_inb : ∀ (v806 : BitVec 32) (k0_hw58 : k0_chk58 v806), ∀ a, (k0_off150 v806) a + S8x128.size a ≤ S11520x128.size a := fun v806 k0_hw58 => k0_hw58

def k0_off151 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_479 : BitVec 32 := 2#32
  let c0_i32_9 : BitVec 32 := 0#32
  let c1_i32_10 : BitVec 32 := 1#32
  let arg15 : BitVec 32 := Scf.iv c0_i32_9 c1_i32_10 k0_t6
  let c8_i32_476 : BitVec 32 := 8#32
  let v796 : BitVec 32 := Scalar.muli arg15 c8_i32_476
  let c6_i32 : BitVec 32 := 6#32
  let v797 : BitVec 32 := Scalar.addi v796 c6_i32
  let v801 : BitVec 32 := Scalar.muli c2_i32_479 v797
  let v802 : BitVec 32 := Scalar.addi v18 v801
  let c1_i32_480 : BitVec 32 := 1#32
  let v803 : BitVec 32 := Scalar.addi v802 c1_i32_480
  let c34559_i32_481 : BitVec 32 := 34559#32
  let v804 : BitVec 32 := Scalar.minsi v803 c34559_i32_481
  let v810 : Index := Scalar.indexCast v804
  ![v810.toNat]
def k0_off152 (v811 : BitVec 32) : Fin 2 → Nat :=
  let c9_i32_484 : BitVec 32 := 9#32
  let v812 : BitVec 32 := Scalar.muli v811 c9_i32_484
  let v813 : Index := Scalar.indexCast v812
  let c0_485 : Index := 0#32
  ![v813.toNat, 0]

def k0_chk59 (v811 : BitVec 32) : Prop :=
  (∀ a, (k0_off152 v811) a + S8x128.size a ≤ S11520x128.size a)
theorem k0_off152_inb : ∀ (v811 : BitVec 32) (k0_hw59 : k0_chk59 v811), ∀ a, (k0_off152 v811) a + S8x128.size a ≤ S11520x128.size a := fun v811 k0_hw59 => k0_hw59

def k0_off153 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32_476 : BitVec 32 := 8#32
  let v796 : BitVec 32 := Scalar.muli arg15 c8_i32_476
  let c6_i32 : BitVec 32 := 6#32
  let v797 : BitVec 32 := Scalar.addi v796 c6_i32
  let c9_i32_486 : BitVec 32 := 9#32
  let v816 : BitVec 32 := Scalar.muli v797 c9_i32_486
  let v817 : Index := Scalar.indexCast v816
  let c0_487 : Index := 0#32
  ![v817.toNat, 0]
def k0_off154 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_477 : BitVec 32 := 2#32
  let c0_i32_9 : BitVec 32 := 0#32
  let c1_i32_10 : BitVec 32 := 1#32
  let arg15 : BitVec 32 := Scf.iv c0_i32_9 c1_i32_10 k0_t6
  let c8_i32_476 : BitVec 32 := 8#32
  let v796 : BitVec 32 := Scalar.muli arg15 c8_i32_476
  let c6_i32 : BitVec 32 := 6#32
  let v797 : BitVec 32 := Scalar.addi v796 c6_i32
  let v798 : BitVec 32 := Scalar.muli c2_i32_477 v797
  let v799 : BitVec 32 := Scalar.addi v18 v798
  let c34559_i32_478 : BitVec 32 := 34559#32
  let v800 : BitVec 32 := Scalar.minsi v799 c34559_i32_478
  let v821 : Index := Scalar.indexCast v800
  ![v821.toNat]
def k0_off155 (v822 : BitVec 32) : Fin 2 → Nat :=
  let c7_i32_488 : BitVec 32 := 7#32
  let v823 : BitVec 32 := Scalar.muli v822 c7_i32_488
  let v824 : Index := Scalar.indexCast v823
  let c0_489 : Index := 0#32
  ![v824.toNat, 0]

def k0_chk60 (v822 : BitVec 32) : Prop :=
  (∀ a, (k0_off155 v822) a + S8x128.size a ≤ S8968x128.size a)
theorem k0_off155_inb : ∀ (v822 : BitVec 32) (k0_hw60 : k0_chk60 v822), ∀ a, (k0_off155 v822) a + S8x128.size a ≤ S8968x128.size a := fun v822 k0_hw60 => k0_hw60

def k0_off156 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_479 : BitVec 32 := 2#32
  let c0_i32_9 : BitVec 32 := 0#32
  let c1_i32_10 : BitVec 32 := 1#32
  let arg15 : BitVec 32 := Scf.iv c0_i32_9 c1_i32_10 k0_t6
  let c8_i32_476 : BitVec 32 := 8#32
  let v796 : BitVec 32 := Scalar.muli arg15 c8_i32_476
  let c6_i32 : BitVec 32 := 6#32
  let v797 : BitVec 32 := Scalar.addi v796 c6_i32
  let v801 : BitVec 32 := Scalar.muli c2_i32_479 v797
  let v802 : BitVec 32 := Scalar.addi v18 v801
  let c1_i32_480 : BitVec 32 := 1#32
  let v803 : BitVec 32 := Scalar.addi v802 c1_i32_480
  let c34559_i32_481 : BitVec 32 := 34559#32
  let v804 : BitVec 32 := Scalar.minsi v803 c34559_i32_481
  let v826 : Index := Scalar.indexCast v804
  ![v826.toNat]
def k0_off157 (v827 : BitVec 32) : Fin 2 → Nat :=
  let c7_i32_490 : BitVec 32 := 7#32
  let v828 : BitVec 32 := Scalar.muli v827 c7_i32_490
  let v829 : Index := Scalar.indexCast v828
  let c0_491 : Index := 0#32
  ![v829.toNat, 0]

def k0_chk61 (v827 : BitVec 32) : Prop :=
  (∀ a, (k0_off157 v827) a + S8x128.size a ≤ S8968x128.size a)
theorem k0_off157_inb : ∀ (v827 : BitVec 32) (k0_hw61 : k0_chk61 v827), ∀ a, (k0_off157 v827) a + S8x128.size a ≤ S8968x128.size a := fun v827 k0_hw61 => k0_hw61

def k0_off158 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32_476 : BitVec 32 := 8#32
  let v796 : BitVec 32 := Scalar.muli arg15 c8_i32_476
  let c6_i32 : BitVec 32 := 6#32
  let v797 : BitVec 32 := Scalar.addi v796 c6_i32
  let c9_i32_492 : BitVec 32 := 9#32
  let v832 : BitVec 32 := Scalar.muli v797 c9_i32_492
  let v833 : Index := Scalar.indexCast v832
  let c0_493 : Index := 0#32
  ![v833.toNat, 0]
def k0_off159 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_496 : BitVec 32 := 2#32
  let c0_i32_9 : BitVec 32 := 0#32
  let c1_i32_10 : BitVec 32 := 1#32
  let arg15 : BitVec 32 := Scf.iv c0_i32_9 c1_i32_10 k0_t6
  let c8_i32_494 : BitVec 32 := 8#32
  let v837 : BitVec 32 := Scalar.muli arg15 c8_i32_494
  let c7_i32_495 : BitVec 32 := 7#32
  let v838 : BitVec 32 := Scalar.addi v837 c7_i32_495
  let v839 : BitVec 32 := Scalar.muli c2_i32_496 v838
  let v840 : BitVec 32 := Scalar.addi v18 v839
  let c34559_i32_497 : BitVec 32 := 34559#32
  let v841 : BitVec 32 := Scalar.minsi v840 c34559_i32_497
  let v846 : Index := Scalar.indexCast v841
  ![v846.toNat]
def k0_off160 (v847 : BitVec 32) : Fin 2 → Nat :=
  let c9_i32_501 : BitVec 32 := 9#32
  let v848 : BitVec 32 := Scalar.muli v847 c9_i32_501
  let v849 : Index := Scalar.indexCast v848
  let c0_502 : Index := 0#32
  ![v849.toNat, 0]

def k0_chk62 (v847 : BitVec 32) : Prop :=
  (∀ a, (k0_off160 v847) a + S8x128.size a ≤ S11520x128.size a)
theorem k0_off160_inb : ∀ (v847 : BitVec 32) (k0_hw62 : k0_chk62 v847), ∀ a, (k0_off160 v847) a + S8x128.size a ≤ S11520x128.size a := fun v847 k0_hw62 => k0_hw62

def k0_off161 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_498 : BitVec 32 := 2#32
  let c0_i32_9 : BitVec 32 := 0#32
  let c1_i32_10 : BitVec 32 := 1#32
  let arg15 : BitVec 32 := Scf.iv c0_i32_9 c1_i32_10 k0_t6
  let c8_i32_494 : BitVec 32 := 8#32
  let v837 : BitVec 32 := Scalar.muli arg15 c8_i32_494
  let c7_i32_495 : BitVec 32 := 7#32
  let v838 : BitVec 32 := Scalar.addi v837 c7_i32_495
  let v842 : BitVec 32 := Scalar.muli c2_i32_498 v838
  let v843 : BitVec 32 := Scalar.addi v18 v842
  let c1_i32_499 : BitVec 32 := 1#32
  let v844 : BitVec 32 := Scalar.addi v843 c1_i32_499
  let c34559_i32_500 : BitVec 32 := 34559#32
  let v845 : BitVec 32 := Scalar.minsi v844 c34559_i32_500
  let v851 : Index := Scalar.indexCast v845
  ![v851.toNat]
def k0_off162 (v852 : BitVec 32) : Fin 2 → Nat :=
  let c9_i32_503 : BitVec 32 := 9#32
  let v853 : BitVec 32 := Scalar.muli v852 c9_i32_503
  let v854 : Index := Scalar.indexCast v853
  let c0_504 : Index := 0#32
  ![v854.toNat, 0]

def k0_chk63 (v852 : BitVec 32) : Prop :=
  (∀ a, (k0_off162 v852) a + S8x128.size a ≤ S11520x128.size a)
theorem k0_off162_inb : ∀ (v852 : BitVec 32) (k0_hw63 : k0_chk63 v852), ∀ a, (k0_off162 v852) a + S8x128.size a ≤ S11520x128.size a := fun v852 k0_hw63 => k0_hw63

def k0_off163 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32_494 : BitVec 32 := 8#32
  let v837 : BitVec 32 := Scalar.muli arg15 c8_i32_494
  let c7_i32_495 : BitVec 32 := 7#32
  let v838 : BitVec 32 := Scalar.addi v837 c7_i32_495
  let c9_i32_505 : BitVec 32 := 9#32
  let v857 : BitVec 32 := Scalar.muli v838 c9_i32_505
  let v858 : Index := Scalar.indexCast v857
  let c0_506 : Index := 0#32
  ![v858.toNat, 0]
def k0_off164 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_496 : BitVec 32 := 2#32
  let c0_i32_9 : BitVec 32 := 0#32
  let c1_i32_10 : BitVec 32 := 1#32
  let arg15 : BitVec 32 := Scf.iv c0_i32_9 c1_i32_10 k0_t6
  let c8_i32_494 : BitVec 32 := 8#32
  let v837 : BitVec 32 := Scalar.muli arg15 c8_i32_494
  let c7_i32_495 : BitVec 32 := 7#32
  let v838 : BitVec 32 := Scalar.addi v837 c7_i32_495
  let v839 : BitVec 32 := Scalar.muli c2_i32_496 v838
  let v840 : BitVec 32 := Scalar.addi v18 v839
  let c34559_i32_497 : BitVec 32 := 34559#32
  let v841 : BitVec 32 := Scalar.minsi v840 c34559_i32_497
  let v862 : Index := Scalar.indexCast v841
  ![v862.toNat]
def k0_off165 (v863 : BitVec 32) : Fin 2 → Nat :=
  let c7_i32_507 : BitVec 32 := 7#32
  let v864 : BitVec 32 := Scalar.muli v863 c7_i32_507
  let v865 : Index := Scalar.indexCast v864
  let c0_508 : Index := 0#32
  ![v865.toNat, 0]

def k0_chk64 (v863 : BitVec 32) : Prop :=
  (∀ a, (k0_off165 v863) a + S8x128.size a ≤ S8968x128.size a)
theorem k0_off165_inb : ∀ (v863 : BitVec 32) (k0_hw64 : k0_chk64 v863), ∀ a, (k0_off165 v863) a + S8x128.size a ≤ S8968x128.size a := fun v863 k0_hw64 => k0_hw64

def k0_off166 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_498 : BitVec 32 := 2#32
  let c0_i32_9 : BitVec 32 := 0#32
  let c1_i32_10 : BitVec 32 := 1#32
  let arg15 : BitVec 32 := Scf.iv c0_i32_9 c1_i32_10 k0_t6
  let c8_i32_494 : BitVec 32 := 8#32
  let v837 : BitVec 32 := Scalar.muli arg15 c8_i32_494
  let c7_i32_495 : BitVec 32 := 7#32
  let v838 : BitVec 32 := Scalar.addi v837 c7_i32_495
  let v842 : BitVec 32 := Scalar.muli c2_i32_498 v838
  let v843 : BitVec 32 := Scalar.addi v18 v842
  let c1_i32_499 : BitVec 32 := 1#32
  let v844 : BitVec 32 := Scalar.addi v843 c1_i32_499
  let c34559_i32_500 : BitVec 32 := 34559#32
  let v845 : BitVec 32 := Scalar.minsi v844 c34559_i32_500
  let v867 : Index := Scalar.indexCast v845
  ![v867.toNat]

def k0_chk1_0 (v4 : BitVec 32) (v7 : BitVec 32) : Prop :=
  ((k0_t3_loop v4 v7).OK) ∧
  (∀ (k0_t3 : Fin (k0_t3_loop v4 v7).trips) (k0_t4 : Fin k0_t4_loop.trips), ∀ a, (k0_off9 v4 v7 k0_t3 k0_t4) a + S1.size a ≤ S34560.size a) ∧
  (∀ (k0_t3 : Fin (k0_t3_loop v4 v7).trips) (k0_t4 : Fin k0_t4_loop.trips), ∀ a, (k0_off11 v4 v7 k0_t3 k0_t4) a + S1.size a ≤ S34560.size a) ∧
  (∀ (k0_t3 : Fin (k0_t3_loop v4 v7).trips) (k0_t4 : Fin k0_t4_loop.trips), ∀ a, (k0_off14 v4 v7 k0_t3 k0_t4) a + S1.size a ≤ S34560.size a) ∧
  (∀ (k0_t3 : Fin (k0_t3_loop v4 v7).trips) (k0_t4 : Fin k0_t4_loop.trips), ∀ a, (k0_off16 v4 v7 k0_t3 k0_t4) a + S1.size a ≤ S34560.size a) ∧
  (∀ (k0_t3 : Fin (k0_t3_loop v4 v7).trips) (k0_t4 : Fin k0_t4_loop.trips), ∀ a, (k0_off19 v4 v7 k0_t3 k0_t4) a + S1.size a ≤ S34560.size a) ∧
  (∀ (k0_t3 : Fin (k0_t3_loop v4 v7).trips) (k0_t4 : Fin k0_t4_loop.trips), ∀ a, (k0_off21 v4 v7 k0_t3 k0_t4) a + S1.size a ≤ S34560.size a) ∧
  (∀ (k0_t3 : Fin (k0_t3_loop v4 v7).trips) (k0_t4 : Fin k0_t4_loop.trips), ∀ a, (k0_off24 v4 v7 k0_t3 k0_t4) a + S1.size a ≤ S34560.size a) ∧
  (∀ (k0_t3 : Fin (k0_t3_loop v4 v7).trips) (k0_t4 : Fin k0_t4_loop.trips), ∀ a, (k0_off26 v4 v7 k0_t3 k0_t4) a + S1.size a ≤ S34560.size a) ∧
  (∀ (k0_t3 : Fin (k0_t3_loop v4 v7).trips) (k0_t4 : Fin k0_t4_loop.trips), ∀ a, (k0_off29 v4 v7 k0_t3 k0_t4) a + S1.size a ≤ S34560.size a) ∧
  (∀ (k0_t3 : Fin (k0_t3_loop v4 v7).trips) (k0_t4 : Fin k0_t4_loop.trips), ∀ a, (k0_off31 v4 v7 k0_t3 k0_t4) a + S1.size a ≤ S34560.size a) ∧
  (∀ (k0_t3 : Fin (k0_t3_loop v4 v7).trips) (k0_t4 : Fin k0_t4_loop.trips), ∀ a, (k0_off34 v4 v7 k0_t3 k0_t4) a + S1.size a ≤ S34560.size a) ∧
  (∀ (k0_t3 : Fin (k0_t3_loop v4 v7).trips) (k0_t4 : Fin k0_t4_loop.trips), ∀ a, (k0_off36 v4 v7 k0_t3 k0_t4) a + S1.size a ≤ S34560.size a) ∧
  (∀ (k0_t3 : Fin (k0_t3_loop v4 v7).trips) (k0_t4 : Fin k0_t4_loop.trips), ∀ a, (k0_off39 v4 v7 k0_t3 k0_t4) a + S1.size a ≤ S34560.size a) ∧
  (∀ (k0_t3 : Fin (k0_t3_loop v4 v7).trips) (k0_t4 : Fin k0_t4_loop.trips), ∀ a, (k0_off41 v4 v7 k0_t3 k0_t4) a + S1.size a ≤ S34560.size a) ∧
  (∀ (k0_t3 : Fin (k0_t3_loop v4 v7).trips) (k0_t4 : Fin k0_t4_loop.trips), ∀ a, (k0_off44 v4 v7 k0_t3 k0_t4) a + S1.size a ≤ S34560.size a) ∧
  (∀ (k0_t3 : Fin (k0_t3_loop v4 v7).trips) (k0_t4 : Fin k0_t4_loop.trips), ∀ a, (k0_off46 v4 v7 k0_t3 k0_t4) a + S1.size a ≤ S34560.size a) ∧
  (∀ (k0_t3 : Fin (k0_t3_loop v4 v7).trips) (k0_t4 : Fin k0_t4_loop.trips), ∀ a, (k0_off49 v4 v7 k0_t3 k0_t4) a + S1.size a ≤ S34560.size a) ∧
  (∀ (k0_t3 : Fin (k0_t3_loop v4 v7).trips) (k0_t4 : Fin k0_t4_loop.trips), ∀ a, (k0_off51 v4 v7 k0_t3 k0_t4) a + S1.size a ≤ S34560.size a) ∧
  (∀ (k0_t3 : Fin (k0_t3_loop v4 v7).trips) (k0_t4 : Fin k0_t4_loop.trips), ∀ a, (k0_off54 v4 v7 k0_t3 k0_t4) a + S1.size a ≤ S34560.size a) ∧
  (∀ (k0_t3 : Fin (k0_t3_loop v4 v7).trips) (k0_t4 : Fin k0_t4_loop.trips), ∀ a, (k0_off56 v4 v7 k0_t3 k0_t4) a + S1.size a ≤ S34560.size a) ∧
  (∀ (k0_t3 : Fin (k0_t3_loop v4 v7).trips) (k0_t4 : Fin k0_t4_loop.trips), ∀ a, (k0_off59 v4 v7 k0_t3 k0_t4) a + S1.size a ≤ S34560.size a) ∧
  (∀ (k0_t3 : Fin (k0_t3_loop v4 v7).trips) (k0_t4 : Fin k0_t4_loop.trips), ∀ a, (k0_off61 v4 v7 k0_t3 k0_t4) a + S1.size a ≤ S34560.size a) ∧
  (∀ (k0_t3 : Fin (k0_t3_loop v4 v7).trips) (k0_t4 : Fin k0_t4_loop.trips), ∀ a, (k0_off64 v4 v7 k0_t3 k0_t4) a + S1.size a ≤ S34560.size a) ∧
  (∀ (k0_t3 : Fin (k0_t3_loop v4 v7).trips) (k0_t4 : Fin k0_t4_loop.trips), ∀ a, (k0_off66 v4 v7 k0_t3 k0_t4) a + S1.size a ≤ S34560.size a) ∧
  (∀ (k0_t3 : Fin (k0_t3_loop v4 v7).trips) (k0_t4 : Fin k0_t4_loop.trips), ∀ a, (k0_off69 v4 v7 k0_t3 k0_t4) a + S1.size a ≤ S34560.size a) ∧
  (∀ (k0_t3 : Fin (k0_t3_loop v4 v7).trips) (k0_t4 : Fin k0_t4_loop.trips), ∀ a, (k0_off71 v4 v7 k0_t3 k0_t4) a + S1.size a ≤ S34560.size a) ∧
  (∀ (k0_t3 : Fin (k0_t3_loop v4 v7).trips) (k0_t4 : Fin k0_t4_loop.trips), ∀ a, (k0_off74 v4 v7 k0_t3 k0_t4) a + S1.size a ≤ S34560.size a) ∧
  (∀ (k0_t3 : Fin (k0_t3_loop v4 v7).trips) (k0_t4 : Fin k0_t4_loop.trips), ∀ a, (k0_off76 v4 v7 k0_t3 k0_t4) a + S1.size a ≤ S34560.size a) ∧
  (∀ (k0_t3 : Fin (k0_t3_loop v4 v7).trips) (k0_t4 : Fin k0_t4_loop.trips), ∀ a, (k0_off79 v4 v7 k0_t3 k0_t4) a + S1.size a ≤ S34560.size a) ∧
  (∀ (k0_t3 : Fin (k0_t3_loop v4 v7).trips) (k0_t4 : Fin k0_t4_loop.trips), ∀ a, (k0_off81 v4 v7 k0_t3 k0_t4) a + S1.size a ≤ S34560.size a) ∧
  (∀ (k0_t3 : Fin (k0_t3_loop v4 v7).trips) (k0_t4 : Fin k0_t4_loop.trips), ∀ a, (k0_off84 v4 v7 k0_t3 k0_t4) a + S1.size a ≤ S34560.size a)
def k0_chk1_1 (v4 : BitVec 32) (v7 : BitVec 32) : Prop :=
  (∀ (k0_t3 : Fin (k0_t3_loop v4 v7).trips) (k0_t4 : Fin k0_t4_loop.trips), ∀ a, (k0_off86 v4 v7 k0_t3 k0_t4) a + S1.size a ≤ S34560.size a) ∧
  ((k0_t5_loop v4 v7).OK) ∧
  (∀ (k0_t5 : Fin (k0_t5_loop v4 v7).trips) (k0_t6 : Fin k0_t6_loop.trips), ∀ a, (k0_off89 v4 v7 k0_t5 k0_t6) a + S1.size a ≤ S34560.size a) ∧
  (∀ (k0_t5 : Fin (k0_t5_loop v4 v7).trips) (k0_t6 : Fin k0_t6_loop.trips), ∀ a, (k0_off91 v4 v7 k0_t5 k0_t6) a + S1.size a ≤ S34560.size a) ∧
  (∀ (k0_t5 : Fin (k0_t5_loop v4 v7).trips) (k0_t6 : Fin k0_t6_loop.trips), ∀ a, (k0_off94 v4 v7 k0_t5 k0_t6) a + S1.size a ≤ S34560.size a) ∧
  (∀ (k0_t5 : Fin (k0_t5_loop v4 v7).trips) (k0_t6 : Fin k0_t6_loop.trips), ∀ a, (k0_off96 v4 v7 k0_t5 k0_t6) a + S1.size a ≤ S34560.size a) ∧
  (∀ (k0_t5 : Fin (k0_t5_loop v4 v7).trips) (k0_t6 : Fin k0_t6_loop.trips), ∀ a, (k0_off99 v4 v7 k0_t5 k0_t6) a + S1.size a ≤ S34560.size a) ∧
  (∀ (k0_t5 : Fin (k0_t5_loop v4 v7).trips) (k0_t6 : Fin k0_t6_loop.trips), ∀ a, (k0_off101 v4 v7 k0_t5 k0_t6) a + S1.size a ≤ S34560.size a) ∧
  (∀ (k0_t5 : Fin (k0_t5_loop v4 v7).trips) (k0_t6 : Fin k0_t6_loop.trips), ∀ a, (k0_off104 v4 v7 k0_t5 k0_t6) a + S1.size a ≤ S34560.size a) ∧
  (∀ (k0_t5 : Fin (k0_t5_loop v4 v7).trips) (k0_t6 : Fin k0_t6_loop.trips), ∀ a, (k0_off106 v4 v7 k0_t5 k0_t6) a + S1.size a ≤ S34560.size a) ∧
  (∀ (k0_t5 : Fin (k0_t5_loop v4 v7).trips) (k0_t6 : Fin k0_t6_loop.trips), ∀ a, (k0_off109 v4 v7 k0_t5 k0_t6) a + S1.size a ≤ S34560.size a) ∧
  (∀ (k0_t5 : Fin (k0_t5_loop v4 v7).trips) (k0_t6 : Fin k0_t6_loop.trips), ∀ a, (k0_off111 v4 v7 k0_t5 k0_t6) a + S1.size a ≤ S34560.size a) ∧
  (∀ (k0_t5 : Fin (k0_t5_loop v4 v7).trips) (k0_t6 : Fin k0_t6_loop.trips), ∀ a, (k0_off114 v4 v7 k0_t5 k0_t6) a + S1.size a ≤ S34560.size a) ∧
  (∀ (k0_t5 : Fin (k0_t5_loop v4 v7).trips) (k0_t6 : Fin k0_t6_loop.trips), ∀ a, (k0_off116 v4 v7 k0_t5 k0_t6) a + S1.size a ≤ S34560.size a) ∧
  (∀ (k0_t5 : Fin (k0_t5_loop v4 v7).trips) (k0_t6 : Fin k0_t6_loop.trips), ∀ a, (k0_off119 v4 v7 k0_t5 k0_t6) a + S1.size a ≤ S34560.size a) ∧
  (∀ (k0_t5 : Fin (k0_t5_loop v4 v7).trips) (k0_t6 : Fin k0_t6_loop.trips), ∀ a, (k0_off121 v4 v7 k0_t5 k0_t6) a + S1.size a ≤ S34560.size a) ∧
  (∀ (k0_t5 : Fin (k0_t5_loop v4 v7).trips) (k0_t6 : Fin k0_t6_loop.trips), ∀ a, (k0_off124 v4 v7 k0_t5 k0_t6) a + S1.size a ≤ S34560.size a) ∧
  (∀ (k0_t5 : Fin (k0_t5_loop v4 v7).trips) (k0_t6 : Fin k0_t6_loop.trips), ∀ a, (k0_off126 v4 v7 k0_t5 k0_t6) a + S1.size a ≤ S34560.size a) ∧
  (∀ (k0_t5 : Fin (k0_t5_loop v4 v7).trips) (k0_t6 : Fin k0_t6_loop.trips), ∀ a, (k0_off129 v4 v7 k0_t5 k0_t6) a + S1.size a ≤ S34560.size a) ∧
  (∀ (k0_t5 : Fin (k0_t5_loop v4 v7).trips) (k0_t6 : Fin k0_t6_loop.trips), ∀ a, (k0_off131 v4 v7 k0_t5 k0_t6) a + S1.size a ≤ S34560.size a) ∧
  (∀ (k0_t5 : Fin (k0_t5_loop v4 v7).trips) (k0_t6 : Fin k0_t6_loop.trips), ∀ a, (k0_off134 v4 v7 k0_t5 k0_t6) a + S1.size a ≤ S34560.size a) ∧
  (∀ (k0_t5 : Fin (k0_t5_loop v4 v7).trips) (k0_t6 : Fin k0_t6_loop.trips), ∀ a, (k0_off136 v4 v7 k0_t5 k0_t6) a + S1.size a ≤ S34560.size a) ∧
  (∀ (k0_t5 : Fin (k0_t5_loop v4 v7).trips) (k0_t6 : Fin k0_t6_loop.trips), ∀ a, (k0_off139 v4 v7 k0_t5 k0_t6) a + S1.size a ≤ S34560.size a) ∧
  (∀ (k0_t5 : Fin (k0_t5_loop v4 v7).trips) (k0_t6 : Fin k0_t6_loop.trips), ∀ a, (k0_off141 v4 v7 k0_t5 k0_t6) a + S1.size a ≤ S34560.size a) ∧
  (∀ (k0_t5 : Fin (k0_t5_loop v4 v7).trips) (k0_t6 : Fin k0_t6_loop.trips), ∀ a, (k0_off144 v4 v7 k0_t5 k0_t6) a + S1.size a ≤ S34560.size a) ∧
  (∀ (k0_t5 : Fin (k0_t5_loop v4 v7).trips) (k0_t6 : Fin k0_t6_loop.trips), ∀ a, (k0_off146 v4 v7 k0_t5 k0_t6) a + S1.size a ≤ S34560.size a) ∧
  (∀ (k0_t5 : Fin (k0_t5_loop v4 v7).trips) (k0_t6 : Fin k0_t6_loop.trips), ∀ a, (k0_off149 v4 v7 k0_t5 k0_t6) a + S1.size a ≤ S34560.size a) ∧
  (∀ (k0_t5 : Fin (k0_t5_loop v4 v7).trips) (k0_t6 : Fin k0_t6_loop.trips), ∀ a, (k0_off151 v4 v7 k0_t5 k0_t6) a + S1.size a ≤ S34560.size a) ∧
  (∀ (k0_t5 : Fin (k0_t5_loop v4 v7).trips) (k0_t6 : Fin k0_t6_loop.trips), ∀ a, (k0_off154 v4 v7 k0_t5 k0_t6) a + S1.size a ≤ S34560.size a) ∧
  (∀ (k0_t5 : Fin (k0_t5_loop v4 v7).trips) (k0_t6 : Fin k0_t6_loop.trips), ∀ a, (k0_off156 v4 v7 k0_t5 k0_t6) a + S1.size a ≤ S34560.size a) ∧
  (∀ (k0_t5 : Fin (k0_t5_loop v4 v7).trips) (k0_t6 : Fin k0_t6_loop.trips), ∀ a, (k0_off159 v4 v7 k0_t5 k0_t6) a + S1.size a ≤ S34560.size a) ∧
  (∀ (k0_t5 : Fin (k0_t5_loop v4 v7).trips) (k0_t6 : Fin k0_t6_loop.trips), ∀ a, (k0_off161 v4 v7 k0_t5 k0_t6) a + S1.size a ≤ S34560.size a)
def k0_chk1_2 (v4 : BitVec 32) (v7 : BitVec 32) : Prop :=
  (∀ (k0_t5 : Fin (k0_t5_loop v4 v7).trips) (k0_t6 : Fin k0_t6_loop.trips), ∀ a, (k0_off164 v4 v7 k0_t5 k0_t6) a + S1.size a ≤ S34560.size a) ∧
  (∀ (k0_t5 : Fin (k0_t5_loop v4 v7).trips) (k0_t6 : Fin k0_t6_loop.trips), ∀ a, (k0_off166 v4 v7 k0_t5 k0_t6) a + S1.size a ≤ S34560.size a)
def k0_chk1 (v4 : BitVec 32) (v7 : BitVec 32) : Prop :=
  k0_chk1_0 v4 v7 ∧
  k0_chk1_1 v4 v7 ∧
  k0_chk1_2 v4 v7
theorem k0_t3_ok : ∀ (v4 : BitVec 32) (v7 : BitVec 32) (k0_hw1 : k0_chk1 v4 v7), (k0_t3_loop v4 v7).OK := fun v4 v7 k0_hw1 => k0_hw1.1.1
theorem k0_off9_inb : ∀ (v4 : BitVec 32) (v7 : BitVec 32) (k0_hw1 : k0_chk1 v4 v7) (k0_t3 : Fin (k0_t3_loop v4 v7).trips) (k0_t4 : Fin k0_t4_loop.trips), ∀ a, (k0_off9 v4 v7 k0_t3 k0_t4) a + S1.size a ≤ S34560.size a := fun v4 v7 k0_hw1 k0_t3 k0_t4 => k0_hw1.1.2.1 k0_t3 k0_t4
theorem k0_off11_inb : ∀ (v4 : BitVec 32) (v7 : BitVec 32) (k0_hw1 : k0_chk1 v4 v7) (k0_t3 : Fin (k0_t3_loop v4 v7).trips) (k0_t4 : Fin k0_t4_loop.trips), ∀ a, (k0_off11 v4 v7 k0_t3 k0_t4) a + S1.size a ≤ S34560.size a := fun v4 v7 k0_hw1 k0_t3 k0_t4 => k0_hw1.1.2.2.1 k0_t3 k0_t4
theorem k0_off14_inb : ∀ (v4 : BitVec 32) (v7 : BitVec 32) (k0_hw1 : k0_chk1 v4 v7) (k0_t3 : Fin (k0_t3_loop v4 v7).trips) (k0_t4 : Fin k0_t4_loop.trips), ∀ a, (k0_off14 v4 v7 k0_t3 k0_t4) a + S1.size a ≤ S34560.size a := fun v4 v7 k0_hw1 k0_t3 k0_t4 => k0_hw1.1.2.2.2.1 k0_t3 k0_t4
theorem k0_off16_inb : ∀ (v4 : BitVec 32) (v7 : BitVec 32) (k0_hw1 : k0_chk1 v4 v7) (k0_t3 : Fin (k0_t3_loop v4 v7).trips) (k0_t4 : Fin k0_t4_loop.trips), ∀ a, (k0_off16 v4 v7 k0_t3 k0_t4) a + S1.size a ≤ S34560.size a := fun v4 v7 k0_hw1 k0_t3 k0_t4 => k0_hw1.1.2.2.2.2.1 k0_t3 k0_t4
theorem k0_off19_inb : ∀ (v4 : BitVec 32) (v7 : BitVec 32) (k0_hw1 : k0_chk1 v4 v7) (k0_t3 : Fin (k0_t3_loop v4 v7).trips) (k0_t4 : Fin k0_t4_loop.trips), ∀ a, (k0_off19 v4 v7 k0_t3 k0_t4) a + S1.size a ≤ S34560.size a := fun v4 v7 k0_hw1 k0_t3 k0_t4 => k0_hw1.1.2.2.2.2.2.1 k0_t3 k0_t4
theorem k0_off21_inb : ∀ (v4 : BitVec 32) (v7 : BitVec 32) (k0_hw1 : k0_chk1 v4 v7) (k0_t3 : Fin (k0_t3_loop v4 v7).trips) (k0_t4 : Fin k0_t4_loop.trips), ∀ a, (k0_off21 v4 v7 k0_t3 k0_t4) a + S1.size a ≤ S34560.size a := fun v4 v7 k0_hw1 k0_t3 k0_t4 => k0_hw1.1.2.2.2.2.2.2.1 k0_t3 k0_t4
theorem k0_off24_inb : ∀ (v4 : BitVec 32) (v7 : BitVec 32) (k0_hw1 : k0_chk1 v4 v7) (k0_t3 : Fin (k0_t3_loop v4 v7).trips) (k0_t4 : Fin k0_t4_loop.trips), ∀ a, (k0_off24 v4 v7 k0_t3 k0_t4) a + S1.size a ≤ S34560.size a := fun v4 v7 k0_hw1 k0_t3 k0_t4 => k0_hw1.1.2.2.2.2.2.2.2.1 k0_t3 k0_t4
theorem k0_off26_inb : ∀ (v4 : BitVec 32) (v7 : BitVec 32) (k0_hw1 : k0_chk1 v4 v7) (k0_t3 : Fin (k0_t3_loop v4 v7).trips) (k0_t4 : Fin k0_t4_loop.trips), ∀ a, (k0_off26 v4 v7 k0_t3 k0_t4) a + S1.size a ≤ S34560.size a := fun v4 v7 k0_hw1 k0_t3 k0_t4 => k0_hw1.1.2.2.2.2.2.2.2.2.1 k0_t3 k0_t4
theorem k0_off29_inb : ∀ (v4 : BitVec 32) (v7 : BitVec 32) (k0_hw1 : k0_chk1 v4 v7) (k0_t3 : Fin (k0_t3_loop v4 v7).trips) (k0_t4 : Fin k0_t4_loop.trips), ∀ a, (k0_off29 v4 v7 k0_t3 k0_t4) a + S1.size a ≤ S34560.size a := fun v4 v7 k0_hw1 k0_t3 k0_t4 => k0_hw1.1.2.2.2.2.2.2.2.2.2.1 k0_t3 k0_t4
theorem k0_off31_inb : ∀ (v4 : BitVec 32) (v7 : BitVec 32) (k0_hw1 : k0_chk1 v4 v7) (k0_t3 : Fin (k0_t3_loop v4 v7).trips) (k0_t4 : Fin k0_t4_loop.trips), ∀ a, (k0_off31 v4 v7 k0_t3 k0_t4) a + S1.size a ≤ S34560.size a := fun v4 v7 k0_hw1 k0_t3 k0_t4 => k0_hw1.1.2.2.2.2.2.2.2.2.2.2.1 k0_t3 k0_t4
theorem k0_off34_inb : ∀ (v4 : BitVec 32) (v7 : BitVec 32) (k0_hw1 : k0_chk1 v4 v7) (k0_t3 : Fin (k0_t3_loop v4 v7).trips) (k0_t4 : Fin k0_t4_loop.trips), ∀ a, (k0_off34 v4 v7 k0_t3 k0_t4) a + S1.size a ≤ S34560.size a := fun v4 v7 k0_hw1 k0_t3 k0_t4 => k0_hw1.1.2.2.2.2.2.2.2.2.2.2.2.1 k0_t3 k0_t4
theorem k0_off36_inb : ∀ (v4 : BitVec 32) (v7 : BitVec 32) (k0_hw1 : k0_chk1 v4 v7) (k0_t3 : Fin (k0_t3_loop v4 v7).trips) (k0_t4 : Fin k0_t4_loop.trips), ∀ a, (k0_off36 v4 v7 k0_t3 k0_t4) a + S1.size a ≤ S34560.size a := fun v4 v7 k0_hw1 k0_t3 k0_t4 => k0_hw1.1.2.2.2.2.2.2.2.2.2.2.2.2.1 k0_t3 k0_t4
theorem k0_off39_inb : ∀ (v4 : BitVec 32) (v7 : BitVec 32) (k0_hw1 : k0_chk1 v4 v7) (k0_t3 : Fin (k0_t3_loop v4 v7).trips) (k0_t4 : Fin k0_t4_loop.trips), ∀ a, (k0_off39 v4 v7 k0_t3 k0_t4) a + S1.size a ≤ S34560.size a := fun v4 v7 k0_hw1 k0_t3 k0_t4 => k0_hw1.1.2.2.2.2.2.2.2.2.2.2.2.2.2.1 k0_t3 k0_t4
theorem k0_off41_inb : ∀ (v4 : BitVec 32) (v7 : BitVec 32) (k0_hw1 : k0_chk1 v4 v7) (k0_t3 : Fin (k0_t3_loop v4 v7).trips) (k0_t4 : Fin k0_t4_loop.trips), ∀ a, (k0_off41 v4 v7 k0_t3 k0_t4) a + S1.size a ≤ S34560.size a := fun v4 v7 k0_hw1 k0_t3 k0_t4 => k0_hw1.1.2.2.2.2.2.2.2.2.2.2.2.2.2.2.1 k0_t3 k0_t4
theorem k0_off44_inb : ∀ (v4 : BitVec 32) (v7 : BitVec 32) (k0_hw1 : k0_chk1 v4 v7) (k0_t3 : Fin (k0_t3_loop v4 v7).trips) (k0_t4 : Fin k0_t4_loop.trips), ∀ a, (k0_off44 v4 v7 k0_t3 k0_t4) a + S1.size a ≤ S34560.size a := fun v4 v7 k0_hw1 k0_t3 k0_t4 => k0_hw1.1.2.2.2.2.2.2.2.2.2.2.2.2.2.2.2.1 k0_t3 k0_t4
theorem k0_off46_inb : ∀ (v4 : BitVec 32) (v7 : BitVec 32) (k0_hw1 : k0_chk1 v4 v7) (k0_t3 : Fin (k0_t3_loop v4 v7).trips) (k0_t4 : Fin k0_t4_loop.trips), ∀ a, (k0_off46 v4 v7 k0_t3 k0_t4) a + S1.size a ≤ S34560.size a := fun v4 v7 k0_hw1 k0_t3 k0_t4 => k0_hw1.1.2.2.2.2.2.2.2.2.2.2.2.2.2.2.2.2.1 k0_t3 k0_t4
theorem k0_off49_inb : ∀ (v4 : BitVec 32) (v7 : BitVec 32) (k0_hw1 : k0_chk1 v4 v7) (k0_t3 : Fin (k0_t3_loop v4 v7).trips) (k0_t4 : Fin k0_t4_loop.trips), ∀ a, (k0_off49 v4 v7 k0_t3 k0_t4) a + S1.size a ≤ S34560.size a := fun v4 v7 k0_hw1 k0_t3 k0_t4 => k0_hw1.1.2.2.2.2.2.2.2.2.2.2.2.2.2.2.2.2.2.1 k0_t3 k0_t4
theorem k0_off51_inb : ∀ (v4 : BitVec 32) (v7 : BitVec 32) (k0_hw1 : k0_chk1 v4 v7) (k0_t3 : Fin (k0_t3_loop v4 v7).trips) (k0_t4 : Fin k0_t4_loop.trips), ∀ a, (k0_off51 v4 v7 k0_t3 k0_t4) a + S1.size a ≤ S34560.size a := fun v4 v7 k0_hw1 k0_t3 k0_t4 => k0_hw1.1.2.2.2.2.2.2.2.2.2.2.2.2.2.2.2.2.2.2.1 k0_t3 k0_t4
theorem k0_off54_inb : ∀ (v4 : BitVec 32) (v7 : BitVec 32) (k0_hw1 : k0_chk1 v4 v7) (k0_t3 : Fin (k0_t3_loop v4 v7).trips) (k0_t4 : Fin k0_t4_loop.trips), ∀ a, (k0_off54 v4 v7 k0_t3 k0_t4) a + S1.size a ≤ S34560.size a := fun v4 v7 k0_hw1 k0_t3 k0_t4 => k0_hw1.1.2.2.2.2.2.2.2.2.2.2.2.2.2.2.2.2.2.2.2.1 k0_t3 k0_t4
theorem k0_off56_inb : ∀ (v4 : BitVec 32) (v7 : BitVec 32) (k0_hw1 : k0_chk1 v4 v7) (k0_t3 : Fin (k0_t3_loop v4 v7).trips) (k0_t4 : Fin k0_t4_loop.trips), ∀ a, (k0_off56 v4 v7 k0_t3 k0_t4) a + S1.size a ≤ S34560.size a := fun v4 v7 k0_hw1 k0_t3 k0_t4 => k0_hw1.1.2.2.2.2.2.2.2.2.2.2.2.2.2.2.2.2.2.2.2.2.1 k0_t3 k0_t4
theorem k0_off59_inb : ∀ (v4 : BitVec 32) (v7 : BitVec 32) (k0_hw1 : k0_chk1 v4 v7) (k0_t3 : Fin (k0_t3_loop v4 v7).trips) (k0_t4 : Fin k0_t4_loop.trips), ∀ a, (k0_off59 v4 v7 k0_t3 k0_t4) a + S1.size a ≤ S34560.size a := fun v4 v7 k0_hw1 k0_t3 k0_t4 => k0_hw1.1.2.2.2.2.2.2.2.2.2.2.2.2.2.2.2.2.2.2.2.2.2.1 k0_t3 k0_t4
theorem k0_off61_inb : ∀ (v4 : BitVec 32) (v7 : BitVec 32) (k0_hw1 : k0_chk1 v4 v7) (k0_t3 : Fin (k0_t3_loop v4 v7).trips) (k0_t4 : Fin k0_t4_loop.trips), ∀ a, (k0_off61 v4 v7 k0_t3 k0_t4) a + S1.size a ≤ S34560.size a := fun v4 v7 k0_hw1 k0_t3 k0_t4 => k0_hw1.1.2.2.2.2.2.2.2.2.2.2.2.2.2.2.2.2.2.2.2.2.2.2.1 k0_t3 k0_t4
theorem k0_off64_inb : ∀ (v4 : BitVec 32) (v7 : BitVec 32) (k0_hw1 : k0_chk1 v4 v7) (k0_t3 : Fin (k0_t3_loop v4 v7).trips) (k0_t4 : Fin k0_t4_loop.trips), ∀ a, (k0_off64 v4 v7 k0_t3 k0_t4) a + S1.size a ≤ S34560.size a := fun v4 v7 k0_hw1 k0_t3 k0_t4 => k0_hw1.1.2.2.2.2.2.2.2.2.2.2.2.2.2.2.2.2.2.2.2.2.2.2.2.1 k0_t3 k0_t4
theorem k0_off66_inb : ∀ (v4 : BitVec 32) (v7 : BitVec 32) (k0_hw1 : k0_chk1 v4 v7) (k0_t3 : Fin (k0_t3_loop v4 v7).trips) (k0_t4 : Fin k0_t4_loop.trips), ∀ a, (k0_off66 v4 v7 k0_t3 k0_t4) a + S1.size a ≤ S34560.size a := fun v4 v7 k0_hw1 k0_t3 k0_t4 => k0_hw1.1.2.2.2.2.2.2.2.2.2.2.2.2.2.2.2.2.2.2.2.2.2.2.2.2.1 k0_t3 k0_t4
theorem k0_off69_inb : ∀ (v4 : BitVec 32) (v7 : BitVec 32) (k0_hw1 : k0_chk1 v4 v7) (k0_t3 : Fin (k0_t3_loop v4 v7).trips) (k0_t4 : Fin k0_t4_loop.trips), ∀ a, (k0_off69 v4 v7 k0_t3 k0_t4) a + S1.size a ≤ S34560.size a := fun v4 v7 k0_hw1 k0_t3 k0_t4 => k0_hw1.1.2.2.2.2.2.2.2.2.2.2.2.2.2.2.2.2.2.2.2.2.2.2.2.2.2.1 k0_t3 k0_t4
theorem k0_off71_inb : ∀ (v4 : BitVec 32) (v7 : BitVec 32) (k0_hw1 : k0_chk1 v4 v7) (k0_t3 : Fin (k0_t3_loop v4 v7).trips) (k0_t4 : Fin k0_t4_loop.trips), ∀ a, (k0_off71 v4 v7 k0_t3 k0_t4) a + S1.size a ≤ S34560.size a := fun v4 v7 k0_hw1 k0_t3 k0_t4 => k0_hw1.1.2.2.2.2.2.2.2.2.2.2.2.2.2.2.2.2.2.2.2.2.2.2.2.2.2.2.1 k0_t3 k0_t4
theorem k0_off74_inb : ∀ (v4 : BitVec 32) (v7 : BitVec 32) (k0_hw1 : k0_chk1 v4 v7) (k0_t3 : Fin (k0_t3_loop v4 v7).trips) (k0_t4 : Fin k0_t4_loop.trips), ∀ a, (k0_off74 v4 v7 k0_t3 k0_t4) a + S1.size a ≤ S34560.size a := fun v4 v7 k0_hw1 k0_t3 k0_t4 => k0_hw1.1.2.2.2.2.2.2.2.2.2.2.2.2.2.2.2.2.2.2.2.2.2.2.2.2.2.2.2.1 k0_t3 k0_t4
theorem k0_off76_inb : ∀ (v4 : BitVec 32) (v7 : BitVec 32) (k0_hw1 : k0_chk1 v4 v7) (k0_t3 : Fin (k0_t3_loop v4 v7).trips) (k0_t4 : Fin k0_t4_loop.trips), ∀ a, (k0_off76 v4 v7 k0_t3 k0_t4) a + S1.size a ≤ S34560.size a := fun v4 v7 k0_hw1 k0_t3 k0_t4 => k0_hw1.1.2.2.2.2.2.2.2.2.2.2.2.2.2.2.2.2.2.2.2.2.2.2.2.2.2.2.2.2.1 k0_t3 k0_t4
theorem k0_off79_inb : ∀ (v4 : BitVec 32) (v7 : BitVec 32) (k0_hw1 : k0_chk1 v4 v7) (k0_t3 : Fin (k0_t3_loop v4 v7).trips) (k0_t4 : Fin k0_t4_loop.trips), ∀ a, (k0_off79 v4 v7 k0_t3 k0_t4) a + S1.size a ≤ S34560.size a := fun v4 v7 k0_hw1 k0_t3 k0_t4 => k0_hw1.1.2.2.2.2.2.2.2.2.2.2.2.2.2.2.2.2.2.2.2.2.2.2.2.2.2.2.2.2.2.1 k0_t3 k0_t4
theorem k0_off81_inb : ∀ (v4 : BitVec 32) (v7 : BitVec 32) (k0_hw1 : k0_chk1 v4 v7) (k0_t3 : Fin (k0_t3_loop v4 v7).trips) (k0_t4 : Fin k0_t4_loop.trips), ∀ a, (k0_off81 v4 v7 k0_t3 k0_t4) a + S1.size a ≤ S34560.size a := fun v4 v7 k0_hw1 k0_t3 k0_t4 => k0_hw1.1.2.2.2.2.2.2.2.2.2.2.2.2.2.2.2.2.2.2.2.2.2.2.2.2.2.2.2.2.2.2.1 k0_t3 k0_t4
theorem k0_off84_inb : ∀ (v4 : BitVec 32) (v7 : BitVec 32) (k0_hw1 : k0_chk1 v4 v7) (k0_t3 : Fin (k0_t3_loop v4 v7).trips) (k0_t4 : Fin k0_t4_loop.trips), ∀ a, (k0_off84 v4 v7 k0_t3 k0_t4) a + S1.size a ≤ S34560.size a := fun v4 v7 k0_hw1 k0_t3 k0_t4 => k0_hw1.1.2.2.2.2.2.2.2.2.2.2.2.2.2.2.2.2.2.2.2.2.2.2.2.2.2.2.2.2.2.2.2 k0_t3 k0_t4
theorem k0_off86_inb : ∀ (v4 : BitVec 32) (v7 : BitVec 32) (k0_hw1 : k0_chk1 v4 v7) (k0_t3 : Fin (k0_t3_loop v4 v7).trips) (k0_t4 : Fin k0_t4_loop.trips), ∀ a, (k0_off86 v4 v7 k0_t3 k0_t4) a + S1.size a ≤ S34560.size a := fun v4 v7 k0_hw1 k0_t3 k0_t4 => k0_hw1.2.1.1 k0_t3 k0_t4
theorem k0_t5_ok : ∀ (v4 : BitVec 32) (v7 : BitVec 32) (k0_hw1 : k0_chk1 v4 v7), (k0_t5_loop v4 v7).OK := fun v4 v7 k0_hw1 => k0_hw1.2.1.2.1
theorem k0_off89_inb : ∀ (v4 : BitVec 32) (v7 : BitVec 32) (k0_hw1 : k0_chk1 v4 v7) (k0_t5 : Fin (k0_t5_loop v4 v7).trips) (k0_t6 : Fin k0_t6_loop.trips), ∀ a, (k0_off89 v4 v7 k0_t5 k0_t6) a + S1.size a ≤ S34560.size a := fun v4 v7 k0_hw1 k0_t5 k0_t6 => k0_hw1.2.1.2.2.1 k0_t5 k0_t6
theorem k0_off91_inb : ∀ (v4 : BitVec 32) (v7 : BitVec 32) (k0_hw1 : k0_chk1 v4 v7) (k0_t5 : Fin (k0_t5_loop v4 v7).trips) (k0_t6 : Fin k0_t6_loop.trips), ∀ a, (k0_off91 v4 v7 k0_t5 k0_t6) a + S1.size a ≤ S34560.size a := fun v4 v7 k0_hw1 k0_t5 k0_t6 => k0_hw1.2.1.2.2.2.1 k0_t5 k0_t6
theorem k0_off94_inb : ∀ (v4 : BitVec 32) (v7 : BitVec 32) (k0_hw1 : k0_chk1 v4 v7) (k0_t5 : Fin (k0_t5_loop v4 v7).trips) (k0_t6 : Fin k0_t6_loop.trips), ∀ a, (k0_off94 v4 v7 k0_t5 k0_t6) a + S1.size a ≤ S34560.size a := fun v4 v7 k0_hw1 k0_t5 k0_t6 => k0_hw1.2.1.2.2.2.2.1 k0_t5 k0_t6
theorem k0_off96_inb : ∀ (v4 : BitVec 32) (v7 : BitVec 32) (k0_hw1 : k0_chk1 v4 v7) (k0_t5 : Fin (k0_t5_loop v4 v7).trips) (k0_t6 : Fin k0_t6_loop.trips), ∀ a, (k0_off96 v4 v7 k0_t5 k0_t6) a + S1.size a ≤ S34560.size a := fun v4 v7 k0_hw1 k0_t5 k0_t6 => k0_hw1.2.1.2.2.2.2.2.1 k0_t5 k0_t6
theorem k0_off99_inb : ∀ (v4 : BitVec 32) (v7 : BitVec 32) (k0_hw1 : k0_chk1 v4 v7) (k0_t5 : Fin (k0_t5_loop v4 v7).trips) (k0_t6 : Fin k0_t6_loop.trips), ∀ a, (k0_off99 v4 v7 k0_t5 k0_t6) a + S1.size a ≤ S34560.size a := fun v4 v7 k0_hw1 k0_t5 k0_t6 => k0_hw1.2.1.2.2.2.2.2.2.1 k0_t5 k0_t6
theorem k0_off101_inb : ∀ (v4 : BitVec 32) (v7 : BitVec 32) (k0_hw1 : k0_chk1 v4 v7) (k0_t5 : Fin (k0_t5_loop v4 v7).trips) (k0_t6 : Fin k0_t6_loop.trips), ∀ a, (k0_off101 v4 v7 k0_t5 k0_t6) a + S1.size a ≤ S34560.size a := fun v4 v7 k0_hw1 k0_t5 k0_t6 => k0_hw1.2.1.2.2.2.2.2.2.2.1 k0_t5 k0_t6
theorem k0_off104_inb : ∀ (v4 : BitVec 32) (v7 : BitVec 32) (k0_hw1 : k0_chk1 v4 v7) (k0_t5 : Fin (k0_t5_loop v4 v7).trips) (k0_t6 : Fin k0_t6_loop.trips), ∀ a, (k0_off104 v4 v7 k0_t5 k0_t6) a + S1.size a ≤ S34560.size a := fun v4 v7 k0_hw1 k0_t5 k0_t6 => k0_hw1.2.1.2.2.2.2.2.2.2.2.1 k0_t5 k0_t6
theorem k0_off106_inb : ∀ (v4 : BitVec 32) (v7 : BitVec 32) (k0_hw1 : k0_chk1 v4 v7) (k0_t5 : Fin (k0_t5_loop v4 v7).trips) (k0_t6 : Fin k0_t6_loop.trips), ∀ a, (k0_off106 v4 v7 k0_t5 k0_t6) a + S1.size a ≤ S34560.size a := fun v4 v7 k0_hw1 k0_t5 k0_t6 => k0_hw1.2.1.2.2.2.2.2.2.2.2.2.1 k0_t5 k0_t6
theorem k0_off109_inb : ∀ (v4 : BitVec 32) (v7 : BitVec 32) (k0_hw1 : k0_chk1 v4 v7) (k0_t5 : Fin (k0_t5_loop v4 v7).trips) (k0_t6 : Fin k0_t6_loop.trips), ∀ a, (k0_off109 v4 v7 k0_t5 k0_t6) a + S1.size a ≤ S34560.size a := fun v4 v7 k0_hw1 k0_t5 k0_t6 => k0_hw1.2.1.2.2.2.2.2.2.2.2.2.2.1 k0_t5 k0_t6
theorem k0_off111_inb : ∀ (v4 : BitVec 32) (v7 : BitVec 32) (k0_hw1 : k0_chk1 v4 v7) (k0_t5 : Fin (k0_t5_loop v4 v7).trips) (k0_t6 : Fin k0_t6_loop.trips), ∀ a, (k0_off111 v4 v7 k0_t5 k0_t6) a + S1.size a ≤ S34560.size a := fun v4 v7 k0_hw1 k0_t5 k0_t6 => k0_hw1.2.1.2.2.2.2.2.2.2.2.2.2.2.1 k0_t5 k0_t6
theorem k0_off114_inb : ∀ (v4 : BitVec 32) (v7 : BitVec 32) (k0_hw1 : k0_chk1 v4 v7) (k0_t5 : Fin (k0_t5_loop v4 v7).trips) (k0_t6 : Fin k0_t6_loop.trips), ∀ a, (k0_off114 v4 v7 k0_t5 k0_t6) a + S1.size a ≤ S34560.size a := fun v4 v7 k0_hw1 k0_t5 k0_t6 => k0_hw1.2.1.2.2.2.2.2.2.2.2.2.2.2.2.1 k0_t5 k0_t6
theorem k0_off116_inb : ∀ (v4 : BitVec 32) (v7 : BitVec 32) (k0_hw1 : k0_chk1 v4 v7) (k0_t5 : Fin (k0_t5_loop v4 v7).trips) (k0_t6 : Fin k0_t6_loop.trips), ∀ a, (k0_off116 v4 v7 k0_t5 k0_t6) a + S1.size a ≤ S34560.size a := fun v4 v7 k0_hw1 k0_t5 k0_t6 => k0_hw1.2.1.2.2.2.2.2.2.2.2.2.2.2.2.2.1 k0_t5 k0_t6
theorem k0_off119_inb : ∀ (v4 : BitVec 32) (v7 : BitVec 32) (k0_hw1 : k0_chk1 v4 v7) (k0_t5 : Fin (k0_t5_loop v4 v7).trips) (k0_t6 : Fin k0_t6_loop.trips), ∀ a, (k0_off119 v4 v7 k0_t5 k0_t6) a + S1.size a ≤ S34560.size a := fun v4 v7 k0_hw1 k0_t5 k0_t6 => k0_hw1.2.1.2.2.2.2.2.2.2.2.2.2.2.2.2.2.1 k0_t5 k0_t6
theorem k0_off121_inb : ∀ (v4 : BitVec 32) (v7 : BitVec 32) (k0_hw1 : k0_chk1 v4 v7) (k0_t5 : Fin (k0_t5_loop v4 v7).trips) (k0_t6 : Fin k0_t6_loop.trips), ∀ a, (k0_off121 v4 v7 k0_t5 k0_t6) a + S1.size a ≤ S34560.size a := fun v4 v7 k0_hw1 k0_t5 k0_t6 => k0_hw1.2.1.2.2.2.2.2.2.2.2.2.2.2.2.2.2.2.1 k0_t5 k0_t6
theorem k0_off124_inb : ∀ (v4 : BitVec 32) (v7 : BitVec 32) (k0_hw1 : k0_chk1 v4 v7) (k0_t5 : Fin (k0_t5_loop v4 v7).trips) (k0_t6 : Fin k0_t6_loop.trips), ∀ a, (k0_off124 v4 v7 k0_t5 k0_t6) a + S1.size a ≤ S34560.size a := fun v4 v7 k0_hw1 k0_t5 k0_t6 => k0_hw1.2.1.2.2.2.2.2.2.2.2.2.2.2.2.2.2.2.2.1 k0_t5 k0_t6
theorem k0_off126_inb : ∀ (v4 : BitVec 32) (v7 : BitVec 32) (k0_hw1 : k0_chk1 v4 v7) (k0_t5 : Fin (k0_t5_loop v4 v7).trips) (k0_t6 : Fin k0_t6_loop.trips), ∀ a, (k0_off126 v4 v7 k0_t5 k0_t6) a + S1.size a ≤ S34560.size a := fun v4 v7 k0_hw1 k0_t5 k0_t6 => k0_hw1.2.1.2.2.2.2.2.2.2.2.2.2.2.2.2.2.2.2.2.1 k0_t5 k0_t6
theorem k0_off129_inb : ∀ (v4 : BitVec 32) (v7 : BitVec 32) (k0_hw1 : k0_chk1 v4 v7) (k0_t5 : Fin (k0_t5_loop v4 v7).trips) (k0_t6 : Fin k0_t6_loop.trips), ∀ a, (k0_off129 v4 v7 k0_t5 k0_t6) a + S1.size a ≤ S34560.size a := fun v4 v7 k0_hw1 k0_t5 k0_t6 => k0_hw1.2.1.2.2.2.2.2.2.2.2.2.2.2.2.2.2.2.2.2.2.1 k0_t5 k0_t6
theorem k0_off131_inb : ∀ (v4 : BitVec 32) (v7 : BitVec 32) (k0_hw1 : k0_chk1 v4 v7) (k0_t5 : Fin (k0_t5_loop v4 v7).trips) (k0_t6 : Fin k0_t6_loop.trips), ∀ a, (k0_off131 v4 v7 k0_t5 k0_t6) a + S1.size a ≤ S34560.size a := fun v4 v7 k0_hw1 k0_t5 k0_t6 => k0_hw1.2.1.2.2.2.2.2.2.2.2.2.2.2.2.2.2.2.2.2.2.2.1 k0_t5 k0_t6
theorem k0_off134_inb : ∀ (v4 : BitVec 32) (v7 : BitVec 32) (k0_hw1 : k0_chk1 v4 v7) (k0_t5 : Fin (k0_t5_loop v4 v7).trips) (k0_t6 : Fin k0_t6_loop.trips), ∀ a, (k0_off134 v4 v7 k0_t5 k0_t6) a + S1.size a ≤ S34560.size a := fun v4 v7 k0_hw1 k0_t5 k0_t6 => k0_hw1.2.1.2.2.2.2.2.2.2.2.2.2.2.2.2.2.2.2.2.2.2.2.1 k0_t5 k0_t6
theorem k0_off136_inb : ∀ (v4 : BitVec 32) (v7 : BitVec 32) (k0_hw1 : k0_chk1 v4 v7) (k0_t5 : Fin (k0_t5_loop v4 v7).trips) (k0_t6 : Fin k0_t6_loop.trips), ∀ a, (k0_off136 v4 v7 k0_t5 k0_t6) a + S1.size a ≤ S34560.size a := fun v4 v7 k0_hw1 k0_t5 k0_t6 => k0_hw1.2.1.2.2.2.2.2.2.2.2.2.2.2.2.2.2.2.2.2.2.2.2.2.1 k0_t5 k0_t6
theorem k0_off139_inb : ∀ (v4 : BitVec 32) (v7 : BitVec 32) (k0_hw1 : k0_chk1 v4 v7) (k0_t5 : Fin (k0_t5_loop v4 v7).trips) (k0_t6 : Fin k0_t6_loop.trips), ∀ a, (k0_off139 v4 v7 k0_t5 k0_t6) a + S1.size a ≤ S34560.size a := fun v4 v7 k0_hw1 k0_t5 k0_t6 => k0_hw1.2.1.2.2.2.2.2.2.2.2.2.2.2.2.2.2.2.2.2.2.2.2.2.2.1 k0_t5 k0_t6
theorem k0_off141_inb : ∀ (v4 : BitVec 32) (v7 : BitVec 32) (k0_hw1 : k0_chk1 v4 v7) (k0_t5 : Fin (k0_t5_loop v4 v7).trips) (k0_t6 : Fin k0_t6_loop.trips), ∀ a, (k0_off141 v4 v7 k0_t5 k0_t6) a + S1.size a ≤ S34560.size a := fun v4 v7 k0_hw1 k0_t5 k0_t6 => k0_hw1.2.1.2.2.2.2.2.2.2.2.2.2.2.2.2.2.2.2.2.2.2.2.2.2.2.1 k0_t5 k0_t6
theorem k0_off144_inb : ∀ (v4 : BitVec 32) (v7 : BitVec 32) (k0_hw1 : k0_chk1 v4 v7) (k0_t5 : Fin (k0_t5_loop v4 v7).trips) (k0_t6 : Fin k0_t6_loop.trips), ∀ a, (k0_off144 v4 v7 k0_t5 k0_t6) a + S1.size a ≤ S34560.size a := fun v4 v7 k0_hw1 k0_t5 k0_t6 => k0_hw1.2.1.2.2.2.2.2.2.2.2.2.2.2.2.2.2.2.2.2.2.2.2.2.2.2.2.1 k0_t5 k0_t6
theorem k0_off146_inb : ∀ (v4 : BitVec 32) (v7 : BitVec 32) (k0_hw1 : k0_chk1 v4 v7) (k0_t5 : Fin (k0_t5_loop v4 v7).trips) (k0_t6 : Fin k0_t6_loop.trips), ∀ a, (k0_off146 v4 v7 k0_t5 k0_t6) a + S1.size a ≤ S34560.size a := fun v4 v7 k0_hw1 k0_t5 k0_t6 => k0_hw1.2.1.2.2.2.2.2.2.2.2.2.2.2.2.2.2.2.2.2.2.2.2.2.2.2.2.2.1 k0_t5 k0_t6
theorem k0_off149_inb : ∀ (v4 : BitVec 32) (v7 : BitVec 32) (k0_hw1 : k0_chk1 v4 v7) (k0_t5 : Fin (k0_t5_loop v4 v7).trips) (k0_t6 : Fin k0_t6_loop.trips), ∀ a, (k0_off149 v4 v7 k0_t5 k0_t6) a + S1.size a ≤ S34560.size a := fun v4 v7 k0_hw1 k0_t5 k0_t6 => k0_hw1.2.1.2.2.2.2.2.2.2.2.2.2.2.2.2.2.2.2.2.2.2.2.2.2.2.2.2.2.1 k0_t5 k0_t6
theorem k0_off151_inb : ∀ (v4 : BitVec 32) (v7 : BitVec 32) (k0_hw1 : k0_chk1 v4 v7) (k0_t5 : Fin (k0_t5_loop v4 v7).trips) (k0_t6 : Fin k0_t6_loop.trips), ∀ a, (k0_off151 v4 v7 k0_t5 k0_t6) a + S1.size a ≤ S34560.size a := fun v4 v7 k0_hw1 k0_t5 k0_t6 => k0_hw1.2.1.2.2.2.2.2.2.2.2.2.2.2.2.2.2.2.2.2.2.2.2.2.2.2.2.2.2.2.1 k0_t5 k0_t6
theorem k0_off154_inb : ∀ (v4 : BitVec 32) (v7 : BitVec 32) (k0_hw1 : k0_chk1 v4 v7) (k0_t5 : Fin (k0_t5_loop v4 v7).trips) (k0_t6 : Fin k0_t6_loop.trips), ∀ a, (k0_off154 v4 v7 k0_t5 k0_t6) a + S1.size a ≤ S34560.size a := fun v4 v7 k0_hw1 k0_t5 k0_t6 => k0_hw1.2.1.2.2.2.2.2.2.2.2.2.2.2.2.2.2.2.2.2.2.2.2.2.2.2.2.2.2.2.2.1 k0_t5 k0_t6
theorem k0_off156_inb : ∀ (v4 : BitVec 32) (v7 : BitVec 32) (k0_hw1 : k0_chk1 v4 v7) (k0_t5 : Fin (k0_t5_loop v4 v7).trips) (k0_t6 : Fin k0_t6_loop.trips), ∀ a, (k0_off156 v4 v7 k0_t5 k0_t6) a + S1.size a ≤ S34560.size a := fun v4 v7 k0_hw1 k0_t5 k0_t6 => k0_hw1.2.1.2.2.2.2.2.2.2.2.2.2.2.2.2.2.2.2.2.2.2.2.2.2.2.2.2.2.2.2.2.1 k0_t5 k0_t6
theorem k0_off159_inb : ∀ (v4 : BitVec 32) (v7 : BitVec 32) (k0_hw1 : k0_chk1 v4 v7) (k0_t5 : Fin (k0_t5_loop v4 v7).trips) (k0_t6 : Fin k0_t6_loop.trips), ∀ a, (k0_off159 v4 v7 k0_t5 k0_t6) a + S1.size a ≤ S34560.size a := fun v4 v7 k0_hw1 k0_t5 k0_t6 => k0_hw1.2.1.2.2.2.2.2.2.2.2.2.2.2.2.2.2.2.2.2.2.2.2.2.2.2.2.2.2.2.2.2.2.1 k0_t5 k0_t6
theorem k0_off161_inb : ∀ (v4 : BitVec 32) (v7 : BitVec 32) (k0_hw1 : k0_chk1 v4 v7) (k0_t5 : Fin (k0_t5_loop v4 v7).trips) (k0_t6 : Fin k0_t6_loop.trips), ∀ a, (k0_off161 v4 v7 k0_t5 k0_t6) a + S1.size a ≤ S34560.size a := fun v4 v7 k0_hw1 k0_t5 k0_t6 => k0_hw1.2.1.2.2.2.2.2.2.2.2.2.2.2.2.2.2.2.2.2.2.2.2.2.2.2.2.2.2.2.2.2.2.2 k0_t5 k0_t6
theorem k0_off164_inb : ∀ (v4 : BitVec 32) (v7 : BitVec 32) (k0_hw1 : k0_chk1 v4 v7) (k0_t5 : Fin (k0_t5_loop v4 v7).trips) (k0_t6 : Fin k0_t6_loop.trips), ∀ a, (k0_off164 v4 v7 k0_t5 k0_t6) a + S1.size a ≤ S34560.size a := fun v4 v7 k0_hw1 k0_t5 k0_t6 => k0_hw1.2.2.1 k0_t5 k0_t6
theorem k0_off166_inb : ∀ (v4 : BitVec 32) (v7 : BitVec 32) (k0_hw1 : k0_chk1 v4 v7) (k0_t5 : Fin (k0_t5_loop v4 v7).trips) (k0_t6 : Fin k0_t6_loop.trips), ∀ a, (k0_off166 v4 v7 k0_t5 k0_t6) a + S1.size a ≤ S34560.size a := fun v4 v7 k0_hw1 k0_t5 k0_t6 => k0_hw1.2.2.2 k0_t5 k0_t6

def k0_off167 (v868 : BitVec 32) : Fin 2 → Nat :=
  let c7_i32_509 : BitVec 32 := 7#32
  let v869 : BitVec 32 := Scalar.muli v868 c7_i32_509
  let v870 : Index := Scalar.indexCast v869
  let c0_510 : Index := 0#32
  ![v870.toNat, 0]

def k0_chk65 (v868 : BitVec 32) : Prop :=
  (∀ a, (k0_off167 v868) a + S8x128.size a ≤ S8968x128.size a)
theorem k0_off167_inb : ∀ (v868 : BitVec 32) (k0_hw65 : k0_chk65 v868), ∀ a, (k0_off167 v868) a + S8x128.size a ≤ S8968x128.size a := fun v868 k0_hw65 => k0_hw65

def k0_off168 (k0_t6 : Fin k0_t6_loop.trips) : Fin 2 → Nat :=
  let c0_i32_9 : BitVec 32 := 0#32
  let c1_i32_10 : BitVec 32 := 1#32
  let arg15 : BitVec 32 := Scf.iv c0_i32_9 c1_i32_10 k0_t6
  let c8_i32_494 : BitVec 32 := 8#32
  let v837 : BitVec 32 := Scalar.muli arg15 c8_i32_494
  let c7_i32_495 : BitVec 32 := 7#32
  let v838 : BitVec 32 := Scalar.addi v837 c7_i32_495
  let c9_i32_511 : BitVec 32 := 9#32
  let v873 : BitVec 32 := Scalar.muli v838 c9_i32_511
  let v874 : Index := Scalar.indexCast v873
  let c0_512 : Index := 0#32
  ![v874.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S28 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S34560 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S34560 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x896 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
abbrev S1280x1024 : Shape := ⟨2, ![1280, 1024]⟩
abbrev S1280 : Shape := ⟨1, ![1280]⟩
abbrev S1280x896 : Shape := ⟨2, ![1280, 896]⟩
abbrev S34560 : Shape := ⟨1, ![34560]⟩
abbrev S28 : Shape := ⟨1, ![28]⟩
abbrev S10x128 : Shape := ⟨2, ![10, 128]⟩
abbrev S27x1024x896 : Shape := ⟨3, ![27, 1024, 896]⟩
abbrev S1x1024x896 : Shape := ⟨3, ![1, 1024, 896]⟩
abbrev S11520x128 : Shape := ⟨2, ![11520, 128]⟩
abbrev S8968x128 : Shape := ⟨2, ![8968, 128]⟩
abbrev S1280x128 : Shape := ⟨2, ![1280, 128]⟩
abbrev S1152x128 : Shape := ⟨2, ![1152, 128]⟩
abbrev S1152x2x128 : Shape := ⟨3, ![1152, 2, 128]⟩
abbrev S1152x1x128 : Shape := ⟨3, ![1152, 1, 128]⟩
abbrev S1x128 : Shape := ⟨2, ![1, 128]⟩
abbrev S128x128 : Shape := ⟨2, ![128, 128]⟩
abbrev S32x1024 : Shape := ⟨2, ![32, 1024]⟩
abbrev S32x128 : Shape := ⟨2, ![32, 128]⟩
abbrev S8x1 : Shape := ⟨2, ![8, 1]⟩
abbrev S8x128 : Shape := ⟨2, ![8, 128]⟩
abbrev S32x896 : Shape := ⟨2, ![32, 896]⟩
abbrev S1 : Shape := ⟨1, ![1]⟩
abbrev S8x2x128 : Shape := ⟨3, ![8, 2, 128]⟩
abbrev S8x1x128 : Shape := ⟨3, ![8, 1, 128]⟩
abbrev S16x128 : Shape := ⟨2, ![16, 128]⟩
abbrev S16x1024 : Shape := ⟨2, ![16, 1024]⟩
abbrev S256x1024 : Shape := ⟨2, ![256, 1024]⟩
abbrev S16x896 : Shape := ⟨2, ![16, 896]⟩
abbrev S256x896 : Shape := ⟨2, ![256, 896]⟩
abbrev S1024x896 : Shape := ⟨2, ![1024, 896]⟩

abbrev nBuf : Space → Nat
  | .hbm => 10
  | .vmem => 11
  | .smem => 3
  | _ => 0

abbrev bufTy : (tb : Table) → Fin (tcTables nBuf tb) → BufTy
  | .hbm, ⟨0, _⟩ => ⟨S1280x1024, .fp8e4m3⟩
  | .hbm, ⟨1, _⟩ => ⟨S1280, .f32⟩
  | .hbm, ⟨2, _⟩ => ⟨S1280x896, .fp8e5m2⟩
  | .hbm, ⟨3, _⟩ => ⟨S1280, .f32⟩
  | .hbm, ⟨4, _⟩ => ⟨S34560, .i32⟩
  | .hbm, ⟨5, _⟩ => ⟨S34560, .i32⟩
  | .hbm, ⟨6, _⟩ => ⟨S28, .i32⟩
  | .hbm, ⟨7, _⟩ => ⟨S10x128, .f32⟩
  | .hbm, ⟨8, _⟩ => ⟨S10x128, .f32⟩
  | .hbm, ⟨9, _⟩ => ⟨S27x1024x896, .f32⟩
  | .local _ .vmem, ⟨0, _⟩ => ⟨S1280x1024, .fp8e4m3⟩
  | .local _ .vmem, ⟨1, _⟩ => ⟨S10x128, .f32⟩
  | .local _ .vmem, ⟨2, _⟩ => ⟨S1280x896, .fp8e5m2⟩
  | .local _ .vmem, ⟨3, _⟩ => ⟨S10x128, .f32⟩
  | .local _ .vmem, ⟨4, _⟩ => ⟨S1x1024x896, .f32⟩
  | .local _ .vmem, ⟨5, _⟩ => ⟨S1x1024x896, .f32⟩
  | .local _ .vmem, ⟨6, _⟩ => ⟨S11520x128, .f32⟩
  | .local _ .vmem, ⟨7, _⟩ => ⟨S8968x128, .f32⟩
  | .local _ .vmem, ⟨8, _⟩ => ⟨S1280x128, .f32⟩
  | .local _ .vmem, ⟨9, _⟩ => ⟨S1152x2x128, .bf16⟩
  | .local _ .vmem, ⟨10, _⟩ => ⟨S1152x2x128, .bf16⟩
  | .local _ .smem, ⟨0, _⟩ => ⟨S28, .i32⟩
  | .local _ .smem, ⟨1, _⟩ => ⟨S34560, .i32⟩
  | .local _ .smem, ⟨2, _⟩ => ⟨S34560, .i32⟩
  | _, _ => ⟨S1280x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg7_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_28 : BitVec 32 := 0#32
  let c40_i32 : BitVec 32 := 40#32
  let v97 : BitVec 32 := Scalar.addi c0_i32_28 c40_i32
  let c1_i32_29 : BitVec 32 := 1#32
  ⟨c0_i32_28, v97, c1_i32_29⟩
def k0_off1 (k0_t1 : Fin k0_t1_loop.trips) : Fin 2 → Nat :=
  let c0_i32_28 : BitVec 32 := 0#32
  let c1_i32_29 : BitVec 32 := 1#32
  let arg14 : BitVec 32 := Scf.iv c0_i32_28 c1_i32_29 k0_t1
  let c32_i32 : BitVec 32 := 32#32
  let v179 : BitVec 32 := Scalar.muli arg14 c32_i32
  let v180 : Index := Scalar.indexCast v179
  let c0_75 : Index := 0#32
  ![v180.toNat, 0]
def k0_off2 (k0_t1 : Fin k0_t1_loop.trips) : Fin 2 → Nat :=
  let c0_i32_28 : BitVec 32 := 0#32
  let c1_i32_29 : BitVec 32 := 1#32
  let arg14 : BitVec 32 := Scf.iv c0_i32_28 c1_i32_29 k0_t1
  let c32_i32_76 : BitVec 32 := 32#32
  let v183 : BitVec 32 := Scalar.muli arg14 c32_i32_76
  let v184 : Index := Scalar.indexCast v183
  let c0_77 : Index := 0#32
  ![v184.toNat, 0]
def k0_off3 (k0_t1 : Fin k0_t1_loop.trips) (c0_i32_79 : BitVec 32) (c0_i32_80 : BitVec 32) : Fin 2 → Nat :=
  let c0_i32_28 : BitVec 32 := 0#32
  let c1_i32_29 : BitVec 32 := 1#32
  let arg14 : BitVec 32 := Scf.iv c0_i32_28 c1_i32_29 k0_t1
  let c32_i32_78 : BitVec 32 := 32#32
  let v191 : BitVec 32 := Scalar.muli arg14 c32_i32_78
  let v192 : BitVec 32 := Scalar.addi v191 c0_i32_79
  let c9_i32 : BitVec 32 := 9#32
  let v193 : BitVec 32 := Scalar.muli v192 c9_i32
  let v194 : BitVec 32 := Scalar.addi v193 c0_i32_80
  let v195 : Index := Scalar.indexCast v194
  let c0_81 : Index := 0#32
  ![v195.toNat, 0]
@[reducible] def k0_t2_loop : Scf.Loop 32 :=
  let c0_i32_71 : BitVec 32 := 0#32
  let c40_i32_72 : BitVec 32 := 40#32
  let v178 : BitVec 32 := Scalar.addi c0_i32_71 c40_i32_72
  let c1_i32_73 : BitVec 32 := 1#32
  ⟨c0_i32_71, v178, c1_i32_73⟩
def k0_off4 (k0_t2 : Fin k0_t2_loop.trips) : Fin 2 → Nat :=
  let c0_i32_71 : BitVec 32 := 0#32
  let c1_i32_73 : BitVec 32 := 1#32
  let arg14 : BitVec 32 := Scf.iv c0_i32_71 c1_i32_73 k0_t2
  let c32_i32 : BitVec 32 := 32#32
  let v179 : BitVec 32 := Scalar.muli arg14 c32_i32
  let v180 : Index := Scalar.indexCast v179
  let c0_75 : Index := 0#32
  ![v180.toNat, 0]
def k0_off5 (k0_t2 : Fin k0_t2_loop.trips) : Fin 2 → Nat :=
  let c0_i32_71 : BitVec 32 := 0#32
  let c1_i32_73 : BitVec 32 := 1#32
  let arg14 : BitVec 32 := Scf.iv c0_i32_71 c1_i32_73 k0_t2
  let c32_i32_76 : BitVec 32 := 32#32
  let v183 : BitVec 32 := Scalar.muli arg14 c32_i32_76
  let v184 : Index := Scalar.indexCast v183
  let c0_77 : Index := 0#32
  ![v184.toNat, 0]
def k0_off6 (k0_t2 : Fin k0_t2_loop.trips) (c0_i32_79 : BitVec 32) (c0_i32_80 : BitVec 32) : Fin 2 → Nat :=
  let c0_i32_71 : BitVec 32 := 0#32
  let c1_i32_73 : BitVec 32 := 1#32
  let arg14 : BitVec 32 := Scf.iv c0_i32_71 c1_i32_73 k0_t2
  let c32_i32_78 : BitVec 32 := 32#32
  let v191 : BitVec 32 := Scalar.muli arg14 c32_i32_78
  let v192 : BitVec 32 := Scalar.addi v191 c0_i32_79
  let c7_i32 : BitVec 32 := 7#32
  let v193 : BitVec 32 := Scalar.muli v192 c7_i32
  let v194 : BitVec 32 := Scalar.addi v193 c0_i32_80
  let v195 : Index := Scalar.indexCast v194
  let c0_81 : Index := 0#32
  ![v195.toNat, 0]
def k0_off7 (i : grid0.Coords) : Fin 1 → Nat :=
  let arg0 : BitVec 32 := BitVec.ofNat 32 (i 0).val
  let v3 : Index := Scalar.indexCast arg0
  ![v3.toNat]
def k0_off8 (i : grid0.Coords) : Fin 1 → Nat :=
  let arg0 : BitVec 32 := BitVec.ofNat 32 (i 0).val
  let c1_i32 : BitVec 32 := 1#32
  let v5 : BitVec 32 := Scalar.addi arg0 c1_i32
  let v6 : Index := Scalar.indexCast v5
  ![v6.toNat]
@[reducible] def k0_t3_loop (v4 : BitVec 32) (v7 : BitVec 32) : Scf.Loop 32 :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_5 : BitVec 32 := 1#32
  ⟨c0_i32_3, v16, c1_i32_5⟩

@[reducible] def k0_t4_loop : Scf.Loop 32 :=
  let c0_i32_9 : BitVec 32 := 0#32
  let c16_i32 : BitVec 32 := 16#32
  let v19 : BitVec 32 := Scalar.addi c0_i32_9 c16_i32
  let c1_i32_10 : BitVec 32 := 1#32
  ⟨c0_i32_9, v19, c1_i32_10⟩
def k0_off9 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32 : BitVec 32 := 2#32
  let c0_i32_9 : BitVec 32 := 0#32
  let c1_i32_10 : BitVec 32 := 1#32
  let arg15 : BitVec 32 := Scf.iv c0_i32_9 c1_i32_10 k0_t4
  let c8_i32 : BitVec 32 := 8#32
  let v550 : BitVec 32 := Scalar.muli arg15 c8_i32
  let c0_i32_370 : BitVec 32 := 0#32
  let v551 : BitVec 32 := Scalar.addi v550 c0_i32_370
  let v552 : BitVec 32 := Scalar.muli c2_i32 v551
  let v553 : BitVec 32 := Scalar.addi v18 v552
  let c34559_i32 : BitVec 32 := 34559#32
  let v554 : BitVec 32 := Scalar.minsi v553 c34559_i32
  let v559 : Index := Scalar.indexCast v554
  ![v559.toNat]
def k0_off10 (v560 : BitVec 32) : Fin 2 → Nat :=
  let c9_i32 : BitVec 32 := 9#32
  let v561 : BitVec 32 := Scalar.muli v560 c9_i32
  let v562 : Index := Scalar.indexCast v561
  let c0_374 : Index := 0#32
  ![v562.toNat, 0]

def k0_chk2 (v560 : BitVec 32) : Prop :=
  (∀ a, (k0_off10 v560) a + S8x128.size a ≤ S11520x128.size a)
theorem k0_off10_inb : ∀ (v560 : BitVec 32) (k0_hw2 : k0_chk2 v560), ∀ a, (k0_off10 v560) a + S8x128.size a ≤ S11520x128.size a := fun v560 k0_hw2 => k0_hw2

def k0_off11 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_371 : BitVec 32 := 2#32
  let c0_i32_9 : BitVec 32 := 0#32
  let c1_i32_10 : BitVec 32 := 1#32
  let arg15 : BitVec 32 := Scf.iv c0_i32_9 c1_i32_10 k0_t4
  let c8_i32 : BitVec 32 := 8#32
  let v550 : BitVec 32 := Scalar.muli arg15 c8_i32
  let c0_i32_370 : BitVec 32 := 0#32
  let v551 : BitVec 32 := Scalar.addi v550 c0_i32_370
  let v555 : BitVec 32 := Scalar.muli c2_i32_371 v551
  let v556 : BitVec 32 := Scalar.addi v18 v555
  let c1_i32_372 : BitVec 32 := 1#32
  let v557 : BitVec 32 := Scalar.addi v556 c1_i32_372
  let c34559_i32_373 : BitVec 32 := 34559#32
  let v558 : BitVec 32 := Scalar.minsi v557 c34559_i32_373
  let v564 : Index := Scalar.indexCast v558
  ![v564.toNat]
def k0_off12 (v565 : BitVec 32) : Fin 2 → Nat :=
  let c9_i32_375 : BitVec 32 := 9#32
  let v566 : BitVec 32 := Scalar.muli v565 c9_i32_375
  let v567 : Index := Scalar.indexCast v566
  let c0_376 : Index := 0#32
  ![v567.toNat, 0]

def k0_chk3 (v565 : BitVec 32) : Prop :=
  (∀ a, (k0_off12 v565) a + S8x128.size a ≤ S11520x128.size a)
theorem k0_off12_inb : ∀ (v565 : BitVec 32) (k0_hw3 : k0_chk3 v565), ∀ a, (k0_off12 v565) a + S8x128.size a ≤ S11520x128.size a := fun v565 k0_hw3 => k0_hw3

def k0_off13 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32 : BitVec 32 := 8#32
  let v550 : BitVec 32 := Scalar.muli arg15 c8_i32
  let c0_i32_370 : BitVec 32 := 0#32
  let v551 : BitVec 32 := Scalar.addi v550 c0_i32_370
  let c9_i32_377 : BitVec 32 := 9#32
  let v570 : BitVec 32 := Scalar.muli v551 c9_i32_377
  let v571 : Index := Scalar.indexCast v570
  let c0_378 : Index := 0#32
  ![v571.toNat, 0, 0]
def k0_off14 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32 : BitVec 32 := 2#32
  let c0_i32_9 : BitVec 32 := 0#32
  let c1_i32_10 : BitVec 32 := 1#32
  let arg15 : BitVec 32 := Scf.iv c0_i32_9 c1_i32_10 k0_t4
  let c8_i32 : BitVec 32 := 8#32
  let v550 : BitVec 32 := Scalar.muli arg15 c8_i32
  let c0_i32_370 : BitVec 32 := 0#32
  let v551 : BitVec 32 := Scalar.addi v550 c0_i32_370
  let v552 : BitVec 32 := Scalar.muli c2_i32 v551
  let v553 : BitVec 32 := Scalar.addi v18 v552
  let c34559_i32 : BitVec 32 := 34559#32
  let v554 : BitVec 32 := Scalar.minsi v553 c34559_i32
  let v575 : Index := Scalar.indexCast v554
  ![v575.toNat]
def k0_off15 (v576 : BitVec 32) : Fin 2 → Nat :=
  let c7_i32 : BitVec 32 := 7#32
  let v577 : BitVec 32 := Scalar.muli v576 c7_i32
  let v578 : Index := Scalar.indexCast v577
  let c0_379 : Index := 0#32
  ![v578.toNat, 0]

def k0_chk4 (v576 : BitVec 32) : Prop :=
  (∀ a, (k0_off15 v576) a + S8x128.size a ≤ S8968x128.size a)
theorem k0_off15_inb : ∀ (v576 : BitVec 32) (k0_hw4 : k0_chk4 v576), ∀ a, (k0_off15 v576) a + S8x128.size a ≤ S8968x128.size a := fun v576 k0_hw4 => k0_hw4

def k0_off16 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_371 : BitVec 32 := 2#32
  let c0_i32_9 : BitVec 32 := 0#32
  let c1_i32_10 : BitVec 32 := 1#32
  let arg15 : BitVec 32 := Scf.iv c0_i32_9 c1_i32_10 k0_t4
  let c8_i32 : BitVec 32 := 8#32
  let v550 : BitVec 32 := Scalar.muli arg15 c8_i32
  let c0_i32_370 : BitVec 32 := 0#32
  let v551 : BitVec 32 := Scalar.addi v550 c0_i32_370
  let v555 : BitVec 32 := Scalar.muli c2_i32_371 v551
  let v556 : BitVec 32 := Scalar.addi v18 v555
  let c1_i32_372 : BitVec 32 := 1#32
  let v557 : BitVec 32 := Scalar.addi v556 c1_i32_372
  let c34559_i32_373 : BitVec 32 := 34559#32
  let v558 : BitVec 32 := Scalar.minsi v557 c34559_i32_373
  let v580 : Index := Scalar.indexCast v558
  ![v580.toNat]
def k0_off17 (v581 : BitVec 32) : Fin 2 → Nat :=
  let c7_i32_380 : BitVec 32 := 7#32
  let v582 : BitVec 32 := Scalar.muli v581 c7_i32_380
  let v583 : Index := Scalar.indexCast v582
  let c0_381 : Index := 0#32
  ![v583.toNat, 0]

def k0_chk5 (v581 : BitVec 32) : Prop :=
  (∀ a, (k0_off17 v581) a + S8x128.size a ≤ S8968x128.size a)
theorem k0_off17_inb : ∀ (v581 : BitVec 32) (k0_hw5 : k0_chk5 v581), ∀ a, (k0_off17 v581) a + S8x128.size a ≤ S8968x128.size a := fun v581 k0_hw5 => k0_hw5

def k0_off18 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32 : BitVec 32 := 8#32
  let v550 : BitVec 32 := Scalar.muli arg15 c8_i32
  let c0_i32_370 : BitVec 32 := 0#32
  let v551 : BitVec 32 := Scalar.addi v550 c0_i32_370
  let c9_i32_382 : BitVec 32 := 9#32
  let v586 : BitVec 32 := Scalar.muli v551 c9_i32_382
  let v587 : Index := Scalar.indexCast v586
  let c0_383 : Index := 0#32
  ![v587.toNat, 0, 0]
def k0_off19 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_386 : BitVec 32 := 2#32
  let c0_i32_9 : BitVec 32 := 0#32
  let c1_i32_10 : BitVec 32 := 1#32
  let arg15 : BitVec 32 := Scf.iv c0_i32_9 c1_i32_10 k0_t4
  let c8_i32_384 : BitVec 32 := 8#32
  let v591 : BitVec 32 := Scalar.muli arg15 c8_i32_384
  let c1_i32_385 : BitVec 32 := 1#32
  let v592 : BitVec 32 := Scalar.addi v591 c1_i32_385
  let v593 : BitVec 32 := Scalar.muli c2_i32_386 v592
  let v594 : BitVec 32 := Scalar.addi v18 v593
  let c34559_i32_387 : BitVec 32 := 34559#32
  let v595 : BitVec 32 := Scalar.minsi v594 c34559_i32_387
  let v600 : Index := Scalar.indexCast v595
  ![v600.toNat]
def k0_off20 (v601 : BitVec 32) : Fin 2 → Nat :=
  let c9_i32_391 : BitVec 32 := 9#32
  let v602 : BitVec 32 := Scalar.muli v601 c9_i32_391
  let v603 : Index := Scalar.indexCast v602
  let c0_392 : Index := 0#32
  ![v603.toNat, 0]

def k0_chk6 (v601 : BitVec 32) : Prop :=
  (∀ a, (k0_off20 v601) a + S8x128.size a ≤ S11520x128.size a)
theorem k0_off20_inb : ∀ (v601 : BitVec 32) (k0_hw6 : k0_chk6 v601), ∀ a, (k0_off20 v601) a + S8x128.size a ≤ S11520x128.size a := fun v601 k0_hw6 => k0_hw6

def k0_off21 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_388 : BitVec 32 := 2#32
  let c0_i32_9 : BitVec 32 := 0#32
  let c1_i32_10 : BitVec 32 := 1#32
  let arg15 : BitVec 32 := Scf.iv c0_i32_9 c1_i32_10 k0_t4
  let c8_i32_384 : BitVec 32 := 8#32
  let v591 : BitVec 32 := Scalar.muli arg15 c8_i32_384
  let c1_i32_385 : BitVec 32 := 1#32
  let v592 : BitVec 32 := Scalar.addi v591 c1_i32_385
  let v596 : BitVec 32 := Scalar.muli c2_i32_388 v592
  let v597 : BitVec 32 := Scalar.addi v18 v596
  let c1_i32_389 : BitVec 32 := 1#32
  let v598 : BitVec 32 := Scalar.addi v597 c1_i32_389
  let c34559_i32_390 : BitVec 32 := 34559#32
  let v599 : BitVec 32 := Scalar.minsi v598 c34559_i32_390
  let v605 : Index := Scalar.indexCast v599
  ![v605.toNat]
def k0_off22 (v606 : BitVec 32) : Fin 2 → Nat :=
  let c9_i32_393 : BitVec 32 := 9#32
  let v607 : BitVec 32 := Scalar.muli v606 c9_i32_393
  let v608 : Index := Scalar.indexCast v607
  let c0_394 : Index := 0#32
  ![v608.toNat, 0]

def k0_chk7 (v606 : BitVec 32) : Prop :=
  (∀ a, (k0_off22 v606) a + S8x128.size a ≤ S11520x128.size a)
theorem k0_off22_inb : ∀ (v606 : BitVec 32) (k0_hw7 : k0_chk7 v606), ∀ a, (k0_off22 v606) a + S8x128.size a ≤ S11520x128.size a := fun v606 k0_hw7 => k0_hw7

def k0_off23 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32_384 : BitVec 32 := 8#32
  let v591 : BitVec 32 := Scalar.muli arg15 c8_i32_384
  let c1_i32_385 : BitVec 32 := 1#32
  let v592 : BitVec 32 := Scalar.addi v591 c1_i32_385
  let c9_i32_395 : BitVec 32 := 9#32
  let v611 : BitVec 32 := Scalar.muli v592 c9_i32_395
  let v612 : Index := Scalar.indexCast v611
  let c0_396 : Index := 0#32
  ![v612.toNat, 0, 0]
def k0_off24 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_386 : BitVec 32 := 2#32
  let c0_i32_9 : BitVec 32 := 0#32
  let c1_i32_10 : BitVec 32 := 1#32
  let arg15 : BitVec 32 := Scf.iv c0_i32_9 c1_i32_10 k0_t4
  let c8_i32_384 : BitVec 32 := 8#32
  let v591 : BitVec 32 := Scalar.muli arg15 c8_i32_384
  let c1_i32_385 : BitVec 32 := 1#32
  let v592 : BitVec 32 := Scalar.addi v591 c1_i32_385
  let v593 : BitVec 32 := Scalar.muli c2_i32_386 v592
  let v594 : BitVec 32 := Scalar.addi v18 v593
  let c34559_i32_387 : BitVec 32 := 34559#32
  let v595 : BitVec 32 := Scalar.minsi v594 c34559_i32_387
  let v616 : Index := Scalar.indexCast v595
  ![v616.toNat]
def k0_off25 (v617 : BitVec 32) : Fin 2 → Nat :=
  let c7_i32_397 : BitVec 32 := 7#32
  let v618 : BitVec 32 := Scalar.muli v617 c7_i32_397
  let v619 : Index := Scalar.indexCast v618
  let c0_398 : Index := 0#32
  ![v619.toNat, 0]

def k0_chk8 (v617 : BitVec 32) : Prop :=
  (∀ a, (k0_off25 v617) a + S8x128.size a ≤ S8968x128.size a)
theorem k0_off25_inb : ∀ (v617 : BitVec 32) (k0_hw8 : k0_chk8 v617), ∀ a, (k0_off25 v617) a + S8x128.size a ≤ S8968x128.size a := fun v617 k0_hw8 => k0_hw8

def k0_off26 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_388 : BitVec 32 := 2#32
  let c0_i32_9 : BitVec 32 := 0#32
  let c1_i32_10 : BitVec 32 := 1#32
  let arg15 : BitVec 32 := Scf.iv c0_i32_9 c1_i32_10 k0_t4
  let c8_i32_384 : BitVec 32 := 8#32
  let v591 : BitVec 32 := Scalar.muli arg15 c8_i32_384
  let c1_i32_385 : BitVec 32 := 1#32
  let v592 : BitVec 32 := Scalar.addi v591 c1_i32_385
  let v596 : BitVec 32 := Scalar.muli c2_i32_388 v592
  let v597 : BitVec 32 := Scalar.addi v18 v596
  let c1_i32_389 : BitVec 32 := 1#32
  let v598 : BitVec 32 := Scalar.addi v597 c1_i32_389
  let c34559_i32_390 : BitVec 32 := 34559#32
  let v599 : BitVec 32 := Scalar.minsi v598 c34559_i32_390
  let v621 : Index := Scalar.indexCast v599
  ![v621.toNat]
def k0_off27 (v622 : BitVec 32) : Fin 2 → Nat :=
  let c7_i32_399 : BitVec 32 := 7#32
  let v623 : BitVec 32 := Scalar.muli v622 c7_i32_399
  let v624 : Index := Scalar.indexCast v623
  let c0_400 : Index := 0#32
  ![v624.toNat, 0]

def k0_chk9 (v622 : BitVec 32) : Prop :=
  (∀ a, (k0_off27 v622) a + S8x128.size a ≤ S8968x128.size a)
theorem k0_off27_inb : ∀ (v622 : BitVec 32) (k0_hw9 : k0_chk9 v622), ∀ a, (k0_off27 v622) a + S8x128.size a ≤ S8968x128.size a := fun v622 k0_hw9 => k0_hw9

def k0_off28 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32_384 : BitVec 32 := 8#32
  let v591 : BitVec 32 := Scalar.muli arg15 c8_i32_384
  let c1_i32_385 : BitVec 32 := 1#32
  let v592 : BitVec 32 := Scalar.addi v591 c1_i32_385
  let c9_i32_401 : BitVec 32 := 9#32
  let v627 : BitVec 32 := Scalar.muli v592 c9_i32_401
  let v628 : Index := Scalar.indexCast v627
  let c0_402 : Index := 0#32
  ![v628.toNat, 0, 0]
def k0_off29 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_405 : BitVec 32 := 2#32
  let c0_i32_9 : BitVec 32 := 0#32
  let c1_i32_10 : BitVec 32 := 1#32
  let arg15 : BitVec 32 := Scf.iv c0_i32_9 c1_i32_10 k0_t4
  let c8_i32_403 : BitVec 32 := 8#32
  let v632 : BitVec 32 := Scalar.muli arg15 c8_i32_403
  let c2_i32_404 : BitVec 32 := 2#32
  let v633 : BitVec 32 := Scalar.addi v632 c2_i32_404
  let v634 : BitVec 32 := Scalar.muli c2_i32_405 v633
  let v635 : BitVec 32 := Scalar.addi v18 v634
  let c34559_i32_406 : BitVec 32 := 34559#32
  let v636 : BitVec 32 := Scalar.minsi v635 c34559_i32_406
  let v641 : Index := Scalar.indexCast v636
  ![v641.toNat]
def k0_off30 (v642 : BitVec 32) : Fin 2 → Nat :=
  let c9_i32_410 : BitVec 32 := 9#32
  let v643 : BitVec 32 := Scalar.muli v642 c9_i32_410
  let v644 : Index := Scalar.indexCast v643
  let c0_411 : Index := 0#32
  ![v644.toNat, 0]

def k0_chk10 (v642 : BitVec 32) : Prop :=
  (∀ a, (k0_off30 v642) a + S8x128.size a ≤ S11520x128.size a)
theorem k0_off30_inb : ∀ (v642 : BitVec 32) (k0_hw10 : k0_chk10 v642), ∀ a, (k0_off30 v642) a + S8x128.size a ≤ S11520x128.size a := fun v642 k0_hw10 => k0_hw10

def k0_off31 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_407 : BitVec 32 := 2#32
  let c0_i32_9 : BitVec 32 := 0#32
  let c1_i32_10 : BitVec 32 := 1#32
  let arg15 : BitVec 32 := Scf.iv c0_i32_9 c1_i32_10 k0_t4
  let c8_i32_403 : BitVec 32 := 8#32
  let v632 : BitVec 32 := Scalar.muli arg15 c8_i32_403
  let c2_i32_404 : BitVec 32 := 2#32
  let v633 : BitVec 32 := Scalar.addi v632 c2_i32_404
  let v637 : BitVec 32 := Scalar.muli c2_i32_407 v633
  let v638 : BitVec 32 := Scalar.addi v18 v637
  let c1_i32_408 : BitVec 32 := 1#32
  let v639 : BitVec 32 := Scalar.addi v638 c1_i32_408
  let c34559_i32_409 : BitVec 32 := 34559#32
  let v640 : BitVec 32 := Scalar.minsi v639 c34559_i32_409
  let v646 : Index := Scalar.indexCast v640
  ![v646.toNat]
def k0_off32 (v647 : BitVec 32) : Fin 2 → Nat :=
  let c9_i32_412 : BitVec 32 := 9#32
  let v648 : BitVec 32 := Scalar.muli v647 c9_i32_412
  let v649 : Index := Scalar.indexCast v648
  let c0_413 : Index := 0#32
  ![v649.toNat, 0]

def k0_chk11 (v647 : BitVec 32) : Prop :=
  (∀ a, (k0_off32 v647) a + S8x128.size a ≤ S11520x128.size a)
theorem k0_off32_inb : ∀ (v647 : BitVec 32) (k0_hw11 : k0_chk11 v647), ∀ a, (k0_off32 v647) a + S8x128.size a ≤ S11520x128.size a := fun v647 k0_hw11 => k0_hw11

def k0_off33 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32_403 : BitVec 32 := 8#32
  let v632 : BitVec 32 := Scalar.muli arg15 c8_i32_403
  let c2_i32_404 : BitVec 32 := 2#32
  let v633 : BitVec 32 := Scalar.addi v632 c2_i32_404
  let c9_i32_414 : BitVec 32 := 9#32
  let v652 : BitVec 32 := Scalar.muli v633 c9_i32_414
  let v653 : Index := Scalar.indexCast v652
  let c0_415 : Index := 0#32
  ![v653.toNat, 0, 0]
def k0_off34 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_405 : BitVec 32 := 2#32
  let c0_i32_9 : BitVec 32 := 0#32
  let c1_i32_10 : BitVec 32 := 1#32
  let arg15 : BitVec 32 := Scf.iv c0_i32_9 c1_i32_10 k0_t4
  let c8_i32_403 : BitVec 32 := 8#32
  let v632 : BitVec 32 := Scalar.muli arg15 c8_i32_403
  let c2_i32_404 : BitVec 32 := 2#32
  let v633 : BitVec 32 := Scalar.addi v632 c2_i32_404
  let v634 : BitVec 32 := Scalar.muli c2_i32_405 v633
  let v635 : BitVec 32 := Scalar.addi v18 v634
  let c34559_i32_406 : BitVec 32 := 34559#32
  let v636 : BitVec 32 := Scalar.minsi v635 c34559_i32_406
  let v657 : Index := Scalar.indexCast v636
  ![v657.toNat]
def k0_off35 (v658 : BitVec 32) : Fin 2 → Nat :=
  let c7_i32_416 : BitVec 32 := 7#32
  let v659 : BitVec 32 := Scalar.muli v658 c7_i32_416
  let v660 : Index := Scalar.indexCast v659
  let c0_417 : Index := 0#32
  ![v660.toNat, 0]

def k0_chk12 (v658 : BitVec 32) : Prop :=
  (∀ a, (k0_off35 v658) a + S8x128.size a ≤ S8968x128.size a)
theorem k0_off35_inb : ∀ (v658 : BitVec 32) (k0_hw12 : k0_chk12 v658), ∀ a, (k0_off35 v658) a + S8x128.size a ≤ S8968x128.size a := fun v658 k0_hw12 => k0_hw12

def k0_off36 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_407 : BitVec 32 := 2#32
  let c0_i32_9 : BitVec 32 := 0#32
  let c1_i32_10 : BitVec 32 := 1#32
  let arg15 : BitVec 32 := Scf.iv c0_i32_9 c1_i32_10 k0_t4
  let c8_i32_403 : BitVec 32 := 8#32
  let v632 : BitVec 32 := Scalar.muli arg15 c8_i32_403
  let c2_i32_404 : BitVec 32 := 2#32
  let v633 : BitVec 32 := Scalar.addi v632 c2_i32_404
  let v637 : BitVec 32 := Scalar.muli c2_i32_407 v633
  let v638 : BitVec 32 := Scalar.addi v18 v637
  let c1_i32_408 : BitVec 32 := 1#32
  let v639 : BitVec 32 := Scalar.addi v638 c1_i32_408
  let c34559_i32_409 : BitVec 32 := 34559#32
  let v640 : BitVec 32 := Scalar.minsi v639 c34559_i32_409
  let v662 : Index := Scalar.indexCast v640
  ![v662.toNat]
def k0_off37 (v663 : BitVec 32) : Fin 2 → Nat :=
  let c7_i32_418 : BitVec 32 := 7#32
  let v664 : BitVec 32 := Scalar.muli v663 c7_i32_418
  let v665 : Index := Scalar.indexCast v664
  let c0_419 : Index := 0#32
  ![v665.toNat, 0]

def k0_chk13 (v663 : BitVec 32) : Prop :=
  (∀ a, (k0_off37 v663) a + S8x128.size a ≤ S8968x128.size a)
theorem k0_off37_inb : ∀ (v663 : BitVec 32) (k0_hw13 : k0_chk13 v663), ∀ a, (k0_off37 v663) a + S8x128.size a ≤ S8968x128.size a := fun v663 k0_hw13 => k0_hw13

def k0_off38 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32_403 : BitVec 32 := 8#32
  let v632 : BitVec 32 := Scalar.muli arg15 c8_i32_403
  let c2_i32_404 : BitVec 32 := 2#32
  let v633 : BitVec 32 := Scalar.addi v632 c2_i32_404
  let c9_i32_420 : BitVec 32 := 9#32
  let v668 : BitVec 32 := Scalar.muli v633 c9_i32_420
  let v669 : Index := Scalar.indexCast v668
  let c0_421 : Index := 0#32
  ![v669.toNat, 0, 0]
def k0_off39 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_423 : BitVec 32 := 2#32
  let c0_i32_9 : BitVec 32 := 0#32
  let c1_i32_10 : BitVec 32 := 1#32
  let arg15 : BitVec 32 := Scf.iv c0_i32_9 c1_i32_10 k0_t4
  let c8_i32_422 : BitVec 32 := 8#32
  let v673 : BitVec 32 := Scalar.muli arg15 c8_i32_422
  let c3_i32 : BitVec 32 := 3#32
  let v674 : BitVec 32 := Scalar.addi v673 c3_i32
  let v675 : BitVec 32 := Scalar.muli c2_i32_423 v674
  let v676 : BitVec 32 := Scalar.addi v18 v675
  let c34559_i32_424 : BitVec 32 := 34559#32
  let v677 : BitVec 32 := Scalar.minsi v676 c34559_i32_424
  let v682 : Index := Scalar.indexCast v677
  ![v682.toNat]
def k0_off40 (v683 : BitVec 32) : Fin 2 → Nat :=
  let c9_i32_428 : BitVec 32 := 9#32
  let v684 : BitVec 32 := Scalar.muli v683 c9_i32_428
  let v685 : Index := Scalar.indexCast v684
  let c0_429 : Index := 0#32
  ![v685.toNat, 0]

def k0_chk14 (v683 : BitVec 32) : Prop :=
  (∀ a, (k0_off40 v683) a + S8x128.size a ≤ S11520x128.size a)
theorem k0_off40_inb : ∀ (v683 : BitVec 32) (k0_hw14 : k0_chk14 v683), ∀ a, (k0_off40 v683) a + S8x128.size a ≤ S11520x128.size a := fun v683 k0_hw14 => k0_hw14

def k0_off41 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_425 : BitVec 32 := 2#32
  let c0_i32_9 : BitVec 32 := 0#32
  let c1_i32_10 : BitVec 32 := 1#32
  let arg15 : BitVec 32 := Scf.iv c0_i32_9 c1_i32_10 k0_t4
  let c8_i32_422 : BitVec 32 := 8#32
  let v673 : BitVec 32 := Scalar.muli arg15 c8_i32_422
  let c3_i32 : BitVec 32 := 3#32
  let v674 : BitVec 32 := Scalar.addi v673 c3_i32
  let v678 : BitVec 32 := Scalar.muli c2_i32_425 v674
  let v679 : BitVec 32 := Scalar.addi v18 v678
  let c1_i32_426 : BitVec 32 := 1#32
  let v680 : BitVec 32 := Scalar.addi v679 c1_i32_426
  let c34559_i32_427 : BitVec 32 := 34559#32
  let v681 : BitVec 32 := Scalar.minsi v680 c34559_i32_427
  let v687 : Index := Scalar.indexCast v681
  ![v687.toNat]
def k0_off42 (v688 : BitVec 32) : Fin 2 → Nat :=
  let c9_i32_430 : BitVec 32 := 9#32
  let v689 : BitVec 32 := Scalar.muli v688 c9_i32_430
  let v690 : Index := Scalar.indexCast v689
  let c0_431 : Index := 0#32
  ![v690.toNat, 0]

def k0_chk15 (v688 : BitVec 32) : Prop :=
  (∀ a, (k0_off42 v688) a + S8x128.size a ≤ S11520x128.size a)
theorem k0_off42_inb : ∀ (v688 : BitVec 32) (k0_hw15 : k0_chk15 v688), ∀ a, (k0_off42 v688) a + S8x128.size a ≤ S11520x128.size a := fun v688 k0_hw15 => k0_hw15

def k0_off43 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32_422 : BitVec 32 := 8#32
  let v673 : BitVec 32 := Scalar.muli arg15 c8_i32_422
  let c3_i32 : BitVec 32 := 3#32
  let v674 : BitVec 32 := Scalar.addi v673 c3_i32
  let c9_i32_432 : BitVec 32 := 9#32
  let v693 : BitVec 32 := Scalar.muli v674 c9_i32_432
  let v694 : Index := Scalar.indexCast v693
  let c0_433 : Index := 0#32
  ![v694.toNat, 0, 0]
def k0_off44 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_423 : BitVec 32 := 2#32
  let c0_i32_9 : BitVec 32 := 0#32
  let c1_i32_10 : BitVec 32 := 1#32
  let arg15 : BitVec 32 := Scf.iv c0_i32_9 c1_i32_10 k0_t4
  let c8_i32_422 : BitVec 32 := 8#32
  let v673 : BitVec 32 := Scalar.muli arg15 c8_i32_422
  let c3_i32 : BitVec 32 := 3#32
  let v674 : BitVec 32 := Scalar.addi v673 c3_i32
  let v675 : BitVec 32 := Scalar.muli c2_i32_423 v674
  let v676 : BitVec 32 := Scalar.addi v18 v675
  let c34559_i32_424 : BitVec 32 := 34559#32
  let v677 : BitVec 32 := Scalar.minsi v676 c34559_i32_424
  let v698 : Index := Scalar.indexCast v677
  ![v698.toNat]
def k0_off45 (v699 : BitVec 32) : Fin 2 → Nat :=
  let c7_i32_434 : BitVec 32 := 7#32
  let v700 : BitVec 32 := Scalar.muli v699 c7_i32_434
  let v701 : Index := Scalar.indexCast v700
  let c0_435 : Index := 0#32
  ![v701.toNat, 0]

def k0_chk16 (v699 : BitVec 32) : Prop :=
  (∀ a, (k0_off45 v699) a + S8x128.size a ≤ S8968x128.size a)
theorem k0_off45_inb : ∀ (v699 : BitVec 32) (k0_hw16 : k0_chk16 v699), ∀ a, (k0_off45 v699) a + S8x128.size a ≤ S8968x128.size a := fun v699 k0_hw16 => k0_hw16

def k0_off46 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_425 : BitVec 32 := 2#32
  let c0_i32_9 : BitVec 32 := 0#32
  let c1_i32_10 : BitVec 32 := 1#32
  let arg15 : BitVec 32 := Scf.iv c0_i32_9 c1_i32_10 k0_t4
  let c8_i32_422 : BitVec 32 := 8#32
  let v673 : BitVec 32 := Scalar.muli arg15 c8_i32_422
  let c3_i32 : BitVec 32 := 3#32
  let v674 : BitVec 32 := Scalar.addi v673 c3_i32
  let v678 : BitVec 32 := Scalar.muli c2_i32_425 v674
  let v679 : BitVec 32 := Scalar.addi v18 v678
  let c1_i32_426 : BitVec 32 := 1#32
  let v680 : BitVec 32 := Scalar.addi v679 c1_i32_426
  let c34559_i32_427 : BitVec 32 := 34559#32
  let v681 : BitVec 32 := Scalar.minsi v680 c34559_i32_427
  let v703 : Index := Scalar.indexCast v681
  ![v703.toNat]
def k0_off47 (v704 : BitVec 32) : Fin 2 → Nat :=
  let c7_i32_436 : BitVec 32 := 7#32
  let v705 : BitVec 32 := Scalar.muli v704 c7_i32_436
  let v706 : Index := Scalar.indexCast v705
  let c0_437 : Index := 0#32
  ![v706.toNat, 0]

def k0_chk17 (v704 : BitVec 32) : Prop :=
  (∀ a, (k0_off47 v704) a + S8x128.size a ≤ S8968x128.size a)
theorem k0_off47_inb : ∀ (v704 : BitVec 32) (k0_hw17 : k0_chk17 v704), ∀ a, (k0_off47 v704) a + S8x128.size a ≤ S8968x128.size a := fun v704 k0_hw17 => k0_hw17

def k0_off48 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32_422 : BitVec 32 := 8#32
  let v673 : BitVec 32 := Scalar.muli arg15 c8_i32_422
  let c3_i32 : BitVec 32 := 3#32
  let v674 : BitVec 32 := Scalar.addi v673 c3_i32
  let c9_i32_438 : BitVec 32 := 9#32
  let v709 : BitVec 32 := Scalar.muli v674 c9_i32_438
  let v710 : Index := Scalar.indexCast v709
  let c0_439 : Index := 0#32
  ![v710.toNat, 0, 0]
def k0_off49 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_441 : BitVec 32 := 2#32
  let c0_i32_9 : BitVec 32 := 0#32
  let c1_i32_10 : BitVec 32 := 1#32
  let arg15 : BitVec 32 := Scf.iv c0_i32_9 c1_i32_10 k0_t4
  let c8_i32_440 : BitVec 32 := 8#32
  let v714 : BitVec 32 := Scalar.muli arg15 c8_i32_440
  let c4_i32 : BitVec 32 := 4#32
  let v715 : BitVec 32 := Scalar.addi v714 c4_i32
  let v716 : BitVec 32 := Scalar.muli c2_i32_441 v715
  let v717 : BitVec 32 := Scalar.addi v18 v716
  let c34559_i32_442 : BitVec 32 := 34559#32
  let v718 : BitVec 32 := Scalar.minsi v717 c34559_i32_442
  let v723 : Index := Scalar.indexCast v718
  ![v723.toNat]
def k0_off50 (v724 : BitVec 32) : Fin 2 → Nat :=
  let c9_i32_446 : BitVec 32 := 9#32
  let v725 : BitVec 32 := Scalar.muli v724 c9_i32_446
  let v726 : Index := Scalar.indexCast v725
  let c0_447 : Index := 0#32
  ![v726.toNat, 0]

def k0_chk18 (v724 : BitVec 32) : Prop :=
  (∀ a, (k0_off50 v724) a + S8x128.size a ≤ S11520x128.size a)
theorem k0_off50_inb : ∀ (v724 : BitVec 32) (k0_hw18 : k0_chk18 v724), ∀ a, (k0_off50 v724) a + S8x128.size a ≤ S11520x128.size a := fun v724 k0_hw18 => k0_hw18

def k0_off51 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_443 : BitVec 32 := 2#32
  let c0_i32_9 : BitVec 32 := 0#32
  let c1_i32_10 : BitVec 32 := 1#32
  let arg15 : BitVec 32 := Scf.iv c0_i32_9 c1_i32_10 k0_t4
  let c8_i32_440 : BitVec 32 := 8#32
  let v714 : BitVec 32 := Scalar.muli arg15 c8_i32_440
  let c4_i32 : BitVec 32 := 4#32
  let v715 : BitVec 32 := Scalar.addi v714 c4_i32
  let v719 : BitVec 32 := Scalar.muli c2_i32_443 v715
  let v720 : BitVec 32 := Scalar.addi v18 v719
  let c1_i32_444 : BitVec 32 := 1#32
  let v721 : BitVec 32 := Scalar.addi v720 c1_i32_444
  let c34559_i32_445 : BitVec 32 := 34559#32
  let v722 : BitVec 32 := Scalar.minsi v721 c34559_i32_445
  let v728 : Index := Scalar.indexCast v722
  ![v728.toNat]
def k0_off52 (v729 : BitVec 32) : Fin 2 → Nat :=
  let c9_i32_448 : BitVec 32 := 9#32
  let v730 : BitVec 32 := Scalar.muli v729 c9_i32_448
  let v731 : Index := Scalar.indexCast v730
  let c0_449 : Index := 0#32
  ![v731.toNat, 0]

def k0_chk19 (v729 : BitVec 32) : Prop :=
  (∀ a, (k0_off52 v729) a + S8x128.size a ≤ S11520x128.size a)
theorem k0_off52_inb : ∀ (v729 : BitVec 32) (k0_hw19 : k0_chk19 v729), ∀ a, (k0_off52 v729) a + S8x128.size a ≤ S11520x128.size a := fun v729 k0_hw19 => k0_hw19

def k0_off53 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32_440 : BitVec 32 := 8#32
  let v714 : BitVec 32 := Scalar.muli arg15 c8_i32_440
  let c4_i32 : BitVec 32 := 4#32
  let v715 : BitVec 32 := Scalar.addi v714 c4_i32
  let c9_i32_450 : BitVec 32 := 9#32
  let v734 : BitVec 32 := Scalar.muli v715 c9_i32_450
  let v735 : Index := Scalar.indexCast v734
  let c0_451 : Index := 0#32
  ![v735.toNat, 0, 0]
def k0_off54 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_441 : BitVec 32 := 2#32
  let c0_i32_9 : BitVec 32 := 0#32
  let c1_i32_10 : BitVec 32 := 1#32
  let arg15 : BitVec 32 := Scf.iv c0_i32_9 c1_i32_10 k0_t4
  let c8_i32_440 : BitVec 32 := 8#32
  let v714 : BitVec 32 := Scalar.muli arg15 c8_i32_440
  let c4_i32 : BitVec 32 := 4#32
  let v715 : BitVec 32 := Scalar.addi v714 c4_i32
  let v716 : BitVec 32 := Scalar.muli c2_i32_441 v715
  let v717 : BitVec 32 := Scalar.addi v18 v716
  let c34559_i32_442 : BitVec 32 := 34559#32
  let v718 : BitVec 32 := Scalar.minsi v717 c34559_i32_442
  let v739 : Index := Scalar.indexCast v718
  ![v739.toNat]
def k0_off55 (v740 : BitVec 32) : Fin 2 → Nat :=
  let c7_i32_452 : BitVec 32 := 7#32
  let v741 : BitVec 32 := Scalar.muli v740 c7_i32_452
  let v742 : Index := Scalar.indexCast v741
  let c0_453 : Index := 0#32
  ![v742.toNat, 0]

def k0_chk20 (v740 : BitVec 32) : Prop :=
  (∀ a, (k0_off55 v740) a + S8x128.size a ≤ S8968x128.size a)
theorem k0_off55_inb : ∀ (v740 : BitVec 32) (k0_hw20 : k0_chk20 v740), ∀ a, (k0_off55 v740) a + S8x128.size a ≤ S8968x128.size a := fun v740 k0_hw20 => k0_hw20

def k0_off56 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_443 : BitVec 32 := 2#32
  let c0_i32_9 : BitVec 32 := 0#32
  let c1_i32_10 : BitVec 32 := 1#32
  let arg15 : BitVec 32 := Scf.iv c0_i32_9 c1_i32_10 k0_t4
  let c8_i32_440 : BitVec 32 := 8#32
  let v714 : BitVec 32 := Scalar.muli arg15 c8_i32_440
  let c4_i32 : BitVec 32 := 4#32
  let v715 : BitVec 32 := Scalar.addi v714 c4_i32
  let v719 : BitVec 32 := Scalar.muli c2_i32_443 v715
  let v720 : BitVec 32 := Scalar.addi v18 v719
  let c1_i32_444 : BitVec 32 := 1#32
  let v721 : BitVec 32 := Scalar.addi v720 c1_i32_444
  let c34559_i32_445 : BitVec 32 := 34559#32
  let v722 : BitVec 32 := Scalar.minsi v721 c34559_i32_445
  let v744 : Index := Scalar.indexCast v722
  ![v744.toNat]
def k0_off57 (v745 : BitVec 32) : Fin 2 → Nat :=
  let c7_i32_454 : BitVec 32 := 7#32
  let v746 : BitVec 32 := Scalar.muli v745 c7_i32_454
  let v747 : Index := Scalar.indexCast v746
  let c0_455 : Index := 0#32
  ![v747.toNat, 0]

def k0_chk21 (v745 : BitVec 32) : Prop :=
  (∀ a, (k0_off57 v745) a + S8x128.size a ≤ S8968x128.size a)
theorem k0_off57_inb : ∀ (v745 : BitVec 32) (k0_hw21 : k0_chk21 v745), ∀ a, (k0_off57 v745) a + S8x128.size a ≤ S8968x128.size a := fun v745 k0_hw21 => k0_hw21

def k0_off58 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32_440 : BitVec 32 := 8#32
  let v714 : BitVec 32 := Scalar.muli arg15 c8_i32_440
  let c4_i32 : BitVec 32 := 4#32
  let v715 : BitVec 32 := Scalar.addi v714 c4_i32
  let c9_i32_456 : BitVec 32 := 9#32
  let v750 : BitVec 32 := Scalar.muli v715 c9_i32_456
  let v751 : Index := Scalar.indexCast v750
  let c0_457 : Index := 0#32
  ![v751.toNat, 0, 0]
def k0_off59 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_459 : BitVec 32 := 2#32
  let c0_i32_9 : BitVec 32 := 0#32
  let c1_i32_10 : BitVec 32 := 1#32
  let arg15 : BitVec 32 := Scf.iv c0_i32_9 c1_i32_10 k0_t4
  let c8_i32_458 : BitVec 32 := 8#32
  let v755 : BitVec 32 := Scalar.muli arg15 c8_i32_458
  let c5_i32 : BitVec 32 := 5#32
  let v756 : BitVec 32 := Scalar.addi v755 c5_i32
  let v757 : BitVec 32 := Scalar.muli c2_i32_459 v756
  let v758 : BitVec 32 := Scalar.addi v18 v757
  let c34559_i32_460 : BitVec 32 := 34559#32
  let v759 : BitVec 32 := Scalar.minsi v758 c34559_i32_460
  let v764 : Index := Scalar.indexCast v759
  ![v764.toNat]
def k0_off60 (v765 : BitVec 32) : Fin 2 → Nat :=
  let c9_i32_464 : BitVec 32 := 9#32
  let v766 : BitVec 32 := Scalar.muli v765 c9_i32_464
  let v767 : Index := Scalar.indexCast v766
  let c0_465 : Index := 0#32
  ![v767.toNat, 0]

def k0_chk22 (v765 : BitVec 32) : Prop :=
  (∀ a, (k0_off60 v765) a + S8x128.size a ≤ S11520x128.size a)
theorem k0_off60_inb : ∀ (v765 : BitVec 32) (k0_hw22 : k0_chk22 v765), ∀ a, (k0_off60 v765) a + S8x128.size a ≤ S11520x128.size a := fun v765 k0_hw22 => k0_hw22

def k0_off61 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_461 : BitVec 32 := 2#32
  let c0_i32_9 : BitVec 32 := 0#32
  let c1_i32_10 : BitVec 32 := 1#32
  let arg15 : BitVec 32 := Scf.iv c0_i32_9 c1_i32_10 k0_t4
  let c8_i32_458 : BitVec 32 := 8#32
  let v755 : BitVec 32 := Scalar.muli arg15 c8_i32_458
  let c5_i32 : BitVec 32 := 5#32
  let v756 : BitVec 32 := Scalar.addi v755 c5_i32
  let v760 : BitVec 32 := Scalar.muli c2_i32_461 v756
  let v761 : BitVec 32 := Scalar.addi v18 v760
  let c1_i32_462 : BitVec 32 := 1#32
  let v762 : BitVec 32 := Scalar.addi v761 c1_i32_462
  let c34559_i32_463 : BitVec 32 := 34559#32
  let v763 : BitVec 32 := Scalar.minsi v762 c34559_i32_463
  let v769 : Index := Scalar.indexCast v763
  ![v769.toNat]
def k0_off62 (v770 : BitVec 32) : Fin 2 → Nat :=
  let c9_i32_466 : BitVec 32 := 9#32
  let v771 : BitVec 32 := Scalar.muli v770 c9_i32_466
  let v772 : Index := Scalar.indexCast v771
  let c0_467 : Index := 0#32
  ![v772.toNat, 0]

def k0_chk23 (v770 : BitVec 32) : Prop :=
  (∀ a, (k0_off62 v770) a + S8x128.size a ≤ S11520x128.size a)
theorem k0_off62_inb : ∀ (v770 : BitVec 32) (k0_hw23 : k0_chk23 v770), ∀ a, (k0_off62 v770) a + S8x128.size a ≤ S11520x128.size a := fun v770 k0_hw23 => k0_hw23

def k0_off63 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32_458 : BitVec 32 := 8#32
  let v755 : BitVec 32 := Scalar.muli arg15 c8_i32_458
  let c5_i32 : BitVec 32 := 5#32
  let v756 : BitVec 32 := Scalar.addi v755 c5_i32
  let c9_i32_468 : BitVec 32 := 9#32
  let v775 : BitVec 32 := Scalar.muli v756 c9_i32_468
  let v776 : Index := Scalar.indexCast v775
  let c0_469 : Index := 0#32
  ![v776.toNat, 0, 0]
def k0_off64 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_459 : BitVec 32 := 2#32
  let c0_i32_9 : BitVec 32 := 0#32
  let c1_i32_10 : BitVec 32 := 1#32
  let arg15 : BitVec 32 := Scf.iv c0_i32_9 c1_i32_10 k0_t4
  let c8_i32_458 : BitVec 32 := 8#32
  let v755 : BitVec 32 := Scalar.muli arg15 c8_i32_458
  let c5_i32 : BitVec 32 := 5#32
  let v756 : BitVec 32 := Scalar.addi v755 c5_i32
  let v757 : BitVec 32 := Scalar.muli c2_i32_459 v756
  let v758 : BitVec 32 := Scalar.addi v18 v757
  let c34559_i32_460 : BitVec 32 := 34559#32
  let v759 : BitVec 32 := Scalar.minsi v758 c34559_i32_460
  let v780 : Index := Scalar.indexCast v759
  ![v780.toNat]
def k0_off65 (v781 : BitVec 32) : Fin 2 → Nat :=
  let c7_i32_470 : BitVec 32 := 7#32
  let v782 : BitVec 32 := Scalar.muli v781 c7_i32_470
  let v783 : Index := Scalar.indexCast v782
  let c0_471 : Index := 0#32
  ![v783.toNat, 0]

def k0_chk24 (v781 : BitVec 32) : Prop :=
  (∀ a, (k0_off65 v781) a + S8x128.size a ≤ S8968x128.size a)
theorem k0_off65_inb : ∀ (v781 : BitVec 32) (k0_hw24 : k0_chk24 v781), ∀ a, (k0_off65 v781) a + S8x128.size a ≤ S8968x128.size a := fun v781 k0_hw24 => k0_hw24

def k0_off66 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_461 : BitVec 32 := 2#32
  let c0_i32_9 : BitVec 32 := 0#32
  let c1_i32_10 : BitVec 32 := 1#32
  let arg15 : BitVec 32 := Scf.iv c0_i32_9 c1_i32_10 k0_t4
  let c8_i32_458 : BitVec 32 := 8#32
  let v755 : BitVec 32 := Scalar.muli arg15 c8_i32_458
  let c5_i32 : BitVec 32 := 5#32
  let v756 : BitVec 32 := Scalar.addi v755 c5_i32
  let v760 : BitVec 32 := Scalar.muli c2_i32_461 v756
  let v761 : BitVec 32 := Scalar.addi v18 v760
  let c1_i32_462 : BitVec 32 := 1#32
  let v762 : BitVec 32 := Scalar.addi v761 c1_i32_462
  let c34559_i32_463 : BitVec 32 := 34559#32
  let v763 : BitVec 32 := Scalar.minsi v762 c34559_i32_463
  let v785 : Index := Scalar.indexCast v763
  ![v785.toNat]
def k0_off67 (v786 : BitVec 32) : Fin 2 → Nat :=
  let c7_i32_472 : BitVec 32 := 7#32
  let v787 : BitVec 32 := Scalar.muli v786 c7_i32_472
  let v788 : Index := Scalar.indexCast v787
  let c0_473 : Index := 0#32
  ![v788.toNat, 0]

def k0_chk25 (v786 : BitVec 32) : Prop :=
  (∀ a, (k0_off67 v786) a + S8x128.size a ≤ S8968x128.size a)
theorem k0_off67_inb : ∀ (v786 : BitVec 32) (k0_hw25 : k0_chk25 v786), ∀ a, (k0_off67 v786) a + S8x128.size a ≤ S8968x128.size a := fun v786 k0_hw25 => k0_hw25

def k0_off68 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32_458 : BitVec 32 := 8#32
  let v755 : BitVec 32 := Scalar.muli arg15 c8_i32_458
  let c5_i32 : BitVec 32 := 5#32
  let v756 : BitVec 32 := Scalar.addi v755 c5_i32
  let c9_i32_474 : BitVec 32 := 9#32
  let v791 : BitVec 32 := Scalar.muli v756 c9_i32_474
  let v792 : Index := Scalar.indexCast v791
  let c0_475 : Index := 0#32
  ![v792.toNat, 0, 0]
def k0_off69 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_477 : BitVec 32 := 2#32
  let c0_i32_9 : BitVec 32 := 0#32
  let c1_i32_10 : BitVec 32 := 1#32
  let arg15 : BitVec 32 := Scf.iv c0_i32_9 c1_i32_10 k0_t4
  let c8_i32_476 : BitVec 32 := 8#32
  let v796 : BitVec 32 := Scalar.muli arg15 c8_i32_476
  let c6_i32 : BitVec 32 := 6#32
  let v797 : BitVec 32 := Scalar.addi v796 c6_i32
  let v798 : BitVec 32 := Scalar.muli c2_i32_477 v797
  let v799 : BitVec 32 := Scalar.addi v18 v798
  let c34559_i32_478 : BitVec 32 := 34559#32
  let v800 : BitVec 32 := Scalar.minsi v799 c34559_i32_478
  let v805 : Index := Scalar.indexCast v800
  ![v805.toNat]
def k0_off70 (v806 : BitVec 32) : Fin 2 → Nat :=
  let c9_i32_482 : BitVec 32 := 9#32
  let v807 : BitVec 32 := Scalar.muli v806 c9_i32_482
  let v808 : Index := Scalar.indexCast v807
  let c0_483 : Index := 0#32
  ![v808.toNat, 0]

def k0_chk26 (v806 : BitVec 32) : Prop :=
  (∀ a, (k0_off70 v806) a + S8x128.size a ≤ S11520x128.size a)
theorem k0_off70_inb : ∀ (v806 : BitVec 32) (k0_hw26 : k0_chk26 v806), ∀ a, (k0_off70 v806) a + S8x128.size a ≤ S11520x128.size a := fun v806 k0_hw26 => k0_hw26

def k0_off71 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_479 : BitVec 32 := 2#32
  let c0_i32_9 : BitVec 32 := 0#32
  let c1_i32_10 : BitVec 32 := 1#32
  let arg15 : BitVec 32 := Scf.iv c0_i32_9 c1_i32_10 k0_t4
  let c8_i32_476 : BitVec 32 := 8#32
  let v796 : BitVec 32 := Scalar.muli arg15 c8_i32_476
  let c6_i32 : BitVec 32 := 6#32
  let v797 : BitVec 32 := Scalar.addi v796 c6_i32
  let v801 : BitVec 32 := Scalar.muli c2_i32_479 v797
  let v802 : BitVec 32 := Scalar.addi v18 v801
  let c1_i32_480 : BitVec 32 := 1#32
  let v803 : BitVec 32 := Scalar.addi v802 c1_i32_480
  let c34559_i32_481 : BitVec 32 := 34559#32
  let v804 : BitVec 32 := Scalar.minsi v803 c34559_i32_481
  let v810 : Index := Scalar.indexCast v804
  ![v810.toNat]
def k0_off72 (v811 : BitVec 32) : Fin 2 → Nat :=
  let c9_i32_484 : BitVec 32 := 9#32
  let v812 : BitVec 32 := Scalar.muli v811 c9_i32_484
  let v813 : Index := Scalar.indexCast v812
  let c0_485 : Index := 0#32
  ![v813.toNat, 0]

def k0_chk27 (v811 : BitVec 32) : Prop :=
  (∀ a, (k0_off72 v811) a + S8x128.size a ≤ S11520x128.size a)
theorem k0_off72_inb : ∀ (v811 : BitVec 32) (k0_hw27 : k0_chk27 v811), ∀ a, (k0_off72 v811) a + S8x128.size a ≤ S11520x128.size a := fun v811 k0_hw27 => k0_hw27

def k0_off73 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32_476 : BitVec 32 := 8#32
  let v796 : BitVec 32 := Scalar.muli arg15 c8_i32_476
  let c6_i32 : BitVec 32 := 6#32
  let v797 : BitVec 32 := Scalar.addi v796 c6_i32
  let c9_i32_486 : BitVec 32 := 9#32
  let v816 : BitVec 32 := Scalar.muli v797 c9_i32_486
  let v817 : Index := Scalar.indexCast v816
  let c0_487 : Index := 0#32
  ![v817.toNat, 0, 0]
def k0_off74 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_477 : BitVec 32 := 2#32
  let c0_i32_9 : BitVec 32 := 0#32
  let c1_i32_10 : BitVec 32 := 1#32
  let arg15 : BitVec 32 := Scf.iv c0_i32_9 c1_i32_10 k0_t4
  let c8_i32_476 : BitVec 32 := 8#32
  let v796 : BitVec 32 := Scalar.muli arg15 c8_i32_476
  let c6_i32 : BitVec 32 := 6#32
  let v797 : BitVec 32 := Scalar.addi v796 c6_i32
  let v798 : BitVec 32 := Scalar.muli c2_i32_477 v797
  let v799 : BitVec 32 := Scalar.addi v18 v798
  let c34559_i32_478 : BitVec 32 := 34559#32
  let v800 : BitVec 32 := Scalar.minsi v799 c34559_i32_478
  let v821 : Index := Scalar.indexCast v800
  ![v821.toNat]
def k0_off75 (v822 : BitVec 32) : Fin 2 → Nat :=
  let c7_i32_488 : BitVec 32 := 7#32
  let v823 : BitVec 32 := Scalar.muli v822 c7_i32_488
  let v824 : Index := Scalar.indexCast v823
  let c0_489 : Index := 0#32
  ![v824.toNat, 0]

def k0_chk28 (v822 : BitVec 32) : Prop :=
  (∀ a, (k0_off75 v822) a + S8x128.size a ≤ S8968x128.size a)
theorem k0_off75_inb : ∀ (v822 : BitVec 32) (k0_hw28 : k0_chk28 v822), ∀ a, (k0_off75 v822) a + S8x128.size a ≤ S8968x128.size a := fun v822 k0_hw28 => k0_hw28

def k0_off76 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_479 : BitVec 32 := 2#32
  let c0_i32_9 : BitVec 32 := 0#32
  let c1_i32_10 : BitVec 32 := 1#32
  let arg15 : BitVec 32 := Scf.iv c0_i32_9 c1_i32_10 k0_t4
  let c8_i32_476 : BitVec 32 := 8#32
  let v796 : BitVec 32 := Scalar.muli arg15 c8_i32_476
  let c6_i32 : BitVec 32 := 6#32
  let v797 : BitVec 32 := Scalar.addi v796 c6_i32
  let v801 : BitVec 32 := Scalar.muli c2_i32_479 v797
  let v802 : BitVec 32 := Scalar.addi v18 v801
  let c1_i32_480 : BitVec 32 := 1#32
  let v803 : BitVec 32 := Scalar.addi v802 c1_i32_480
  let c34559_i32_481 : BitVec 32 := 34559#32
  let v804 : BitVec 32 := Scalar.minsi v803 c34559_i32_481
  let v826 : Index := Scalar.indexCast v804
  ![v826.toNat]
def k0_off77 (v827 : BitVec 32) : Fin 2 → Nat :=
  let c7_i32_490 : BitVec 32 := 7#32
  let v828 : BitVec 32 := Scalar.muli v827 c7_i32_490
  let v829 : Index := Scalar.indexCast v828
  let c0_491 : Index := 0#32
  ![v829.toNat, 0]

def k0_chk29 (v827 : BitVec 32) : Prop :=
  (∀ a, (k0_off77 v827) a + S8x128.size a ≤ S8968x128.size a)
theorem k0_off77_inb : ∀ (v827 : BitVec 32) (k0_hw29 : k0_chk29 v827), ∀ a, (k0_off77 v827) a + S8x128.size a ≤ S8968x128.size a := fun v827 k0_hw29 => k0_hw29

def k0_off78 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32_476 : BitVec 32 := 8#32
  let v796 : BitVec 32 := Scalar.muli arg15 c8_i32_476
  let c6_i32 : BitVec 32 := 6#32
  let v797 : BitVec 32 := Scalar.addi v796 c6_i32
  let c9_i32_492 : BitVec 32 := 9#32
  let v832 : BitVec 32 := Scalar.muli v797 c9_i32_492
  let v833 : Index := Scalar.indexCast v832
  let c0_493 : Index := 0#32
  ![v833.toNat, 0, 0]
def k0_off79 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_496 : BitVec 32 := 2#32
  let c0_i32_9 : BitVec 32 := 0#32
  let c1_i32_10 : BitVec 32 := 1#32
  let arg15 : BitVec 32 := Scf.iv c0_i32_9 c1_i32_10 k0_t4
  let c8_i32_494 : BitVec 32 := 8#32
  let v837 : BitVec 32 := Scalar.muli arg15 c8_i32_494
  let c7_i32_495 : BitVec 32 := 7#32
  let v838 : BitVec 32 := Scalar.addi v837 c7_i32_495
  let v839 : BitVec 32 := Scalar.muli c2_i32_496 v838
  let v840 : BitVec 32 := Scalar.addi v18 v839
  let c34559_i32_497 : BitVec 32 := 34559#32
  let v841 : BitVec 32 := Scalar.minsi v840 c34559_i32_497
  let v846 : Index := Scalar.indexCast v841
  ![v846.toNat]
def k0_off80 (v847 : BitVec 32) : Fin 2 → Nat :=
  let c9_i32_501 : BitVec 32 := 9#32
  let v848 : BitVec 32 := Scalar.muli v847 c9_i32_501
  let v849 : Index := Scalar.indexCast v848
  let c0_502 : Index := 0#32
  ![v849.toNat, 0]

def k0_chk30 (v847 : BitVec 32) : Prop :=
  (∀ a, (k0_off80 v847) a + S8x128.size a ≤ S11520x128.size a)
theorem k0_off80_inb : ∀ (v847 : BitVec 32) (k0_hw30 : k0_chk30 v847), ∀ a, (k0_off80 v847) a + S8x128.size a ≤ S11520x128.size a := fun v847 k0_hw30 => k0_hw30

def k0_off81 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_498 : BitVec 32 := 2#32
  let c0_i32_9 : BitVec 32 := 0#32
  let c1_i32_10 : BitVec 32 := 1#32
  let arg15 : BitVec 32 := Scf.iv c0_i32_9 c1_i32_10 k0_t4
  let c8_i32_494 : BitVec 32 := 8#32
  let v837 : BitVec 32 := Scalar.muli arg15 c8_i32_494
  let c7_i32_495 : BitVec 32 := 7#32
  let v838 : BitVec 32 := Scalar.addi v837 c7_i32_495
  let v842 : BitVec 32 := Scalar.muli c2_i32_498 v838
  let v843 : BitVec 32 := Scalar.addi v18 v842
  let c1_i32_499 : BitVec 32 := 1#32
  let v844 : BitVec 32 := Scalar.addi v843 c1_i32_499
  let c34559_i32_500 : BitVec 32 := 34559#32
  let v845 : BitVec 32 := Scalar.minsi v844 c34559_i32_500
  let v851 : Index := Scalar.indexCast v845
  ![v851.toNat]
def k0_off82 (v852 : BitVec 32) : Fin 2 → Nat :=
  let c9_i32_503 : BitVec 32 := 9#32
  let v853 : BitVec 32 := Scalar.muli v852 c9_i32_503
  let v854 : Index := Scalar.indexCast v853
  let c0_504 : Index := 0#32
  ![v854.toNat, 0]

def k0_chk31 (v852 : BitVec 32) : Prop :=
  (∀ a, (k0_off82 v852) a + S8x128.size a ≤ S11520x128.size a)
theorem k0_off82_inb : ∀ (v852 : BitVec 32) (k0_hw31 : k0_chk31 v852), ∀ a, (k0_off82 v852) a + S8x128.size a ≤ S11520x128.size a := fun v852 k0_hw31 => k0_hw31

def k0_off83 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32_494 : BitVec 32 := 8#32
  let v837 : BitVec 32 := Scalar.muli arg15 c8_i32_494
  let c7_i32_495 : BitVec 32 := 7#32
  let v838 : BitVec 32 := Scalar.addi v837 c7_i32_495
  let c9_i32_505 : BitVec 32 := 9#32
  let v857 : BitVec 32 := Scalar.muli v838 c9_i32_505
  let v858 : Index := Scalar.indexCast v857
  let c0_506 : Index := 0#32
  ![v858.toNat, 0, 0]
def k0_off84 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_496 : BitVec 32 := 2#32
  let c0_i32_9 : BitVec 32 := 0#32
  let c1_i32_10 : BitVec 32 := 1#32
  let arg15 : BitVec 32 := Scf.iv c0_i32_9 c1_i32_10 k0_t4
  let c8_i32_494 : BitVec 32 := 8#32
  let v837 : BitVec 32 := Scalar.muli arg15 c8_i32_494
  let c7_i32_495 : BitVec 32 := 7#32
  let v838 : BitVec 32 := Scalar.addi v837 c7_i32_495
  let v839 : BitVec 32 := Scalar.muli c2_i32_496 v838
  let v840 : BitVec 32 := Scalar.addi v18 v839
  let c34559_i32_497 : BitVec 32 := 34559#32
  let v841 : BitVec 32 := Scalar.minsi v840 c34559_i32_497
  let v862 : Index := Scalar.indexCast v841
  ![v862.toNat]
def k0_off85 (v863 : BitVec 32) : Fin 2 → Nat :=
  let c7_i32_507 : BitVec 32 := 7#32
  let v864 : BitVec 32 := Scalar.muli v863 c7_i32_507
  let v865 : Index := Scalar.indexCast v864
  let c0_508 : Index := 0#32
  ![v865.toNat, 0]

def k0_chk32 (v863 : BitVec 32) : Prop :=
  (∀ a, (k0_off85 v863) a + S8x128.size a ≤ S8968x128.size a)
theorem k0_off85_inb : ∀ (v863 : BitVec 32) (k0_hw32 : k0_chk32 v863), ∀ a, (k0_off85 v863) a + S8x128.size a ≤ S8968x128.size a := fun v863 k0_hw32 => k0_hw32

def k0_off86 (v4 : BitVec 32) (v7 : BitVec 32) (k0_t3 : Fin (k0_t3_loop v4 v7).trips) (k0_t4 : Fin k0_t4_loop.trips) : Fin 1 → Nat :=
  let c0_i32_3 : BitVec 32 := 0#32
  let c1_i32_5 : BitVec 32 := 1#32
  let arg14 : BitVec 32 := Scf.iv c0_i32_3 c1_i32_5 k0_t3
  let c256_i32_7 : BitVec 32 := 256#32
  let v17 : BitVec 32 := Scalar.muli arg14 c256_i32_7
  let v18 : BitVec 32 := Scalar.addi v4 v17
  let c2_i32_498 : BitVec 32 := 2#32
  let c0_i32_9 : BitVec 32 := 0#32
  let c1_i32_10 : BitVec 32 := 1#32
  let arg15 : BitVec 32 := Scf.iv c0_i32_9 c1_i32_10 k0_t4
  let c8_i32_494 : BitVec 32 := 8#32
  let v837 : BitVec 32 := Scalar.muli arg15 c8_i32_494
  let c7_i32_495 : BitVec 32 := 7#32
  let v838 : BitVec 32 := Scalar.addi v837 c7_i32_495
  let v842 : BitVec 32 := Scalar.muli c2_i32_498 v838
  let v843 : BitVec 32 := Scalar.addi v18 v842
  let c1_i32_499 : BitVec 32 := 1#32
  let v844 : BitVec 32 := Scalar.addi v843 c1_i32_499
  let c34559_i32_500 : BitVec 32 := 34559#32
  let v845 : BitVec 32 := Scalar.minsi v844 c34559_i32_500
  let v867 : Index := Scalar.indexCast v845
  ![v867.toNat]
def k0_off87 (v868 : BitVec 32) : Fin 2 → Nat :=
  let c7_i32_509 : BitVec 32 := 7#32
  let v869 : BitVec 32 := Scalar.muli v868 c7_i32_509
  let v870 : Index := Scalar.indexCast v869
  let c0_510 : Index := 0#32
  ![v870.toNat, 0]

def k0_chk33 (v868 : BitVec 32) : Prop :=
  (∀ a, (k0_off87 v868) a + S8x128.size a ≤ S8968x128.size a)
theorem k0_off87_inb : ∀ (v868 : BitVec 32) (k0_hw33 : k0_chk33 v868), ∀ a, (k0_off87 v868) a + S8x128.size a ≤ S8968x128.size a := fun v868 k0_hw33 => k0_hw33

def k0_off88 (k0_t4 : Fin k0_t4_loop.trips) : Fin 3 → Nat :=
  let c0_i32_9 : BitVec 32 := 0#32
  let c1_i32_10 : BitVec 32 := 1#32
  let arg15 : BitVec 32 := Scf.iv c0_i32_9 c1_i32_10 k0_t4
  let c8_i32_494 : BitVec 32 := 8#32
  let v837 : BitVec 32 := Scalar.muli arg15 c8_i32_494
  let c7_i32_495 : BitVec 32 := 7#32
  let v838 : BitVec 32 := Scalar.addi v837 c7_i32_495
  let c9_i32_511 : BitVec 32 := 9#32
  let v873 : BitVec 32 := Scalar.muli v838 c9_i32_511
  let v874 : Index := Scalar.indexCast v873
  let c0_512 : Index := 0#32
  ![v874.toNat, 0, 0]
@[reducible] def k0_t5_loop (v4 : BitVec 32) (v7 : BitVec 32) : Scf.Loop 32 :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let v13 : BitVec 32 := Scalar.addi c0_i32_3 v12
  let c1_i32_6 : BitVec 32 := 1#32
  ⟨v16, v13, c1_i32_6⟩
@[reducible] def k0_t6_loop : Scf.Loop 32 :=
  let c0_i32_9 : BitVec 32 := 0#32
  let c16_i32 : BitVec 32 := 16#32
  let v19 : BitVec 32 := Scalar.addi c0_i32_9 c16_i32
  let c1_i32_10 : BitVec 32 := 1#32
  ⟨c0_i32_9, v19, c1_i32_10⟩
def k0_off89 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32 : BitVec 32 := 2#32
  let c0_i32_9 : BitVec 32 := 0#32
  let c1_i32_10 : BitVec 32 := 1#32
  let arg15 : BitVec 32 := Scf.iv c0_i32_9 c1_i32_10 k0_t6
  let c8_i32 : BitVec 32 := 8#32
  let v550 : BitVec 32 := Scalar.muli arg15 c8_i32
  let c0_i32_370 : BitVec 32 := 0#32
  let v551 : BitVec 32 := Scalar.addi v550 c0_i32_370
  let v552 : BitVec 32 := Scalar.muli c2_i32 v551
  let v553 : BitVec 32 := Scalar.addi v18 v552
  let c34559_i32 : BitVec 32 := 34559#32
  let v554 : BitVec 32 := Scalar.minsi v553 c34559_i32
  let v559 : Index := Scalar.indexCast v554
  ![v559.toNat]
def k0_off90 (v560 : BitVec 32) : Fin 2 → Nat :=
  let c9_i32 : BitVec 32 := 9#32
  let v561 : BitVec 32 := Scalar.muli v560 c9_i32
  let v562 : Index := Scalar.indexCast v561
  let c0_374 : Index := 0#32
  ![v562.toNat, 0]

def k0_chk34 (v560 : BitVec 32) : Prop :=
  (∀ a, (k0_off90 v560) a + S8x128.size a ≤ S11520x128.size a)
theorem k0_off90_inb : ∀ (v560 : BitVec 32) (k0_hw34 : k0_chk34 v560), ∀ a, (k0_off90 v560) a + S8x128.size a ≤ S11520x128.size a := fun v560 k0_hw34 => k0_hw34

def k0_off91 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_371 : BitVec 32 := 2#32
  let c0_i32_9 : BitVec 32 := 0#32
  let c1_i32_10 : BitVec 32 := 1#32
  let arg15 : BitVec 32 := Scf.iv c0_i32_9 c1_i32_10 k0_t6
  let c8_i32 : BitVec 32 := 8#32
  let v550 : BitVec 32 := Scalar.muli arg15 c8_i32
  let c0_i32_370 : BitVec 32 := 0#32
  let v551 : BitVec 32 := Scalar.addi v550 c0_i32_370
  let v555 : BitVec 32 := Scalar.muli c2_i32_371 v551
  let v556 : BitVec 32 := Scalar.addi v18 v555
  let c1_i32_372 : BitVec 32 := 1#32
  let v557 : BitVec 32 := Scalar.addi v556 c1_i32_372
  let c34559_i32_373 : BitVec 32 := 34559#32
  let v558 : BitVec 32 := Scalar.minsi v557 c34559_i32_373
  let v564 : Index := Scalar.indexCast v558
  ![v564.toNat]
def k0_off92 (v565 : BitVec 32) : Fin 2 → Nat :=
  let c9_i32_375 : BitVec 32 := 9#32
  let v566 : BitVec 32 := Scalar.muli v565 c9_i32_375
  let v567 : Index := Scalar.indexCast v566
  let c0_376 : Index := 0#32
  ![v567.toNat, 0]

def k0_chk35 (v565 : BitVec 32) : Prop :=
  (∀ a, (k0_off92 v565) a + S8x128.size a ≤ S11520x128.size a)
theorem k0_off92_inb : ∀ (v565 : BitVec 32) (k0_hw35 : k0_chk35 v565), ∀ a, (k0_off92 v565) a + S8x128.size a ≤ S11520x128.size a := fun v565 k0_hw35 => k0_hw35

def k0_off93 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32 : BitVec 32 := 8#32
  let v550 : BitVec 32 := Scalar.muli arg15 c8_i32
  let c0_i32_370 : BitVec 32 := 0#32
  let v551 : BitVec 32 := Scalar.addi v550 c0_i32_370
  let c9_i32_377 : BitVec 32 := 9#32
  let v570 : BitVec 32 := Scalar.muli v551 c9_i32_377
  let v571 : Index := Scalar.indexCast v570
  let c0_378 : Index := 0#32
  ![v571.toNat, 0, 0]
def k0_off94 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32 : BitVec 32 := 2#32
  let c0_i32_9 : BitVec 32 := 0#32
  let c1_i32_10 : BitVec 32 := 1#32
  let arg15 : BitVec 32 := Scf.iv c0_i32_9 c1_i32_10 k0_t6
  let c8_i32 : BitVec 32 := 8#32
  let v550 : BitVec 32 := Scalar.muli arg15 c8_i32
  let c0_i32_370 : BitVec 32 := 0#32
  let v551 : BitVec 32 := Scalar.addi v550 c0_i32_370
  let v552 : BitVec 32 := Scalar.muli c2_i32 v551
  let v553 : BitVec 32 := Scalar.addi v18 v552
  let c34559_i32 : BitVec 32 := 34559#32
  let v554 : BitVec 32 := Scalar.minsi v553 c34559_i32
  let v575 : Index := Scalar.indexCast v554
  ![v575.toNat]
def k0_off95 (v576 : BitVec 32) : Fin 2 → Nat :=
  let c7_i32 : BitVec 32 := 7#32
  let v577 : BitVec 32 := Scalar.muli v576 c7_i32
  let v578 : Index := Scalar.indexCast v577
  let c0_379 : Index := 0#32
  ![v578.toNat, 0]

def k0_chk36 (v576 : BitVec 32) : Prop :=
  (∀ a, (k0_off95 v576) a + S8x128.size a ≤ S8968x128.size a)
theorem k0_off95_inb : ∀ (v576 : BitVec 32) (k0_hw36 : k0_chk36 v576), ∀ a, (k0_off95 v576) a + S8x128.size a ≤ S8968x128.size a := fun v576 k0_hw36 => k0_hw36

def k0_off96 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_371 : BitVec 32 := 2#32
  let c0_i32_9 : BitVec 32 := 0#32
  let c1_i32_10 : BitVec 32 := 1#32
  let arg15 : BitVec 32 := Scf.iv c0_i32_9 c1_i32_10 k0_t6
  let c8_i32 : BitVec 32 := 8#32
  let v550 : BitVec 32 := Scalar.muli arg15 c8_i32
  let c0_i32_370 : BitVec 32 := 0#32
  let v551 : BitVec 32 := Scalar.addi v550 c0_i32_370
  let v555 : BitVec 32 := Scalar.muli c2_i32_371 v551
  let v556 : BitVec 32 := Scalar.addi v18 v555
  let c1_i32_372 : BitVec 32 := 1#32
  let v557 : BitVec 32 := Scalar.addi v556 c1_i32_372
  let c34559_i32_373 : BitVec 32 := 34559#32
  let v558 : BitVec 32 := Scalar.minsi v557 c34559_i32_373
  let v580 : Index := Scalar.indexCast v558
  ![v580.toNat]
def k0_off97 (v581 : BitVec 32) : Fin 2 → Nat :=
  let c7_i32_380 : BitVec 32 := 7#32
  let v582 : BitVec 32 := Scalar.muli v581 c7_i32_380
  let v583 : Index := Scalar.indexCast v582
  let c0_381 : Index := 0#32
  ![v583.toNat, 0]

def k0_chk37 (v581 : BitVec 32) : Prop :=
  (∀ a, (k0_off97 v581) a + S8x128.size a ≤ S8968x128.size a)
theorem k0_off97_inb : ∀ (v581 : BitVec 32) (k0_hw37 : k0_chk37 v581), ∀ a, (k0_off97 v581) a + S8x128.size a ≤ S8968x128.size a := fun v581 k0_hw37 => k0_hw37

def k0_off98 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32 : BitVec 32 := 8#32
  let v550 : BitVec 32 := Scalar.muli arg15 c8_i32
  let c0_i32_370 : BitVec 32 := 0#32
  let v551 : BitVec 32 := Scalar.addi v550 c0_i32_370
  let c9_i32_382 : BitVec 32 := 9#32
  let v586 : BitVec 32 := Scalar.muli v551 c9_i32_382
  let v587 : Index := Scalar.indexCast v586
  let c0_383 : Index := 0#32
  ![v587.toNat, 0, 0]
def k0_off99 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_386 : BitVec 32 := 2#32
  let c0_i32_9 : BitVec 32 := 0#32
  let c1_i32_10 : BitVec 32 := 1#32
  let arg15 : BitVec 32 := Scf.iv c0_i32_9 c1_i32_10 k0_t6
  let c8_i32_384 : BitVec 32 := 8#32
  let v591 : BitVec 32 := Scalar.muli arg15 c8_i32_384
  let c1_i32_385 : BitVec 32 := 1#32
  let v592 : BitVec 32 := Scalar.addi v591 c1_i32_385
  let v593 : BitVec 32 := Scalar.muli c2_i32_386 v592
  let v594 : BitVec 32 := Scalar.addi v18 v593
  let c34559_i32_387 : BitVec 32 := 34559#32
  let v595 : BitVec 32 := Scalar.minsi v594 c34559_i32_387
  let v600 : Index := Scalar.indexCast v595
  ![v600.toNat]
def k0_off100 (v601 : BitVec 32) : Fin 2 → Nat :=
  let c9_i32_391 : BitVec 32 := 9#32
  let v602 : BitVec 32 := Scalar.muli v601 c9_i32_391
  let v603 : Index := Scalar.indexCast v602
  let c0_392 : Index := 0#32
  ![v603.toNat, 0]

def k0_chk38 (v601 : BitVec 32) : Prop :=
  (∀ a, (k0_off100 v601) a + S8x128.size a ≤ S11520x128.size a)
theorem k0_off100_inb : ∀ (v601 : BitVec 32) (k0_hw38 : k0_chk38 v601), ∀ a, (k0_off100 v601) a + S8x128.size a ≤ S11520x128.size a := fun v601 k0_hw38 => k0_hw38

def k0_off101 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_388 : BitVec 32 := 2#32
  let c0_i32_9 : BitVec 32 := 0#32
  let c1_i32_10 : BitVec 32 := 1#32
  let arg15 : BitVec 32 := Scf.iv c0_i32_9 c1_i32_10 k0_t6
  let c8_i32_384 : BitVec 32 := 8#32
  let v591 : BitVec 32 := Scalar.muli arg15 c8_i32_384
  let c1_i32_385 : BitVec 32 := 1#32
  let v592 : BitVec 32 := Scalar.addi v591 c1_i32_385
  let v596 : BitVec 32 := Scalar.muli c2_i32_388 v592
  let v597 : BitVec 32 := Scalar.addi v18 v596
  let c1_i32_389 : BitVec 32 := 1#32
  let v598 : BitVec 32 := Scalar.addi v597 c1_i32_389
  let c34559_i32_390 : BitVec 32 := 34559#32
  let v599 : BitVec 32 := Scalar.minsi v598 c34559_i32_390
  let v605 : Index := Scalar.indexCast v599
  ![v605.toNat]
def k0_off102 (v606 : BitVec 32) : Fin 2 → Nat :=
  let c9_i32_393 : BitVec 32 := 9#32
  let v607 : BitVec 32 := Scalar.muli v606 c9_i32_393
  let v608 : Index := Scalar.indexCast v607
  let c0_394 : Index := 0#32
  ![v608.toNat, 0]

def k0_chk39 (v606 : BitVec 32) : Prop :=
  (∀ a, (k0_off102 v606) a + S8x128.size a ≤ S11520x128.size a)
theorem k0_off102_inb : ∀ (v606 : BitVec 32) (k0_hw39 : k0_chk39 v606), ∀ a, (k0_off102 v606) a + S8x128.size a ≤ S11520x128.size a := fun v606 k0_hw39 => k0_hw39

def k0_off103 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32_384 : BitVec 32 := 8#32
  let v591 : BitVec 32 := Scalar.muli arg15 c8_i32_384
  let c1_i32_385 : BitVec 32 := 1#32
  let v592 : BitVec 32 := Scalar.addi v591 c1_i32_385
  let c9_i32_395 : BitVec 32 := 9#32
  let v611 : BitVec 32 := Scalar.muli v592 c9_i32_395
  let v612 : Index := Scalar.indexCast v611
  let c0_396 : Index := 0#32
  ![v612.toNat, 0, 0]
def k0_off104 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_386 : BitVec 32 := 2#32
  let c0_i32_9 : BitVec 32 := 0#32
  let c1_i32_10 : BitVec 32 := 1#32
  let arg15 : BitVec 32 := Scf.iv c0_i32_9 c1_i32_10 k0_t6
  let c8_i32_384 : BitVec 32 := 8#32
  let v591 : BitVec 32 := Scalar.muli arg15 c8_i32_384
  let c1_i32_385 : BitVec 32 := 1#32
  let v592 : BitVec 32 := Scalar.addi v591 c1_i32_385
  let v593 : BitVec 32 := Scalar.muli c2_i32_386 v592
  let v594 : BitVec 32 := Scalar.addi v18 v593
  let c34559_i32_387 : BitVec 32 := 34559#32
  let v595 : BitVec 32 := Scalar.minsi v594 c34559_i32_387
  let v616 : Index := Scalar.indexCast v595
  ![v616.toNat]
def k0_off105 (v617 : BitVec 32) : Fin 2 → Nat :=
  let c7_i32_397 : BitVec 32 := 7#32
  let v618 : BitVec 32 := Scalar.muli v617 c7_i32_397
  let v619 : Index := Scalar.indexCast v618
  let c0_398 : Index := 0#32
  ![v619.toNat, 0]

def k0_chk40 (v617 : BitVec 32) : Prop :=
  (∀ a, (k0_off105 v617) a + S8x128.size a ≤ S8968x128.size a)
theorem k0_off105_inb : ∀ (v617 : BitVec 32) (k0_hw40 : k0_chk40 v617), ∀ a, (k0_off105 v617) a + S8x128.size a ≤ S8968x128.size a := fun v617 k0_hw40 => k0_hw40

def k0_off106 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_388 : BitVec 32 := 2#32
  let c0_i32_9 : BitVec 32 := 0#32
  let c1_i32_10 : BitVec 32 := 1#32
  let arg15 : BitVec 32 := Scf.iv c0_i32_9 c1_i32_10 k0_t6
  let c8_i32_384 : BitVec 32 := 8#32
  let v591 : BitVec 32 := Scalar.muli arg15 c8_i32_384
  let c1_i32_385 : BitVec 32 := 1#32
  let v592 : BitVec 32 := Scalar.addi v591 c1_i32_385
  let v596 : BitVec 32 := Scalar.muli c2_i32_388 v592
  let v597 : BitVec 32 := Scalar.addi v18 v596
  let c1_i32_389 : BitVec 32 := 1#32
  let v598 : BitVec 32 := Scalar.addi v597 c1_i32_389
  let c34559_i32_390 : BitVec 32 := 34559#32
  let v599 : BitVec 32 := Scalar.minsi v598 c34559_i32_390
  let v621 : Index := Scalar.indexCast v599
  ![v621.toNat]
def k0_off107 (v622 : BitVec 32) : Fin 2 → Nat :=
  let c7_i32_399 : BitVec 32 := 7#32
  let v623 : BitVec 32 := Scalar.muli v622 c7_i32_399
  let v624 : Index := Scalar.indexCast v623
  let c0_400 : Index := 0#32
  ![v624.toNat, 0]

def k0_chk41 (v622 : BitVec 32) : Prop :=
  (∀ a, (k0_off107 v622) a + S8x128.size a ≤ S8968x128.size a)
theorem k0_off107_inb : ∀ (v622 : BitVec 32) (k0_hw41 : k0_chk41 v622), ∀ a, (k0_off107 v622) a + S8x128.size a ≤ S8968x128.size a := fun v622 k0_hw41 => k0_hw41

def k0_off108 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32_384 : BitVec 32 := 8#32
  let v591 : BitVec 32 := Scalar.muli arg15 c8_i32_384
  let c1_i32_385 : BitVec 32 := 1#32
  let v592 : BitVec 32 := Scalar.addi v591 c1_i32_385
  let c9_i32_401 : BitVec 32 := 9#32
  let v627 : BitVec 32 := Scalar.muli v592 c9_i32_401
  let v628 : Index := Scalar.indexCast v627
  let c0_402 : Index := 0#32
  ![v628.toNat, 0, 0]
def k0_off109 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_405 : BitVec 32 := 2#32
  let c0_i32_9 : BitVec 32 := 0#32
  let c1_i32_10 : BitVec 32 := 1#32
  let arg15 : BitVec 32 := Scf.iv c0_i32_9 c1_i32_10 k0_t6
  let c8_i32_403 : BitVec 32 := 8#32
  let v632 : BitVec 32 := Scalar.muli arg15 c8_i32_403
  let c2_i32_404 : BitVec 32 := 2#32
  let v633 : BitVec 32 := Scalar.addi v632 c2_i32_404
  let v634 : BitVec 32 := Scalar.muli c2_i32_405 v633
  let v635 : BitVec 32 := Scalar.addi v18 v634
  let c34559_i32_406 : BitVec 32 := 34559#32
  let v636 : BitVec 32 := Scalar.minsi v635 c34559_i32_406
  let v641 : Index := Scalar.indexCast v636
  ![v641.toNat]
def k0_off110 (v642 : BitVec 32) : Fin 2 → Nat :=
  let c9_i32_410 : BitVec 32 := 9#32
  let v643 : BitVec 32 := Scalar.muli v642 c9_i32_410
  let v644 : Index := Scalar.indexCast v643
  let c0_411 : Index := 0#32
  ![v644.toNat, 0]

def k0_chk42 (v642 : BitVec 32) : Prop :=
  (∀ a, (k0_off110 v642) a + S8x128.size a ≤ S11520x128.size a)
theorem k0_off110_inb : ∀ (v642 : BitVec 32) (k0_hw42 : k0_chk42 v642), ∀ a, (k0_off110 v642) a + S8x128.size a ≤ S11520x128.size a := fun v642 k0_hw42 => k0_hw42

def k0_off111 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_407 : BitVec 32 := 2#32
  let c0_i32_9 : BitVec 32 := 0#32
  let c1_i32_10 : BitVec 32 := 1#32
  let arg15 : BitVec 32 := Scf.iv c0_i32_9 c1_i32_10 k0_t6
  let c8_i32_403 : BitVec 32 := 8#32
  let v632 : BitVec 32 := Scalar.muli arg15 c8_i32_403
  let c2_i32_404 : BitVec 32 := 2#32
  let v633 : BitVec 32 := Scalar.addi v632 c2_i32_404
  let v637 : BitVec 32 := Scalar.muli c2_i32_407 v633
  let v638 : BitVec 32 := Scalar.addi v18 v637
  let c1_i32_408 : BitVec 32 := 1#32
  let v639 : BitVec 32 := Scalar.addi v638 c1_i32_408
  let c34559_i32_409 : BitVec 32 := 34559#32
  let v640 : BitVec 32 := Scalar.minsi v639 c34559_i32_409
  let v646 : Index := Scalar.indexCast v640
  ![v646.toNat]
def k0_off112 (v647 : BitVec 32) : Fin 2 → Nat :=
  let c9_i32_412 : BitVec 32 := 9#32
  let v648 : BitVec 32 := Scalar.muli v647 c9_i32_412
  let v649 : Index := Scalar.indexCast v648
  let c0_413 : Index := 0#32
  ![v649.toNat, 0]

def k0_chk43 (v647 : BitVec 32) : Prop :=
  (∀ a, (k0_off112 v647) a + S8x128.size a ≤ S11520x128.size a)
theorem k0_off112_inb : ∀ (v647 : BitVec 32) (k0_hw43 : k0_chk43 v647), ∀ a, (k0_off112 v647) a + S8x128.size a ≤ S11520x128.size a := fun v647 k0_hw43 => k0_hw43

def k0_off113 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32_403 : BitVec 32 := 8#32
  let v632 : BitVec 32 := Scalar.muli arg15 c8_i32_403
  let c2_i32_404 : BitVec 32 := 2#32
  let v633 : BitVec 32 := Scalar.addi v632 c2_i32_404
  let c9_i32_414 : BitVec 32 := 9#32
  let v652 : BitVec 32 := Scalar.muli v633 c9_i32_414
  let v653 : Index := Scalar.indexCast v652
  let c0_415 : Index := 0#32
  ![v653.toNat, 0, 0]
def k0_off114 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_405 : BitVec 32 := 2#32
  let c0_i32_9 : BitVec 32 := 0#32
  let c1_i32_10 : BitVec 32 := 1#32
  let arg15 : BitVec 32 := Scf.iv c0_i32_9 c1_i32_10 k0_t6
  let c8_i32_403 : BitVec 32 := 8#32
  let v632 : BitVec 32 := Scalar.muli arg15 c8_i32_403
  let c2_i32_404 : BitVec 32 := 2#32
  let v633 : BitVec 32 := Scalar.addi v632 c2_i32_404
  let v634 : BitVec 32 := Scalar.muli c2_i32_405 v633
  let v635 : BitVec 32 := Scalar.addi v18 v634
  let c34559_i32_406 : BitVec 32 := 34559#32
  let v636 : BitVec 32 := Scalar.minsi v635 c34559_i32_406
  let v657 : Index := Scalar.indexCast v636
  ![v657.toNat]
def k0_off115 (v658 : BitVec 32) : Fin 2 → Nat :=
  let c7_i32_416 : BitVec 32 := 7#32
  let v659 : BitVec 32 := Scalar.muli v658 c7_i32_416
  let v660 : Index := Scalar.indexCast v659
  let c0_417 : Index := 0#32
  ![v660.toNat, 0]

def k0_chk44 (v658 : BitVec 32) : Prop :=
  (∀ a, (k0_off115 v658) a + S8x128.size a ≤ S8968x128.size a)
theorem k0_off115_inb : ∀ (v658 : BitVec 32) (k0_hw44 : k0_chk44 v658), ∀ a, (k0_off115 v658) a + S8x128.size a ≤ S8968x128.size a := fun v658 k0_hw44 => k0_hw44

def k0_off116 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_407 : BitVec 32 := 2#32
  let c0_i32_9 : BitVec 32 := 0#32
  let c1_i32_10 : BitVec 32 := 1#32
  let arg15 : BitVec 32 := Scf.iv c0_i32_9 c1_i32_10 k0_t6
  let c8_i32_403 : BitVec 32 := 8#32
  let v632 : BitVec 32 := Scalar.muli arg15 c8_i32_403
  let c2_i32_404 : BitVec 32 := 2#32
  let v633 : BitVec 32 := Scalar.addi v632 c2_i32_404
  let v637 : BitVec 32 := Scalar.muli c2_i32_407 v633
  let v638 : BitVec 32 := Scalar.addi v18 v637
  let c1_i32_408 : BitVec 32 := 1#32
  let v639 : BitVec 32 := Scalar.addi v638 c1_i32_408
  let c34559_i32_409 : BitVec 32 := 34559#32
  let v640 : BitVec 32 := Scalar.minsi v639 c34559_i32_409
  let v662 : Index := Scalar.indexCast v640
  ![v662.toNat]
def k0_off117 (v663 : BitVec 32) : Fin 2 → Nat :=
  let c7_i32_418 : BitVec 32 := 7#32
  let v664 : BitVec 32 := Scalar.muli v663 c7_i32_418
  let v665 : Index := Scalar.indexCast v664
  let c0_419 : Index := 0#32
  ![v665.toNat, 0]

def k0_chk45 (v663 : BitVec 32) : Prop :=
  (∀ a, (k0_off117 v663) a + S8x128.size a ≤ S8968x128.size a)
theorem k0_off117_inb : ∀ (v663 : BitVec 32) (k0_hw45 : k0_chk45 v663), ∀ a, (k0_off117 v663) a + S8x128.size a ≤ S8968x128.size a := fun v663 k0_hw45 => k0_hw45

def k0_off118 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32_403 : BitVec 32 := 8#32
  let v632 : BitVec 32 := Scalar.muli arg15 c8_i32_403
  let c2_i32_404 : BitVec 32 := 2#32
  let v633 : BitVec 32 := Scalar.addi v632 c2_i32_404
  let c9_i32_420 : BitVec 32 := 9#32
  let v668 : BitVec 32 := Scalar.muli v633 c9_i32_420
  let v669 : Index := Scalar.indexCast v668
  let c0_421 : Index := 0#32
  ![v669.toNat, 0, 0]
def k0_off119 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_423 : BitVec 32 := 2#32
  let c0_i32_9 : BitVec 32 := 0#32
  let c1_i32_10 : BitVec 32 := 1#32
  let arg15 : BitVec 32 := Scf.iv c0_i32_9 c1_i32_10 k0_t6
  let c8_i32_422 : BitVec 32 := 8#32
  let v673 : BitVec 32 := Scalar.muli arg15 c8_i32_422
  let c3_i32 : BitVec 32 := 3#32
  let v674 : BitVec 32 := Scalar.addi v673 c3_i32
  let v675 : BitVec 32 := Scalar.muli c2_i32_423 v674
  let v676 : BitVec 32 := Scalar.addi v18 v675
  let c34559_i32_424 : BitVec 32 := 34559#32
  let v677 : BitVec 32 := Scalar.minsi v676 c34559_i32_424
  let v682 : Index := Scalar.indexCast v677
  ![v682.toNat]
def k0_off120 (v683 : BitVec 32) : Fin 2 → Nat :=
  let c9_i32_428 : BitVec 32 := 9#32
  let v684 : BitVec 32 := Scalar.muli v683 c9_i32_428
  let v685 : Index := Scalar.indexCast v684
  let c0_429 : Index := 0#32
  ![v685.toNat, 0]

def k0_chk46 (v683 : BitVec 32) : Prop :=
  (∀ a, (k0_off120 v683) a + S8x128.size a ≤ S11520x128.size a)
theorem k0_off120_inb : ∀ (v683 : BitVec 32) (k0_hw46 : k0_chk46 v683), ∀ a, (k0_off120 v683) a + S8x128.size a ≤ S11520x128.size a := fun v683 k0_hw46 => k0_hw46

def k0_off121 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_425 : BitVec 32 := 2#32
  let c0_i32_9 : BitVec 32 := 0#32
  let c1_i32_10 : BitVec 32 := 1#32
  let arg15 : BitVec 32 := Scf.iv c0_i32_9 c1_i32_10 k0_t6
  let c8_i32_422 : BitVec 32 := 8#32
  let v673 : BitVec 32 := Scalar.muli arg15 c8_i32_422
  let c3_i32 : BitVec 32 := 3#32
  let v674 : BitVec 32 := Scalar.addi v673 c3_i32
  let v678 : BitVec 32 := Scalar.muli c2_i32_425 v674
  let v679 : BitVec 32 := Scalar.addi v18 v678
  let c1_i32_426 : BitVec 32 := 1#32
  let v680 : BitVec 32 := Scalar.addi v679 c1_i32_426
  let c34559_i32_427 : BitVec 32 := 34559#32
  let v681 : BitVec 32 := Scalar.minsi v680 c34559_i32_427
  let v687 : Index := Scalar.indexCast v681
  ![v687.toNat]
def k0_off122 (v688 : BitVec 32) : Fin 2 → Nat :=
  let c9_i32_430 : BitVec 32 := 9#32
  let v689 : BitVec 32 := Scalar.muli v688 c9_i32_430
  let v690 : Index := Scalar.indexCast v689
  let c0_431 : Index := 0#32
  ![v690.toNat, 0]

def k0_chk47 (v688 : BitVec 32) : Prop :=
  (∀ a, (k0_off122 v688) a + S8x128.size a ≤ S11520x128.size a)
theorem k0_off122_inb : ∀ (v688 : BitVec 32) (k0_hw47 : k0_chk47 v688), ∀ a, (k0_off122 v688) a + S8x128.size a ≤ S11520x128.size a := fun v688 k0_hw47 => k0_hw47

def k0_off123 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32_422 : BitVec 32 := 8#32
  let v673 : BitVec 32 := Scalar.muli arg15 c8_i32_422
  let c3_i32 : BitVec 32 := 3#32
  let v674 : BitVec 32 := Scalar.addi v673 c3_i32
  let c9_i32_432 : BitVec 32 := 9#32
  let v693 : BitVec 32 := Scalar.muli v674 c9_i32_432
  let v694 : Index := Scalar.indexCast v693
  let c0_433 : Index := 0#32
  ![v694.toNat, 0, 0]
def k0_off124 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_423 : BitVec 32 := 2#32
  let c0_i32_9 : BitVec 32 := 0#32
  let c1_i32_10 : BitVec 32 := 1#32
  let arg15 : BitVec 32 := Scf.iv c0_i32_9 c1_i32_10 k0_t6
  let c8_i32_422 : BitVec 32 := 8#32
  let v673 : BitVec 32 := Scalar.muli arg15 c8_i32_422
  let c3_i32 : BitVec 32 := 3#32
  let v674 : BitVec 32 := Scalar.addi v673 c3_i32
  let v675 : BitVec 32 := Scalar.muli c2_i32_423 v674
  let v676 : BitVec 32 := Scalar.addi v18 v675
  let c34559_i32_424 : BitVec 32 := 34559#32
  let v677 : BitVec 32 := Scalar.minsi v676 c34559_i32_424
  let v698 : Index := Scalar.indexCast v677
  ![v698.toNat]
def k0_off125 (v699 : BitVec 32) : Fin 2 → Nat :=
  let c7_i32_434 : BitVec 32 := 7#32
  let v700 : BitVec 32 := Scalar.muli v699 c7_i32_434
  let v701 : Index := Scalar.indexCast v700
  let c0_435 : Index := 0#32
  ![v701.toNat, 0]

def k0_chk48 (v699 : BitVec 32) : Prop :=
  (∀ a, (k0_off125 v699) a + S8x128.size a ≤ S8968x128.size a)
theorem k0_off125_inb : ∀ (v699 : BitVec 32) (k0_hw48 : k0_chk48 v699), ∀ a, (k0_off125 v699) a + S8x128.size a ≤ S8968x128.size a := fun v699 k0_hw48 => k0_hw48

def k0_off126 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_425 : BitVec 32 := 2#32
  let c0_i32_9 : BitVec 32 := 0#32
  let c1_i32_10 : BitVec 32 := 1#32
  let arg15 : BitVec 32 := Scf.iv c0_i32_9 c1_i32_10 k0_t6
  let c8_i32_422 : BitVec 32 := 8#32
  let v673 : BitVec 32 := Scalar.muli arg15 c8_i32_422
  let c3_i32 : BitVec 32 := 3#32
  let v674 : BitVec 32 := Scalar.addi v673 c3_i32
  let v678 : BitVec 32 := Scalar.muli c2_i32_425 v674
  let v679 : BitVec 32 := Scalar.addi v18 v678
  let c1_i32_426 : BitVec 32 := 1#32
  let v680 : BitVec 32 := Scalar.addi v679 c1_i32_426
  let c34559_i32_427 : BitVec 32 := 34559#32
  let v681 : BitVec 32 := Scalar.minsi v680 c34559_i32_427
  let v703 : Index := Scalar.indexCast v681
  ![v703.toNat]
def k0_off127 (v704 : BitVec 32) : Fin 2 → Nat :=
  let c7_i32_436 : BitVec 32 := 7#32
  let v705 : BitVec 32 := Scalar.muli v704 c7_i32_436
  let v706 : Index := Scalar.indexCast v705
  let c0_437 : Index := 0#32
  ![v706.toNat, 0]

def k0_chk49 (v704 : BitVec 32) : Prop :=
  (∀ a, (k0_off127 v704) a + S8x128.size a ≤ S8968x128.size a)
theorem k0_off127_inb : ∀ (v704 : BitVec 32) (k0_hw49 : k0_chk49 v704), ∀ a, (k0_off127 v704) a + S8x128.size a ≤ S8968x128.size a := fun v704 k0_hw49 => k0_hw49

def k0_off128 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32_422 : BitVec 32 := 8#32
  let v673 : BitVec 32 := Scalar.muli arg15 c8_i32_422
  let c3_i32 : BitVec 32 := 3#32
  let v674 : BitVec 32 := Scalar.addi v673 c3_i32
  let c9_i32_438 : BitVec 32 := 9#32
  let v709 : BitVec 32 := Scalar.muli v674 c9_i32_438
  let v710 : Index := Scalar.indexCast v709
  let c0_439 : Index := 0#32
  ![v710.toNat, 0, 0]
def k0_off129 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_441 : BitVec 32 := 2#32
  let c0_i32_9 : BitVec 32 := 0#32
  let c1_i32_10 : BitVec 32 := 1#32
  let arg15 : BitVec 32 := Scf.iv c0_i32_9 c1_i32_10 k0_t6
  let c8_i32_440 : BitVec 32 := 8#32
  let v714 : BitVec 32 := Scalar.muli arg15 c8_i32_440
  let c4_i32 : BitVec 32 := 4#32
  let v715 : BitVec 32 := Scalar.addi v714 c4_i32
  let v716 : BitVec 32 := Scalar.muli c2_i32_441 v715
  let v717 : BitVec 32 := Scalar.addi v18 v716
  let c34559_i32_442 : BitVec 32 := 34559#32
  let v718 : BitVec 32 := Scalar.minsi v717 c34559_i32_442
  let v723 : Index := Scalar.indexCast v718
  ![v723.toNat]
def k0_off130 (v724 : BitVec 32) : Fin 2 → Nat :=
  let c9_i32_446 : BitVec 32 := 9#32
  let v725 : BitVec 32 := Scalar.muli v724 c9_i32_446
  let v726 : Index := Scalar.indexCast v725
  let c0_447 : Index := 0#32
  ![v726.toNat, 0]

def k0_chk50 (v724 : BitVec 32) : Prop :=
  (∀ a, (k0_off130 v724) a + S8x128.size a ≤ S11520x128.size a)
theorem k0_off130_inb : ∀ (v724 : BitVec 32) (k0_hw50 : k0_chk50 v724), ∀ a, (k0_off130 v724) a + S8x128.size a ≤ S11520x128.size a := fun v724 k0_hw50 => k0_hw50

def k0_off131 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_443 : BitVec 32 := 2#32
  let c0_i32_9 : BitVec 32 := 0#32
  let c1_i32_10 : BitVec 32 := 1#32
  let arg15 : BitVec 32 := Scf.iv c0_i32_9 c1_i32_10 k0_t6
  let c8_i32_440 : BitVec 32 := 8#32
  let v714 : BitVec 32 := Scalar.muli arg15 c8_i32_440
  let c4_i32 : BitVec 32 := 4#32
  let v715 : BitVec 32 := Scalar.addi v714 c4_i32
  let v719 : BitVec 32 := Scalar.muli c2_i32_443 v715
  let v720 : BitVec 32 := Scalar.addi v18 v719
  let c1_i32_444 : BitVec 32 := 1#32
  let v721 : BitVec 32 := Scalar.addi v720 c1_i32_444
  let c34559_i32_445 : BitVec 32 := 34559#32
  let v722 : BitVec 32 := Scalar.minsi v721 c34559_i32_445
  let v728 : Index := Scalar.indexCast v722
  ![v728.toNat]
def k0_off132 (v729 : BitVec 32) : Fin 2 → Nat :=
  let c9_i32_448 : BitVec 32 := 9#32
  let v730 : BitVec 32 := Scalar.muli v729 c9_i32_448
  let v731 : Index := Scalar.indexCast v730
  let c0_449 : Index := 0#32
  ![v731.toNat, 0]

def k0_chk51 (v729 : BitVec 32) : Prop :=
  (∀ a, (k0_off132 v729) a + S8x128.size a ≤ S11520x128.size a)
theorem k0_off132_inb : ∀ (v729 : BitVec 32) (k0_hw51 : k0_chk51 v729), ∀ a, (k0_off132 v729) a + S8x128.size a ≤ S11520x128.size a := fun v729 k0_hw51 => k0_hw51

def k0_off133 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32_440 : BitVec 32 := 8#32
  let v714 : BitVec 32 := Scalar.muli arg15 c8_i32_440
  let c4_i32 : BitVec 32 := 4#32
  let v715 : BitVec 32 := Scalar.addi v714 c4_i32
  let c9_i32_450 : BitVec 32 := 9#32
  let v734 : BitVec 32 := Scalar.muli v715 c9_i32_450
  let v735 : Index := Scalar.indexCast v734
  let c0_451 : Index := 0#32
  ![v735.toNat, 0, 0]
def k0_off134 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_441 : BitVec 32 := 2#32
  let c0_i32_9 : BitVec 32 := 0#32
  let c1_i32_10 : BitVec 32 := 1#32
  let arg15 : BitVec 32 := Scf.iv c0_i32_9 c1_i32_10 k0_t6
  let c8_i32_440 : BitVec 32 := 8#32
  let v714 : BitVec 32 := Scalar.muli arg15 c8_i32_440
  let c4_i32 : BitVec 32 := 4#32
  let v715 : BitVec 32 := Scalar.addi v714 c4_i32
  let v716 : BitVec 32 := Scalar.muli c2_i32_441 v715
  let v717 : BitVec 32 := Scalar.addi v18 v716
  let c34559_i32_442 : BitVec 32 := 34559#32
  let v718 : BitVec 32 := Scalar.minsi v717 c34559_i32_442
  let v739 : Index := Scalar.indexCast v718
  ![v739.toNat]
def k0_off135 (v740 : BitVec 32) : Fin 2 → Nat :=
  let c7_i32_452 : BitVec 32 := 7#32
  let v741 : BitVec 32 := Scalar.muli v740 c7_i32_452
  let v742 : Index := Scalar.indexCast v741
  let c0_453 : Index := 0#32
  ![v742.toNat, 0]

def k0_chk52 (v740 : BitVec 32) : Prop :=
  (∀ a, (k0_off135 v740) a + S8x128.size a ≤ S8968x128.size a)
theorem k0_off135_inb : ∀ (v740 : BitVec 32) (k0_hw52 : k0_chk52 v740), ∀ a, (k0_off135 v740) a + S8x128.size a ≤ S8968x128.size a := fun v740 k0_hw52 => k0_hw52

def k0_off136 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_443 : BitVec 32 := 2#32
  let c0_i32_9 : BitVec 32 := 0#32
  let c1_i32_10 : BitVec 32 := 1#32
  let arg15 : BitVec 32 := Scf.iv c0_i32_9 c1_i32_10 k0_t6
  let c8_i32_440 : BitVec 32 := 8#32
  let v714 : BitVec 32 := Scalar.muli arg15 c8_i32_440
  let c4_i32 : BitVec 32 := 4#32
  let v715 : BitVec 32 := Scalar.addi v714 c4_i32
  let v719 : BitVec 32 := Scalar.muli c2_i32_443 v715
  let v720 : BitVec 32 := Scalar.addi v18 v719
  let c1_i32_444 : BitVec 32 := 1#32
  let v721 : BitVec 32 := Scalar.addi v720 c1_i32_444
  let c34559_i32_445 : BitVec 32 := 34559#32
  let v722 : BitVec 32 := Scalar.minsi v721 c34559_i32_445
  let v744 : Index := Scalar.indexCast v722
  ![v744.toNat]
def k0_off137 (v745 : BitVec 32) : Fin 2 → Nat :=
  let c7_i32_454 : BitVec 32 := 7#32
  let v746 : BitVec 32 := Scalar.muli v745 c7_i32_454
  let v747 : Index := Scalar.indexCast v746
  let c0_455 : Index := 0#32
  ![v747.toNat, 0]

def k0_chk53 (v745 : BitVec 32) : Prop :=
  (∀ a, (k0_off137 v745) a + S8x128.size a ≤ S8968x128.size a)
theorem k0_off137_inb : ∀ (v745 : BitVec 32) (k0_hw53 : k0_chk53 v745), ∀ a, (k0_off137 v745) a + S8x128.size a ≤ S8968x128.size a := fun v745 k0_hw53 => k0_hw53

def k0_off138 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32_440 : BitVec 32 := 8#32
  let v714 : BitVec 32 := Scalar.muli arg15 c8_i32_440
  let c4_i32 : BitVec 32 := 4#32
  let v715 : BitVec 32 := Scalar.addi v714 c4_i32
  let c9_i32_456 : BitVec 32 := 9#32
  let v750 : BitVec 32 := Scalar.muli v715 c9_i32_456
  let v751 : Index := Scalar.indexCast v750
  let c0_457 : Index := 0#32
  ![v751.toNat, 0, 0]
def k0_off139 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_459 : BitVec 32 := 2#32
  let c0_i32_9 : BitVec 32 := 0#32
  let c1_i32_10 : BitVec 32 := 1#32
  let arg15 : BitVec 32 := Scf.iv c0_i32_9 c1_i32_10 k0_t6
  let c8_i32_458 : BitVec 32 := 8#32
  let v755 : BitVec 32 := Scalar.muli arg15 c8_i32_458
  let c5_i32 : BitVec 32 := 5#32
  let v756 : BitVec 32 := Scalar.addi v755 c5_i32
  let v757 : BitVec 32 := Scalar.muli c2_i32_459 v756
  let v758 : BitVec 32 := Scalar.addi v18 v757
  let c34559_i32_460 : BitVec 32 := 34559#32
  let v759 : BitVec 32 := Scalar.minsi v758 c34559_i32_460
  let v764 : Index := Scalar.indexCast v759
  ![v764.toNat]
def k0_off140 (v765 : BitVec 32) : Fin 2 → Nat :=
  let c9_i32_464 : BitVec 32 := 9#32
  let v766 : BitVec 32 := Scalar.muli v765 c9_i32_464
  let v767 : Index := Scalar.indexCast v766
  let c0_465 : Index := 0#32
  ![v767.toNat, 0]

def k0_chk54 (v765 : BitVec 32) : Prop :=
  (∀ a, (k0_off140 v765) a + S8x128.size a ≤ S11520x128.size a)
theorem k0_off140_inb : ∀ (v765 : BitVec 32) (k0_hw54 : k0_chk54 v765), ∀ a, (k0_off140 v765) a + S8x128.size a ≤ S11520x128.size a := fun v765 k0_hw54 => k0_hw54

def k0_off141 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_461 : BitVec 32 := 2#32
  let c0_i32_9 : BitVec 32 := 0#32
  let c1_i32_10 : BitVec 32 := 1#32
  let arg15 : BitVec 32 := Scf.iv c0_i32_9 c1_i32_10 k0_t6
  let c8_i32_458 : BitVec 32 := 8#32
  let v755 : BitVec 32 := Scalar.muli arg15 c8_i32_458
  let c5_i32 : BitVec 32 := 5#32
  let v756 : BitVec 32 := Scalar.addi v755 c5_i32
  let v760 : BitVec 32 := Scalar.muli c2_i32_461 v756
  let v761 : BitVec 32 := Scalar.addi v18 v760
  let c1_i32_462 : BitVec 32 := 1#32
  let v762 : BitVec 32 := Scalar.addi v761 c1_i32_462
  let c34559_i32_463 : BitVec 32 := 34559#32
  let v763 : BitVec 32 := Scalar.minsi v762 c34559_i32_463
  let v769 : Index := Scalar.indexCast v763
  ![v769.toNat]
def k0_off142 (v770 : BitVec 32) : Fin 2 → Nat :=
  let c9_i32_466 : BitVec 32 := 9#32
  let v771 : BitVec 32 := Scalar.muli v770 c9_i32_466
  let v772 : Index := Scalar.indexCast v771
  let c0_467 : Index := 0#32
  ![v772.toNat, 0]

def k0_chk55 (v770 : BitVec 32) : Prop :=
  (∀ a, (k0_off142 v770) a + S8x128.size a ≤ S11520x128.size a)
theorem k0_off142_inb : ∀ (v770 : BitVec 32) (k0_hw55 : k0_chk55 v770), ∀ a, (k0_off142 v770) a + S8x128.size a ≤ S11520x128.size a := fun v770 k0_hw55 => k0_hw55

def k0_off143 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32_458 : BitVec 32 := 8#32
  let v755 : BitVec 32 := Scalar.muli arg15 c8_i32_458
  let c5_i32 : BitVec 32 := 5#32
  let v756 : BitVec 32 := Scalar.addi v755 c5_i32
  let c9_i32_468 : BitVec 32 := 9#32
  let v775 : BitVec 32 := Scalar.muli v756 c9_i32_468
  let v776 : Index := Scalar.indexCast v775
  let c0_469 : Index := 0#32
  ![v776.toNat, 0, 0]
def k0_off144 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_459 : BitVec 32 := 2#32
  let c0_i32_9 : BitVec 32 := 0#32
  let c1_i32_10 : BitVec 32 := 1#32
  let arg15 : BitVec 32 := Scf.iv c0_i32_9 c1_i32_10 k0_t6
  let c8_i32_458 : BitVec 32 := 8#32
  let v755 : BitVec 32 := Scalar.muli arg15 c8_i32_458
  let c5_i32 : BitVec 32 := 5#32
  let v756 : BitVec 32 := Scalar.addi v755 c5_i32
  let v757 : BitVec 32 := Scalar.muli c2_i32_459 v756
  let v758 : BitVec 32 := Scalar.addi v18 v757
  let c34559_i32_460 : BitVec 32 := 34559#32
  let v759 : BitVec 32 := Scalar.minsi v758 c34559_i32_460
  let v780 : Index := Scalar.indexCast v759
  ![v780.toNat]
def k0_off145 (v781 : BitVec 32) : Fin 2 → Nat :=
  let c7_i32_470 : BitVec 32 := 7#32
  let v782 : BitVec 32 := Scalar.muli v781 c7_i32_470
  let v783 : Index := Scalar.indexCast v782
  let c0_471 : Index := 0#32
  ![v783.toNat, 0]

def k0_chk56 (v781 : BitVec 32) : Prop :=
  (∀ a, (k0_off145 v781) a + S8x128.size a ≤ S8968x128.size a)
theorem k0_off145_inb : ∀ (v781 : BitVec 32) (k0_hw56 : k0_chk56 v781), ∀ a, (k0_off145 v781) a + S8x128.size a ≤ S8968x128.size a := fun v781 k0_hw56 => k0_hw56

def k0_off146 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_461 : BitVec 32 := 2#32
  let c0_i32_9 : BitVec 32 := 0#32
  let c1_i32_10 : BitVec 32 := 1#32
  let arg15 : BitVec 32 := Scf.iv c0_i32_9 c1_i32_10 k0_t6
  let c8_i32_458 : BitVec 32 := 8#32
  let v755 : BitVec 32 := Scalar.muli arg15 c8_i32_458
  let c5_i32 : BitVec 32 := 5#32
  let v756 : BitVec 32 := Scalar.addi v755 c5_i32
  let v760 : BitVec 32 := Scalar.muli c2_i32_461 v756
  let v761 : BitVec 32 := Scalar.addi v18 v760
  let c1_i32_462 : BitVec 32 := 1#32
  let v762 : BitVec 32 := Scalar.addi v761 c1_i32_462
  let c34559_i32_463 : BitVec 32 := 34559#32
  let v763 : BitVec 32 := Scalar.minsi v762 c34559_i32_463
  let v785 : Index := Scalar.indexCast v763
  ![v785.toNat]
def k0_off147 (v786 : BitVec 32) : Fin 2 → Nat :=
  let c7_i32_472 : BitVec 32 := 7#32
  let v787 : BitVec 32 := Scalar.muli v786 c7_i32_472
  let v788 : Index := Scalar.indexCast v787
  let c0_473 : Index := 0#32
  ![v788.toNat, 0]

def k0_chk57 (v786 : BitVec 32) : Prop :=
  (∀ a, (k0_off147 v786) a + S8x128.size a ≤ S8968x128.size a)
theorem k0_off147_inb : ∀ (v786 : BitVec 32) (k0_hw57 : k0_chk57 v786), ∀ a, (k0_off147 v786) a + S8x128.size a ≤ S8968x128.size a := fun v786 k0_hw57 => k0_hw57

def k0_off148 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32_458 : BitVec 32 := 8#32
  let v755 : BitVec 32 := Scalar.muli arg15 c8_i32_458
  let c5_i32 : BitVec 32 := 5#32
  let v756 : BitVec 32 := Scalar.addi v755 c5_i32
  let c9_i32_474 : BitVec 32 := 9#32
  let v791 : BitVec 32 := Scalar.muli v756 c9_i32_474
  let v792 : Index := Scalar.indexCast v791
  let c0_475 : Index := 0#32
  ![v792.toNat, 0, 0]
def k0_off149 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_477 : BitVec 32 := 2#32
  let c0_i32_9 : BitVec 32 := 0#32
  let c1_i32_10 : BitVec 32 := 1#32
  let arg15 : BitVec 32 := Scf.iv c0_i32_9 c1_i32_10 k0_t6
  let c8_i32_476 : BitVec 32 := 8#32
  let v796 : BitVec 32 := Scalar.muli arg15 c8_i32_476
  let c6_i32 : BitVec 32 := 6#32
  let v797 : BitVec 32 := Scalar.addi v796 c6_i32
  let v798 : BitVec 32 := Scalar.muli c2_i32_477 v797
  let v799 : BitVec 32 := Scalar.addi v18 v798
  let c34559_i32_478 : BitVec 32 := 34559#32
  let v800 : BitVec 32 := Scalar.minsi v799 c34559_i32_478
  let v805 : Index := Scalar.indexCast v800
  ![v805.toNat]
def k0_off150 (v806 : BitVec 32) : Fin 2 → Nat :=
  let c9_i32_482 : BitVec 32 := 9#32
  let v807 : BitVec 32 := Scalar.muli v806 c9_i32_482
  let v808 : Index := Scalar.indexCast v807
  let c0_483 : Index := 0#32
  ![v808.toNat, 0]

def k0_chk58 (v806 : BitVec 32) : Prop :=
  (∀ a, (k0_off150 v806) a + S8x128.size a ≤ S11520x128.size a)
theorem k0_off150_inb : ∀ (v806 : BitVec 32) (k0_hw58 : k0_chk58 v806), ∀ a, (k0_off150 v806) a + S8x128.size a ≤ S11520x128.size a := fun v806 k0_hw58 => k0_hw58

def k0_off151 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_479 : BitVec 32 := 2#32
  let c0_i32_9 : BitVec 32 := 0#32
  let c1_i32_10 : BitVec 32 := 1#32
  let arg15 : BitVec 32 := Scf.iv c0_i32_9 c1_i32_10 k0_t6
  let c8_i32_476 : BitVec 32 := 8#32
  let v796 : BitVec 32 := Scalar.muli arg15 c8_i32_476
  let c6_i32 : BitVec 32 := 6#32
  let v797 : BitVec 32 := Scalar.addi v796 c6_i32
  let v801 : BitVec 32 := Scalar.muli c2_i32_479 v797
  let v802 : BitVec 32 := Scalar.addi v18 v801
  let c1_i32_480 : BitVec 32 := 1#32
  let v803 : BitVec 32 := Scalar.addi v802 c1_i32_480
  let c34559_i32_481 : BitVec 32 := 34559#32
  let v804 : BitVec 32 := Scalar.minsi v803 c34559_i32_481
  let v810 : Index := Scalar.indexCast v804
  ![v810.toNat]
def k0_off152 (v811 : BitVec 32) : Fin 2 → Nat :=
  let c9_i32_484 : BitVec 32 := 9#32
  let v812 : BitVec 32 := Scalar.muli v811 c9_i32_484
  let v813 : Index := Scalar.indexCast v812
  let c0_485 : Index := 0#32
  ![v813.toNat, 0]

def k0_chk59 (v811 : BitVec 32) : Prop :=
  (∀ a, (k0_off152 v811) a + S8x128.size a ≤ S11520x128.size a)
theorem k0_off152_inb : ∀ (v811 : BitVec 32) (k0_hw59 : k0_chk59 v811), ∀ a, (k0_off152 v811) a + S8x128.size a ≤ S11520x128.size a := fun v811 k0_hw59 => k0_hw59

def k0_off153 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32_476 : BitVec 32 := 8#32
  let v796 : BitVec 32 := Scalar.muli arg15 c8_i32_476
  let c6_i32 : BitVec 32 := 6#32
  let v797 : BitVec 32 := Scalar.addi v796 c6_i32
  let c9_i32_486 : BitVec 32 := 9#32
  let v816 : BitVec 32 := Scalar.muli v797 c9_i32_486
  let v817 : Index := Scalar.indexCast v816
  let c0_487 : Index := 0#32
  ![v817.toNat, 0, 0]
def k0_off154 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_477 : BitVec 32 := 2#32
  let c0_i32_9 : BitVec 32 := 0#32
  let c1_i32_10 : BitVec 32 := 1#32
  let arg15 : BitVec 32 := Scf.iv c0_i32_9 c1_i32_10 k0_t6
  let c8_i32_476 : BitVec 32 := 8#32
  let v796 : BitVec 32 := Scalar.muli arg15 c8_i32_476
  let c6_i32 : BitVec 32 := 6#32
  let v797 : BitVec 32 := Scalar.addi v796 c6_i32
  let v798 : BitVec 32 := Scalar.muli c2_i32_477 v797
  let v799 : BitVec 32 := Scalar.addi v18 v798
  let c34559_i32_478 : BitVec 32 := 34559#32
  let v800 : BitVec 32 := Scalar.minsi v799 c34559_i32_478
  let v821 : Index := Scalar.indexCast v800
  ![v821.toNat]
def k0_off155 (v822 : BitVec 32) : Fin 2 → Nat :=
  let c7_i32_488 : BitVec 32 := 7#32
  let v823 : BitVec 32 := Scalar.muli v822 c7_i32_488
  let v824 : Index := Scalar.indexCast v823
  let c0_489 : Index := 0#32
  ![v824.toNat, 0]

def k0_chk60 (v822 : BitVec 32) : Prop :=
  (∀ a, (k0_off155 v822) a + S8x128.size a ≤ S8968x128.size a)
theorem k0_off155_inb : ∀ (v822 : BitVec 32) (k0_hw60 : k0_chk60 v822), ∀ a, (k0_off155 v822) a + S8x128.size a ≤ S8968x128.size a := fun v822 k0_hw60 => k0_hw60

def k0_off156 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_479 : BitVec 32 := 2#32
  let c0_i32_9 : BitVec 32 := 0#32
  let c1_i32_10 : BitVec 32 := 1#32
  let arg15 : BitVec 32 := Scf.iv c0_i32_9 c1_i32_10 k0_t6
  let c8_i32_476 : BitVec 32 := 8#32
  let v796 : BitVec 32 := Scalar.muli arg15 c8_i32_476
  let c6_i32 : BitVec 32 := 6#32
  let v797 : BitVec 32 := Scalar.addi v796 c6_i32
  let v801 : BitVec 32 := Scalar.muli c2_i32_479 v797
  let v802 : BitVec 32 := Scalar.addi v18 v801
  let c1_i32_480 : BitVec 32 := 1#32
  let v803 : BitVec 32 := Scalar.addi v802 c1_i32_480
  let c34559_i32_481 : BitVec 32 := 34559#32
  let v804 : BitVec 32 := Scalar.minsi v803 c34559_i32_481
  let v826 : Index := Scalar.indexCast v804
  ![v826.toNat]
def k0_off157 (v827 : BitVec 32) : Fin 2 → Nat :=
  let c7_i32_490 : BitVec 32 := 7#32
  let v828 : BitVec 32 := Scalar.muli v827 c7_i32_490
  let v829 : Index := Scalar.indexCast v828
  let c0_491 : Index := 0#32
  ![v829.toNat, 0]

def k0_chk61 (v827 : BitVec 32) : Prop :=
  (∀ a, (k0_off157 v827) a + S8x128.size a ≤ S8968x128.size a)
theorem k0_off157_inb : ∀ (v827 : BitVec 32) (k0_hw61 : k0_chk61 v827), ∀ a, (k0_off157 v827) a + S8x128.size a ≤ S8968x128.size a := fun v827 k0_hw61 => k0_hw61

def k0_off158 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32_476 : BitVec 32 := 8#32
  let v796 : BitVec 32 := Scalar.muli arg15 c8_i32_476
  let c6_i32 : BitVec 32 := 6#32
  let v797 : BitVec 32 := Scalar.addi v796 c6_i32
  let c9_i32_492 : BitVec 32 := 9#32
  let v832 : BitVec 32 := Scalar.muli v797 c9_i32_492
  let v833 : Index := Scalar.indexCast v832
  let c0_493 : Index := 0#32
  ![v833.toNat, 0, 0]
def k0_off159 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_496 : BitVec 32 := 2#32
  let c0_i32_9 : BitVec 32 := 0#32
  let c1_i32_10 : BitVec 32 := 1#32
  let arg15 : BitVec 32 := Scf.iv c0_i32_9 c1_i32_10 k0_t6
  let c8_i32_494 : BitVec 32 := 8#32
  let v837 : BitVec 32 := Scalar.muli arg15 c8_i32_494
  let c7_i32_495 : BitVec 32 := 7#32
  let v838 : BitVec 32 := Scalar.addi v837 c7_i32_495
  let v839 : BitVec 32 := Scalar.muli c2_i32_496 v838
  let v840 : BitVec 32 := Scalar.addi v18 v839
  let c34559_i32_497 : BitVec 32 := 34559#32
  let v841 : BitVec 32 := Scalar.minsi v840 c34559_i32_497
  let v846 : Index := Scalar.indexCast v841
  ![v846.toNat]
def k0_off160 (v847 : BitVec 32) : Fin 2 → Nat :=
  let c9_i32_501 : BitVec 32 := 9#32
  let v848 : BitVec 32 := Scalar.muli v847 c9_i32_501
  let v849 : Index := Scalar.indexCast v848
  let c0_502 : Index := 0#32
  ![v849.toNat, 0]

def k0_chk62 (v847 : BitVec 32) : Prop :=
  (∀ a, (k0_off160 v847) a + S8x128.size a ≤ S11520x128.size a)
theorem k0_off160_inb : ∀ (v847 : BitVec 32) (k0_hw62 : k0_chk62 v847), ∀ a, (k0_off160 v847) a + S8x128.size a ≤ S11520x128.size a := fun v847 k0_hw62 => k0_hw62

def k0_off161 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_498 : BitVec 32 := 2#32
  let c0_i32_9 : BitVec 32 := 0#32
  let c1_i32_10 : BitVec 32 := 1#32
  let arg15 : BitVec 32 := Scf.iv c0_i32_9 c1_i32_10 k0_t6
  let c8_i32_494 : BitVec 32 := 8#32
  let v837 : BitVec 32 := Scalar.muli arg15 c8_i32_494
  let c7_i32_495 : BitVec 32 := 7#32
  let v838 : BitVec 32 := Scalar.addi v837 c7_i32_495
  let v842 : BitVec 32 := Scalar.muli c2_i32_498 v838
  let v843 : BitVec 32 := Scalar.addi v18 v842
  let c1_i32_499 : BitVec 32 := 1#32
  let v844 : BitVec 32 := Scalar.addi v843 c1_i32_499
  let c34559_i32_500 : BitVec 32 := 34559#32
  let v845 : BitVec 32 := Scalar.minsi v844 c34559_i32_500
  let v851 : Index := Scalar.indexCast v845
  ![v851.toNat]
def k0_off162 (v852 : BitVec 32) : Fin 2 → Nat :=
  let c9_i32_503 : BitVec 32 := 9#32
  let v853 : BitVec 32 := Scalar.muli v852 c9_i32_503
  let v854 : Index := Scalar.indexCast v853
  let c0_504 : Index := 0#32
  ![v854.toNat, 0]

def k0_chk63 (v852 : BitVec 32) : Prop :=
  (∀ a, (k0_off162 v852) a + S8x128.size a ≤ S11520x128.size a)
theorem k0_off162_inb : ∀ (v852 : BitVec 32) (k0_hw63 : k0_chk63 v852), ∀ a, (k0_off162 v852) a + S8x128.size a ≤ S11520x128.size a := fun v852 k0_hw63 => k0_hw63

def k0_off163 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32_494 : BitVec 32 := 8#32
  let v837 : BitVec 32 := Scalar.muli arg15 c8_i32_494
  let c7_i32_495 : BitVec 32 := 7#32
  let v838 : BitVec 32 := Scalar.addi v837 c7_i32_495
  let c9_i32_505 : BitVec 32 := 9#32
  let v857 : BitVec 32 := Scalar.muli v838 c9_i32_505
  let v858 : Index := Scalar.indexCast v857
  let c0_506 : Index := 0#32
  ![v858.toNat, 0, 0]
def k0_off164 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_496 : BitVec 32 := 2#32
  let c0_i32_9 : BitVec 32 := 0#32
  let c1_i32_10 : BitVec 32 := 1#32
  let arg15 : BitVec 32 := Scf.iv c0_i32_9 c1_i32_10 k0_t6
  let c8_i32_494 : BitVec 32 := 8#32
  let v837 : BitVec 32 := Scalar.muli arg15 c8_i32_494
  let c7_i32_495 : BitVec 32 := 7#32
  let v838 : BitVec 32 := Scalar.addi v837 c7_i32_495
  let v839 : BitVec 32 := Scalar.muli c2_i32_496 v838
  let v840 : BitVec 32 := Scalar.addi v18 v839
  let c34559_i32_497 : BitVec 32 := 34559#32
  let v841 : BitVec 32 := Scalar.minsi v840 c34559_i32_497
  let v862 : Index := Scalar.indexCast v841
  ![v862.toNat]
def k0_off165 (v863 : BitVec 32) : Fin 2 → Nat :=
  let c7_i32_507 : BitVec 32 := 7#32
  let v864 : BitVec 32 := Scalar.muli v863 c7_i32_507
  let v865 : Index := Scalar.indexCast v864
  let c0_508 : Index := 0#32
  ![v865.toNat, 0]

def k0_chk64 (v863 : BitVec 32) : Prop :=
  (∀ a, (k0_off165 v863) a + S8x128.size a ≤ S8968x128.size a)
theorem k0_off165_inb : ∀ (v863 : BitVec 32) (k0_hw64 : k0_chk64 v863), ∀ a, (k0_off165 v863) a + S8x128.size a ≤ S8968x128.size a := fun v863 k0_hw64 => k0_hw64

def k0_off166 (v4 : BitVec 32) (v7 : BitVec 32) (k0_t5 : Fin (k0_t5_loop v4 v7).trips) (k0_t6 : Fin k0_t6_loop.trips) : Fin 1 → Nat :=
  let c0_i32_3 : BitVec 32 := 0#32
  let v8 : BitVec 32 := Scalar.subi v7 v4
  let c255_i32 : BitVec 32 := 255#32
  let v9 : BitVec 32 := Scalar.addi v8 c255_i32
  let c256_i32 : BitVec 32 := 256#32
  let v10 : BitVec 32 := Scalar.divsi v9 c256_i32
  let c1_i32_1 : BitVec 32 := 1#32
  let v11 : BitVec 32 := Scalar.maxsi v10 c1_i32_1
  let v12 : BitVec 32 := Scalar.subi v11 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg14 : BitVec 32 := Scf.iv v16 c1_i32_6 k0_t5
  let c256_i32_7 : BitVec 32 := 256#32
  let v17 : BitVec 32 := Scalar.muli arg14 c256_i32_7
  let v18 : BitVec 32 := Scalar.addi v4 v17
  let c2_i32_498 : BitVec 32 := 2#32
  let c0_i32_9 : BitVec 32 := 0#32
  let c1_i32_10 : BitVec 32 := 1#32
  let arg15 : BitVec 32 := Scf.iv c0_i32_9 c1_i32_10 k0_t6
  let c8_i32_494 : BitVec 32 := 8#32
  let v837 : BitVec 32 := Scalar.muli arg15 c8_i32_494
  let c7_i32_495 : BitVec 32 := 7#32
  let v838 : BitVec 32 := Scalar.addi v837 c7_i32_495
  let v842 : BitVec 32 := Scalar.muli c2_i32_498 v838
  let v843 : BitVec 32 := Scalar.addi v18 v842
  let c1_i32_499 : BitVec 32 := 1#32
  let v844 : BitVec 32 := Scalar.addi v843 c1_i32_499
  let c34559_i32_500 : BitVec 32 := 34559#32
  let v845 : BitVec 32 := Scalar.minsi v844 c34559_i32_500
  let v867 : Index := Scalar.indexCast v845
  ![v867.toNat]

def k0_chk1_0 (v4 : BitVec 32) (v7 : BitVec 32) : Prop :=
  ((k0_t3_loop v4 v7).OK) ∧
  (∀ (k0_t3 : Fin (k0_t3_loop v4 v7).trips) (k0_t4 : Fin k0_t4_loop.trips), ∀ a, (k0_off9 v4 v7 k0_t3 k0_t4) a + S1.size a ≤ S34560.size a) ∧
  (∀ (k0_t3 : Fin (k0_t3_loop v4 v7).trips) (k0_t4 : Fin k0_t4_loop.trips), ∀ a, (k0_off11 v4 v7 k0_t3 k0_t4) a + S1.size a ≤ S34560.size a) ∧
  (∀ (k0_t3 : Fin (k0_t3_loop v4 v7).trips) (k0_t4 : Fin k0_t4_loop.trips), ∀ a, (k0_off14 v4 v7 k0_t3 k0_t4) a + S1.size a ≤ S34560.size a) ∧
  (∀ (k0_t3 : Fin (k0_t3_loop v4 v7).trips) (k0_t4 : Fin k0_t4_loop.trips), ∀ a, (k0_off16 v4 v7 k0_t3 k0_t4) a + S1.size a ≤ S34560.size a) ∧
  (∀ (k0_t3 : Fin (k0_t3_loop v4 v7).trips) (k0_t4 : Fin k0_t4_loop.trips), ∀ a, (k0_off19 v4 v7 k0_t3 k0_t4) a + S1.size a ≤ S34560.size a) ∧
  (∀ (k0_t3 : Fin (k0_t3_loop v4 v7).trips) (k0_t4 : Fin k0_t4_loop.trips), ∀ a, (k0_off21 v4 v7 k0_t3 k0_t4) a + S1.size a ≤ S34560.size a) ∧
  (∀ (k0_t3 : Fin (k0_t3_loop v4 v7).trips) (k0_t4 : Fin k0_t4_loop.trips), ∀ a, (k0_off24 v4 v7 k0_t3 k0_t4) a + S1.size a ≤ S34560.size a) ∧
  (∀ (k0_t3 : Fin (k0_t3_loop v4 v7).trips) (k0_t4 : Fin k0_t4_loop.trips), ∀ a, (k0_off26 v4 v7 k0_t3 k0_t4) a + S1.size a ≤ S34560.size a) ∧
  (∀ (k0_t3 : Fin (k0_t3_loop v4 v7).trips) (k0_t4 : Fin k0_t4_loop.trips), ∀ a, (k0_off29 v4 v7 k0_t3 k0_t4) a + S1.size a ≤ S34560.size a) ∧
  (∀ (k0_t3 : Fin (k0_t3_loop v4 v7).trips) (k0_t4 : Fin k0_t4_loop.trips), ∀ a, (k0_off31 v4 v7 k0_t3 k0_t4) a + S1.size a ≤ S34560.size a) ∧
  (∀ (k0_t3 : Fin (k0_t3_loop v4 v7).trips) (k0_t4 : Fin k0_t4_loop.trips), ∀ a, (k0_off34 v4 v7 k0_t3 k0_t4) a + S1.size a ≤ S34560.size a) ∧
  (∀ (k0_t3 : Fin (k0_t3_loop v4 v7).trips) (k0_t4 : Fin k0_t4_loop.trips), ∀ a, (k0_off36 v4 v7 k0_t3 k0_t4) a + S1.size a ≤ S34560.size a) ∧
  (∀ (k0_t3 : Fin (k0_t3_loop v4 v7).trips) (k0_t4 : Fin k0_t4_loop.trips), ∀ a, (k0_off39 v4 v7 k0_t3 k0_t4) a + S1.size a ≤ S34560.size a) ∧
  (∀ (k0_t3 : Fin (k0_t3_loop v4 v7).trips) (k0_t4 : Fin k0_t4_loop.trips), ∀ a, (k0_off41 v4 v7 k0_t3 k0_t4) a + S1.size a ≤ S34560.size a) ∧
  (∀ (k0_t3 : Fin (k0_t3_loop v4 v7).trips) (k0_t4 : Fin k0_t4_loop.trips), ∀ a, (k0_off44 v4 v7 k0_t3 k0_t4) a + S1.size a ≤ S34560.size a) ∧
  (∀ (k0_t3 : Fin (k0_t3_loop v4 v7).trips) (k0_t4 : Fin k0_t4_loop.trips), ∀ a, (k0_off46 v4 v7 k0_t3 k0_t4) a + S1.size a ≤ S34560.size a) ∧
  (∀ (k0_t3 : Fin (k0_t3_loop v4 v7).trips) (k0_t4 : Fin k0_t4_loop.trips), ∀ a, (k0_off49 v4 v7 k0_t3 k0_t4) a + S1.size a ≤ S34560.size a) ∧
  (∀ (k0_t3 : Fin (k0_t3_loop v4 v7).trips) (k0_t4 : Fin k0_t4_loop.trips), ∀ a, (k0_off51 v4 v7 k0_t3 k0_t4) a + S1.size a ≤ S34560.size a) ∧
  (∀ (k0_t3 : Fin (k0_t3_loop v4 v7).trips) (k0_t4 : Fin k0_t4_loop.trips), ∀ a, (k0_off54 v4 v7 k0_t3 k0_t4) a + S1.size a ≤ S34560.size a) ∧
  (∀ (k0_t3 : Fin (k0_t3_loop v4 v7).trips) (k0_t4 : Fin k0_t4_loop.trips), ∀ a, (k0_off56 v4 v7 k0_t3 k0_t4) a + S1.size a ≤ S34560.size a) ∧
  (∀ (k0_t3 : Fin (k0_t3_loop v4 v7).trips) (k0_t4 : Fin k0_t4_loop.trips), ∀ a, (k0_off59 v4 v7 k0_t3 k0_t4) a + S1.size a ≤ S34560.size a) ∧
  (∀ (k0_t3 : Fin (k0_t3_loop v4 v7).trips) (k0_t4 : Fin k0_t4_loop.trips), ∀ a, (k0_off61 v4 v7 k0_t3 k0_t4) a + S1.size a ≤ S34560.size a) ∧
  (∀ (k0_t3 : Fin (k0_t3_loop v4 v7).trips) (k0_t4 : Fin k0_t4_loop.trips), ∀ a, (k0_off64 v4 v7 k0_t3 k0_t4) a + S1.size a ≤ S34560.size a) ∧
  (∀ (k0_t3 : Fin (k0_t3_loop v4 v7).trips) (k0_t4 : Fin k0_t4_loop.trips), ∀ a, (k0_off66 v4 v7 k0_t3 k0_t4) a + S1.size a ≤ S34560.size a) ∧
  (∀ (k0_t3 : Fin (k0_t3_loop v4 v7).trips) (k0_t4 : Fin k0_t4_loop.trips), ∀ a, (k0_off69 v4 v7 k0_t3 k0_t4) a + S1.size a ≤ S34560.size a) ∧
  (∀ (k0_t3 : Fin (k0_t3_loop v4 v7).trips) (k0_t4 : Fin k0_t4_loop.trips), ∀ a, (k0_off71 v4 v7 k0_t3 k0_t4) a + S1.size a ≤ S34560.size a) ∧
  (∀ (k0_t3 : Fin (k0_t3_loop v4 v7).trips) (k0_t4 : Fin k0_t4_loop.trips), ∀ a, (k0_off74 v4 v7 k0_t3 k0_t4) a + S1.size a ≤ S34560.size a) ∧
  (∀ (k0_t3 : Fin (k0_t3_loop v4 v7).trips) (k0_t4 : Fin k0_t4_loop.trips), ∀ a, (k0_off76 v4 v7 k0_t3 k0_t4) a + S1.size a ≤ S34560.size a) ∧
  (∀ (k0_t3 : Fin (k0_t3_loop v4 v7).trips) (k0_t4 : Fin k0_t4_loop.trips), ∀ a, (k0_off79 v4 v7 k0_t3 k0_t4) a + S1.size a ≤ S34560.size a) ∧
  (∀ (k0_t3 : Fin (k0_t3_loop v4 v7).trips) (k0_t4 : Fin k0_t4_loop.trips), ∀ a, (k0_off81 v4 v7 k0_t3 k0_t4) a + S1.size a ≤ S34560.size a) ∧
  (∀ (k0_t3 : Fin (k0_t3_loop v4 v7).trips) (k0_t4 : Fin k0_t4_loop.trips), ∀ a, (k0_off84 v4 v7 k0_t3 k0_t4) a + S1.size a ≤ S34560.size a)
def k0_chk1_1 (v4 : BitVec 32) (v7 : BitVec 32) : Prop :=
  (∀ (k0_t3 : Fin (k0_t3_loop v4 v7).trips) (k0_t4 : Fin k0_t4_loop.trips), ∀ a, (k0_off86 v4 v7 k0_t3 k0_t4) a + S1.size a ≤ S34560.size a) ∧
  ((k0_t5_loop v4 v7).OK) ∧
  (∀ (k0_t5 : Fin (k0_t5_loop v4 v7).trips) (k0_t6 : Fin k0_t6_loop.trips), ∀ a, (k0_off89 v4 v7 k0_t5 k0_t6) a + S1.size a ≤ S34560.size a) ∧
  (∀ (k0_t5 : Fin (k0_t5_loop v4 v7).trips) (k0_t6 : Fin k0_t6_loop.trips), ∀ a, (k0_off91 v4 v7 k0_t5 k0_t6) a + S1.size a ≤ S34560.size a) ∧
  (∀ (k0_t5 : Fin (k0_t5_loop v4 v7).trips) (k0_t6 : Fin k0_t6_loop.trips), ∀ a, (k0_off94 v4 v7 k0_t5 k0_t6) a + S1.size a ≤ S34560.size a) ∧
  (∀ (k0_t5 : Fin (k0_t5_loop v4 v7).trips) (k0_t6 : Fin k0_t6_loop.trips), ∀ a, (k0_off96 v4 v7 k0_t5 k0_t6) a + S1.size a ≤ S34560.size a) ∧
  (∀ (k0_t5 : Fin (k0_t5_loop v4 v7).trips) (k0_t6 : Fin k0_t6_loop.trips), ∀ a, (k0_off99 v4 v7 k0_t5 k0_t6) a + S1.size a ≤ S34560.size a) ∧
  (∀ (k0_t5 : Fin (k0_t5_loop v4 v7).trips) (k0_t6 : Fin k0_t6_loop.trips), ∀ a, (k0_off101 v4 v7 k0_t5 k0_t6) a + S1.size a ≤ S34560.size a) ∧
  (∀ (k0_t5 : Fin (k0_t5_loop v4 v7).trips) (k0_t6 : Fin k0_t6_loop.trips), ∀ a, (k0_off104 v4 v7 k0_t5 k0_t6) a + S1.size a ≤ S34560.size a) ∧
  (∀ (k0_t5 : Fin (k0_t5_loop v4 v7).trips) (k0_t6 : Fin k0_t6_loop.trips), ∀ a, (k0_off106 v4 v7 k0_t5 k0_t6) a + S1.size a ≤ S34560.size a) ∧
  (∀ (k0_t5 : Fin (k0_t5_loop v4 v7).trips) (k0_t6 : Fin k0_t6_loop.trips), ∀ a, (k0_off109 v4 v7 k0_t5 k0_t6) a + S1.size a ≤ S34560.size a) ∧
  (∀ (k0_t5 : Fin (k0_t5_loop v4 v7).trips) (k0_t6 : Fin k0_t6_loop.trips), ∀ a, (k0_off111 v4 v7 k0_t5 k0_t6) a + S1.size a ≤ S34560.size a) ∧
  (∀ (k0_t5 : Fin (k0_t5_loop v4 v7).trips) (k0_t6 : Fin k0_t6_loop.trips), ∀ a, (k0_off114 v4 v7 k0_t5 k0_t6) a + S1.size a ≤ S34560.size a) ∧
  (∀ (k0_t5 : Fin (k0_t5_loop v4 v7).trips) (k0_t6 : Fin k0_t6_loop.trips), ∀ a, (k0_off116 v4 v7 k0_t5 k0_t6) a + S1.size a ≤ S34560.size a) ∧
  (∀ (k0_t5 : Fin (k0_t5_loop v4 v7).trips) (k0_t6 : Fin k0_t6_loop.trips), ∀ a, (k0_off119 v4 v7 k0_t5 k0_t6) a + S1.size a ≤ S34560.size a) ∧
  (∀ (k0_t5 : Fin (k0_t5_loop v4 v7).trips) (k0_t6 : Fin k0_t6_loop.trips), ∀ a, (k0_off121 v4 v7 k0_t5 k0_t6) a + S1.size a ≤ S34560.size a) ∧
  (∀ (k0_t5 : Fin (k0_t5_loop v4 v7).trips) (k0_t6 : Fin k0_t6_loop.trips), ∀ a, (k0_off124 v4 v7 k0_t5 k0_t6) a + S1.size a ≤ S34560.size a) ∧
  (∀ (k0_t5 : Fin (k0_t5_loop v4 v7).trips) (k0_t6 : Fin k0_t6_loop.trips), ∀ a, (k0_off126 v4 v7 k0_t5 k0_t6) a + S1.size a ≤ S34560.size a) ∧
  (∀ (k0_t5 : Fin (k0_t5_loop v4 v7).trips) (k0_t6 : Fin k0_t6_loop.trips), ∀ a, (k0_off129 v4 v7 k0_t5 k0_t6) a + S1.size a ≤ S34560.size a) ∧
  (∀ (k0_t5 : Fin (k0_t5_loop v4 v7).trips) (k0_t6 : Fin k0_t6_loop.trips), ∀ a, (k0_off131 v4 v7 k0_t5 k0_t6) a + S1.size a ≤ S34560.size a) ∧
  (∀ (k0_t5 : Fin (k0_t5_loop v4 v7).trips) (k0_t6 : Fin k0_t6_loop.trips), ∀ a, (k0_off134 v4 v7 k0_t5 k0_t6) a + S1.size a ≤ S34560.size a) ∧
  (∀ (k0_t5 : Fin (k0_t5_loop v4 v7).trips) (k0_t6 : Fin k0_t6_loop.trips), ∀ a, (k0_off136 v4 v7 k0_t5 k0_t6) a + S1.size a ≤ S34560.size a) ∧
  (∀ (k0_t5 : Fin (k0_t5_loop v4 v7).trips) (k0_t6 : Fin k0_t6_loop.trips), ∀ a, (k0_off139 v4 v7 k0_t5 k0_t6) a + S1.size a ≤ S34560.size a) ∧
  (∀ (k0_t5 : Fin (k0_t5_loop v4 v7).trips) (k0_t6 : Fin k0_t6_loop.trips), ∀ a, (k0_off141 v4 v7 k0_t5 k0_t6) a + S1.size a ≤ S34560.size a) ∧
  (∀ (k0_t5 : Fin (k0_t5_loop v4 v7).trips) (k0_t6 : Fin k0_t6_loop.trips), ∀ a, (k0_off144 v4 v7 k0_t5 k0_t6) a + S1.size a ≤ S34560.size a) ∧
  (∀ (k0_t5 : Fin (k0_t5_loop v4 v7).trips) (k0_t6 : Fin k0_t6_loop.trips), ∀ a, (k0_off146 v4 v7 k0_t5 k0_t6) a + S1.size a ≤ S34560.size a) ∧
  (∀ (k0_t5 : Fin (k0_t5_loop v4 v7).trips) (k0_t6 : Fin k0_t6_loop.trips), ∀ a, (k0_off149 v4 v7 k0_t5 k0_t6) a + S1.size a ≤ S34560.size a) ∧
  (∀ (k0_t5 : Fin (k0_t5_loop v4 v7).trips) (k0_t6 : Fin k0_t6_loop.trips), ∀ a, (k0_off151 v4 v7 k0_t5 k0_t6) a + S1.size a ≤ S34560.size a) ∧
  (∀ (k0_t5 : Fin (k0_t5_loop v4 v7).trips) (k0_t6 : Fin k0_t6_loop.trips), ∀ a, (k0_off154 v4 v7 k0_t5 k0_t6) a + S1.size a ≤ S34560.size a) ∧
  (∀ (k0_t5 : Fin (k0_t5_loop v4 v7).trips) (k0_t6 : Fin k0_t6_loop.trips), ∀ a, (k0_off156 v4 v7 k0_t5 k0_t6) a + S1.size a ≤ S34560.size a) ∧
  (∀ (k0_t5 : Fin (k0_t5_loop v4 v7).trips) (k0_t6 : Fin k0_t6_loop.trips), ∀ a, (k0_off159 v4 v7 k0_t5 k0_t6) a + S1.size a ≤ S34560.size a) ∧
  (∀ (k0_t5 : Fin (k0_t5_loop v4 v7).trips) (k0_t6 : Fin k0_t6_loop.trips), ∀ a, (k0_off161 v4 v7 k0_t5 k0_t6) a + S1.size a ≤ S34560.size a)
def k0_chk1_2 (v4 : BitVec 32) (v7 : BitVec 32) : Prop :=
  (∀ (k0_t5 : Fin (k0_t5_loop v4 v7).trips) (k0_t6 : Fin k0_t6_loop.trips), ∀ a, (k0_off164 v4 v7 k0_t5 k0_t6) a + S1.size a ≤ S34560.size a) ∧
  (∀ (k0_t5 : Fin (k0_t5_loop v4 v7).trips) (k0_t6 : Fin k0_t6_loop.trips), ∀ a, (k0_off166 v4 v7 k0_t5 k0_t6) a + S1.size a ≤ S34560.size a)
def k0_chk1 (v4 : BitVec 32) (v7 : BitVec 32) : Prop :=
  k0_chk1_0 v4 v7 ∧
  k0_chk1_1 v4 v7 ∧
  k0_chk1_2 v4 v7
theorem k0_t3_ok : ∀ (v4 : BitVec 32) (v7 : BitVec 32) (k0_hw1 : k0_chk1 v4 v7), (k0_t3_loop v4 v7).OK := fun v4 v7 k0_hw1 => k0_hw1.1.1
theorem k0_off9_inb : ∀ (v4 : BitVec 32) (v7 : BitVec 32) (k0_hw1 : k0_chk1 v4 v7) (k0_t3 : Fin (k0_t3_loop v4 v7).trips) (k0_t4 : Fin k0_t4_loop.trips), ∀ a, (k0_off9 v4 v7 k0_t3 k0_t4) a + S1.size a ≤ S34560.size a := fun v4 v7 k0_hw1 k0_t3 k0_t4 => k0_hw1.1.2.1 k0_t3 k0_t4
theorem k0_off11_inb : ∀ (v4 : BitVec 32) (v7 : BitVec 32) (k0_hw1 : k0_chk1 v4 v7) (k0_t3 : Fin (k0_t3_loop v4 v7).trips) (k0_t4 : Fin k0_t4_loop.trips), ∀ a, (k0_off11 v4 v7 k0_t3 k0_t4) a + S1.size a ≤ S34560.size a := fun v4 v7 k0_hw1 k0_t3 k0_t4 => k0_hw1.1.2.2.1 k0_t3 k0_t4
theorem k0_off14_inb : ∀ (v4 : BitVec 32) (v7 : BitVec 32) (k0_hw1 : k0_chk1 v4 v7) (k0_t3 : Fin (k0_t3_loop v4 v7).trips) (k0_t4 : Fin k0_t4_loop.trips), ∀ a, (k0_off14 v4 v7 k0_t3 k0_t4) a + S1.size a ≤ S34560.size a := fun v4 v7 k0_hw1 k0_t3 k0_t4 => k0_hw1.1.2.2.2.1 k0_t3 k0_t4
theorem k0_off16_inb : ∀ (v4 : BitVec 32) (v7 : BitVec 32) (k0_hw1 : k0_chk1 v4 v7) (k0_t3 : Fin (k0_t3_loop v4 v7).trips) (k0_t4 : Fin k0_t4_loop.trips), ∀ a, (k0_off16 v4 v7 k0_t3 k0_t4) a + S1.size a ≤ S34560.size a := fun v4 v7 k0_hw1 k0_t3 k0_t4 => k0_hw1.1.2.2.2.2.1 k0_t3 k0_t4
theorem k0_off19_inb : ∀ (v4 : BitVec 32) (v7 : BitVec 32) (k0_hw1 : k0_chk1 v4 v7) (k0_t3 : Fin (k0_t3_loop v4 v7).trips) (k0_t4 : Fin k0_t4_loop.trips), ∀ a, (k0_off19 v4 v7 k0_t3 k0_t4) a + S1.size a ≤ S34560.size a := fun v4 v7 k0_hw1 k0_t3 k0_t4 => k0_hw1.1.2.2.2.2.2.1 k0_t3 k0_t4
theorem k0_off21_inb : ∀ (v4 : BitVec 32) (v7 : BitVec 32) (k0_hw1 : k0_chk1 v4 v7) (k0_t3 : Fin (k0_t3_loop v4 v7).trips) (k0_t4 : Fin k0_t4_loop.trips), ∀ a, (k0_off21 v4 v7 k0_t3 k0_t4) a + S1.size a ≤ S34560.size a := fun v4 v7 k0_hw1 k0_t3 k0_t4 => k0_hw1.1.2.2.2.2.2.2.1 k0_t3 k0_t4
theorem k0_off24_inb : ∀ (v4 : BitVec 32) (v7 : BitVec 32) (k0_hw1 : k0_chk1 v4 v7) (k0_t3 : Fin (k0_t3_loop v4 v7).trips) (k0_t4 : Fin k0_t4_loop.trips), ∀ a, (k0_off24 v4 v7 k0_t3 k0_t4) a + S1.size a ≤ S34560.size a := fun v4 v7 k0_hw1 k0_t3 k0_t4 => k0_hw1.1.2.2.2.2.2.2.2.1 k0_t3 k0_t4
theorem k0_off26_inb : ∀ (v4 : BitVec 32) (v7 : BitVec 32) (k0_hw1 : k0_chk1 v4 v7) (k0_t3 : Fin (k0_t3_loop v4 v7).trips) (k0_t4 : Fin k0_t4_loop.trips), ∀ a, (k0_off26 v4 v7 k0_t3 k0_t4) a + S1.size a ≤ S34560.size a := fun v4 v7 k0_hw1 k0_t3 k0_t4 => k0_hw1.1.2.2.2.2.2.2.2.2.1 k0_t3 k0_t4
theorem k0_off29_inb : ∀ (v4 : BitVec 32) (v7 : BitVec 32) (k0_hw1 : k0_chk1 v4 v7) (k0_t3 : Fin (k0_t3_loop v4 v7).trips) (k0_t4 : Fin k0_t4_loop.trips), ∀ a, (k0_off29 v4 v7 k0_t3 k0_t4) a + S1.size a ≤ S34560.size a := fun v4 v7 k0_hw1 k0_t3 k0_t4 => k0_hw1.1.2.2.2.2.2.2.2.2.2.1 k0_t3 k0_t4
theorem k0_off31_inb : ∀ (v4 : BitVec 32) (v7 : BitVec 32) (k0_hw1 : k0_chk1 v4 v7) (k0_t3 : Fin (k0_t3_loop v4 v7).trips) (k0_t4 : Fin k0_t4_loop.trips), ∀ a, (k0_off31 v4 v7 k0_t3 k0_t4) a + S1.size a ≤ S34560.size a := fun v4 v7 k0_hw1 k0_t3 k0_t4 => k0_hw1.1.2.2.2.2.2.2.2.2.2.2.1 k0_t3 k0_t4
theorem k0_off34_inb : ∀ (v4 : BitVec 32) (v7 : BitVec 32) (k0_hw1 : k0_chk1 v4 v7) (k0_t3 : Fin (k0_t3_loop v4 v7).trips) (k0_t4 : Fin k0_t4_loop.trips), ∀ a, (k0_off34 v4 v7 k0_t3 k0_t4) a + S1.size a ≤ S34560.size a := fun v4 v7 k0_hw1 k0_t3 k0_t4 => k0_hw1.1.2.2.2.2.2.2.2.2.2.2.2.1 k0_t3 k0_t4
theorem k0_off36_inb : ∀ (v4 : BitVec 32) (v7 : BitVec 32) (k0_hw1 : k0_chk1 v4 v7) (k0_t3 : Fin (k0_t3_loop v4 v7).trips) (k0_t4 : Fin k0_t4_loop.trips), ∀ a, (k0_off36 v4 v7 k0_t3 k0_t4) a + S1.size a ≤ S34560.size a := fun v4 v7 k0_hw1 k0_t3 k0_t4 => k0_hw1.1.2.2.2.2.2.2.2.2.2.2.2.2.1 k0_t3 k0_t4
theorem k0_off39_inb : ∀ (v4 : BitVec 32) (v7 : BitVec 32) (k0_hw1 : k0_chk1 v4 v7) (k0_t3 : Fin (k0_t3_loop v4 v7).trips) (k0_t4 : Fin k0_t4_loop.trips), ∀ a, (k0_off39 v4 v7 k0_t3 k0_t4) a + S1.size a ≤ S34560.size a := fun v4 v7 k0_hw1 k0_t3 k0_t4 => k0_hw1.1.2.2.2.2.2.2.2.2.2.2.2.2.2.1 k0_t3 k0_t4
theorem k0_off41_inb : ∀ (v4 : BitVec 32) (v7 : BitVec 32) (k0_hw1 : k0_chk1 v4 v7) (k0_t3 : Fin (k0_t3_loop v4 v7).trips) (k0_t4 : Fin k0_t4_loop.trips), ∀ a, (k0_off41 v4 v7 k0_t3 k0_t4) a + S1.size a ≤ S34560.size a := fun v4 v7 k0_hw1 k0_t3 k0_t4 => k0_hw1.1.2.2.2.2.2.2.2.2.2.2.2.2.2.2.1 k0_t3 k0_t4
theorem k0_off44_inb : ∀ (v4 : BitVec 32) (v7 : BitVec 32) (k0_hw1 : k0_chk1 v4 v7) (k0_t3 : Fin (k0_t3_loop v4 v7).trips) (k0_t4 : Fin k0_t4_loop.trips), ∀ a, (k0_off44 v4 v7 k0_t3 k0_t4) a + S1.size a ≤ S34560.size a := fun v4 v7 k0_hw1 k0_t3 k0_t4 => k0_hw1.1.2.2.2.2.2.2.2.2.2.2.2.2.2.2.2.1 k0_t3 k0_t4
theorem k0_off46_inb : ∀ (v4 : BitVec 32) (v7 : BitVec 32) (k0_hw1 : k0_chk1 v4 v7) (k0_t3 : Fin (k0_t3_loop v4 v7).trips) (k0_t4 : Fin k0_t4_loop.trips), ∀ a, (k0_off46 v4 v7 k0_t3 k0_t4) a + S1.size a ≤ S34560.size a := fun v4 v7 k0_hw1 k0_t3 k0_t4 => k0_hw1.1.2.2.2.2.2.2.2.2.2.2.2.2.2.2.2.2.1 k0_t3 k0_t4
theorem k0_off49_inb : ∀ (v4 : BitVec 32) (v7 : BitVec 32) (k0_hw1 : k0_chk1 v4 v7) (k0_t3 : Fin (k0_t3_loop v4 v7).trips) (k0_t4 : Fin k0_t4_loop.trips), ∀ a, (k0_off49 v4 v7 k0_t3 k0_t4) a + S1.size a ≤ S34560.size a := fun v4 v7 k0_hw1 k0_t3 k0_t4 => k0_hw1.1.2.2.2.2.2.2.2.2.2.2.2.2.2.2.2.2.2.1 k0_t3 k0_t4
theorem k0_off51_inb : ∀ (v4 : BitVec 32) (v7 : BitVec 32) (k0_hw1 : k0_chk1 v4 v7) (k0_t3 : Fin (k0_t3_loop v4 v7).trips) (k0_t4 : Fin k0_t4_loop.trips), ∀ a, (k0_off51 v4 v7 k0_t3 k0_t4) a + S1.size a ≤ S34560.size a := fun v4 v7 k0_hw1 k0_t3 k0_t4 => k0_hw1.1.2.2.2.2.2.2.2.2.2.2.2.2.2.2.2.2.2.2.1 k0_t3 k0_t4
theorem k0_off54_inb : ∀ (v4 : BitVec 32) (v7 : BitVec 32) (k0_hw1 : k0_chk1 v4 v7) (k0_t3 : Fin (k0_t3_loop v4 v7).trips) (k0_t4 : Fin k0_t4_loop.trips), ∀ a, (k0_off54 v4 v7 k0_t3 k0_t4) a + S1.size a ≤ S34560.size a := fun v4 v7 k0_hw1 k0_t3 k0_t4 => k0_hw1.1.2.2.2.2.2.2.2.2.2.2.2.2.2.2.2.2.2.2.2.1 k0_t3 k0_t4
theorem k0_off56_inb : ∀ (v4 : BitVec 32) (v7 : BitVec 32) (k0_hw1 : k0_chk1 v4 v7) (k0_t3 : Fin (k0_t3_loop v4 v7).trips) (k0_t4 : Fin k0_t4_loop.trips), ∀ a, (k0_off56 v4 v7 k0_t3 k0_t4) a + S1.size a ≤ S34560.size a := fun v4 v7 k0_hw1 k0_t3 k0_t4 => k0_hw1.1.2.2.2.2.2.2.2.2.2.2.2.2.2.2.2.2.2.2.2.2.1 k0_t3 k0_t4
theorem k0_off59_inb : ∀ (v4 : BitVec 32) (v7 : BitVec 32) (k0_hw1 : k0_chk1 v4 v7) (k0_t3 : Fin (k0_t3_loop v4 v7).trips) (k0_t4 : Fin k0_t4_loop.trips), ∀ a, (k0_off59 v4 v7 k0_t3 k0_t4) a + S1.size a ≤ S34560.size a := fun v4 v7 k0_hw1 k0_t3 k0_t4 => k0_hw1.1.2.2.2.2.2.2.2.2.2.2.2.2.2.2.2.2.2.2.2.2.2.1 k0_t3 k0_t4
theorem k0_off61_inb : ∀ (v4 : BitVec 32) (v7 : BitVec 32) (k0_hw1 : k0_chk1 v4 v7) (k0_t3 : Fin (k0_t3_loop v4 v7).trips) (k0_t4 : Fin k0_t4_loop.trips), ∀ a, (k0_off61 v4 v7 k0_t3 k0_t4) a + S1.size a ≤ S34560.size a := fun v4 v7 k0_hw1 k0_t3 k0_t4 => k0_hw1.1.2.2.2.2.2.2.2.2.2.2.2.2.2.2.2.2.2.2.2.2.2.2.1 k0_t3 k0_t4
theorem k0_off64_inb : ∀ (v4 : BitVec 32) (v7 : BitVec 32) (k0_hw1 : k0_chk1 v4 v7) (k0_t3 : Fin (k0_t3_loop v4 v7).trips) (k0_t4 : Fin k0_t4_loop.trips), ∀ a, (k0_off64 v4 v7 k0_t3 k0_t4) a + S1.size a ≤ S34560.size a := fun v4 v7 k0_hw1 k0_t3 k0_t4 => k0_hw1.1.2.2.2.2.2.2.2.2.2.2.2.2.2.2.2.2.2.2.2.2.2.2.2.1 k0_t3 k0_t4
theorem k0_off66_inb : ∀ (v4 : BitVec 32) (v7 : BitVec 32) (k0_hw1 : k0_chk1 v4 v7) (k0_t3 : Fin (k0_t3_loop v4 v7).trips) (k0_t4 : Fin k0_t4_loop.trips), ∀ a, (k0_off66 v4 v7 k0_t3 k0_t4) a + S1.size a ≤ S34560.size a := fun v4 v7 k0_hw1 k0_t3 k0_t4 => k0_hw1.1.2.2.2.2.2.2.2.2.2.2.2.2.2.2.2.2.2.2.2.2.2.2.2.2.1 k0_t3 k0_t4
theorem k0_off69_inb : ∀ (v4 : BitVec 32) (v7 : BitVec 32) (k0_hw1 : k0_chk1 v4 v7) (k0_t3 : Fin (k0_t3_loop v4 v7).trips) (k0_t4 : Fin k0_t4_loop.trips), ∀ a, (k0_off69 v4 v7 k0_t3 k0_t4) a + S1.size a ≤ S34560.size a := fun v4 v7 k0_hw1 k0_t3 k0_t4 => k0_hw1.1.2.2.2.2.2.2.2.2.2.2.2.2.2.2.2.2.2.2.2.2.2.2.2.2.2.1 k0_t3 k0_t4
theorem k0_off71_inb : ∀ (v4 : BitVec 32) (v7 : BitVec 32) (k0_hw1 : k0_chk1 v4 v7) (k0_t3 : Fin (k0_t3_loop v4 v7).trips) (k0_t4 : Fin k0_t4_loop.trips), ∀ a, (k0_off71 v4 v7 k0_t3 k0_t4) a + S1.size a ≤ S34560.size a := fun v4 v7 k0_hw1 k0_t3 k0_t4 => k0_hw1.1.2.2.2.2.2.2.2.2.2.2.2.2.2.2.2.2.2.2.2.2.2.2.2.2.2.2.1 k0_t3 k0_t4
theorem k0_off74_inb : ∀ (v4 : BitVec 32) (v7 : BitVec 32) (k0_hw1 : k0_chk1 v4 v7) (k0_t3 : Fin (k0_t3_loop v4 v7).trips) (k0_t4 : Fin k0_t4_loop.trips), ∀ a, (k0_off74 v4 v7 k0_t3 k0_t4) a + S1.size a ≤ S34560.size a := fun v4 v7 k0_hw1 k0_t3 k0_t4 => k0_hw1.1.2.2.2.2.2.2.2.2.2.2.2.2.2.2.2.2.2.2.2.2.2.2.2.2.2.2.2.1 k0_t3 k0_t4
theorem k0_off76_inb : ∀ (v4 : BitVec 32) (v7 : BitVec 32) (k0_hw1 : k0_chk1 v4 v7) (k0_t3 : Fin (k0_t3_loop v4 v7).trips) (k0_t4 : Fin k0_t4_loop.trips), ∀ a, (k0_off76 v4 v7 k0_t3 k0_t4) a + S1.size a ≤ S34560.size a := fun v4 v7 k0_hw1 k0_t3 k0_t4 => k0_hw1.1.2.2.2.2.2.2.2.2.2.2.2.2.2.2.2.2.2.2.2.2.2.2.2.2.2.2.2.2.1 k0_t3 k0_t4
theorem k0_off79_inb : ∀ (v4 : BitVec 32) (v7 : BitVec 32) (k0_hw1 : k0_chk1 v4 v7) (k0_t3 : Fin (k0_t3_loop v4 v7).trips) (k0_t4 : Fin k0_t4_loop.trips), ∀ a, (k0_off79 v4 v7 k0_t3 k0_t4) a + S1.size a ≤ S34560.size a := fun v4 v7 k0_hw1 k0_t3 k0_t4 => k0_hw1.1.2.2.2.2.2.2.2.2.2.2.2.2.2.2.2.2.2.2.2.2.2.2.2.2.2.2.2.2.2.1 k0_t3 k0_t4
theorem k0_off81_inb : ∀ (v4 : BitVec 32) (v7 : BitVec 32) (k0_hw1 : k0_chk1 v4 v7) (k0_t3 : Fin (k0_t3_loop v4 v7).trips) (k0_t4 : Fin k0_t4_loop.trips), ∀ a, (k0_off81 v4 v7 k0_t3 k0_t4) a + S1.size a ≤ S34560.size a := fun v4 v7 k0_hw1 k0_t3 k0_t4 => k0_hw1.1.2.2.2.2.2.2.2.2.2.2.2.2.2.2.2.2.2.2.2.2.2.2.2.2.2.2.2.2.2.2.1 k0_t3 k0_t4
theorem k0_off84_inb : ∀ (v4 : BitVec 32) (v7 : BitVec 32) (k0_hw1 : k0_chk1 v4 v7) (k0_t3 : Fin (k0_t3_loop v4 v7).trips) (k0_t4 : Fin k0_t4_loop.trips), ∀ a, (k0_off84 v4 v7 k0_t3 k0_t4) a + S1.size a ≤ S34560.size a := fun v4 v7 k0_hw1 k0_t3 k0_t4 => k0_hw1.1.2.2.2.2.2.2.2.2.2.2.2.2.2.2.2.2.2.2.2.2.2.2.2.2.2.2.2.2.2.2.2 k0_t3 k0_t4
theorem k0_off86_inb : ∀ (v4 : BitVec 32) (v7 : BitVec 32) (k0_hw1 : k0_chk1 v4 v7) (k0_t3 : Fin (k0_t3_loop v4 v7).trips) (k0_t4 : Fin k0_t4_loop.trips), ∀ a, (k0_off86 v4 v7 k0_t3 k0_t4) a + S1.size a ≤ S34560.size a := fun v4 v7 k0_hw1 k0_t3 k0_t4 => k0_hw1.2.1.1 k0_t3 k0_t4
theorem k0_t5_ok : ∀ (v4 : BitVec 32) (v7 : BitVec 32) (k0_hw1 : k0_chk1 v4 v7), (k0_t5_loop v4 v7).OK := fun v4 v7 k0_hw1 => k0_hw1.2.1.2.1
theorem k0_off89_inb : ∀ (v4 : BitVec 32) (v7 : BitVec 32) (k0_hw1 : k0_chk1 v4 v7) (k0_t5 : Fin (k0_t5_loop v4 v7).trips) (k0_t6 : Fin k0_t6_loop.trips), ∀ a, (k0_off89 v4 v7 k0_t5 k0_t6) a + S1.size a ≤ S34560.size a := fun v4 v7 k0_hw1 k0_t5 k0_t6 => k0_hw1.2.1.2.2.1 k0_t5 k0_t6
theorem k0_off91_inb : ∀ (v4 : BitVec 32) (v7 : BitVec 32) (k0_hw1 : k0_chk1 v4 v7) (k0_t5 : Fin (k0_t5_loop v4 v7).trips) (k0_t6 : Fin k0_t6_loop.trips), ∀ a, (k0_off91 v4 v7 k0_t5 k0_t6) a + S1.size a ≤ S34560.size a := fun v4 v7 k0_hw1 k0_t5 k0_t6 => k0_hw1.2.1.2.2.2.1 k0_t5 k0_t6
theorem k0_off94_inb : ∀ (v4 : BitVec 32) (v7 : BitVec 32) (k0_hw1 : k0_chk1 v4 v7) (k0_t5 : Fin (k0_t5_loop v4 v7).trips) (k0_t6 : Fin k0_t6_loop.trips), ∀ a, (k0_off94 v4 v7 k0_t5 k0_t6) a + S1.size a ≤ S34560.size a := fun v4 v7 k0_hw1 k0_t5 k0_t6 => k0_hw1.2.1.2.2.2.2.1 k0_t5 k0_t6
theorem k0_off96_inb : ∀ (v4 : BitVec 32) (v7 : BitVec 32) (k0_hw1 : k0_chk1 v4 v7) (k0_t5 : Fin (k0_t5_loop v4 v7).trips) (k0_t6 : Fin k0_t6_loop.trips), ∀ a, (k0_off96 v4 v7 k0_t5 k0_t6) a + S1.size a ≤ S34560.size a := fun v4 v7 k0_hw1 k0_t5 k0_t6 => k0_hw1.2.1.2.2.2.2.2.1 k0_t5 k0_t6
theorem k0_off99_inb : ∀ (v4 : BitVec 32) (v7 : BitVec 32) (k0_hw1 : k0_chk1 v4 v7) (k0_t5 : Fin (k0_t5_loop v4 v7).trips) (k0_t6 : Fin k0_t6_loop.trips), ∀ a, (k0_off99 v4 v7 k0_t5 k0_t6) a + S1.size a ≤ S34560.size a := fun v4 v7 k0_hw1 k0_t5 k0_t6 => k0_hw1.2.1.2.2.2.2.2.2.1 k0_t5 k0_t6
theorem k0_off101_inb : ∀ (v4 : BitVec 32) (v7 : BitVec 32) (k0_hw1 : k0_chk1 v4 v7) (k0_t5 : Fin (k0_t5_loop v4 v7).trips) (k0_t6 : Fin k0_t6_loop.trips), ∀ a, (k0_off101 v4 v7 k0_t5 k0_t6) a + S1.size a ≤ S34560.size a := fun v4 v7 k0_hw1 k0_t5 k0_t6 => k0_hw1.2.1.2.2.2.2.2.2.2.1 k0_t5 k0_t6
theorem k0_off104_inb : ∀ (v4 : BitVec 32) (v7 : BitVec 32) (k0_hw1 : k0_chk1 v4 v7) (k0_t5 : Fin (k0_t5_loop v4 v7).trips) (k0_t6 : Fin k0_t6_loop.trips), ∀ a, (k0_off104 v4 v7 k0_t5 k0_t6) a + S1.size a ≤ S34560.size a := fun v4 v7 k0_hw1 k0_t5 k0_t6 => k0_hw1.2.1.2.2.2.2.2.2.2.2.1 k0_t5 k0_t6
theorem k0_off106_inb : ∀ (v4 : BitVec 32) (v7 : BitVec 32) (k0_hw1 : k0_chk1 v4 v7) (k0_t5 : Fin (k0_t5_loop v4 v7).trips) (k0_t6 : Fin k0_t6_loop.trips), ∀ a, (k0_off106 v4 v7 k0_t5 k0_t6) a + S1.size a ≤ S34560.size a := fun v4 v7 k0_hw1 k0_t5 k0_t6 => k0_hw1.2.1.2.2.2.2.2.2.2.2.2.1 k0_t5 k0_t6
theorem k0_off109_inb : ∀ (v4 : BitVec 32) (v7 : BitVec 32) (k0_hw1 : k0_chk1 v4 v7) (k0_t5 : Fin (k0_t5_loop v4 v7).trips) (k0_t6 : Fin k0_t6_loop.trips), ∀ a, (k0_off109 v4 v7 k0_t5 k0_t6) a + S1.size a ≤ S34560.size a := fun v4 v7 k0_hw1 k0_t5 k0_t6 => k0_hw1.2.1.2.2.2.2.2.2.2.2.2.2.1 k0_t5 k0_t6
theorem k0_off111_inb : ∀ (v4 : BitVec 32) (v7 : BitVec 32) (k0_hw1 : k0_chk1 v4 v7) (k0_t5 : Fin (k0_t5_loop v4 v7).trips) (k0_t6 : Fin k0_t6_loop.trips), ∀ a, (k0_off111 v4 v7 k0_t5 k0_t6) a + S1.size a ≤ S34560.size a := fun v4 v7 k0_hw1 k0_t5 k0_t6 => k0_hw1.2.1.2.2.2.2.2.2.2.2.2.2.2.1 k0_t5 k0_t6
theorem k0_off114_inb : ∀ (v4 : BitVec 32) (v7 : BitVec 32) (k0_hw1 : k0_chk1 v4 v7) (k0_t5 : Fin (k0_t5_loop v4 v7).trips) (k0_t6 : Fin k0_t6_loop.trips), ∀ a, (k0_off114 v4 v7 k0_t5 k0_t6) a + S1.size a ≤ S34560.size a := fun v4 v7 k0_hw1 k0_t5 k0_t6 => k0_hw1.2.1.2.2.2.2.2.2.2.2.2.2.2.2.1 k0_t5 k0_t6
theorem k0_off116_inb : ∀ (v4 : BitVec 32) (v7 : BitVec 32) (k0_hw1 : k0_chk1 v4 v7) (k0_t5 : Fin (k0_t5_loop v4 v7).trips) (k0_t6 : Fin k0_t6_loop.trips), ∀ a, (k0_off116 v4 v7 k0_t5 k0_t6) a + S1.size a ≤ S34560.size a := fun v4 v7 k0_hw1 k0_t5 k0_t6 => k0_hw1.2.1.2.2.2.2.2.2.2.2.2.2.2.2.2.1 k0_t5 k0_t6
theorem k0_off119_inb : ∀ (v4 : BitVec 32) (v7 : BitVec 32) (k0_hw1 : k0_chk1 v4 v7) (k0_t5 : Fin (k0_t5_loop v4 v7).trips) (k0_t6 : Fin k0_t6_loop.trips), ∀ a, (k0_off119 v4 v7 k0_t5 k0_t6) a + S1.size a ≤ S34560.size a := fun v4 v7 k0_hw1 k0_t5 k0_t6 => k0_hw1.2.1.2.2.2.2.2.2.2.2.2.2.2.2.2.2.1 k0_t5 k0_t6
theorem k0_off121_inb : ∀ (v4 : BitVec 32) (v7 : BitVec 32) (k0_hw1 : k0_chk1 v4 v7) (k0_t5 : Fin (k0_t5_loop v4 v7).trips) (k0_t6 : Fin k0_t6_loop.trips), ∀ a, (k0_off121 v4 v7 k0_t5 k0_t6) a + S1.size a ≤ S34560.size a := fun v4 v7 k0_hw1 k0_t5 k0_t6 => k0_hw1.2.1.2.2.2.2.2.2.2.2.2.2.2.2.2.2.2.1 k0_t5 k0_t6
theorem k0_off124_inb : ∀ (v4 : BitVec 32) (v7 : BitVec 32) (k0_hw1 : k0_chk1 v4 v7) (k0_t5 : Fin (k0_t5_loop v4 v7).trips) (k0_t6 : Fin k0_t6_loop.trips), ∀ a, (k0_off124 v4 v7 k0_t5 k0_t6) a + S1.size a ≤ S34560.size a := fun v4 v7 k0_hw1 k0_t5 k0_t6 => k0_hw1.2.1.2.2.2.2.2.2.2.2.2.2.2.2.2.2.2.2.1 k0_t5 k0_t6
theorem k0_off126_inb : ∀ (v4 : BitVec 32) (v7 : BitVec 32) (k0_hw1 : k0_chk1 v4 v7) (k0_t5 : Fin (k0_t5_loop v4 v7).trips) (k0_t6 : Fin k0_t6_loop.trips), ∀ a, (k0_off126 v4 v7 k0_t5 k0_t6) a + S1.size a ≤ S34560.size a := fun v4 v7 k0_hw1 k0_t5 k0_t6 => k0_hw1.2.1.2.2.2.2.2.2.2.2.2.2.2.2.2.2.2.2.2.1 k0_t5 k0_t6
theorem k0_off129_inb : ∀ (v4 : BitVec 32) (v7 : BitVec 32) (k0_hw1 : k0_chk1 v4 v7) (k0_t5 : Fin (k0_t5_loop v4 v7).trips) (k0_t6 : Fin k0_t6_loop.trips), ∀ a, (k0_off129 v4 v7 k0_t5 k0_t6) a + S1.size a ≤ S34560.size a := fun v4 v7 k0_hw1 k0_t5 k0_t6 => k0_hw1.2.1.2.2.2.2.2.2.2.2.2.2.2.2.2.2.2.2.2.2.1 k0_t5 k0_t6
theorem k0_off131_inb : ∀ (v4 : BitVec 32) (v7 : BitVec 32) (k0_hw1 : k0_chk1 v4 v7) (k0_t5 : Fin (k0_t5_loop v4 v7).trips) (k0_t6 : Fin k0_t6_loop.trips), ∀ a, (k0_off131 v4 v7 k0_t5 k0_t6) a + S1.size a ≤ S34560.size a := fun v4 v7 k0_hw1 k0_t5 k0_t6 => k0_hw1.2.1.2.2.2.2.2.2.2.2.2.2.2.2.2.2.2.2.2.2.2.1 k0_t5 k0_t6
theorem k0_off134_inb : ∀ (v4 : BitVec 32) (v7 : BitVec 32) (k0_hw1 : k0_chk1 v4 v7) (k0_t5 : Fin (k0_t5_loop v4 v7).trips) (k0_t6 : Fin k0_t6_loop.trips), ∀ a, (k0_off134 v4 v7 k0_t5 k0_t6) a + S1.size a ≤ S34560.size a := fun v4 v7 k0_hw1 k0_t5 k0_t6 => k0_hw1.2.1.2.2.2.2.2.2.2.2.2.2.2.2.2.2.2.2.2.2.2.2.1 k0_t5 k0_t6
theorem k0_off136_inb : ∀ (v4 : BitVec 32) (v7 : BitVec 32) (k0_hw1 : k0_chk1 v4 v7) (k0_t5 : Fin (k0_t5_loop v4 v7).trips) (k0_t6 : Fin k0_t6_loop.trips), ∀ a, (k0_off136 v4 v7 k0_t5 k0_t6) a + S1.size a ≤ S34560.size a := fun v4 v7 k0_hw1 k0_t5 k0_t6 => k0_hw1.2.1.2.2.2.2.2.2.2.2.2.2.2.2.2.2.2.2.2.2.2.2.2.1 k0_t5 k0_t6
theorem k0_off139_inb : ∀ (v4 : BitVec 32) (v7 : BitVec 32) (k0_hw1 : k0_chk1 v4 v7) (k0_t5 : Fin (k0_t5_loop v4 v7).trips) (k0_t6 : Fin k0_t6_loop.trips), ∀ a, (k0_off139 v4 v7 k0_t5 k0_t6) a + S1.size a ≤ S34560.size a := fun v4 v7 k0_hw1 k0_t5 k0_t6 => k0_hw1.2.1.2.2.2.2.2.2.2.2.2.2.2.2.2.2.2.2.2.2.2.2.2.2.1 k0_t5 k0_t6
theorem k0_off141_inb : ∀ (v4 : BitVec 32) (v7 : BitVec 32) (k0_hw1 : k0_chk1 v4 v7) (k0_t5 : Fin (k0_t5_loop v4 v7).trips) (k0_t6 : Fin k0_t6_loop.trips), ∀ a, (k0_off141 v4 v7 k0_t5 k0_t6) a + S1.size a ≤ S34560.size a := fun v4 v7 k0_hw1 k0_t5 k0_t6 => k0_hw1.2.1.2.2.2.2.2.2.2.2.2.2.2.2.2.2.2.2.2.2.2.2.2.2.2.1 k0_t5 k0_t6
theorem k0_off144_inb : ∀ (v4 : BitVec 32) (v7 : BitVec 32) (k0_hw1 : k0_chk1 v4 v7) (k0_t5 : Fin (k0_t5_loop v4 v7).trips) (k0_t6 : Fin k0_t6_loop.trips), ∀ a, (k0_off144 v4 v7 k0_t5 k0_t6) a + S1.size a ≤ S34560.size a := fun v4 v7 k0_hw1 k0_t5 k0_t6 => k0_hw1.2.1.2.2.2.2.2.2.2.2.2.2.2.2.2.2.2.2.2.2.2.2.2.2.2.2.1 k0_t5 k0_t6
theorem k0_off146_inb : ∀ (v4 : BitVec 32) (v7 : BitVec 32) (k0_hw1 : k0_chk1 v4 v7) (k0_t5 : Fin (k0_t5_loop v4 v7).trips) (k0_t6 : Fin k0_t6_loop.trips), ∀ a, (k0_off146 v4 v7 k0_t5 k0_t6) a + S1.size a ≤ S34560.size a := fun v4 v7 k0_hw1 k0_t5 k0_t6 => k0_hw1.2.1.2.2.2.2.2.2.2.2.2.2.2.2.2.2.2.2.2.2.2.2.2.2.2.2.2.1 k0_t5 k0_t6
theorem k0_off149_inb : ∀ (v4 : BitVec 32) (v7 : BitVec 32) (k0_hw1 : k0_chk1 v4 v7) (k0_t5 : Fin (k0_t5_loop v4 v7).trips) (k0_t6 : Fin k0_t6_loop.trips), ∀ a, (k0_off149 v4 v7 k0_t5 k0_t6) a + S1.size a ≤ S34560.size a := fun v4 v7 k0_hw1 k0_t5 k0_t6 => k0_hw1.2.1.2.2.2.2.2.2.2.2.2.2.2.2.2.2.2.2.2.2.2.2.2.2.2.2.2.2.1 k0_t5 k0_t6
theorem k0_off151_inb : ∀ (v4 : BitVec 32) (v7 : BitVec 32) (k0_hw1 : k0_chk1 v4 v7) (k0_t5 : Fin (k0_t5_loop v4 v7).trips) (k0_t6 : Fin k0_t6_loop.trips), ∀ a, (k0_off151 v4 v7 k0_t5 k0_t6) a + S1.size a ≤ S34560.size a := fun v4 v7 k0_hw1 k0_t5 k0_t6 => k0_hw1.2.1.2.2.2.2.2.2.2.2.2.2.2.2.2.2.2.2.2.2.2.2.2.2.2.2.2.2.2.1 k0_t5 k0_t6
theorem k0_off154_inb : ∀ (v4 : BitVec 32) (v7 : BitVec 32) (k0_hw1 : k0_chk1 v4 v7) (k0_t5 : Fin (k0_t5_loop v4 v7).trips) (k0_t6 : Fin k0_t6_loop.trips), ∀ a, (k0_off154 v4 v7 k0_t5 k0_t6) a + S1.size a ≤ S34560.size a := fun v4 v7 k0_hw1 k0_t5 k0_t6 => k0_hw1.2.1.2.2.2.2.2.2.2.2.2.2.2.2.2.2.2.2.2.2.2.2.2.2.2.2.2.2.2.2.1 k0_t5 k0_t6
theorem k0_off156_inb : ∀ (v4 : BitVec 32) (v7 : BitVec 32) (k0_hw1 : k0_chk1 v4 v7) (k0_t5 : Fin (k0_t5_loop v4 v7).trips) (k0_t6 : Fin k0_t6_loop.trips), ∀ a, (k0_off156 v4 v7 k0_t5 k0_t6) a + S1.size a ≤ S34560.size a := fun v4 v7 k0_hw1 k0_t5 k0_t6 => k0_hw1.2.1.2.2.2.2.2.2.2.2.2.2.2.2.2.2.2.2.2.2.2.2.2.2.2.2.2.2.2.2.2.1 k0_t5 k0_t6
theorem k0_off159_inb : ∀ (v4 : BitVec 32) (v7 : BitVec 32) (k0_hw1 : k0_chk1 v4 v7) (k0_t5 : Fin (k0_t5_loop v4 v7).trips) (k0_t6 : Fin k0_t6_loop.trips), ∀ a, (k0_off159 v4 v7 k0_t5 k0_t6) a + S1.size a ≤ S34560.size a := fun v4 v7 k0_hw1 k0_t5 k0_t6 => k0_hw1.2.1.2.2.2.2.2.2.2.2.2.2.2.2.2.2.2.2.2.2.2.2.2.2.2.2.2.2.2.2.2.2.1 k0_t5 k0_t6
theorem k0_off161_inb : ∀ (v4 : BitVec 32) (v7 : BitVec 32) (k0_hw1 : k0_chk1 v4 v7) (k0_t5 : Fin (k0_t5_loop v4 v7).trips) (k0_t6 : Fin k0_t6_loop.trips), ∀ a, (k0_off161 v4 v7 k0_t5 k0_t6) a + S1.size a ≤ S34560.size a := fun v4 v7 k0_hw1 k0_t5 k0_t6 => k0_hw1.2.1.2.2.2.2.2.2.2.2.2.2.2.2.2.2.2.2.2.2.2.2.2.2.2.2.2.2.2.2.2.2.2 k0_t5 k0_t6
theorem k0_off164_inb : ∀ (v4 : BitVec 32) (v7 : BitVec 32) (k0_hw1 : k0_chk1 v4 v7) (k0_t5 : Fin (k0_t5_loop v4 v7).trips) (k0_t6 : Fin k0_t6_loop.trips), ∀ a, (k0_off164 v4 v7 k0_t5 k0_t6) a + S1.size a ≤ S34560.size a := fun v4 v7 k0_hw1 k0_t5 k0_t6 => k0_hw1.2.2.1 k0_t5 k0_t6
theorem k0_off166_inb : ∀ (v4 : BitVec 32) (v7 : BitVec 32) (k0_hw1 : k0_chk1 v4 v7) (k0_t5 : Fin (k0_t5_loop v4 v7).trips) (k0_t6 : Fin k0_t6_loop.trips), ∀ a, (k0_off166 v4 v7 k0_t5 k0_t6) a + S1.size a ≤ S34560.size a := fun v4 v7 k0_hw1 k0_t5 k0_t6 => k0_hw1.2.2.2 k0_t5 k0_t6

def k0_off167 (v868 : BitVec 32) : Fin 2 → Nat :=
  let c7_i32_509 : BitVec 32 := 7#32
  let v869 : BitVec 32 := Scalar.muli v868 c7_i32_509
  let v870 : Index := Scalar.indexCast v869
  let c0_510 : Index := 0#32
  ![v870.toNat, 0]

def k0_chk65 (v868 : BitVec 32) : Prop :=
  (∀ a, (k0_off167 v868) a + S8x128.size a ≤ S8968x128.size a)
theorem k0_off167_inb : ∀ (v868 : BitVec 32) (k0_hw65 : k0_chk65 v868), ∀ a, (k0_off167 v868) a + S8x128.size a ≤ S8968x128.size a := fun v868 k0_hw65 => k0_hw65

def k0_off168 (k0_t6 : Fin k0_t6_loop.trips) : Fin 3 → Nat :=
  let c0_i32_9 : BitVec 32 := 0#32
  let c1_i32_10 : BitVec 32 := 1#32
  let arg15 : BitVec 32 := Scf.iv c0_i32_9 c1_i32_10 k0_t6
  let c8_i32_494 : BitVec 32 := 8#32
  let v837 : BitVec 32 := Scalar.muli arg15 c8_i32_494
  let c7_i32_495 : BitVec 32 := 7#32
  let v838 : BitVec 32 := Scalar.addi v837 c7_i32_495
  let c9_i32_511 : BitVec 32 := 9#32
  let v873 : BitVec 32 := Scalar.muli v838 c9_i32_511
  let v874 : Index := Scalar.indexCast v873
  let c0_512 : Index := 0#32
  ![v874.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S28 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S34560 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S34560 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x896 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1280x1024 : Shape := ⟨2, ![1280, 1024]⟩
abbrev S1280 : Shape := ⟨1, ![1280]⟩
abbrev S1280x896 : Shape := ⟨2, ![1280, 896]⟩
abbrev S34560 : Shape := ⟨1, ![34560]⟩
abbrev S28 : Shape := ⟨1, ![28]⟩
abbrev S27 : Shape := ⟨1, ![27]⟩
abbrev S1x1280 : Shape := ⟨2, ![1, 1280]⟩
abbrev S27x1 : Shape := ⟨2, ![27, 1]⟩
abbrev S27x1280 : Shape := ⟨2, ![27, 1280]⟩
abbrev S_ : Shape := ⟨0, ![]⟩
abbrev S27x1280x1 : Shape := ⟨3, ![27, 1280, 1]⟩
abbrev S27x1280x1024 : Shape := ⟨3, ![27, 1280, 1024]⟩
abbrev S27x1280x896 : Shape := ⟨3, ![27, 1280, 896]⟩
abbrev S27x1024x896 : Shape := ⟨3, ![27, 1024, 896]⟩

abbrev nBuf : Space → Nat
  | .hbm => 91
  | .vmem => 4
  | .smem => 0
  | _ => 0

abbrev bufTy : (tb : Table) → Fin (tcTables nBuf tb) → BufTy
  | .hbm, ⟨0, _⟩ => ⟨S1280x1024, .fp8e4m3⟩
  | .hbm, ⟨1, _⟩ => ⟨S1280, .f32⟩
  | .hbm, ⟨2, _⟩ => ⟨S1280x896, .fp8e5m2⟩
  | .hbm, ⟨3, _⟩ => ⟨S1280, .f32⟩
  | .hbm, ⟨4, _⟩ => ⟨S34560, .i32⟩
  | .hbm, ⟨5, _⟩ => ⟨S34560, .i32⟩
  | .hbm, ⟨6, _⟩ => ⟨S28, .i32⟩
  | .hbm, ⟨7, _⟩ => ⟨S1280x1024, .bf16⟩
  | .hbm, ⟨8, _⟩ => ⟨S1280x896, .bf16⟩
  | .hbm, ⟨9, _⟩ => ⟨S1280, .i32⟩
  | .hbm, ⟨10, _⟩ => ⟨S27, .i32⟩
  | .hbm, ⟨11, _⟩ => ⟨S27, .i32⟩
  | .hbm, ⟨12, _⟩ => ⟨S27, .i32⟩
  | .hbm, ⟨13, _⟩ => ⟨S1x1280, .i32⟩
  | .hbm, ⟨14, _⟩ => ⟨S27x1, .i32⟩
  | .hbm, ⟨15, _⟩ => ⟨S27x1280, .i32⟩
  | .hbm, ⟨16, _⟩ => ⟨S27x1280, .i32⟩
  | .hbm, ⟨17, _⟩ => ⟨S27x1280, .i1⟩
  | .hbm, ⟨18, _⟩ => ⟨S27, .i32⟩
  | .hbm, ⟨19, _⟩ => ⟨S27x1, .i32⟩
  | .hbm, ⟨20, _⟩ => ⟨S1x1280, .i32⟩
  | .hbm, ⟨21, _⟩ => ⟨S27x1280, .i32⟩
  | .hbm, ⟨22, _⟩ => ⟨S27x1280, .i32⟩
  | .hbm, ⟨23, _⟩ => ⟨S27x1280, .i32⟩
  | .hbm, ⟨24, _⟩ => ⟨S_, .i32⟩
  | .hbm, ⟨25, _⟩ => ⟨S27x1280, .i32⟩
  | .hbm, ⟨26, _⟩ => ⟨S27x1280, .i32⟩
  | .hbm, ⟨27, _⟩ => ⟨S_, .i32⟩
  | .hbm, ⟨28, _⟩ => ⟨S27x1280, .i32⟩
  | .hbm, ⟨29, _⟩ => ⟨S27x1280, .i1⟩
  | .hbm, ⟨30, _⟩ => ⟨S_, .i32⟩
  | .hbm, ⟨31, _⟩ => ⟨S27x1280, .i32⟩
  | .hbm, ⟨32, _⟩ => ⟨S27x1280, .i32⟩
  | .hbm, ⟨33, _⟩ => ⟨S27x1280, .i32⟩
  | .hbm, ⟨34, _⟩ => ⟨S27x1280x1, .i32⟩
  | .hbm, ⟨35, _⟩ => ⟨S27x1280, .i32⟩
  | .hbm, ⟨36, _⟩ => ⟨S_, .i32⟩
  | .hbm, ⟨37, _⟩ => ⟨S27x1280, .i32⟩
  | .hbm, ⟨38, _⟩ => ⟨S27x1280, .i1⟩
  | .hbm, ⟨39, _⟩ => ⟨S_, .i32⟩
  | .hbm, ⟨40, _⟩ => ⟨S27x1280, .i32⟩
  | .hbm, ⟨41, _⟩ => ⟨S27x1280, .i32⟩
  | .hbm, ⟨42, _⟩ => ⟨S27x1280, .i32⟩
  | .hbm, ⟨43, _⟩ => ⟨S27x1280x1, .i32⟩
  | .hbm, ⟨44, _⟩ => ⟨S27x1280, .i32⟩
  | .hbm, ⟨45, _⟩ => ⟨S_, .i32⟩
  | .hbm, ⟨46, _⟩ => ⟨S27x1280, .i32⟩
  | .hbm, ⟨47, _⟩ => ⟨S27x1280, .i1⟩
  | .hbm, ⟨48, _⟩ => ⟨S_, .i32⟩
  | .hbm, ⟨49, _⟩ => ⟨S27x1280, .i32⟩
  | .hbm, ⟨50, _⟩ => ⟨S27x1280, .i32⟩
  | .hbm, ⟨51, _⟩ => ⟨S27x1280, .i32⟩
  | .hbm, ⟨52, _⟩ => ⟨S27x1280x1, .i32⟩
  | .hbm, ⟨53, _⟩ => ⟨S27x1280x1024, .bf16⟩
  | .hbm, ⟨54, _⟩ => ⟨S_, .i32⟩
  | .hbm, ⟨55, _⟩ => ⟨S27x1280, .i32⟩
  | .hbm, ⟨56, _⟩ => ⟨S27x1280, .i1⟩
  | .hbm, ⟨57, _⟩ => ⟨S_, .i32⟩
  | .hbm, ⟨58, _⟩ => ⟨S27x1280, .i32⟩
  | .hbm, ⟨59, _⟩ => ⟨S27x1280, .i32⟩
  | .hbm, ⟨60, _⟩ => ⟨S27x1280, .i32⟩
  | .hbm, ⟨61, _⟩ => ⟨S27x1280x1, .i32⟩
  | .hbm, ⟨62, _⟩ => ⟨S27x1280x896, .bf16⟩
  | .hbm, ⟨63, _⟩ => ⟨S_, .i32⟩
  | .hbm, ⟨64, _⟩ => ⟨S27x1280, .i32⟩
  | .hbm, ⟨65, _⟩ => ⟨S27x1280, .i1⟩
  | .hbm, ⟨66, _⟩ => ⟨S_, .i32⟩
  | .hbm, ⟨67, _⟩ => ⟨S27x1280, .i32⟩
  | .hbm, ⟨68, _⟩ => ⟨S27x1280, .i32⟩
  | .hbm, ⟨69, _⟩ => ⟨S27x1280, .i32⟩
  | .hbm, ⟨70, _⟩ => ⟨S27x1280x1, .i32⟩
  | .hbm, ⟨71, _⟩ => ⟨S27x1280, .f32⟩
  | .hbm, ⟨72, _⟩ => ⟨S_, .i32⟩
  | .hbm, ⟨73, _⟩ => ⟨S27x1280, .i32⟩
  | .hbm, ⟨74, _⟩ => ⟨S27x1280, .i1⟩
  | .hbm, ⟨75, _⟩ => ⟨S_, .i32⟩
  | .hbm, ⟨76, _⟩ => ⟨S27x1280, .i32⟩
  | .hbm, ⟨77, _⟩ => ⟨S27x1280, .i32⟩
  | .hbm, ⟨78, _⟩ => ⟨S27x1280, .i32⟩
  | .hbm, ⟨79, _⟩ => ⟨S27x1280x1, .i32⟩
  | .hbm, ⟨80, _⟩ => ⟨S27x1280, .f32⟩
  | .hbm, ⟨81, _⟩ => ⟨S27x1280, .f32⟩
  | .hbm, ⟨82, _⟩ => ⟨S_, .f32⟩
  | .hbm, ⟨83, _⟩ => ⟨S_, .f32⟩
  | .hbm, ⟨84, _⟩ => ⟨S27x1280, .f32⟩
  | .hbm, ⟨85, _⟩ => ⟨S27x1280, .f32⟩
  | .hbm, ⟨86, _⟩ => ⟨S27x1280, .bf16⟩
  | .hbm, ⟨87, _⟩ => ⟨S27x1280x1, .bf16⟩
  | .hbm, ⟨88, _⟩ => ⟨S27x1280x1024, .bf16⟩
  | .hbm, ⟨89, _⟩ => ⟨S27x1280x1024, .bf16⟩
  | .hbm, ⟨90, _⟩ => ⟨S27x1024x896, .f32⟩
  | .local _ .vmem, ⟨0, _⟩ => ⟨S1280x1024, .fp8e4m3⟩
  | .local _ .vmem, ⟨1, _⟩ => ⟨S1280x896, .fp8e5m2⟩
  | .local _ .vmem, ⟨2, _⟩ => ⟨S1280x1024, .bf16⟩
  | .local _ .vmem, ⟨3, _⟩ => ⟨S1280x896, .bf16⟩
  | _, _ => ⟨S1280x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_10 : Ref sig .tc := ⟨.hbm, 72, rfl⟩
abbrev main_v53 : Ref sig .tc := ⟨.hbm, 73, rfl⟩
abbrev main_v54 : Ref sig .tc := ⟨.hbm, 74, rfl⟩
abbrev main_c_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst : Ref sig .tc := ⟨.hbm, 82, rfl⟩
abbrev main_call0_v0 : Ref sig .tc := ⟨.hbm, 83, rfl⟩
abbrev main_call0_v1 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1280x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x896 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Common.lean ====
/- Lemmas shared by both programs' proofs: a buffer's contents read at natural-number coordinates, and what a list of
   writes leaves where every piece agrees with one function. -/
module

public import Idealize.ShloMosaic.Harness.Basic
public import Idealize.ShloMosaic.Lib.Tactic
public import Idealize.ShloMosaic.PureOps.Ideal
public import Idealize.ShloMosaic.PureOps.Ideal.Laws
public import Idealize.ShloMosaic.Lib.Pipeline.Value
public import Idealize.ShloMosaic.Lib.Pointwise
public import Mathlib.Tactic.IntervalCases
public import Mathlib.Tactic.FinCases

@[expose] public section

noncomputable section

namespace Cert.Common

open Idealize.ShloMosaic

/-- An array of two axes read at natural numbers, each taken modulo its axis. -/
def rd2 {m n : ℕ} [NeZero m] [NeZero n] {α : Type} (f : (⟨2, ![m, n]⟩ : Shape).Idx → α) (i j : ℕ) : α :=
  f (fun a => match a with | 0 => Fin.ofNat m i | 1 => Fin.ofNat n j)

/-- An array of one axis read at a natural number, modulo the axis. -/
def rd1 {m : ℕ} [NeZero m] {α : Type} (f : (⟨1, ![m]⟩ : Shape).Idx → α) (i : ℕ) : α :=
  f (fun a => match a with | 0 => Fin.ofNat m i)

/-- An array of three axes read at natural numbers, each modulo its axis. -/
def rd3 {l m n : ℕ} [NeZero l] [NeZero m] [NeZero n] {α : Type} (f : (⟨3, ![l, m, n]⟩ : Shape).Idx → α) (h i j : ℕ) : α :=
  f (fun a => match a with | 0 => Fin.ofNat l h | 1 => Fin.ofNat m i | 2 => Fin.ofNat n j)

theorem rd2_of {m n : ℕ} [NeZero m] [NeZero n] {α : Type} (f : (⟨2, ![m, n]⟩ : Shape).Idx → α) (y : (⟨2, ![m, n]⟩ : Shape).Idx)
    {i j : ℕ} (h0 : (y 0).val = i) (h1 : (y 1).val = j) : f y = rd2 f i j := by
  unfold rd2
  congr 1
  subst h0 h1
  funext a
  refine Fin.ext ?_
  match a with
  | 0 => exact (Nat.mod_eq_of_lt (y 0).isLt).symm
  | 1 => exact (Nat.mod_eq_of_lt (y 1).isLt).symm

theorem rd1_of {m : ℕ} [NeZero m] {α : Type} (f : (⟨1, ![m]⟩ : Shape).Idx → α) (y : (⟨1, ![m]⟩ : Shape).Idx)
    {i : ℕ} (h0 : (y 0).val = i) : f y = rd1 f i := by
  unfold rd1
  congr 1
  subst h0
  funext a
  refine Fin.ext ?_
  match a with
  | 0 => exact (Nat.mod_eq_of_lt (y 0).isLt).symm

theorem rd3_of {l m n : ℕ} [NeZero l] [NeZero m] [NeZero n] {α : Type} (f : (⟨3, ![l, m, n]⟩ : Shape).Idx → α)
    (y : (⟨3, ![l, m, n]⟩ : Shape).Idx) {h i j : ℕ} (h0 : (y 0).val = h) (h1 : (y 1).val = i) (h2 : (y 2).val = j) :
    f y = rd3 f h i j := by
  unfold rd3
  congr 1
  subst h0 h1 h2
  funext a
  refine Fin.ext ?_
  match a with
  | 0 => exact (Nat.mod_eq_of_lt (y 0).isLt).symm
  | 1 => exact (Nat.mod_eq_of_lt (y 1).isLt).symm
  | 2 => exact (Nat.mod_eq_of_lt (y 2).isLt).symm

section

variable {sig : RefSig} {κ : Kind} {sp : Space} {s : Shape} {e : EltTy} {Val : EltTy → Type}

/-- Writes whose pieces all agree with `G` leave `G` at every place that a piece covers or that held `G` before. -/
theorem writes_agree (v : View sig κ sp s e) (f : v.ty.Contents Val) (G : s.Idx → Val e) (L : List (View.Piece Val s e))
    (hG : ∀ p ∈ L, ∀ x : p.1.shape.Idx, p.2 x = G (p.1.emb x)) (y : s.Idx)
    (h : (∃ p ∈ L, y ∈ p.1.set) ∨ v.read Val f y = G y) : v.read Val (v.writes Val f L) y = G y := by
  by_cases hc : ∃ p ∈ L, y ∈ p.1.set
  · exact View.read_writes_apply_of_pieces v f G L hG y hc
  · rw [View.read_writes_apply_of_forall_not_mem v f y L fun p hp hy => hc ⟨p, hp, hy⟩]
    exact h.resolve_left hc

/-- A place of a strided rectangle, told coordinate by coordinate. -/
theorem mem_of_coords (r : Rect s) (y : s.Idx) (h : ∀ a, ∃ j < r.size a, (y a).val = r.off a + r.stride a * j) : y ∈ r.set :=
  r.mem_set.mpr h

end

end Cert.Common
-- ==== Proof.Words.lean ====
module

public import proofs.«01_k».proof.Proof.Common

@[expose] public section

namespace Cert.Common

open Idealize.ShloMosaic

/-- The number of tiles of a segment whose words are `a` and `b`. -/
def tiles (a b : ℕ) : ℕ := max ((b - a + 255) / 256) 1

theorem toInt_small (v : BitVec 32) (h : v.toNat < 2147483648) : v.toInt = (v.toNat : Int) := by
  simp only [BitVec.toInt]; omega

/-- The upper bound of the loop over tiles, as a number. -/
theorem ub_nat (v4 v7 : BitVec 32) (h4 : v4.toNat ≤ 34560) (h7 : v7.toNat ≤ v4.toNat + 1280) :
    (Scalar.addi 0#32 (Scalar.muli (Scalar.divsi (Scalar.subi (Scalar.maxsi (Scalar.divsi (Scalar.addi (Scalar.subi v7 v4) 255#32) 256#32) 1#32) 0#32) 1#32) 1#32)).toNat
      = tiles v4.toNat v7.toNat := by
  have hm : (if (1#32 : BitVec 32).slt ((v7 - v4 + 255#32).sdiv 256#32) then ((v7 - v4 + 255#32).sdiv 256#32) else 1#32).toNat
      = tiles v4.toNat v7.toNat := by
    have m2 : (256#32).msb = false := by decide
    by_cases hp : v4.toNat ≤ v7.toNat + 255
    · have hs : (v7 - v4 + 255#32).toNat = v7.toNat + 255 - v4.toNat := by
        simp only [BitVec.toNat_add, BitVec.toNat_sub, BitVec.toNat_ofNat]; omega
      have hd : ((v7 - v4 + 255#32).sdiv 256#32).toNat = (v7.toNat + 255 - v4.toNat) / 256 := by
        rw [BitVec.sdiv_eq]
        have m1 : (v7 - v4 + 255#32).msb = false := by rw [BitVec.msb_eq_false_iff_two_mul_lt, hs]; omega
        rw [m1, m2]
        simp only [BitVec.udiv_eq, BitVec.toNat_udiv, hs, BitVec.toNat_ofNat]
      unfold tiles
      have e : (1#32 : BitVec 32).slt ((v7 - v4 + 255#32).sdiv 256#32) = decide (1 < (v7.toNat + 255 - v4.toNat) / 256) := by
        rw [BitVec.slt, toInt_small (1#32) (by decide), toInt_small ((v7 - v4 + 255#32).sdiv 256#32) (by rw [hd]; omega), hd]
        simp
        omega
      rw [e]
      split
      · rename_i h; rw [hd]; simp at h; omega
      · rename_i h; simp at h ⊢; omega
    · have hs : (v7 - v4 + 255#32).toNat = 4294967296 + v7.toNat + 255 - v4.toNat := by
        simp only [BitVec.toNat_add, BitVec.toNat_sub, BitVec.toNat_ofNat]; omega
      have m1 : (v7 - v4 + 255#32).msb = true := by rw [BitVec.msb_eq_true_iff_two_mul_ge, hs]; omega
      have hd : ((-(v7 - v4 + 255#32)).udiv 256#32).toNat = (v4.toNat - v7.toNat - 255) / 256 := by
        rw [BitVec.udiv_eq, BitVec.toNat_udiv, BitVec.toNat_neg, hs, show (256#32 : BitVec 32).toNat = 256 from rfl,
          show (2 ^ 32 - (4294967296 + v7.toNat + 255 - v4.toNat)) % 2 ^ 32 = v4.toNat - v7.toNat - 255 by omega]
      have hz : ((v7 - v4 + 255#32).sdiv 256#32).toInt ≤ 0 := by
        rw [BitVec.sdiv_eq, m1, m2]
        show (-((-(v7 - v4 + 255#32)).udiv 256#32)).toInt ≤ 0
        simp only [BitVec.toInt, BitVec.toNat_neg, hd]
        split <;> omega
      have e : (1#32 : BitVec 32).slt ((v7 - v4 + 255#32).sdiv 256#32) = false := by
        rw [BitVec.slt, toInt_small (1#32) (by decide)]
        simp
        omega
      rw [e]
      unfold tiles
      simp
      omega
  have n1 : ∀ x y : BitVec 32, y ≠ 0#32 → y ≠ -1#32 → ¬ IntOp.SDivCorner x y := by
    intro x y h1 h2 h
    rcases h with h | h
    · exact h1 h
    · exact h2 h.2
  have hA : Scalar.maxsi (Scalar.divsi (Scalar.addi (Scalar.subi v7 v4) 255#32) 256#32) 1#32
      = (if (1#32 : BitVec 32).slt ((v7 - v4 + 255#32).sdiv 256#32) then ((v7 - v4 + 255#32).sdiv 256#32) else 1#32) := by
    unfold Scalar.maxsi IntOp.maxsi Scalar.divsi IntOp.divsi
    rw [if_neg (n1 _ _ (by decide) (by decide))]
    rfl
  rw [hA]
  generalize (if (1#32 : BitVec 32).slt ((v7 - v4 + 255#32).sdiv 256#32) then ((v7 - v4 + 255#32).sdiv 256#32) else 1#32) = w at hm
  have hB : Scalar.divsi (Scalar.subi w 0#32) 1#32 = w := by
    unfold Scalar.divsi IntOp.divsi
    rw [if_neg (n1 _ _ (by decide) (by decide))]
    show (w - 0#32).sdiv 1#32 = w
    have : w - 0#32 = w := by simp
    rw [this, BitVec.sdiv_one]
  rw [hB]
  show (0#32 + w * 1#32).toNat = _
  simp [hm]

theorem tiles_le (a b : ℕ) (h : b ≤ a + 1280) : tiles a b ≤ 5 := by unfold tiles; omega
theorem tiles_pos (a b : ℕ) : 1 ≤ tiles a b := by unfold tiles; omega

/-- A place of the pair table a gather reads: the word computed is the number, clamped to the table. -/
theorem min_nat (x : BitVec 32) (n : ℕ) (h : x.toNat = n) (hn : n < 40000) : (Scalar.minsi x 34559#32).toNat = min n 34559 := by
  unfold Scalar.minsi IntOp.minsi
  have e : x.slt 34559#32 = decide (n < 34559) := by
    rw [BitVec.slt, toInt_small _ (by omega), h, toInt_small (34559#32) (by decide)]
    simp
  rw [e]
  split
  · rename_i q; simp at q; omega
  · rename_i q; simp at q ⊢; omega

/-- The word a gather reads its first pair at. -/
theorem even_nat (v4 : BitVec 32) (t k j : ℕ) (h4 : v4.toNat ≤ 34560) (ht : t < 5) (hk : k < 16) (hj : j < 8) :
    (Scalar.minsi (Scalar.addi (Scalar.addi v4 (Scalar.muli (Scf.iv 0#32 1#32 t) 256#32)) (Scalar.muli 2#32 (Scalar.addi (Scalar.muli (Scf.iv 0#32 1#32 k) 8#32) (BitVec.ofNat 32 j)))) 34559#32).toNat
      = min (v4.toNat + 256 * t + 2 * (8 * k + j)) 34559 := by
  refine min_nat _ _ ?_ (by omega)
  show (v4 + (0#32 + BitVec.ofNat 32 t * 1#32) * 256#32 + 2#32 * ((0#32 + BitVec.ofNat 32 k * 1#32) * 8#32 + BitVec.ofNat 32 j)).toNat = _
  simp only [BitVec.toNat_add, BitVec.toNat_mul, BitVec.toNat_ofNat]
  omega

/-- The word a gather reads its second pair at. -/
theorem odd_nat (v4 : BitVec 32) (t k j : ℕ) (h4 : v4.toNat ≤ 34560) (ht : t < 5) (hk : k < 16) (hj : j < 8) :
    (Scalar.minsi (Scalar.addi (Scalar.addi (Scalar.addi v4 (Scalar.muli (Scf.iv 0#32 1#32 t) 256#32)) (Scalar.muli 2#32 (Scalar.addi (Scalar.muli (Scf.iv 0#32 1#32 k) 8#32) (BitVec.ofNat 32 j)))) 1#32) 34559#32).toNat
      = min (v4.toNat + 256 * t + 2 * (8 * k + j) + 1) 34559 := by
  refine min_nat _ _ ?_ (by omega)
  show (v4 + (0#32 + BitVec.ofNat 32 t * 1#32) * 256#32 + 2#32 * ((0#32 + BitVec.ofNat 32 k * 1#32) * 8#32 + BitVec.ofNat 32 j) + 1#32).toNat = _
  simp only [BitVec.toNat_add, BitVec.toNat_mul, BitVec.toNat_ofNat]
  omega

theorem times_nat (v : BitVec 32) (n : ℕ) (h : v.toNat < 1280) (hn : n < 16) : (Scalar.muli v (BitVec.ofNat 32 n)).toNat = n * v.toNat := by
  show (v * BitVec.ofNat 32 n).toNat = _
  rw [BitVec.toNat_mul, BitVec.toNat_ofNat, Nat.mod_eq_of_lt (a := n) (by omega), Nat.mul_comm, Nat.mod_eq_of_lt]
  have : n * v.toNat ≤ 16 * 1280 := Nat.mul_le_mul (by omega) (by omega)
  omega

end Cert.Common
-- ==== Proof.IdxKernel.lean ====
module

public import proofs.«01_k».proof.Proof.Gen.Kernel.Loops
public import proofs.«01_k».proof.Proof.Words

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

open Cert.Common

/-- What the precondition says of two neighbouring offsets. -/
structure Seg (v4 v7 : BitVec 32) : Prop where
  le : v4.toNat ≤ 34560
  short : v7.toNat ≤ v4.toNat + 1280

theorem trips3 {v4 v7 : BitVec 32} (h : Seg v4 v7) : (k0_t3_loop v4 v7).trips = tiles v4.toNat v7.toNat := by
  have e := ub_nat v4 v7 h.le h.short
  have b := tiles_le v4.toNat v7.toNat h.short
  unfold Scf.Loop.trips Scf.trips
  show (((Scalar.addi 0#32 (Scalar.muli (Scalar.divsi (Scalar.subi (Scalar.maxsi (Scalar.divsi (Scalar.addi (Scalar.subi v7 v4) 255#32) 256#32) 1#32) 0#32) 1#32) 1#32)).toInt - (0#32 : BitVec 32).toInt + (1#32 : BitVec 32).toInt - 1) / (1#32 : BitVec 32).toInt).toNat = _
  rw [toInt_small _ (by omega), e, toInt_small (0#32) (by decide), toInt_small (1#32) (by decide)]
  simp

theorem ok3 {v4 v7 : BitVec 32} (h : Seg v4 v7) : (k0_t3_loop v4 v7).OK := by
  have b := tiles_le v4.toNat v7.toNat h.short
  have t := trips3 h
  refine ⟨(by decide : 0 < (1#32 : BitVec 32).toInt), ?_⟩
  show (0#32 : BitVec 32).toInt + ((k0_t3_loop v4 v7).trips : Int) * (1#32 : BitVec 32).toInt < 2 ^ 31
  rw [t, toInt_small (0#32) (by decide), toInt_small (1#32) (by decide)]
  simp; omega

theorem trips5 {v4 v7 : BitVec 32} (h : Seg v4 v7) : (k0_t5_loop v4 v7).trips = 0 := by
  have e := ub_nat v4 v7 h.le h.short
  have b := tiles_le v4.toNat v7.toNat h.short
  unfold Scf.Loop.trips Scf.trips
  have hB : Scalar.divsi (Scalar.subi (Scalar.maxsi (Scalar.divsi (Scalar.addi (Scalar.subi v7 v4) 255#32) 256#32) 1#32) 0#32) 1#32 = Scalar.subi (Scalar.maxsi (Scalar.divsi (Scalar.addi (Scalar.subi v7 v4) 255#32) 256#32) 1#32) 0#32 := by
    generalize Scalar.subi (Scalar.maxsi (Scalar.divsi (Scalar.addi (Scalar.subi v7 v4) 255#32) 256#32) 1#32) 0#32 = w
    unfold Scalar.divsi IntOp.divsi
    rw [if_neg (by intro h; rcases h with h | h; exact absurd h (by decide); exact absurd h.2 (by decide))]
    rw [BitVec.sdiv_one]
  have hC : Scalar.addi 0#32 (Scalar.muli (Scalar.divsi (Scalar.subi (Scalar.maxsi (Scalar.divsi (Scalar.addi (Scalar.subi v7 v4) 255#32) 256#32) 1#32) 0#32) 1#32) 1#32) = Scalar.addi 0#32 (Scalar.subi (Scalar.maxsi (Scalar.divsi (Scalar.addi (Scalar.subi v7 v4) 255#32) 256#32) 1#32) 0#32) := by
    rw [hB]
    show 0#32 + (_ * 1#32) = 0#32 + _
    rw [BitVec.mul_one]
  show (((Scalar.addi 0#32 (Scalar.subi (Scalar.maxsi (Scalar.divsi (Scalar.addi (Scalar.subi v7 v4) 255#32) 256#32) 1#32) 0#32)).toInt - (Scalar.addi 0#32 (Scalar.muli (Scalar.divsi (Scalar.subi (Scalar.maxsi (Scalar.divsi (Scalar.addi (Scalar.subi v7 v4) 255#32) 256#32) 1#32) 0#32) 1#32) 1#32)).toInt + (1#32 : BitVec 32).toInt - 1) / (1#32 : BitVec 32).toInt).toNat = 0
  rw [hC, toInt_small (1#32) (by decide)]
  simp

theorem ok5 {v4 v7 : BitVec 32} (h : Seg v4 v7) : (k0_t5_loop v4 v7).OK := by
  have b := tiles_le v4.toNat v7.toNat h.short
  have e := ub_nat v4 v7 h.le h.short
  have t := trips5 h
  refine ⟨(by decide : 0 < (1#32 : BitVec 32).toInt), ?_⟩
  show (Scalar.addi 0#32 (Scalar.muli (Scalar.divsi (Scalar.subi (Scalar.maxsi (Scalar.divsi (Scalar.addi (Scalar.subi v7 v4) 255#32) 256#32) 1#32) 0#32) 1#32) 1#32)).toInt + ((k0_t5_loop v4 v7).trips : Int) * (1#32 : BitVec 32).toInt < 2 ^ 31
  rw [t, toInt_small _ (by omega), e]
  simp; omega

theorem t3_lt {v4 v7 : BitVec 32} (h : Seg v4 v7) (t : Fin (k0_t3_loop v4 v7).trips) : t.val < 5 := by
  have := t.isLt; have e := trips3 h; have b := tiles_le v4.toNat v7.toNat h.short; omega
theorem t4_lt (k : Fin k0_t4_loop.trips) : k.val < 16 := k.isLt

theorem off9_eq {v4 v7 : BitVec 32} (h : Seg v4 v7) (t : Fin (k0_t3_loop v4 v7).trips) (k : Fin k0_t4_loop.trips) :
    k0_off9 v4 v7 t k = ![min (v4.toNat + 256 * t.val + 2 * (8 * k.val + 0)) 34559] :=
  congrArg (fun n : ℕ => (![n] : Fin 1 → ℕ)) (even_nat v4 t.val k.val 0 h.le (t3_lt h t) (t4_lt k) (by decide))
theorem off11_eq {v4 v7 : BitVec 32} (h : Seg v4 v7) (t : Fin (k0_t3_loop v4 v7).trips) (k : Fin k0_t4_loop.trips) :
    k0_off11 v4 v7 t k = ![min (v4.toNat + 256 * t.val + 2 * (8 * k.val + 0) + 1) 34559] :=
  congrArg (fun n : ℕ => (![n] : Fin 1 → ℕ)) (odd_nat v4 t.val k.val 0 h.le (t3_lt h t) (t4_lt k) (by decide))
theorem off14_eq {v4 v7 : BitVec 32} (h : Seg v4 v7) (t : Fin (k0_t3_loop v4 v7).trips) (k : Fin k0_t4_loop.trips) :
    k0_off14 v4 v7 t k = ![min (v4.toNat + 256 * t.val + 2 * (8 * k.val + 0)) 34559] :=
  congrArg (fun n : ℕ => (![n] : Fin 1 → ℕ)) (even_nat v4 t.val k.val 0 h.le (t3_lt h t) (t4_lt k) (by decide))
theorem off16_eq {v4 v7 : BitVec 32} (h : Seg v4 v7) (t : Fin (k0_t3_loop v4 v7).trips) (k : Fin k0_t4_loop.trips) :
    k0_off16 v4 v7 t k = ![min (v4.toNat + 256 * t.val + 2 * (8 * k.val + 0) + 1) 34559] :=
  congrArg (fun n : ℕ => (![n] : Fin 1 → ℕ)) (odd_nat v4 t.val k.val 0 h.le (t3_lt h t) (t4_lt k) (by decide))
theorem off10_eq (v : BitVec 32) (h : v.toNat < 1280) : k0_off10 v = ![9 * v.toNat, 0] :=
  congrArg (fun n : ℕ => (![n, 0] : Fin 2 → ℕ)) (times_nat v 9 h (by decide))
theorem chk2_of (v : BitVec 32) (h : v.toNat < 1280) : k0_chk2 v := by
  intro a
  rw [off10_eq v h]
  match a with
  | 0 => show 9 * v.toNat + 8 ≤ 11520; omega
  | 1 => show 0 + 128 ≤ 128; omega
theorem off12_eq (v : BitVec 32) (h : v.toNat < 1280) : k0_off12 v = ![9 * v.toNat, 0] :=
  congrArg (fun n : ℕ => (![n, 0] : Fin 2 → ℕ)) (times_nat v 9 h (by decide))
theorem chk3_of (v : BitVec 32) (h : v.toNat < 1280) : k0_chk3 v := by
  intro a
  rw [off12_eq v h]
  match a with
  | 0 => show 9 * v.toNat + 8 ≤ 11520; omega
  | 1 => show 0 + 128 ≤ 128; omega
theorem off15_eq (v : BitVec 32) (h : v.toNat < 1280) : k0_off15 v = ![7 * v.toNat, 0] :=
  congrArg (fun n : ℕ => (![n, 0] : Fin 2 → ℕ)) (times_nat v 7 h (by decide))
theorem chk4_of (v : BitVec 32) (h : v.toNat < 1280) : k0_chk4 v := by
  intro a
  rw [off15_eq v h]
  match a with
  | 0 => show 7 * v.toNat + 8 ≤ 8968; omega
  | 1 => show 0 + 128 ≤ 128; omega
theorem off17_eq (v : BitVec 32) (h : v.toNat < 1280) : k0_off17 v = ![7 * v.toNat, 0] :=
  congrArg (fun n : ℕ => (![n, 0] : Fin 2 → ℕ)) (times_nat v 7 h (by decide))
theorem chk5_of (v : BitVec 32) (h : v.toNat < 1280) : k0_chk5 v := by
  intro a
  rw [off17_eq v h]
  match a with
  | 0 => show 7 * v.toNat + 8 ≤ 8968; omega
  | 1 => show 0 + 128 ≤ 128; omega
theorem off19_eq {v4 v7 : BitVec 32} (h : Seg v4 v7) (t : Fin (k0_t3_loop v4 v7).trips) (k : Fin k0_t4_loop.trips) :
    k0_off19 v4 v7 t k = ![min (v4.toNat + 256 * t.val + 2 * (8 * k.val + 1)) 34559] :=
  congrArg (fun n : ℕ => (![n] : Fin 1 → ℕ)) (even_nat v4 t.val k.val 1 h.le (t3_lt h t) (t4_lt k) (by decide))
theorem off21_eq {v4 v7 : BitVec 32} (h : Seg v4 v7) (t : Fin (k0_t3_loop v4 v7).trips) (k : Fin k0_t4_loop.trips) :
    k0_off21 v4 v7 t k = ![min (v4.toNat + 256 * t.val + 2 * (8 * k.val + 1) + 1) 34559] :=
  congrArg (fun n : ℕ => (![n] : Fin 1 → ℕ)) (odd_nat v4 t.val k.val 1 h.le (t3_lt h t) (t4_lt k) (by decide))
theorem off24_eq {v4 v7 : BitVec 32} (h : Seg v4 v7) (t : Fin (k0_t3_loop v4 v7).trips) (k : Fin k0_t4_loop.trips) :
    k0_off24 v4 v7 t k = ![min (v4.toNat + 256 * t.val + 2 * (8 * k.val + 1)) 34559] :=
  congrArg (fun n : ℕ => (![n] : Fin 1 → ℕ)) (even_nat v4 t.val k.val 1 h.le (t3_lt h t) (t4_lt k) (by decide))
theorem off26_eq {v4 v7 : BitVec 32} (h : Seg v4 v7) (t : Fin (k0_t3_loop v4 v7).trips) (k : Fin k0_t4_loop.trips) :
    k0_off26 v4 v7 t k = ![min (v4.toNat + 256 * t.val + 2 * (8 * k.val + 1) + 1) 34559] :=
  congrArg (fun n : ℕ => (![n] : Fin 1 → ℕ)) (odd_nat v4 t.val k.val 1 h.le (t3_lt h t) (t4_lt k) (by decide))
theorem off20_eq (v : BitVec 32) (h : v.toNat < 1280) : k0_off20 v = ![9 * v.toNat, 0] :=
  congrArg (fun n : ℕ => (![n, 0] : Fin 2 → ℕ)) (times_nat v 9 h (by decide))
theorem chk6_of (v : BitVec 32) (h : v.toNat < 1280) : k0_chk6 v := by
  intro a
  rw [off20_eq v h]
  match a with
  | 0 => show 9 * v.toNat + 8 ≤ 11520; omega
  | 1 => show 0 + 128 ≤ 128; omega
theorem off22_eq (v : BitVec 32) (h : v.toNat < 1280) : k0_off22 v = ![9 * v.toNat, 0] :=
  congrArg (fun n : ℕ => (![n, 0] : Fin 2 → ℕ)) (times_nat v 9 h (by decide))
theorem chk7_of (v : BitVec 32) (h : v.toNat < 1280) : k0_chk7 v := by
  intro a
  rw [off22_eq v h]
  match a with
  | 0 => show 9 * v.toNat + 8 ≤ 11520; omega
  | 1 => show 0 + 128 ≤ 128; omega
theorem off25_eq (v : BitVec 32) (h : v.toNat < 1280) : k0_off25 v = ![7 * v.toNat, 0] :=
  congrArg (fun n : ℕ => (![n, 0] : Fin 2 → ℕ)) (times_nat v 7 h (by decide))
theorem chk8_of (v : BitVec 32) (h : v.toNat < 1280) : k0_chk8 v := by
  intro a
  rw [off25_eq v h]
  match a with
  | 0 => show 7 * v.toNat + 8 ≤ 8968; omega
  | 1 => show 0 + 128 ≤ 128; omega
theorem off27_eq (v : BitVec 32) (h : v.toNat < 1280) : k0_off27 v = ![7 * v.toNat, 0] :=
  congrArg (fun n : ℕ => (![n, 0] : Fin 2 → ℕ)) (times_nat v 7 h (by decide))
theorem chk9_of (v : BitVec 32) (h : v.toNat < 1280) : k0_chk9 v := by
  intro a
  rw [off27_eq v h]
  match a with
  | 0 => show 7 * v.toNat + 8 ≤ 8968; omega
  | 1 => show 0 + 128 ≤ 128; omega
theorem off29_eq {v4 v7 : BitVec 32} (h : Seg v4 v7) (t : Fin (k0_t3_loop v4 v7).trips) (k : Fin k0_t4_loop.trips) :
    k0_off29 v4 v7 t k = ![min (v4.toNat + 256 * t.val + 2 * (8 * k.val + 2)) 34559] :=
  congrArg (fun n : ℕ => (![n] : Fin 1 → ℕ)) (even_nat v4 t.val k.val 2 h.le (t3_lt h t) (t4_lt k) (by decide))
theorem off31_eq {v4 v7 : BitVec 32} (h : Seg v4 v7) (t : Fin (k0_t3_loop v4 v7).trips) (k : Fin k0_t4_loop.trips) :
    k0_off31 v4 v7 t k = ![min (v4.toNat + 256 * t.val + 2 * (8 * k.val + 2) + 1) 34559] :=
  congrArg (fun n : ℕ => (![n] : Fin 1 → ℕ)) (odd_nat v4 t.val k.val 2 h.le (t3_lt h t) (t4_lt k) (by decide))
theorem off34_eq {v4 v7 : BitVec 32} (h : Seg v4 v7) (t : Fin (k0_t3_loop v4 v7).trips) (k : Fin k0_t4_loop.trips) :
    k0_off34 v4 v7 t k = ![min (v4.toNat + 256 * t.val + 2 * (8 * k.val + 2)) 34559] :=
  congrArg (fun n : ℕ => (![n] : Fin 1 → ℕ)) (even_nat v4 t.val k.val 2 h.le (t3_lt h t) (t4_lt k) (by decide))
theorem off36_eq {v4 v7 : BitVec 32} (h : Seg v4 v7) (t : Fin (k0_t3_loop v4 v7).trips) (k : Fin k0_t4_loop.trips) :
    k0_off36 v4 v7 t k = ![min (v4.toNat + 256 * t.val + 2 * (8 * k.val + 2) + 1) 34559] :=
  congrArg (fun n : ℕ => (![n] : Fin 1 → ℕ)) (odd_nat v4 t.val k.val 2 h.le (t3_lt h t) (t4_lt k) (by decide))
theorem off30_eq (v : BitVec 32) (h : v.toNat < 1280) : k0_off30 v = ![9 * v.toNat, 0] :=
  congrArg (fun n : ℕ => (![n, 0] : Fin 2 → ℕ)) (times_nat v 9 h (by decide))
theorem chk10_of (v : BitVec 32) (h : v.toNat < 1280) : k0_chk10 v := by
  intro a
  rw [off30_eq v h]
  match a with
  | 0 => show 9 * v.toNat + 8 ≤ 11520; omega
  | 1 => show 0 + 128 ≤ 128; omega
theorem off32_eq (v : BitVec 32) (h : v.toNat < 1280) : k0_off32 v = ![9 * v.toNat, 0] :=
  congrArg (fun n : ℕ => (![n, 0] : Fin 2 → ℕ)) (times_nat v 9 h (by decide))
theorem chk11_of (v : BitVec 32) (h : v.toNat < 1280) : k0_chk11 v := by
  intro a
  rw [off32_eq v h]
  match a with
  | 0 => show 9 * v.toNat + 8 ≤ 11520; omega
  | 1 => show 0 + 128 ≤ 128; omega
theorem off35_eq (v : BitVec 32) (h : v.toNat < 1280) : k0_off35 v = ![7 * v.toNat, 0] :=
  congrArg (fun n : ℕ => (![n, 0] : Fin 2 → ℕ)) (times_nat v 7 h (by decide))
theorem chk12_of (v : BitVec 32) (h : v.toNat < 1280) : k0_chk12 v := by
  intro a
  rw [off35_eq v h]
  match a with
  | 0 => show 7 * v.toNat + 8 ≤ 8968; omega
  | 1 => show 0 + 128 ≤ 128; omega
theorem off37_eq (v : BitVec 32) (h : v.toNat < 1280) : k0_off37 v = ![7 * v.toNat, 0] :=
  congrArg (fun n : ℕ => (![n, 0] : Fin 2 → ℕ)) (times_nat v 7 h (by decide))
theorem chk13_of (v : BitVec 32) (h : v.toNat < 1280) : k0_chk13 v := by
  intro a
  rw [off37_eq v h]
  match a with
  | 0 => show 7 * v.toNat + 8 ≤ 8968; omega
  | 1 => show 0 + 128 ≤ 128; omega
theorem off39_eq {v4 v7 : BitVec 32} (h : Seg v4 v7) (t : Fin (k0_t3_loop v4 v7).trips) (k : Fin k0_t4_loop.trips) :
    k0_off39 v4 v7 t k = ![min (v4.toNat + 256 * t.val + 2 * (8 * k.val + 3)) 34559] :=
  congrArg (fun n : ℕ => (![n] : Fin 1 → ℕ)) (even_nat v4 t.val k.val 3 h.le (t3_lt h t) (t4_lt k) (by decide))
theorem off41_eq {v4 v7 : BitVec 32} (h : Seg v4 v7) (t : Fin (k0_t3_loop v4 v7).trips) (k : Fin k0_t4_loop.trips) :
    k0_off41 v4 v7 t k = ![min (v4.toNat + 256 * t.val + 2 * (8 * k.val + 3) + 1) 34559] :=
  congrArg (fun n : ℕ => (![n] : Fin 1 → ℕ)) (odd_nat v4 t.val k.val 3 h.le (t3_lt h t) (t4_lt k) (by decide))
theorem off44_eq {v4 v7 : BitVec 32} (h : Seg v4 v7) (t : Fin (k0_t3_loop v4 v7).trips) (k : Fin k0_t4_loop.trips) :
    k0_off44 v4 v7 t k = ![min (v4.toNat + 256 * t.val + 2 * (8 * k.val + 3)) 34559] :=
  congrArg (fun n : ℕ => (![n] : Fin 1 → ℕ)) (even_nat v4 t.val k.val 3 h.le (t3_lt h t) (t4_lt k) (by decide))
theorem off46_eq {v4 v7 : BitVec 32} (h : Seg v4 v7) (t : Fin (k0_t3_loop v4 v7).trips) (k : Fin k0_t4_loop.trips) :
    k0_off46 v4 v7 t k = ![min (v4.toNat + 256 * t.val + 2 * (8 * k.val + 3) + 1) 34559] :=
  congrArg (fun n : ℕ => (![n] : Fin 1 → ℕ)) (odd_nat v4 t.val k.val 3 h.le (t3_lt h t) (t4_lt k) (by decide))
theorem off40_eq (v : BitVec 32) (h : v.toNat < 1280) : k0_off40 v = ![9 * v.toNat, 0] :=
  congrArg (fun n : ℕ => (![n, 0] : Fin 2 → ℕ)) (times_nat v 9 h (by decide))
theorem chk14_of (v : BitVec 32) (h : v.toNat < 1280) : k0_chk14 v := by
  intro a
  rw [off40_eq v h]
  match a with
  | 0 => show 9 * v.toNat + 8 ≤ 11520; omega
  | 1 => show 0 + 128 ≤ 128; omega
theorem off42_eq (v : BitVec 32) (h : v.toNat < 1280) : k0_off42 v = ![9 * v.toNat, 0] :=
  congrArg (fun n : ℕ => (![n, 0] : Fin 2 → ℕ)) (times_nat v 9 h (by decide))
theorem chk15_of (v : BitVec 32) (h : v.toNat < 1280) : k0_chk15 v := by
  intro a
  rw [off42_eq v h]
  match a with
  | 0 => show 9 * v.toNat + 8 ≤ 11520; omega
  | 1 => show 0 + 128 ≤ 128; omega
theorem off45_eq (v : BitVec 32) (h : v.toNat < 1280) : k0_off45 v = ![7 * v.toNat, 0] :=
  congrArg (fun n : ℕ => (![n, 0] : Fin 2 → ℕ)) (times_nat v 7 h (by decide))
theorem chk16_of (v : BitVec 32) (h : v.toNat < 1280) : k0_chk16 v := by
  intro a
  rw [off45_eq v h]
  match a with
  | 0 => show 7 * v.toNat + 8 ≤ 8968; omega
  | 1 => show 0 + 128 ≤ 128; omega
theorem off47_eq (v : BitVec 32) (h : v.toNat < 1280) : k0_off47 v = ![7 * v.toNat, 0] :=
  congrArg (fun n : ℕ => (![n, 0] : Fin 2 → ℕ)) (times_nat v 7 h (by decide))
theorem chk17_of (v : BitVec 32) (h : v.toNat < 1280) : k0_chk17 v := by
  intro a
  rw [off47_eq v h]
  match a with
  | 0 => show 7 * v.toNat + 8 ≤ 8968; omega
  | 1 => show 0 + 128 ≤ 128; omega
theorem off49_eq {v4 v7 : BitVec 32} (h : Seg v4 v7) (t : Fin (k0_t3_loop v4 v7).trips) (k : Fin k0_t4_loop.trips) :
    k0_off49 v4 v7 t k = ![min (v4.toNat + 256 * t.val + 2 * (8 * k.val + 4)) 34559] :=
  congrArg (fun n : ℕ => (![n] : Fin 1 → ℕ)) (even_nat v4 t.val k.val 4 h.le (t3_lt h t) (t4_lt k) (by decide))
theorem off51_eq {v4 v7 : BitVec 32} (h : Seg v4 v7) (t : Fin (k0_t3_loop v4 v7).trips) (k : Fin k0_t4_loop.trips) :
    k0_off51 v4 v7 t k = ![min (v4.toNat + 256 * t.val + 2 * (8 * k.val + 4) + 1) 34559] :=
  congrArg (fun n : ℕ => (![n] : Fin 1 → ℕ)) (odd_nat v4 t.val k.val 4 h.le (t3_lt h t) (t4_lt k) (by decide))
theorem off54_eq {v4 v7 : BitVec 32} (h : Seg v4 v7) (t : Fin (k0_t3_loop v4 v7).trips) (k : Fin k0_t4_loop.trips) :
    k0_off54 v4 v7 t k = ![min (v4.toNat + 256 * t.val + 2 * (8 * k.val + 4)) 34559] :=
  congrArg (fun n : ℕ => (![n] : Fin 1 → ℕ)) (even_nat v4 t.val k.val 4 h.le (t3_lt h t) (t4_lt k) (by decide))
theorem off56_eq {v4 v7 : BitVec 32} (h : Seg v4 v7) (t : Fin (k0_t3_loop v4 v7).trips) (k : Fin k0_t4_loop.trips) :
    k0_off56 v4 v7 t k = ![min (v4.toNat + 256 * t.val + 2 * (8 * k.val + 4) + 1) 34559] :=
  congrArg (fun n : ℕ => (![n] : Fin 1 → ℕ)) (odd_nat v4 t.val k.val 4 h.le (t3_lt h t) (t4_lt k) (by decide))
theorem off50_eq (v : BitVec 32) (h : v.toNat < 1280) : k0_off50 v = ![9 * v.toNat, 0] :=
  congrArg (fun n : ℕ => (![n, 0] : Fin 2 → ℕ)) (times_nat v 9 h (by decide))
theorem chk18_of (v : BitVec 32) (h : v.toNat < 1280) : k0_chk18 v := by
  intro a
  rw [off50_eq v h]
  match a with
  | 0 => show 9 * v.toNat + 8 ≤ 11520; omega
  | 1 => show 0 + 128 ≤ 128; omega
theorem off52_eq (v : BitVec 32) (h : v.toNat < 1280) : k0_off52 v = ![9 * v.toNat, 0] :=
  congrArg (fun n : ℕ => (![n, 0] : Fin 2 → ℕ)) (times_nat v 9 h (by decide))
theorem chk19_of (v : BitVec 32) (h : v.toNat < 1280) : k0_chk19 v := by
  intro a
  rw [off52_eq v h]
  match a with
  | 0 => show 9 * v.toNat + 8 ≤ 11520; omega
  | 1 => show 0 + 128 ≤ 128; omega
theorem off55_eq (v : BitVec 32) (h : v.toNat < 1280) : k0_off55 v = ![7 * v.toNat, 0] :=
  congrArg (fun n : ℕ => (![n, 0] : Fin 2 → ℕ)) (times_nat v 7 h (by decide))
theorem chk20_of (v : BitVec 32) (h : v.toNat < 1280) : k0_chk20 v := by
  intro a
  rw [off55_eq v h]
  match a with
  | 0 => show 7 * v.toNat + 8 ≤ 8968; omega
  | 1 => show 0 + 128 ≤ 128; omega
theorem off57_eq (v : BitVec 32) (h : v.toNat < 1280) : k0_off57 v = ![7 * v.toNat, 0] :=
  congrArg (fun n : ℕ => (![n, 0] : Fin 2 → ℕ)) (times_nat v 7 h (by decide))
theorem chk21_of (v : BitVec 32) (h : v.toNat < 1280) : k0_chk21 v := by
  intro a
  rw [off57_eq v h]
  match a with
  | 0 => show 7 * v.toNat + 8 ≤ 8968; omega
  | 1 => show 0 + 128 ≤ 128; omega
theorem off59_eq {v4 v7 : BitVec 32} (h : Seg v4 v7) (t : Fin (k0_t3_loop v4 v7).trips) (k : Fin k0_t4_loop.trips) :
    k0_off59 v4 v7 t k = ![min (v4.toNat + 256 * t.val + 2 * (8 * k.val + 5)) 34559] :=
  congrArg (fun n : ℕ => (![n] : Fin 1 → ℕ)) (even_nat v4 t.val k.val 5 h.le (t3_lt h t) (t4_lt k) (by decide))
theorem off61_eq {v4 v7 : BitVec 32} (h : Seg v4 v7) (t : Fin (k0_t3_loop v4 v7).trips) (k : Fin k0_t4_loop.trips) :
    k0_off61 v4 v7 t k = ![min (v4.toNat + 256 * t.val + 2 * (8 * k.val + 5) + 1) 34559] :=
  congrArg (fun n : ℕ => (![n] : Fin 1 → ℕ)) (odd_nat v4 t.val k.val 5 h.le (t3_lt h t) (t4_lt k) (by decide))
theorem off64_eq {v4 v7 : BitVec 32} (h : Seg v4 v7) (t : Fin (k0_t3_loop v4 v7).trips) (k : Fin k0_t4_loop.trips) :
    k0_off64 v4 v7 t k = ![min (v4.toNat + 256 * t.val + 2 * (8 * k.val + 5)) 34559] :=
  congrArg (fun n : ℕ => (![n] : Fin 1 → ℕ)) (even_nat v4 t.val k.val 5 h.le (t3_lt h t) (t4_lt k) (by decide))
theorem off66_eq {v4 v7 : BitVec 32} (h : Seg v4 v7) (t : Fin (k0_t3_loop v4 v7).trips) (k : Fin k0_t4_loop.trips) :
    k0_off66 v4 v7 t k = ![min (v4.toNat + 256 * t.val + 2 * (8 * k.val + 5) + 1) 34559] :=
  congrArg (fun n : ℕ => (![n] : Fin 1 → ℕ)) (odd_nat v4 t.val k.val 5 h.le (t3_lt h t) (t4_lt k) (by decide))
theorem off60_eq (v : BitVec 32) (h : v.toNat < 1280) : k0_off60 v = ![9 * v.toNat, 0] :=
  congrArg (fun n : ℕ => (![n, 0] : Fin 2 → ℕ)) (times_nat v 9 h (by decide))
theorem chk22_of (v : BitVec 32) (h : v.toNat < 1280) : k0_chk22 v := by
  intro a
  rw [off60_eq v h]
  match a with
  | 0 => show 9 * v.toNat + 8 ≤ 11520; omega
  | 1 => show 0 + 128 ≤ 128; omega
theorem off62_eq (v : BitVec 32) (h : v.toNat < 1280) : k0_off62 v = ![9 * v.toNat, 0] :=
  congrArg (fun n : ℕ => (![n, 0] : Fin 2 → ℕ)) (times_nat v 9 h (by decide))
theorem chk23_of (v : BitVec 32) (h : v.toNat < 1280) : k0_chk23 v := by
  intro a
  rw [off62_eq v h]
  match a with
  | 0 => show 9 * v.toNat + 8 ≤ 11520; omega
  | 1 => show 0 + 128 ≤ 128; omega
theorem off65_eq (v : BitVec 32) (h : v.toNat < 1280) : k0_off65 v = ![7 * v.toNat, 0] :=
  congrArg (fun n : ℕ => (![n, 0] : Fin 2 → ℕ)) (times_nat v 7 h (by decide))
theorem chk24_of (v : BitVec 32) (h : v.toNat < 1280) : k0_chk24 v := by
  intro a
  rw [off65_eq v h]
  match a with
  | 0 => show 7 * v.toNat + 8 ≤ 8968; omega
  | 1 => show 0 + 128 ≤ 128; omega
theorem off67_eq (v : BitVec 32) (h : v.toNat < 1280) : k0_off67 v = ![7 * v.toNat, 0] :=
  congrArg (fun n : ℕ => (![n, 0] : Fin 2 → ℕ)) (times_nat v 7 h (by decide))
theorem chk25_of (v : BitVec 32) (h : v.toNat < 1280) : k0_chk25 v := by
  intro a
  rw [off67_eq v h]
  match a with
  | 0 => show 7 * v.toNat + 8 ≤ 8968; omega
  | 1 => show 0 + 128 ≤ 128; omega
theorem off69_eq {v4 v7 : BitVec 32} (h : Seg v4 v7) (t : Fin (k0_t3_loop v4 v7).trips) (k : Fin k0_t4_loop.trips) :
    k0_off69 v4 v7 t k = ![min (v4.toNat + 256 * t.val + 2 * (8 * k.val + 6)) 34559] :=
  congrArg (fun n : ℕ => (![n] : Fin 1 → ℕ)) (even_nat v4 t.val k.val 6 h.le (t3_lt h t) (t4_lt k) (by decide))
theorem off71_eq {v4 v7 : BitVec 32} (h : Seg v4 v7) (t : Fin (k0_t3_loop v4 v7).trips) (k : Fin k0_t4_loop.trips) :
    k0_off71 v4 v7 t k = ![min (v4.toNat + 256 * t.val + 2 * (8 * k.val + 6) + 1) 34559] :=
  congrArg (fun n : ℕ => (![n] : Fin 1 → ℕ)) (odd_nat v4 t.val k.val 6 h.le (t3_lt h t) (t4_lt k) (by decide))
theorem off74_eq {v4 v7 : BitVec 32} (h : Seg v4 v7) (t : Fin (k0_t3_loop v4 v7).trips) (k : Fin k0_t4_loop.trips) :
    k0_off74 v4 v7 t k = ![min (v4.toNat + 256 * t.val + 2 * (8 * k.val + 6)) 34559] :=
  congrArg (fun n : ℕ => (![n] : Fin 1 → ℕ)) (even_nat v4 t.val k.val 6 h.le (t3_lt h t) (t4_lt k) (by decide))
theorem off76_eq {v4 v7 : BitVec 32} (h : Seg v4 v7) (t : Fin (k0_t3_loop v4 v7).trips) (k : Fin k0_t4_loop.trips) :
    k0_off76 v4 v7 t k = ![min (v4.toNat + 256 * t.val + 2 * (8 * k.val + 6) + 1) 34559] :=
  congrArg (fun n : ℕ => (![n] : Fin 1 → ℕ)) (odd_nat v4 t.val k.val 6 h.le (t3_lt h t) (t4_lt k) (by decide))
theorem off70_eq (v : BitVec 32) (h : v.toNat < 1280) : k0_off70 v = ![9 * v.toNat, 0] :=
  congrArg (fun n : ℕ => (![n, 0] : Fin 2 → ℕ)) (times_nat v 9 h (by decide))
theorem chk26_of (v : BitVec 32) (h : v.toNat < 1280) : k0_chk26 v := by
  intro a
  rw [off70_eq v h]
  match a with
  | 0 => show 9 * v.toNat + 8 ≤ 11520; omega
  | 1 => show 0 + 128 ≤ 128; omega
theorem off72_eq (v : BitVec 32) (h : v.toNat < 1280) : k0_off72 v = ![9 * v.toNat, 0] :=
  congrArg (fun n : ℕ => (![n, 0] : Fin 2 → ℕ)) (times_nat v 9 h (by decide))
theorem chk27_of (v : BitVec 32) (h : v.toNat < 1280) : k0_chk27 v := by
  intro a
  rw [off72_eq v h]
  match a with
  | 0 => show 9 * v.toNat + 8 ≤ 11520; omega
  | 1 => show 0 + 128 ≤ 128; omega
theorem off75_eq (v : BitVec 32) (h : v.toNat < 1280) : k0_off75 v = ![7 * v.toNat, 0] :=
  congrArg (fun n : ℕ => (![n, 0] : Fin 2 → ℕ)) (times_nat v 7 h (by decide))
theorem chk28_of (v : BitVec 32) (h : v.toNat < 1280) : k0_chk28 v := by
  intro a
  rw [off75_eq v h]
  match a with
  | 0 => show 7 * v.toNat + 8 ≤ 8968; omega
  | 1 => show 0 + 128 ≤ 128; omega
theorem off77_eq (v : BitVec 32) (h : v.toNat < 1280) : k0_off77 v = ![7 * v.toNat, 0] :=
  congrArg (fun n : ℕ => (![n, 0] : Fin 2 → ℕ)) (times_nat v 7 h (by decide))
theorem chk29_of (v : BitVec 32) (h : v.toNat < 1280) : k0_chk29 v := by
  intro a
  rw [off77_eq v h]
  match a with
  | 0 => show 7 * v.toNat + 8 ≤ 8968; omega
  | 1 => show 0 + 128 ≤ 128; omega
theorem off79_eq {v4 v7 : BitVec 32} (h : Seg v4 v7) (t : Fin (k0_t3_loop v4 v7).trips) (k : Fin k0_t4_loop.trips) :
    k0_off79 v4 v7 t k = ![min (v4.toNat + 256 * t.val + 2 * (8 * k.val + 7)) 34559] :=
  congrArg (fun n : ℕ => (![n] : Fin 1 → ℕ)) (even_nat v4 t.val k.val 7 h.le (t3_lt h t) (t4_lt k) (by decide))
theorem off81_eq {v4 v7 : BitVec 32} (h : Seg v4 v7) (t : Fin (k0_t3_loop v4 v7).trips) (k : Fin k0_t4_loop.trips) :
    k0_off81 v4 v7 t k = ![min (v4.toNat + 256 * t.val + 2 * (8 * k.val + 7) + 1) 34559] :=
  congrArg (fun n : ℕ => (![n] : Fin 1 → ℕ)) (odd_nat v4 t.val k.val 7 h.le (t3_lt h t) (t4_lt k) (by decide))
theorem off84_eq {v4 v7 : BitVec 32} (h : Seg v4 v7) (t : Fin (k0_t3_loop v4 v7).trips) (k : Fin k0_t4_loop.trips) :
    k0_off84 v4 v7 t k = ![min (v4.toNat + 256 * t.val + 2 * (8 * k.val + 7)) 34559] :=
  congrArg (fun n : ℕ => (![n] : Fin 1 → ℕ)) (even_nat v4 t.val k.val 7 h.le (t3_lt h t) (t4_lt k) (by decide))
theorem off86_eq {v4 v7 : BitVec 32} (h : Seg v4 v7) (t : Fin (k0_t3_loop v4 v7).trips) (k : Fin k0_t4_loop.trips) :
    k0_off86 v4 v7 t k = ![min (v4.toNat + 256 * t.val + 2 * (8 * k.val + 7) + 1) 34559] :=
  congrArg (fun n : ℕ => (![n] : Fin 1 → ℕ)) (odd_nat v4 t.val k.val 7 h.le (t3_lt h t) (t4_lt k) (by decide))
theorem off80_eq (v : BitVec 32) (h : v.toNat < 1280) : k0_off80 v = ![9 * v.toNat, 0] :=
  congrArg (fun n : ℕ => (![n, 0] : Fin 2 → ℕ)) (times_nat v 9 h (by decide))
theorem chk30_of (v : BitVec 32) (h : v.toNat < 1280) : k0_chk30 v := by
  intro a
  rw [off80_eq v h]
  match a with
  | 0 => show 9 * v.toNat + 8 ≤ 11520; omega
  | 1 => show 0 + 128 ≤ 128; omega
theorem off82_eq (v : BitVec 32) (h : v.toNat < 1280) : k0_off82 v = ![9 * v.toNat, 0] :=
  congrArg (fun n : ℕ => (![n, 0] : Fin 2 → ℕ)) (times_nat v 9 h (by decide))
theorem chk31_of (v : BitVec 32) (h : v.toNat < 1280) : k0_chk31 v := by
  intro a
  rw [off82_eq v h]
  match a with
  | 0 => show 9 * v.toNat + 8 ≤ 11520; omega
  | 1 => show 0 + 128 ≤ 128; omega
theorem off85_eq (v : BitVec 32) (h : v.toNat < 1280) : k0_off85 v = ![7 * v.toNat, 0] :=
  congrArg (fun n : ℕ => (![n, 0] : Fin 2 → ℕ)) (times_nat v 7 h (by decide))
theorem chk32_of (v : BitVec 32) (h : v.toNat < 1280) : k0_chk32 v := by
  intro a
  rw [off85_eq v h]
  match a with
  | 0 => show 7 * v.toNat + 8 ≤ 8968; omega
  | 1 => show 0 + 128 ≤ 128; omega
theorem off87_eq (v : BitVec 32) (h : v.toNat < 1280) : k0_off87 v = ![7 * v.toNat, 0] :=
  congrArg (fun n : ℕ => (![n, 0] : Fin 2 → ℕ)) (times_nat v 7 h (by decide))
theorem chk33_of (v : BitVec 32) (h : v.toNat < 1280) : k0_chk33 v := by
  intro a
  rw [off87_eq v h]
  match a with
  | 0 => show 7 * v.toNat + 8 ≤ 8968; omega
  | 1 => show 0 + 128 ≤ 128; omega

theorem bnd1 (n : ℕ) (a : Fin 1) : (![min n 34559] : Fin 1 → ℕ) a + S1.size a ≤ S34560.size a := by
  match a with
  | 0 => show min n 34559 + 1 ≤ 34560; omega

theorem inb9 {v4 v7 : BitVec 32} (h : Seg v4 v7) (t : Fin (k0_t3_loop v4 v7).trips) (k : Fin k0_t4_loop.trips) (a : Fin 1) : (k0_off9 v4 v7 t k) a + S1.size a ≤ S34560.size a := by
  rw [off9_eq h t k]; exact bnd1 _ a
theorem inb11 {v4 v7 : BitVec 32} (h : Seg v4 v7) (t : Fin (k0_t3_loop v4 v7).trips) (k : Fin k0_t4_loop.trips) (a : Fin 1) : (k0_off11 v4 v7 t k) a + S1.size a ≤ S34560.size a := by
  rw [off11_eq h t k]; exact bnd1 _ a
theorem inb14 {v4 v7 : BitVec 32} (h : Seg v4 v7) (t : Fin (k0_t3_loop v4 v7).trips) (k : Fin k0_t4_loop.trips) (a : Fin 1) : (k0_off14 v4 v7 t k) a + S1.size a ≤ S34560.size a := by
  rw [off14_eq h t k]; exact bnd1 _ a
theorem inb16 {v4 v7 : BitVec 32} (h : Seg v4 v7) (t : Fin (k0_t3_loop v4 v7).trips) (k : Fin k0_t4_loop.trips) (a : Fin 1) : (k0_off16 v4 v7 t k) a + S1.size a ≤ S34560.size a := by
  rw [off16_eq h t k]; exact bnd1 _ a
theorem inb19 {v4 v7 : BitVec 32} (h : Seg v4 v7) (t : Fin (k0_t3_loop v4 v7).trips) (k : Fin k0_t4_loop.trips) (a : Fin 1) : (k0_off19 v4 v7 t k) a + S1.size a ≤ S34560.size a := by
  rw [off19_eq h t k]; exact bnd1 _ a
theorem inb21 {v4 v7 : BitVec 32} (h : Seg v4 v7) (t : Fin (k0_t3_loop v4 v7).trips) (k : Fin k0_t4_loop.trips) (a : Fin 1) : (k0_off21 v4 v7 t k) a + S1.size a ≤ S34560.size a := by
  rw [off21_eq h t k]; exact bnd1 _ a
theorem inb24 {v4 v7 : BitVec 32} (h : Seg v4 v7) (t : Fin (k0_t3_loop v4 v7).trips) (k : Fin k0_t4_loop.trips) (a : Fin 1) : (k0_off24 v4 v7 t k) a + S1.size a ≤ S34560.size a := by
  rw [off24_eq h t k]; exact bnd1 _ a
theorem inb26 {v4 v7 : BitVec 32} (h : Seg v4 v7) (t : Fin (k0_t3_loop v4 v7).trips) (k : Fin k0_t4_loop.trips) (a : Fin 1) : (k0_off26 v4 v7 t k) a + S1.size a ≤ S34560.size a := by
  rw [off26_eq h t k]; exact bnd1 _ a
theorem inb29 {v4 v7 : BitVec 32} (h : Seg v4 v7) (t : Fin (k0_t3_loop v4 v7).trips) (k : Fin k0_t4_loop.trips) (a : Fin 1) : (k0_off29 v4 v7 t k) a + S1.size a ≤ S34560.size a := by
  rw [off29_eq h t k]; exact bnd1 _ a
theorem inb31 {v4 v7 : BitVec 32} (h : Seg v4 v7) (t : Fin (k0_t3_loop v4 v7).trips) (k : Fin k0_t4_loop.trips) (a : Fin 1) : (k0_off31 v4 v7 t k) a + S1.size a ≤ S34560.size a := by
  rw [off31_eq h t k]; exact bnd1 _ a
theorem inb34 {v4 v7 : BitVec 32} (h : Seg v4 v7) (t : Fin (k0_t3_loop v4 v7).trips) (k : Fin k0_t4_loop.trips) (a : Fin 1) : (k0_off34 v4 v7 t k) a + S1.size a ≤ S34560.size a := by
  rw [off34_eq h t k]; exact bnd1 _ a
theorem inb36 {v4 v7 : BitVec 32} (h : Seg v4 v7) (t : Fin (k0_t3_loop v4 v7).trips) (k : Fin k0_t4_loop.trips) (a : Fin 1) : (k0_off36 v4 v7 t k) a + S1.size a ≤ S34560.size a := by
  rw [off36_eq h t k]; exact bnd1 _ a
theorem inb39 {v4 v7 : BitVec 32} (h : Seg v4 v7) (t : Fin (k0_t3_loop v4 v7).trips) (k : Fin k0_t4_loop.trips) (a : Fin 1) : (k0_off39 v4 v7 t k) a + S1.size a ≤ S34560.size a := by
  rw [off39_eq h t k]; exact bnd1 _ a
theorem inb41 {v4 v7 : BitVec 32} (h : Seg v4 v7) (t : Fin (k0_t3_loop v4 v7).trips) (k : Fin k0_t4_loop.trips) (a : Fin 1) : (k0_off41 v4 v7 t k) a + S1.size a ≤ S34560.size a := by
  rw [off41_eq h t k]; exact bnd1 _ a
theorem inb44 {v4 v7 : BitVec 32} (h : Seg v4 v7) (t : Fin (k0_t3_loop v4 v7).trips) (k : Fin k0_t4_loop.trips) (a : Fin 1) : (k0_off44 v4 v7 t k) a + S1.size a ≤ S34560.size a := by
  rw [off44_eq h t k]; exact bnd1 _ a
theorem inb46 {v4 v7 : BitVec 32} (h : Seg v4 v7) (t : Fin (k0_t3_loop v4 v7).trips) (k : Fin k0_t4_loop.trips) (a : Fin 1) : (k0_off46 v4 v7 t k) a + S1.size a ≤ S34560.size a := by
  rw [off46_eq h t k]; exact bnd1 _ a
theorem inb49 {v4 v7 : BitVec 32} (h : Seg v4 v7) (t : Fin (k0_t3_loop v4 v7).trips) (k : Fin k0_t4_loop.trips) (a : Fin 1) : (k0_off49 v4 v7 t k) a + S1.size a ≤ S34560.size a := by
  rw [off49_eq h t k]; exact bnd1 _ a
theorem inb51 {v4 v7 : BitVec 32} (h : Seg v4 v7) (t : Fin (k0_t3_loop v4 v7).trips) (k : Fin k0_t4_loop.trips) (a : Fin 1) : (k0_off51 v4 v7 t k) a + S1.size a ≤ S34560.size a := by
  rw [off51_eq h t k]; exact bnd1 _ a
theorem inb54 {v4 v7 : BitVec 32} (h : Seg v4 v7) (t : Fin (k0_t3_loop v4 v7).trips) (k : Fin k0_t4_loop.trips) (a : Fin 1) : (k0_off54 v4 v7 t k) a + S1.size a ≤ S34560.size a := by
  rw [off54_eq h t k]; exact bnd1 _ a
theorem inb56 {v4 v7 : BitVec 32} (h : Seg v4 v7) (t : Fin (k0_t3_loop v4 v7).trips) (k : Fin k0_t4_loop.trips) (a : Fin 1) : (k0_off56 v4 v7 t k) a + S1.size a ≤ S34560.size a := by
  rw [off56_eq h t k]; exact bnd1 _ a
theorem inb59 {v4 v7 : BitVec 32} (h : Seg v4 v7) (t : Fin (k0_t3_loop v4 v7).trips) (k : Fin k0_t4_loop.trips) (a : Fin 1) : (k0_off59 v4 v7 t k) a + S1.size a ≤ S34560.size a := by
  rw [off59_eq h t k]; exact bnd1 _ a
theorem inb61 {v4 v7 : BitVec 32} (h : Seg v4 v7) (t : Fin (k0_t3_loop v4 v7).trips) (k : Fin k0_t4_loop.trips) (a : Fin 1) : (k0_off61 v4 v7 t k) a + S1.size a ≤ S34560.size a := by
  rw [off61_eq h t k]; exact bnd1 _ a
theorem inb64 {v4 v7 : BitVec 32} (h : Seg v4 v7) (t : Fin (k0_t3_loop v4 v7).trips) (k : Fin k0_t4_loop.trips) (a : Fin 1) : (k0_off64 v4 v7 t k) a + S1.size a ≤ S34560.size a := by
  rw [off64_eq h t k]; exact bnd1 _ a
theorem inb66 {v4 v7 : BitVec 32} (h : Seg v4 v7) (t : Fin (k0_t3_loop v4 v7).trips) (k : Fin k0_t4_loop.trips) (a : Fin 1) : (k0_off66 v4 v7 t k) a + S1.size a ≤ S34560.size a := by
  rw [off66_eq h t k]; exact bnd1 _ a
theorem inb69 {v4 v7 : BitVec 32} (h : Seg v4 v7) (t : Fin (k0_t3_loop v4 v7).trips) (k : Fin k0_t4_loop.trips) (a : Fin 1) : (k0_off69 v4 v7 t k) a + S1.size a ≤ S34560.size a := by
  rw [off69_eq h t k]; exact bnd1 _ a
theorem inb71 {v4 v7 : BitVec 32} (h : Seg v4 v7) (t : Fin (k0_t3_loop v4 v7).trips) (k : Fin k0_t4_loop.trips) (a : Fin 1) : (k0_off71 v4 v7 t k) a + S1.size a ≤ S34560.size a := by
  rw [off71_eq h t k]; exact bnd1 _ a
theorem inb74 {v4 v7 : BitVec 32} (h : Seg v4 v7) (t : Fin (k0_t3_loop v4 v7).trips) (k : Fin k0_t4_loop.trips) (a : Fin 1) : (k0_off74 v4 v7 t k) a + S1.size a ≤ S34560.size a := by
  rw [off74_eq h t k]; exact bnd1 _ a
theorem inb76 {v4 v7 : BitVec 32} (h : Seg v4 v7) (t : Fin (k0_t3_loop v4 v7).trips) (k : Fin k0_t4_loop.trips) (a : Fin 1) : (k0_off76 v4 v7 t k) a + S1.size a ≤ S34560.size a := by
  rw [off76_eq h t k]; exact bnd1 _ a
theorem inb79 {v4 v7 : BitVec 32} (h : Seg v4 v7) (t : Fin (k0_t3_loop v4 v7).trips) (k : Fin k0_t4_loop.trips) (a : Fin 1) : (k0_off79 v4 v7 t k) a + S1.size a ≤ S34560.size a := by
  rw [off79_eq h t k]; exact bnd1 _ a
theorem inb81 {v4 v7 : BitVec 32} (h : Seg v4 v7) (t : Fin (k0_t3_loop v4 v7).trips) (k : Fin k0_t4_loop.trips) (a : Fin 1) : (k0_off81 v4 v7 t k) a + S1.size a ≤ S34560.size a := by
  rw [off81_eq h t k]; exact bnd1 _ a
theorem inb84 {v4 v7 : BitVec 32} (h : Seg v4 v7) (t : Fin (k0_t3_loop v4 v7).trips) (k : Fin k0_t4_loop.trips) (a : Fin 1) : (k0_off84 v4 v7 t k) a + S1.size a ≤ S34560.size a := by
  rw [off84_eq h t k]; exact bnd1 _ a
theorem inb86 {v4 v7 : BitVec 32} (h : Seg v4 v7) (t : Fin (k0_t3_loop v4 v7).trips) (k : Fin k0_t4_loop.trips) (a : Fin 1) : (k0_off86 v4 v7 t k) a + S1.size a ≤ S34560.size a := by
  rw [off86_eq h t k]; exact bnd1 _ a

theorem no5 {v4 v7 : BitVec 32} (h : Seg v4 v7) (t : Fin (k0_t5_loop v4 v7).trips) : False :=
  Nat.not_lt_zero t.val (Nat.lt_of_lt_of_eq t.isLt (trips5 h))

set_option maxHeartbeats 4000000 in
/-- The precondition on two neighbouring offsets implies what the body assumes once it has read them. -/
theorem chk1_of {v4 v7 : BitVec 32} (h : Seg v4 v7) : k0_chk1 v4 v7 := by
  have h0 : k0_chk1_0 v4 v7 := by
    unfold k0_chk1_0
    refine And.intro (ok3 h) ?_
    refine And.intro (inb9 h) ?_
    refine And.intro (inb11 h) ?_
    refine And.intro (inb14 h) ?_
    refine And.intro (inb16 h) ?_
    refine And.intro (inb19 h) ?_
    refine And.intro (inb21 h) ?_
    refine And.intro (inb24 h) ?_
    refine And.intro (inb26 h) ?_
    refine And.intro (inb29 h) ?_
    refine And.intro (inb31 h) ?_
    refine And.intro (inb34 h) ?_
    refine And.intro (inb36 h) ?_
    refine And.intro (inb39 h) ?_
    refine And.intro (inb41 h) ?_
    refine And.intro (inb44 h) ?_
    refine And.intro (inb46 h) ?_
    refine And.intro (inb49 h) ?_
    refine And.intro (inb51 h) ?_
    refine And.intro (inb54 h) ?_
    refine And.intro (inb56 h) ?_
    refine And.intro (inb59 h) ?_
    refine And.intro (inb61 h) ?_
    refine And.intro (inb64 h) ?_
    refine And.intro (inb66 h) ?_
    refine And.intro (inb69 h) ?_
    refine And.intro (inb71 h) ?_
    refine And.intro (inb74 h) ?_
    refine And.intro (inb76 h) ?_
    refine And.intro (inb79 h) ?_
    refine And.intro (inb81 h) ?_
    exact inb84 h
  have h1 : k0_chk1_1 v4 v7 := by
    unfold k0_chk1_1
    refine And.intro (inb86 h) ?_
    refine And.intro (ok5 h) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    exact fun t => (no5 h t).elim
  have h2 : k0_chk1_2 v4 v7 := by
    unfold k0_chk1_2
    refine And.intro (fun t => (no5 h t).elim) ?_
    exact fun t => (no5 h t).elim
  exact And.intro h0 (And.intro h1 h2)

end Cert.Kernel.Hand
-- ==== Proof.WeakAKernel.lean ====
module

public import proofs.«01_k».proof.Proof.Gen.Kernel.Loops
public import proofs.«01_k».proof.Proof.Gen.Kernel.Frame
public import proofs.«01_k».proof.Proof.IdxKernel

@[expose] public section

set_option maxRecDepth 16384

noncomputable section

namespace Cert.Kernel.Weak

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Hand

variable {F : FTy → Type} [BitOps F]

/-- A memref's elements, held outright at contents. -/
abbrev held (c : Dev nD) {sp : Space} {s : Shape} {e : EltTy} (m : Memref sig .tc sp s e) (f : BufTy.Contents (Elt F) m.view.ty) : sProp (MT nD τ sig Unit (Elt F) ℕ (UR sig nD τ) ℕ) :=
  m.view.loc (c : Thread nD τ) ↦[m.view.set]{fullShare} f

set_option warn.classDefReducibility false in
set_option maxHeartbeats 4000000 in
@[sl_loop] def loopInv_k0_t1 (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x128 .i32) (harg12 : arg12.IsWhole) (arg13 : Memref sig .tc .vmem S1152x128 .i32) (harg13 : arg13.IsWhole) (c : Dev nD) (k0_h1 : k0_cond1 i = 1#1) (v89 : Vec F S1x128 .f32) (X4 : BufTy.Contents (Elt F) arg4.view.ty) (X11 : BufTy.Contents (Elt F) arg11.view.ty)  :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 k0_h1 v89 where
  inv _ _ := iprop(held c arg4 X4 ∗ held c arg11 X11 ∗ (∃ f, held c arg9 f))
  step k acc := by
    unfold k0_t1_body
    iintro ⟨H4, H11, ⟨%f9, H9⟩⟩
    sl_exec
    sl_step
    isplitl [H4]; · iexact H4
    isplitl [H11]; · iexact H11
    iexists _; iexact H9

set_option warn.classDefReducibility false in
set_option maxHeartbeats 4000000 in
@[sl_loop] def loopInv_k0_t2 (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x128 .i32) (harg12 : arg12.IsWhole) (arg13 : Memref sig .tc .vmem S1152x128 .i32) (harg13 : arg13.IsWhole) (c : Dev nD) (k0_h1 : k0_cond1 i = 1#1) (X6 : BufTy.Contents (Elt F) arg6.view.ty) (X11 : BufTy.Contents (Elt F) arg11.view.ty)  :
    Gen.LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 k0_h1 where
  inv _ _ := iprop(held c arg6 X6 ∗ held c arg11 X11 ∗ (∃ f, held c arg10 f))
  step k acc := by
    unfold k0_t2_body
    iintro ⟨H6, H11, ⟨%f10, H10⟩⟩
    sl_exec
    sl_step
    isplitl [H6]; · iexact H6
    isplitl [H11]; · iexact H11
    iexists _; iexact H10

set_option warn.classDefReducibility false in
set_option maxHeartbeats 4000000 in
@[sl_loop] def loopInv_k0_t4 (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x128 .i32) (harg12 : arg12.IsWhole) (arg13 : Memref sig .tc .vmem S1152x128 .i32) (harg13 : arg13.IsWhole) (c : Dev nD) (v4 v7 : BitVec 32) (k0_hw1 : k0_chk1 v4 v7) (v8 c0 c1 : BitVec 32) (t : Fin (k0_t3_loop v4 v7).trips) (v18 : BitVec 32) (X2 : BufTy.Contents (Elt F) arg2.view.ty) (X3 : BufTy.Contents (Elt F) arg3.view.ty) (X9 : BufTy.Contents (Elt F) arg9.view.ty) (X10 : BufTy.Contents (Elt F) arg10.view.ty) (hX2 : ∀ (o : Fin 1 → ℕ) (i : ∀ a, o a + S1.size a ≤ S34560.size a) x, (arg2.view.readAt (Elt F) (Rect.unit (s := S34560) o S1.size i).toLoadRect X2 x).toNat < 1280) (hX3 : ∀ (o : Fin 1 → ℕ) (i : ∀ a, o a + S1.size a ≤ S34560.size a) x, (arg3.view.readAt (Elt F) (Rect.unit (s := S34560) o S1.size i).toLoadRect X3 x).toNat < 1280) :
    Gen.LoopInvTy_k0_t4 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v4 v7 k0_hw1 v8 c0 c1 t v18 where
  inv _ _ := iprop(held c arg2 X2 ∗ held c arg3 X3 ∗ held c arg9 X9 ∗ held c arg10 X10 ∗ (∃ f, held c arg12 f) ∗ (∃ f, held c arg13 f))
  step k acc := by
    unfold k0_t4_body
    iintro ⟨H2, H3, H9, H10, ⟨%f12, H12⟩, ⟨%f13, H13⟩⟩
    sl_exec (disch := first | ((with_reducible refine chk2_of _ ?_); exact hX2 _ _ _) | ((with_reducible refine chk3_of _ ?_); exact hX2 _ _ _) | ((with_reducible refine chk4_of _ ?_); exact hX3 _ _ _) | ((with_reducible refine chk5_of _ ?_); exact hX3 _ _ _) | ((with_reducible refine chk6_of _ ?_); exact hX2 _ _ _) | ((with_reducible refine chk7_of _ ?_); exact hX2 _ _ _) | ((with_reducible refine chk8_of _ ?_); exact hX3 _ _ _) | ((with_reducible refine chk9_of _ ?_); exact hX3 _ _ _) | ((with_reducible refine chk10_of _ ?_); exact hX2 _ _ _) | ((with_reducible refine chk11_of _ ?_); exact hX2 _ _ _) | ((with_reducible refine chk12_of _ ?_); exact hX3 _ _ _) | ((with_reducible refine chk13_of _ ?_); exact hX3 _ _ _) | ((with_reducible refine chk14_of _ ?_); exact hX2 _ _ _) | ((with_reducible refine chk15_of _ ?_); exact hX2 _ _ _) | ((with_reducible refine chk16_of _ ?_); exact hX3 _ _ _) | ((with_reducible refine chk17_of _ ?_); exact hX3 _ _ _) | ((with_reducible refine chk18_of _ ?_); exact hX2 _ _ _) | ((with_reducible refine chk19_of _ ?_); exact hX2 _ _ _) | ((with_reducible refine chk20_of _ ?_); exact hX3 _ _ _) | ((with_reducible refine chk21_of _ ?_); exact hX3 _ _ _) | ((with_reducible refine chk22_of _ ?_); exact hX2 _ _ _) | ((with_reducible refine chk23_of _ ?_); exact hX2 _ _ _) | ((with_reducible refine chk24_of _ ?_); exact hX3 _ _ _) | ((with_reducible refine chk25_of _ ?_); exact hX3 _ _ _) | ((with_reducible refine chk26_of _ ?_); exact hX2 _ _ _) | ((with_reducible refine chk27_of _ ?_); exact hX2 _ _ _) | ((with_reducible refine chk28_of _ ?_); exact hX3 _ _ _) | ((with_reducible refine chk29_of _ ?_); exact hX3 _ _ _) | ((with_reducible refine chk30_of _ ?_); exact hX2 _ _ _) | ((with_reducible refine chk31_of _ ?_); exact hX2 _ _ _) | ((with_reducible refine chk32_of _ ?_); exact hX3 _ _ _) | ((with_reducible refine chk33_of _ ?_); exact hX3 _ _ _))
    sl_step
    isplitl [H2]; · iexact H2
    isplitl [H3]; · iexact H3
    isplitl [H9]; · iexact H9
    isplitl [H10]; · iexact H10
    isplitl [H12]; · iexists _; iexact H12
    iexists _; iexact H13

end Cert.Kernel.Weak
-- ==== Proof.WeakBKernel.lean ====
module

public import proofs.«01_k».proof.Proof.WeakAKernel

@[expose] public section

set_option maxRecDepth 16384

noncomputable section

namespace Cert.Kernel.Weak

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Hand

variable {F : FTy → Type} [BitOps F]

set_option warn.classDefReducibility false in
set_option maxHeartbeats 4000000 in
@[sl_loop] def loopInv_k0_t3 (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x128 .i32) (harg12 : arg12.IsWhole) (arg13 : Memref sig .tc .vmem S1152x128 .i32) (harg13 : arg13.IsWhole) (c : Dev nD) (v4 v7 : BitVec 32) (k0_hw1 : k0_chk1 v4 v7) (v8 : BitVec 32) (X2 : BufTy.Contents (Elt F) arg2.view.ty) (X3 : BufTy.Contents (Elt F) arg3.view.ty) (X9 : BufTy.Contents (Elt F) arg9.view.ty) (X10 : BufTy.Contents (Elt F) arg10.view.ty) (hX2 : ∀ (o : Fin 1 → ℕ) (i : ∀ a, o a + S1.size a ≤ S34560.size a) x, (arg2.view.readAt (Elt F) (Rect.unit (s := S34560) o S1.size i).toLoadRect X2 x).toNat < 1280) (hX3 : ∀ (o : Fin 1 → ℕ) (i : ∀ a, o a + S1.size a ≤ S34560.size a) x, (arg3.view.readAt (Elt F) (Rect.unit (s := S34560) o S1.size i).toLoadRect X3 x).toNat < 1280) :
    Gen.LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v4 v7 k0_hw1 v8 where
  inv _ _ := iprop(held c arg2 X2 ∗ held c arg3 X3 ∗ held c arg9 X9 ∗ held c arg10 X10 ∗ (∃ f, held c arg8 f) ∗ (∃ f, held c arg12 f) ∗ (∃ f, held c arg13 f))
  step k acc := by
    unfold k0_t3_body
    iintro ⟨H2, H3, H9, H10, ⟨%f8, H8⟩, ⟨%f12, H12⟩, ⟨%f13, H13⟩⟩
    sl_exec
    sl_step
    isplitl [H2]; · iexact H2
    isplitl [H3]; · iexact H3
    isplitl [H9]; · iexact H9
    isplitl [H10]; · iexact H10
    isplitl [H8]; · iexists _; iexact H8
    isplitl [H12]; · iexists _; iexact H12
    iexists _; iexact H13

end Cert.Kernel.Weak
-- ==== Proof.WeakCKernel.lean ====
module

public import proofs.«01_k».proof.Proof.WeakBKernel
public import proofs.«01_k».proof.Proof.Gen.Kernel.Skeleton

@[expose] public section

set_option maxRecDepth 16384

noncomputable section

namespace Cert.Kernel.Weak

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Hand

variable {F : FTy → Type} [BitOps F] [∀ e, Nonempty (Elt F e)]

theorem first_pos : 0 < S1.numel := by decide

/-- The first of one grid point's two offsets, as the kernel reads it. -/
abbrev loAt (i : grid0.Coords) (arg1 : Memref sig .tc .smem S28 .i32) (X1 : BufTy.Contents (Elt F) arg1.view.ty) : BitVec 32 :=
  arg1.view.readAt (Elt F) (Rect.unit (s := S28) (k0_off7 i) S1.size (k0_off7_inb i)).toLoadRect X1 (Shape.Idx.first first_pos)
/-- The second of one grid point's two offsets, as the kernel reads it. -/
abbrev hiAt (i : grid0.Coords) (arg1 : Memref sig .tc .smem S28 .i32) (X1 : BufTy.Contents (Elt F) arg1.view.ty) : BitVec 32 :=
  arg1.view.readAt (Elt F) (Rect.unit (s := S28) (k0_off8 i) S1.size (k0_off8_inb i)).toLoadRect X1 (Shape.Idx.first first_pos)

set_option maxHeartbeats 8000000 in
/-- One grid point runs to its end, leaving its inputs as they were. -/
theorem body_run (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x128 .i32) (harg12 : arg12.IsWhole) (arg13 : Memref sig .tc .vmem S1152x128 .i32) (harg13 : arg13.IsWhole) (c : Dev nD) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
   (hX2 : ∀ (o : Fin 1 → ℕ) (i : ∀ a, o a + S1.size a ≤ S34560.size a) x, (arg2.view.readAt (Elt F) (Rect.unit (s := S34560) o S1.size i).toLoadRect X2 x).toNat < 1280) (hX3 : ∀ (o : Fin 1 → ℕ) (i : ∀ a, o a + S1.size a ≤ S34560.size a) x, (arg3.view.readAt (Elt F) (Rect.unit (s := S34560) o S1.size i).toLoadRect X3 x).toNat < 1280) (hs : Seg (loAt i arg1 X1) (hiAt i arg1 X1)) :
   held c arg1 X1 ∗ held c arg2 X2 ∗ held c arg3 X3 ∗ held c arg4 X4 ∗ held c arg5 X5 ∗ held c arg6 X6 ∗ held c arg7 X7 ∗ (∃ f, held c arg8 f) ∗ (∃ f, held c arg9 f) ∗ (∃ f, held c arg10 f) ∗ (∃ f, held c arg11 f) ∗ (∃ f, held c arg12 f) ∗ (∃ f, held c arg13 f) ⊢ wp frame (wpE (defs₀ (F := F)) Variants.none (c : Thread nD τ) none) Set.univ (cc0_dw (F := F) i arg1 harg1 arg2 harg2 arg3 harg3 arg4 harg4 arg5 harg5 arg6 harg6 arg7 harg7 arg8 harg8 arg9 harg9 arg10 harg10 arg11 harg11 arg12 harg12 arg13 harg13)
     (fun _ => iprop(held c arg1 X1 ∗ held c arg2 X2 ∗ held c arg3 X3 ∗ held c arg4 X4 ∗ held c arg5 X5 ∗ held c arg6 X6 ∗ held c arg7 X7 ∗ (∃ f, held c arg8 f) ∗ (∃ f, held c arg9 f) ∗ (∃ f, held c arg10 f) ∗ (∃ f, held c arg11 f) ∗ (∃ f, held c arg12 f) ∗ (∃ f, held c arg13 f))) := by
  rw [Gen.cc0_dw_eq_skeleton]
  unfold cc0_dw_skel
  iintro ⟨H1, H2, H3, H4, H5, H6, H7, ⟨%f8, H8⟩, ⟨%f9, H9⟩, ⟨%f10, H10⟩, ⟨%f11, H11⟩, ⟨%f12, H12⟩, ⟨%f13, H13⟩⟩
  have htr : (k0_t5_loop (loAt i arg1 X1) (hiAt i arg1 X1)).trips = 0 := trips5 hs
  by_cases h1 : k0_cond1 i = 1#1
  · sl_exec (disch := first | exact chk1_of hs | exact hs)
    have htr' : (k0_t5_loop (body_run.sl.r_2 i arg1 X1) (body_run.sl.r_3 i arg1 X1)).trips = 0 := htr
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  · sl_exec (disch := first | exact chk1_of hs | exact hs)
    have htr' : (k0_t5_loop (body_run.sl.r_4 i arg1 X1) (body_run.sl.r_5 i arg1 X1)).trips = 0 := htr
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.Kernel.Weak
-- ==== Proof.Pre.lean ====
module

public import proofs.«01_k».proof.Pre_pairs_in_range
public import proofs.«01_k».proof.Proof.Common

@[expose] public section

namespace Cert.Common

open Idealize.ShloMosaic Cert.Pre_pairs_in_range

/-- The precondition, decoded: every pair names a token, every offset lies inside the pair list, and no segment
    holds more pairs than there are tokens. -/
theorem pre_decode {F : FTy → Type} [FloatOps F] [hP : Facts] (a0 : FVec F S1280x1024 .fp8e4m3) (a1 : FVec F S1280 .f32) (a2 : FVec F S1280x896 .fp8e5m2) (a3 : FVec F S1280 .f32)
    (a4 a5 : IVec S34560 32) (a6 : IVec S28 32)
    (h1 : (fn (F := F) a0 a1 a2 a3 a4 a5 a6).1 = fun _ => 1#1) (h2 : (fn (F := F) a0 a1 a2 a3 a4 a5 a6).2.1 = fun _ => 1#1)
    (h3 : (fn (F := F) a0 a1 a2 a3 a4 a5 a6).2.2 = fun _ => 1#1) :
    (∀ y, (a4 y).toNat < 1280) ∧ (∀ y, (a5 y).toNat < 1280) ∧ (∀ y, (a6 y).toNat ≤ 34560)
      ∧ ∀ (n : ℕ) (hn : n < 27) (y z : S28.Idx), (y 0).val = n → (z 0).val = n + 1 → (a6 z).toNat ≤ (a6 y).toNat + 1280 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have o6 : ∀ y, (a6 y).toNat ≤ 34560 := by
    intro y
    have e := congrFun h2 y
    simp only [fn, fn_part1, andi, cmpi, broadcastInDim, constantI, IntOp.cmpi, andi_ofBool, ofBool_eq_one, Bool.and_eq_true] at e
    obtain ⟨hge, hlt⟩ := e
    simp only [BitVec.sle, BitVec.slt, decide_eq_true_eq, BitVec.toInt, BitVec.toNat_ofNat] at hge hlt
    omega
  have o45 : ∀ y, (a4 y).toNat < 1280 ∧ (a5 y).toNat < 1280 := by
    intro y
    have e := congrFun h1 y
    simp only [fn, fn_part1, andi, cmpi, broadcastInDim, constantI, IntOp.cmpi, andi_ofBool, ofBool_eq_one, Bool.and_eq_true] at e
    obtain ⟨⟨⟨hge, hlt⟩, hge'⟩, hlt'⟩ := e
    simp only [BitVec.sle, BitVec.slt, decide_eq_true_eq, BitVec.toInt, BitVec.toNat_ofNat] at hge hlt hge' hlt'
    omega
  refine ⟨fun y => (o45 y).1, fun y => (o45 y).2, o6, ?_⟩
  intro n hn y z hy hz
  have ha : ∀ a : Fin S27.rank, n < S27.size a := fun a => by
    have : a = 0 := Subsingleton.elim _ _
    subst this; exact hn
  let j : S27.Idx := fun a => ⟨n, ha a⟩
  have e := congrFun h3 j
  have b1 := o6 y
  have b2 := o6 z
  have ey : extractStridedSlice S27 ![0] a6 Facts.slices_S28_S27_0 j = a6 y :=
    congrArg a6 (funext fun a => by
      have : a = 0 := Subsingleton.elim _ _
      subst this; apply Fin.ext; show 0 + n = _; omega)
  have ez : extractStridedSlice S27 ![1] a6 Facts.slices_S28_S27_1 j = a6 z :=
    congrArg a6 (funext fun a => by
      have : a = 0 := Subsingleton.elim _ _
      subst this; apply Fin.ext; show 1 + n = _; omega)
  have e' : IntOp.cmpi .sle (a6 z - a6 y) 1280#32 = 1#1 := by rw [← ey, ← ez]; exact e
  simp only [IntOp.cmpi, ofBool_eq_one, BitVec.sle, decide_eq_true_eq, BitVec.toInt, BitVec.toNat_sub, BitVec.toNat_ofNat] at e'
  omega

end Cert.Common
-- ==== Proof.WeakDKernel.lean ====
module

public import proofs.«01_k».proof.Proof.WeakCKernel
public import proofs.«01_k».proof.Proof.Pre
public import proofs.«01_k».proof.Defs
public import proofs.«01_k».proof.Proof.Gen.Pre_pairs_in_range
public import Idealize.ShloMosaic.Lib.Pipeline.Frame
public import Idealize.ShloMosaic.Lib.Tactic

@[expose] public section

set_option maxRecDepth 16384

noncomputable section

namespace Cert.Kernel.Weak

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Hand

open Idealize.ShloMosaic.Pipeline (Dat BodyObligation)
open Cert.Common

local notation "𝕄" => MT nD τ sig Unit (Elt Bits) ℕ (UR sig nD τ) ℕ

variable (m : (ℓ : Loc nD τ sig) → Buf (Elt Bits) ℓ) (ρ : Dev nD → PrngReg)

/-- Window 0's current staging memref at point `t`. -/
abbrev ms0 (t : Fin cfg0.N) := win0_0.stage (cfg0.slots t 0)
/-- Window 1's current staging memref at point `t`. -/
abbrev ms1 (t : Fin cfg0.N) := win0_1.stage (cfg0.slots t 1)
/-- Window 2's current staging memref at point `t`. -/
abbrev ms2 (t : Fin cfg0.N) := win0_2.stage (cfg0.slots t 2)
/-- Window 3's current staging memref at point `t`. -/
abbrev ms3 (t : Fin cfg0.N) := win0_3.stage (cfg0.slots t 3)
/-- Window 4's current staging memref at point `t`. -/
abbrev ms4 (t : Fin cfg0.N) := win0_4.stage (cfg0.slots t 4)
/-- Window 5's current staging memref at point `t`. -/
abbrev ms5 (t : Fin cfg0.N) := win0_5.stage (cfg0.slots t 5)
/-- Window 6's current staging memref at point `t`. -/
abbrev ms6 (t : Fin cfg0.N) := win0_6.stage (cfg0.slots t 6)
/-- Window 7's current staging memref at point `t`. -/
abbrev ms7 (t : Fin cfg0.N) := win0_7.stage (cfg0.slots t 7)

/-- A memref held with some contents is owned at some contents; -/
theorem own_any (c : Dev nD) {sp : Space} {S : Shape} {e : EltTy} (mm : Memref sig .tc sp S e) (Y : BufTy.Contents (Elt Bits) mm.view.ty) :
    (held c mm Y : sProp 𝕄) ⊢ iprop(∃ d, owns (c : Thread nD τ) mm fullShare d) := by
  unfold owns held
  iintro K
  iexists (mm.view.read (Elt Bits) Y)
  iexists Y
  isplitr
  · ipureintro
    rfl
  · iexact K

/-- and at the contents it reads. -/
theorem own_at (c : Dev nD) {sp : Space} {S : Shape} {e : EltTy} (mm : Memref sig .tc sp S e) (Y : BufTy.Contents (Elt Bits) mm.view.ty) (d : S.Idx → Elt Bits e) (h : mm.view.read (Elt Bits) Y = d) :
    (held c mm Y : sProp 𝕄) ⊢ owns (c : Thread nD τ) mm fullShare d := by
  unfold owns held
  iintro K
  iexists Y
  isplitr
  · ipureintro
    exact h
  · iexact K

/-- The output window forgotten: nothing here reads what the kernel leaves in it. -/
def forgets : Fin 8 → Bool := fun w => w == 7

/-- The proof data: the inputs left at their blocks, the output unnamed. -/
def dats (_ : Fin 1) (c : Dev nD) : Dat τ (Elt Bits) Unit ℕ (UR sig nD τ) ℕ cfg0 c where
  A w := V m c (Pipeline.arrRef spec0 w)
  after w t := match w with
    | 0 => iblk m c 0 t | 1 => iblk m c 1 t | 2 => iblk m c 2 t | 3 => iblk m c 3 t
    | 4 => iblk m c 4 t | 5 => iblk m c 5 t | 6 => iblk m c 6 t
    | 7 => Pipeline.Dat.unnamed (cfg := cfg0) 7 t
  Φ _ := Pipeline.ΦA spec0 c
  q _ := fullShare
  owed _ := 0

theorem A_eq (c : Dev nD) (w : Fin cfg0.W) : (dats m 0 c).A w = V m c (Pipeline.arrRef spec0 w) := by dsimp only [dats]

/-- What the body finds and leaves at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare d))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ (∃ d, owns (c : Thread nD τ) (ms7 t) fullShare d))

/-- What the precondition says of the arrays the region finds. -/
structure Good : Prop where
  pin : ∀ c y, (V m c main_arg4 y : BitVec 32).toNat < 1280
  pout : ∀ c y, (V m c main_arg5 y : BitVec 32).toNat < 1280
  off : ∀ c y, (V m c main_arg6 y : BitVec 32).toNat ≤ 34560
  gap : ∀ c (n : ℕ) (hn : n < 27) (y z : S28.Idx), (y 0).val = n → (z 0).val = n + 1 → (V m c main_arg6 z : BitVec 32).toNat ≤ (V m c main_arg6 y : BitVec 32).toNat + 1280

theorem good (h : haveI := Cert.Pre_pairs_in_range.Gen.facts; Cert.Pre_Kernel m) : Good m := by
  haveI := Cert.Pre_pairs_in_range.Gen.facts
  have e := fun c => pre_decode (F := Bits) _ _ _ _ _ _ _ (h c).1 (h c).2.1 (h c).2.2
  refine ⟨fun c y => ?_, fun c y => ?_, fun c y => ?_, fun c => ?_⟩
  · rw [V_main_arg4]; exact (e c).1 y
  · rw [V_main_arg5]; exact (e c).2.1 y
  · rw [V_main_arg6]; exact (e c).2.2.1 y
  · rw [V_main_arg6]; exact (e c).2.2.2

theorem off7_eq (t : Fin grid0.N) : k0_off7 (grid0.coords t) 0 = t.val := by revert t; decide
theorem off8_eq (t : Fin grid0.N) : k0_off8 (grid0.coords t) 0 = t.val + 1 := by revert t; decide

variable {m}

theorem blk1_lt (g : Good m) (c : Dev nD) (t : Fin cfg0.N) (x) : (iblk m c 1 t x : BitVec 32).toNat < 1280 := by
  unfold iblk; rw [View.read_apply, cast_eq]; exact g.pin c _
theorem blk2_lt (g : Good m) (c : Dev nD) (t : Fin cfg0.N) (x) : (iblk m c 2 t x : BitVec 32).toNat < 1280 := by
  unfold iblk; rw [View.read_apply, cast_eq]; exact g.pout c _
/-- The offsets' one block starts at the beginning. -/
theorem idx_zero0 : ∀ t : Fin cfg0.N, win0_0.index t (0 : Fin 1) = 0 := (by decide +kernel : ∀ t : Fin grid0.N, _)
/-- The offsets' block is the offsets' array. -/
theorem blk0_eq (c : Dev nD) (t : Fin cfg0.N) (x : S28.Idx) : ∃ y : S28.Idx, (y 0).val = (x 0).val ∧ iblk m c 0 t x = V m c main_arg6 y := by
  refine ⟨_, ?_, by unfold iblk; rw [View.read_apply, cast_eq]⟩
  have e0 := idx_zero0 t
  show win0_0.index t (0 : Fin 1) * 28 + 1 * (x 0).val = (x 0).val
  omega
theorem seg_at (g : Good m) (c : Dev nD) (t : Fin cfg0.N) (arg1 : Memref sig .tc .smem S28 .i32) (X1 : BufTy.Contents (Elt Bits) arg1.view.ty)
    (h : arg1.view.read (Elt Bits) X1 = iblk m c 0 t) : Seg (loAt (grid0.coords t) arg1 X1) (hiAt (grid0.coords t) arg1 X1) := by
  have eq0 : ∀ x : S28.Idx, arg1.view.read (Elt Bits) X1 x = iblk m c 0 t x := fun x => congrFun h x
  have tl : t.val < 27 := Nat.lt_of_lt_of_eq t.isLt N_0
  have lo : loAt (grid0.coords t) arg1 X1 = iblk m c 0 t ((Rect.unit (s := S28) (k0_off7 (grid0.coords t)) S1.size (k0_off7_inb (grid0.coords t))).toLoadRect.idx (Shape.Idx.first first_pos)) := eq0 _
  have hi : hiAt (grid0.coords t) arg1 X1 = iblk m c 0 t ((Rect.unit (s := S28) (k0_off8 (grid0.coords t)) S1.size (k0_off8_inb (grid0.coords t))).toLoadRect.idx (Shape.Idx.first first_pos)) := eq0 _
  obtain ⟨y, hy, ey⟩ := blk0_eq (m := m) c t ((Rect.unit (s := S28) (k0_off7 (grid0.coords t)) S1.size (k0_off7_inb (grid0.coords t))).toLoadRect.idx (Shape.Idx.first first_pos))
  obtain ⟨z, hz, ez⟩ := blk0_eq (m := m) c t ((Rect.unit (s := S28) (k0_off8 (grid0.coords t)) S1.size (k0_off8_inb (grid0.coords t))).toLoadRect.idx (Shape.Idx.first first_pos))
  rw [lo, hi, ey, ez]
  have f0 : ((Shape.Idx.first first_pos : S1.Idx) 0).val = 0 := rfl
  refine ⟨g.off c y, g.gap c t.val tl y z ?_ ?_⟩
  · rw [hy]; show k0_off7 (grid0.coords t) 0 + 1 * ((Shape.Idx.first first_pos : S1.Idx) 0).val = _; rw [off7_eq, f0]; rfl
  · rw [hz]; show k0_off8 (grid0.coords t) 0 + 1 * ((Shape.Idx.first first_pos : S1.Idx) 0).val = _; rw [off8_eq, f0]

theorem defs₀_row (t : Fin cfg0.N) : defs₀ (F := Bits) .tc cfg0.body (cfg0.bodyArgs t (cfg0.slots t)) = bodyAt0 t := by
  unfold defs₀; rw [Defs.onTc_tc]

set_option maxHeartbeats 4000000 in
/-- The body at a point. -/
theorem sound_body (g : Good m) (c : Dev nD) (t : Fin cfg0.N) :
    bodyPre m c t ⊢ wp frame (wpE (defs₀ (F := Bits)) Variants.none c none) Set.univ (bodyAt0 t) (fun _ => bodyPost m c t) := by
  unfold bodyPre
  rw [show (dats m 0 c).Φ t.castSucc = Pipeline.ΦA spec0 c from rfl]
  unfold Pipeline.ΦA
  rw [scopedRest0_eq]
  simp only [before0_0_of m (dats m 0 c) rfl (fun _ => rfl), before0_1_of m (dats m 0 c) rfl (fun _ => rfl), before0_2_of m (dats m 0 c) rfl (fun _ => rfl), before0_3_of m (dats m 0 c) rfl (fun _ => rfl), before0_4_of m (dats m 0 c) rfl (fun _ => rfl), before0_5_of m (dats m 0 c) rfl (fun _ => rfl), before0_6_of m (dats m 0 c) rfl (fun _ => rfl)]
  simp only [← owns_whole]
  unfold owns
  iintro ⟨⟨⟨⟨%s9, %g9, -, K9⟩, ⟨%s10, %g10, -, K10⟩, ⟨%s11, %g11, -, K11⟩, ⟨%s12, %g12, -, K12⟩, ⟨%s13, %g13, -, K13⟩⟩, ⟨%pr, Hg⟩⟩, HO, ⟨%d1, %X1, %e1, K1⟩, ⟨%d2, %X2, %e2, K2⟩, ⟨%d3, %X3, %e3, K3⟩, ⟨%d4, %X4, %e4, K4⟩, ⟨%d5, %X5, %e5, K5⟩, ⟨%d6, %X6, %e6, K6⟩, ⟨%d7, %X7, %e7, K7⟩, ⟨%d8, %X8, -, K8⟩⟩
  iapply (wp_wand_r Idealize.ShloMosaic.frame (wpE (defs₀ (F := Bits)) Variants.none (c : Thread nD τ) none) Set.univ)
  isplitl [K1 K2 K3 K4 K5 K6 K7 K8 K9 K10 K11 K12 K13]
  · have hX2 := fun o i x => (congrArg (fun v : S34560.Idx → BitVec 32 => (v ((Rect.unit (s := S34560) o S1.size i).toLoadRect.idx x)).toNat) e2).trans_lt (blk1_lt g c t _)
    have hX3 := fun o i x => (congrArg (fun v : S34560.Idx → BitVec 32 => (v ((Rect.unit (s := S34560) o S1.size i).toLoadRect.idx x)).toNat) e3).trans_lt (blk2_lt g c t _)
    iapply (body_run (F := Bits) (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) c X1 X2 X3 X4 X5 X6 X7 hX2 hX3 (seg_at g c t _ X1 e1))
    unfold held
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexists X8; iexact K8
    isplitl [K9]; · iexists g9; iexact K9
    isplitl [K10]; · iexists g10; iexact K10
    isplitl [K11]; · iexists g11; iexact K11
    isplitl [K12]; · iexists g12; iexact K12
    iexists g13; iexact K13
  · iintro %_
    iintro ⟨K1, K2, K3, K4, K5, K6, K7, ⟨%Y8, K8⟩, ⟨%Y9, K9⟩, ⟨%Y10, K10⟩, ⟨%Y11, K11⟩, ⟨%Y12, K12⟩, ⟨%Y13, K13⟩⟩
    unfold bodyPost
    rw [show (dats m 0 c).Φ t.succ = Pipeline.ΦA spec0 c from rfl,
      show (dats m 0 c).owesAt () t.succ = (dats m 0 c).owesAt () t.castSucc from rfl]
    unfold Pipeline.ΦA
    rw [scopedRest0_eq]
    simp only [← owns_whole]
    isplitl [K9 K10 K11 K12 K13 Hg]
    · isplitl [K9 K10 K11 K12 K13]
      · isplitl [K9]
        · iapply (own_any c (Memref.whole cc0_scratch0) Y9); iexact K9
        isplitl [K10]
        · iapply (own_any c (Memref.whole cc0_scratch1) Y10); iexact K10
        isplitl [K11]
        · iapply (own_any c (Memref.whole cc0_scratch2) Y11); iexact K11
        isplitl [K12]
        · iapply (own_any c (Memref.whole cc0_scratch3) Y12); iexact K12
        iapply (own_any c (Memref.whole cc0_scratch4) Y13); iexact K13
      · iexists pr; iexact Hg
    isplitl [HO]; · iexact HO
    isplitl [K1]
    · iapply (own_at c (ms0 t) X1 _ e1); iexact K1
    isplitl [K2]
    · iapply (own_at c (ms1 t) X2 _ e2); iexact K2
    isplitl [K3]
    · iapply (own_at c (ms2 t) X3 _ e3); iexact K3
    isplitl [K4]
    · iapply (own_at c (ms3 t) X4 _ e4); iexact K4
    isplitl [K5]
    · iapply (own_at c (ms4 t) X5 _ e5); iexact K5
    isplitl [K6]
    · iapply (own_at c (ms5 t) X6 _ e6); iexact K6
    isplitl [K7]
    · iapply (own_at c (ms6 t) X7 _ e7); iexact K7
    iapply (own_any c (ms7 t) Y8); iexact K8

/-- Every point's body. -/
theorem body_obligation (g : Good m) (c : Dev nD) : BodyObligation (dats m 0 c) (defs₀ (F := Bits)) Variants.none () Set.univ forgets := fun t => by
  rw [bigSep_W0, bigSep_W0, defs₀_row]; exact triple_restated (sound_body g c t) rfl .rfl fun _ => .rfl

set_option backward.isDefEq.respectTransparency.types false in
/-- The launch. -/
theorem run_main (g : Good m) : θ_run defs (onTc (τ := τ) (main (F := Bits))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation g c).loose) (hshare := fun c => (dats m 0 c).share_full fun _ => rfl) (howed := fun _ _ => rfl)
    (V := V m) (hmain := hmain m Variants.none) (hA := A_eq m) (hΦ := fun _ _ => rfl)

theorem frame_pre (h : haveI := Cert.Pre_pairs_in_range.Gen.facts; Cert.Pre_Kernel m) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) := by
  refine (θ_run defs _ _).mono (fun r hr => ⟨fun c => ?_, hr.2⟩) (run_main ρ (good m h))
  obtain ⟨h, -⟩ := hr
  have w : ∀ w : Fin 8, (cfg0.win w).isOut = false → forgets w = false → r.2.mem ((c.tc : Thread nD τ).loc (Pipeline.arrRef spec0 w)) = V m c (Pipeline.arrRef spec0 w) := by
    intro w hw hf
    have q := (h c).1 w
    rw [Pipeline.RDat.ArrAt_in _ _ hw] at q
    exact q
  exact ⟨(w 3 rfl rfl).trans (V_main_arg0 m c),
    ((h c).2 main_arg1 (Pipeline.mem_restRefs_of main_arg1 (by decide) (by decide))).trans (V_main_arg1 m c),
    (w 5 rfl rfl).trans (V_main_arg2 m c),
    ((h c).2 main_arg3 (Pipeline.mem_restRefs_of main_arg3 (by decide) (by decide))).trans (V_main_arg3 m c),
    (w 1 rfl rfl).trans (V_main_arg4 m c), (w 2 rfl rfl).trans (V_main_arg5 m c), (w 0 rfl rfl).trans (V_main_arg6 m c)⟩

end Cert.Kernel.Weak
-- ==== Proof.IdxKernelIdeal.lean ====
module

public import proofs.«01_k».proof.Proof.Gen.KernelIdeal.Loops
public import proofs.«01_k».proof.Proof.Words

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Cert.Common

/-- What the precondition says of two neighbouring offsets. -/
structure Seg (v4 v7 : BitVec 32) : Prop where
  le : v4.toNat ≤ 34560
  short : v7.toNat ≤ v4.toNat + 1280

theorem trips3 {v4 v7 : BitVec 32} (h : Seg v4 v7) : (k0_t3_loop v4 v7).trips = tiles v4.toNat v7.toNat := by
  have e := ub_nat v4 v7 h.le h.short
  have b := tiles_le v4.toNat v7.toNat h.short
  unfold Scf.Loop.trips Scf.trips
  show (((Scalar.addi 0#32 (Scalar.muli (Scalar.divsi (Scalar.subi (Scalar.maxsi (Scalar.divsi (Scalar.addi (Scalar.subi v7 v4) 255#32) 256#32) 1#32) 0#32) 1#32) 1#32)).toInt - (0#32 : BitVec 32).toInt + (1#32 : BitVec 32).toInt - 1) / (1#32 : BitVec 32).toInt).toNat = _
  rw [toInt_small _ (by omega), e, toInt_small (0#32) (by decide), toInt_small (1#32) (by decide)]
  simp

theorem ok3 {v4 v7 : BitVec 32} (h : Seg v4 v7) : (k0_t3_loop v4 v7).OK := by
  have b := tiles_le v4.toNat v7.toNat h.short
  have t := trips3 h
  refine ⟨(by decide : 0 < (1#32 : BitVec 32).toInt), ?_⟩
  show (0#32 : BitVec 32).toInt + ((k0_t3_loop v4 v7).trips : Int) * (1#32 : BitVec 32).toInt < 2 ^ 31
  rw [t, toInt_small (0#32) (by decide), toInt_small (1#32) (by decide)]
  simp; omega

theorem trips5 {v4 v7 : BitVec 32} (h : Seg v4 v7) : (k0_t5_loop v4 v7).trips = 0 := by
  have e := ub_nat v4 v7 h.le h.short
  have b := tiles_le v4.toNat v7.toNat h.short
  unfold Scf.Loop.trips Scf.trips
  have hB : Scalar.divsi (Scalar.subi (Scalar.maxsi (Scalar.divsi (Scalar.addi (Scalar.subi v7 v4) 255#32) 256#32) 1#32) 0#32) 1#32 = Scalar.subi (Scalar.maxsi (Scalar.divsi (Scalar.addi (Scalar.subi v7 v4) 255#32) 256#32) 1#32) 0#32 := by
    generalize Scalar.subi (Scalar.maxsi (Scalar.divsi (Scalar.addi (Scalar.subi v7 v4) 255#32) 256#32) 1#32) 0#32 = w
    unfold Scalar.divsi IntOp.divsi
    rw [if_neg (by intro h; rcases h with h | h; exact absurd h (by decide); exact absurd h.2 (by decide))]
    rw [BitVec.sdiv_one]
  have hC : Scalar.addi 0#32 (Scalar.muli (Scalar.divsi (Scalar.subi (Scalar.maxsi (Scalar.divsi (Scalar.addi (Scalar.subi v7 v4) 255#32) 256#32) 1#32) 0#32) 1#32) 1#32) = Scalar.addi 0#32 (Scalar.subi (Scalar.maxsi (Scalar.divsi (Scalar.addi (Scalar.subi v7 v4) 255#32) 256#32) 1#32) 0#32) := by
    rw [hB]
    show 0#32 + (_ * 1#32) = 0#32 + _
    rw [BitVec.mul_one]
  show (((Scalar.addi 0#32 (Scalar.subi (Scalar.maxsi (Scalar.divsi (Scalar.addi (Scalar.subi v7 v4) 255#32) 256#32) 1#32) 0#32)).toInt - (Scalar.addi 0#32 (Scalar.muli (Scalar.divsi (Scalar.subi (Scalar.maxsi (Scalar.divsi (Scalar.addi (Scalar.subi v7 v4) 255#32) 256#32) 1#32) 0#32) 1#32) 1#32)).toInt + (1#32 : BitVec 32).toInt - 1) / (1#32 : BitVec 32).toInt).toNat = 0
  rw [hC, toInt_small (1#32) (by decide)]
  simp

theorem ok5 {v4 v7 : BitVec 32} (h : Seg v4 v7) : (k0_t5_loop v4 v7).OK := by
  have b := tiles_le v4.toNat v7.toNat h.short
  have e := ub_nat v4 v7 h.le h.short
  have t := trips5 h
  refine ⟨(by decide : 0 < (1#32 : BitVec 32).toInt), ?_⟩
  show (Scalar.addi 0#32 (Scalar.muli (Scalar.divsi (Scalar.subi (Scalar.maxsi (Scalar.divsi (Scalar.addi (Scalar.subi v7 v4) 255#32) 256#32) 1#32) 0#32) 1#32) 1#32)).toInt + ((k0_t5_loop v4 v7).trips : Int) * (1#32 : BitVec 32).toInt < 2 ^ 31
  rw [t, toInt_small _ (by omega), e]
  simp; omega

theorem t3_lt {v4 v7 : BitVec 32} (h : Seg v4 v7) (t : Fin (k0_t3_loop v4 v7).trips) : t.val < 5 := by
  have := t.isLt; have e := trips3 h; have b := tiles_le v4.toNat v7.toNat h.short; omega
theorem t4_lt (k : Fin k0_t4_loop.trips) : k.val < 16 := k.isLt

theorem off9_eq {v4 v7 : BitVec 32} (h : Seg v4 v7) (t : Fin (k0_t3_loop v4 v7).trips) (k : Fin k0_t4_loop.trips) :
    k0_off9 v4 v7 t k = ![min (v4.toNat + 256 * t.val + 2 * (8 * k.val + 0)) 34559] :=
  congrArg (fun n : ℕ => (![n] : Fin 1 → ℕ)) (even_nat v4 t.val k.val 0 h.le (t3_lt h t) (t4_lt k) (by decide))
theorem off11_eq {v4 v7 : BitVec 32} (h : Seg v4 v7) (t : Fin (k0_t3_loop v4 v7).trips) (k : Fin k0_t4_loop.trips) :
    k0_off11 v4 v7 t k = ![min (v4.toNat + 256 * t.val + 2 * (8 * k.val + 0) + 1) 34559] :=
  congrArg (fun n : ℕ => (![n] : Fin 1 → ℕ)) (odd_nat v4 t.val k.val 0 h.le (t3_lt h t) (t4_lt k) (by decide))
theorem off14_eq {v4 v7 : BitVec 32} (h : Seg v4 v7) (t : Fin (k0_t3_loop v4 v7).trips) (k : Fin k0_t4_loop.trips) :
    k0_off14 v4 v7 t k = ![min (v4.toNat + 256 * t.val + 2 * (8 * k.val + 0)) 34559] :=
  congrArg (fun n : ℕ => (![n] : Fin 1 → ℕ)) (even_nat v4 t.val k.val 0 h.le (t3_lt h t) (t4_lt k) (by decide))
theorem off16_eq {v4 v7 : BitVec 32} (h : Seg v4 v7) (t : Fin (k0_t3_loop v4 v7).trips) (k : Fin k0_t4_loop.trips) :
    k0_off16 v4 v7 t k = ![min (v4.toNat + 256 * t.val + 2 * (8 * k.val + 0) + 1) 34559] :=
  congrArg (fun n : ℕ => (![n] : Fin 1 → ℕ)) (odd_nat v4 t.val k.val 0 h.le (t3_lt h t) (t4_lt k) (by decide))
theorem off10_eq (v : BitVec 32) (h : v.toNat < 1280) : k0_off10 v = ![9 * v.toNat, 0] :=
  congrArg (fun n : ℕ => (![n, 0] : Fin 2 → ℕ)) (times_nat v 9 h (by decide))
theorem chk2_of (v : BitVec 32) (h : v.toNat < 1280) : k0_chk2 v := by
  intro a
  rw [off10_eq v h]
  match a with
  | 0 => show 9 * v.toNat + 8 ≤ 11520; omega
  | 1 => show 0 + 128 ≤ 128; omega
theorem off12_eq (v : BitVec 32) (h : v.toNat < 1280) : k0_off12 v = ![9 * v.toNat, 0] :=
  congrArg (fun n : ℕ => (![n, 0] : Fin 2 → ℕ)) (times_nat v 9 h (by decide))
theorem chk3_of (v : BitVec 32) (h : v.toNat < 1280) : k0_chk3 v := by
  intro a
  rw [off12_eq v h]
  match a with
  | 0 => show 9 * v.toNat + 8 ≤ 11520; omega
  | 1 => show 0 + 128 ≤ 128; omega
theorem off15_eq (v : BitVec 32) (h : v.toNat < 1280) : k0_off15 v = ![7 * v.toNat, 0] :=
  congrArg (fun n : ℕ => (![n, 0] : Fin 2 → ℕ)) (times_nat v 7 h (by decide))
theorem chk4_of (v : BitVec 32) (h : v.toNat < 1280) : k0_chk4 v := by
  intro a
  rw [off15_eq v h]
  match a with
  | 0 => show 7 * v.toNat + 8 ≤ 8968; omega
  | 1 => show 0 + 128 ≤ 128; omega
theorem off17_eq (v : BitVec 32) (h : v.toNat < 1280) : k0_off17 v = ![7 * v.toNat, 0] :=
  congrArg (fun n : ℕ => (![n, 0] : Fin 2 → ℕ)) (times_nat v 7 h (by decide))
theorem chk5_of (v : BitVec 32) (h : v.toNat < 1280) : k0_chk5 v := by
  intro a
  rw [off17_eq v h]
  match a with
  | 0 => show 7 * v.toNat + 8 ≤ 8968; omega
  | 1 => show 0 + 128 ≤ 128; omega
theorem off19_eq {v4 v7 : BitVec 32} (h : Seg v4 v7) (t : Fin (k0_t3_loop v4 v7).trips) (k : Fin k0_t4_loop.trips) :
    k0_off19 v4 v7 t k = ![min (v4.toNat + 256 * t.val + 2 * (8 * k.val + 1)) 34559] :=
  congrArg (fun n : ℕ => (![n] : Fin 1 → ℕ)) (even_nat v4 t.val k.val 1 h.le (t3_lt h t) (t4_lt k) (by decide))
theorem off21_eq {v4 v7 : BitVec 32} (h : Seg v4 v7) (t : Fin (k0_t3_loop v4 v7).trips) (k : Fin k0_t4_loop.trips) :
    k0_off21 v4 v7 t k = ![min (v4.toNat + 256 * t.val + 2 * (8 * k.val + 1) + 1) 34559] :=
  congrArg (fun n : ℕ => (![n] : Fin 1 → ℕ)) (odd_nat v4 t.val k.val 1 h.le (t3_lt h t) (t4_lt k) (by decide))
theorem off24_eq {v4 v7 : BitVec 32} (h : Seg v4 v7) (t : Fin (k0_t3_loop v4 v7).trips) (k : Fin k0_t4_loop.trips) :
    k0_off24 v4 v7 t k = ![min (v4.toNat + 256 * t.val + 2 * (8 * k.val + 1)) 34559] :=
  congrArg (fun n : ℕ => (![n] : Fin 1 → ℕ)) (even_nat v4 t.val k.val 1 h.le (t3_lt h t) (t4_lt k) (by decide))
theorem off26_eq {v4 v7 : BitVec 32} (h : Seg v4 v7) (t : Fin (k0_t3_loop v4 v7).trips) (k : Fin k0_t4_loop.trips) :
    k0_off26 v4 v7 t k = ![min (v4.toNat + 256 * t.val + 2 * (8 * k.val + 1) + 1) 34559] :=
  congrArg (fun n : ℕ => (![n] : Fin 1 → ℕ)) (odd_nat v4 t.val k.val 1 h.le (t3_lt h t) (t4_lt k) (by decide))
theorem off20_eq (v : BitVec 32) (h : v.toNat < 1280) : k0_off20 v = ![9 * v.toNat, 0] :=
  congrArg (fun n : ℕ => (![n, 0] : Fin 2 → ℕ)) (times_nat v 9 h (by decide))
theorem chk6_of (v : BitVec 32) (h : v.toNat < 1280) : k0_chk6 v := by
  intro a
  rw [off20_eq v h]
  match a with
  | 0 => show 9 * v.toNat + 8 ≤ 11520; omega
  | 1 => show 0 + 128 ≤ 128; omega
theorem off22_eq (v : BitVec 32) (h : v.toNat < 1280) : k0_off22 v = ![9 * v.toNat, 0] :=
  congrArg (fun n : ℕ => (![n, 0] : Fin 2 → ℕ)) (times_nat v 9 h (by decide))
theorem chk7_of (v : BitVec 32) (h : v.toNat < 1280) : k0_chk7 v := by
  intro a
  rw [off22_eq v h]
  match a with
  | 0 => show 9 * v.toNat + 8 ≤ 11520; omega
  | 1 => show 0 + 128 ≤ 128; omega
theorem off25_eq (v : BitVec 32) (h : v.toNat < 1280) : k0_off25 v = ![7 * v.toNat, 0] :=
  congrArg (fun n : ℕ => (![n, 0] : Fin 2 → ℕ)) (times_nat v 7 h (by decide))
theorem chk8_of (v : BitVec 32) (h : v.toNat < 1280) : k0_chk8 v := by
  intro a
  rw [off25_eq v h]
  match a with
  | 0 => show 7 * v.toNat + 8 ≤ 8968; omega
  | 1 => show 0 + 128 ≤ 128; omega
theorem off27_eq (v : BitVec 32) (h : v.toNat < 1280) : k0_off27 v = ![7 * v.toNat, 0] :=
  congrArg (fun n : ℕ => (![n, 0] : Fin 2 → ℕ)) (times_nat v 7 h (by decide))
theorem chk9_of (v : BitVec 32) (h : v.toNat < 1280) : k0_chk9 v := by
  intro a
  rw [off27_eq v h]
  match a with
  | 0 => show 7 * v.toNat + 8 ≤ 8968; omega
  | 1 => show 0 + 128 ≤ 128; omega
theorem off29_eq {v4 v7 : BitVec 32} (h : Seg v4 v7) (t : Fin (k0_t3_loop v4 v7).trips) (k : Fin k0_t4_loop.trips) :
    k0_off29 v4 v7 t k = ![min (v4.toNat + 256 * t.val + 2 * (8 * k.val + 2)) 34559] :=
  congrArg (fun n : ℕ => (![n] : Fin 1 → ℕ)) (even_nat v4 t.val k.val 2 h.le (t3_lt h t) (t4_lt k) (by decide))
theorem off31_eq {v4 v7 : BitVec 32} (h : Seg v4 v7) (t : Fin (k0_t3_loop v4 v7).trips) (k : Fin k0_t4_loop.trips) :
    k0_off31 v4 v7 t k = ![min (v4.toNat + 256 * t.val + 2 * (8 * k.val + 2) + 1) 34559] :=
  congrArg (fun n : ℕ => (![n] : Fin 1 → ℕ)) (odd_nat v4 t.val k.val 2 h.le (t3_lt h t) (t4_lt k) (by decide))
theorem off34_eq {v4 v7 : BitVec 32} (h : Seg v4 v7) (t : Fin (k0_t3_loop v4 v7).trips) (k : Fin k0_t4_loop.trips) :
    k0_off34 v4 v7 t k = ![min (v4.toNat + 256 * t.val + 2 * (8 * k.val + 2)) 34559] :=
  congrArg (fun n : ℕ => (![n] : Fin 1 → ℕ)) (even_nat v4 t.val k.val 2 h.le (t3_lt h t) (t4_lt k) (by decide))
theorem off36_eq {v4 v7 : BitVec 32} (h : Seg v4 v7) (t : Fin (k0_t3_loop v4 v7).trips) (k : Fin k0_t4_loop.trips) :
    k0_off36 v4 v7 t k = ![min (v4.toNat + 256 * t.val + 2 * (8 * k.val + 2) + 1) 34559] :=
  congrArg (fun n : ℕ => (![n] : Fin 1 → ℕ)) (odd_nat v4 t.val k.val 2 h.le (t3_lt h t) (t4_lt k) (by decide))
theorem off30_eq (v : BitVec 32) (h : v.toNat < 1280) : k0_off30 v = ![9 * v.toNat, 0] :=
  congrArg (fun n : ℕ => (![n, 0] : Fin 2 → ℕ)) (times_nat v 9 h (by decide))
theorem chk10_of (v : BitVec 32) (h : v.toNat < 1280) : k0_chk10 v := by
  intro a
  rw [off30_eq v h]
  match a with
  | 0 => show 9 * v.toNat + 8 ≤ 11520; omega
  | 1 => show 0 + 128 ≤ 128; omega
theorem off32_eq (v : BitVec 32) (h : v.toNat < 1280) : k0_off32 v = ![9 * v.toNat, 0] :=
  congrArg (fun n : ℕ => (![n, 0] : Fin 2 → ℕ)) (times_nat v 9 h (by decide))
theorem chk11_of (v : BitVec 32) (h : v.toNat < 1280) : k0_chk11 v := by
  intro a
  rw [off32_eq v h]
  match a with
  | 0 => show 9 * v.toNat + 8 ≤ 11520; omega
  | 1 => show 0 + 128 ≤ 128; omega
theorem off35_eq (v : BitVec 32) (h : v.toNat < 1280) : k0_off35 v = ![7 * v.toNat, 0] :=
  congrArg (fun n : ℕ => (![n, 0] : Fin 2 → ℕ)) (times_nat v 7 h (by decide))
theorem chk12_of (v : BitVec 32) (h : v.toNat < 1280) : k0_chk12 v := by
  intro a
  rw [off35_eq v h]
  match a with
  | 0 => show 7 * v.toNat + 8 ≤ 8968; omega
  | 1 => show 0 + 128 ≤ 128; omega
theorem off37_eq (v : BitVec 32) (h : v.toNat < 1280) : k0_off37 v = ![7 * v.toNat, 0] :=
  congrArg (fun n : ℕ => (![n, 0] : Fin 2 → ℕ)) (times_nat v 7 h (by decide))
theorem chk13_of (v : BitVec 32) (h : v.toNat < 1280) : k0_chk13 v := by
  intro a
  rw [off37_eq v h]
  match a with
  | 0 => show 7 * v.toNat + 8 ≤ 8968; omega
  | 1 => show 0 + 128 ≤ 128; omega
theorem off39_eq {v4 v7 : BitVec 32} (h : Seg v4 v7) (t : Fin (k0_t3_loop v4 v7).trips) (k : Fin k0_t4_loop.trips) :
    k0_off39 v4 v7 t k = ![min (v4.toNat + 256 * t.val + 2 * (8 * k.val + 3)) 34559] :=
  congrArg (fun n : ℕ => (![n] : Fin 1 → ℕ)) (even_nat v4 t.val k.val 3 h.le (t3_lt h t) (t4_lt k) (by decide))
theorem off41_eq {v4 v7 : BitVec 32} (h : Seg v4 v7) (t : Fin (k0_t3_loop v4 v7).trips) (k : Fin k0_t4_loop.trips) :
    k0_off41 v4 v7 t k = ![min (v4.toNat + 256 * t.val + 2 * (8 * k.val + 3) + 1) 34559] :=
  congrArg (fun n : ℕ => (![n] : Fin 1 → ℕ)) (odd_nat v4 t.val k.val 3 h.le (t3_lt h t) (t4_lt k) (by decide))
theorem off44_eq {v4 v7 : BitVec 32} (h : Seg v4 v7) (t : Fin (k0_t3_loop v4 v7).trips) (k : Fin k0_t4_loop.trips) :
    k0_off44 v4 v7 t k = ![min (v4.toNat + 256 * t.val + 2 * (8 * k.val + 3)) 34559] :=
  congrArg (fun n : ℕ => (![n] : Fin 1 → ℕ)) (even_nat v4 t.val k.val 3 h.le (t3_lt h t) (t4_lt k) (by decide))
theorem off46_eq {v4 v7 : BitVec 32} (h : Seg v4 v7) (t : Fin (k0_t3_loop v4 v7).trips) (k : Fin k0_t4_loop.trips) :
    k0_off46 v4 v7 t k = ![min (v4.toNat + 256 * t.val + 2 * (8 * k.val + 3) + 1) 34559] :=
  congrArg (fun n : ℕ => (![n] : Fin 1 → ℕ)) (odd_nat v4 t.val k.val 3 h.le (t3_lt h t) (t4_lt k) (by decide))
theorem off40_eq (v : BitVec 32) (h : v.toNat < 1280) : k0_off40 v = ![9 * v.toNat, 0] :=
  congrArg (fun n : ℕ => (![n, 0] : Fin 2 → ℕ)) (times_nat v 9 h (by decide))
theorem chk14_of (v : BitVec 32) (h : v.toNat < 1280) : k0_chk14 v := by
  intro a
  rw [off40_eq v h]
  match a with
  | 0 => show 9 * v.toNat + 8 ≤ 11520; omega
  | 1 => show 0 + 128 ≤ 128; omega
theorem off42_eq (v : BitVec 32) (h : v.toNat < 1280) : k0_off42 v = ![9 * v.toNat, 0] :=
  congrArg (fun n : ℕ => (![n, 0] : Fin 2 → ℕ)) (times_nat v 9 h (by decide))
theorem chk15_of (v : BitVec 32) (h : v.toNat < 1280) : k0_chk15 v := by
  intro a
  rw [off42_eq v h]
  match a with
  | 0 => show 9 * v.toNat + 8 ≤ 11520; omega
  | 1 => show 0 + 128 ≤ 128; omega
theorem off45_eq (v : BitVec 32) (h : v.toNat < 1280) : k0_off45 v = ![7 * v.toNat, 0] :=
  congrArg (fun n : ℕ => (![n, 0] : Fin 2 → ℕ)) (times_nat v 7 h (by decide))
theorem chk16_of (v : BitVec 32) (h : v.toNat < 1280) : k0_chk16 v := by
  intro a
  rw [off45_eq v h]
  match a with
  | 0 => show 7 * v.toNat + 8 ≤ 8968; omega
  | 1 => show 0 + 128 ≤ 128; omega
theorem off47_eq (v : BitVec 32) (h : v.toNat < 1280) : k0_off47 v = ![7 * v.toNat, 0] :=
  congrArg (fun n : ℕ => (![n, 0] : Fin 2 → ℕ)) (times_nat v 7 h (by decide))
theorem chk17_of (v : BitVec 32) (h : v.toNat < 1280) : k0_chk17 v := by
  intro a
  rw [off47_eq v h]
  match a with
  | 0 => show 7 * v.toNat + 8 ≤ 8968; omega
  | 1 => show 0 + 128 ≤ 128; omega
theorem off49_eq {v4 v7 : BitVec 32} (h : Seg v4 v7) (t : Fin (k0_t3_loop v4 v7).trips) (k : Fin k0_t4_loop.trips) :
    k0_off49 v4 v7 t k = ![min (v4.toNat + 256 * t.val + 2 * (8 * k.val + 4)) 34559] :=
  congrArg (fun n : ℕ => (![n] : Fin 1 → ℕ)) (even_nat v4 t.val k.val 4 h.le (t3_lt h t) (t4_lt k) (by decide))
theorem off51_eq {v4 v7 : BitVec 32} (h : Seg v4 v7) (t : Fin (k0_t3_loop v4 v7).trips) (k : Fin k0_t4_loop.trips) :
    k0_off51 v4 v7 t k = ![min (v4.toNat + 256 * t.val + 2 * (8 * k.val + 4) + 1) 34559] :=
  congrArg (fun n : ℕ => (![n] : Fin 1 → ℕ)) (odd_nat v4 t.val k.val 4 h.le (t3_lt h t) (t4_lt k) (by decide))
theorem off54_eq {v4 v7 : BitVec 32} (h : Seg v4 v7) (t : Fin (k0_t3_loop v4 v7).trips) (k : Fin k0_t4_loop.trips) :
    k0_off54 v4 v7 t k = ![min (v4.toNat + 256 * t.val + 2 * (8 * k.val + 4)) 34559] :=
  congrArg (fun n : ℕ => (![n] : Fin 1 → ℕ)) (even_nat v4 t.val k.val 4 h.le (t3_lt h t) (t4_lt k) (by decide))
theorem off56_eq {v4 v7 : BitVec 32} (h : Seg v4 v7) (t : Fin (k0_t3_loop v4 v7).trips) (k : Fin k0_t4_loop.trips) :
    k0_off56 v4 v7 t k = ![min (v4.toNat + 256 * t.val + 2 * (8 * k.val + 4) + 1) 34559] :=
  congrArg (fun n : ℕ => (![n] : Fin 1 → ℕ)) (odd_nat v4 t.val k.val 4 h.le (t3_lt h t) (t4_lt k) (by decide))
theorem off50_eq (v : BitVec 32) (h : v.toNat < 1280) : k0_off50 v = ![9 * v.toNat, 0] :=
  congrArg (fun n : ℕ => (![n, 0] : Fin 2 → ℕ)) (times_nat v 9 h (by decide))
theorem chk18_of (v : BitVec 32) (h : v.toNat < 1280) : k0_chk18 v := by
  intro a
  rw [off50_eq v h]
  match a with
  | 0 => show 9 * v.toNat + 8 ≤ 11520; omega
  | 1 => show 0 + 128 ≤ 128; omega
theorem off52_eq (v : BitVec 32) (h : v.toNat < 1280) : k0_off52 v = ![9 * v.toNat, 0] :=
  congrArg (fun n : ℕ => (![n, 0] : Fin 2 → ℕ)) (times_nat v 9 h (by decide))
theorem chk19_of (v : BitVec 32) (h : v.toNat < 1280) : k0_chk19 v := by
  intro a
  rw [off52_eq v h]
  match a with
  | 0 => show 9 * v.toNat + 8 ≤ 11520; omega
  | 1 => show 0 + 128 ≤ 128; omega
theorem off55_eq (v : BitVec 32) (h : v.toNat < 1280) : k0_off55 v = ![7 * v.toNat, 0] :=
  congrArg (fun n : ℕ => (![n, 0] : Fin 2 → ℕ)) (times_nat v 7 h (by decide))
theorem chk20_of (v : BitVec 32) (h : v.toNat < 1280) : k0_chk20 v := by
  intro a
  rw [off55_eq v h]
  match a with
  | 0 => show 7 * v.toNat + 8 ≤ 8968; omega
  | 1 => show 0 + 128 ≤ 128; omega
theorem off57_eq (v : BitVec 32) (h : v.toNat < 1280) : k0_off57 v = ![7 * v.toNat, 0] :=
  congrArg (fun n : ℕ => (![n, 0] : Fin 2 → ℕ)) (times_nat v 7 h (by decide))
theorem chk21_of (v : BitVec 32) (h : v.toNat < 1280) : k0_chk21 v := by
  intro a
  rw [off57_eq v h]
  match a with
  | 0 => show 7 * v.toNat + 8 ≤ 8968; omega
  | 1 => show 0 + 128 ≤ 128; omega
theorem off59_eq {v4 v7 : BitVec 32} (h : Seg v4 v7) (t : Fin (k0_t3_loop v4 v7).trips) (k : Fin k0_t4_loop.trips) :
    k0_off59 v4 v7 t k = ![min (v4.toNat + 256 * t.val + 2 * (8 * k.val + 5)) 34559] :=
  congrArg (fun n : ℕ => (![n] : Fin 1 → ℕ)) (even_nat v4 t.val k.val 5 h.le (t3_lt h t) (t4_lt k) (by decide))
theorem off61_eq {v4 v7 : BitVec 32} (h : Seg v4 v7) (t : Fin (k0_t3_loop v4 v7).trips) (k : Fin k0_t4_loop.trips) :
    k0_off61 v4 v7 t k = ![min (v4.toNat + 256 * t.val + 2 * (8 * k.val + 5) + 1) 34559] :=
  congrArg (fun n : ℕ => (![n] : Fin 1 → ℕ)) (odd_nat v4 t.val k.val 5 h.le (t3_lt h t) (t4_lt k) (by decide))
theorem off64_eq {v4 v7 : BitVec 32} (h : Seg v4 v7) (t : Fin (k0_t3_loop v4 v7).trips) (k : Fin k0_t4_loop.trips) :
    k0_off64 v4 v7 t k = ![min (v4.toNat + 256 * t.val + 2 * (8 * k.val + 5)) 34559] :=
  congrArg (fun n : ℕ => (![n] : Fin 1 → ℕ)) (even_nat v4 t.val k.val 5 h.le (t3_lt h t) (t4_lt k) (by decide))
theorem off66_eq {v4 v7 : BitVec 32} (h : Seg v4 v7) (t : Fin (k0_t3_loop v4 v7).trips) (k : Fin k0_t4_loop.trips) :
    k0_off66 v4 v7 t k = ![min (v4.toNat + 256 * t.val + 2 * (8 * k.val + 5) + 1) 34559] :=
  congrArg (fun n : ℕ => (![n] : Fin 1 → ℕ)) (odd_nat v4 t.val k.val 5 h.le (t3_lt h t) (t4_lt k) (by decide))
theorem off60_eq (v : BitVec 32) (h : v.toNat < 1280) : k0_off60 v = ![9 * v.toNat, 0] :=
  congrArg (fun n : ℕ => (![n, 0] : Fin 2 → ℕ)) (times_nat v 9 h (by decide))
theorem chk22_of (v : BitVec 32) (h : v.toNat < 1280) : k0_chk22 v := by
  intro a
  rw [off60_eq v h]
  match a with
  | 0 => show 9 * v.toNat + 8 ≤ 11520; omega
  | 1 => show 0 + 128 ≤ 128; omega
theorem off62_eq (v : BitVec 32) (h : v.toNat < 1280) : k0_off62 v = ![9 * v.toNat, 0] :=
  congrArg (fun n : ℕ => (![n, 0] : Fin 2 → ℕ)) (times_nat v 9 h (by decide))
theorem chk23_of (v : BitVec 32) (h : v.toNat < 1280) : k0_chk23 v := by
  intro a
  rw [off62_eq v h]
  match a with
  | 0 => show 9 * v.toNat + 8 ≤ 11520; omega
  | 1 => show 0 + 128 ≤ 128; omega
theorem off65_eq (v : BitVec 32) (h : v.toNat < 1280) : k0_off65 v = ![7 * v.toNat, 0] :=
  congrArg (fun n : ℕ => (![n, 0] : Fin 2 → ℕ)) (times_nat v 7 h (by decide))
theorem chk24_of (v : BitVec 32) (h : v.toNat < 1280) : k0_chk24 v := by
  intro a
  rw [off65_eq v h]
  match a with
  | 0 => show 7 * v.toNat + 8 ≤ 8968; omega
  | 1 => show 0 + 128 ≤ 128; omega
theorem off67_eq (v : BitVec 32) (h : v.toNat < 1280) : k0_off67 v = ![7 * v.toNat, 0] :=
  congrArg (fun n : ℕ => (![n, 0] : Fin 2 → ℕ)) (times_nat v 7 h (by decide))
theorem chk25_of (v : BitVec 32) (h : v.toNat < 1280) : k0_chk25 v := by
  intro a
  rw [off67_eq v h]
  match a with
  | 0 => show 7 * v.toNat + 8 ≤ 8968; omega
  | 1 => show 0 + 128 ≤ 128; omega
theorem off69_eq {v4 v7 : BitVec 32} (h : Seg v4 v7) (t : Fin (k0_t3_loop v4 v7).trips) (k : Fin k0_t4_loop.trips) :
    k0_off69 v4 v7 t k = ![min (v4.toNat + 256 * t.val + 2 * (8 * k.val + 6)) 34559] :=
  congrArg (fun n : ℕ => (![n] : Fin 1 → ℕ)) (even_nat v4 t.val k.val 6 h.le (t3_lt h t) (t4_lt k) (by decide))
theorem off71_eq {v4 v7 : BitVec 32} (h : Seg v4 v7) (t : Fin (k0_t3_loop v4 v7).trips) (k : Fin k0_t4_loop.trips) :
    k0_off71 v4 v7 t k = ![min (v4.toNat + 256 * t.val + 2 * (8 * k.val + 6) + 1) 34559] :=
  congrArg (fun n : ℕ => (![n] : Fin 1 → ℕ)) (odd_nat v4 t.val k.val 6 h.le (t3_lt h t) (t4_lt k) (by decide))
theorem off74_eq {v4 v7 : BitVec 32} (h : Seg v4 v7) (t : Fin (k0_t3_loop v4 v7).trips) (k : Fin k0_t4_loop.trips) :
    k0_off74 v4 v7 t k = ![min (v4.toNat + 256 * t.val + 2 * (8 * k.val + 6)) 34559] :=
  congrArg (fun n : ℕ => (![n] : Fin 1 → ℕ)) (even_nat v4 t.val k.val 6 h.le (t3_lt h t) (t4_lt k) (by decide))
theorem off76_eq {v4 v7 : BitVec 32} (h : Seg v4 v7) (t : Fin (k0_t3_loop v4 v7).trips) (k : Fin k0_t4_loop.trips) :
    k0_off76 v4 v7 t k = ![min (v4.toNat + 256 * t.val + 2 * (8 * k.val + 6) + 1) 34559] :=
  congrArg (fun n : ℕ => (![n] : Fin 1 → ℕ)) (odd_nat v4 t.val k.val 6 h.le (t3_lt h t) (t4_lt k) (by decide))
theorem off70_eq (v : BitVec 32) (h : v.toNat < 1280) : k0_off70 v = ![9 * v.toNat, 0] :=
  congrArg (fun n : ℕ => (![n, 0] : Fin 2 → ℕ)) (times_nat v 9 h (by decide))
theorem chk26_of (v : BitVec 32) (h : v.toNat < 1280) : k0_chk26 v := by
  intro a
  rw [off70_eq v h]
  match a with
  | 0 => show 9 * v.toNat + 8 ≤ 11520; omega
  | 1 => show 0 + 128 ≤ 128; omega
theorem off72_eq (v : BitVec 32) (h : v.toNat < 1280) : k0_off72 v = ![9 * v.toNat, 0] :=
  congrArg (fun n : ℕ => (![n, 0] : Fin 2 → ℕ)) (times_nat v 9 h (by decide))
theorem chk27_of (v : BitVec 32) (h : v.toNat < 1280) : k0_chk27 v := by
  intro a
  rw [off72_eq v h]
  match a with
  | 0 => show 9 * v.toNat + 8 ≤ 11520; omega
  | 1 => show 0 + 128 ≤ 128; omega
theorem off75_eq (v : BitVec 32) (h : v.toNat < 1280) : k0_off75 v = ![7 * v.toNat, 0] :=
  congrArg (fun n : ℕ => (![n, 0] : Fin 2 → ℕ)) (times_nat v 7 h (by decide))
theorem chk28_of (v : BitVec 32) (h : v.toNat < 1280) : k0_chk28 v := by
  intro a
  rw [off75_eq v h]
  match a with
  | 0 => show 7 * v.toNat + 8 ≤ 8968; omega
  | 1 => show 0 + 128 ≤ 128; omega
theorem off77_eq (v : BitVec 32) (h : v.toNat < 1280) : k0_off77 v = ![7 * v.toNat, 0] :=
  congrArg (fun n : ℕ => (![n, 0] : Fin 2 → ℕ)) (times_nat v 7 h (by decide))
theorem chk29_of (v : BitVec 32) (h : v.toNat < 1280) : k0_chk29 v := by
  intro a
  rw [off77_eq v h]
  match a with
  | 0 => show 7 * v.toNat + 8 ≤ 8968; omega
  | 1 => show 0 + 128 ≤ 128; omega
theorem off79_eq {v4 v7 : BitVec 32} (h : Seg v4 v7) (t : Fin (k0_t3_loop v4 v7).trips) (k : Fin k0_t4_loop.trips) :
    k0_off79 v4 v7 t k = ![min (v4.toNat + 256 * t.val + 2 * (8 * k.val + 7)) 34559] :=
  congrArg (fun n : ℕ => (![n] : Fin 1 → ℕ)) (even_nat v4 t.val k.val 7 h.le (t3_lt h t) (t4_lt k) (by decide))
theorem off81_eq {v4 v7 : BitVec 32} (h : Seg v4 v7) (t : Fin (k0_t3_loop v4 v7).trips) (k : Fin k0_t4_loop.trips) :
    k0_off81 v4 v7 t k = ![min (v4.toNat + 256 * t.val + 2 * (8 * k.val + 7) + 1) 34559] :=
  congrArg (fun n : ℕ => (![n] : Fin 1 → ℕ)) (odd_nat v4 t.val k.val 7 h.le (t3_lt h t) (t4_lt k) (by decide))
theorem off84_eq {v4 v7 : BitVec 32} (h : Seg v4 v7) (t : Fin (k0_t3_loop v4 v7).trips) (k : Fin k0_t4_loop.trips) :
    k0_off84 v4 v7 t k = ![min (v4.toNat + 256 * t.val + 2 * (8 * k.val + 7)) 34559] :=
  congrArg (fun n : ℕ => (![n] : Fin 1 → ℕ)) (even_nat v4 t.val k.val 7 h.le (t3_lt h t) (t4_lt k) (by decide))
theorem off86_eq {v4 v7 : BitVec 32} (h : Seg v4 v7) (t : Fin (k0_t3_loop v4 v7).trips) (k : Fin k0_t4_loop.trips) :
    k0_off86 v4 v7 t k = ![min (v4.toNat + 256 * t.val + 2 * (8 * k.val + 7) + 1) 34559] :=
  congrArg (fun n : ℕ => (![n] : Fin 1 → ℕ)) (odd_nat v4 t.val k.val 7 h.le (t3_lt h t) (t4_lt k) (by decide))
theorem off80_eq (v : BitVec 32) (h : v.toNat < 1280) : k0_off80 v = ![9 * v.toNat, 0] :=
  congrArg (fun n : ℕ => (![n, 0] : Fin 2 → ℕ)) (times_nat v 9 h (by decide))
theorem chk30_of (v : BitVec 32) (h : v.toNat < 1280) : k0_chk30 v := by
  intro a
  rw [off80_eq v h]
  match a with
  | 0 => show 9 * v.toNat + 8 ≤ 11520; omega
  | 1 => show 0 + 128 ≤ 128; omega
theorem off82_eq (v : BitVec 32) (h : v.toNat < 1280) : k0_off82 v = ![9 * v.toNat, 0] :=
  congrArg (fun n : ℕ => (![n, 0] : Fin 2 → ℕ)) (times_nat v 9 h (by decide))
theorem chk31_of (v : BitVec 32) (h : v.toNat < 1280) : k0_chk31 v := by
  intro a
  rw [off82_eq v h]
  match a with
  | 0 => show 9 * v.toNat + 8 ≤ 11520; omega
  | 1 => show 0 + 128 ≤ 128; omega
theorem off85_eq (v : BitVec 32) (h : v.toNat < 1280) : k0_off85 v = ![7 * v.toNat, 0] :=
  congrArg (fun n : ℕ => (![n, 0] : Fin 2 → ℕ)) (times_nat v 7 h (by decide))
theorem chk32_of (v : BitVec 32) (h : v.toNat < 1280) : k0_chk32 v := by
  intro a
  rw [off85_eq v h]
  match a with
  | 0 => show 7 * v.toNat + 8 ≤ 8968; omega
  | 1 => show 0 + 128 ≤ 128; omega
theorem off87_eq (v : BitVec 32) (h : v.toNat < 1280) : k0_off87 v = ![7 * v.toNat, 0] :=
  congrArg (fun n : ℕ => (![n, 0] : Fin 2 → ℕ)) (times_nat v 7 h (by decide))
theorem chk33_of (v : BitVec 32) (h : v.toNat < 1280) : k0_chk33 v := by
  intro a
  rw [off87_eq v h]
  match a with
  | 0 => show 7 * v.toNat + 8 ≤ 8968; omega
  | 1 => show 0 + 128 ≤ 128; omega

theorem bnd1 (n : ℕ) (a : Fin 1) : (![min n 34559] : Fin 1 → ℕ) a + S1.size a ≤ S34560.size a := by
  match a with
  | 0 => show min n 34559 + 1 ≤ 34560; omega

theorem inb9 {v4 v7 : BitVec 32} (h : Seg v4 v7) (t : Fin (k0_t3_loop v4 v7).trips) (k : Fin k0_t4_loop.trips) (a : Fin 1) : (k0_off9 v4 v7 t k) a + S1.size a ≤ S34560.size a := by
  rw [off9_eq h t k]; exact bnd1 _ a
theorem inb11 {v4 v7 : BitVec 32} (h : Seg v4 v7) (t : Fin (k0_t3_loop v4 v7).trips) (k : Fin k0_t4_loop.trips) (a : Fin 1) : (k0_off11 v4 v7 t k) a + S1.size a ≤ S34560.size a := by
  rw [off11_eq h t k]; exact bnd1 _ a
theorem inb14 {v4 v7 : BitVec 32} (h : Seg v4 v7) (t : Fin (k0_t3_loop v4 v7).trips) (k : Fin k0_t4_loop.trips) (a : Fin 1) : (k0_off14 v4 v7 t k) a + S1.size a ≤ S34560.size a := by
  rw [off14_eq h t k]; exact bnd1 _ a
theorem inb16 {v4 v7 : BitVec 32} (h : Seg v4 v7) (t : Fin (k0_t3_loop v4 v7).trips) (k : Fin k0_t4_loop.trips) (a : Fin 1) : (k0_off16 v4 v7 t k) a + S1.size a ≤ S34560.size a := by
  rw [off16_eq h t k]; exact bnd1 _ a
theorem inb19 {v4 v7 : BitVec 32} (h : Seg v4 v7) (t : Fin (k0_t3_loop v4 v7).trips) (k : Fin k0_t4_loop.trips) (a : Fin 1) : (k0_off19 v4 v7 t k) a + S1.size a ≤ S34560.size a := by
  rw [off19_eq h t k]; exact bnd1 _ a
theorem inb21 {v4 v7 : BitVec 32} (h : Seg v4 v7) (t : Fin (k0_t3_loop v4 v7).trips) (k : Fin k0_t4_loop.trips) (a : Fin 1) : (k0_off21 v4 v7 t k) a + S1.size a ≤ S34560.size a := by
  rw [off21_eq h t k]; exact bnd1 _ a
theorem inb24 {v4 v7 : BitVec 32} (h : Seg v4 v7) (t : Fin (k0_t3_loop v4 v7).trips) (k : Fin k0_t4_loop.trips) (a : Fin 1) : (k0_off24 v4 v7 t k) a + S1.size a ≤ S34560.size a := by
  rw [off24_eq h t k]; exact bnd1 _ a
theorem inb26 {v4 v7 : BitVec 32} (h : Seg v4 v7) (t : Fin (k0_t3_loop v4 v7).trips) (k : Fin k0_t4_loop.trips) (a : Fin 1) : (k0_off26 v4 v7 t k) a + S1.size a ≤ S34560.size a := by
  rw [off26_eq h t k]; exact bnd1 _ a
theorem inb29 {v4 v7 : BitVec 32} (h : Seg v4 v7) (t : Fin (k0_t3_loop v4 v7).trips) (k : Fin k0_t4_loop.trips) (a : Fin 1) : (k0_off29 v4 v7 t k) a + S1.size a ≤ S34560.size a := by
  rw [off29_eq h t k]; exact bnd1 _ a
theorem inb31 {v4 v7 : BitVec 32} (h : Seg v4 v7) (t : Fin (k0_t3_loop v4 v7).trips) (k : Fin k0_t4_loop.trips) (a : Fin 1) : (k0_off31 v4 v7 t k) a + S1.size a ≤ S34560.size a := by
  rw [off31_eq h t k]; exact bnd1 _ a
theorem inb34 {v4 v7 : BitVec 32} (h : Seg v4 v7) (t : Fin (k0_t3_loop v4 v7).trips) (k : Fin k0_t4_loop.trips) (a : Fin 1) : (k0_off34 v4 v7 t k) a + S1.size a ≤ S34560.size a := by
  rw [off34_eq h t k]; exact bnd1 _ a
theorem inb36 {v4 v7 : BitVec 32} (h : Seg v4 v7) (t : Fin (k0_t3_loop v4 v7).trips) (k : Fin k0_t4_loop.trips) (a : Fin 1) : (k0_off36 v4 v7 t k) a + S1.size a ≤ S34560.size a := by
  rw [off36_eq h t k]; exact bnd1 _ a
theorem inb39 {v4 v7 : BitVec 32} (h : Seg v4 v7) (t : Fin (k0_t3_loop v4 v7).trips) (k : Fin k0_t4_loop.trips) (a : Fin 1) : (k0_off39 v4 v7 t k) a + S1.size a ≤ S34560.size a := by
  rw [off39_eq h t k]; exact bnd1 _ a
theorem inb41 {v4 v7 : BitVec 32} (h : Seg v4 v7) (t : Fin (k0_t3_loop v4 v7).trips) (k : Fin k0_t4_loop.trips) (a : Fin 1) : (k0_off41 v4 v7 t k) a + S1.size a ≤ S34560.size a := by
  rw [off41_eq h t k]; exact bnd1 _ a
theorem inb44 {v4 v7 : BitVec 32} (h : Seg v4 v7) (t : Fin (k0_t3_loop v4 v7).trips) (k : Fin k0_t4_loop.trips) (a : Fin 1) : (k0_off44 v4 v7 t k) a + S1.size a ≤ S34560.size a := by
  rw [off44_eq h t k]; exact bnd1 _ a
theorem inb46 {v4 v7 : BitVec 32} (h : Seg v4 v7) (t : Fin (k0_t3_loop v4 v7).trips) (k : Fin k0_t4_loop.trips) (a : Fin 1) : (k0_off46 v4 v7 t k) a + S1.size a ≤ S34560.size a := by
  rw [off46_eq h t k]; exact bnd1 _ a
theorem inb49 {v4 v7 : BitVec 32} (h : Seg v4 v7) (t : Fin (k0_t3_loop v4 v7).trips) (k : Fin k0_t4_loop.trips) (a : Fin 1) : (k0_off49 v4 v7 t k) a + S1.size a ≤ S34560.size a := by
  rw [off49_eq h t k]; exact bnd1 _ a
theorem inb51 {v4 v7 : BitVec 32} (h : Seg v4 v7) (t : Fin (k0_t3_loop v4 v7).trips) (k : Fin k0_t4_loop.trips) (a : Fin 1) : (k0_off51 v4 v7 t k) a + S1.size a ≤ S34560.size a := by
  rw [off51_eq h t k]; exact bnd1 _ a
theorem inb54 {v4 v7 : BitVec 32} (h : Seg v4 v7) (t : Fin (k0_t3_loop v4 v7).trips) (k : Fin k0_t4_loop.trips) (a : Fin 1) : (k0_off54 v4 v7 t k) a + S1.size a ≤ S34560.size a := by
  rw [off54_eq h t k]; exact bnd1 _ a
theorem inb56 {v4 v7 : BitVec 32} (h : Seg v4 v7) (t : Fin (k0_t3_loop v4 v7).trips) (k : Fin k0_t4_loop.trips) (a : Fin 1) : (k0_off56 v4 v7 t k) a + S1.size a ≤ S34560.size a := by
  rw [off56_eq h t k]; exact bnd1 _ a
theorem inb59 {v4 v7 : BitVec 32} (h : Seg v4 v7) (t : Fin (k0_t3_loop v4 v7).trips) (k : Fin k0_t4_loop.trips) (a : Fin 1) : (k0_off59 v4 v7 t k) a + S1.size a ≤ S34560.size a := by
  rw [off59_eq h t k]; exact bnd1 _ a
theorem inb61 {v4 v7 : BitVec 32} (h : Seg v4 v7) (t : Fin (k0_t3_loop v4 v7).trips) (k : Fin k0_t4_loop.trips) (a : Fin 1) : (k0_off61 v4 v7 t k) a + S1.size a ≤ S34560.size a := by
  rw [off61_eq h t k]; exact bnd1 _ a
theorem inb64 {v4 v7 : BitVec 32} (h : Seg v4 v7) (t : Fin (k0_t3_loop v4 v7).trips) (k : Fin k0_t4_loop.trips) (a : Fin 1) : (k0_off64 v4 v7 t k) a + S1.size a ≤ S34560.size a := by
  rw [off64_eq h t k]; exact bnd1 _ a
theorem inb66 {v4 v7 : BitVec 32} (h : Seg v4 v7) (t : Fin (k0_t3_loop v4 v7).trips) (k : Fin k0_t4_loop.trips) (a : Fin 1) : (k0_off66 v4 v7 t k) a + S1.size a ≤ S34560.size a := by
  rw [off66_eq h t k]; exact bnd1 _ a
theorem inb69 {v4 v7 : BitVec 32} (h : Seg v4 v7) (t : Fin (k0_t3_loop v4 v7).trips) (k : Fin k0_t4_loop.trips) (a : Fin 1) : (k0_off69 v4 v7 t k) a + S1.size a ≤ S34560.size a := by
  rw [off69_eq h t k]; exact bnd1 _ a
theorem inb71 {v4 v7 : BitVec 32} (h : Seg v4 v7) (t : Fin (k0_t3_loop v4 v7).trips) (k : Fin k0_t4_loop.trips) (a : Fin 1) : (k0_off71 v4 v7 t k) a + S1.size a ≤ S34560.size a := by
  rw [off71_eq h t k]; exact bnd1 _ a
theorem inb74 {v4 v7 : BitVec 32} (h : Seg v4 v7) (t : Fin (k0_t3_loop v4 v7).trips) (k : Fin k0_t4_loop.trips) (a : Fin 1) : (k0_off74 v4 v7 t k) a + S1.size a ≤ S34560.size a := by
  rw [off74_eq h t k]; exact bnd1 _ a
theorem inb76 {v4 v7 : BitVec 32} (h : Seg v4 v7) (t : Fin (k0_t3_loop v4 v7).trips) (k : Fin k0_t4_loop.trips) (a : Fin 1) : (k0_off76 v4 v7 t k) a + S1.size a ≤ S34560.size a := by
  rw [off76_eq h t k]; exact bnd1 _ a
theorem inb79 {v4 v7 : BitVec 32} (h : Seg v4 v7) (t : Fin (k0_t3_loop v4 v7).trips) (k : Fin k0_t4_loop.trips) (a : Fin 1) : (k0_off79 v4 v7 t k) a + S1.size a ≤ S34560.size a := by
  rw [off79_eq h t k]; exact bnd1 _ a
theorem inb81 {v4 v7 : BitVec 32} (h : Seg v4 v7) (t : Fin (k0_t3_loop v4 v7).trips) (k : Fin k0_t4_loop.trips) (a : Fin 1) : (k0_off81 v4 v7 t k) a + S1.size a ≤ S34560.size a := by
  rw [off81_eq h t k]; exact bnd1 _ a
theorem inb84 {v4 v7 : BitVec 32} (h : Seg v4 v7) (t : Fin (k0_t3_loop v4 v7).trips) (k : Fin k0_t4_loop.trips) (a : Fin 1) : (k0_off84 v4 v7 t k) a + S1.size a ≤ S34560.size a := by
  rw [off84_eq h t k]; exact bnd1 _ a
theorem inb86 {v4 v7 : BitVec 32} (h : Seg v4 v7) (t : Fin (k0_t3_loop v4 v7).trips) (k : Fin k0_t4_loop.trips) (a : Fin 1) : (k0_off86 v4 v7 t k) a + S1.size a ≤ S34560.size a := by
  rw [off86_eq h t k]; exact bnd1 _ a

theorem no5 {v4 v7 : BitVec 32} (h : Seg v4 v7) (t : Fin (k0_t5_loop v4 v7).trips) : False :=
  Nat.not_lt_zero t.val (Nat.lt_of_lt_of_eq t.isLt (trips5 h))

set_option maxHeartbeats 4000000 in
/-- The precondition on two neighbouring offsets implies what the body assumes once it has read them. -/
theorem chk1_of {v4 v7 : BitVec 32} (h : Seg v4 v7) : k0_chk1 v4 v7 := by
  have h0 : k0_chk1_0 v4 v7 := by
    unfold k0_chk1_0
    refine And.intro (ok3 h) ?_
    refine And.intro (inb9 h) ?_
    refine And.intro (inb11 h) ?_
    refine And.intro (inb14 h) ?_
    refine And.intro (inb16 h) ?_
    refine And.intro (inb19 h) ?_
    refine And.intro (inb21 h) ?_
    refine And.intro (inb24 h) ?_
    refine And.intro (inb26 h) ?_
    refine And.intro (inb29 h) ?_
    refine And.intro (inb31 h) ?_
    refine And.intro (inb34 h) ?_
    refine And.intro (inb36 h) ?_
    refine And.intro (inb39 h) ?_
    refine And.intro (inb41 h) ?_
    refine And.intro (inb44 h) ?_
    refine And.intro (inb46 h) ?_
    refine And.intro (inb49 h) ?_
    refine And.intro (inb51 h) ?_
    refine And.intro (inb54 h) ?_
    refine And.intro (inb56 h) ?_
    refine And.intro (inb59 h) ?_
    refine And.intro (inb61 h) ?_
    refine And.intro (inb64 h) ?_
    refine And.intro (inb66 h) ?_
    refine And.intro (inb69 h) ?_
    refine And.intro (inb71 h) ?_
    refine And.intro (inb74 h) ?_
    refine And.intro (inb76 h) ?_
    refine And.intro (inb79 h) ?_
    refine And.intro (inb81 h) ?_
    exact inb84 h
  have h1 : k0_chk1_1 v4 v7 := by
    unfold k0_chk1_1
    refine And.intro (inb86 h) ?_
    refine And.intro (ok5 h) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    refine And.intro (fun t => (no5 h t).elim) ?_
    exact fun t => (no5 h t).elim
  have h2 : k0_chk1_2 v4 v7 := by
    unfold k0_chk1_2
    refine And.intro (fun t => (no5 h t).elim) ?_
    exact fun t => (no5 h t).elim
  exact And.intro h0 (And.intro h1 h2)

end Cert.KernelIdeal.Hand
-- ==== Proof.WeakAKernelIdeal.lean ====
module

public import proofs.«01_k».proof.Proof.Gen.KernelIdeal.Loops
public import proofs.«01_k».proof.Proof.Gen.KernelIdeal.Frame
public import proofs.«01_k».proof.Proof.IdxKernelIdeal

@[expose] public section

set_option maxRecDepth 16384

noncomputable section

namespace Cert.KernelIdeal.Weak

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Hand

/-- A memref's elements, held outright at contents. -/
abbrev held (c : Dev nD) {sp : Space} {s : Shape} {e : EltTy} (m : Memref sig .tc sp s e) (f : BufTy.Contents (Elt Ideal) m.view.ty) : sProp (MT nD τ sig Unit (Elt Ideal) ℕ (UR sig nD τ) ℕ) :=
  m.view.loc (c : Thread nD τ) ↦[m.view.set]{fullShare} f

set_option warn.classDefReducibility false in
set_option maxHeartbeats 4000000 in
@[sl_loop] def loopInv_k0_t1 (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x2x128 .bf16) (harg12 : arg12.IsWhole) (arg13 : Memref sig .tc .vmem S1152x2x128 .bf16) (harg13 : arg13.IsWhole) (c : Dev nD) (k0_h1 : k0_cond1 i = 1#1) (v89 : Vec Ideal S1x128 .f32) (X4 : BufTy.Contents (Elt Ideal) arg4.view.ty) (X11 : BufTy.Contents (Elt Ideal) arg11.view.ty)  :
    Gen.LoopInvTy_k0_t1 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 k0_h1 v89 where
  inv _ _ := iprop(held c arg4 X4 ∗ held c arg11 X11 ∗ (∃ f, held c arg9 f))
  step k acc := by
    unfold k0_t1_body
    iintro ⟨H4, H11, ⟨%f9, H9⟩⟩
    sl_exec
    sl_step
    isplitl [H4]; · iexact H4
    isplitl [H11]; · iexact H11
    iexists _; iexact H9

set_option warn.classDefReducibility false in
set_option maxHeartbeats 4000000 in
@[sl_loop] def loopInv_k0_t2 (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x2x128 .bf16) (harg12 : arg12.IsWhole) (arg13 : Memref sig .tc .vmem S1152x2x128 .bf16) (harg13 : arg13.IsWhole) (c : Dev nD) (k0_h1 : k0_cond1 i = 1#1) (X6 : BufTy.Contents (Elt Ideal) arg6.view.ty) (X11 : BufTy.Contents (Elt Ideal) arg11.view.ty)  :
    Gen.LoopInvTy_k0_t2 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 k0_h1 where
  inv _ _ := iprop(held c arg6 X6 ∗ held c arg11 X11 ∗ (∃ f, held c arg10 f))
  step k acc := by
    unfold k0_t2_body
    iintro ⟨H6, H11, ⟨%f10, H10⟩⟩
    sl_exec
    sl_step
    isplitl [H6]; · iexact H6
    isplitl [H11]; · iexact H11
    iexists _; iexact H10

set_option warn.classDefReducibility false in
set_option maxHeartbeats 4000000 in
@[sl_loop] def loopInv_k0_t4 (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x2x128 .bf16) (harg12 : arg12.IsWhole) (arg13 : Memref sig .tc .vmem S1152x2x128 .bf16) (harg13 : arg13.IsWhole) (c : Dev nD) (v4 v7 : BitVec 32) (k0_hw1 : k0_chk1 v4 v7) (v8 c0 c1 : BitVec 32) (t : Fin (k0_t3_loop v4 v7).trips) (v18 : BitVec 32) (X2 : BufTy.Contents (Elt Ideal) arg2.view.ty) (X3 : BufTy.Contents (Elt Ideal) arg3.view.ty) (X9 : BufTy.Contents (Elt Ideal) arg9.view.ty) (X10 : BufTy.Contents (Elt Ideal) arg10.view.ty) (hX2 : ∀ (o : Fin 1 → ℕ) (i : ∀ a, o a + S1.size a ≤ S34560.size a) x, (arg2.view.readAt (Elt Ideal) (Rect.unit (s := S34560) o S1.size i).toLoadRect X2 x).toNat < 1280) (hX3 : ∀ (o : Fin 1 → ℕ) (i : ∀ a, o a + S1.size a ≤ S34560.size a) x, (arg3.view.readAt (Elt Ideal) (Rect.unit (s := S34560) o S1.size i).toLoadRect X3 x).toNat < 1280) :
    Gen.LoopInvTy_k0_t4 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v4 v7 k0_hw1 v8 c0 c1 t v18 where
  inv _ _ := iprop(held c arg2 X2 ∗ held c arg3 X3 ∗ held c arg9 X9 ∗ held c arg10 X10 ∗ (∃ f, held c arg12 f) ∗ (∃ f, held c arg13 f))
  step k acc := by
    unfold k0_t4_body
    iintro ⟨H2, H3, H9, H10, ⟨%f12, H12⟩, ⟨%f13, H13⟩⟩
    sl_exec (disch := first | ((with_reducible refine chk2_of _ ?_); exact hX2 _ _ _) | ((with_reducible refine chk3_of _ ?_); exact hX2 _ _ _) | ((with_reducible refine chk4_of _ ?_); exact hX3 _ _ _) | ((with_reducible refine chk5_of _ ?_); exact hX3 _ _ _) | ((with_reducible refine chk6_of _ ?_); exact hX2 _ _ _) | ((with_reducible refine chk7_of _ ?_); exact hX2 _ _ _) | ((with_reducible refine chk8_of _ ?_); exact hX3 _ _ _) | ((with_reducible refine chk9_of _ ?_); exact hX3 _ _ _) | ((with_reducible refine chk10_of _ ?_); exact hX2 _ _ _) | ((with_reducible refine chk11_of _ ?_); exact hX2 _ _ _) | ((with_reducible refine chk12_of _ ?_); exact hX3 _ _ _) | ((with_reducible refine chk13_of _ ?_); exact hX3 _ _ _) | ((with_reducible refine chk14_of _ ?_); exact hX2 _ _ _) | ((with_reducible refine chk15_of _ ?_); exact hX2 _ _ _) | ((with_reducible refine chk16_of _ ?_); exact hX3 _ _ _) | ((with_reducible refine chk17_of _ ?_); exact hX3 _ _ _) | ((with_reducible refine chk18_of _ ?_); exact hX2 _ _ _) | ((with_reducible refine chk19_of _ ?_); exact hX2 _ _ _) | ((with_reducible refine chk20_of _ ?_); exact hX3 _ _ _) | ((with_reducible refine chk21_of _ ?_); exact hX3 _ _ _) | ((with_reducible refine chk22_of _ ?_); exact hX2 _ _ _) | ((with_reducible refine chk23_of _ ?_); exact hX2 _ _ _) | ((with_reducible refine chk24_of _ ?_); exact hX3 _ _ _) | ((with_reducible refine chk25_of _ ?_); exact hX3 _ _ _) | ((with_reducible refine chk26_of _ ?_); exact hX2 _ _ _) | ((with_reducible refine chk27_of _ ?_); exact hX2 _ _ _) | ((with_reducible refine chk28_of _ ?_); exact hX3 _ _ _) | ((with_reducible refine chk29_of _ ?_); exact hX3 _ _ _) | ((with_reducible refine chk30_of _ ?_); exact hX2 _ _ _) | ((with_reducible refine chk31_of _ ?_); exact hX2 _ _ _) | ((with_reducible refine chk32_of _ ?_); exact hX3 _ _ _) | ((with_reducible refine chk33_of _ ?_); exact hX3 _ _ _))
    sl_step
    isplitl [H2]; · iexact H2
    isplitl [H3]; · iexact H3
    isplitl [H9]; · iexact H9
    isplitl [H10]; · iexact H10
    isplitl [H12]; · iexists _; iexact H12
    iexists _; iexact H13

end Cert.KernelIdeal.Weak
-- ==== Proof.WeakBKernelIdeal.lean ====
module

public import proofs.«01_k».proof.Proof.WeakAKernelIdeal

@[expose] public section

set_option maxRecDepth 16384

noncomputable section

namespace Cert.KernelIdeal.Weak

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Hand

set_option warn.classDefReducibility false in
set_option maxHeartbeats 4000000 in
@[sl_loop] def loopInv_k0_t3 (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x2x128 .bf16) (harg12 : arg12.IsWhole) (arg13 : Memref sig .tc .vmem S1152x2x128 .bf16) (harg13 : arg13.IsWhole) (c : Dev nD) (v4 v7 : BitVec 32) (k0_hw1 : k0_chk1 v4 v7) (v8 : BitVec 32) (X2 : BufTy.Contents (Elt Ideal) arg2.view.ty) (X3 : BufTy.Contents (Elt Ideal) arg3.view.ty) (X9 : BufTy.Contents (Elt Ideal) arg9.view.ty) (X10 : BufTy.Contents (Elt Ideal) arg10.view.ty) (hX2 : ∀ (o : Fin 1 → ℕ) (i : ∀ a, o a + S1.size a ≤ S34560.size a) x, (arg2.view.readAt (Elt Ideal) (Rect.unit (s := S34560) o S1.size i).toLoadRect X2 x).toNat < 1280) (hX3 : ∀ (o : Fin 1 → ℕ) (i : ∀ a, o a + S1.size a ≤ S34560.size a) x, (arg3.view.readAt (Elt Ideal) (Rect.unit (s := S34560) o S1.size i).toLoadRect X3 x).toNat < 1280) :
    Gen.LoopInvTy_k0_t3 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v4 v7 k0_hw1 v8 where
  inv _ _ := iprop(held c arg2 X2 ∗ held c arg3 X3 ∗ held c arg9 X9 ∗ held c arg10 X10 ∗ (∃ f, held c arg8 f) ∗ (∃ f, held c arg12 f) ∗ (∃ f, held c arg13 f))
  step k acc := by
    unfold k0_t3_body
    iintro ⟨H2, H3, H9, H10, ⟨%f8, H8⟩, ⟨%f12, H12⟩, ⟨%f13, H13⟩⟩
    sl_exec
    sl_step
    isplitl [H2]; · iexact H2
    isplitl [H3]; · iexact H3
    isplitl [H9]; · iexact H9
    isplitl [H10]; · iexact H10
    isplitl [H8]; · iexists _; iexact H8
    isplitl [H12]; · iexists _; iexact H12
    iexists _; iexact H13

end Cert.KernelIdeal.Weak
-- ==== Proof.WeakCKernelIdeal.lean ====
module

public import proofs.«01_k».proof.Proof.WeakBKernelIdeal
public import proofs.«01_k».proof.Proof.Gen.KernelIdeal.Skeleton

@[expose] public section

set_option maxRecDepth 16384

noncomputable section

namespace Cert.KernelIdeal.Weak

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Hand

theorem first_pos : 0 < S1.numel := by decide

/-- The first of one grid point's two offsets, as the kernel reads it. -/
abbrev loAt (i : grid0.Coords) (arg1 : Memref sig .tc .smem S28 .i32) (X1 : BufTy.Contents (Elt Ideal) arg1.view.ty) : BitVec 32 :=
  arg1.view.readAt (Elt Ideal) (Rect.unit (s := S28) (k0_off7 i) S1.size (k0_off7_inb i)).toLoadRect X1 (Shape.Idx.first first_pos)
/-- The second of one grid point's two offsets, as the kernel reads it. -/
abbrev hiAt (i : grid0.Coords) (arg1 : Memref sig .tc .smem S28 .i32) (X1 : BufTy.Contents (Elt Ideal) arg1.view.ty) : BitVec 32 :=
  arg1.view.readAt (Elt Ideal) (Rect.unit (s := S28) (k0_off8 i) S1.size (k0_off8_inb i)).toLoadRect X1 (Shape.Idx.first first_pos)

set_option maxHeartbeats 8000000 in
/-- One grid point runs to its end, leaving its inputs as they were. -/
theorem body_run (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x2x128 .bf16) (harg12 : arg12.IsWhole) (arg13 : Memref sig .tc .vmem S1152x2x128 .bf16) (harg13 : arg13.IsWhole) (c : Dev nD) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty)
   (hX2 : ∀ (o : Fin 1 → ℕ) (i : ∀ a, o a + S1.size a ≤ S34560.size a) x, (arg2.view.readAt (Elt Ideal) (Rect.unit (s := S34560) o S1.size i).toLoadRect X2 x).toNat < 1280) (hX3 : ∀ (o : Fin 1 → ℕ) (i : ∀ a, o a + S1.size a ≤ S34560.size a) x, (arg3.view.readAt (Elt Ideal) (Rect.unit (s := S34560) o S1.size i).toLoadRect X3 x).toNat < 1280) (hs : Seg (loAt i arg1 X1) (hiAt i arg1 X1)) :
   held c arg1 X1 ∗ held c arg2 X2 ∗ held c arg3 X3 ∗ held c arg4 X4 ∗ held c arg5 X5 ∗ held c arg6 X6 ∗ held c arg7 X7 ∗ (∃ f, held c arg8 f) ∗ (∃ f, held c arg9 f) ∗ (∃ f, held c arg10 f) ∗ (∃ f, held c arg11 f) ∗ (∃ f, held c arg12 f) ∗ (∃ f, held c arg13 f) ⊢ wp frame (wpE (defs₀ (F := Ideal)) Variants.none (c : Thread nD τ) none) Set.univ (cc0_dw (F := Ideal) i arg1 harg1 arg2 harg2 arg3 harg3 arg4 harg4 arg5 harg5 arg6 harg6 arg7 harg7 arg8 harg8 arg9 harg9 arg10 harg10 arg11 harg11 arg12 harg12 arg13 harg13)
     (fun _ => iprop(held c arg1 X1 ∗ held c arg2 X2 ∗ held c arg3 X3 ∗ held c arg4 X4 ∗ held c arg5 X5 ∗ held c arg6 X6 ∗ held c arg7 X7 ∗ (∃ f, held c arg8 f) ∗ (∃ f, held c arg9 f) ∗ (∃ f, held c arg10 f) ∗ (∃ f, held c arg11 f) ∗ (∃ f, held c arg12 f) ∗ (∃ f, held c arg13 f))) := by
  rw [Gen.cc0_dw_eq_skeleton]
  unfold cc0_dw_skel
  iintro ⟨H1, H2, H3, H4, H5, H6, H7, ⟨%f8, H8⟩, ⟨%f9, H9⟩, ⟨%f10, H10⟩, ⟨%f11, H11⟩, ⟨%f12, H12⟩, ⟨%f13, H13⟩⟩
  have htr : (k0_t5_loop (loAt i arg1 X1) (hiAt i arg1 X1)).trips = 0 := trips5 hs
  by_cases h1 : k0_cond1 i = 1#1
  · sl_exec (disch := first | exact chk1_of hs | exact hs)
    have htr' : (k0_t5_loop (body_run.sl.r_2 i arg1 X1) (body_run.sl.r_3 i arg1 X1)).trips = 0 := htr
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  · sl_exec (disch := first | exact chk1_of hs | exact hs)
    have htr' : (k0_t5_loop (body_run.sl.r_4 i arg1 X1) (body_run.sl.r_5 i arg1 X1)).trips = 0 := htr
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.KernelIdeal.Weak
-- ==== Proof.WeakDKernelIdeal.lean ====
module

public import proofs.«01_k».proof.Proof.WeakCKernelIdeal
public import proofs.«01_k».proof.Proof.Pre
public import proofs.«01_k».proof.Defs
public import proofs.«01_k».proof.Proof.Gen.Pre_pairs_in_range
public import Idealize.ShloMosaic.Lib.Pipeline.Frame
public import Idealize.ShloMosaic.Lib.Tactic

@[expose] public section

set_option maxRecDepth 16384

noncomputable section

namespace Cert.KernelIdeal.Weak

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Hand

open Idealize.ShloMosaic.Pipeline (Dat BodyObligation)
open Cert.Common

local notation "𝕄" => MT nD τ sig Unit (Elt Ideal) ℕ (UR sig nD τ) ℕ

variable (m : (ℓ : Loc nD τ sig) → Buf (Elt Ideal) ℓ) (ρ : Dev nD → PrngReg)

/-- Window 0's current staging memref at point `t`. -/
abbrev ms0 (t : Fin cfg0.N) := win0_0.stage (cfg0.slots t 0)
/-- Window 1's current staging memref at point `t`. -/
abbrev ms1 (t : Fin cfg0.N) := win0_1.stage (cfg0.slots t 1)
/-- Window 2's current staging memref at point `t`. -/
abbrev ms2 (t : Fin cfg0.N) := win0_2.stage (cfg0.slots t 2)
/-- Window 3's current staging memref at point `t`. -/
abbrev ms3 (t : Fin cfg0.N) := win0_3.stage (cfg0.slots t 3)
/-- Window 4's current staging memref at point `t`. -/
abbrev ms4 (t : Fin cfg0.N) := win0_4.stage (cfg0.slots t 4)
/-- Window 5's current staging memref at point `t`. -/
abbrev ms5 (t : Fin cfg0.N) := win0_5.stage (cfg0.slots t 5)
/-- Window 6's current staging memref at point `t`. -/
abbrev ms6 (t : Fin cfg0.N) := win0_6.stage (cfg0.slots t 6)
/-- Window 7's current staging memref at point `t`. -/
abbrev ms7 (t : Fin cfg0.N) := win0_7.stage (cfg0.slots t 7)

/-- A memref held with some contents is owned at some contents; -/
theorem own_any (c : Dev nD) {sp : Space} {S : Shape} {e : EltTy} (mm : Memref sig .tc sp S e) (Y : BufTy.Contents (Elt Ideal) mm.view.ty) :
    (held c mm Y : sProp 𝕄) ⊢ iprop(∃ d, owns (c : Thread nD τ) mm fullShare d) := by
  unfold owns held
  iintro K
  iexists (mm.view.read (Elt Ideal) Y)
  iexists Y
  isplitr
  · ipureintro
    rfl
  · iexact K

/-- and at the contents it reads. -/
theorem own_at (c : Dev nD) {sp : Space} {S : Shape} {e : EltTy} (mm : Memref sig .tc sp S e) (Y : BufTy.Contents (Elt Ideal) mm.view.ty) (d : S.Idx → Elt Ideal e) (h : mm.view.read (Elt Ideal) Y = d) :
    (held c mm Y : sProp 𝕄) ⊢ owns (c : Thread nD τ) mm fullShare d := by
  unfold owns held
  iintro K
  iexists Y
  isplitr
  · ipureintro
    exact h
  · iexact K

/-- The output window forgotten: nothing here reads what the kernel leaves in it. -/
def forgets : Fin 8 → Bool := fun w => w == 7

/-- The proof data: the inputs left at their blocks, the output unnamed. -/
def dats (_ : Fin 1) (c : Dev nD) : Dat τ (Elt Ideal) Unit ℕ (UR sig nD τ) ℕ cfg0 c where
  A w := V m c (Pipeline.arrRef spec0 w)
  after w t := match w with
    | 0 => iblk m c 0 t | 1 => iblk m c 1 t | 2 => iblk m c 2 t | 3 => iblk m c 3 t
    | 4 => iblk m c 4 t | 5 => iblk m c 5 t | 6 => iblk m c 6 t
    | 7 => Pipeline.Dat.unnamed (cfg := cfg0) 7 t
  Φ _ := Pipeline.ΦA spec0 c
  q _ := fullShare
  owed _ := 0

theorem A_eq (c : Dev nD) (w : Fin cfg0.W) : (dats m 0 c).A w = V m c (Pipeline.arrRef spec0 w) := by dsimp only [dats]

/-- What the body finds and leaves at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare d))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ (∃ d, owns (c : Thread nD τ) (ms7 t) fullShare d))

/-- What the precondition says of the arrays the region finds. -/
structure Good : Prop where
  pin : ∀ c y, (V m c main_arg4 y : BitVec 32).toNat < 1280
  pout : ∀ c y, (V m c main_arg5 y : BitVec 32).toNat < 1280
  off : ∀ c y, (V m c main_arg6 y : BitVec 32).toNat ≤ 34560
  gap : ∀ c (n : ℕ) (hn : n < 27) (y z : S28.Idx), (y 0).val = n → (z 0).val = n + 1 → (V m c main_arg6 z : BitVec 32).toNat ≤ (V m c main_arg6 y : BitVec 32).toNat + 1280

theorem good (h : haveI := Cert.Pre_pairs_in_range.Gen.facts; Cert.Pre_KernelIdeal m) : Good m := by
  haveI := Cert.Pre_pairs_in_range.Gen.facts
  have e := fun c => pre_decode (F := Ideal) _ _ _ _ _ _ _ (h c).1 (h c).2.1 (h c).2.2
  refine ⟨fun c y => ?_, fun c y => ?_, fun c y => ?_, fun c => ?_⟩
  · rw [V_main_arg4]; exact (e c).1 y
  · rw [V_main_arg5]; exact (e c).2.1 y
  · rw [V_main_arg6]; exact (e c).2.2.1 y
  · rw [V_main_arg6]; exact (e c).2.2.2

theorem off7_eq (t : Fin grid0.N) : k0_off7 (grid0.coords t) 0 = t.val := by revert t; decide
theorem off8_eq (t : Fin grid0.N) : k0_off8 (grid0.coords t) 0 = t.val + 1 := by revert t; decide

variable {m}

theorem blk1_lt (g : Good m) (c : Dev nD) (t : Fin cfg0.N) (x) : (iblk m c 1 t x : BitVec 32).toNat < 1280 := by
  unfold iblk; rw [View.read_apply, cast_eq]; exact g.pin c _
theorem blk2_lt (g : Good m) (c : Dev nD) (t : Fin cfg0.N) (x) : (iblk m c 2 t x : BitVec 32).toNat < 1280 := by
  unfold iblk; rw [View.read_apply, cast_eq]; exact g.pout c _
/-- The offsets' one block starts at the beginning. -/
theorem idx_zero0 : ∀ t : Fin cfg0.N, win0_0.index t (0 : Fin 1) = 0 := (by decide +kernel : ∀ t : Fin grid0.N, _)
/-- The offsets' block is the offsets' array. -/
theorem blk0_eq (c : Dev nD) (t : Fin cfg0.N) (x : S28.Idx) : ∃ y : S28.Idx, (y 0).val = (x 0).val ∧ iblk m c 0 t x = V m c main_arg6 y := by
  refine ⟨_, ?_, by unfold iblk; rw [View.read_apply, cast_eq]⟩
  have e0 := idx_zero0 t
  show win0_0.index t (0 : Fin 1) * 28 + 1 * (x 0).val = (x 0).val
  omega
theorem seg_at (g : Good m) (c : Dev nD) (t : Fin cfg0.N) (arg1 : Memref sig .tc .smem S28 .i32) (X1 : BufTy.Contents (Elt Ideal) arg1.view.ty)
    (h : arg1.view.read (Elt Ideal) X1 = iblk m c 0 t) : Seg (loAt (grid0.coords t) arg1 X1) (hiAt (grid0.coords t) arg1 X1) := by
  have eq0 : ∀ x : S28.Idx, arg1.view.read (Elt Ideal) X1 x = iblk m c 0 t x := fun x => congrFun h x
  have tl : t.val < 27 := Nat.lt_of_lt_of_eq t.isLt N_0
  have lo : loAt (grid0.coords t) arg1 X1 = iblk m c 0 t ((Rect.unit (s := S28) (k0_off7 (grid0.coords t)) S1.size (k0_off7_inb (grid0.coords t))).toLoadRect.idx (Shape.Idx.first first_pos)) := eq0 _
  have hi : hiAt (grid0.coords t) arg1 X1 = iblk m c 0 t ((Rect.unit (s := S28) (k0_off8 (grid0.coords t)) S1.size (k0_off8_inb (grid0.coords t))).toLoadRect.idx (Shape.Idx.first first_pos)) := eq0 _
  obtain ⟨y, hy, ey⟩ := blk0_eq (m := m) c t ((Rect.unit (s := S28) (k0_off7 (grid0.coords t)) S1.size (k0_off7_inb (grid0.coords t))).toLoadRect.idx (Shape.Idx.first first_pos))
  obtain ⟨z, hz, ez⟩ := blk0_eq (m := m) c t ((Rect.unit (s := S28) (k0_off8 (grid0.coords t)) S1.size (k0_off8_inb (grid0.coords t))).toLoadRect.idx (Shape.Idx.first first_pos))
  rw [lo, hi, ey, ez]
  have f0 : ((Shape.Idx.first first_pos : S1.Idx) 0).val = 0 := rfl
  refine ⟨g.off c y, g.gap c t.val tl y z ?_ ?_⟩
  · rw [hy]; show k0_off7 (grid0.coords t) 0 + 1 * ((Shape.Idx.first first_pos : S1.Idx) 0).val = _; rw [off7_eq, f0]; rfl
  · rw [hz]; show k0_off8 (grid0.coords t) 0 + 1 * ((Shape.Idx.first first_pos : S1.Idx) 0).val = _; rw [off8_eq, f0]

theorem defs₀_row (t : Fin cfg0.N) : defs₀ (F := Ideal) .tc cfg0.body (cfg0.bodyArgs t (cfg0.slots t)) = bodyAt0 t := by
  unfold defs₀; rw [Defs.onTc_tc]

set_option maxHeartbeats 4000000 in
/-- The body at a point. -/
theorem sound_body (g : Good m) (c : Dev nD) (t : Fin cfg0.N) :
    bodyPre m c t ⊢ wp frame (wpE (defs₀ (F := Ideal)) Variants.none c none) Set.univ (bodyAt0 t) (fun _ => bodyPost m c t) := by
  unfold bodyPre
  rw [show (dats m 0 c).Φ t.castSucc = Pipeline.ΦA spec0 c from rfl]
  unfold Pipeline.ΦA
  rw [scopedRest0_eq]
  simp only [before0_0_of m (dats m 0 c) rfl (fun _ => rfl), before0_1_of m (dats m 0 c) rfl (fun _ => rfl), before0_2_of m (dats m 0 c) rfl (fun _ => rfl), before0_3_of m (dats m 0 c) rfl (fun _ => rfl), before0_4_of m (dats m 0 c) rfl (fun _ => rfl), before0_5_of m (dats m 0 c) rfl (fun _ => rfl), before0_6_of m (dats m 0 c) rfl (fun _ => rfl)]
  simp only [← owns_whole]
  unfold owns
  iintro ⟨⟨⟨⟨%s9, %g9, -, K9⟩, ⟨%s10, %g10, -, K10⟩, ⟨%s11, %g11, -, K11⟩, ⟨%s12, %g12, -, K12⟩, ⟨%s13, %g13, -, K13⟩⟩, ⟨%pr, Hg⟩⟩, HO, ⟨%d1, %X1, %e1, K1⟩, ⟨%d2, %X2, %e2, K2⟩, ⟨%d3, %X3, %e3, K3⟩, ⟨%d4, %X4, %e4, K4⟩, ⟨%d5, %X5, %e5, K5⟩, ⟨%d6, %X6, %e6, K6⟩, ⟨%d7, %X7, %e7, K7⟩, ⟨%d8, %X8, -, K8⟩⟩
  iapply (wp_wand_r Idealize.ShloMosaic.frame (wpE (defs₀ (F := Ideal)) Variants.none (c : Thread nD τ) none) Set.univ)
  isplitl [K1 K2 K3 K4 K5 K6 K7 K8 K9 K10 K11 K12 K13]
  · have hX2 := fun o i x => (congrArg (fun v : S34560.Idx → BitVec 32 => (v ((Rect.unit (s := S34560) o S1.size i).toLoadRect.idx x)).toNat) e2).trans_lt (blk1_lt g c t _)
    have hX3 := fun o i x => (congrArg (fun v : S34560.Idx → BitVec 32 => (v ((Rect.unit (s := S34560) o S1.size i).toLoadRect.idx x)).toNat) e3).trans_lt (blk2_lt g c t _)
    iapply (body_run  (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) c X1 X2 X3 X4 X5 X6 X7 hX2 hX3 (seg_at g c t _ X1 e1))
    unfold held
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexists X8; iexact K8
    isplitl [K9]; · iexists g9; iexact K9
    isplitl [K10]; · iexists g10; iexact K10
    isplitl [K11]; · iexists g11; iexact K11
    isplitl [K12]; · iexists g12; iexact K12
    iexists g13; iexact K13
  · iintro %_
    iintro ⟨K1, K2, K3, K4, K5, K6, K7, ⟨%Y8, K8⟩, ⟨%Y9, K9⟩, ⟨%Y10, K10⟩, ⟨%Y11, K11⟩, ⟨%Y12, K12⟩, ⟨%Y13, K13⟩⟩
    unfold bodyPost
    rw [show (dats m 0 c).Φ t.succ = Pipeline.ΦA spec0 c from rfl,
      show (dats m 0 c).owesAt () t.succ = (dats m 0 c).owesAt () t.castSucc from rfl]
    unfold Pipeline.ΦA
    rw [scopedRest0_eq]
    simp only [← owns_whole]
    isplitl [K9 K10 K11 K12 K13 Hg]
    · isplitl [K9 K10 K11 K12 K13]
      · isplitl [K9]
        · iapply (own_any c (Memref.whole cc0_scratch0) Y9); iexact K9
        isplitl [K10]
        · iapply (own_any c (Memref.whole cc0_scratch1) Y10); iexact K10
        isplitl [K11]
        · iapply (own_any c (Memref.whole cc0_scratch2) Y11); iexact K11
        isplitl [K12]
        · iapply (own_any c (Memref.whole cc0_scratch3) Y12); iexact K12
        iapply (own_any c (Memref.whole cc0_scratch4) Y13); iexact K13
      · iexists pr; iexact Hg
    isplitl [HO]; · iexact HO
    isplitl [K1]
    · iapply (own_at c (ms0 t) X1 _ e1); iexact K1
    isplitl [K2]
    · iapply (own_at c (ms1 t) X2 _ e2); iexact K2
    isplitl [K3]
    · iapply (own_at c (ms2 t) X3 _ e3); iexact K3
    isplitl [K4]
    · iapply (own_at c (ms3 t) X4 _ e4); iexact K4
    isplitl [K5]
    · iapply (own_at c (ms4 t) X5 _ e5); iexact K5
    isplitl [K6]
    · iapply (own_at c (ms5 t) X6 _ e6); iexact K6
    isplitl [K7]
    · iapply (own_at c (ms6 t) X7 _ e7); iexact K7
    iapply (own_any c (ms7 t) Y8); iexact K8

/-- Every point's body. -/
theorem body_obligation (g : Good m) (c : Dev nD) : BodyObligation (dats m 0 c) (defs₀ (F := Ideal)) Variants.none () Set.univ forgets := fun t => by
  rw [bigSep_W0, bigSep_W0, defs₀_row]; exact triple_restated (sound_body g c t) rfl .rfl fun _ => .rfl

set_option backward.isDefEq.respectTransparency.types false in
/-- The launch. -/
theorem run_main (g : Good m) : θ_run defs (onTc (τ := τ) (main (F := Ideal))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation g c).loose) (hshare := fun c => (dats m 0 c).share_full fun _ => rfl) (howed := fun _ _ => rfl)
    (V := V m) (hmain := hmain m Variants.none) (hA := A_eq m) (hΦ := fun _ _ => rfl)

theorem frame_pre (h : haveI := Cert.Pre_pairs_in_range.Gen.facts; Cert.Pre_KernelIdeal m) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) := by
  refine (θ_run defs _ _).mono (fun r hr => ⟨fun c => ?_, hr.2⟩) (run_main ρ (good m h))
  obtain ⟨h, -⟩ := hr
  have w : ∀ w : Fin 8, (cfg0.win w).isOut = false → forgets w = false → r.2.mem ((c.tc : Thread nD τ).loc (Pipeline.arrRef spec0 w)) = V m c (Pipeline.arrRef spec0 w) := by
    intro w hw hf
    have q := (h c).1 w
    rw [Pipeline.RDat.ArrAt_in _ _ hw] at q
    exact q
  exact ⟨(w 3 rfl rfl).trans (V_main_arg0 m c),
    ((h c).2 main_arg1 (Pipeline.mem_restRefs_of main_arg1 (by decide) (by decide))).trans (V_main_arg1 m c),
    (w 5 rfl rfl).trans (V_main_arg2 m c),
    ((h c).2 main_arg3 (Pipeline.mem_restRefs_of main_arg3 (by decide) (by decide))).trans (V_main_arg3 m c),
    (w 1 rfl rfl).trans (V_main_arg4 m c), (w 2 rfl rfl).trans (V_main_arg5 m c), (w 0 rfl rfl).trans (V_main_arg6 m c)⟩

end Cert.KernelIdeal.Weak
-- ==== Proof.Held.lean ====
module

public import proofs.«01_k».proof.Proof.Gen.KernelIdeal.Loops
public import proofs.«01_k».proof.Proof.Gen.KernelIdeal.Frame
public import proofs.«01_k».proof.Proof.Common

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Cert.Common

/-- A memref's elements, held outright at contents. -/
abbrev held (c : Dev nD) {sp : Space} {s : Shape} {e : EltTy} (m : Memref sig .tc sp s e) (f : BufTy.Contents (Elt Ideal) m.view.ty) : sProp (MT nD τ sig Unit (Elt Ideal) ℕ (UR sig nD τ) ℕ) :=
  m.view.loc (c : Thread nD τ) ↦[m.view.set]{fullShare} f

end Cert.KernelIdeal.Hand
-- ==== Proof.T1.lean ====
module

public import proofs.«01_k».proof.Proof.Held

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Cert.Common

/-- What the expanded table of `x` holds at a place: row `9 n + q` holds columns `128 q …` of token `n`, scaled. -/
def txG (a : ℕ → ℕ → EReal) (s : ℕ → EReal) (y : S11520x128.Idx) : EReal :=
  a ((y 0).val / 9) (128 * ((y 0).val % 9) + (y 1).val) * s ((y 0).val / 9)

/-- The table of `x` is expanded for the tokens before `n`. -/
def txOk (a : ℕ → ℕ → EReal) (s : ℕ → EReal) (n : ℕ) (f : S11520x128.Idx → EReal) : Prop :=
  ∀ y : S11520x128.Idx, (y 0).val < 9 * n → (y 0).val % 9 < 8 → f y = txG a s y

theorem cover_tx (k : ℕ) (L : List (View.Piece (Elt Ideal) S11520x128 .f32))
    (h : ∀ r q : ℕ, r < 4 → q < 8 → ∃ p ∈ L, p.1.off 0 = 288 * k + 72 * r + q ∧ p.1.off 1 = 0 ∧ p.1.stride 0 = 9 ∧ p.1.stride 1 = 1 ∧ p.1.size 0 = 8 ∧ p.1.size 1 = 128)
    (y : S11520x128.Idx) (h1 : 288 * k ≤ (y 0).val) (h2 : (y 0).val < 288 * k + 288) (h3 : (y 0).val % 9 < 8) : ∃ p ∈ L, y ∈ p.1.set := by
  obtain ⟨p, hp, a, b, c, d, e, f⟩ := h (((y 0).val - 288 * k) / 72) ((y 0).val % 9) (by omega) h3
  refine ⟨p, hp, mem_of_coords _ _ fun ax => ?_⟩
  have : (y 1).val < 128 := (y 1).isLt
  match ax with
  | 0 => exact ⟨((y 0).val - 288 * k) % 72 / 9, by rw [e]; omega, by rw [a, c]; omega⟩
  | 1 => exact ⟨(y 1).val, by rw [f]; omega, by rw [b, d]; omega⟩

theorem pay_tx (X : S1280x1024.Idx → EReal) (S : S1280x128.Idx → EReal) (k r q : ℕ) (hr : r < 4) (hq : q < 8)
    (o1 o2 o3 : Fin 2 → ℕ) (h1 : o1 = ![32 * k, 0]) (h2 : o2 = ![32 * k, 0]) (h3 : o3 = ![288 * k + 72 * r + q, 0])
    (i1 : ∀ a, o1 a + S32x1024.size a ≤ S1280x1024.size a) (i2 : ∀ a, o2 a + S32x128.size a ≤ S1280x128.size a)
    (i3 : ∀ a, S8x128.size a = 0 ∨ o3 a + (![9, 1] : Fin 2 → ℕ) a * (S8x128.size a - 1) < S11520x128.size a) (sp : ∀ a, 0 < (![9, 1] : Fin 2 → ℕ) a)
    (hs : S32x1024.Slices ![8 * r, 128 * q] S8x128) (hs' : S32x128.Slices ![8 * r, 0] S8x1) (hb : S8x1.Broadcasts S8x128) (hlt : FTy.fp8e4m3.bits < FTy.f32.bits)
    (x : S8x128.Idx) :
    mulf (F := Ideal) (extractStridedSlice S8x128 ![8 * r, 128 * q] (extf (F := Ideal) (φ := .fp8e4m3) .f32 (fun z : S32x1024.Idx => X ((Rect.unit (s := S1280x1024) o1 S32x1024.size i1).toLoadRect.idx z)) hlt) hs)
      (broadcastTo S8x128 (extractStridedSlice S8x1 ![8 * r, 0] (fun z : S32x128.Idx => S ((Rect.unit (s := S1280x128) o2 S32x128.size i2).toLoadRect.idx z)) hs') hb) x
    = txG (rd2 X) (fun n => rd2 S n 0) (((⟨⟨o3, S8x128.size, ![9, 1], i3⟩, sp⟩ : Rect S11520x128)).emb x) := by
  subst h1 h2 h3
  have hx0 : (x 0).val < 8 := (x 0).isLt
  have hx1 : (x 1).val < 128 := (x 1).isLt
  unfold txG
  refine congrArg₂ (fun a b : EReal => a * b) (rd2_of X _ ?_ ?_) (rd2_of S _ ?_ ?_)
  · show 32 * k + 1 * (8 * r + (x 0).val) = (288 * k + 72 * r + q + 9 * (x 0).val) / 9
    omega
  · show 0 + 1 * (128 * q + (x 1).val) = 128 * ((288 * k + 72 * r + q + 9 * (x 0).val) % 9) + (0 + 1 * (x 1).val)
    omega
  · show 32 * k + 1 * (8 * r + (x 0).val) = (288 * k + 72 * r + q + 9 * (x 0).val) / 9
    omega
  · show 0 + 1 * (0 + 0) = 0
    omega

set_option maxHeartbeats 4000000 in
/-- One trip of the loop which expands `x`: 32 more tokens. -/
theorem step_t1 (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x2x128 .bf16) (harg12 : arg12.IsWhole) (arg13 : Memref sig .tc .vmem S1152x2x128 .bf16) (harg13 : arg13.IsWhole) (c : Dev nD) (k0_h1 : k0_cond1 i = 1#1) (v89 : Vec Ideal S1x128 .f32) (k : Fin k0_t1_loop.trips)
   (X4 : BufTy.Contents (Elt Ideal) arg4.view.ty) (X11 : BufTy.Contents (Elt Ideal) arg11.view.ty) (f : BufTy.Contents (Elt Ideal) arg9.view.ty)
   (hf : txOk (rd2 (arg4.view.read (Elt Ideal) X4)) (fun n => rd2 (arg11.view.read (Elt Ideal) X11) n 0) (32 * k.val) (arg9.view.read (Elt Ideal) f)) :
   held c arg4 X4 ∗ held c arg11 X11 ∗ held c arg9 f ⊢ wp frame (wpE defs₀ Variants.none (c : Thread nD τ) none) Set.univ (k0_t1_body (F := Ideal) i arg1 harg1 arg2 harg2 arg3 harg3 arg4 harg4 arg5 harg5 arg6 harg6 arg7 harg7 arg8 harg8 arg9 harg9 arg10 harg10 arg11 harg11 arg12 harg12 arg13 harg13 k0_h1 v89 k PUnit.unit)
     (fun _ => iprop(held c arg4 X4 ∗ held c arg11 X11 ∗ ∃ g, held c arg9 g ∗
       ⌜txOk (rd2 (arg4.view.read (Elt Ideal) X4)) (fun n => rd2 (arg11.view.read (Elt Ideal) X11) n 0) (32 * (k.val + 1)) (arg9.view.read (Elt Ideal) g)⌝)) := by
  unfold k0_t1_body
  iintro ⟨H4, H11, H9⟩
  sl_exec
  sl_step
  isplitl [H4]
  · iexact H4
  isplitl [H11]
  · iexact H11
  iexists _
  isplitl [H9]
  · iexact H9
  ipureintro
  intro y hy1 hy2
  refine writes_agree (Val := Elt Ideal) (e := .f32) _ _ (txG (rd2 (arg4.view.read (Elt Ideal) X4)) (fun n => rd2 (arg11.view.read (Elt Ideal) X11) n 0)) _ ?_ y ?_
  · repeat' (refine List.forall_mem_cons.mpr ⟨fun x => ?_, ?_⟩)
    rotate_right
    · exact fun p hp => absurd hp List.not_mem_nil
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 3 7 (by decide) (by decide) _ _ _ (k0_off1_eq k) (k0_off2_eq k) (k0_off3_eq k 3 7) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 3 6 (by decide) (by decide) _ _ _ (k0_off1_eq k) (k0_off2_eq k) (k0_off3_eq k 3 6) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 3 5 (by decide) (by decide) _ _ _ (k0_off1_eq k) (k0_off2_eq k) (k0_off3_eq k 3 5) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 3 4 (by decide) (by decide) _ _ _ (k0_off1_eq k) (k0_off2_eq k) (k0_off3_eq k 3 4) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 3 3 (by decide) (by decide) _ _ _ (k0_off1_eq k) (k0_off2_eq k) (k0_off3_eq k 3 3) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 3 2 (by decide) (by decide) _ _ _ (k0_off1_eq k) (k0_off2_eq k) (k0_off3_eq k 3 2) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 3 1 (by decide) (by decide) _ _ _ (k0_off1_eq k) (k0_off2_eq k) (k0_off3_eq k 3 1) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 3 0 (by decide) (by decide) _ _ _ (k0_off1_eq k) (k0_off2_eq k) (k0_off3_eq k 3 0) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 2 7 (by decide) (by decide) _ _ _ (k0_off1_eq k) (k0_off2_eq k) (k0_off3_eq k 2 7) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 2 6 (by decide) (by decide) _ _ _ (k0_off1_eq k) (k0_off2_eq k) (k0_off3_eq k 2 6) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 2 5 (by decide) (by decide) _ _ _ (k0_off1_eq k) (k0_off2_eq k) (k0_off3_eq k 2 5) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 2 4 (by decide) (by decide) _ _ _ (k0_off1_eq k) (k0_off2_eq k) (k0_off3_eq k 2 4) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 2 3 (by decide) (by decide) _ _ _ (k0_off1_eq k) (k0_off2_eq k) (k0_off3_eq k 2 3) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 2 2 (by decide) (by decide) _ _ _ (k0_off1_eq k) (k0_off2_eq k) (k0_off3_eq k 2 2) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 2 1 (by decide) (by decide) _ _ _ (k0_off1_eq k) (k0_off2_eq k) (k0_off3_eq k 2 1) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 2 0 (by decide) (by decide) _ _ _ (k0_off1_eq k) (k0_off2_eq k) (k0_off3_eq k 2 0) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 1 7 (by decide) (by decide) _ _ _ (k0_off1_eq k) (k0_off2_eq k) (k0_off3_eq k 1 7) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 1 6 (by decide) (by decide) _ _ _ (k0_off1_eq k) (k0_off2_eq k) (k0_off3_eq k 1 6) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 1 5 (by decide) (by decide) _ _ _ (k0_off1_eq k) (k0_off2_eq k) (k0_off3_eq k 1 5) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 1 4 (by decide) (by decide) _ _ _ (k0_off1_eq k) (k0_off2_eq k) (k0_off3_eq k 1 4) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 1 3 (by decide) (by decide) _ _ _ (k0_off1_eq k) (k0_off2_eq k) (k0_off3_eq k 1 3) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 1 2 (by decide) (by decide) _ _ _ (k0_off1_eq k) (k0_off2_eq k) (k0_off3_eq k 1 2) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 1 1 (by decide) (by decide) _ _ _ (k0_off1_eq k) (k0_off2_eq k) (k0_off3_eq k 1 1) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 1 0 (by decide) (by decide) _ _ _ (k0_off1_eq k) (k0_off2_eq k) (k0_off3_eq k 1 0) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 0 7 (by decide) (by decide) _ _ _ (k0_off1_eq k) (k0_off2_eq k) (k0_off3_eq k 0 7) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 0 6 (by decide) (by decide) _ _ _ (k0_off1_eq k) (k0_off2_eq k) (k0_off3_eq k 0 6) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 0 5 (by decide) (by decide) _ _ _ (k0_off1_eq k) (k0_off2_eq k) (k0_off3_eq k 0 5) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 0 4 (by decide) (by decide) _ _ _ (k0_off1_eq k) (k0_off2_eq k) (k0_off3_eq k 0 4) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 0 3 (by decide) (by decide) _ _ _ (k0_off1_eq k) (k0_off2_eq k) (k0_off3_eq k 0 3) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 0 2 (by decide) (by decide) _ _ _ (k0_off1_eq k) (k0_off2_eq k) (k0_off3_eq k 0 2) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 0 1 (by decide) (by decide) _ _ _ (k0_off1_eq k) (k0_off2_eq k) (k0_off3_eq k 0 1) _ _ _ _ _ _ _ _ x
    · try delta step_t1.sl.r step_t1.sl.r_1 step_t1.sl.r_2 step_t1.sl.r_3 step_t1.sl.r_4 step_t1.sl.r_5 step_t1.sl.r_6 step_t1.sl.r_7 step_t1.sl.r_8 step_t1.sl.r_9 step_t1.sl.r_10 step_t1.sl.r_11 step_t1.sl.r_12 step_t1.sl.r_13 step_t1.sl.r_14 step_t1.sl.r_15
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_tx (arg4.view.read (Elt Ideal) X4) (arg11.view.read (Elt Ideal) X11) k.val 0 0 (by decide) (by decide) _ _ _ (k0_off1_eq k) (k0_off2_eq k) (k0_off3_eq k 0 0) _ _ _ _ _ _ _ _ x
  · by_cases hlt : (y 0).val < 9 * (32 * k.val)
    · exact .inr (hf y hlt hy2)
    · refine .inl (cover_tx k.val _ ?_ y (by omega) (by omega) hy2)
      intro r q hr hq
      interval_cases r <;> interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), congrFun (k0_off3_eq k 0 0) 0, congrFun (k0_off3_eq k 0 0) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), congrFun (k0_off3_eq k 0 1) 0, congrFun (k0_off3_eq k 0 1) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), congrFun (k0_off3_eq k 0 2) 0, congrFun (k0_off3_eq k 0 2) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), congrFun (k0_off3_eq k 0 3) 0, congrFun (k0_off3_eq k 0 3) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), congrFun (k0_off3_eq k 0 4) 0, congrFun (k0_off3_eq k 0 4) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), congrFun (k0_off3_eq k 0 5) 0, congrFun (k0_off3_eq k 0 5) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), congrFun (k0_off3_eq k 0 6) 0, congrFun (k0_off3_eq k 0 6) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), congrFun (k0_off3_eq k 0 7) 0, congrFun (k0_off3_eq k 0 7) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), congrFun (k0_off3_eq k 1 0) 0, congrFun (k0_off3_eq k 1 0) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), congrFun (k0_off3_eq k 1 1) 0, congrFun (k0_off3_eq k 1 1) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), congrFun (k0_off3_eq k 1 2) 0, congrFun (k0_off3_eq k 1 2) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), congrFun (k0_off3_eq k 1 3) 0, congrFun (k0_off3_eq k 1 3) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), congrFun (k0_off3_eq k 1 4) 0, congrFun (k0_off3_eq k 1 4) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), congrFun (k0_off3_eq k 1 5) 0, congrFun (k0_off3_eq k 1 5) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), congrFun (k0_off3_eq k 1 6) 0, congrFun (k0_off3_eq k 1 6) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), congrFun (k0_off3_eq k 1 7) 0, congrFun (k0_off3_eq k 1 7) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), congrFun (k0_off3_eq k 2 0) 0, congrFun (k0_off3_eq k 2 0) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), congrFun (k0_off3_eq k 2 1) 0, congrFun (k0_off3_eq k 2 1) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), congrFun (k0_off3_eq k 2 2) 0, congrFun (k0_off3_eq k 2 2) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), congrFun (k0_off3_eq k 2 3) 0, congrFun (k0_off3_eq k 2 3) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), congrFun (k0_off3_eq k 2 4) 0, congrFun (k0_off3_eq k 2 4) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), congrFun (k0_off3_eq k 2 5) 0, congrFun (k0_off3_eq k 2 5) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), congrFun (k0_off3_eq k 2 6) 0, congrFun (k0_off3_eq k 2 6) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), congrFun (k0_off3_eq k 2 7) 0, congrFun (k0_off3_eq k 2 7) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), congrFun (k0_off3_eq k 3 0) 0, congrFun (k0_off3_eq k 3 0) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_self)))))), congrFun (k0_off3_eq k 3 1) 0, congrFun (k0_off3_eq k 3 1) 1, rfl, rfl, rfl, rfl⟩
      · exact ⟨_, List.mem_cons_of_mem _ (List.mem_cons_of_mem _ (List.mem_cons_of_mem _ (List.mem_cons_of_mem _ (List.mem_cons_of_mem _ (List.mem_cons_self))))), congrFun (k0_off3_eq k 3 2) 0, congrFun (k0_off3_eq k 3 2) 1, rfl, rfl, rfl, rfl⟩
      · exact ⟨_, List.mem_cons_of_mem _ (List.mem_cons_of_mem _ (List.mem_cons_of_mem _ (List.mem_cons_of_mem _ (List.mem_cons_self)))), congrFun (k0_off3_eq k 3 3) 0, congrFun (k0_off3_eq k 3 3) 1, rfl, rfl, rfl, rfl⟩
      · exact ⟨_, List.mem_cons_of_mem _ (List.mem_cons_of_mem _ (List.mem_cons_of_mem _ (List.mem_cons_self))), congrFun (k0_off3_eq k 3 4) 0, congrFun (k0_off3_eq k 3 4) 1, rfl, rfl, rfl, rfl⟩
      · exact ⟨_, List.mem_cons_of_mem _ (List.mem_cons_of_mem _ (List.mem_cons_self)), congrFun (k0_off3_eq k 3 5) 0, congrFun (k0_off3_eq k 3 5) 1, rfl, rfl, rfl, rfl⟩
      · exact ⟨_, List.mem_cons_of_mem _ (List.mem_cons_self), congrFun (k0_off3_eq k 3 6) 0, congrFun (k0_off3_eq k 3 6) 1, rfl, rfl, rfl, rfl⟩
      · exact ⟨_, List.mem_cons_self, congrFun (k0_off3_eq k 3 7) 0, congrFun (k0_off3_eq k 3 7) 1, rfl, rfl, rfl, rfl⟩

end Cert.KernelIdeal.Hand
-- ==== Proof.T2.lean ====
module

public import proofs.«01_k».proof.Proof.Held

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Cert.Common

/-- What the expanded table of `dy` holds at a place: row `7 n + q` holds columns `128 q …` of token `n`, scaled. -/
def tyG (a : ℕ → ℕ → EReal) (s : ℕ → EReal) (y : S8968x128.Idx) : EReal :=
  a ((y 0).val / 7) (128 * ((y 0).val % 7) + (y 1).val) * s ((y 0).val / 7)

/-- The table of `dy` is expanded for the tokens before `n`. -/
def tyOk (a : ℕ → ℕ → EReal) (s : ℕ → EReal) (n : ℕ) (f : S8968x128.Idx → EReal) : Prop :=
  ∀ y : S8968x128.Idx, (y 0).val < 7 * n → (y 0).val % 7 < 7 → f y = tyG a s y

theorem cover_ty (k : ℕ) (L : List (View.Piece (Elt Ideal) S8968x128 .f32))
    (h : ∀ r q : ℕ, r < 4 → q < 7 → ∃ p ∈ L, p.1.off 0 = 224 * k + 56 * r + q ∧ p.1.off 1 = 0 ∧ p.1.stride 0 = 7 ∧ p.1.stride 1 = 1 ∧ p.1.size 0 = 8 ∧ p.1.size 1 = 128)
    (y : S8968x128.Idx) (h1 : 224 * k ≤ (y 0).val) (h2 : (y 0).val < 224 * k + 224) (h3 : (y 0).val % 7 < 7) : ∃ p ∈ L, y ∈ p.1.set := by
  obtain ⟨p, hp, a, b, c, d, e, f⟩ := h (((y 0).val - 224 * k) / 56) ((y 0).val % 7) (by omega) h3
  refine ⟨p, hp, mem_of_coords _ _ fun ax => ?_⟩
  have : (y 1).val < 128 := (y 1).isLt
  match ax with
  | 0 => exact ⟨((y 0).val - 224 * k) % 56 / 7, by rw [e]; omega, by rw [a, c]; omega⟩
  | 1 => exact ⟨(y 1).val, by rw [f]; omega, by rw [b, d]; omega⟩

theorem pay_ty (X : S1280x896.Idx → EReal) (S : S1280x128.Idx → EReal) (k r q : ℕ) (hr : r < 4) (hq : q < 7)
    (o1 o2 o3 : Fin 2 → ℕ) (h1 : o1 = ![32 * k, 0]) (h2 : o2 = ![32 * k, 0]) (h3 : o3 = ![224 * k + 56 * r + q, 0])
    (i1 : ∀ a, o1 a + S32x896.size a ≤ S1280x896.size a) (i2 : ∀ a, o2 a + S32x128.size a ≤ S1280x128.size a)
    (i3 : ∀ a, S8x128.size a = 0 ∨ o3 a + (![7, 1] : Fin 2 → ℕ) a * (S8x128.size a - 1) < S8968x128.size a) (sp : ∀ a, 0 < (![7, 1] : Fin 2 → ℕ) a)
    (hs : S32x896.Slices ![8 * r, 128 * q] S8x128) (hs' : S32x128.Slices ![8 * r, 0] S8x1) (hb : S8x1.Broadcasts S8x128) (hlt : FTy.fp8e5m2.bits < FTy.f32.bits)
    (x : S8x128.Idx) :
    mulf (F := Ideal) (extractStridedSlice S8x128 ![8 * r, 128 * q] (extf (F := Ideal) (φ := .fp8e5m2) .f32 (fun z : S32x896.Idx => X ((Rect.unit (s := S1280x896) o1 S32x896.size i1).toLoadRect.idx z)) hlt) hs)
      (broadcastTo S8x128 (extractStridedSlice S8x1 ![8 * r, 0] (fun z : S32x128.Idx => S ((Rect.unit (s := S1280x128) o2 S32x128.size i2).toLoadRect.idx z)) hs') hb) x
    = tyG (rd2 X) (fun n => rd2 S n 0) (((⟨⟨o3, S8x128.size, ![7, 1], i3⟩, sp⟩ : Rect S8968x128)).emb x) := by
  subst h1 h2 h3
  have hx0 : (x 0).val < 8 := (x 0).isLt
  have hx1 : (x 1).val < 128 := (x 1).isLt
  unfold tyG
  refine congrArg₂ (fun a b : EReal => a * b) (rd2_of X _ ?_ ?_) (rd2_of S _ ?_ ?_)
  · show 32 * k + 1 * (8 * r + (x 0).val) = (224 * k + 56 * r + q + 7 * (x 0).val) / 7
    omega
  · show 0 + 1 * (128 * q + (x 1).val) = 128 * ((224 * k + 56 * r + q + 7 * (x 0).val) % 7) + (0 + 1 * (x 1).val)
    omega
  · show 32 * k + 1 * (8 * r + (x 0).val) = (224 * k + 56 * r + q + 7 * (x 0).val) / 7
    omega
  · show 0 + 1 * (0 + 0) = 0
    omega

set_option maxHeartbeats 4000000 in
/-- One trip of the loop which expands `dy`: 32 more tokens. -/
theorem step_t2 (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x2x128 .bf16) (harg12 : arg12.IsWhole) (arg13 : Memref sig .tc .vmem S1152x2x128 .bf16) (harg13 : arg13.IsWhole) (c : Dev nD) (k0_h1 : k0_cond1 i = 1#1)  (k : Fin k0_t2_loop.trips)
   (X4 : BufTy.Contents (Elt Ideal) arg6.view.ty) (X11 : BufTy.Contents (Elt Ideal) arg11.view.ty) (f : BufTy.Contents (Elt Ideal) arg10.view.ty)
   (hf : tyOk (rd2 (arg6.view.read (Elt Ideal) X4)) (fun n => rd2 (arg11.view.read (Elt Ideal) X11) n 0) (32 * k.val) (arg10.view.read (Elt Ideal) f)) :
   held c arg6 X4 ∗ held c arg11 X11 ∗ held c arg10 f ⊢ wp frame (wpE defs₀ Variants.none (c : Thread nD τ) none) Set.univ (k0_t2_body (F := Ideal) i arg1 harg1 arg2 harg2 arg3 harg3 arg4 harg4 arg5 harg5 arg6 harg6 arg7 harg7 arg8 harg8 arg9 harg9 arg10 harg10 arg11 harg11 arg12 harg12 arg13 harg13 k0_h1  k PUnit.unit)
     (fun _ => iprop(held c arg6 X4 ∗ held c arg11 X11 ∗ ∃ g, held c arg10 g ∗
       ⌜tyOk (rd2 (arg6.view.read (Elt Ideal) X4)) (fun n => rd2 (arg11.view.read (Elt Ideal) X11) n 0) (32 * (k.val + 1)) (arg10.view.read (Elt Ideal) g)⌝)) := by
  unfold k0_t2_body
  iintro ⟨H4, H11, H9⟩
  sl_exec
  sl_step
  isplitl [H4]
  · iexact H4
  isplitl [H11]
  · iexact H11
  iexists _
  isplitl [H9]
  · iexact H9
  ipureintro
  intro y hy1 hy2
  refine writes_agree (Val := Elt Ideal) (e := .f32) _ _ (tyG (rd2 (arg6.view.read (Elt Ideal) X4)) (fun n => rd2 (arg11.view.read (Elt Ideal) X11) n 0)) _ ?_ y ?_
  · repeat' (refine List.forall_mem_cons.mpr ⟨fun x => ?_, ?_⟩)
    rotate_right
    · exact fun p hp => absurd hp List.not_mem_nil
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 3 6 (by decide) (by decide) _ _ _ (k0_off4_eq k) (k0_off5_eq k) (k0_off6_eq k 3 6) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 3 5 (by decide) (by decide) _ _ _ (k0_off4_eq k) (k0_off5_eq k) (k0_off6_eq k 3 5) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 3 4 (by decide) (by decide) _ _ _ (k0_off4_eq k) (k0_off5_eq k) (k0_off6_eq k 3 4) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 3 3 (by decide) (by decide) _ _ _ (k0_off4_eq k) (k0_off5_eq k) (k0_off6_eq k 3 3) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 3 2 (by decide) (by decide) _ _ _ (k0_off4_eq k) (k0_off5_eq k) (k0_off6_eq k 3 2) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 3 1 (by decide) (by decide) _ _ _ (k0_off4_eq k) (k0_off5_eq k) (k0_off6_eq k 3 1) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 3 0 (by decide) (by decide) _ _ _ (k0_off4_eq k) (k0_off5_eq k) (k0_off6_eq k 3 0) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 2 6 (by decide) (by decide) _ _ _ (k0_off4_eq k) (k0_off5_eq k) (k0_off6_eq k 2 6) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 2 5 (by decide) (by decide) _ _ _ (k0_off4_eq k) (k0_off5_eq k) (k0_off6_eq k 2 5) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 2 4 (by decide) (by decide) _ _ _ (k0_off4_eq k) (k0_off5_eq k) (k0_off6_eq k 2 4) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 2 3 (by decide) (by decide) _ _ _ (k0_off4_eq k) (k0_off5_eq k) (k0_off6_eq k 2 3) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 2 2 (by decide) (by decide) _ _ _ (k0_off4_eq k) (k0_off5_eq k) (k0_off6_eq k 2 2) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 2 1 (by decide) (by decide) _ _ _ (k0_off4_eq k) (k0_off5_eq k) (k0_off6_eq k 2 1) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 2 0 (by decide) (by decide) _ _ _ (k0_off4_eq k) (k0_off5_eq k) (k0_off6_eq k 2 0) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 1 6 (by decide) (by decide) _ _ _ (k0_off4_eq k) (k0_off5_eq k) (k0_off6_eq k 1 6) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 1 5 (by decide) (by decide) _ _ _ (k0_off4_eq k) (k0_off5_eq k) (k0_off6_eq k 1 5) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 1 4 (by decide) (by decide) _ _ _ (k0_off4_eq k) (k0_off5_eq k) (k0_off6_eq k 1 4) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 1 3 (by decide) (by decide) _ _ _ (k0_off4_eq k) (k0_off5_eq k) (k0_off6_eq k 1 3) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 1 2 (by decide) (by decide) _ _ _ (k0_off4_eq k) (k0_off5_eq k) (k0_off6_eq k 1 2) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 1 1 (by decide) (by decide) _ _ _ (k0_off4_eq k) (k0_off5_eq k) (k0_off6_eq k 1 1) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 1 0 (by decide) (by decide) _ _ _ (k0_off4_eq k) (k0_off5_eq k) (k0_off6_eq k 1 0) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 0 6 (by decide) (by decide) _ _ _ (k0_off4_eq k) (k0_off5_eq k) (k0_off6_eq k 0 6) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 0 5 (by decide) (by decide) _ _ _ (k0_off4_eq k) (k0_off5_eq k) (k0_off6_eq k 0 5) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 0 4 (by decide) (by decide) _ _ _ (k0_off4_eq k) (k0_off5_eq k) (k0_off6_eq k 0 4) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 0 3 (by decide) (by decide) _ _ _ (k0_off4_eq k) (k0_off5_eq k) (k0_off6_eq k 0 3) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 0 2 (by decide) (by decide) _ _ _ (k0_off4_eq k) (k0_off5_eq k) (k0_off6_eq k 0 2) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 0 1 (by decide) (by decide) _ _ _ (k0_off4_eq k) (k0_off5_eq k) (k0_off6_eq k 0 1) _ _ _ _ _ _ _ _ x
    · try delta step_t2.sl.r step_t2.sl.r_1 step_t2.sl.r_2 step_t2.sl.r_3 step_t2.sl.r_4 step_t2.sl.r_5 step_t2.sl.r_6 step_t2.sl.r_7 step_t2.sl.r_8 step_t2.sl.r_9 step_t2.sl.r_10 step_t2.sl.r_11 step_t2.sl.r_12
      simp (config := { zeta := true }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, shapeCast_self]
      exact pay_ty (arg6.view.read (Elt Ideal) X4) (arg11.view.read (Elt Ideal) X11) k.val 0 0 (by decide) (by decide) _ _ _ (k0_off4_eq k) (k0_off5_eq k) (k0_off6_eq k 0 0) _ _ _ _ _ _ _ _ x
  · by_cases hlt : (y 0).val < 7 * (32 * k.val)
    · exact .inr (hf y hlt hy2)
    · refine .inl (cover_ty k.val _ ?_ y (by omega) (by omega) hy2)
      intro r q hr hq
      interval_cases r <;> interval_cases q
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), congrFun (k0_off6_eq k 0 0) 0, congrFun (k0_off6_eq k 0 0) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), congrFun (k0_off6_eq k 0 1) 0, congrFun (k0_off6_eq k 0 1) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), congrFun (k0_off6_eq k 0 2) 0, congrFun (k0_off6_eq k 0 2) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), congrFun (k0_off6_eq k 0 3) 0, congrFun (k0_off6_eq k 0 3) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), congrFun (k0_off6_eq k 0 4) 0, congrFun (k0_off6_eq k 0 4) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), congrFun (k0_off6_eq k 0 5) 0, congrFun (k0_off6_eq k 0 5) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), congrFun (k0_off6_eq k 0 6) 0, congrFun (k0_off6_eq k 0 6) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), congrFun (k0_off6_eq k 1 0) 0, congrFun (k0_off6_eq k 1 0) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), congrFun (k0_off6_eq k 1 1) 0, congrFun (k0_off6_eq k 1 1) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), congrFun (k0_off6_eq k 1 2) 0, congrFun (k0_off6_eq k 1 2) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), congrFun (k0_off6_eq k 1 3) 0, congrFun (k0_off6_eq k 1 3) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), congrFun (k0_off6_eq k 1 4) 0, congrFun (k0_off6_eq k 1 4) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), congrFun (k0_off6_eq k 1 5) 0, congrFun (k0_off6_eq k 1 5) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), congrFun (k0_off6_eq k 1 6) 0, congrFun (k0_off6_eq k 1 6) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), congrFun (k0_off6_eq k 2 0) 0, congrFun (k0_off6_eq k 2 0) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), congrFun (k0_off6_eq k 2 1) 0, congrFun (k0_off6_eq k 2 1) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), congrFun (k0_off6_eq k 2 2) 0, congrFun (k0_off6_eq k 2 2) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), congrFun (k0_off6_eq k 2 3) 0, congrFun (k0_off6_eq k 2 3) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), congrFun (k0_off6_eq k 2 4) 0, congrFun (k0_off6_eq k 2 4) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), congrFun (k0_off6_eq k 2 5) 0, congrFun (k0_off6_eq k 2 5) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), congrFun (k0_off6_eq k 2 6) 0, congrFun (k0_off6_eq k 2 6) 1, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_self)))))), congrFun (k0_off6_eq k 3 0) 0, congrFun (k0_off6_eq k 3 0) 1, rfl, rfl, rfl, rfl⟩
      · exact ⟨_, List.mem_cons_of_mem _ (List.mem_cons_of_mem _ (List.mem_cons_of_mem _ (List.mem_cons_of_mem _ (List.mem_cons_of_mem _ (List.mem_cons_self))))), congrFun (k0_off6_eq k 3 1) 0, congrFun (k0_off6_eq k 3 1) 1, rfl, rfl, rfl, rfl⟩
      · exact ⟨_, List.mem_cons_of_mem _ (List.mem_cons_of_mem _ (List.mem_cons_of_mem _ (List.mem_cons_of_mem _ (List.mem_cons_self)))), congrFun (k0_off6_eq k 3 2) 0, congrFun (k0_off6_eq k 3 2) 1, rfl, rfl, rfl, rfl⟩
      · exact ⟨_, List.mem_cons_of_mem _ (List.mem_cons_of_mem _ (List.mem_cons_of_mem _ (List.mem_cons_self))), congrFun (k0_off6_eq k 3 3) 0, congrFun (k0_off6_eq k 3 3) 1, rfl, rfl, rfl, rfl⟩
      · exact ⟨_, List.mem_cons_of_mem _ (List.mem_cons_of_mem _ (List.mem_cons_self)), congrFun (k0_off6_eq k 3 4) 0, congrFun (k0_off6_eq k 3 4) 1, rfl, rfl, rfl, rfl⟩
      · exact ⟨_, List.mem_cons_of_mem _ (List.mem_cons_self), congrFun (k0_off6_eq k 3 5) 0, congrFun (k0_off6_eq k 3 5) 1, rfl, rfl, rfl, rfl⟩
      · exact ⟨_, List.mem_cons_self, congrFun (k0_off6_eq k 3 6) 0, congrFun (k0_off6_eq k 3 6) 1, rfl, rfl, rfl, rfl⟩

end Cert.KernelIdeal.Hand
-- ==== Proof.S1.lean ====
module

public import proofs.«01_k».proof.Proof.T1
public import proofs.«01_k».proof.Proof.T2

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Cert.Common

set_option warn.classDefReducibility false in
/-- The loop which expands a table: before trip `k` the tokens before `32 k` are expanded. -/
@[sl_loop] def loopInv_k0_t1 (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x2x128 .bf16) (harg12 : arg12.IsWhole) (arg13 : Memref sig .tc .vmem S1152x2x128 .bf16) (harg13 : arg13.IsWhole) (c : Dev nD) (k0_h1 : k0_cond1 i = 1#1) (v89 : Vec Ideal S1x128 .f32) (X4 : BufTy.Contents (Elt Ideal) arg4.view.ty) (X11 : BufTy.Contents (Elt Ideal) arg11.view.ty) :
    Gen.LoopInvTy_k0_t1 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 k0_h1 v89 where
  inv k _ := iprop(held c arg4 X4 ∗ held c arg11 X11 ∗ (∃ f, held c arg9 f ∗ ⌜0 < k → txOk (rd2 (arg4.view.read (Elt Ideal) X4)) (fun n => rd2 (arg11.view.read (Elt Ideal) X11) n 0) (32 * k) (arg9.view.read (Elt Ideal) f)⌝))
  step k acc := by
    iintro ⟨H4, H11, ⟨%f, H9, %hf⟩⟩
    have hf' : txOk (rd2 (arg4.view.read (Elt Ideal) X4)) (fun n => rd2 (arg11.view.read (Elt Ideal) X11) n 0) (32 * k.val) (arg9.view.read (Elt Ideal) f) := by
      by_cases hk : 0 < k.val
      · exact hf hk
      · intro y hy; exact absurd hy (by omega)
    iapply (wp_wand_r Idealize.ShloMosaic.frame (wpE (defs₀ (F := Ideal)) Variants.none (c : Thread nD τ) none) Set.univ)
    isplitl [H4 H11 H9]
    · iapply (step_t1 i arg1 harg1 arg2 harg2 arg3 harg3 arg4 harg4 arg5 harg5 arg6 harg6 arg7 harg7 arg8 harg8 arg9 harg9 arg10 harg10 arg11 harg11 arg12 harg12 arg13 harg13 c k0_h1 v89 k X4 X11 f hf')
      isplitl [H4]; · iexact H4
      isplitl [H11]; · iexact H11
      iexact H9
    · iintro %_
      iintro ⟨H4, H11, ⟨%g, H9, %hg⟩⟩
      isplitl [H4]; · iexact H4
      isplitl [H11]; · iexact H11
      iexists g
      isplitl [H9]; · iexact H9
      ipureintro
      exact fun _ => hg

theorem txOk_congr {a : ℕ → ℕ → EReal} {s u : ℕ → EReal} {f} (h : txOk a s 1280 f) (e : ∀ n, n < 1280 → s n = u n) : txOk a u 1280 f := fun y hy hq => by
  rw [h y hy hq]; unfold txG; rw [e _ (by omega)]

set_option warn.classDefReducibility false in
/-- The loop which expands a table: before trip `k` the tokens before `32 k` are expanded. -/
@[sl_loop] def loopInv_k0_t2 (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x2x128 .bf16) (harg12 : arg12.IsWhole) (arg13 : Memref sig .tc .vmem S1152x2x128 .bf16) (harg13 : arg13.IsWhole) (c : Dev nD) (k0_h1 : k0_cond1 i = 1#1) (X6 : BufTy.Contents (Elt Ideal) arg6.view.ty) (X11 : BufTy.Contents (Elt Ideal) arg11.view.ty) :
    Gen.LoopInvTy_k0_t2 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 k0_h1 where
  inv k _ := iprop(held c arg6 X6 ∗ held c arg11 X11 ∗ (∃ f, held c arg10 f ∗ ⌜0 < k → tyOk (rd2 (arg6.view.read (Elt Ideal) X6)) (fun n => rd2 (arg11.view.read (Elt Ideal) X11) n 0) (32 * k) (arg10.view.read (Elt Ideal) f)⌝))
  step k acc := by
    iintro ⟨H4, H11, ⟨%f, H9, %hf⟩⟩
    have hf' : tyOk (rd2 (arg6.view.read (Elt Ideal) X6)) (fun n => rd2 (arg11.view.read (Elt Ideal) X11) n 0) (32 * k.val) (arg10.view.read (Elt Ideal) f) := by
      by_cases hk : 0 < k.val
      · exact hf hk
      · intro y hy; exact absurd hy (by omega)
    iapply (wp_wand_r Idealize.ShloMosaic.frame (wpE (defs₀ (F := Ideal)) Variants.none (c : Thread nD τ) none) Set.univ)
    isplitl [H4 H11 H9]
    · iapply (step_t2 i arg1 harg1 arg2 harg2 arg3 harg3 arg4 harg4 arg5 harg5 arg6 harg6 arg7 harg7 arg8 harg8 arg9 harg9 arg10 harg10 arg11 harg11 arg12 harg12 arg13 harg13 c k0_h1 k X6 X11 f hf')
      isplitl [H4]; · iexact H4
      isplitl [H11]; · iexact H11
      iexact H9
    · iintro %_
      iintro ⟨H4, H11, ⟨%g, H9, %hg⟩⟩
      isplitl [H4]; · iexact H4
      isplitl [H11]; · iexact H11
      iexists g
      isplitl [H9]; · iexact H9
      ipureintro
      exact fun _ => hg

theorem tyOk_congr {a : ℕ → ℕ → EReal} {s u : ℕ → EReal} {f} (h : tyOk a s 1280 f) (e : ∀ n, n < 1280 → s n = u n) : tyOk a u 1280 f := fun y hy hq => by
  rw [h y hy hq]; unfold tyG; rw [e _ (by omega)]

/-- A row of 128 scales turned into a column and repeated: row `n` of the block holds scale `n`. -/
theorem pay_sc (X : S10x128.Idx → EReal) (j : ℕ) (hj : j < 10) (i5 : ∀ a, (![j, 0] : Fin 2 → ℕ) a + S1x128.size a ≤ S10x128.size a) (n : ℕ) (hn : n = 128 * j)
    (i11 : ∀ a, (![n, 0] : Fin 2 → ℕ) a + S128x128.size a ≤ S1280x128.size a) (x : S128x128.Idx) :
    k0_pay1 (F := Ideal) (fun z => X ((Rect.unit (s := S10x128) ![j, 0] S1x128.size i5).toLoadRect.idx z)) x
      = rd2 X (((Rect.unit (s := S1280x128) ![n, 0] S128x128.size i11).emb x 0).val / 128) (((Rect.unit (s := S1280x128) ![n, 0] S128x128.size i11).emb x 0).val % 128) := by
  have hx0 : (x 0).val < 128 := (x 0).isLt
  unfold k0_pay1
  simp only [shapeCast_self]
  refine rd2_of X _ ?_ ?_
  · show j + 1 * 0 = (n + 1 * (x 0).val) / 128
    omega
  · show 0 + 1 * (x 0).val = (n + 1 * (x 0).val) % 128
    omega

theorem writes_two (v : View sig .tc .vmem S1280x128 .f32) (f : v.ty.Contents (Elt Ideal)) (L M : List (View.Piece (Elt Ideal) S1280x128 .f32)) :
    v.writes (Elt Ideal) f (L ++ M) = v.writes (Elt Ideal) (v.writes (Elt Ideal) f M) L := by
  induction L with
  | nil => rfl
  | cons p L ih => simp only [List.cons_append, View.writes, ih]

/-- After the last ten blocks are stored the scratch holds every scale. -/
theorem scol_of (v : View sig .tc .vmem S1280x128 .f32) (f : v.ty.Contents (Elt Ideal)) (X : S10x128.Idx → EReal) (L : List (View.Piece (Elt Ideal) S1280x128 .f32))
    (hG : ∀ p ∈ L.take 10, ∀ x : p.1.shape.Idx, p.2 x = rd2 X ((p.1.emb x 0).val / 128) ((p.1.emb x 0).val % 128))
    (hc : ∀ j : ℕ, j < 10 → ∃ p ∈ L.take 10, p.1.off 0 = 128 * j ∧ p.1.off 1 = 0 ∧ p.1.stride 0 = 1 ∧ p.1.stride 1 = 1 ∧ p.1.size 0 = 128 ∧ p.1.size 1 = 128) (n : ℕ) (hn : n < 1280) :
    rd2 (v.read (Elt Ideal) (v.writes (Elt Ideal) f L)) n 0 = rd2 X (n / 128) (n % 128) := by
  have e : ∀ y : S1280x128.Idx, v.read (Elt Ideal) (v.writes (Elt Ideal) f L) y = rd2 X ((y 0).val / 128) ((y 0).val % 128) := fun y => by
    conv_lhs => rw [← List.take_append_drop 10 L, writes_two]
    refine writes_agree (Val := Elt Ideal) (e := .f32) v _ (fun y : S1280x128.Idx => rd2 X ((y 0).val / 128) ((y 0).val % 128)) (L.take 10) hG y (Or.inl ?_)
    have y0 : (y 0).val < 1280 := (y 0).isLt
    have y1 : (y 1).val < 128 := (y 1).isLt
    obtain ⟨p, hp, a, b, c, d, e, g⟩ := hc ((y 0).val / 128) (by omega)
    refine ⟨p, hp, mem_of_coords _ _ fun ax => ?_⟩
    match ax with
    | 0 => exact ⟨(y 0).val % 128, by rw [e]; omega, by rw [a, c]; omega⟩
    | 1 => exact ⟨(y 1).val, by rw [g]; omega, by rw [b, d]; omega⟩
  unfold rd2
  refine (e _).trans ?_
  show rd2 X (n % 1280 / 128) (n % 1280 % 128) = _
  rw [Nat.mod_eq_of_lt hn]
  rfl

end Cert.KernelIdeal.Hand
-- ==== Proof.Pairs.lean ====
module

public import proofs.«01_k».proof.Proof.Common

@[expose] public section

namespace Cert.Common

open Idealize.ShloMosaic

/-- A unit axis added in the middle. -/
theorem cast_add {α : Type} {a b : ℕ} [NeZero a] [NeZero b] (v : (⟨2, ![a, b]⟩ : Shape).Idx → α) (h : (⟨2, ![a, b]⟩ : Shape).ShapeCasts ⟨3, ![a, 1, b]⟩) (j : (⟨3, ![a, 1, b]⟩ : Shape).Idx) :
    shapeCast ⟨3, ![a, 1, b]⟩ v h j = rd2 v (j 0).val (j 2).val := by
  unfold shapeCast
  have h1 : (j 1).val < 1 := (j 1).isLt
  have e := Shape.reshapeEquiv_eq_of_rowMajor h (x := j) (y := (fun x => match x with | 0 => j 0 | 1 => j 2 : (⟨2, ![a, b]⟩ : Shape).Idx)) ?_
  · rw [e]; exact rd2_of v _ rfl rfl
  · rw [Shape.rowMajor_val_two, Shape.rowMajor_val_three]
    show (j 0).val * b + (j 2).val = ((j 0).val * 1 + (j 1).val) * b + (j 2).val
    have : (j 1).val = 0 := by omega
    rw [this]; simp

/-- A unit axis dropped from the middle. -/
theorem cast_drop {α : Type} {a b : ℕ} [NeZero a] [NeZero b] (v : (⟨3, ![a, 1, b]⟩ : Shape).Idx → α) (h : (⟨3, ![a, 1, b]⟩ : Shape).ShapeCasts ⟨2, ![a, b]⟩) (j : (⟨2, ![a, b]⟩ : Shape).Idx) :
    shapeCast ⟨2, ![a, b]⟩ v h j = rd3 v (j 0).val 0 (j 1).val := by
  unfold shapeCast
  have e := Shape.reshapeEquiv_eq_of_rowMajor h (x := j) (y := (fun x => match x with | 0 => j 0 | 1 => ⟨0, Nat.one_pos⟩ | 2 => j 1 : (⟨3, ![a, 1, b]⟩ : Shape).Idx)) ?_
  · rw [e]; exact rd3_of v _ rfl rfl rfl
  · rw [Shape.rowMajor_val_two, Shape.rowMajor_val_three]
    show ((j 0).val * 1 + 0) * b + (j 1).val = (j 0).val * b + (j 1).val
    simp

/-- Two blocks of rows packed as words, read at a row of a word. -/
theorem pair_in {α : Type} (lo hi : (⟨2, ![8, 128]⟩ : Shape).Idx → α) (h1 h2 : (⟨2, ![8, 128]⟩ : Shape).ShapeCasts ⟨3, ![8, 1, 128]⟩)
    (hb : (⟨3, ![8, 2, 128]⟩ : Shape).Bitcasts 16 ⟨3, ![8, 1, 128]⟩ 32) (x : (⟨3, ![8, 2, 128]⟩ : Shape).Idx) :
    interleaveRows ⟨3, ![8, 2, 128]⟩ (shapeCast ⟨3, ![8, 1, 128]⟩ lo h1) (shapeCast ⟨3, ![8, 1, 128]⟩ hi h2) hb x
      = if (x 1).val = 0 then rd2 lo (x 0).val (x 2).val else rd2 hi (x 0).val (x 2).val := by
  have hx : (x 1).val < 2 := (x 1).isLt
  unfold interleaveRows
  dsimp only
  have e : (⟨3, ![8, 2, 128]⟩ : Shape).row x = (x 1).val := rfl
  rw [e]
  by_cases hz : (x 1).val = 0
  · rw [if_pos (by omega), if_pos hz, cast_add]; rfl
  · rw [if_neg (by omega), if_neg hz, cast_add]; rfl

/-- Packed words read as rows: row `n` is half `n mod 2` of word `n / 2`. -/
theorem pair_out {α : Type} (v : (⟨3, ![8, 2, 128]⟩ : Shape).Idx → α) (hb : (⟨3, ![8, 2, 128]⟩ : Shape).Bitcasts 16 ⟨3, ![8, 1, 128]⟩ 32)
    (h1 h2 : (⟨3, ![8, 1, 128]⟩ : Shape).ShapeCasts ⟨2, ![8, 128]⟩) (hc : (⟨2, ![16, 128]⟩ : Shape).Bitcasts 16 ⟨2, ![8, 128]⟩ 32) (x : (⟨2, ![16, 128]⟩ : Shape).Idx) :
    interleaveRows ⟨2, ![16, 128]⟩ (shapeCast ⟨2, ![8, 128]⟩ (rowsOfParity 0 ⟨3, ![8, 1, 128]⟩ v hb) h1) (shapeCast ⟨2, ![8, 128]⟩ (rowsOfParity 1 ⟨3, ![8, 1, 128]⟩ v hb) h2) hc x
      = rd3 v ((x 0).val / 2) ((x 0).val % 2) (x 1).val := by
  have hx : (x 0).val < 16 := (x 0).isLt
  have hx1 : (x 1).val < 128 := (x 1).isLt
  unfold interleaveRows
  dsimp only
  have e : (⟨2, ![16, 128]⟩ : Shape).row x = (x 0).val := rfl
  rw [e]
  by_cases hz : (x 0).val % 2 = 0
  · rw [if_pos hz, cast_drop, hz]
    unfold rd3
    show v _ = v _
    congr 1
    funext a
    apply Fin.ext
    match a with
    | 0 => show ((x 0).val / 2) % 8 = ((x 0).val / 2) % 8; rfl
    | 1 => show 2 * (0 % 1) + 0 = 0 % 2; rfl
    | 2 => show (x 1).val % 128 = (x 1).val % 128; rfl
  · have : (x 0).val % 2 = 1 := by omega
    rw [if_neg hz, cast_drop, this]
    unfold rd3
    show v _ = v _
    congr 1
    funext a
    apply Fin.ext
    match a with
    | 0 => show ((x 0).val / 2) % 8 = ((x 0).val / 2) % 8; rfl
    | 1 => show 2 * (0 % 1) + 1 = 1 % 2; rfl
    | 2 => show (x 1).val % 128 = (x 1).val % 128; rfl

end Cert.Common
-- ==== Proof.T4.lean ====
module

public import proofs.«01_k».proof.Proof.Held
public import proofs.«01_k».proof.Proof.IdxKernelIdeal
public import proofs.«01_k».proof.Proof.Pairs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Cert.Common

/-- What a gathered tile holds at a place: row `9 s + q` of words holds, in its two halves, row `q` of the two
    tokens that the pairs `2 s` and `2 s + 1` from `base` name. -/
def stG (m : ℕ) (T : ℕ → ℕ → EReal) (p : ℕ → ℕ) (base : ℕ) (y : S1152x2x128.Idx) : EReal :=
  T (m * p (min (base + 2 * ((y 0).val / 9) + (y 1).val) 34559) + (y 0).val % 9) (y 2).val

/-- The tile is gathered for the words before `n`. -/
def StOk (m : ℕ) (T : ℕ → ℕ → EReal) (p : ℕ → ℕ) (base n : ℕ) (f : S1152x2x128.Idx → EReal) : Prop :=
  ∀ y : S1152x2x128.Idx, (y 0).val < 9 * n → (y 0).val % 9 < 8 → f y = stG m T p base y

theorem cover_st (k : ℕ) (L : List (View.Piece (Elt Ideal) S1152x2x128 .bf16))
    (h : ∀ j : ℕ, j < 8 → ∃ p ∈ L, p.1.off = ![72 * k + 9 * j, 0, 0] ∧ (∀ a, p.1.stride a = 1) ∧ p.1.size = ![8, 2, 128])
    (y : S1152x2x128.Idx) (h1 : 72 * k ≤ (y 0).val) (h2 : (y 0).val < 72 * k + 72) (h3 : (y 0).val % 9 < 8) : ∃ p ∈ L, y ∈ p.1.set := by
  obtain ⟨p, hp, a, b, c⟩ := h (((y 0).val - 72 * k) / 9) (by omega)
  refine ⟨p, hp, mem_of_coords _ _ fun ax => ?_⟩
  have y1 : (y 1).val < 2 := (y 1).isLt
  have y2 : (y 2).val < 128 := (y 2).isLt
  have e0 : (![72 * k + 9 * (((y 0).val - 72 * k) / 9), 0, 0] : Fin 3 → ℕ) 0 = 72 * k + 9 * (((y 0).val - 72 * k) / 9) := rfl
  match ax with
  | 0 => exact ⟨(y 0).val % 9, by rw [c]; exact h3, by rw [a, b]; show _ = 72 * k + 9 * (((y 0).val - 72 * k) / 9) + 1 * ((y 0).val % 9); omega⟩
  | 1 => exact ⟨(y 1).val, by rw [c]; exact y1, by rw [a, b]; show _ = 0 + 1 * (y 1).val; omega⟩
  | 2 => exact ⟨(y 2).val, by rw [c]; exact y2, by rw [a, b]; show _ = 0 + 1 * (y 2).val; omega⟩

theorem pay_stx (T : S11520x128.Idx → EReal) (X : S34560.Idx → BitVec 32) (base k j : ℕ) (hj : j < 8)
    (o1 o2 : Fin 1 → ℕ) (h1 : o1 = ![min (base + 2 * (8 * k + j)) 34559]) (h2 : o2 = ![min (base + 2 * (8 * k + j) + 1) 34559])
    (i1 : ∀ a, o1 a + S1.size a ≤ S34560.size a) (i2 : ∀ a, o2 a + S1.size a ≤ S34560.size a) (z1 z2 : S1.Idx)
    (q1 q2 : Fin 2 → ℕ) (g1 : q1 = ![9 * (X ((Rect.unit (s := S34560) o1 S1.size i1).toLoadRect.idx z1)).toNat, 0]) (g2 : q2 = ![9 * (X ((Rect.unit (s := S34560) o2 S1.size i2).toLoadRect.idx z2)).toNat, 0])
    (j1 : ∀ a, q1 a + S8x128.size a ≤ S11520x128.size a) (j2 : ∀ a, q2 a + S8x128.size a ≤ S11520x128.size a)
    (o3 : Fin 3 → ℕ) (h3 : o3 = ![72 * k + 9 * j, 0, 0]) (i3 : ∀ a, o3 a + S8x2x128.size a ≤ S1152x2x128.size a)
    (e1 e2 : S8x128.ShapeCasts S8x1x128) (hb : S8x2x128.Bitcasts 16 S8x1x128 32)
    (x : S8x2x128.Idx) :
    interleaveRows S8x2x128 (shapeCast S8x1x128 (truncf (F := Ideal) (φ := .f32) .bf16 (fun z : S8x128.Idx => T ((Rect.unit (s := S11520x128) q1 S8x128.size j1).toLoadRect.idx z))) e1)
      (shapeCast S8x1x128 (truncf (F := Ideal) (φ := .f32) .bf16 (fun z : S8x128.Idx => T ((Rect.unit (s := S11520x128) q2 S8x128.size j2).toLoadRect.idx z))) e2) hb x
    = stG 9 (rd2 T) (fun n => (rd1 X n).toNat) base ((Rect.unit (s := S1152x2x128) o3 S8x2x128.size i3).emb x) := by
  subst h1 h2 h3 g1 g2
  have hx0 : (x 0).val < 8 := (x 0).isLt
  have hx1 : (x 1).val < 2 := (x 1).isLt
  have hx2 : (x 2).val < 128 := (x 2).isLt
  have hz1 : (z1 0).val = 0 := by have : (z1 0).val < 1 := (z1 0).isLt; omega
  have hz2 : (z2 0).val = 0 := by have : (z2 0).val < 1 := (z2 0).isLt; omega
  have w1 : X ((Rect.unit (s := S34560) _ S1.size i1).toLoadRect.idx z1) = rd1 X (min (base + 2 * (8 * k + j)) 34559) :=
    rd1_of X _ (by show min (base + 2 * (8 * k + j)) 34559 + 1 * (z1 0).val = _; omega)
  have w2 : X ((Rect.unit (s := S34560) _ S1.size i2).toLoadRect.idx z2) = rd1 X (min (base + 2 * (8 * k + j) + 1) 34559) :=
    rd1_of X _ (by show min (base + 2 * (8 * k + j) + 1) 34559 + 1 * (z2 0).val = _; omega)
  refine (pair_in _ _ e1 e2 hb x).trans ?_
  have d : (72 * k + 9 * j + 1 * (x 0).val) / 9 = 8 * k + j := by omega
  have r : (72 * k + 9 * j + 1 * (x 0).val) % 9 = (x 0).val := by omega
  show _ = rd2 T (9 * (rd1 X (min (base + 2 * ((72 * k + 9 * j + 1 * (x 0).val) / 9) + (0 + 1 * (x 1).val)) 34559)).toNat + (72 * k + 9 * j + 1 * (x 0).val) % 9) (0 + 1 * (x 2).val)
  rw [d, r]
  by_cases hz : (x 1).val = 0
  · rw [if_pos hz, hz]
    refine rd2_of T _ ?_ ?_
    · show 9 * (X _).toNat + 1 * ((x 0).val % 8) = _
      rw [w1, Nat.mod_eq_of_lt hx0]
      simp
    · show 0 + 1 * ((x 2).val % 128) = _
      rw [Nat.mod_eq_of_lt hx2]
  · rw [if_neg hz, show (x 1).val = 1 by omega]
    refine rd2_of T _ ?_ ?_
    · show 9 * (X _).toNat + 1 * ((x 0).val % 8) = _
      rw [w2, Nat.mod_eq_of_lt hx0]
      simp
    · show 0 + 1 * ((x 2).val % 128) = _
      rw [Nat.mod_eq_of_lt hx2]

theorem pay_sty (T : S8968x128.Idx → EReal) (X : S34560.Idx → BitVec 32) (base k j : ℕ) (hj : j < 8)
    (o1 o2 : Fin 1 → ℕ) (h1 : o1 = ![min (base + 2 * (8 * k + j)) 34559]) (h2 : o2 = ![min (base + 2 * (8 * k + j) + 1) 34559])
    (i1 : ∀ a, o1 a + S1.size a ≤ S34560.size a) (i2 : ∀ a, o2 a + S1.size a ≤ S34560.size a) (z1 z2 : S1.Idx)
    (q1 q2 : Fin 2 → ℕ) (g1 : q1 = ![7 * (X ((Rect.unit (s := S34560) o1 S1.size i1).toLoadRect.idx z1)).toNat, 0]) (g2 : q2 = ![7 * (X ((Rect.unit (s := S34560) o2 S1.size i2).toLoadRect.idx z2)).toNat, 0])
    (j1 : ∀ a, q1 a + S8x128.size a ≤ S8968x128.size a) (j2 : ∀ a, q2 a + S8x128.size a ≤ S8968x128.size a)
    (o3 : Fin 3 → ℕ) (h3 : o3 = ![72 * k + 9 * j, 0, 0]) (i3 : ∀ a, o3 a + S8x2x128.size a ≤ S1152x2x128.size a)
    (e1 e2 : S8x128.ShapeCasts S8x1x128) (hb : S8x2x128.Bitcasts 16 S8x1x128 32)
    (x : S8x2x128.Idx) :
    interleaveRows S8x2x128 (shapeCast S8x1x128 (truncf (F := Ideal) (φ := .f32) .bf16 (fun z : S8x128.Idx => T ((Rect.unit (s := S8968x128) q1 S8x128.size j1).toLoadRect.idx z))) e1)
      (shapeCast S8x1x128 (truncf (F := Ideal) (φ := .f32) .bf16 (fun z : S8x128.Idx => T ((Rect.unit (s := S8968x128) q2 S8x128.size j2).toLoadRect.idx z))) e2) hb x
    = stG 7 (rd2 T) (fun n => (rd1 X n).toNat) base ((Rect.unit (s := S1152x2x128) o3 S8x2x128.size i3).emb x) := by
  subst h1 h2 h3 g1 g2
  have hx0 : (x 0).val < 8 := (x 0).isLt
  have hx1 : (x 1).val < 2 := (x 1).isLt
  have hx2 : (x 2).val < 128 := (x 2).isLt
  have hz1 : (z1 0).val = 0 := by have : (z1 0).val < 1 := (z1 0).isLt; omega
  have hz2 : (z2 0).val = 0 := by have : (z2 0).val < 1 := (z2 0).isLt; omega
  have w1 : X ((Rect.unit (s := S34560) _ S1.size i1).toLoadRect.idx z1) = rd1 X (min (base + 2 * (8 * k + j)) 34559) :=
    rd1_of X _ (by show min (base + 2 * (8 * k + j)) 34559 + 1 * (z1 0).val = _; omega)
  have w2 : X ((Rect.unit (s := S34560) _ S1.size i2).toLoadRect.idx z2) = rd1 X (min (base + 2 * (8 * k + j) + 1) 34559) :=
    rd1_of X _ (by show min (base + 2 * (8 * k + j) + 1) 34559 + 1 * (z2 0).val = _; omega)
  refine (pair_in _ _ e1 e2 hb x).trans ?_
  have d : (72 * k + 9 * j + 1 * (x 0).val) / 9 = 8 * k + j := by omega
  have r : (72 * k + 9 * j + 1 * (x 0).val) % 9 = (x 0).val := by omega
  show _ = rd2 T (7 * (rd1 X (min (base + 2 * ((72 * k + 9 * j + 1 * (x 0).val) / 9) + (0 + 1 * (x 1).val)) 34559)).toNat + (72 * k + 9 * j + 1 * (x 0).val) % 9) (0 + 1 * (x 2).val)
  rw [d, r]
  by_cases hz : (x 1).val = 0
  · rw [if_pos hz, hz]
    refine rd2_of T _ ?_ ?_
    · show 7 * (X _).toNat + 1 * ((x 0).val % 8) = _
      rw [w1, Nat.mod_eq_of_lt hx0]
      simp
    · show 0 + 1 * ((x 2).val % 128) = _
      rw [Nat.mod_eq_of_lt hx2]
  · rw [if_neg hz, show (x 1).val = 1 by omega]
    refine rd2_of T _ ?_ ?_
    · show 7 * (X _).toNat + 1 * ((x 0).val % 8) = _
      rw [w2, Nat.mod_eq_of_lt hx0]
      simp
    · show 0 + 1 * ((x 2).val % 128) = _
      rw [Nat.mod_eq_of_lt hx2]

end Cert.KernelIdeal.Hand
-- ==== Proof.T3.lean ====
module

public import proofs.«01_k».proof.Proof.T4

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Cert.Common

/-- A gathered tile as a matrix: pair `r` from `base`, channel `i`. -/
def rowG (m : ℕ) (T : ℕ → ℕ → EReal) (p : ℕ → ℕ) (base r i : ℕ) : EReal :=
  T (m * p (min (base + r) 34559) + i / 128) (i % 128)

/-- Sixteen rows by one group of lanes, read out of the gathered words. -/
theorem piece {m : ℕ} {T : ℕ → ℕ → EReal} {p : ℕ → ℕ} {base : ℕ} {f : S1152x2x128.Idx → EReal} (hf : StOk m T p base 128 f)
    (n g q : ℕ) (hn : n = 72 * g + q) (hq : q < 8) (hg : g < 16)
    (i1 : ∀ a, S8x2x128.size a = 0 ∨ (![n, 0, 0] : Fin 3 → ℕ) a + (![9, 1, 1] : Fin 3 → ℕ) a * (S8x2x128.size a - 1) < S1152x2x128.size a)
    (hb : S8x2x128.Bitcasts 16 S8x1x128 32) (h1 h2 : S8x1x128.ShapeCasts S8x128) (hc : S16x128.Bitcasts 16 S8x128 32) (y : S16x128.Idx) :
    interleaveRows S16x128
      (shapeCast S8x128 (rowsOfParity 0 S8x1x128 (fun z : S8x2x128.Idx => f ((⟨![n, 0, 0], S8x2x128.size, ![9, 1, 1], i1⟩ : LoadRect S1152x2x128).idx z)) hb) h1)
      (shapeCast S8x128 (rowsOfParity 1 S8x1x128 (fun z : S8x2x128.Idx => f ((⟨![n, 0, 0], S8x2x128.size, ![9, 1, 1], i1⟩ : LoadRect S1152x2x128).idx z)) hb) h2) hc y
      = rowG m T p base (16 * g + (y 0).val) (128 * q + (y 1).val) := by
  subst hn
  have y0 : (y 0).val < 16 := (y 0).isLt
  have y1 : (y 1).val < 128 := (y 1).isLt
  refine (pair_out _ hb h1 h2 hc y).trans ?_
  unfold rd3
  have e0 : (72 * g + q + 9 * ((y 0).val / 2 % 8)) / 9 = 8 * g + (y 0).val / 2 := by omega
  have e1 : (72 * g + q + 9 * ((y 0).val / 2 % 8)) % 9 = q := by omega
  refine (hf _ ?_ ?_).trans ?_
  · show 72 * g + q + 9 * ((y 0).val / 2 % 8) < 9 * 128
    omega
  · show (72 * g + q + 9 * ((y 0).val / 2 % 8)) % 9 < 8
    omega
  · show T (m * p (min (base + 2 * ((72 * g + q + 9 * ((y 0).val / 2 % 8)) / 9) + (0 + 1 * ((y 0).val % 2 % 2))) 34559) + (72 * g + q + 9 * ((y 0).val / 2 % 8)) % 9) (0 + 1 * ((y 1).val % 128)) = T (m * p (min (base + (16 * g + (y 0).val)) 34559) + (128 * q + (y 1).val) / 128) ((128 * q + (y 1).val) % 128)
    rw [e0, e1, show base + 2 * (8 * g + (y 0).val / 2) + (0 + 1 * ((y 0).val % 2 % 2)) = base + (16 * g + (y 0).val) by omega,
      show (128 * q + (y 1).val) / 128 = q by omega, show (128 * q + (y 1).val) % 128 = (y 1).val by omega, show 0 + 1 * ((y 1).val % 128) = (y 1).val by omega]

/-- The same of a load out of a buffer of gathered words. -/
theorem pieceV {arg : Memref sig .tc .vmem S1152x2x128 .bf16} {fL : BufTy.Contents (Elt Ideal) arg.view.ty}
    {m : ℕ} {T : ℕ → ℕ → EReal} {p : ℕ → ℕ} {base : ℕ} (hf : StOk m T p base 128 (arg.view.read (Elt Ideal) fL))
    {n g q : ℕ} {V : FVec Ideal S8x2x128 .bf16}
    {i1 : ∀ a, S8x2x128.size a = 0 ∨ (![n, 0, 0] : Fin 3 → ℕ) a + (![9, 1, 1] : Fin 3 → ℕ) a * (S8x2x128.size a - 1) < S1152x2x128.size a}
    (hV : V = arg.view.readAt (Elt Ideal) (⟨![n, 0, 0], S8x2x128.size, ![9, 1, 1], i1⟩ : LoadRect S1152x2x128) fL)
    (hn : n = 72 * g + q) (hq : q < 8) (hg : g < 16) (y : S16x128.Idx) :
    interleaveRows S16x128
      (shapeCast S8x128 (rowsOfParity 0 S8x1x128 V bitcasts_S8x2x128_w16_S8x1x128_w32) shapeCasts_S8x1x128_S8x128)
      (shapeCast S8x128 (rowsOfParity 1 S8x1x128 V bitcasts_S8x2x128_w16_S8x1x128_w32) shapeCasts_S8x1x128_S8x128) bitcasts_S16x128_w16_S8x128_w32 y
      = rowG m T p base (16 * g + (y 0).val) (128 * q + (y 1).val) := by
  subst hV
  exact piece hf n g q hn hq hg i1 _ _ _ _ y

theorem cat8 {A : ℕ → ℕ → EReal} {g : ℕ} {v0 v1 v2 v3 v4 v5 v6 v7 : S16x128.Idx → EReal} {h : Shape.Concatenates [S16x128, S16x128, S16x128, S16x128, S16x128, S16x128, S16x128, S16x128] S16x1024 1}
    (h0 : ∀ y : S16x128.Idx, v0 y = A (16 * g + (y 0).val) (128 * 0 + (y 1).val))
    (h1 : ∀ y : S16x128.Idx, v1 y = A (16 * g + (y 0).val) (128 * 1 + (y 1).val))
    (h2 : ∀ y : S16x128.Idx, v2 y = A (16 * g + (y 0).val) (128 * 2 + (y 1).val))
    (h3 : ∀ y : S16x128.Idx, v3 y = A (16 * g + (y 0).val) (128 * 3 + (y 1).val))
    (h4 : ∀ y : S16x128.Idx, v4 y = A (16 * g + (y 0).val) (128 * 4 + (y 1).val))
    (h5 : ∀ y : S16x128.Idx, v5 y = A (16 * g + (y 0).val) (128 * 5 + (y 1).val))
    (h6 : ∀ y : S16x128.Idx, v6 y = A (16 * g + (y 0).val) (128 * 6 + (y 1).val))
    (h7 : ∀ y : S16x128.Idx, v7 y = A (16 * g + (y 0).val) (128 * 7 + (y 1).val)) (x : S16x1024.Idx) :
    concatenate S16x1024 1 [⟨S16x128, v0⟩, ⟨S16x128, v1⟩, ⟨S16x128, v2⟩, ⟨S16x128, v3⟩, ⟨S16x128, v4⟩, ⟨S16x128, v5⟩, ⟨S16x128, v6⟩, ⟨S16x128, v7⟩] h x = A (16 * g + (x 0).val) (x 1).val := by
  have key : ∀ e : Fin 8, ∀ y : S16x128.Idx, (![v0, v1, v2, v3, v4, v5, v6, v7] : Fin 8 → S16x128.Idx → EReal) e y = A (16 * g + (y 0).val) (128 * e.val + (y 1).val) := by
    intro e
    match e with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
    | ⟨n + 8, hn⟩ => exact absurd hn (by omega)
  have x1 := (x 1).isLt
  have x1' : (x 1).val < 1024 := x1
  refine (concatenate_ofFn_apply (t := S16x1024) (s₁ := S16x128) 1 (![v0, v1, v2, v3, v4, v5, v6, v7] : Fin 8 → S16x128.Idx → EReal) h rfl 128 rfl x
    ⟨(x 1).val / 128, by omega⟩ rfl (fun a => match a with | 1 => ⟨(x 1).val % 128, Nat.mod_lt _ (by decide)⟩ | 0 => x 0) rfl ?_).trans ?_
  · intro b hb
    match b with
    | 1 => exact absurd rfl hb
    | 0 => rfl
  · refine (key _ _).trans ?_
    show A (16 * g + (x 0).val) (128 * ((x 1).val / 128) + (x 1).val % 128) = _
    rw [Nat.div_add_mod]

theorem cat7 {A : ℕ → ℕ → EReal} {g : ℕ} {v0 v1 v2 v3 v4 v5 v6 : S16x128.Idx → EReal} {h : Shape.Concatenates [S16x128, S16x128, S16x128, S16x128, S16x128, S16x128, S16x128] S16x896 1}
    (h0 : ∀ y : S16x128.Idx, v0 y = A (16 * g + (y 0).val) (128 * 0 + (y 1).val))
    (h1 : ∀ y : S16x128.Idx, v1 y = A (16 * g + (y 0).val) (128 * 1 + (y 1).val))
    (h2 : ∀ y : S16x128.Idx, v2 y = A (16 * g + (y 0).val) (128 * 2 + (y 1).val))
    (h3 : ∀ y : S16x128.Idx, v3 y = A (16 * g + (y 0).val) (128 * 3 + (y 1).val))
    (h4 : ∀ y : S16x128.Idx, v4 y = A (16 * g + (y 0).val) (128 * 4 + (y 1).val))
    (h5 : ∀ y : S16x128.Idx, v5 y = A (16 * g + (y 0).val) (128 * 5 + (y 1).val))
    (h6 : ∀ y : S16x128.Idx, v6 y = A (16 * g + (y 0).val) (128 * 6 + (y 1).val)) (x : S16x896.Idx) :
    concatenate S16x896 1 [⟨S16x128, v0⟩, ⟨S16x128, v1⟩, ⟨S16x128, v2⟩, ⟨S16x128, v3⟩, ⟨S16x128, v4⟩, ⟨S16x128, v5⟩, ⟨S16x128, v6⟩] h x = A (16 * g + (x 0).val) (x 1).val := by
  have key : ∀ e : Fin 7, ∀ y : S16x128.Idx, (![v0, v1, v2, v3, v4, v5, v6] : Fin 7 → S16x128.Idx → EReal) e y = A (16 * g + (y 0).val) (128 * e.val + (y 1).val) := by
    intro e
    match e with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact h6
    | ⟨n + 7, hn⟩ => exact absurd hn (by omega)
  have x1 := (x 1).isLt
  have x1' : (x 1).val < 896 := x1
  refine (concatenate_ofFn_apply (t := S16x896) (s₁ := S16x128) 1 (![v0, v1, v2, v3, v4, v5, v6] : Fin 7 → S16x128.Idx → EReal) h rfl 128 rfl x
    ⟨(x 1).val / 128, by omega⟩ rfl (fun a => match a with | 1 => ⟨(x 1).val % 128, Nat.mod_lt _ (by decide)⟩ | 0 => x 0) rfl ?_).trans ?_
  · intro b hb
    match b with
    | 1 => exact absurd rfl hb
    | 0 => rfl
  · refine (key _ _).trans ?_
    show A (16 * g + (x 0).val) (128 * ((x 1).val / 128) + (x 1).val % 128) = _
    rw [Nat.div_add_mod]

theorem cat16x {A : ℕ → ℕ → EReal} {v0 v1 v2 v3 v4 v5 v6 v7 v8 v9 v10 v11 v12 v13 v14 v15 : S16x1024.Idx → EReal} {h : Shape.Concatenates [S16x1024, S16x1024, S16x1024, S16x1024, S16x1024, S16x1024, S16x1024, S16x1024, S16x1024, S16x1024, S16x1024, S16x1024, S16x1024, S16x1024, S16x1024, S16x1024] S256x1024 0}
    (h0 : ∀ y : S16x1024.Idx, v0 y = A (16 * 0 + (y 0).val) (y 1).val)
    (h1 : ∀ y : S16x1024.Idx, v1 y = A (16 * 1 + (y 0).val) (y 1).val)
    (h2 : ∀ y : S16x1024.Idx, v2 y = A (16 * 2 + (y 0).val) (y 1).val)
    (h3 : ∀ y : S16x1024.Idx, v3 y = A (16 * 3 + (y 0).val) (y 1).val)
    (h4 : ∀ y : S16x1024.Idx, v4 y = A (16 * 4 + (y 0).val) (y 1).val)
    (h5 : ∀ y : S16x1024.Idx, v5 y = A (16 * 5 + (y 0).val) (y 1).val)
    (h6 : ∀ y : S16x1024.Idx, v6 y = A (16 * 6 + (y 0).val) (y 1).val)
    (h7 : ∀ y : S16x1024.Idx, v7 y = A (16 * 7 + (y 0).val) (y 1).val)
    (h8 : ∀ y : S16x1024.Idx, v8 y = A (16 * 8 + (y 0).val) (y 1).val)
    (h9 : ∀ y : S16x1024.Idx, v9 y = A (16 * 9 + (y 0).val) (y 1).val)
    (h10 : ∀ y : S16x1024.Idx, v10 y = A (16 * 10 + (y 0).val) (y 1).val)
    (h11 : ∀ y : S16x1024.Idx, v11 y = A (16 * 11 + (y 0).val) (y 1).val)
    (h12 : ∀ y : S16x1024.Idx, v12 y = A (16 * 12 + (y 0).val) (y 1).val)
    (h13 : ∀ y : S16x1024.Idx, v13 y = A (16 * 13 + (y 0).val) (y 1).val)
    (h14 : ∀ y : S16x1024.Idx, v14 y = A (16 * 14 + (y 0).val) (y 1).val)
    (h15 : ∀ y : S16x1024.Idx, v15 y = A (16 * 15 + (y 0).val) (y 1).val) (x : S256x1024.Idx) :
    concatenate S256x1024 0 [⟨S16x1024, v0⟩, ⟨S16x1024, v1⟩, ⟨S16x1024, v2⟩, ⟨S16x1024, v3⟩, ⟨S16x1024, v4⟩, ⟨S16x1024, v5⟩, ⟨S16x1024, v6⟩, ⟨S16x1024, v7⟩, ⟨S16x1024, v8⟩, ⟨S16x1024, v9⟩, ⟨S16x1024, v10⟩, ⟨S16x1024, v11⟩, ⟨S16x1024, v12⟩, ⟨S16x1024, v13⟩, ⟨S16x1024, v14⟩, ⟨S16x1024, v15⟩] h x = A (x 0).val (x 1).val := by
  have key : ∀ e : Fin 16, ∀ y : S16x1024.Idx, (![v0, v1, v2, v3, v4, v5, v6, v7, v8, v9, v10, v11, v12, v13, v14, v15] : Fin 16 → S16x1024.Idx → EReal) e y = A (16 * e.val + (y 0).val) (y 1).val := by
    intro e
    match e with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
    | ⟨8, _⟩ => exact h8
    | ⟨9, _⟩ => exact h9
    | ⟨10, _⟩ => exact h10
    | ⟨11, _⟩ => exact h11
    | ⟨12, _⟩ => exact h12
    | ⟨13, _⟩ => exact h13
    | ⟨14, _⟩ => exact h14
    | ⟨15, _⟩ => exact h15
    | ⟨n + 16, hn⟩ => exact absurd hn (by omega)
  have x0 := (x 0).isLt
  have x0' : (x 0).val < 256 := x0
  refine (concatenate_ofFn_apply (t := S256x1024) (s₁ := S16x1024) 0 (![v0, v1, v2, v3, v4, v5, v6, v7, v8, v9, v10, v11, v12, v13, v14, v15] : Fin 16 → S16x1024.Idx → EReal) h rfl 16 rfl x
    ⟨(x 0).val / 16, by omega⟩ rfl (fun a => match a with | 0 => ⟨(x 0).val % 16, Nat.mod_lt _ (by decide)⟩ | 1 => x 1) rfl ?_).trans ?_
  · intro b hb
    match b with
    | 0 => exact absurd rfl hb
    | 1 => rfl
  · refine (key _ _).trans ?_
    show A (16 * ((x 0).val / 16) + (x 0).val % 16) (x 1).val = _
    rw [Nat.div_add_mod]

theorem cat16y {A : ℕ → ℕ → EReal} {v0 v1 v2 v3 v4 v5 v6 v7 v8 v9 v10 v11 v12 v13 v14 v15 : S16x896.Idx → EReal} {h : Shape.Concatenates [S16x896, S16x896, S16x896, S16x896, S16x896, S16x896, S16x896, S16x896, S16x896, S16x896, S16x896, S16x896, S16x896, S16x896, S16x896, S16x896] S256x896 0}
    (h0 : ∀ y : S16x896.Idx, v0 y = A (16 * 0 + (y 0).val) (y 1).val)
    (h1 : ∀ y : S16x896.Idx, v1 y = A (16 * 1 + (y 0).val) (y 1).val)
    (h2 : ∀ y : S16x896.Idx, v2 y = A (16 * 2 + (y 0).val) (y 1).val)
    (h3 : ∀ y : S16x896.Idx, v3 y = A (16 * 3 + (y 0).val) (y 1).val)
    (h4 : ∀ y : S16x896.Idx, v4 y = A (16 * 4 + (y 0).val) (y 1).val)
    (h5 : ∀ y : S16x896.Idx, v5 y = A (16 * 5 + (y 0).val) (y 1).val)
    (h6 : ∀ y : S16x896.Idx, v6 y = A (16 * 6 + (y 0).val) (y 1).val)
    (h7 : ∀ y : S16x896.Idx, v7 y = A (16 * 7 + (y 0).val) (y 1).val)
    (h8 : ∀ y : S16x896.Idx, v8 y = A (16 * 8 + (y 0).val) (y 1).val)
    (h9 : ∀ y : S16x896.Idx, v9 y = A (16 * 9 + (y 0).val) (y 1).val)
    (h10 : ∀ y : S16x896.Idx, v10 y = A (16 * 10 + (y 0).val) (y 1).val)
    (h11 : ∀ y : S16x896.Idx, v11 y = A (16 * 11 + (y 0).val) (y 1).val)
    (h12 : ∀ y : S16x896.Idx, v12 y = A (16 * 12 + (y 0).val) (y 1).val)
    (h13 : ∀ y : S16x896.Idx, v13 y = A (16 * 13 + (y 0).val) (y 1).val)
    (h14 : ∀ y : S16x896.Idx, v14 y = A (16 * 14 + (y 0).val) (y 1).val)
    (h15 : ∀ y : S16x896.Idx, v15 y = A (16 * 15 + (y 0).val) (y 1).val) (x : S256x896.Idx) :
    concatenate S256x896 0 [⟨S16x896, v0⟩, ⟨S16x896, v1⟩, ⟨S16x896, v2⟩, ⟨S16x896, v3⟩, ⟨S16x896, v4⟩, ⟨S16x896, v5⟩, ⟨S16x896, v6⟩, ⟨S16x896, v7⟩, ⟨S16x896, v8⟩, ⟨S16x896, v9⟩, ⟨S16x896, v10⟩, ⟨S16x896, v11⟩, ⟨S16x896, v12⟩, ⟨S16x896, v13⟩, ⟨S16x896, v14⟩, ⟨S16x896, v15⟩] h x = A (x 0).val (x 1).val := by
  have key : ∀ e : Fin 16, ∀ y : S16x896.Idx, (![v0, v1, v2, v3, v4, v5, v6, v7, v8, v9, v10, v11, v12, v13, v14, v15] : Fin 16 → S16x896.Idx → EReal) e y = A (16 * e.val + (y 0).val) (y 1).val := by
    intro e
    match e with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
    | ⟨8, _⟩ => exact h8
    | ⟨9, _⟩ => exact h9
    | ⟨10, _⟩ => exact h10
    | ⟨11, _⟩ => exact h11
    | ⟨12, _⟩ => exact h12
    | ⟨13, _⟩ => exact h13
    | ⟨14, _⟩ => exact h14
    | ⟨15, _⟩ => exact h15
    | ⟨n + 16, hn⟩ => exact absurd hn (by omega)
  have x0 := (x 0).isLt
  have x0' : (x 0).val < 256 := x0
  refine (concatenate_ofFn_apply (t := S256x896) (s₁ := S16x896) 0 (![v0, v1, v2, v3, v4, v5, v6, v7, v8, v9, v10, v11, v12, v13, v14, v15] : Fin 16 → S16x896.Idx → EReal) h rfl 16 rfl x
    ⟨(x 0).val / 16, by omega⟩ rfl (fun a => match a with | 0 => ⟨(x 0).val % 16, Nat.mod_lt _ (by decide)⟩ | 1 => x 1) rfl ?_).trans ?_
  · intro b hb
    match b with
    | 0 => exact absurd rfl hb
    | 1 => rfl
  · refine (key _ _).trans ?_
    show A (16 * ((x 0).val / 16) + (x 0).val % 16) (x 1).val = _
    rw [Nat.div_add_mod]

/-- The masked product of one tile, at a place of the result. -/
theorem dot_tile {A B : ℕ → ℕ → EReal} {lhs : FVec Ideal S256x1024 .bf16} {rhs : FVec Ideal S256x896 .bf16} {v : BitVec 32}
    {hi : S256x896.Iotas .tc 32 [0]} {g1 : FTy.bits .bf16 < FTy.bits .f32} {g2 : FTy.bits .bf16 < FTy.bits .f32}
    (hA : ∀ y, lhs y = A (y 0).val (y 1).val) (hB : ∀ y, rhs y = B (y 0).val (y 1).val) (x : S1024x896.Idx) :
    matmul (F := Ideal) dot_S256x1024_S256x896_S1024x896_0_0_1_1_n_n none lhs
      (truncf .bf16 (select (cmpi .slt (iota .tc S256x896 32 [0] hi) (broadcast S256x896 v)) (extf .f32 rhs g1)
        (broadcast S256x896 (Scalar.ofBits (F := Ideal) .f32 0x00000000#32))) g2) (constant S1024x896 .f32 0x00000000#32) x
      = ∑ r : Fin 256, A r.val (x 0).val * (if (BitVec.ofNat 32 r.val).slt v then B r.val (x 1).val else 0) := by
  refine (Ideal.matmul_constant_zero_apply _ none _ _ _).trans ?_
  rw [DotDims.sum_contr₁ _ (a := 0) (K := 256) rfl rfl]
  refine Finset.sum_congr rfl fun r _ => ?_
  refine congrArg₂ (· * ·) (hA _) ?_
  show (if IntOp.cmpi .slt (BitVec.ofNat 32 (0 + r.val)) v = 1#1 then rhs _ else Scalar.ofBits (F := Ideal) .f32 0x00000000#32) = _
  rw [hB, Nat.zero_add]
  have z : Scalar.ofBits (F := Ideal) .f32 0x00000000#32 = (0 : EReal) := by simp
  rw [z]
  by_cases h : (BitVec.ofNat 32 r.val).slt v = true
  · rw [if_pos h, if_pos (by simp [IntOp.cmpi, h])]; rfl
  · rw [if_neg h, if_neg (by simp [IntOp.cmpi, h])]

end Cert.KernelIdeal.Hand
-- ==== Proof.S4.lean ====
module

public import proofs.«01_k».proof.Proof.T4

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Cert.Common

theorem off13_eq (k : Fin k0_t4_loop.trips) : k0_off13 k = ![72 * k.val + 9 * 0, 0, 0] := by revert k; decide +kernel
theorem off18_eq (k : Fin k0_t4_loop.trips) : k0_off18 k = ![72 * k.val + 9 * 0, 0, 0] := by revert k; decide +kernel
theorem off23_eq (k : Fin k0_t4_loop.trips) : k0_off23 k = ![72 * k.val + 9 * 1, 0, 0] := by revert k; decide +kernel
theorem off28_eq (k : Fin k0_t4_loop.trips) : k0_off28 k = ![72 * k.val + 9 * 1, 0, 0] := by revert k; decide +kernel
theorem off33_eq (k : Fin k0_t4_loop.trips) : k0_off33 k = ![72 * k.val + 9 * 2, 0, 0] := by revert k; decide +kernel
theorem off38_eq (k : Fin k0_t4_loop.trips) : k0_off38 k = ![72 * k.val + 9 * 2, 0, 0] := by revert k; decide +kernel
theorem off43_eq (k : Fin k0_t4_loop.trips) : k0_off43 k = ![72 * k.val + 9 * 3, 0, 0] := by revert k; decide +kernel
theorem off48_eq (k : Fin k0_t4_loop.trips) : k0_off48 k = ![72 * k.val + 9 * 3, 0, 0] := by revert k; decide +kernel
theorem off53_eq (k : Fin k0_t4_loop.trips) : k0_off53 k = ![72 * k.val + 9 * 4, 0, 0] := by revert k; decide +kernel
theorem off58_eq (k : Fin k0_t4_loop.trips) : k0_off58 k = ![72 * k.val + 9 * 4, 0, 0] := by revert k; decide +kernel
theorem off63_eq (k : Fin k0_t4_loop.trips) : k0_off63 k = ![72 * k.val + 9 * 5, 0, 0] := by revert k; decide +kernel
theorem off68_eq (k : Fin k0_t4_loop.trips) : k0_off68 k = ![72 * k.val + 9 * 5, 0, 0] := by revert k; decide +kernel
theorem off73_eq (k : Fin k0_t4_loop.trips) : k0_off73 k = ![72 * k.val + 9 * 6, 0, 0] := by revert k; decide +kernel
theorem off78_eq (k : Fin k0_t4_loop.trips) : k0_off78 k = ![72 * k.val + 9 * 6, 0, 0] := by revert k; decide +kernel
theorem off83_eq (k : Fin k0_t4_loop.trips) : k0_off83 k = ![72 * k.val + 9 * 7, 0, 0] := by revert k; decide +kernel
theorem off88_eq (k : Fin k0_t4_loop.trips) : k0_off88 k = ![72 * k.val + 9 * 7, 0, 0] := by revert k; decide +kernel

set_option warn.classDefReducibility false in
set_option maxHeartbeats 4000000 in
/-- The gathering loop: every word before trip `k`'s is gathered. -/
@[sl_loop] def loopInv_k0_t4 (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x2x128 .bf16) (harg12 : arg12.IsWhole) (arg13 : Memref sig .tc .vmem S1152x2x128 .bf16) (harg13 : arg13.IsWhole) (c : Dev nD) (v4 v7 : BitVec 32) (k0_hw1 : k0_chk1 v4 v7) (v8 c0 c1 : BitVec 32) (t : Fin (k0_t3_loop v4 v7).trips) (v18 : BitVec 32) (X2 : BufTy.Contents (Elt Ideal) arg2.view.ty) (X3 : BufTy.Contents (Elt Ideal) arg3.view.ty) (X9 : BufTy.Contents (Elt Ideal) arg9.view.ty) (X10 : BufTy.Contents (Elt Ideal) arg10.view.ty) (hX2 : ∀ (o : Fin 1 → ℕ) (i : ∀ a, o a + S1.size a ≤ S34560.size a) x, (arg2.view.readAt (Elt Ideal) (Rect.unit (s := S34560) o S1.size i).toLoadRect X2 x).toNat < 1280) (hX3 : ∀ (o : Fin 1 → ℕ) (i : ∀ a, o a + S1.size a ≤ S34560.size a) x, (arg3.view.readAt (Elt Ideal) (Rect.unit (s := S34560) o S1.size i).toLoadRect X3 x).toNat < 1280) (hs : Seg v4 v7) :
    Gen.LoopInvTy_k0_t4 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v4 v7 k0_hw1 v8 c0 c1 t v18 where
  inv k _ := iprop(held c arg2 X2 ∗ held c arg3 X3 ∗ held c arg9 X9 ∗ held c arg10 X10 ∗ (∃ f, held c arg12 f ∗ ⌜StOk 9 (rd2 (arg9.view.read (Elt Ideal) X9)) (fun n => (rd1 (arg2.view.read (Elt Ideal) X2) n).toNat) (v4.toNat + 256 * t.val)  (8 * k) (arg12.view.read (Elt Ideal) f)⌝) ∗ (∃ f, held c arg13 f ∗ ⌜StOk 7 (rd2 (arg10.view.read (Elt Ideal) X10)) (fun n => (rd1 (arg3.view.read (Elt Ideal) X3) n).toNat) (v4.toNat + 256 * t.val)  (8 * k) (arg13.view.read (Elt Ideal) f)⌝))
  step k acc := by
    unfold k0_t4_body
    iintro ⟨H2, H3, H9, H10, ⟨%f12, H12, %h12⟩, ⟨%f13, H13, %h13⟩⟩
    sl_exec (disch := first | ((with_reducible refine chk2_of _ ?_); exact hX2 _ _ _) | ((with_reducible refine chk3_of _ ?_); exact hX2 _ _ _) | ((with_reducible refine chk4_of _ ?_); exact hX3 _ _ _) | ((with_reducible refine chk5_of _ ?_); exact hX3 _ _ _) | ((with_reducible refine chk6_of _ ?_); exact hX2 _ _ _) | ((with_reducible refine chk7_of _ ?_); exact hX2 _ _ _) | ((with_reducible refine chk8_of _ ?_); exact hX3 _ _ _) | ((with_reducible refine chk9_of _ ?_); exact hX3 _ _ _) | ((with_reducible refine chk10_of _ ?_); exact hX2 _ _ _) | ((with_reducible refine chk11_of _ ?_); exact hX2 _ _ _) | ((with_reducible refine chk12_of _ ?_); exact hX3 _ _ _) | ((with_reducible refine chk13_of _ ?_); exact hX3 _ _ _) | ((with_reducible refine chk14_of _ ?_); exact hX2 _ _ _) | ((with_reducible refine chk15_of _ ?_); exact hX2 _ _ _) | ((with_reducible refine chk16_of _ ?_); exact hX3 _ _ _) | ((with_reducible refine chk17_of _ ?_); exact hX3 _ _ _) | ((with_reducible refine chk18_of _ ?_); exact hX2 _ _ _) | ((with_reducible refine chk19_of _ ?_); exact hX2 _ _ _) | ((with_reducible refine chk20_of _ ?_); exact hX3 _ _ _) | ((with_reducible refine chk21_of _ ?_); exact hX3 _ _ _) | ((with_reducible refine chk22_of _ ?_); exact hX2 _ _ _) | ((with_reducible refine chk23_of _ ?_); exact hX2 _ _ _) | ((with_reducible refine chk24_of _ ?_); exact hX3 _ _ _) | ((with_reducible refine chk25_of _ ?_); exact hX3 _ _ _) | ((with_reducible refine chk26_of _ ?_); exact hX2 _ _ _) | ((with_reducible refine chk27_of _ ?_); exact hX2 _ _ _) | ((with_reducible refine chk28_of _ ?_); exact hX3 _ _ _) | ((with_reducible refine chk29_of _ ?_); exact hX3 _ _ _) | ((with_reducible refine chk30_of _ ?_); exact hX2 _ _ _) | ((with_reducible refine chk31_of _ ?_); exact hX2 _ _ _) | ((with_reducible refine chk32_of _ ?_); exact hX3 _ _ _) | ((with_reducible refine chk33_of _ ?_); exact hX3 _ _ _))
    sl_step
    isplitl [H2]; · iexact H2
    isplitl [H3]; · iexact H3
    isplitl [H9]; · iexact H9
    isplitl [H10]; · iexact H10
    isplitl [H12]
    · iexists _
      isplitl [H12]; · iexact H12
      ipureintro
      intro y hy1 hy2
      refine writes_agree (Val := Elt Ideal) (e := .bf16) _ _ (stG 9 (rd2 (arg9.view.read (Elt Ideal) X9)) (fun n => (rd1 (arg2.view.read (Elt Ideal) X2) n).toNat) (v4.toNat + 256 * t.val)) _ ?_ y ?_
      · repeat' (refine List.forall_mem_cons.mpr ⟨fun x => ?_, ?_⟩)
        rotate_right
        · exact fun p hp => absurd hp List.not_mem_nil
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_stx (arg9.view.read (Elt Ideal) X9) (arg2.view.read (Elt Ideal) X2) (v4.toNat + 256 * t.val) k.val 7 (by decide) _ _ (off79_eq hs t k) (off81_eq hs t k) _ _ _ _ _ _ (off80_eq _ (hX2 _ _ _)) (off82_eq _ (hX2 _ _ _)) _ _ _ (off83_eq k) _ _ _ _ x
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_stx (arg9.view.read (Elt Ideal) X9) (arg2.view.read (Elt Ideal) X2) (v4.toNat + 256 * t.val) k.val 6 (by decide) _ _ (off69_eq hs t k) (off71_eq hs t k) _ _ _ _ _ _ (off70_eq _ (hX2 _ _ _)) (off72_eq _ (hX2 _ _ _)) _ _ _ (off73_eq k) _ _ _ _ x
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_stx (arg9.view.read (Elt Ideal) X9) (arg2.view.read (Elt Ideal) X2) (v4.toNat + 256 * t.val) k.val 5 (by decide) _ _ (off59_eq hs t k) (off61_eq hs t k) _ _ _ _ _ _ (off60_eq _ (hX2 _ _ _)) (off62_eq _ (hX2 _ _ _)) _ _ _ (off63_eq k) _ _ _ _ x
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_stx (arg9.view.read (Elt Ideal) X9) (arg2.view.read (Elt Ideal) X2) (v4.toNat + 256 * t.val) k.val 4 (by decide) _ _ (off49_eq hs t k) (off51_eq hs t k) _ _ _ _ _ _ (off50_eq _ (hX2 _ _ _)) (off52_eq _ (hX2 _ _ _)) _ _ _ (off53_eq k) _ _ _ _ x
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_stx (arg9.view.read (Elt Ideal) X9) (arg2.view.read (Elt Ideal) X2) (v4.toNat + 256 * t.val) k.val 3 (by decide) _ _ (off39_eq hs t k) (off41_eq hs t k) _ _ _ _ _ _ (off40_eq _ (hX2 _ _ _)) (off42_eq _ (hX2 _ _ _)) _ _ _ (off43_eq k) _ _ _ _ x
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_stx (arg9.view.read (Elt Ideal) X9) (arg2.view.read (Elt Ideal) X2) (v4.toNat + 256 * t.val) k.val 2 (by decide) _ _ (off29_eq hs t k) (off31_eq hs t k) _ _ _ _ _ _ (off30_eq _ (hX2 _ _ _)) (off32_eq _ (hX2 _ _ _)) _ _ _ (off33_eq k) _ _ _ _ x
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_stx (arg9.view.read (Elt Ideal) X9) (arg2.view.read (Elt Ideal) X2) (v4.toNat + 256 * t.val) k.val 1 (by decide) _ _ (off19_eq hs t k) (off21_eq hs t k) _ _ _ _ _ _ (off20_eq _ (hX2 _ _ _)) (off22_eq _ (hX2 _ _ _)) _ _ _ (off23_eq k) _ _ _ _ x
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_stx (arg9.view.read (Elt Ideal) X9) (arg2.view.read (Elt Ideal) X2) (v4.toNat + 256 * t.val) k.val 0 (by decide) _ _ (off9_eq hs t k) (off11_eq hs t k) _ _ _ _ _ _ (off10_eq _ (hX2 _ _ _)) (off12_eq _ (hX2 _ _ _)) _ _ _ (off13_eq k) _ _ _ _ x
      · by_cases hc : (y 0).val < 72 * k.val
        · exact Or.inr (h12 y (by omega) hy2)
        · refine Or.inl (cover_st k.val _ ?_ y (by omega) (by omega) hy2)
          intro j hj
          interval_cases j
          · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), off13_eq k, fun _ => rfl, rfl⟩
          · exact ⟨_, List.mem_cons_of_mem _ (List.mem_cons_of_mem _ (List.mem_cons_of_mem _ (List.mem_cons_of_mem _ (List.mem_cons_of_mem _ (List.mem_cons_of_mem _ (List.mem_cons_self)))))), off23_eq k, fun _ => rfl, rfl⟩
          · exact ⟨_, List.mem_cons_of_mem _ (List.mem_cons_of_mem _ (List.mem_cons_of_mem _ (List.mem_cons_of_mem _ (List.mem_cons_of_mem _ (List.mem_cons_self))))), off33_eq k, fun _ => rfl, rfl⟩
          · exact ⟨_, List.mem_cons_of_mem _ (List.mem_cons_of_mem _ (List.mem_cons_of_mem _ (List.mem_cons_of_mem _ (List.mem_cons_self)))), off43_eq k, fun _ => rfl, rfl⟩
          · exact ⟨_, List.mem_cons_of_mem _ (List.mem_cons_of_mem _ (List.mem_cons_of_mem _ (List.mem_cons_self))), off53_eq k, fun _ => rfl, rfl⟩
          · exact ⟨_, List.mem_cons_of_mem _ (List.mem_cons_of_mem _ (List.mem_cons_self)), off63_eq k, fun _ => rfl, rfl⟩
          · exact ⟨_, List.mem_cons_of_mem _ (List.mem_cons_self), off73_eq k, fun _ => rfl, rfl⟩
          · exact ⟨_, List.mem_cons_self, off83_eq k, fun _ => rfl, rfl⟩
    · iexists _
      isplitl [H13]; · iexact H13
      ipureintro
      intro y hy1 hy2
      refine writes_agree (Val := Elt Ideal) (e := .bf16) _ _ (stG 7 (rd2 (arg10.view.read (Elt Ideal) X10)) (fun n => (rd1 (arg3.view.read (Elt Ideal) X3) n).toNat) (v4.toNat + 256 * t.val)) _ ?_ y ?_
      · repeat' (refine List.forall_mem_cons.mpr ⟨fun x => ?_, ?_⟩)
        rotate_right
        · exact fun p hp => absurd hp List.not_mem_nil
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_sty (arg10.view.read (Elt Ideal) X10) (arg3.view.read (Elt Ideal) X3) (v4.toNat + 256 * t.val) k.val 7 (by decide) _ _ (off84_eq hs t k) (off86_eq hs t k) _ _ _ _ _ _ (off85_eq _ (hX3 _ _ _)) (off87_eq _ (hX3 _ _ _)) _ _ _ (off88_eq k) _ _ _ _ x
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_sty (arg10.view.read (Elt Ideal) X10) (arg3.view.read (Elt Ideal) X3) (v4.toNat + 256 * t.val) k.val 6 (by decide) _ _ (off74_eq hs t k) (off76_eq hs t k) _ _ _ _ _ _ (off75_eq _ (hX3 _ _ _)) (off77_eq _ (hX3 _ _ _)) _ _ _ (off78_eq k) _ _ _ _ x
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_sty (arg10.view.read (Elt Ideal) X10) (arg3.view.read (Elt Ideal) X3) (v4.toNat + 256 * t.val) k.val 5 (by decide) _ _ (off64_eq hs t k) (off66_eq hs t k) _ _ _ _ _ _ (off65_eq _ (hX3 _ _ _)) (off67_eq _ (hX3 _ _ _)) _ _ _ (off68_eq k) _ _ _ _ x
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_sty (arg10.view.read (Elt Ideal) X10) (arg3.view.read (Elt Ideal) X3) (v4.toNat + 256 * t.val) k.val 4 (by decide) _ _ (off54_eq hs t k) (off56_eq hs t k) _ _ _ _ _ _ (off55_eq _ (hX3 _ _ _)) (off57_eq _ (hX3 _ _ _)) _ _ _ (off58_eq k) _ _ _ _ x
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_sty (arg10.view.read (Elt Ideal) X10) (arg3.view.read (Elt Ideal) X3) (v4.toNat + 256 * t.val) k.val 3 (by decide) _ _ (off44_eq hs t k) (off46_eq hs t k) _ _ _ _ _ _ (off45_eq _ (hX3 _ _ _)) (off47_eq _ (hX3 _ _ _)) _ _ _ (off48_eq k) _ _ _ _ x
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_sty (arg10.view.read (Elt Ideal) X10) (arg3.view.read (Elt Ideal) X3) (v4.toNat + 256 * t.val) k.val 2 (by decide) _ _ (off34_eq hs t k) (off36_eq hs t k) _ _ _ _ _ _ (off35_eq _ (hX3 _ _ _)) (off37_eq _ (hX3 _ _ _)) _ _ _ (off38_eq k) _ _ _ _ x
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_sty (arg10.view.read (Elt Ideal) X10) (arg3.view.read (Elt Ideal) X3) (v4.toNat + 256 * t.val) k.val 1 (by decide) _ _ (off24_eq hs t k) (off26_eq hs t k) _ _ _ _ _ _ (off25_eq _ (hX3 _ _ _)) (off27_eq _ (hX3 _ _ _)) _ _ _ (off28_eq k) _ _ _ _ x
        · try delta loopInv_k0_t4.sl.r loopInv_k0_t4.sl.r_1 loopInv_k0_t4.sl.r_2 loopInv_k0_t4.sl.r_3 loopInv_k0_t4.sl.r_4 loopInv_k0_t4.sl.r_5 loopInv_k0_t4.sl.r_6 loopInv_k0_t4.sl.r_7 loopInv_k0_t4.sl.r_8 loopInv_k0_t4.sl.r_9
          simp (config := { zeta := true }) only [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self]
          exact pay_sty (arg10.view.read (Elt Ideal) X10) (arg3.view.read (Elt Ideal) X3) (v4.toNat + 256 * t.val) k.val 0 (by decide) _ _ (off14_eq hs t k) (off16_eq hs t k) _ _ _ _ _ _ (off15_eq _ (hX3 _ _ _)) (off17_eq _ (hX3 _ _ _)) _ _ _ (off18_eq k) _ _ _ _ x
      · by_cases hc : (y 0).val < 72 * k.val
        · exact Or.inr (h13 y (by omega) hy2)
        · refine Or.inl (cover_st k.val _ ?_ y (by omega) (by omega) hy2)
          intro j hj
          interval_cases j
          · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), off18_eq k, fun _ => rfl, rfl⟩
          · exact ⟨_, List.mem_cons_of_mem _ (List.mem_cons_of_mem _ (List.mem_cons_of_mem _ (List.mem_cons_of_mem _ (List.mem_cons_of_mem _ (List.mem_cons_of_mem _ (List.mem_cons_self)))))), off28_eq k, fun _ => rfl, rfl⟩
          · exact ⟨_, List.mem_cons_of_mem _ (List.mem_cons_of_mem _ (List.mem_cons_of_mem _ (List.mem_cons_of_mem _ (List.mem_cons_of_mem _ (List.mem_cons_self))))), off38_eq k, fun _ => rfl, rfl⟩
          · exact ⟨_, List.mem_cons_of_mem _ (List.mem_cons_of_mem _ (List.mem_cons_of_mem _ (List.mem_cons_of_mem _ (List.mem_cons_self)))), off48_eq k, fun _ => rfl, rfl⟩
          · exact ⟨_, List.mem_cons_of_mem _ (List.mem_cons_of_mem _ (List.mem_cons_of_mem _ (List.mem_cons_self))), off58_eq k, fun _ => rfl, rfl⟩
          · exact ⟨_, List.mem_cons_of_mem _ (List.mem_cons_of_mem _ (List.mem_cons_self)), off68_eq k, fun _ => rfl, rfl⟩
          · exact ⟨_, List.mem_cons_of_mem _ (List.mem_cons_self), off78_eq k, fun _ => rfl, rfl⟩
          · exact ⟨_, List.mem_cons_self, off88_eq k, fun _ => rfl, rfl⟩

end Cert.KernelIdeal.Hand
-- ==== Proof.S3.lean ====
module

public import proofs.«01_k».proof.Proof.T3
public import proofs.«01_k».proof.Proof.S4

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Cert.Common

/-- One tile's masked product: 256 pairs from `base`, those below `v` in signed order counting. -/
def tileV (TX TY : ℕ → ℕ → EReal) (p q : ℕ → ℕ) (base : ℕ) (v : BitVec 32) (i j : ℕ) : EReal :=
  ∑ r : Fin 256, rowG 9 TX p base r.val i * (if (BitVec.ofNat 32 r.val).slt v then rowG 7 TY q base r.val j else 0)

/-- The result block is the sum of the first `k` tiles. -/
def SumOk (T : ℕ → ℕ → ℕ → EReal) (k : ℕ) (f : S1x1024x896.Idx → EReal) : Prop :=
  ∀ y : S1x1024x896.Idx, f y = ∑ t ∈ Finset.range k, T t (y 1).val (y 2).val

theorem st0 (m : ℕ) (T : ℕ → ℕ → EReal) (p : ℕ → ℕ) (b : ℕ) (f : S1152x2x128.Idx → EReal) : StOk m T p b (8 * 0) f :=
  fun y h => absurd h (by omega)

theorem cast_lead {α : Type} {a b : ℕ} [NeZero a] [NeZero b] (v : (⟨2, ![a, b]⟩ : Shape).Idx → α) (h : (⟨2, ![a, b]⟩ : Shape).ShapeCasts ⟨3, ![1, a, b]⟩) (j : (⟨3, ![1, a, b]⟩ : Shape).Idx) :
    shapeCast ⟨3, ![1, a, b]⟩ v h j = rd2 v (j 1).val (j 2).val := by
  unfold shapeCast
  have h1 : (j 0).val < 1 := (j 0).isLt
  have e := Shape.reshapeEquiv_eq_of_rowMajor h (x := j) (y := (fun x => match x with | 0 => j 1 | 1 => j 2 : (⟨2, ![a, b]⟩ : Shape).Idx)) ?_
  · rw [e]; exact rd2_of v _ rfl rfl
  · rw [Shape.rowMajor_val_two, Shape.rowMajor_val_three]
    show (j 1).val * b + (j 2).val = ((j 0).val * a + (j 1).val) * b + (j 2).val
    have : (j 0).val = 0 := by omega
    rw [this]; simp

theorem cast_unlead {α : Type} {a b : ℕ} [NeZero a] [NeZero b] (v : (⟨3, ![1, a, b]⟩ : Shape).Idx → α) (h : (⟨3, ![1, a, b]⟩ : Shape).ShapeCasts ⟨2, ![a, b]⟩) (j : (⟨2, ![a, b]⟩ : Shape).Idx) :
    shapeCast ⟨2, ![a, b]⟩ v h j = rd3 v 0 (j 0).val (j 1).val := by
  unfold shapeCast
  have e := Shape.reshapeEquiv_eq_of_rowMajor h (x := j) (y := (fun x => match x with | 0 => ⟨0, Nat.one_pos⟩ | 1 => j 0 | 2 => j 1 : (⟨3, ![1, a, b]⟩ : Shape).Idx)) ?_
  · rw [e]; exact rd3_of v _ rfl rfl rfl
  · rw [Shape.rowMajor_val_two, Shape.rowMajor_val_three]
    show (0 * a + (j 0).val) * b + (j 1).val = (j 0).val * b + (j 1).val
    simp

/-- What the first tile stores. -/
theorem pay7_at (v : FVec Ideal S1024x896 .f32) (G : ℕ → ℕ → EReal) (hv : ∀ x, v x = G (x 0).val (x 1).val) (y : S1x1024x896.Idx) :
    k0_pay7 v y = G (y 1).val (y 2).val := by
  refine (cast_lead v _ y).trans ((hv _).trans ?_)
  show G ((y 1).val % 1024) ((y 2).val % 896) = _
  rw [Nat.mod_eq_of_lt (show (y 1).val < 1024 from (y 1).isLt), Nat.mod_eq_of_lt (show (y 2).val < 896 from (y 2).isLt)]

/-- What a later tile stores: what was there and its own product. -/
theorem pay8_at (v : FVec Ideal S1024x896 .f32) (G H : ℕ → ℕ → EReal) (hv : ∀ x, v x = G (x 0).val (x 1).val)
    (w : FVec Ideal S1x1024x896 .f32) (hw : ∀ x, w x = H (x 1).val (x 2).val) (y : S1x1024x896.Idx) :
    k0_pay8 v w y = H (y 1).val (y 2).val + G (y 1).val (y 2).val := by
  refine (cast_lead (addf (F := Ideal) (φ := .f32) (shapeCast S1024x896 w shapeCasts_S1x1024x896_S1024x896) v) _ y).trans ?_
  have y1 : (y 1).val < 1024 := (y 1).isLt
  have y2 : (y 2).val < 896 := (y 2).isLt
  unfold rd2
  show shapeCast S1024x896 w _ _ + v _ = _
  refine congrArg₂ (· + ·) ((cast_unlead w _ _).trans ((hw _).trans ?_)) ((hv _).trans ?_)
  · show H ((y 1).val % 1024 % 1024) ((y 2).val % 896 % 896) = _
    rw [Nat.mod_eq_of_lt y1, Nat.mod_eq_of_lt y1, Nat.mod_eq_of_lt y2, Nat.mod_eq_of_lt y2]
  · show G ((y 1).val % 1024) ((y 2).val % 896) = _
    rw [Nat.mod_eq_of_lt y1, Nat.mod_eq_of_lt y2]

theorem first_iff : ∀ n : ℕ, n < 5 → (Scalar.cmpi .ne (Scalar.extui (Scalar.cmpi .eq (Scf.iv 0#32 1#32 n) 0#32) : BitVec 32) 0#32 = 1#1 ↔ n = 0) := by decide +kernel
theorem later_iff : ∀ n : ℕ, n < 5 → (Scalar.cmpi .ne (Scalar.extui (Scalar.cmpi .sgt (Scf.iv 0#32 1#32 n) 0#32) : BitVec 32) 0#32 = 1#1 ↔ 0 < n) := by decide +kernel
theorem left_eq (v : BitVec 32) (n : ℕ) : Scalar.subi v (Scalar.muli (Scf.iv 0#32 1#32 n) 256#32) = v - BitVec.ofNat 32 (256 * n) := by
  show v - (0#32 + BitVec.ofNat 32 n * 1#32) * 256#32 = _
  congr 1
  apply BitVec.eq_of_toNat_eq
  simp only [BitVec.toNat_add, BitVec.toNat_mul, BitVec.toNat_ofNat]
  omega

theorem t4end : 8 * Scf.trips k0_t4_loop.lb k0_t4_loop.ub k0_t4_loop.st = 128 := by decide +kernel

abbrev wholeR : Rect S1x1024x896 := Rect.unit (s := S1x1024x896) ![0, 0, 0] S1x1024x896.size inb_S1x1024x896_S1x1024x896_0_0_0
theorem whole_1 (x : wholeR.shape.Idx) : ((wholeR.emb x) 1).val = (x 1).val := by show 0 + 1 * (x 1).val = _; omega
theorem whole_2 (x : wholeR.shape.Idx) : ((wholeR.emb x) 2).val = (x 2).val := by show 0 + 1 * (x 2).val = _; omega
theorem whole_l1 (x : S1x1024x896.Idx) : ((wholeR.toLoadRect.idx x) 1).val = (x 1).val := by show 0 + 1 * (x 1).val = _; omega
theorem whole_l2 (x : S1x1024x896.Idx) : ((wholeR.toLoadRect.idx x) 2).val = (x 2).val := by show 0 + 1 * (x 2).val = _; omega
theorem whole_mem (y : S1x1024x896.Idx) : y ∈ wholeR.set :=
  mem_of_coords _ _ fun a => ⟨(y a).val, (y a).isLt, by match a with
    | 0 => show _ = 0 + 1 * (y 0).val; omega
    | 1 => show _ = 0 + 1 * (y 1).val; omega
    | 2 => show _ = 0 + 1 * (y 2).val; omega⟩

set_option warn.classDefReducibility false in
set_option maxHeartbeats 4000000 in
/-- The loop over the tiles of one offset: after `k` tiles the result block is the sum of their masked products. -/
@[sl_loop] def loopInv_k0_t3 (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x2x128 .bf16) (harg12 : arg12.IsWhole) (arg13 : Memref sig .tc .vmem S1152x2x128 .bf16) (harg13 : arg13.IsWhole) (c : Dev nD) (v4 v7 : BitVec 32) (k0_hw1 : k0_chk1 v4 v7) (v8 : BitVec 32) (X2 : BufTy.Contents (Elt Ideal) arg2.view.ty) (X3 : BufTy.Contents (Elt Ideal) arg3.view.ty) (X9 : BufTy.Contents (Elt Ideal) arg9.view.ty) (X10 : BufTy.Contents (Elt Ideal) arg10.view.ty) (hX2 : ∀ (o : Fin 1 → ℕ) (i : ∀ a, o a + S1.size a ≤ S34560.size a) x, (arg2.view.readAt (Elt Ideal) (Rect.unit (s := S34560) o S1.size i).toLoadRect X2 x).toNat < 1280) (hX3 : ∀ (o : Fin 1 → ℕ) (i : ∀ a, o a + S1.size a ≤ S34560.size a) x, (arg3.view.readAt (Elt Ideal) (Rect.unit (s := S34560) o S1.size i).toLoadRect X3 x).toNat < 1280) (hs : Seg v4 v7) :
    Gen.LoopInvTy_k0_t3 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v4 v7 k0_hw1 v8 where
  inv k _ := iprop(held c arg2 X2 ∗ held c arg3 X3 ∗ held c arg9 X9 ∗ held c arg10 X10 ∗ (∃ f, held c arg8 f ∗ ⌜0 < k → SumOk (fun t i j => tileV (rd2 (arg9.view.read (Elt Ideal) X9)) (rd2 (arg10.view.read (Elt Ideal) X10)) (fun n => (rd1 (arg2.view.read (Elt Ideal) X2) n).toNat) (fun n => (rd1 (arg3.view.read (Elt Ideal) X3) n).toNat) (v4.toNat + 256 * t) (v8 - BitVec.ofNat 32 (256 * t)) i j) k (arg8.view.read (Elt Ideal) f)⌝) ∗ (∃ f, held c arg12 f) ∗ (∃ f, held c arg13 f))
  step k acc := by
    unfold k0_t3_body
    iintro ⟨H2, H3, H9, H10, ⟨%f8, H8, %h8⟩, ⟨%f12, H12⟩, ⟨%f13, H13⟩⟩
    have z12 : StOk 9 (rd2 (arg9.view.read (Elt Ideal) X9)) (fun n => (rd1 (arg2.view.read (Elt Ideal) X2) n).toNat) (v4.toNat + 256 * k.val)  (8 * 0) (arg12.view.read (Elt Ideal) f12) := st0 _ _ _ _ _
    have z13 : StOk 7 (rd2 (arg10.view.read (Elt Ideal) X10)) (fun n => (rd1 (arg3.view.read (Elt Ideal) X3) n).toNat) (v4.toNat + 256 * k.val)  (8 * 0) (arg13.view.read (Elt Ideal) f13) := st0 _ _ _ _ _
    sl_exec
    sl_step
    isplitl [H2]; · iexact H2
    isplitl [H3]; · iexact H3
    isplitl [H9]; · iexact H9
    isplitl [H10]; · iexact H10
    isplitl [H8]
    · iexists _
      isplitl [H8]; · iexact H8
      ipureintro
      intro _ y
      have hL5' : StOk 9 (rd2 (arg9.view.read (Elt Ideal) X9)) (fun n => (rd1 (arg2.view.read (Elt Ideal) X2) n).toNat) (v4.toNat + 256 * k.val)  128 (arg12.view.read (Elt Ideal) fL0) := by have := hL5; rw [t4end] at this; exact this
      have hL7' : StOk 7 (rd2 (arg10.view.read (Elt Ideal) X10)) (fun n => (rd1 (arg3.view.read (Elt Ideal) X3) n).toNat) (v4.toNat + 256 * k.val)  128 (arg13.view.read (Elt Ideal) fL1) := by have := hL7; rw [t4end] at this; exact this
      have F : loopInv_k0_t3.sl.v546 v4 v7 k = 1#1 ↔ k.val = 0 := first_iff k.val (t3_lt hs k)
      have L : loopInv_k0_t3.sl.v549 v4 v7 k = 1#1 ↔ 0 < k.val := later_iff k.val (t3_lt hs k)
      have rD : ∀ x : S1024x896.Idx, loopInv_k0_t3.sl.r_15 arg12 arg13 v4 v7 v8 k fL0 fL1 x = tileV (rd2 (arg9.view.read (Elt Ideal) X9)) (rd2 (arg10.view.read (Elt Ideal) X10)) (fun n => (rd1 (arg2.view.read (Elt Ideal) X2) n).toNat) (fun n => (rd1 (arg3.view.read (Elt Ideal) X3) n).toNat) (v4.toNat + 256 * k.val) (v8 - BitVec.ofNat 32 (256 * k.val)) (x 0).val (x 1).val := by
        intro x
        refine (dot_tile (A := rowG 9 (rd2 (arg9.view.read (Elt Ideal) X9)) (fun n => (rd1 (arg2.view.read (Elt Ideal) X2) n).toNat) (v4.toNat + 256 * k.val)) (B := rowG 7 (rd2 (arg10.view.read (Elt Ideal) X10)) (fun n => (rd1 (arg3.view.read (Elt Ideal) X3) n).toNat) (v4.toNat + 256 * k.val)) ?_ ?_ x).trans ?_
        · intro z
          refine cat16x ?_ ?_ ?_ ?_ ?_ ?_ ?_ ?_ ?_ ?_ ?_ ?_ ?_ ?_ ?_ ?_ z
          all_goals intro w
          all_goals refine cat8 ?_ ?_ ?_ ?_ ?_ ?_ ?_ ?_ w
          all_goals intro u
          all_goals refine pieceV hL5' rfl ?_ ?_ ?_ u
          all_goals decide
        · intro z
          refine cat16y ?_ ?_ ?_ ?_ ?_ ?_ ?_ ?_ ?_ ?_ ?_ ?_ ?_ ?_ ?_ ?_ z
          all_goals intro w
          all_goals refine cat7 ?_ ?_ ?_ ?_ ?_ ?_ ?_ w
          all_goals intro u
          all_goals refine pieceV hL7' rfl ?_ ?_ ?_ u
          all_goals decide
        · rw [← left_eq]
          rfl
      rw [Finset.sum_range_succ]
      by_cases hk : k.val = 0
      · rw [dif_neg (fun h => absurd (L.mp h) (by omega)), dif_pos (F.mpr hk)]
        have z : ∀ g : ℕ → EReal, ∑ t ∈ Finset.range k.val, g t = 0 := fun g => by rw [hk, Finset.sum_range_zero]
        rw [z, zero_add]
        refine writes_agree (Val := Elt Ideal) (e := .f32) _ _ (fun y : S1x1024x896.Idx => tileV (rd2 (arg9.view.read (Elt Ideal) X9)) (rd2 (arg10.view.read (Elt Ideal) X10)) (fun n => (rd1 (arg2.view.read (Elt Ideal) X2) n).toNat) (fun n => (rd1 (arg3.view.read (Elt Ideal) X3) n).toNat) (v4.toNat + 256 * k.val) (v8 - BitVec.ofNat 32 (256 * k.val)) (y 1).val (y 2).val) _ ?_ y (Or.inl ⟨_, List.mem_cons_self, ?_⟩)
        · refine List.forall_mem_cons.mpr ⟨fun x => ?_, fun p hp => absurd hp List.not_mem_nil⟩
          refine (pay7_at _ _ rD x).trans ?_
          rw [whole_1, whole_2]
        · exact whole_mem y
      · rw [dif_pos (L.mpr (by omega)), dif_neg (fun h => absurd (F.mp h) hk)]
        refine writes_agree (Val := Elt Ideal) (e := .f32) _ _ (fun y : S1x1024x896.Idx => (∑ t ∈ Finset.range k.val, tileV (rd2 (arg9.view.read (Elt Ideal) X9)) (rd2 (arg10.view.read (Elt Ideal) X10)) (fun n => (rd1 (arg2.view.read (Elt Ideal) X2) n).toNat) (fun n => (rd1 (arg3.view.read (Elt Ideal) X3) n).toNat) (v4.toNat + 256 * t) (v8 - BitVec.ofNat 32 (256 * t)) (y 1).val (y 2).val) + tileV (rd2 (arg9.view.read (Elt Ideal) X9)) (rd2 (arg10.view.read (Elt Ideal) X10)) (fun n => (rd1 (arg2.view.read (Elt Ideal) X2) n).toNat) (fun n => (rd1 (arg3.view.read (Elt Ideal) X3) n).toNat) (v4.toNat + 256 * k.val) (v8 - BitVec.ofNat 32 (256 * k.val)) (y 1).val (y 2).val) _ ?_ y (Or.inl ⟨_, List.mem_cons_self, ?_⟩)
        · refine List.forall_mem_cons.mpr ⟨fun x => ?_, fun p hp => absurd hp List.not_mem_nil⟩
          refine (pay8_at _ _ (fun i j => ∑ t ∈ Finset.range k.val, tileV (rd2 (arg9.view.read (Elt Ideal) X9)) (rd2 (arg10.view.read (Elt Ideal) X10)) (fun n => (rd1 (arg2.view.read (Elt Ideal) X2) n).toNat) (fun n => (rd1 (arg3.view.read (Elt Ideal) X3) n).toNat) (v4.toNat + 256 * t) (v8 - BitVec.ofNat 32 (256 * t)) i j) rD _ (fun z => ?_) x).trans ?_
          · have e : loopInv_k0_t3.sl.v550 arg8 arg12 arg13 v4 v7 v8 k f8 fL0 fL1 = arg8.view.readAt (Elt Ideal) (Rect.unit (s := S1x1024x896) ![0, 0, 0] S1x1024x896.size inb_S1x1024x896_S1x1024x896_0_0_0).toLoadRect f8 := by
              unfold loopInv_k0_t3.sl.v550
              rw [dif_neg (fun h => absurd (F.mp h) hk)]
            rw [e]
            refine (h8 (by omega) _).trans ?_
            rw [whole_l1, whole_l2]
          · rw [whole_1, whole_2]
        · exact whole_mem y
    isplitl [H12]; · iexists _; iexact H12
    iexists _; iexact H13

end Cert.KernelIdeal.Hand
-- ==== Proof.Body.lean ====
module

public import proofs.«01_k».proof.Proof.S1
public import proofs.«01_k».proof.Proof.S3
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Cert.Common

theorem first_pos : 0 < S1.numel := by decide

/-- The first of one grid point's two offsets, as the kernel reads it. -/
abbrev loAt (i : grid0.Coords) (arg1 : Memref sig .tc .smem S28 .i32) (X1 : BufTy.Contents (Elt Ideal) arg1.view.ty) : BitVec 32 :=
  arg1.view.readAt (Elt Ideal) (Rect.unit (s := S28) (k0_off7 i) S1.size (k0_off7_inb i)).toLoadRect X1 (Shape.Idx.first first_pos)
/-- The second of one grid point's two offsets, as the kernel reads it. -/
abbrev hiAt (i : grid0.Coords) (arg1 : Memref sig .tc .smem S28 .i32) (X1 : BufTy.Contents (Elt Ideal) arg1.view.ty) : BitVec 32 :=
  arg1.view.readAt (Elt Ideal) (Rect.unit (s := S28) (k0_off8 i) S1.size (k0_off8_inb i)).toLoadRect X1 (Shape.Idx.first first_pos)

/-- One tile's product over the codes and scales: 256 pairs from `base`, those past `v` masked. -/
def valV (a : ℕ → ℕ → EReal) (s : ℕ → EReal) (b : ℕ → ℕ → EReal) (u : ℕ → EReal) (p q : ℕ → ℕ) (base : ℕ) (v : BitVec 32) (i j : ℕ) : EReal :=
  ∑ r : Fin 256, (a (p (min (base + r.val) 34559)) i * s (p (min (base + r.val) 34559)))
    * (if (BitVec.ofNat 32 r.val).slt v then b (q (min (base + r.val) 34559)) j * u (q (min (base + r.val) 34559)) else 0)

/-- One offset's result: the sum of its tiles. -/
def outV (a : ℕ → ℕ → EReal) (s : ℕ → EReal) (b : ℕ → ℕ → EReal) (u : ℕ → EReal) (p q : ℕ → ℕ) (lo hi : BitVec 32) (i j : ℕ) : EReal :=
  ∑ t ∈ Finset.range (tiles lo.toNat hi.toNat), valV a s b u p q (lo.toNat + 256 * t) ((hi - lo) - BitVec.ofNat 32 (256 * t)) i j

/-- A tile's product over the expanded tables is the one over the codes and scales. -/
theorem tileV_ok {a : ℕ → ℕ → EReal} {s : ℕ → EReal} {b : ℕ → ℕ → EReal} {u : ℕ → EReal} {f : S11520x128.Idx → EReal} {g : S8968x128.Idx → EReal}
    (hf : txOk a s 1280 f) (hg : tyOk b u 1280 g) (p q : ℕ → ℕ) (hp : ∀ n, p n < 1280) (hq : ∀ n, q n < 1280) (base : ℕ) (v : BitVec 32) (i j : ℕ) (hi : i < 1024) (hj : j < 896) :
    tileV (rd2 f) (rd2 g) p q base v i j = valV a s b u p q base v i j := by
  have ex : ∀ n : ℕ, rd2 f (9 * p n + i / 128) (i % 128) = a (p n) i * s (p n) := fun n => by
    have := hp n
    have e1 : (9 * p n + i / 128) % 11520 = 9 * p n + i / 128 := Nat.mod_eq_of_lt (by omega)
    have e2 : i / 128 < 8 := by omega
    unfold rd2
    refine (hf _ ?_ ?_).trans ?_
    · show (9 * p n + i / 128) % 11520 < _; omega
    · show (9 * p n + i / 128) % 11520 % 9 < _; omega
    · unfold txG
      show a ((9 * p n + i / 128) % 11520 / 9) (128 * ((9 * p n + i / 128) % 11520 % 9) + i % 128 % 128) * s ((9 * p n + i / 128) % 11520 / 9) = _
      rw [show (9 * p n + i / 128) % 11520 / 9 = p n by omega, show 128 * ((9 * p n + i / 128) % 11520 % 9) + i % 128 % 128 = i by omega]
  have ey : ∀ n : ℕ, rd2 g (7 * q n + j / 128) (j % 128) = b (q n) j * u (q n) := fun n => by
    have := hq n
    have e2 : j / 128 < 7 := by omega
    have e1 : (7 * q n + j / 128) % 8968 = 7 * q n + j / 128 := Nat.mod_eq_of_lt (by omega)
    unfold rd2
    refine (hg _ ?_ ?_).trans ?_
    · show (7 * q n + j / 128) % 8968 < _; omega
    · show (7 * q n + j / 128) % 8968 % 7 < _; omega
    · unfold tyG
      show b ((7 * q n + j / 128) % 8968 / 7) (128 * ((7 * q n + j / 128) % 8968 % 7) + j % 128 % 128) * u ((7 * q n + j / 128) % 8968 / 7) = _
      rw [show (7 * q n + j / 128) % 8968 / 7 = q n by omega, show 128 * ((7 * q n + j / 128) % 8968 % 7) + j % 128 % 128 = j by omega]
  unfold tileV valV rowG
  exact Finset.sum_congr rfl fun r _ => by rw [ex, ey]

/-- What the tile loop leaves is the offset's result. -/
theorem out_ok {a : ℕ → ℕ → EReal} {s : ℕ → EReal} {b : ℕ → ℕ → EReal} {u : ℕ → EReal} {f : S11520x128.Idx → EReal} {g : S8968x128.Idx → EReal}
    (hf : txOk a s 1280 f) (hg : tyOk b u 1280 g) {p q : ℕ → ℕ} (hp : ∀ n, p n < 1280) (hq : ∀ n, q n < 1280) {lo hi v : BitVec 32} (hv : v = hi - lo) {n : ℕ} (hn : n = tiles lo.toNat hi.toNat) {o : S1x1024x896.Idx → EReal}
    (h : 0 < n → SumOk (fun t i j => tileV (rd2 f) (rd2 g) p q (lo.toNat + 256 * t) (v - BitVec.ofNat 32 (256 * t)) i j) n o) (y : S1x1024x896.Idx) :
    o y = outV a s b u p q lo hi (y 1).val (y 2).val := by
  subst hn hv
  refine (h (tiles_pos _ _) y).trans (Finset.sum_congr rfl fun t _ => ?_)
  exact tileV_ok hf hg p q hp hq _ _ _ _ (y 1).isLt (y 2).isLt

set_option maxHeartbeats 8000000 in
/-- One grid point runs to its end: the first expands the tables, the others find them; the result block holds the sum of the tiles. -/
theorem body_run (i : grid0.Coords) (arg1 : Memref sig .tc .smem S28 .i32) (harg1 : arg1.IsWhole) (arg2 : Memref sig .tc .smem S34560 .i32) (harg2 : arg2.IsWhole) (arg3 : Memref sig .tc .smem S34560 .i32) (harg3 : arg3.IsWhole) (arg4 : Memref sig .tc .vmem S1280x1024 .fp8e4m3) (harg4 : arg4.IsWhole) (arg5 : Memref sig .tc .vmem S10x128 .f32) (harg5 : arg5.IsWhole) (arg6 : Memref sig .tc .vmem S1280x896 .fp8e5m2) (harg6 : arg6.IsWhole) (arg7 : Memref sig .tc .vmem S10x128 .f32) (harg7 : arg7.IsWhole) (arg8 : Memref sig .tc .vmem S1x1024x896 .f32) (harg8 : arg8.IsWhole) (arg9 : Memref sig .tc .vmem S11520x128 .f32) (harg9 : arg9.IsWhole) (arg10 : Memref sig .tc .vmem S8968x128 .f32) (harg10 : arg10.IsWhole) (arg11 : Memref sig .tc .vmem S1280x128 .f32) (harg11 : arg11.IsWhole) (arg12 : Memref sig .tc .vmem S1152x2x128 .bf16) (harg12 : arg12.IsWhole) (arg13 : Memref sig .tc .vmem S1152x2x128 .bf16) (harg13 : arg13.IsWhole) (c : Dev nD) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X9 : BufTy.Contents (Elt Ideal) arg9.view.ty) (X10 : BufTy.Contents (Elt Ideal) arg10.view.ty)
   (hX2 : ∀ (o : Fin 1 → ℕ) (i : ∀ a, o a + S1.size a ≤ S34560.size a) x, (arg2.view.readAt (Elt Ideal) (Rect.unit (s := S34560) o S1.size i).toLoadRect X2 x).toNat < 1280) (hX3 : ∀ (o : Fin 1 → ℕ) (i : ∀ a, o a + S1.size a ≤ S34560.size a) x, (arg3.view.readAt (Elt Ideal) (Rect.unit (s := S34560) o S1.size i).toLoadRect X3 x).toNat < 1280) (hp : ∀ n, (fun n => (rd1 (arg2.view.read (Elt Ideal) X2) n).toNat) n < 1280) (hq : ∀ n, (fun n => (rd1 (arg3.view.read (Elt Ideal) X3) n).toNat) n < 1280) (hs : Seg (loAt i arg1 X1) (hiAt i arg1 X1))
   (hT : ¬ k0_cond1 i = 1#1 → txOk (rd2 (arg4.view.read (Elt Ideal) X4)) (fun n => rd2 (arg5.view.read (Elt Ideal) X5) (n / 128) (n % 128)) 1280 (arg9.view.read (Elt Ideal) X9) ∧ tyOk (rd2 (arg6.view.read (Elt Ideal) X6)) (fun n => rd2 (arg7.view.read (Elt Ideal) X7) (n / 128) (n % 128)) 1280 (arg10.view.read (Elt Ideal) X10)) :
   held c arg1 X1 ∗ held c arg2 X2 ∗ held c arg3 X3 ∗ held c arg4 X4 ∗ held c arg5 X5 ∗ held c arg6 X6 ∗ held c arg7 X7 ∗ (∃ f, held c arg8 f) ∗ held c arg9 X9 ∗ held c arg10 X10 ∗ (∃ f, held c arg11 f) ∗ (∃ f, held c arg12 f) ∗ (∃ f, held c arg13 f) ⊢ wp frame (wpE (defs₀ (F := Ideal)) Variants.none (c : Thread nD τ) none) Set.univ (cc0_dw (F := Ideal) i arg1 harg1 arg2 harg2 arg3 harg3 arg4 harg4 arg5 harg5 arg6 harg6 arg7 harg7 arg8 harg8 arg9 harg9 arg10 harg10 arg11 harg11 arg12 harg12 arg13 harg13)
     (fun _ => iprop(held c arg1 X1 ∗ held c arg2 X2 ∗ held c arg3 X3 ∗ held c arg4 X4 ∗ held c arg5 X5 ∗ held c arg6 X6 ∗ held c arg7 X7 ∗ (∃ f, held c arg8 f ∗ ⌜∀ y : S1x1024x896.Idx, arg8.view.read (Elt Ideal) f y = outV (rd2 (arg4.view.read (Elt Ideal) X4)) (fun n => rd2 (arg5.view.read (Elt Ideal) X5) (n / 128) (n % 128)) (rd2 (arg6.view.read (Elt Ideal) X6)) (fun n => rd2 (arg7.view.read (Elt Ideal) X7) (n / 128) (n % 128)) (fun n => (rd1 (arg2.view.read (Elt Ideal) X2) n).toNat) (fun n => (rd1 (arg3.view.read (Elt Ideal) X3) n).toNat) (loAt i arg1 X1) (hiAt i arg1 X1) (y 1).val (y 2).val⌝)
       ∗ (∃ f, held c arg9 f ∗ ⌜txOk (rd2 (arg4.view.read (Elt Ideal) X4)) (fun n => rd2 (arg5.view.read (Elt Ideal) X5) (n / 128) (n % 128)) 1280 (arg9.view.read (Elt Ideal) f)⌝) ∗ (∃ f, held c arg10 f ∗ ⌜tyOk (rd2 (arg6.view.read (Elt Ideal) X6)) (fun n => rd2 (arg7.view.read (Elt Ideal) X7) (n / 128) (n % 128)) 1280 (arg10.view.read (Elt Ideal) f)⌝) ∗ (∃ f, held c arg11 f) ∗ (∃ f, held c arg12 f) ∗ (∃ f, held c arg13 f))) := by
  rw [Gen.cc0_dw_eq_skeleton]
  unfold cc0_dw_skel
  iintro ⟨H1, H2, H3, H4, H5, H6, H7, ⟨%f8, H8⟩, H9, H10, ⟨%f11, H11⟩, ⟨%f12, H12⟩, ⟨%f13, H13⟩⟩
  have htr : (k0_t5_loop (loAt i arg1 X1) (hiAt i arg1 X1)).trips = 0 := trips5 hs
  by_cases h1 : k0_cond1 i = 1#1
  · sl_exec (disch := first | exact chk1_of hs | exact hs)
    have htr' : (k0_t5_loop (body_run.sl.r_2 i arg1 X1) (body_run.sl.r_3 i arg1 X1)).trips = 0 := htr
    sl_exec
    sl_step
    have e1 : Scf.trips k0_t1_loop.lb k0_t1_loop.ub k0_t1_loop.st = 40 := by decide +kernel
    have e2 : Scf.trips k0_t2_loop.lb k0_t2_loop.ub k0_t2_loop.st = 40 := by decide +kernel
    rw [e1] at hL3
    rw [e2] at hL7
    have tx := txOk_congr (hL3 (by decide)) (scol_of arg11.view _ (arg5.view.read (Elt Ideal) X5) _ (by
      repeat' (refine List.forall_mem_cons.mpr ⟨fun x => ?_, ?_⟩)
      rotate_right
      · exact fun p hp => absurd hp List.not_mem_nil
      · exact pay_sc (arg5.view.read (Elt Ideal) X5) 9 (by decide) inb_S10x128_S1x128_9_0 1152 rfl inb_S1280x128_S128x128_1152_0 x
      · exact pay_sc (arg5.view.read (Elt Ideal) X5) 8 (by decide) inb_S10x128_S1x128_8_0 1024 rfl inb_S1280x128_S128x128_1024_0 x
      · exact pay_sc (arg5.view.read (Elt Ideal) X5) 7 (by decide) inb_S10x128_S1x128_7_0 896 rfl inb_S1280x128_S128x128_896_0 x
      · exact pay_sc (arg5.view.read (Elt Ideal) X5) 6 (by decide) inb_S10x128_S1x128_6_0 768 rfl inb_S1280x128_S128x128_768_0 x
      · exact pay_sc (arg5.view.read (Elt Ideal) X5) 5 (by decide) inb_S10x128_S1x128_5_0 640 rfl inb_S1280x128_S128x128_640_0 x
      · exact pay_sc (arg5.view.read (Elt Ideal) X5) 4 (by decide) inb_S10x128_S1x128_4_0 512 rfl inb_S1280x128_S128x128_512_0 x
      · exact pay_sc (arg5.view.read (Elt Ideal) X5) 3 (by decide) inb_S10x128_S1x128_3_0 384 rfl inb_S1280x128_S128x128_384_0 x
      · exact pay_sc (arg5.view.read (Elt Ideal) X5) 2 (by decide) inb_S10x128_S1x128_2_0 256 rfl inb_S1280x128_S128x128_256_0 x
      · exact pay_sc (arg5.view.read (Elt Ideal) X5) 1 (by decide) inb_S10x128_S1x128_1_0 128 rfl inb_S1280x128_S128x128_128_0 x
      · exact pay_sc (arg5.view.read (Elt Ideal) X5) 0 (by decide) inb_S10x128_S1x128_0_0 0 rfl inb_S1280x128_S128x128_0_0 x) (by
      intro j hj
      interval_cases j
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), rfl, rfl, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), rfl, rfl, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), rfl, rfl, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_self)))))), rfl, rfl, rfl, rfl, rfl, rfl⟩
      · exact ⟨_, List.mem_cons_of_mem _ (List.mem_cons_of_mem _ (List.mem_cons_of_mem _ (List.mem_cons_of_mem _ (List.mem_cons_of_mem _ (List.mem_cons_self))))), rfl, rfl, rfl, rfl, rfl, rfl⟩
      · exact ⟨_, List.mem_cons_of_mem _ (List.mem_cons_of_mem _ (List.mem_cons_of_mem _ (List.mem_cons_of_mem _ (List.mem_cons_self)))), rfl, rfl, rfl, rfl, rfl, rfl⟩
      · exact ⟨_, List.mem_cons_of_mem _ (List.mem_cons_of_mem _ (List.mem_cons_of_mem _ (List.mem_cons_self))), rfl, rfl, rfl, rfl, rfl, rfl⟩
      · exact ⟨_, List.mem_cons_of_mem _ (List.mem_cons_of_mem _ (List.mem_cons_self)), rfl, rfl, rfl, rfl, rfl, rfl⟩
      · exact ⟨_, List.mem_cons_of_mem _ (List.mem_cons_self), rfl, rfl, rfl, rfl, rfl, rfl⟩
      · exact ⟨_, List.mem_cons_self, rfl, rfl, rfl, rfl, rfl, rfl⟩))
    have ty := tyOk_congr (hL7 (by decide)) (scol_of arg11.view _ (arg7.view.read (Elt Ideal) X7) _ (by
      repeat' (refine List.forall_mem_cons.mpr ⟨fun x => ?_, ?_⟩)
      rotate_right
      · exact fun p hp => absurd hp List.not_mem_nil
      · exact pay_sc (arg7.view.read (Elt Ideal) X7) 9 (by decide) inb_S10x128_S1x128_9_0 1152 rfl inb_S1280x128_S128x128_1152_0 x
      · exact pay_sc (arg7.view.read (Elt Ideal) X7) 8 (by decide) inb_S10x128_S1x128_8_0 1024 rfl inb_S1280x128_S128x128_1024_0 x
      · exact pay_sc (arg7.view.read (Elt Ideal) X7) 7 (by decide) inb_S10x128_S1x128_7_0 896 rfl inb_S1280x128_S128x128_896_0 x
      · exact pay_sc (arg7.view.read (Elt Ideal) X7) 6 (by decide) inb_S10x128_S1x128_6_0 768 rfl inb_S1280x128_S128x128_768_0 x
      · exact pay_sc (arg7.view.read (Elt Ideal) X7) 5 (by decide) inb_S10x128_S1x128_5_0 640 rfl inb_S1280x128_S128x128_640_0 x
      · exact pay_sc (arg7.view.read (Elt Ideal) X7) 4 (by decide) inb_S10x128_S1x128_4_0 512 rfl inb_S1280x128_S128x128_512_0 x
      · exact pay_sc (arg7.view.read (Elt Ideal) X7) 3 (by decide) inb_S10x128_S1x128_3_0 384 rfl inb_S1280x128_S128x128_384_0 x
      · exact pay_sc (arg7.view.read (Elt Ideal) X7) 2 (by decide) inb_S10x128_S1x128_2_0 256 rfl inb_S1280x128_S128x128_256_0 x
      · exact pay_sc (arg7.view.read (Elt Ideal) X7) 1 (by decide) inb_S10x128_S1x128_1_0 128 rfl inb_S1280x128_S128x128_128_0 x
      · exact pay_sc (arg7.view.read (Elt Ideal) X7) 0 (by decide) inb_S10x128_S1x128_0_0 0 rfl inb_S1280x128_S128x128_0_0 x) (by
      intro j hj
      interval_cases j
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), rfl, rfl, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), rfl, rfl, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), rfl, rfl, rfl, rfl, rfl, rfl⟩
      · exact ⟨_, List.mem_cons_of_mem _ (List.mem_cons_of_mem _ (List.mem_cons_of_mem _ (List.mem_cons_of_mem _ (List.mem_cons_of_mem _ (List.mem_cons_of_mem _ (List.mem_cons_self)))))), rfl, rfl, rfl, rfl, rfl, rfl⟩
      · exact ⟨_, List.mem_cons_of_mem _ (List.mem_cons_of_mem _ (List.mem_cons_of_mem _ (List.mem_cons_of_mem _ (List.mem_cons_of_mem _ (List.mem_cons_self))))), rfl, rfl, rfl, rfl, rfl, rfl⟩
      · exact ⟨_, List.mem_cons_of_mem _ (List.mem_cons_of_mem _ (List.mem_cons_of_mem _ (List.mem_cons_of_mem _ (List.mem_cons_self)))), rfl, rfl, rfl, rfl, rfl, rfl⟩
      · exact ⟨_, List.mem_cons_of_mem _ (List.mem_cons_of_mem _ (List.mem_cons_of_mem _ (List.mem_cons_self))), rfl, rfl, rfl, rfl, rfl, rfl⟩
      · exact ⟨_, List.mem_cons_of_mem _ (List.mem_cons_of_mem _ (List.mem_cons_self)), rfl, rfl, rfl, rfl, rfl, rfl⟩
      · exact ⟨_, List.mem_cons_of_mem _ (List.mem_cons_self), rfl, rfl, rfl, rfl, rfl, rfl⟩
      · exact ⟨_, List.mem_cons_self, rfl, rfl, rfl, rfl, rfl, rfl⟩))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _
      isplitl [H8]; · iexact H8
      ipureintro
      exact out_ok (lo := loAt i arg1 X1) (hi := hiAt i arg1 X1) tx ty hp hq rfl (trips3 hs) hL13
    isplitl [H9]
    · iexists _
      isplitl [H9]; · iexact H9
      ipureintro
      exact tx
    isplitl [H10]
    · iexists _
      isplitl [H10]; · iexact H10
      ipureintro
      exact ty
    isplitl [H11]; · iexists _; iexact H11
    isplitl [H12]; · iexists _; iexact H12
    iexists _; iexact H13
  · sl_exec (disch := first | exact chk1_of hs | exact hs)
    have htr' : (k0_t5_loop (body_run.sl.r_4 i arg1 X1) (body_run.sl.r_5 i arg1 X1)).trips = 0 := htr
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _
      isplitl [H8]; · iexact H8
      ipureintro
      exact out_ok (lo := loAt i arg1 X1) (hi := hiAt i arg1 X1) (hT h1).1 (hT h1).2 hp hq rfl (trips3 hs) hL5
    isplitl [H9]
    · iexists _
      isplitl [H9]; · iexact H9
      ipureintro
      exact (hT h1).1
    isplitl [H10]
    · iexists _
      isplitl [H10]; · iexact H10
      ipureintro
      exact (hT h1).2
    isplitl [H11]; · iexists _; iexact H11
    isplitl [H12]; · iexists _; iexact H12
    iexists _; iexact H13

end Cert.KernelIdeal.Hand
-- ==== Proof.Val.lean ====
module

public import proofs.«01_k».proof.Proof.Body
public import proofs.«01_k».proof.Proof.WeakDKernelIdeal
public import Idealize.ShloMosaic.Lib.Pipeline.Frame
public import Idealize.ShloMosaic.Lib.Pipeline.Value
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Pipeline (Dat BodyObligation)
open Cert.Common
open Cert.KernelIdeal.Weak (Good good ms0 ms1 ms2 ms3 ms4 ms5 ms6 ms7 own_any own_at off7_eq off8_eq blk0_eq blk1_lt blk2_lt seg_at defs₀_row)

local notation "𝕄" => MT nD τ sig Unit (Elt Ideal) ℕ (UR sig nD τ) ℕ

variable (m : (ℓ : Loc nD τ sig) → Buf (Elt Ideal) ℓ) (ρ : Dev nD → PrngReg)

/-- The scales as the kernel reads them, ten rows of 128, at token `n`. -/
def sclX (c : Dev nD) (n : ℕ) : EReal := rd2 (m := 10) (n := 128) (V m c main_v0) (n / 128) (n % 128)
def sclY (c : Dev nD) (n : ℕ) : EReal := rd2 (m := 10) (n := 128) (V m c main_v1) (n / 128) (n % 128)
def codX (c : Dev nD) : ℕ → ℕ → EReal := rd2 (m := 1280) (n := 1024) (V m c main_arg0)
def codY (c : Dev nD) : ℕ → ℕ → EReal := rd2 (m := 1280) (n := 896) (V m c main_arg2)
def pinN (c : Dev nD) (n : ℕ) : ℕ := (rd1 (m := 34560) (V m c main_arg4) n : BitVec 32).toNat
def poutN (c : Dev nD) (n : ℕ) : ℕ := (rd1 (m := 34560) (V m c main_arg5) n : BitVec 32).toNat
def offN (c : Dev nD) (n : ℕ) : BitVec 32 := rd1 (m := 28) (V m c main_arg6) n

/-- What the kernel leaves at `(k, i, j)`. -/
def resV (c : Dev nD) (k i j : ℕ) : EReal :=
  outV (codX m c) (sclX m c) (codY m c) (sclY m c) (pinN m c) (poutN m c) (offN m c k) (offN m c (k + 1)) i j

/-- The two tables at the whole scratch buffers, once the first point has filled them. -/
def tabX (c : Dev nD) (d : S11520x128.Idx → EReal) : Prop := txOk (codX m c) (sclX m c) 1280 d
def tabY (c : Dev nD) (d : S8968x128.Idx → EReal) : Prop := tyOk (codY m c) (sclY m c) 1280 d

/-- The kernel's own buffers between points: the tables at the expanded rows after the first. -/
def inv (c : Dev nD) (t : ℕ) : sProp 𝕄 :=
  iprop(((∃ d : S11520x128.Idx → EReal, owns (c : Thread nD τ) (Memref.whole cc0_scratch0) fullShare d ∗ ⌜0 < t → tabX m c d⌝)
    ∗ (∃ d : S8968x128.Idx → EReal, owns (c : Thread nD τ) (Memref.whole cc0_scratch1) fullShare d ∗ ⌜0 < t → tabY m c d⌝)
    ∗ (∃ d, owns (c : Thread nD τ) (Memref.whole cc0_scratch2) fullShare d)
    ∗ (∃ d, owns (c : Thread nD τ) (Memref.whole cc0_scratch3) fullShare d)
    ∗ (∃ d, owns (c : Thread nD τ) (Memref.whole cc0_scratch4) fullShare d))
    ∗ ∃ r, prngReg c r)

/-- The proof data: the inputs left at their blocks, the output at the sums. -/
def dats (_ : Fin 1) (c : Dev nD) : Dat τ (Elt Ideal) Unit ℕ (UR sig nD τ) ℕ cfg0 c where
  A w := V m c (Pipeline.arrRef spec0 w)
  after w t := match w with
    | 0 => iblk m c 0 t | 1 => iblk m c 1 t | 2 => iblk m c 2 t | 3 => iblk m c 3 t
    | 4 => iblk m c 4 t | 5 => iblk m c 5 t | 6 => iblk m c 6 t
    | 7 => fun y : S1x1024x896.Idx => resV m c t.val (y 1).val (y 2).val
  Φ t := inv m c t.val
  q _ := fullShare
  owed _ := 0

theorem A_eq (c : Dev nD) (w : Fin cfg0.W) : (dats m 0 c).A w = V m c (Pipeline.arrRef spec0 w) := by dsimp only [dats]

/-- What the body finds and leaves at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t))

theorem whole_idx : ∀ t : Fin grid0.N, win0_1.index t (0 : Fin 1) = 0 ∧ win0_2.index t (0 : Fin 1) = 0 ∧ win0_3.index t (0 : Fin 2) = 0 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0 ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 := by decide +kernel

/-- Window 1's one block is its array. -/
theorem blk1_whole (c : Dev nD) (t : Fin cfg0.N) : (iblk m c 1 t : S34560.Idx → _) = V m c main_arg4 := by
  funext x
  unfold iblk
  rw [View.read_apply, cast_eq]
  refine congrArg (V m c main_arg4) (?_ : (_ : S34560.Idx) = x)
  funext a
  refine Fin.ext ?_
  match a with
  | 0 =>
    have e0 := (whole_idx t).1
    show win0_1.index t (0 : Fin 1) * 34560 + 1 * (x 0).val = (x 0).val
    omega

/-- Window 2's one block is its array. -/
theorem blk2_whole (c : Dev nD) (t : Fin cfg0.N) : (iblk m c 2 t : S34560.Idx → _) = V m c main_arg5 := by
  funext x
  unfold iblk
  rw [View.read_apply, cast_eq]
  refine congrArg (V m c main_arg5) (?_ : (_ : S34560.Idx) = x)
  funext a
  refine Fin.ext ?_
  match a with
  | 0 =>
    have e0 := (whole_idx t).2.1
    show win0_2.index t (0 : Fin 1) * 34560 + 1 * (x 0).val = (x 0).val
    omega

/-- Window 3's one block is its array. -/
theorem blk3_whole (c : Dev nD) (t : Fin cfg0.N) : (iblk m c 3 t : S1280x1024.Idx → _) = V m c main_arg0 := by
  funext x
  unfold iblk
  rw [View.read_apply, cast_eq]
  refine congrArg (V m c main_arg0) (?_ : (_ : S1280x1024.Idx) = x)
  funext a
  refine Fin.ext ?_
  match a with
  | 0 =>
    have e0 := (whole_idx t).2.2.1
    show win0_3.index t (0 : Fin 2) * 1280 + 1 * (x 0).val = (x 0).val
    omega
  | 1 =>
    have e0 := (whole_idx t).2.2.2.1
    show win0_3.index t (1 : Fin 2) * 1024 + 1 * (x 1).val = (x 1).val
    omega

/-- Window 4's one block is its array. -/
theorem blk4_whole (c : Dev nD) (t : Fin cfg0.N) : (iblk m c 4 t : S10x128.Idx → _) = V m c main_v0 := by
  funext x
  unfold iblk
  rw [View.read_apply, cast_eq]
  refine congrArg (V m c main_v0) (?_ : (_ : S10x128.Idx) = x)
  funext a
  refine Fin.ext ?_
  match a with
  | 0 =>
    have e0 := (whole_idx t).2.2.2.2.1
    show win0_4.index t (0 : Fin 2) * 10 + 1 * (x 0).val = (x 0).val
    omega
  | 1 =>
    have e0 := (whole_idx t).2.2.2.2.2.1
    show win0_4.index t (1 : Fin 2) * 128 + 1 * (x 1).val = (x 1).val
    omega

/-- Window 5's one block is its array. -/
theorem blk5_whole (c : Dev nD) (t : Fin cfg0.N) : (iblk m c 5 t : S1280x896.Idx → _) = V m c main_arg2 := by
  funext x
  unfold iblk
  rw [View.read_apply, cast_eq]
  refine congrArg (V m c main_arg2) (?_ : (_ : S1280x896.Idx) = x)
  funext a
  refine Fin.ext ?_
  match a with
  | 0 =>
    have e0 := (whole_idx t).2.2.2.2.2.2.1
    show win0_5.index t (0 : Fin 2) * 1280 + 1 * (x 0).val = (x 0).val
    omega
  | 1 =>
    have e0 := (whole_idx t).2.2.2.2.2.2.2.1
    show win0_5.index t (1 : Fin 2) * 896 + 1 * (x 1).val = (x 1).val
    omega

/-- Window 6's one block is its array. -/
theorem blk6_whole (c : Dev nD) (t : Fin cfg0.N) : (iblk m c 6 t : S10x128.Idx → _) = V m c main_v1 := by
  funext x
  unfold iblk
  rw [View.read_apply, cast_eq]
  refine congrArg (V m c main_v1) (?_ : (_ : S10x128.Idx) = x)
  funext a
  refine Fin.ext ?_
  match a with
  | 0 =>
    have e0 := (whole_idx t).2.2.2.2.2.2.2.2.1
    show win0_6.index t (0 : Fin 2) * 10 + 1 * (x 0).val = (x 0).val
    omega
  | 1 =>
    have e0 := (whole_idx t).2.2.2.2.2.2.2.2.2.1
    show win0_6.index t (1 : Fin 2) * 128 + 1 * (x 1).val = (x 1).val
    omega

theorem cond1_iff : ∀ t : Fin grid0.N, k0_cond1 (grid0.coords t) = 1#1 ↔ t.val = 0 := by decide +kernel

variable {m}

theorem lo_at (c : Dev nD) (t : Fin cfg0.N) (arg1 : Memref sig .tc .smem S28 .i32) (X1 : BufTy.Contents (Elt Ideal) arg1.view.ty)
    (h : arg1.view.read (Elt Ideal) X1 = iblk m c 0 t) : loAt (grid0.coords t) arg1 X1 = offN m c t.val := by
  have eq0 : ∀ x : S28.Idx, arg1.view.read (Elt Ideal) X1 x = iblk m c 0 t x := fun x => congrFun h x
  have lo : loAt (grid0.coords t) arg1 X1 = iblk m c 0 t ((Rect.unit (s := S28) (k0_off7 (grid0.coords t)) S1.size (k0_off7_inb (grid0.coords t))).toLoadRect.idx (Shape.Idx.first first_pos)) := eq0 _
  obtain ⟨y, hy, ey⟩ := blk0_eq (m := m) c t ((Rect.unit (s := S28) (k0_off7 (grid0.coords t)) S1.size (k0_off7_inb (grid0.coords t))).toLoadRect.idx (Shape.Idx.first first_pos))
  have f0 : ((Shape.Idx.first first_pos : S1.Idx) 0).val = 0 := rfl
  rw [lo, ey]
  refine rd1_of (m := 28) (V m c main_arg6) y ?_
  rw [hy]; show k0_off7 (grid0.coords t) 0 + 1 * ((Shape.Idx.first first_pos : S1.Idx) 0).val = _; rw [off7_eq, f0]; rfl
theorem hi_at (c : Dev nD) (t : Fin cfg0.N) (arg1 : Memref sig .tc .smem S28 .i32) (X1 : BufTy.Contents (Elt Ideal) arg1.view.ty)
    (h : arg1.view.read (Elt Ideal) X1 = iblk m c 0 t) : hiAt (grid0.coords t) arg1 X1 = offN m c (t.val + 1) := by
  have eq0 : ∀ x : S28.Idx, arg1.view.read (Elt Ideal) X1 x = iblk m c 0 t x := fun x => congrFun h x
  have hi : hiAt (grid0.coords t) arg1 X1 = iblk m c 0 t ((Rect.unit (s := S28) (k0_off8 (grid0.coords t)) S1.size (k0_off8_inb (grid0.coords t))).toLoadRect.idx (Shape.Idx.first first_pos)) := eq0 _
  obtain ⟨y, hy, ey⟩ := blk0_eq (m := m) c t ((Rect.unit (s := S28) (k0_off8 (grid0.coords t)) S1.size (k0_off8_inb (grid0.coords t))).toLoadRect.idx (Shape.Idx.first first_pos))
  have f0 : ((Shape.Idx.first first_pos : S1.Idx) 0).val = 0 := rfl
  rw [hi, ey]
  refine rd1_of (m := 28) (V m c main_arg6) y ?_
  rw [hy]; show k0_off8 (grid0.coords t) 0 + 1 * ((Shape.Idx.first first_pos : S1.Idx) 0).val = _; rw [off8_eq, f0]

set_option maxHeartbeats 4000000 in
/-- The body at a point. -/
theorem sound_body (g : Good m) (c : Dev nD) (t : Fin cfg0.N) :
    bodyPre m c t ⊢ wp frame (wpE (defs₀ (F := Ideal)) Variants.none c none) Set.univ (bodyAt0 t) (fun _ => bodyPost m c t) := by
  unfold bodyPre
  rw [show (dats m 0 c).Φ t.castSucc = inv m c t.val from rfl]
  unfold inv
  simp only [before0_0_of m (dats m 0 c) rfl (fun _ => rfl), before0_1_of m (dats m 0 c) rfl (fun _ => rfl), before0_2_of m (dats m 0 c) rfl (fun _ => rfl), before0_3_of m (dats m 0 c) rfl (fun _ => rfl), before0_4_of m (dats m 0 c) rfl (fun _ => rfl), before0_5_of m (dats m 0 c) rfl (fun _ => rfl), before0_6_of m (dats m 0 c) rfl (fun _ => rfl)]
  unfold owns
  iintro ⟨⟨⟨⟨%s9, ⟨%g9, %q9, K9⟩, %h9⟩, ⟨%s10, ⟨%g10, %q10, K10⟩, %h10⟩, ⟨%s11, %g11, -, K11⟩, ⟨%s12, %g12, -, K12⟩, ⟨%s13, %g13, -, K13⟩⟩, ⟨%pr, Hg⟩⟩, HO, ⟨%d1, %X1, %e1, K1⟩, ⟨%d2, %X2, %e2, K2⟩, ⟨%d3, %X3, %e3, K3⟩, ⟨%d4, %X4, %e4, K4⟩, ⟨%d5, %X5, %e5, K5⟩, ⟨%d6, %X6, %e6, K6⟩, ⟨%d7, %X7, %e7, K7⟩, ⟨%d8, %X8, -, K8⟩⟩
  have ea2 : (ms1 t).view.read (Elt Ideal) X2 = V m c main_arg4 := e2.trans (blk1_whole m c t)
  have ea3 : (ms2 t).view.read (Elt Ideal) X3 = V m c main_arg5 := e3.trans (blk2_whole m c t)
  have ea4 : (ms3 t).view.read (Elt Ideal) X4 = V m c main_arg0 := e4.trans (blk3_whole m c t)
  have ea5 : (ms4 t).view.read (Elt Ideal) X5 = V m c main_v0 := e5.trans (blk4_whole m c t)
  have ea6 : (ms5 t).view.read (Elt Ideal) X6 = V m c main_arg2 := e6.trans (blk5_whole m c t)
  have ea7 : (ms6 t).view.read (Elt Ideal) X7 = V m c main_v1 := e7.trans (blk6_whole m c t)
  iapply (wp_wand_r Idealize.ShloMosaic.frame (wpE (defs₀ (F := Ideal)) Variants.none (c : Thread nD τ) none) Set.univ)
  isplitl [K1 K2 K3 K4 K5 K6 K7 K8 K9 K10 K11 K12 K13]
  · have hX2 := fun o i x => (congrArg (fun v : S34560.Idx → BitVec 32 => (v ((Rect.unit (s := S34560) o S1.size i).toLoadRect.idx x)).toNat) e2).trans_lt (blk1_lt g c t _)
    have hX3 := fun o i x => (congrArg (fun v : S34560.Idx → BitVec 32 => (v ((Rect.unit (s := S34560) o S1.size i).toLoadRect.idx x)).toNat) e3).trans_lt (blk2_lt g c t _)
    iapply (body_run (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) c X1 X2 X3 X4 X5 X6 X7 g9 g10 hX2 hX3
      (fun n => by rw [ea2]; exact g.pin c _) (fun n => by rw [ea3]; exact g.pout c _) (seg_at g c t _ X1 e1)
      (fun h => by
        have tp : 0 < t.val := Nat.pos_of_ne_zero fun e => h ((cond1_iff t).mpr e)
        rw [ea4, ea5, ea6, ea7]
        exact ⟨q9 ▸ h9 tp, q10 ▸ h10 tp⟩))
    unfold held
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexists X8; iexact K8
    isplitl [K9]; · iexact K9
    isplitl [K10]; · iexact K10
    isplitl [K11]; · iexists g11; iexact K11
    isplitl [K12]; · iexists g12; iexact K12
    iexists g13; iexact K13
  · rw [ea2, ea3, ea4, ea5, ea6, ea7, lo_at c t _ X1 e1, hi_at c t _ X1 e1]
    iintro %_
    iintro ⟨K1, K2, K3, K4, K5, K6, K7, ⟨%Y8, K8, %p8⟩, ⟨%Y9, K9, %p9⟩, ⟨%Y10, K10, %p10⟩, ⟨%Y11, K11⟩, ⟨%Y12, K12⟩, ⟨%Y13, K13⟩⟩
    unfold bodyPost
    rw [show (dats m 0 c).Φ t.succ = inv m c (t.val + 1) from rfl,
      show (dats m 0 c).owesAt () t.succ = (dats m 0 c).owesAt () t.castSucc from rfl]
    unfold inv
    isplitl [K9 K10 K11 K12 K13 Hg]
    · isplitl [K9 K10 K11 K12 K13]
      · isplitl [K9]
        · iexists _
          isplitl [K9]
          · iapply (own_at c (Memref.whole cc0_scratch0) Y9 _ rfl); iexact K9
          · ipureintro
            exact fun _ => p9
        isplitl [K10]
        · iexists _
          isplitl [K10]
          · iapply (own_at c (Memref.whole cc0_scratch1) Y10 _ rfl); iexact K10
          · ipureintro
            exact fun _ => p10
        isplitl [K11]
        · iapply (own_any c (Memref.whole cc0_scratch2) Y11); iexact K11
        isplitl [K12]
        · iapply (own_any c (Memref.whole cc0_scratch3) Y12); iexact K12
        iapply (own_any c (Memref.whole cc0_scratch4) Y13); iexact K13
      · iexists pr; iexact Hg
    isplitl [HO]; · iexact HO
    isplitl [K1]
    · iapply (own_at c (ms0 t) X1 _ e1); iexact K1
    isplitl [K2]
    · iapply (own_at c (ms1 t) X2 _ e2); iexact K2
    isplitl [K3]
    · iapply (own_at c (ms2 t) X3 _ e3); iexact K3
    isplitl [K4]
    · iapply (own_at c (ms3 t) X4 _ e4); iexact K4
    isplitl [K5]
    · iapply (own_at c (ms4 t) X5 _ e5); iexact K5
    isplitl [K6]
    · iapply (own_at c (ms5 t) X6 _ e6); iexact K6
    isplitl [K7]
    · iapply (own_at c (ms6 t) X7 _ e7); iexact K7
    iapply (own_at c (ms7 t) Y8 _ (funext p8)); iexact K8

/-- Every point's body. -/
theorem body_obligation (g : Good m) (c : Dev nD) : BodyObligation (dats m 0 c) (defs₀ (F := Ideal)) Variants.none () Set.univ := fun t => by
  rw [bigSep_W0, bigSep_W0, defs₀_row]; exact triple_restated (sound_body g c t) rfl .rfl fun _ => .rfl

theorem inv_in (c : Dev nD) : (Pipeline.ΦA spec0 c : sProp 𝕄) ⊢ inv m c 0 := by
  unfold Pipeline.ΦA
  rw [scopedRest0_eq]
  unfold inv
  simp only [← owns_whole]
  iintro ⟨⟨⟨%s9, K9⟩, ⟨%s10, K10⟩, K11, K12, K13⟩, Hg⟩
  isplitl [K9 K10 K11 K12 K13]
  · isplitl [K9]
    · iexists s9
      isplitl [K9]; · iexact K9
      ipureintro
      exact fun h => absurd h (Nat.lt_irrefl 0)
    isplitl [K10]
    · iexists s10
      isplitl [K10]; · iexact K10
      ipureintro
      exact fun h => absurd h (Nat.lt_irrefl 0)
    isplitl [K11]; · iexact K11
    isplitl [K12]; · iexact K12
    iexact K13
  · iexact Hg

theorem inv_out (c : Dev nD) (n : ℕ) : inv m c n ⊢ (Pipeline.ΦA spec0 c : sProp 𝕄) := by
  unfold Pipeline.ΦA
  rw [scopedRest0_eq]
  unfold inv
  simp only [← owns_whole]
  iintro ⟨⟨⟨%s9, K9, -⟩, ⟨%s10, K10, -⟩, K11, K12, K13⟩, Hg⟩
  isplitl [K9 K10 K11 K12 K13]
  · isplitl [K9]; · iexists s9; iexact K9
    isplitl [K10]; · iexists s10; iexact K10
    isplitl [K11]; · iexact K11
    isplitl [K12]; · iexact K12
    iexact K13
  · iexact Hg

set_option backward.isDefEq.respectTransparency.types false in
/-- The launch. -/
theorem run_main (g : Good m) : θ_run defs (onTc (τ := τ) (main (F := Ideal))) (s₀ m ρ)
    (Pipeline.FramePost cfgs (dats m) 0 (V m)) :=
  Pipeline.θ_run_frame_track (Q' := _) cfgs (dats m) (0 : Fin 1) launch0 defs₀ Variants.none m ρ main
    (hbody := fun c => (body_obligation g c).loose) (hshare := fun c => (dats m 0 c).share_full fun _ => rfl) (howed := fun _ _ => rfl)
    (V := V m) (hmain := hmain m Variants.none) (hA := A_eq m) (hin := fun c => inv_in c) (hout := fun c => inv_out c _)

/-- The result array, whole. -/
def outG (m : (ℓ : Loc nD τ sig) → Buf (Elt Ideal) ℓ) (c : Dev nD) (y : S27x1024x896.Idx) : EReal := resV m c (y 0).val (y 1).val (y 2).val

/-- The write-backs leave it. -/
theorem arr_out (c : Dev nD) : (dats m 0 c).arrAt 7 cfg0.N = outG m c := by
  refine (dats m 0 c).arrAt_eq_of_cover 7 (outG m c) (fun t hf => ?_) (fun i => ?_)
  · funext y
    rw [View.read_apply, cast_eq]
    obtain ⟨-, -, -, -, -, -, -, -, -, -, h0, h1, h2⟩ := whole_idx t
    have y0 : ((y : S1x1024x896.Idx) 0).val < 1 := ((y : S1x1024x896.Idx) 0).isLt
    show resV m c t.val _ _ = resV m c (win0_7.index t (0 : Fin 3) * 1 + 1 * ((y : S1x1024x896.Idx) 0).val) (win0_7.index t (1 : Fin 3) * 1024 + 1 * ((y : S1x1024x896.Idx) 1).val) (win0_7.index t (2 : Fin 3) * 896 + 1 * ((y : S1x1024x896.Idx) 2).val)
    rw [h0, h1, h2]
    congr 1
    · omega
    · show ((y : S1x1024x896.Idx) 1).val = _; omega
    · show ((y : S1x1024x896.Idx) 2).val = _; omega
  · have i0 : ((i : S27x1024x896.Idx) 0).val < 27 := ((i : S27x1024x896.Idx) 0).isLt
    have i1 : ((i : S27x1024x896.Idx) 1).val < 1024 := ((i : S27x1024x896.Idx) 1).isLt
    have i2 : ((i : S27x1024x896.Idx) 2).val < 896 := ((i : S27x1024x896.Idx) 2).isLt
    refine ⟨⟨((i : S27x1024x896.Idx) 0).val, by rw [show cfg0.N = 27 from N_0]; exact i0⟩, flush0_7 _, ?_⟩
    obtain ⟨-, -, -, -, -, -, -, -, -, -, h0, h1, h2⟩ := whole_idx ⟨((i : S27x1024x896.Idx) 0).val, by rw [show grid0.N = 27 from N_0]; exact i0⟩
    refine Finset.mem_map.mpr ⟨(fun a => match a with | 0 => (⟨0, Nat.one_pos⟩ : Fin 1) | 1 => (⟨_, i1⟩ : Fin 1024) | 2 => (⟨_, i2⟩ : Fin 896) : S1x1024x896.Idx), Finset.mem_univ _, ?_⟩
    refine (?_ : (_ : S27x1024x896.Idx) = i)
    funext a
    refine Fin.ext ?_
    match a with
    | 0 =>
      show win0_7.index _ (0 : Fin 3) * 1 + 1 * 0 = _
      rw [h0]; simp
    | 1 =>
      show win0_7.index _ (1 : Fin 3) * 1024 + 1 * ((i : S27x1024x896.Idx) 1).val = _
      rw [h1]; simp
    | 2 =>
      show win0_7.index _ (2 : Fin 3) * 896 + 1 * ((i : S27x1024x896.Idx) 2).val = _
      rw [h2]; simp

end Cert.KernelIdeal.Hand
-- ==== Proof.Sum.lean ====
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Cert.Common

/-- A sum over rows of `B` is the sum over all. -/
theorem sum_rows (B T : ℕ) (f : ℕ → EReal) : ∑ t ∈ Finset.range T, ∑ r ∈ Finset.range B, f (B * t + r) = ∑ n ∈ Finset.range (B * T), f n := by
  induction T with
  | zero => simp
  | succ T ih => rw [Finset.sum_range_succ, ih, Nat.mul_succ, Finset.sum_range_add]

/-- Terms past `c` are zero, so any two bounds that reach it give one sum. -/
theorem sum_cut (c M : ℕ) (h : c ≤ M) (f : ℕ → EReal) : ∑ n ∈ Finset.range M, (if n < c then f n else 0) = ∑ n ∈ Finset.range c, f n := by
  rw [← Finset.sum_subset (Finset.range_mono h) (fun n _ hn => if_neg (fun q => hn (Finset.mem_range.mpr q)))]
  exact Finset.sum_congr rfl fun n hn => if_pos (Finset.mem_range.mp hn)

theorem toInt_sub_seg {lo hi : BitVec 32} (hs : Seg lo hi) (d : ℕ) (hd : d ≤ 1280) : (hi - lo - BitVec.ofNat 32 d).toInt = (hi.toNat : Int) - lo.toNat - d := by
  have h1 := hs.le
  have h2 := hs.short
  simp only [BitVec.toInt, BitVec.toNat_sub, BitVec.toNat_ofNat]
  split <;> omega

/-- The mask of a tile's row: the row's pair is one of the segment's. -/
theorem slt_seg {lo hi : BitVec 32} (hs : Seg lo hi) (d r : ℕ) (hd : d ≤ 1280) (hr : r < 1280) :
    (BitVec.ofNat 32 r).slt (hi - lo - BitVec.ofNat 32 d) = decide (d + r < hi.toNat - lo.toNat) := by
  have e : (BitVec.ofNat 32 r).toInt = (r : Int) := by
    rw [toInt_small _ (by rw [BitVec.toNat_ofNat]; omega), BitVec.toNat_ofNat, Nat.mod_eq_of_lt (by omega)]
  rw [BitVec.slt, toInt_sub_seg hs d hd, e, decide_eq_decide]
  omega

/-- The tiles' sum is the sum over the tokens' number of pairs, the scales taken together. -/
theorem sum_eq (a : ℕ → ℕ → EReal) (s : ℕ → EReal) (b : ℕ → ℕ → EReal) (u : ℕ → EReal) (p q : ℕ → ℕ) (lo hi : BitVec 32) (hs : Seg lo hi) (i j : ℕ) :
    outV a s b u p q lo hi i j = ∑ n : Fin 1280, (a (p (min (lo.toNat + n.val) 34559)) i
      * (if (BitVec.ofNat 32 n.val).slt (hi - lo) then s (p (min (lo.toNat + n.val) 34559)) * u (q (min (lo.toNat + n.val) 34559)) else 0)) * b (q (min (lo.toNat + n.val) 34559)) j := by
  have h2 := hs.short
  have ht := tiles_le lo.toNat hi.toNat hs.short
  have hc : hi.toNat - lo.toNat ≤ 256 * tiles lo.toNat hi.toNat := by unfold tiles; omega
  let g : ℕ → EReal := fun n => (a (p (min (lo.toNat + n) 34559)) i * s (p (min (lo.toNat + n) 34559))) * (b (q (min (lo.toNat + n) 34559)) j * u (q (min (lo.toNat + n) 34559)))
  have L : outV a s b u p q lo hi i j = ∑ n ∈ Finset.range (hi.toNat - lo.toNat), g n := by
    rw [← sum_cut _ _ hc, ← sum_rows]
    unfold outV
    refine Finset.sum_congr rfl fun t h => ?_
    have h' := Finset.mem_range.mp h
    unfold valV
    rw [← Fin.sum_univ_eq_sum_range (fun r => if 256 * t + r < hi.toNat - lo.toNat then g (256 * t + r) else 0) 256]
    refine Finset.sum_congr rfl fun r _ => ?_
    have hr := r.isLt
    rw [slt_seg hs (256 * t) r.val (by omega) (by omega)]
    by_cases c : 256 * t + r.val < hi.toNat - lo.toNat
    · rw [if_pos c, if_pos (by simpa using c)]
      show _ = g _
      unfold g
      rw [← Nat.add_assoc]
    · rw [if_neg c, if_neg (by simpa using c), mul_zero]
  rw [L, ← sum_cut _ 1280 (by omega), ← Fin.sum_univ_eq_sum_range (fun n => if n < hi.toNat - lo.toNat then g n else 0) 1280]
  refine Finset.sum_congr rfl fun n _ => ?_
  have hn := n.isLt
  have e := slt_seg hs 0 n.val (by omega) (by omega)
  rw [show hi - lo - BitVec.ofNat 32 0 = hi - lo by simp, Nat.zero_add] at e
  rw [e]
  by_cases c : n.val < hi.toNat - lo.toNat
  · rw [if_pos c, if_pos (by simpa using c)]
    show g n.val = _
    unfold g
    ac_rfl
  · rw [if_neg c, if_neg (by simpa using c), mul_zero, zero_mul]

end Cert.KernelIdeal.Hand
-- ==== Proof.Ref.lean ====
module

public import proofs.«01_k».proof.Proof.Gen.ReferenceIdeal.Frame
public import proofs.«01_k».proof.Proof.Common
public import Idealize.ShloMosaic.Lib.StableHlo.RunRead
public import Idealize.ShloMosaic.Lib.StableHlo.ReadAt
public import Idealize.ShloMosaic.Lib.ValueIdxCore
public import Idealize.ShloMosaic.Lib.StackMember

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

open Cert.Common

/-- The pairs' places in the list: the offset of the segment plus the pair's number, at most the last place. -/
def refPos (a6 : IVec S28 32) : IVec S27x1280 32 :=
  minsi (addi (broadcastInDim S27x1280 ![0, 1] bcast_S27x1_S27x1280_0_1 (broadcastInDim S27x1 ![0] bcast_S27_S27x1_0 (extractStridedSlice S27 ![0] a6 slices_S28_S27_0)))
      (broadcastInDim S27x1280 ![0, 1] bcast_S1x1280_S27x1280_0_1 (broadcastInDim S1x1280 ![1] bcast_S1280_S1x1280_1 (iotaInDim S1280 32 0))))
    (broadcastInDim S27x1280 ![] bcast_S_S27x1280 (constantI S_ 32 34559#32))

/-- Which of them are pairs of the segment. -/
def refValid (a6 : IVec S28 32) : IVec S27x1280 1 :=
  cmpi .slt (broadcastInDim S27x1280 ![0, 1] bcast_S1x1280_S27x1280_0_1 (broadcastInDim S1x1280 ![1] bcast_S1280_S1x1280_1 (iotaInDim S1280 32 0)))
    (broadcastInDim S27x1280 ![0, 1] bcast_S27x1_S27x1280_0_1 (broadcastInDim S27x1 ![0] bcast_S27_S27x1_0 (subi (extractStridedSlice S27 ![1] a6 slices_S28_S27_1) (extractStridedSlice S27 ![0] a6 slices_S28_S27_0))))

/-- An index into `n` entries, one below zero counted from the end. -/
def refWrap (n : BitVec 32) (v : IVec S27x1280 32) : IVec S27x1280x1 32 :=
  broadcastInDim S27x1280x1 ![0, 1] bcast_S27x1280_S27x1280x1_0_1
    (select (cmpi .slt v (broadcastInDim S27x1280 ![] bcast_S_S27x1280 (constantI S_ 32 0#32))) (addi v (broadcastInDim S27x1280 ![] bcast_S_S27x1280 (constantI S_ 32 n))) v)

/-- The pairs' tokens. -/
def refTok (a : IVec S34560 32) (a6 : IVec S28 32) : IVec S27x1280 32 :=
  Host.gather gather_S34560_S27x1280x1_S27x1280_n_0_n_n_0_2_1 a (refWrap 34560#32 (refPos a6))

/-- The products of the pairs' scales, zero where there is no pair. -/
def refScale (a1 a3 : FVec Ideal S1280 .f32) (a4 a5 : IVec S34560 32) (a6 : IVec S28 32) : FVec Ideal S27x1280 .f32 :=
  select (refValid a6) (mulf (Host.gather gather_S1280_S27x1280x1_S27x1280_n_0_n_n_0_2_1 a1 (refWrap 1280#32 (refTok a4 a6))) (Host.gather gather_S1280_S27x1280x1_S27x1280_n_0_n_n_0_2_1 a3 (refWrap 1280#32 (refTok a5 a6))))
    (broadcastInDim S27x1280 ![] bcast_S_S27x1280 (constant S_ .f32 0x00000000#32))

/-- The reference's result from the two widened operands. -/
def refOut (x : FVec Ideal S1280x1024 .bf16) (dy : FVec Ideal S1280x896 .bf16) (a1 a3 : FVec Ideal S1280 .f32) (a4 a5 : IVec S34560 32) (a6 : IVec S28 32) : FVec Ideal S27x1024x896 .f32 :=
  Host.dotGeneral dot_S27x1280x1024_S27x1280x896_S27x1024x896_1_1_2_2_0_0 none
    (mulf (Host.gather gather_S1280x1024_S27x1280x1_S27x1280x1024_2_0_n_n_0_2_11024 x (refWrap 1280#32 (refTok a4 a6)))
      (broadcastInDim S27x1280x1024 ![0, 1, 2] bcast_S27x1280x1_S27x1280x1024_0_1_2 (broadcastInDim S27x1280x1 ![0, 1] bcast_S27x1280_S27x1280x1_0_1 (truncf .bf16 (refScale a1 a3 a4 a5 a6) bitsLt_bf16_f32))))
    (Host.gather gather_S1280x896_S27x1280x1_S27x1280x896_2_0_n_n_0_2_1896 dy (refWrap 1280#32 (refTok a5 a6)))

set_option maxHeartbeats 8000000 in
/-- What the host operations after the widening leave in the result. -/
theorem tail_val (W : Valuation τ sig (Elt Ideal)) :
    StableHlo.after ([hostOps1, hostOps1_1, hostOps1_2] : List (List (HloOp τ sig (Elt Ideal)))).flatten W (Proc.devRef .tc main_v66)
      = refOut (W (Proc.devRef .tc main_v0_0)) (W (Proc.devRef .tc main_v0_1)) (W (Proc.devRef .tc main_arg1)) (W (Proc.devRef .tc main_arg3)) (W (Proc.devRef .tc main_arg4)) (W (Proc.devRef .tc main_arg5)) (W (Proc.devRef .tc main_arg6)) := by
  rw [List.flatten_cons, List.flatten_cons, List.flatten_cons, List.flatten_nil, List.append_nil]
  simp only [hostOps1, hostOps1_1, hostOps1_2, List.cons_append, List.nil_append]
  after_reads_simp
  simp -implicitDefEqProofs only [StableHlo.TRef.toBuf, StableHlo.TRef.ofBuf, cast_cast, cast_eq]
  rfl

end Cert.ReferenceIdeal.Hand
-- ==== Proof.RefAt.lean ====
module

public import proofs.«01_k».proof.Proof.Ref
public import proofs.«01_k».proof.Proof.Words

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

open Cert.Common
open Idealize.ShloMosaic.ValueIdx (takeIdx gather_take_apply contrEquiv1 contrEquiv1_symm_val)

/-- The dimension numbers of a gather of whole rows. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The start index of a row gather's result index. -/
abbrev rowIdx {R C D : Nat} (y : (⟨3, ![R, C, D]⟩ : Shape).Idx) : (⟨3, ![R, C, 1]⟩ : Shape).Idx :=
  fun a => match a with | ⟨0, _⟩ => ⟨(y 0).val, (y 0).isLt⟩ | ⟨1, _⟩ => ⟨(y 1).val, (y 1).isLt⟩ | ⟨2, _⟩ => ⟨0, Nat.one_pos⟩

/-- A gather of whole rows, read at an index. -/
theorem gather_row_apply {α : Type} {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowDims N D R C wf) x idx y = x (ValueIdx.ix2 ⟨min (idx (rowIdx y)).toInt.toNat (N - 1), by omega⟩ ⟨(y 2).val, (y 2).isLt⟩) := by
  unfold Host.gather
  congr 1
  funext a
  refine Fin.ext ?_
  show (rowDims N D R C wf).start y idx a + (rowDims N D R C wf).batchCoord y a + (rowDims N D R C wf).offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx y ⟨List.idxOf (0 : Fin 2) (rowDims N D R C wf).startIndexMap,
        List.idxOf_lt_length_iff.2 (List.mem_singleton.mpr rfl)⟩ = rowIdx y := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show (1 : Fin 2) ∉ (rowDims N D R C wf).startIndexMap from by simp)]
    simp only [Nat.zero_add]
    rfl

/-- The product of two stacks contracted over the middle axis, read at an index. -/
theorem dot_mid_apply {G k m n : ℕ} {φ₁ φ₂ : FTy}
    (w : DotDims.WF ⟨3, ![G, k, m]⟩ ⟨3, ![G, k, n]⟩ ⟨3, ![G, m, n]⟩ [1] [1] [2] [2] [0] [0])
    (prec : Option ContractPrecision) (A : FVec Ideal ⟨3, ![G, k, m]⟩ φ₁) (B : FVec Ideal ⟨3, ![G, k, n]⟩ φ₂)
    (g : Fin G) (a : Fin m) (b : Fin n) :
    Host.dotGeneral (⟨[1], [1], [2], [2], [0], [0], w⟩ : DotDims _ _ _) prec A B (ValueIdx.ix3 g a b)
      = ∑ c : Fin k, A (ValueIdx.ix3 g c a) * B (ValueIdx.ix3 g c b) := by
  show FloatOps.dotGeneral _ prec _ A B (ValueIdx.ix3 g a b) = _
  rw [Ideal.dotGeneral_apply,
    ← Equiv.sum_comp (contrEquiv1 (⟨[1], [1], [2], [2], [0], [0], w⟩ : DotDims _ _ _) k rfl rfl).symm]
  refine Finset.sum_congr rfl fun c _ => ?_
  have c3 := contrEquiv1_symm_val
    (⟨[1], [1], [2], [2], [0], [0], w⟩ : DotDims ⟨3, ![G, k, m]⟩ ⟨3, ![G, k, n]⟩ ⟨3, ![G, m, n]⟩) k rfl rfl c
  have l3 : (⟨[1], [1], [2], [2], [0], [0], w⟩ : DotDims ⟨3, ![G, k, m]⟩ ⟨3, ![G, k, n]⟩ ⟨3, ![G, m, n]⟩).lhsIdx (ValueIdx.ix3 g a b)
      ((contrEquiv1 _ k rfl rfl).symm c) = ValueIdx.ix3 g c a := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [1], [2], [2], [0], [0], w⟩ : DotDims ⟨3, ![G, k, m]⟩ ⟨3, ![G, k, n]⟩ ⟨3, ![G, m, n]⟩).rhsIdx (ValueIdx.ix3 g a b)
      ((contrEquiv1 _ k rfl rfl).symm c) = ValueIdx.ix3 g c b := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

/-- The place of pair `p` of segment `k`. -/
def plc (a6 : IVec S28 32) (k p : ℕ) : ℕ := min ((rd1 (m := 28) a6 k : BitVec 32).toNat + p) 34559
/-- Its token. -/
def tok (a : IVec S34560 32) (a6 : IVec S28 32) (k p : ℕ) : ℕ := (rd1 (m := 34560) a (plc a6 k p) : BitVec 32).toNat

theorem refPos_at (a6 : IVec S28 32) (h6 : ∀ y, (a6 y).toNat ≤ 34560) (y : S27x1280.Idx) : (refPos a6 y).toNat = plc a6 (y 0).val (y 1).val := by
  have e : refPos a6 y = Scalar.minsi (rd1 (m := 28) a6 (y 0).val + BitVec.ofNat 32 (y 1).val) 34559#32 := by
    refine congrArg (fun v : BitVec 32 => Scalar.minsi (v + BitVec.ofNat 32 (y 1).val) 34559#32) (rd1_of (m := 28) a6 _ ?_)
    show 0 + (y 0).val = (y 0).val
    omega
  have y1 : (y 1).val < 1280 := (y 1).isLt
  have q : (rd1 (m := 28) a6 (y 0).val : BitVec 32).toNat ≤ 34560 := h6 _
  rw [e]
  refine min_nat _ _ ?_ (by omega)
  rw [BitVec.toNat_add, BitVec.toNat_ofNat]
  omega

theorem wrap_lt (n v : BitVec 32) (h : v.toNat < 2147483648) : (if BitVec.ofBool (v.slt 0#32) = 1 then v + n else v) = v := by
  have e : v.slt 0#32 = false := by
    rw [BitVec.slt, toInt_small _ h]
    simp
  rw [e]; rfl

theorem refWrap_at (n : BitVec 32) (v : IVec S27x1280 32) (y : S27x1280x1.Idx) (z : S27x1280.Idx) (h0 : (z 0).val = (y 0).val) (h1 : (z 1).val = (y 1).val) (h : (v z).toNat < 2147483648) : refWrap n v y = v z := by
  have q : ∃ z' : S27x1280.Idx, (z' 0).val = (y 0).val ∧ (z' 1).val = (y 1).val ∧ refWrap n v y = (if BitVec.ofBool ((v z').slt 0#32) = 1 then v z' + n else v z') :=
    ⟨_, rfl, rfl, rfl⟩
  obtain ⟨z', q0, q1, e⟩ := q
  have hz : z' = z := by
    funext a
    refine Fin.ext ?_
    match a with
    | ⟨0, _⟩ => exact q0.trans h0.symm
    | ⟨1, _⟩ => exact q1.trans h1.symm
  rw [hz] at e
  rw [e, wrap_lt _ _ h]

theorem refTok_at (a : IVec S34560 32) (a6 : IVec S28 32) (h6 : ∀ y, (a6 y).toNat ≤ 34560) (y : S27x1280.Idx) : (refTok a a6 y : BitVec 32).toNat = tok a a6 (y 0).val (y 1).val := by
  have hp := refPos_at a6 h6 y
  have hl : plc a6 (y 0).val (y 1).val ≤ 34559 := Nat.min_le_right _ _
  have e : refTok a a6 y = a (ValueIdx.ix1 ⟨min (refWrap 34560#32 (refPos a6) (takeIdx y)).toInt.toNat (34560 - 1), by omega⟩) :=
    gather_take_apply (by omega) _ a _ y
  rw [e]
  unfold tok
  refine congrArg BitVec.toNat (rd1_of (m := 34560) a _ ?_)
  show min (refWrap 34560#32 (refPos a6) (takeIdx y)).toInt.toNat (34560 - 1) = _
  rw [refWrap_at _ _ (takeIdx y) y rfl rfl (by omega), toInt_small _ (by omega), hp]
  simp only [Int.toNat_natCast]
  omega

theorem scl_at (s : FVec Ideal S1280 .f32) (a : IVec S34560 32) (h : ∀ y, (a y).toNat < 1280) (a6 : IVec S28 32) (h6 : ∀ y, (a6 y).toNat ≤ 34560) (y : S27x1280.Idx) :
    Host.gather gather_S1280_S27x1280x1_S27x1280_n_0_n_n_0_2_1 s (refWrap 1280#32 (refTok a a6)) y = rd1 (m := 1280) s (tok a a6 (y 0).val (y 1).val) := by
  have hp := refTok_at a a6 h6 y
  have hl : tok a a6 (y 0).val (y 1).val < 1280 := h _
  have e : Host.gather gather_S1280_S27x1280x1_S27x1280_n_0_n_n_0_2_1 s (refWrap 1280#32 (refTok a a6)) y = s (ValueIdx.ix1 ⟨min (refWrap 1280#32 (refTok a a6) (takeIdx y)).toInt.toNat (1280 - 1), by omega⟩) :=
    gather_take_apply (by omega) _ s _ y
  rw [e]
  refine rd1_of (m := 1280) s _ ?_
  show min (refWrap 1280#32 (refTok a a6) (takeIdx y)).toInt.toNat (1280 - 1) = _
  rw [refWrap_at _ _ (takeIdx y) y rfl rfl (by omega), toInt_small _ (by omega), hp]
  simp only [Int.toNat_natCast]
  omega

theorem row_x (x : FVec Ideal S1280x1024 .bf16) (a : IVec S34560 32) (h : ∀ y, (a y).toNat < 1280) (a6 : IVec S28 32) (h6 : ∀ y, (a6 y).toNat ≤ 34560) (y : S27x1280x1024.Idx) :
    Host.gather gather_S1280x1024_S27x1280x1_S27x1280x1024_2_0_n_n_0_2_11024 x (refWrap 1280#32 (refTok a a6)) y = rd2 (m := 1280) (n := 1024) x (tok a a6 (y 0).val (y 1).val) (y 2).val := by
  let z : S27x1280.Idx := ValueIdx.ix2 (y 0) (y 1)
  have hp := refTok_at a a6 h6 z
  have hl : tok a a6 (y 0).val (y 1).val < 1280 := h _
  have hz : tok a a6 (z 0).val (z 1).val = tok a a6 (y 0).val (y 1).val := rfl
  have e : Host.gather gather_S1280x1024_S27x1280x1_S27x1280x1024_2_0_n_n_0_2_11024 x (refWrap 1280#32 (refTok a a6)) y = x (ValueIdx.ix2 ⟨min (refWrap 1280#32 (refTok a a6) (rowIdx y)).toInt.toNat (1280 - 1), by omega⟩ ⟨(y 2).val, (y 2).isLt⟩) :=
    gather_row_apply (by omega) _ x _ y
  rw [e]
  refine rd2_of (m := 1280) (n := 1024) x _ ?_ rfl
  show min (refWrap 1280#32 (refTok a a6) (rowIdx y)).toInt.toNat (1280 - 1) = _
  rw [refWrap_at _ _ (rowIdx y) z rfl rfl (by omega), toInt_small _ (by omega), hp]
  simp only [Int.toNat_natCast]
  omega

theorem row_dy (x : FVec Ideal S1280x896 .bf16) (a : IVec S34560 32) (h : ∀ y, (a y).toNat < 1280) (a6 : IVec S28 32) (h6 : ∀ y, (a6 y).toNat ≤ 34560) (y : S27x1280x896.Idx) :
    Host.gather gather_S1280x896_S27x1280x1_S27x1280x896_2_0_n_n_0_2_1896 x (refWrap 1280#32 (refTok a a6)) y = rd2 (m := 1280) (n := 896) x (tok a a6 (y 0).val (y 1).val) (y 2).val := by
  let z : S27x1280.Idx := ValueIdx.ix2 (y 0) (y 1)
  have hp := refTok_at a a6 h6 z
  have hl : tok a a6 (y 0).val (y 1).val < 1280 := h _
  have hz : tok a a6 (z 0).val (z 1).val = tok a a6 (y 0).val (y 1).val := rfl
  have e : Host.gather gather_S1280x896_S27x1280x1_S27x1280x896_2_0_n_n_0_2_1896 x (refWrap 1280#32 (refTok a a6)) y = x (ValueIdx.ix2 ⟨min (refWrap 1280#32 (refTok a a6) (rowIdx y)).toInt.toNat (1280 - 1), by omega⟩ ⟨(y 2).val, (y 2).isLt⟩) :=
    gather_row_apply (by omega) _ x _ y
  rw [e]
  refine rd2_of (m := 1280) (n := 896) x _ ?_ rfl
  show min (refWrap 1280#32 (refTok a a6) (rowIdx y)).toInt.toNat (1280 - 1) = _
  rw [refWrap_at _ _ (rowIdx y) z rfl rfl (by omega), toInt_small _ (by omega), hp]
  simp only [Int.toNat_natCast]
  omega

/-- The reference's term of pair `p` of segment `k` at `(i, j)`. -/
def refTerm (x : ℕ → ℕ → EReal) (dy : ℕ → ℕ → EReal) (s u : ℕ → EReal) (a4 a5 : IVec S34560 32) (a6 : IVec S28 32) (k i j p : ℕ) : EReal :=
  (x (tok a4 a6 k p) i * (if (BitVec.ofNat 32 p).slt (rd1 (m := 28) a6 (k + 1) - rd1 (m := 28) a6 k) then s (tok a4 a6 k p) * u (tok a5 a6 k p) else 0)) * dy (tok a5 a6 k p) j

theorem scale_at (a1 a3 : FVec Ideal S1280 .f32) (a4 a5 : IVec S34560 32) (a6 : IVec S28 32) (h4 : ∀ y, (a4 y).toNat < 1280) (h5 : ∀ y, (a5 y).toNat < 1280) (h6 : ∀ y, (a6 y).toNat ≤ 34560) (y : S27x1280.Idx) :
    refScale a1 a3 a4 a5 a6 y = (if (BitVec.ofNat 32 (y 1).val).slt (rd1 (m := 28) a6 ((y 0).val + 1) - rd1 (m := 28) a6 (y 0).val) then rd1 (m := 1280) a1 (tok a4 a6 (y 0).val (y 1).val) * rd1 (m := 1280) a3 (tok a5 a6 (y 0).val (y 1).val) else (0 : EReal)) := by
  have ev : refValid a6 y = BitVec.ofBool ((BitVec.ofNat 32 (y 1).val).slt (rd1 (m := 28) a6 ((y 0).val + 1) - rd1 (m := 28) a6 (y 0).val)) := by
    refine congrArg₂ (fun v w : BitVec 32 => BitVec.ofBool ((BitVec.ofNat 32 (y 1).val).slt (v - w))) (rd1_of (m := 28) a6 _ ?_) (rd1_of (m := 28) a6 _ ?_)
    · show 1 + (y 0).val = _
      omega
    · show 0 + (y 0).val = _
      omega
  have e : refScale a1 a3 a4 a5 a6 y = if refValid a6 y = 1 then (Host.gather gather_S1280_S27x1280x1_S27x1280_n_0_n_n_0_2_1 a1 (refWrap 1280#32 (refTok a4 a6)) y * Host.gather gather_S1280_S27x1280x1_S27x1280_n_0_n_n_0_2_1 a3 (refWrap 1280#32 (refTok a5 a6)) y : EReal) else (FloatOps.ofBits (F := Ideal) .f32 0x00000000#32 : EReal) := rfl
  rw [e, ev, scl_at a1 a4 h4 a6 h6 y, scl_at a3 a5 h5 a6 h6 y]
  have z : (FloatOps.ofBits (F := Ideal) .f32 0x00000000#32 : EReal) = 0 := by
    exact Ideal.ofBits_zero_f32
  rw [z]
  cases (BitVec.ofNat 32 (y 1).val).slt (rd1 (m := 28) a6 ((y 0).val + 1) - rd1 (m := 28) a6 (y 0).val) <;> rfl

/-- The reference's result at an index. -/
theorem refOut_at (x : FVec Ideal S1280x1024 .bf16) (dy : FVec Ideal S1280x896 .bf16) (a1 a3 : FVec Ideal S1280 .f32) (a4 a5 : IVec S34560 32) (a6 : IVec S28 32)
    (h4 : ∀ y, (a4 y).toNat < 1280) (h5 : ∀ y, (a5 y).toNat < 1280) (h6 : ∀ y, (a6 y).toNat ≤ 34560) (g : Fin 27) (a : Fin 1024) (b : Fin 896) :
    refOut x dy a1 a3 a4 a5 a6 (ValueIdx.ix3 g a b) = ∑ p : Fin 1280, refTerm (rd2 (m := 1280) (n := 1024) x) (rd2 (m := 1280) (n := 896) dy) (rd1 (m := 1280) a1) (rd1 (m := 1280) a3) a4 a5 a6 g.val a.val b.val p.val := by
  refine (dot_mid_apply _ none _ _ g a b).trans (Finset.sum_congr rfl fun p _ => ?_)
  rw [row_dy dy a5 h5 a6 h6]
  refine congrArg (fun v : EReal => v * _) ?_
  show (Host.gather _ x _ (ValueIdx.ix3 g p a) : EReal) * refScale a1 a3 a4 a5 a6 _ = _
  rw [row_x x a4 h4 a6 h6, scale_at a1 a3 a4 a5 a6 h4 h5 h6]
  rfl

end Cert.ReferenceIdeal.Hand
-- ==== Proof.RefRun.lean ====
module

public import proofs.«01_k».proof.Proof.Ref
public import Idealize.ShloMosaic.Lib.Pipeline.Value
public import Idealize.ShloMosaic.Lib.Pipeline.ValueKit.Basic

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

open Idealize.ShloMosaic.Pipeline (Dat)

variable (m : (ℓ : Loc nD τ sig) → Buf (Elt Ideal) ℓ) (ρ : Dev nD → PrngReg)

theorem whole_idx : ∀ t : Fin grid0.N, win0_0.index t (0 : Fin 2) = 0 ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (0 : Fin 2) = 0 ∧ win0_3.index t (1 : Fin 2) = 0 := by decide +kernel

/-- Window 0's one block is its array. -/
theorem blk0_whole (c : Dev nD) (t : Fin cfg0.N) : (iblk m c 0 t : S1280x1024.Idx → EReal) = m ((c : Thread nD τ).loc main_arg0) := by
  funext x
  unfold iblk
  rw [View.read_apply, cast_eq]
  refine congrArg (m ((c : Thread nD τ).loc main_arg0)) (?_ : (_ : S1280x1024.Idx) = x)
  funext a
  refine Fin.ext ?_
  match a with
  | 0 =>
    have e0 := (whole_idx t).1
    show win0_0.index t (0 : Fin 2) * 1280 + 1 * (x 0).val = (x 0).val
    omega
  | 1 =>
    have e0 := (whole_idx t).2.1
    show win0_0.index t (1 : Fin 2) * 1024 + 1 * (x 1).val = (x 1).val
    omega

/-- The widened array holds the codes' values. -/
theorem arr_2 (c : Dev nD) : (dats m 0 c).arrAt 2 cfg0.N = (m ((c : Thread nD τ).loc main_arg0) : S1280x1024.Idx → EReal) := by
  refine (dats m 0 c).arrAt_eq_of_cover 2 (m ((c : Thread nD τ).loc main_arg0) : S1280x1024.Idx → EReal) (fun t hf => ?_) (fun i => ?_)
  · unfold Dat.flushed
    rw [after0_2]
    have ho : (out0_2 (iblk m c 0 t) (iblk m c 1 t) : S1280x1024.Idx → EReal) = m ((c : Thread nD τ).loc main_arg0) := by
      unfold out0_2
      rw [View.canon_cons_unit_lit _ _ _ (fun a => by match a with | 0 => rfl | 1 => rfl)]
      rw [View.ld_unit_lit _ _ (fun a => by match a with | 0 => rfl | 1 => rfl)]
      exact blk0_whole m c t
    funext y
    rw [View.read_apply, cast_eq]
    refine (congrFun ho _).trans (congrArg (m ((c : Thread nD τ).loc main_arg0)) (?_ : (_ : S1280x1024.Idx) = _))
    funext a
    refine Fin.ext ?_
    match a with
    | 0 =>
      have e0 := (whole_idx t).2.2.2.2.1
      show ((y : S1280x1024.Idx) 0).val = win0_2.index t (0 : Fin 2) * 1280 + 1 * ((y : S1280x1024.Idx) 0).val
      omega
    | 1 =>
      have e0 := (whole_idx t).2.2.2.2.2.1
      show ((y : S1280x1024.Idx) 1).val = win0_2.index t (1 : Fin 2) * 1024 + 1 * ((y : S1280x1024.Idx) 1).val
      omega
  · have i0 : ((i : S1280x1024.Idx) 0).val < 1280 := ((i : S1280x1024.Idx) 0).isLt
    have t : Fin cfg0.N := ⟨0, (by decide +kernel : 0 < grid0.N)⟩
    refine ⟨t, flush0_2 _, ?_⟩
    refine Finset.mem_map.mpr ⟨(i : S1280x1024.Idx), Finset.mem_univ _, ?_⟩
    refine (?_ : (_ : S1280x1024.Idx) = i)
    funext a
    refine Fin.ext ?_
    match a with
    | 0 =>
      have e0 := (whole_idx t).2.2.2.2.1
      show win0_2.index t (0 : Fin 2) * 1280 + 1 * ((i : S1280x1024.Idx) 0).val = ((i : S1280x1024.Idx) 0).val
      omega
    | 1 =>
      have e0 := (whole_idx t).2.2.2.2.2.1
      show win0_2.index t (1 : Fin 2) * 1024 + 1 * ((i : S1280x1024.Idx) 1).val = ((i : S1280x1024.Idx) 1).val
      omega

/-- Window 1's one block is its array. -/
theorem blk1_whole (c : Dev nD) (t : Fin cfg0.N) : (iblk m c 1 t : S1280x896.Idx → EReal) = m ((c : Thread nD τ).loc main_arg2) := by
  funext x
  unfold iblk
  rw [View.read_apply, cast_eq]
  refine congrArg (m ((c : Thread nD τ).loc main_arg2)) (?_ : (_ : S1280x896.Idx) = x)
  funext a
  refine Fin.ext ?_
  match a with
  | 0 =>
    have e0 := (whole_idx t).2.2.1
    show win0_1.index t (0 : Fin 2) * 1280 + 1 * (x 0).val = (x 0).val
    omega
  | 1 =>
    have e0 := (whole_idx t).2.2.2.1
    show win0_1.index t (1 : Fin 2) * 896 + 1 * (x 1).val = (x 1).val
    omega

/-- The widened array holds the codes' values. -/
theorem arr_3 (c : Dev nD) : (dats m 0 c).arrAt 3 cfg0.N = (m ((c : Thread nD τ).loc main_arg2) : S1280x896.Idx → EReal) := by
  refine (dats m 0 c).arrAt_eq_of_cover 3 (m ((c : Thread nD τ).loc main_arg2) : S1280x896.Idx → EReal) (fun t hf => ?_) (fun i => ?_)
  · unfold Dat.flushed
    rw [after0_3]
    have ho : (out0_3 (iblk m c 0 t) (iblk m c 1 t) : S1280x896.Idx → EReal) = m ((c : Thread nD τ).loc main_arg2) := by
      unfold out0_3
      rw [View.canon_cons_unit_lit _ _ _ (fun a => by match a with | 0 => rfl | 1 => rfl)]
      rw [View.ld_unit_lit _ _ (fun a => by match a with | 0 => rfl | 1 => rfl)]
      exact blk1_whole m c t
    funext y
    rw [View.read_apply, cast_eq]
    refine (congrFun ho _).trans (congrArg (m ((c : Thread nD τ).loc main_arg2)) (?_ : (_ : S1280x896.Idx) = _))
    funext a
    refine Fin.ext ?_
    match a with
    | 0 =>
      have e0 := (whole_idx t).2.2.2.2.2.2.1
      show ((y : S1280x896.Idx) 0).val = win0_3.index t (0 : Fin 2) * 1280 + 1 * ((y : S1280x896.Idx) 0).val
      omega
    | 1 =>
      have e0 := (whole_idx t).2.2.2.2.2.2.2
      show ((y : S1280x896.Idx) 1).val = win0_3.index t (1 : Fin 2) * 896 + 1 * ((y : S1280x896.Idx) 1).val
      omega
  · have i0 : ((i : S1280x896.Idx) 0).val < 1280 := ((i : S1280x896.Idx) 0).isLt
    have t : Fin cfg0.N := ⟨0, (by decide +kernel : 0 < grid0.N)⟩
    refine ⟨t, flush0_3 _, ?_⟩
    refine Finset.mem_map.mpr ⟨(i : S1280x896.Idx), Finset.mem_univ _, ?_⟩
    refine (?_ : (_ : S1280x896.Idx) = i)
    funext a
    refine Fin.ext ?_
    match a with
    | 0 =>
      have e0 := (whole_idx t).2.2.2.2.2.2.1
      show win0_3.index t (0 : Fin 2) * 1280 + 1 * ((i : S1280x896.Idx) 0).val = ((i : S1280x896.Idx) 0).val
      omega
    | 1 =>
      have e0 := (whole_idx t).2.2.2.2.2.2.2
      show win0_3.index t (1 : Fin 2) * 896 + 1 * ((i : S1280x896.Idx) 1).val = ((i : S1280x896.Idx) 1).val
      omega

/-- The reference's result from its arguments. -/
def refRes (c : Dev nD) : FVec Ideal S27x1024x896 .f32 :=
  refOut (m ((c : Thread nD τ).loc main_arg0) : S1280x1024.Idx → EReal) (m ((c : Thread nD τ).loc main_arg2) : S1280x896.Idx → EReal) (m ((c : Thread nD τ).loc main_arg1)) (m ((c : Thread nD τ).loc main_arg3))
    (m ((c : Thread nD τ).loc main_arg4)) (m ((c : Thread nD τ).loc main_arg5)) (m ((c : Thread nD τ).loc main_arg6))

theorem tail_res (c : Dev nD) : Pipeline.afterTail₀ cfgs (dats m) 0 (V0 m) [hostOps1, hostOps1_1, hostOps1_2] c main_v66 = refRes m c := by
  unfold Pipeline.afterTail₀
  rw [tail_val]
  have w0 : Pipeline.withArrays spec0 c (V0 m c) (fun w => (dats m 0 c).arrAt w cfg0.N) (Proc.devRef .tc main_v0_0) = (m ((c : Thread nD τ).loc main_arg0) : S1280x1024.Idx → EReal) :=
    (Pipeline.withArrays_arr spec0 launch0.win.arr_inj c (V0 m c) (fun w => (dats m 0 c).arrAt w cfg0.N) 2).trans (arr_2 m c)
  have w1 : Pipeline.withArrays spec0 c (V0 m c) (fun w => (dats m 0 c).arrAt w cfg0.N) (Proc.devRef .tc main_v0_1) = (m ((c : Thread nD τ).loc main_arg2) : S1280x896.Idx → EReal) :=
    (Pipeline.withArrays_arr spec0 launch0.win.arr_inj c (V0 m c) (fun w => (dats m 0 c).arrAt w cfg0.N) 3).trans (arr_3 m c)
  have h1 : Pipeline.withArrays spec0 c (V0 m c) (fun w => (dats m 0 c).arrAt w cfg0.N) (Proc.devRef .tc main_arg1) = m ((c : Thread nD τ).loc main_arg1) :=
    Pipeline.withArrays_of_ne spec0 c (V0 m c) _ main_arg1 (by exact (by decide : ∀ w, Pipeline.arrRef spec0 w ≠ main_arg1))
  have h3 : Pipeline.withArrays spec0 c (V0 m c) (fun w => (dats m 0 c).arrAt w cfg0.N) (Proc.devRef .tc main_arg3) = m ((c : Thread nD τ).loc main_arg3) :=
    Pipeline.withArrays_of_ne spec0 c (V0 m c) _ main_arg3 (by exact (by decide : ∀ w, Pipeline.arrRef spec0 w ≠ main_arg3))
  have h4 : Pipeline.withArrays spec0 c (V0 m c) (fun w => (dats m 0 c).arrAt w cfg0.N) (Proc.devRef .tc main_arg4) = m ((c : Thread nD τ).loc main_arg4) :=
    Pipeline.withArrays_of_ne spec0 c (V0 m c) _ main_arg4 (by exact (by decide : ∀ w, Pipeline.arrRef spec0 w ≠ main_arg4))
  have h5 : Pipeline.withArrays spec0 c (V0 m c) (fun w => (dats m 0 c).arrAt w cfg0.N) (Proc.devRef .tc main_arg5) = m ((c : Thread nD τ).loc main_arg5) :=
    Pipeline.withArrays_of_ne spec0 c (V0 m c) _ main_arg5 (by exact (by decide : ∀ w, Pipeline.arrRef spec0 w ≠ main_arg5))
  have h6 : Pipeline.withArrays spec0 c (V0 m c) (fun w => (dats m 0 c).arrAt w cfg0.N) (Proc.devRef .tc main_arg6) = m ((c : Thread nD τ).loc main_arg6) :=
    Pipeline.withArrays_of_ne spec0 c (V0 m c) _ main_arg6 (by exact (by decide : ∀ w, Pipeline.arrRef spec0 w ≠ main_arg6))
  show refOut (Pipeline.withArrays spec0 c (V0 m c) (fun w => (dats m 0 c).arrAt w cfg0.N) (Proc.devRef .tc main_v0_0)) (Pipeline.withArrays spec0 c (V0 m c) (fun w => (dats m 0 c).arrAt w cfg0.N) (Proc.devRef .tc main_v0_1)) _ _ _ _ _ = _
  rw [w0, w1]
  unfold refRes
  exact congr (congr (congr (congr (congrArg _ h1) h3) h4) h5) h6

/-- The reference's run: the result at its value, the arguments unchanged. -/
theorem run_res : θ_run defs (onTc (τ := τ) (main (F := Ideal))) ⟨m, fun _ => 0, ρ⟩ (fun r => ∀ c : Dev nD,
      r.2.mem ((c.tc : Thread nD τ).loc main_v66) = refRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).2 main_v66 (Pipeline.mem_restRefs_of main_v66 (by decide) (by decide))).trans (tail_res m c), h.2 c⟩)
    (θ_run_and (run_main m ρ) (unchanged m ρ))

end Cert.ReferenceIdeal.Hand
-- ==== Proof.Alg.lean ====
module

public import proofs.«01_k».proof.Defs
public import proofs.«01_k».proof.Proof.Val
public import proofs.«01_k».proof.Proof.Sum
public import proofs.«01_k».proof.Proof.RefAt
public import proofs.«01_k».proof.Proof.RefRun
public import proofs.«01_k».proof.Proof.Gen.Pre_pairs_in_range
public import Idealize.ShloMosaic.Lib.StableHlo.RunRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Cert.Common
open Cert.KernelIdeal.Weak (Good good)

variable (m : (ℓ : Loc nD τ sig) → Buf (Elt Ideal) ℓ) (ρ : Dev nD → PrngReg)

/-- A vector of 1280 laid out as ten rows of 128, read at token `n`. -/
theorem rows_at (v : S1280.Idx → EReal) (h : S1280.ShapeCasts S10x128) (n : ℕ) (hn : n < 1280) :
    rd2 (m := 10) (n := 128) (shapeCast S10x128 v h) (n / 128) (n % 128) = rd1 (m := 1280) v n := by
  unfold rd2 rd1
  refine shapeCast_apply v h _ _ ?_
  rw [Shape.rowMajor_val_one, Shape.rowMajor_val_two]
  show n % 1280 = (n / 128) % 10 * 128 + (n % 128) % 128
  omega

theorem V_main_v0 (c : Dev nD) : ∃ h : S1280.ShapeCasts S10x128, (V m c main_v0 : S10x128.Idx → EReal) = shapeCast S10x128 (m ((c : Thread nD τ).loc main_arg1) : S1280.Idx → EReal) h := by
  refine ⟨by decide, ?_⟩
  unfold V
  after_reads_simp
  rfl

theorem sclX_eq (c : Dev nD) (n : ℕ) (hn : n < 1280) : sclX m c n = rd1 (m := 1280) (m ((c : Thread nD τ).loc main_arg1) : S1280.Idx → EReal) n := by
  obtain ⟨h, e⟩ := V_main_v0 m c
  unfold sclX
  rw [e]
  exact rows_at _ h n hn

theorem V_main_v1 (c : Dev nD) : ∃ h : S1280.ShapeCasts S10x128, (V m c main_v1 : S10x128.Idx → EReal) = shapeCast S10x128 (m ((c : Thread nD τ).loc main_arg3) : S1280.Idx → EReal) h := by
  refine ⟨by decide, ?_⟩
  unfold V
  after_reads_simp
  rfl

theorem sclY_eq (c : Dev nD) (n : ℕ) (hn : n < 1280) : sclY m c n = rd1 (m := 1280) (m ((c : Thread nD τ).loc main_arg3) : S1280.Idx → EReal) n := by
  obtain ⟨h, e⟩ := V_main_v1 m c
  unfold sclY
  rw [e]
  exact rows_at _ h n hn

variable {m}

theorem seg_off (g : Good m) (c : Dev nD) (k : ℕ) (hk : k < 27) : Seg (offN m c k) (offN m c (k + 1)) := by
  unfold offN rd1
  refine ⟨g.off c _, g.gap c k hk _ _ ?_ ?_⟩
  · show k % 28 = k; omega
  · show (k + 1) % 28 = k + 1; omega

/-- The kernel's sum at `(k, i, j)` is the reference's. -/
theorem resV_eq (g : Good m) (c : Dev nD) (k i j : ℕ) (hk : k < 27) :
    resV m c k i j = ∑ p : Fin 1280, Cert.ReferenceIdeal.Hand.refTerm (rd2 (m := 1280) (n := 1024) (m ((c : Thread nD τ).loc main_arg0) : S1280x1024.Idx → EReal)) (rd2 (m := 1280) (n := 896) (m ((c : Thread nD τ).loc main_arg2) : S1280x896.Idx → EReal))
      (rd1 (m := 1280) (m ((c : Thread nD τ).loc main_arg1) : S1280.Idx → EReal)) (rd1 (m := 1280) (m ((c : Thread nD τ).loc main_arg3) : S1280.Idx → EReal))
      (m ((c : Thread nD τ).loc main_arg4)) (m ((c : Thread nD τ).loc main_arg5)) (m ((c : Thread nD τ).loc main_arg6)) k i j p.val := by
  unfold resV
  rw [sum_eq _ _ _ _ _ _ _ _ (seg_off g c k hk)]
  refine Finset.sum_congr rfl fun p _ => ?_
  rw [sclX_eq m c (pinN m c _) (g.pin c _), sclY_eq m c (poutN m c _) (g.pout c _)]
  unfold pinN poutN codX codY offN Cert.ReferenceIdeal.Hand.refTerm Cert.ReferenceIdeal.Hand.tok Cert.ReferenceIdeal.Hand.plc
  rw [V_main_arg0, V_main_arg2, V_main_arg4, V_main_arg5, V_main_arg6]

/-- The kernel's run: the result at its value, the arguments unchanged. -/
theorem run_res (g : Good m) : θ_run defs (onTc (τ := τ) (main (F := Ideal))) ⟨m, fun _ => 0, ρ⟩ (fun r => ∀ c : Dev nD,
      r.2.mem ((c.tc : Thread nD τ).loc main_v2) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (arr_out c), h.2 c⟩)
    (θ_run_and (run_main ρ g) (frame_of m ρ (dats m) (A_eq m) (run_main ρ g)))

/-- Equal arguments give the reference the kernel's result. -/
theorem ref_eq (g : Good m) (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)) :
    Cert.ReferenceIdeal.Hand.refRes m' c = outG m c := by
  obtain ⟨h0, h1, h2, h3, h4, h5, h6⟩ := h
  have e : Cert.ReferenceIdeal.Hand.refRes m' c = Cert.ReferenceIdeal.Hand.refOut (m ((c.tc : Thread nD τ).loc main_arg0) : S1280x1024.Idx → EReal) (m ((c.tc : Thread nD τ).loc main_arg2) : S1280x896.Idx → EReal) (m ((c.tc : Thread nD τ).loc main_arg1)) (m ((c.tc : Thread nD τ).loc main_arg3))
      (m ((c.tc : Thread nD τ).loc main_arg4)) (m ((c.tc : Thread nD τ).loc main_arg5)) (m ((c.tc : Thread nD τ).loc main_arg6)) := by
    unfold Cert.ReferenceIdeal.Hand.refRes
    exact congr (congr (congr (congr (congr (congr (congrArg _ h0) h2) h1) h3) h4) h5) h6
  rw [e]
  funext y
  have ey : y = ValueIdx.ix3 (y 0) (y 1) (y 2) := by
    funext a
    match a with
    | 0 => rfl
    | 1 => rfl
    | 2 => rfl
  have p4 : ∀ y, ((m ((c.tc : Thread nD τ).loc main_arg4) : IVec S34560 32) y).toNat < 1280 := fun y => by have := g.pin c y; rw [V_main_arg4] at this; exact this
  have p5 : ∀ y, ((m ((c.tc : Thread nD τ).loc main_arg5) : IVec S34560 32) y).toNat < 1280 := fun y => by have := g.pout c y; rw [V_main_arg5] at this; exact this
  have p6 : ∀ y, ((m ((c.tc : Thread nD τ).loc main_arg6) : IVec S28 32) y).toNat ≤ 34560 := fun y => by have := g.off c y; rw [V_main_arg6] at this; exact this
  refine (congrArg _ ey).trans ?_
  refine (Cert.ReferenceIdeal.Hand.refOut_at _ _ _ _ _ _ _ p4 p5 p6 (y 0) (y 1) (y 2)).trans ?_
  exact (resV_eq g c (y 0).val (y 1).val (y 2).val (y 0).isLt).symm

/-- The value claim. -/
theorem algebraic : haveI := Cert.KernelIdeal.Gen.facts; haveI := Cert.ReferenceIdeal.Gen.facts; haveI := Cert.Pre_pairs_in_range.Gen.facts; Cert.algebraic_KernelIdeal_ReferenceIdeal := by
  intro m g m' g' hp ha
  have G : Good m := good m hp
  refine ⟨fun c => outG m c, run_res g G, ?_⟩
  exact (θ_run Cert.ReferenceIdeal.defs _ _).mono (fun r h c => ⟨(h c).1.trans (ref_eq G m' c (ha c)), (h c).2⟩) (Cert.ReferenceIdeal.Hand.run_res m' g')

end Cert.KernelIdeal.Hand
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Pre_pairs_in_range
public import proofs.«01_k».proof.Proof.WeakDKernel
public import proofs.«01_k».proof.Proof.WeakDKernelIdeal
public import proofs.«01_k».proof.Proof.Alg
public import Idealize.ShloMosaic.Lib.Bf16PairInverse

@[expose] public section

open Idealize.ShloMosaic

/-- The four uses of the packed-word rules hold of every value that could reach them. -/
theorem Cert.Proof.preserves : Cert.preserves_Kernel_KernelIdeal :=
  open Cert.KernelIdeal IdealRules.bf16_pair in
  ⟨bufferStatement S1152x2x128 S1152x1x128, packStatement S8x128, statement S8x2x128 S8x1x128, statement S16x128 S8x128⟩

theorem Cert.Proof.claim : Cert.Claim :=
  ⟨Cert.Kernel.Gen.facts, Cert.KernelIdeal.Gen.facts, Cert.ReferenceIdeal.Gen.facts, Cert.Pre_pairs_in_range.Gen.facts,
    fun m g h => Cert.Kernel.Weak.frame_pre g h, fun m g h => Cert.KernelIdeal.Weak.frame_pre g h,
    fun m g _ => Cert.ReferenceIdeal.Gen.frame m g, fun m g _ => Cert.ReferenceIdeal.Gen.frame m g, Cert.Proof.preserves, Cert.KernelIdeal.Hand.algebraic⟩
